-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_all_finite [hPre_all_finite : Cert.Pre_all_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_all_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_all_finite [hPre_all_finite : Cert.Pre_all_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_all_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6))) = (fun _ => 1#1)

def Pre_DownGradKernel (m : (ℓ : Loc Cert.DownGradKernel.nD Cert.DownGradKernel.τ Cert.DownGradKernel.sig) → Buf (Elt Bits) ℓ) : Prop :=
  True

def Pre_DownGradKernelIdeal (m : (ℓ : Loc Cert.DownGradKernelIdeal.nD Cert.DownGradKernelIdeal.τ Cert.DownGradKernelIdeal.sig) → Buf (Elt Ideal) ℓ) : Prop :=
  True

def Pre_DownGradReferenceIdeal (m : (ℓ : Loc Cert.DownGradReferenceIdeal.nD Cert.DownGradReferenceIdeal.τ Cert.DownGradReferenceIdeal.sig) → Buf (Elt Ideal) ℓ) : Prop :=
  True

def Pre_UpGradKernel (m : (ℓ : Loc Cert.UpGradKernel.nD Cert.UpGradKernel.τ Cert.UpGradKernel.sig) → Buf (Elt Bits) ℓ) : Prop :=
  True

def Pre_UpGradKernelIdeal (m : (ℓ : Loc Cert.UpGradKernelIdeal.nD Cert.UpGradKernelIdeal.τ Cert.UpGradKernelIdeal.sig) → Buf (Elt Ideal) ℓ) : Prop :=
  True

def Pre_UpGradReferenceIdeal (m : (ℓ : Loc Cert.UpGradReferenceIdeal.nD Cert.UpGradReferenceIdeal.τ Cert.UpGradReferenceIdeal.sig) → Buf (Elt Ideal) ℓ) : Prop :=
  True

def Pre_InGradKernel (m : (ℓ : Loc Cert.InGradKernel.nD Cert.InGradKernel.τ Cert.InGradKernel.sig) → Buf (Elt Bits) ℓ) : Prop :=
  True

def Pre_InGradKernelIdeal (m : (ℓ : Loc Cert.InGradKernelIdeal.nD Cert.InGradKernelIdeal.τ Cert.InGradKernelIdeal.sig) → Buf (Elt Ideal) ℓ) : Prop :=
  True

def Pre_InGradReferenceIdeal (m : (ℓ : Loc Cert.InGradReferenceIdeal.nD Cert.InGradReferenceIdeal.τ Cert.InGradReferenceIdeal.sig) → Buf (Elt Ideal) ℓ) : Prop :=
  True

def Pre_StepInEvenKernel (m : (ℓ : Loc Cert.StepInEvenKernel.nD Cert.StepInEvenKernel.τ Cert.StepInEvenKernel.sig) → Buf (Elt Bits) ℓ) : Prop :=
  True

def Pre_StepInEvenKernelIdeal (m : (ℓ : Loc Cert.StepInEvenKernelIdeal.nD Cert.StepInEvenKernelIdeal.τ Cert.StepInEvenKernelIdeal.sig) → Buf (Elt Ideal) ℓ) : Prop :=
  True

def Pre_StepInEvenReferenceIdeal (m : (ℓ : Loc Cert.StepInEvenReferenceIdeal.nD Cert.StepInEvenReferenceIdeal.τ Cert.StepInEvenReferenceIdeal.sig) → Buf (Elt Ideal) ℓ) : Prop :=
  True

def Pre_StepOutKernel (m : (ℓ : Loc Cert.StepOutKernel.nD Cert.StepOutKernel.τ Cert.StepOutKernel.sig) → Buf (Elt Bits) ℓ) : Prop :=
  True

def Pre_StepOutKernelIdeal (m : (ℓ : Loc Cert.StepOutKernelIdeal.nD Cert.StepOutKernelIdeal.τ Cert.StepOutKernelIdeal.sig) → Buf (Elt Ideal) ℓ) : Prop :=
  True

def Pre_StepOutReferenceIdeal (m : (ℓ : Loc Cert.StepOutReferenceIdeal.nD Cert.StepOutReferenceIdeal.τ Cert.StepOutReferenceIdeal.sig) → Buf (Elt Ideal) ℓ) : Prop :=
  True

def Pre_StepInOddKernel (m : (ℓ : Loc Cert.StepInOddKernel.nD Cert.StepInOddKernel.τ Cert.StepInOddKernel.sig) → Buf (Elt Bits) ℓ) : Prop :=
  True

def Pre_StepInOddKernelIdeal (m : (ℓ : Loc Cert.StepInOddKernelIdeal.nD Cert.StepInOddKernelIdeal.τ Cert.StepInOddKernelIdeal.sig) → Buf (Elt Ideal) ℓ) : Prop :=
  True

def Pre_StepInOddReferenceIdeal (m : (ℓ : Loc Cert.StepInOddReferenceIdeal.nD Cert.StepInOddReferenceIdeal.τ Cert.StepInOddReferenceIdeal.sig) → Buf (Elt Ideal) ℓ) : Prop :=
  True

def Pre_StepUpKernel (m : (ℓ : Loc Cert.StepUpKernel.nD Cert.StepUpKernel.τ Cert.StepUpKernel.sig) → Buf (Elt Bits) ℓ) : Prop :=
  True

def Pre_StepUpKernelIdeal (m : (ℓ : Loc Cert.StepUpKernelIdeal.nD Cert.StepUpKernelIdeal.τ Cert.StepUpKernelIdeal.sig) → Buf (Elt Ideal) ℓ) : Prop :=
  True

def Pre_StepUpReferenceIdeal (m : (ℓ : Loc Cert.StepUpReferenceIdeal.nD Cert.StepUpReferenceIdeal.τ Cert.StepUpReferenceIdeal.sig) → Buf (Elt Ideal) ℓ) : Prop :=
  True

def Pre_StepDownKernel (m : (ℓ : Loc Cert.StepDownKernel.nD Cert.StepDownKernel.τ Cert.StepDownKernel.sig) → Buf (Elt Bits) ℓ) : Prop :=
  True

def Pre_StepDownKernelIdeal (m : (ℓ : Loc Cert.StepDownKernelIdeal.nD Cert.StepDownKernelIdeal.τ Cert.StepDownKernelIdeal.sig) → Buf (Elt Ideal) ℓ) : Prop :=
  True

def Pre_StepDownReferenceIdeal (m : (ℓ : Loc Cert.StepDownReferenceIdeal.nD Cert.StepDownReferenceIdeal.τ Cert.StepDownReferenceIdeal.sig) → Buf (Elt Ideal) ℓ) : Prop :=
  True

def Pre_StepSmallKernel (m : (ℓ : Loc Cert.StepSmallKernel.nD Cert.StepSmallKernel.τ Cert.StepSmallKernel.sig) → Buf (Elt Bits) ℓ) : Prop :=
  True

def Pre_StepSmallKernelIdeal (m : (ℓ : Loc Cert.StepSmallKernelIdeal.nD Cert.StepSmallKernelIdeal.τ Cert.StepSmallKernelIdeal.sig) → Buf (Elt Ideal) ℓ) : Prop :=
  True

def Pre_StepSmallReferenceIdeal (m : (ℓ : Loc Cert.StepSmallReferenceIdeal.nD Cert.StepSmallReferenceIdeal.τ Cert.StepSmallReferenceIdeal.sig) → Buf (Elt Ideal) ℓ) : Prop :=
  True

def Pre_InOddGradKernel (m : (ℓ : Loc Cert.InOddGradKernel.nD Cert.InOddGradKernel.τ Cert.InOddGradKernel.sig) → Buf (Elt Bits) ℓ) : Prop :=
  True

def Pre_InOddGradKernelIdeal (m : (ℓ : Loc Cert.InOddGradKernelIdeal.nD Cert.InOddGradKernelIdeal.τ Cert.InOddGradKernelIdeal.sig) → Buf (Elt Ideal) ℓ) : Prop :=
  True

def Pre_InOddGradReferenceIdeal (m : (ℓ : Loc Cert.InOddGradReferenceIdeal.nD Cert.InOddGradReferenceIdeal.τ Cert.InOddGradReferenceIdeal.sig) → Buf (Elt Ideal) ℓ) : Prop :=
  True

def Pre_OutOddGradKernel (m : (ℓ : Loc Cert.OutOddGradKernel.nD Cert.OutOddGradKernel.τ Cert.OutOddGradKernel.sig) → Buf (Elt Bits) ℓ) : Prop :=
  True

def Pre_OutOddGradKernelIdeal (m : (ℓ : Loc Cert.OutOddGradKernelIdeal.nD Cert.OutOddGradKernelIdeal.τ Cert.OutOddGradKernelIdeal.sig) → Buf (Elt Ideal) ℓ) : Prop :=
  True

def Pre_OutOddGradReferenceIdeal (m : (ℓ : Loc Cert.OutOddGradReferenceIdeal.nD Cert.OutOddGradReferenceIdeal.τ Cert.OutOddGradReferenceIdeal.sig) → Buf (Elt Ideal) ℓ) : Prop :=
  True

def Pre_InEvenKernel (m : (ℓ : Loc Cert.InEvenKernel.nD Cert.InEvenKernel.τ Cert.InEvenKernel.sig) → Buf (Elt Bits) ℓ) : Prop :=
  True

def Pre_InEvenKernelIdeal (m : (ℓ : Loc Cert.InEvenKernelIdeal.nD Cert.InEvenKernelIdeal.τ Cert.InEvenKernelIdeal.sig) → Buf (Elt Ideal) ℓ) : Prop :=
  True

def Pre_InEvenReferenceIdeal (m : (ℓ : Loc Cert.InEvenReferenceIdeal.nD Cert.InEvenReferenceIdeal.τ Cert.InEvenReferenceIdeal.sig) → Buf (Elt Ideal) ℓ) : Prop :=
  True

def Pre_InEvenBackKernel (m : (ℓ : Loc Cert.InEvenBackKernel.nD Cert.InEvenBackKernel.τ Cert.InEvenBackKernel.sig) → Buf (Elt Bits) ℓ) : Prop :=
  True

def Pre_InEvenBackKernelIdeal (m : (ℓ : Loc Cert.InEvenBackKernelIdeal.nD Cert.InEvenBackKernelIdeal.τ Cert.InEvenBackKernelIdeal.sig) → Buf (Elt Ideal) ℓ) : Prop :=
  True

def Pre_InEvenBackReferenceIdeal (m : (ℓ : Loc Cert.InEvenBackReferenceIdeal.nD Cert.InEvenBackReferenceIdeal.τ Cert.InEvenBackReferenceIdeal.sig) → Buf (Elt Ideal) ℓ) : Prop :=
  True

def Pre_InOddKernel (m : (ℓ : Loc Cert.InOddKernel.nD Cert.InOddKernel.τ Cert.InOddKernel.sig) → Buf (Elt Bits) ℓ) : Prop :=
  True

def Pre_InOddKernelIdeal (m : (ℓ : Loc Cert.InOddKernelIdeal.nD Cert.InOddKernelIdeal.τ Cert.InOddKernelIdeal.sig) → Buf (Elt Ideal) ℓ) : Prop :=
  True

def Pre_InOddReferenceIdeal (m : (ℓ : Loc Cert.InOddReferenceIdeal.nD Cert.InOddReferenceIdeal.τ Cert.InOddReferenceIdeal.sig) → Buf (Elt Ideal) ℓ) : Prop :=
  True

def Pre_InOddBackKernel (m : (ℓ : Loc Cert.InOddBackKernel.nD Cert.InOddBackKernel.τ Cert.InOddBackKernel.sig) → Buf (Elt Bits) ℓ) : Prop :=
  True

def Pre_InOddBackKernelIdeal (m : (ℓ : Loc Cert.InOddBackKernelIdeal.nD Cert.InOddBackKernelIdeal.τ Cert.InOddBackKernelIdeal.sig) → Buf (Elt Ideal) ℓ) : Prop :=
  True

def Pre_InOddBackReferenceIdeal (m : (ℓ : Loc Cert.InOddBackReferenceIdeal.nD Cert.InOddBackReferenceIdeal.τ Cert.InOddBackReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnKernelIdeal_pre_all_finite [hFfnKernelIdeal : Cert.FfnKernelIdeal.Facts] [hPre_all_finite : Cert.Pre_all_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_all_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_FfnReferenceIdeal_pre_all_finite [hFfnReferenceIdeal : Cert.FfnReferenceIdeal.Facts] [hPre_all_finite : Cert.Pre_all_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_all_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_DownGradKernel [hDownGradKernel : Cert.DownGradKernel.Facts] : Prop :=
  ∀ (m : (ℓ : Loc Cert.DownGradKernel.nD Cert.DownGradKernel.τ Cert.DownGradKernel.sig) → Buf (Elt Bits) ℓ) (g : Dev Cert.DownGradKernel.nD → PrngReg), Pre_DownGradKernel m →
    θ_run (Cert.DownGradKernel.defs (F := Bits)) (onTc (τ := Cert.DownGradKernel.τ) (Cert.DownGradKernel.main (F := Bits))) ⟨m, fun _ => 0, g⟩ (fun r => (∀ c : Dev Cert.DownGradKernel.nD,
      r.2.mem ((c.tc : Thread Cert.DownGradKernel.nD Cert.DownGradKernel.τ).loc Cert.DownGradKernel.main_arg0) = m ((c.tc : Thread Cert.DownGradKernel.nD Cert.DownGradKernel.τ).loc Cert.DownGradKernel.main_arg0)
      ∧ r.2.mem ((c.tc : Thread Cert.DownGradKernel.nD Cert.DownGradKernel.τ).loc Cert.DownGradKernel.main_arg1) = m ((c.tc : Thread Cert.DownGradKernel.nD Cert.DownGradKernel.τ).loc Cert.DownGradKernel.main_arg1))
      ∧ r.2.sem = fun _ => 0)

def quiescent_DownGradKernelIdeal [hDownGradKernelIdeal : Cert.DownGradKernelIdeal.Facts] : Prop :=
  ∀ (m : (ℓ : Loc Cert.DownGradKernelIdeal.nD Cert.DownGradKernelIdeal.τ Cert.DownGradKernelIdeal.sig) → Buf (Elt Ideal) ℓ) (g : Dev Cert.DownGradKernelIdeal.nD → PrngReg), Pre_DownGradKernelIdeal m →
    θ_run (Cert.DownGradKernelIdeal.defs (F := Ideal)) (onTc (τ := Cert.DownGradKernelIdeal.τ) (Cert.DownGradKernelIdeal.main (F := Ideal))) ⟨m, fun _ => 0, g⟩ (fun r => (∀ c : Dev Cert.DownGradKernelIdeal.nD,
      r.2.mem ((c.tc : Thread Cert.DownGradKernelIdeal.nD Cert.DownGradKernelIdeal.τ).loc Cert.DownGradKernelIdeal.main_arg0) = m ((c.tc : Thread Cert.DownGradKernelIdeal.nD Cert.DownGradKernelIdeal.τ).loc Cert.DownGradKernelIdeal.main_arg0)
      ∧ r.2.mem ((c.tc : Thread Cert.DownGradKernelIdeal.nD Cert.DownGradKernelIdeal.τ).loc Cert.DownGradKernelIdeal.main_arg1) = m ((c.tc : Thread Cert.DownGradKernelIdeal.nD Cert.DownGradKernelIdeal.τ).loc Cert.DownGradKernelIdeal.main_arg1))
      ∧ r.2.sem = fun _ => 0)

def quiescent_DownGradReferenceIdeal [hDownGradReferenceIdeal : Cert.DownGradReferenceIdeal.Facts] : Prop :=
  ∀ (m : (ℓ : Loc Cert.DownGradReferenceIdeal.nD Cert.DownGradReferenceIdeal.τ Cert.DownGradReferenceIdeal.sig) → Buf (Elt Ideal) ℓ) (g : Dev Cert.DownGradReferenceIdeal.nD → PrngReg), Pre_DownGradReferenceIdeal m →
    θ_run (Cert.DownGradReferenceIdeal.defs (F := Ideal)) (onTc (τ := Cert.DownGradReferenceIdeal.τ) (Cert.DownGradReferenceIdeal.main (F := Ideal))) ⟨m, fun _ => 0, g⟩ (fun r => (∀ c : Dev Cert.DownGradReferenceIdeal.nD,
      r.2.mem ((c.tc : Thread Cert.DownGradReferenceIdeal.nD Cert.DownGradReferenceIdeal.τ).loc Cert.DownGradReferenceIdeal.main_arg0) = m ((c.tc : Thread Cert.DownGradReferenceIdeal.nD Cert.DownGradReferenceIdeal.τ).loc Cert.DownGradReferenceIdeal.main_arg0)
      ∧ r.2.mem ((c.tc : Thread Cert.DownGradReferenceIdeal.nD Cert.DownGradReferenceIdeal.τ).loc Cert.DownGradReferenceIdeal.main_arg1) = m ((c.tc : Thread Cert.DownGradReferenceIdeal.nD Cert.DownGradReferenceIdeal.τ).loc Cert.DownGradReferenceIdeal.main_arg1))
      ∧ r.2.sem = fun _ => 0)

def quiescent_UpGradKernel [hUpGradKernel : Cert.UpGradKernel.Facts] : Prop :=
  ∀ (m : (ℓ : Loc Cert.UpGradKernel.nD Cert.UpGradKernel.τ Cert.UpGradKernel.sig) → Buf (Elt Bits) ℓ) (g : Dev Cert.UpGradKernel.nD → PrngReg), Pre_UpGradKernel m →
    θ_run (Cert.UpGradKernel.defs (F := Bits)) (onTc (τ := Cert.UpGradKernel.τ) (Cert.UpGradKernel.main (F := Bits))) ⟨m, fun _ => 0, g⟩ (fun r => (∀ c : Dev Cert.UpGradKernel.nD,
      r.2.mem ((c.tc : Thread Cert.UpGradKernel.nD Cert.UpGradKernel.τ).loc Cert.UpGradKernel.main_arg0) = m ((c.tc : Thread Cert.UpGradKernel.nD Cert.UpGradKernel.τ).loc Cert.UpGradKernel.main_arg0)
      ∧ r.2.mem ((c.tc : Thread Cert.UpGradKernel.nD Cert.UpGradKernel.τ).loc Cert.UpGradKernel.main_arg1) = m ((c.tc : Thread Cert.UpGradKernel.nD Cert.UpGradKernel.τ).loc Cert.UpGradKernel.main_arg1))
      ∧ r.2.sem = fun _ => 0)

def quiescent_UpGradKernelIdeal [hUpGradKernelIdeal : Cert.UpGradKernelIdeal.Facts] : Prop :=
  ∀ (m : (ℓ : Loc Cert.UpGradKernelIdeal.nD Cert.UpGradKernelIdeal.τ Cert.UpGradKernelIdeal.sig) → Buf (Elt Ideal) ℓ) (g : Dev Cert.UpGradKernelIdeal.nD → PrngReg), Pre_UpGradKernelIdeal m →
    θ_run (Cert.UpGradKernelIdeal.defs (F := Ideal)) (onTc (τ := Cert.UpGradKernelIdeal.τ) (Cert.UpGradKernelIdeal.main (F := Ideal))) ⟨m, fun _ => 0, g⟩ (fun r => (∀ c : Dev Cert.UpGradKernelIdeal.nD,
      r.2.mem ((c.tc : Thread Cert.UpGradKernelIdeal.nD Cert.UpGradKernelIdeal.τ).loc Cert.UpGradKernelIdeal.main_arg0) = m ((c.tc : Thread Cert.UpGradKernelIdeal.nD Cert.UpGradKernelIdeal.τ).loc Cert.UpGradKernelIdeal.main_arg0)
      ∧ r.2.mem ((c.tc : Thread Cert.UpGradKernelIdeal.nD Cert.UpGradKernelIdeal.τ).loc Cert.UpGradKernelIdeal.main_arg1) = m ((c.tc : Thread Cert.UpGradKernelIdeal.nD Cert.UpGradKernelIdeal.τ).loc Cert.UpGradKernelIdeal.main_arg1))
      ∧ r.2.sem = fun _ => 0)

def quiescent_UpGradReferenceIdeal [hUpGradReferenceIdeal : Cert.UpGradReferenceIdeal.Facts] : Prop :=
  ∀ (m : (ℓ : Loc Cert.UpGradReferenceIdeal.nD Cert.UpGradReferenceIdeal.τ Cert.UpGradReferenceIdeal.sig) → Buf (Elt Ideal) ℓ) (g : Dev Cert.UpGradReferenceIdeal.nD → PrngReg), Pre_UpGradReferenceIdeal m →
    θ_run (Cert.UpGradReferenceIdeal.defs (F := Ideal)) (onTc (τ := Cert.UpGradReferenceIdeal.τ) (Cert.UpGradReferenceIdeal.main (F := Ideal))) ⟨m, fun _ => 0, g⟩ (fun r => (∀ c : Dev Cert.UpGradReferenceIdeal.nD,
      r.2.mem ((c.tc : Thread Cert.UpGradReferenceIdeal.nD Cert.UpGradReferenceIdeal.τ).loc Cert.UpGradReferenceIdeal.main_arg0) = m ((c.tc : Thread Cert.UpGradReferenceIdeal.nD Cert.UpGradReferenceIdeal.τ).loc Cert.UpGradReferenceIdeal.main_arg0)
      ∧ r.2.mem ((c.tc : Thread Cert.UpGradReferenceIdeal.nD Cert.UpGradReferenceIdeal.τ).loc Cert.UpGradReferenceIdeal.main_arg1) = m ((c.tc : Thread Cert.UpGradReferenceIdeal.nD Cert.UpGradReferenceIdeal.τ).loc Cert.UpGradReferenceIdeal.main_arg1))
      ∧ r.2.sem = fun _ => 0)

def quiescent_InGradKernel [hInGradKernel : Cert.InGradKernel.Facts] : Prop :=
  ∀ (m : (ℓ : Loc Cert.InGradKernel.nD Cert.InGradKernel.τ Cert.InGradKernel.sig) → Buf (Elt Bits) ℓ) (g : Dev Cert.InGradKernel.nD → PrngReg), Pre_InGradKernel m →
    θ_run (Cert.InGradKernel.defs (F := Bits)) (onTc (τ := Cert.InGradKernel.τ) (Cert.InGradKernel.main (F := Bits))) ⟨m, fun _ => 0, g⟩ (fun r => (∀ c : Dev Cert.InGradKernel.nD,
      r.2.mem ((c.tc : Thread Cert.InGradKernel.nD Cert.InGradKernel.τ).loc Cert.InGradKernel.main_arg0) = m ((c.tc : Thread Cert.InGradKernel.nD Cert.InGradKernel.τ).loc Cert.InGradKernel.main_arg0)
      ∧ r.2.mem ((c.tc : Thread Cert.InGradKernel.nD Cert.InGradKernel.τ).loc Cert.InGradKernel.main_arg1) = m ((c.tc : Thread Cert.InGradKernel.nD Cert.InGradKernel.τ).loc Cert.InGradKernel.main_arg1))
      ∧ r.2.sem = fun _ => 0)

def quiescent_InGradKernelIdeal [hInGradKernelIdeal : Cert.InGradKernelIdeal.Facts] : Prop :=
  ∀ (m : (ℓ : Loc Cert.InGradKernelIdeal.nD Cert.InGradKernelIdeal.τ Cert.InGradKernelIdeal.sig) → Buf (Elt Ideal) ℓ) (g : Dev Cert.InGradKernelIdeal.nD → PrngReg), Pre_InGradKernelIdeal m →
    θ_run (Cert.InGradKernelIdeal.defs (F := Ideal)) (onTc (τ := Cert.InGradKernelIdeal.τ) (Cert.InGradKernelIdeal.main (F := Ideal))) ⟨m, fun _ => 0, g⟩ (fun r => (∀ c : Dev Cert.InGradKernelIdeal.nD,
      r.2.mem ((c.tc : Thread Cert.InGradKernelIdeal.nD Cert.InGradKernelIdeal.τ).loc Cert.InGradKernelIdeal.main_arg0) = m ((c.tc : Thread Cert.InGradKernelIdeal.nD Cert.InGradKernelIdeal.τ).loc Cert.InGradKernelIdeal.main_arg0)
      ∧ r.2.mem ((c.tc : Thread Cert.InGradKernelIdeal.nD Cert.InGradKernelIdeal.τ).loc Cert.InGradKernelIdeal.main_arg1) = m ((c.tc : Thread Cert.InGradKernelIdeal.nD Cert.InGradKernelIdeal.τ).loc Cert.InGradKernelIdeal.main_arg1))
      ∧ r.2.sem = fun _ => 0)

def quiescent_InGradReferenceIdeal [hInGradReferenceIdeal : Cert.InGradReferenceIdeal.Facts] : Prop :=
  ∀ (m : (ℓ : Loc Cert.InGradReferenceIdeal.nD Cert.InGradReferenceIdeal.τ Cert.InGradReferenceIdeal.sig) → Buf (Elt Ideal) ℓ) (g : Dev Cert.InGradReferenceIdeal.nD → PrngReg), Pre_InGradReferenceIdeal m →
    θ_run (Cert.InGradReferenceIdeal.defs (F := Ideal)) (onTc (τ := Cert.InGradReferenceIdeal.τ) (Cert.InGradReferenceIdeal.main (F := Ideal))) ⟨m, fun _ => 0, g⟩ (fun r => (∀ c : Dev Cert.InGradReferenceIdeal.nD,
      r.2.mem ((c.tc : Thread Cert.InGradReferenceIdeal.nD Cert.InGradReferenceIdeal.τ).loc Cert.InGradReferenceIdeal.main_arg0) = m ((c.tc : Thread Cert.InGradReferenceIdeal.nD Cert.InGradReferenceIdeal.τ).loc Cert.InGradReferenceIdeal.main_arg0)
      ∧ r.2.mem ((c.tc : Thread Cert.InGradReferenceIdeal.nD Cert.InGradReferenceIdeal.τ).loc Cert.InGradReferenceIdeal.main_arg1) = m ((c.tc : Thread Cert.InGradReferenceIdeal.nD Cert.InGradReferenceIdeal.τ).loc Cert.InGradReferenceIdeal.main_arg1))
      ∧ r.2.sem = fun _ => 0)

def quiescent_StepInEvenKernel [hStepInEvenKernel : Cert.StepInEvenKernel.Facts] : Prop :=
  ∀ (m : (ℓ : Loc Cert.StepInEvenKernel.nD Cert.StepInEvenKernel.τ Cert.StepInEvenKernel.sig) → Buf (Elt Bits) ℓ) (g : Dev Cert.StepInEvenKernel.nD → PrngReg), Pre_StepInEvenKernel m →
    θ_run (Cert.StepInEvenKernel.defs (F := Bits)) (onTc (τ := Cert.StepInEvenKernel.τ) (Cert.StepInEvenKernel.main (F := Bits))) ⟨m, fun _ => 0, g⟩ (fun r => (∀ c : Dev Cert.StepInEvenKernel.nD,
      r.2.mem ((c.tc : Thread Cert.StepInEvenKernel.nD Cert.StepInEvenKernel.τ).loc Cert.StepInEvenKernel.main_arg0) = m ((c.tc : Thread Cert.StepInEvenKernel.nD Cert.StepInEvenKernel.τ).loc Cert.StepInEvenKernel.main_arg0)
      ∧ r.2.mem ((c.tc : Thread Cert.StepInEvenKernel.nD Cert.StepInEvenKernel.τ).loc Cert.StepInEvenKernel.main_arg1) = m ((c.tc : Thread Cert.StepInEvenKernel.nD Cert.StepInEvenKernel.τ).loc Cert.StepInEvenKernel.main_arg1)
      ∧ r.2.mem ((c.tc : Thread Cert.StepInEvenKernel.nD Cert.StepInEvenKernel.τ).loc Cert.StepInEvenKernel.main_arg2) = m ((c.tc : Thread Cert.StepInEvenKernel.nD Cert.StepInEvenKernel.τ).loc Cert.StepInEvenKernel.main_arg2)
      ∧ r.2.mem ((c.tc : Thread Cert.StepInEvenKernel.nD Cert.StepInEvenKernel.τ).loc Cert.StepInEvenKernel.main_arg3) = m ((c.tc : Thread Cert.StepInEvenKernel.nD Cert.StepInEvenKernel.τ).loc Cert.StepInEvenKernel.main_arg3))
      ∧ r.2.sem = fun _ => 0)

def quiescent_StepInEvenKernelIdeal [hStepInEvenKernelIdeal : Cert.StepInEvenKernelIdeal.Facts] : Prop :=
  ∀ (m : (ℓ : Loc Cert.StepInEvenKernelIdeal.nD Cert.StepInEvenKernelIdeal.τ Cert.StepInEvenKernelIdeal.sig) → Buf (Elt Ideal) ℓ) (g : Dev Cert.StepInEvenKernelIdeal.nD → PrngReg), Pre_StepInEvenKernelIdeal m →
    θ_run (Cert.StepInEvenKernelIdeal.defs (F := Ideal)) (onTc (τ := Cert.StepInEvenKernelIdeal.τ) (Cert.StepInEvenKernelIdeal.main (F := Ideal))) ⟨m, fun _ => 0, g⟩ (fun r => (∀ c : Dev Cert.StepInEvenKernelIdeal.nD,
      r.2.mem ((c.tc : Thread Cert.StepInEvenKernelIdeal.nD Cert.StepInEvenKernelIdeal.τ).loc Cert.StepInEvenKernelIdeal.main_arg0) = m ((c.tc : Thread Cert.StepInEvenKernelIdeal.nD Cert.StepInEvenKernelIdeal.τ).loc Cert.StepInEvenKernelIdeal.main_arg0)
      ∧ r.2.mem ((c.tc : Thread Cert.StepInEvenKernelIdeal.nD Cert.StepInEvenKernelIdeal.τ).loc Cert.StepInEvenKernelIdeal.main_arg1) = m ((c.tc : Thread Cert.StepInEvenKernelIdeal.nD Cert.StepInEvenKernelIdeal.τ).loc Cert.StepInEvenKernelIdeal.main_arg1)
      ∧ r.2.mem ((c.tc : Thread Cert.StepInEvenKernelIdeal.nD Cert.StepInEvenKernelIdeal.τ).loc Cert.StepInEvenKernelIdeal.main_arg2) = m ((c.tc : Thread Cert.StepInEvenKernelIdeal.nD Cert.StepInEvenKernelIdeal.τ).loc Cert.StepInEvenKernelIdeal.main_arg2)
      ∧ r.2.mem ((c.tc : Thread Cert.StepInEvenKernelIdeal.nD Cert.StepInEvenKernelIdeal.τ).loc Cert.StepInEvenKernelIdeal.main_arg3) = m ((c.tc : Thread Cert.StepInEvenKernelIdeal.nD Cert.StepInEvenKernelIdeal.τ).loc Cert.StepInEvenKernelIdeal.main_arg3))
      ∧ r.2.sem = fun _ => 0)

def quiescent_StepInEvenReferenceIdeal [hStepInEvenReferenceIdeal : Cert.StepInEvenReferenceIdeal.Facts] : Prop :=
  ∀ (m : (ℓ : Loc Cert.StepInEvenReferenceIdeal.nD Cert.StepInEvenReferenceIdeal.τ Cert.StepInEvenReferenceIdeal.sig) → Buf (Elt Ideal) ℓ) (g : Dev Cert.StepInEvenReferenceIdeal.nD → PrngReg), Pre_StepInEvenReferenceIdeal m →
    θ_run (Cert.StepInEvenReferenceIdeal.defs (F := Ideal)) (onTc (τ := Cert.StepInEvenReferenceIdeal.τ) (Cert.StepInEvenReferenceIdeal.main (F := Ideal))) ⟨m, fun _ => 0, g⟩ (fun r => (∀ c : Dev Cert.StepInEvenReferenceIdeal.nD,
      r.2.mem ((c.tc : Thread Cert.StepInEvenReferenceIdeal.nD Cert.StepInEvenReferenceIdeal.τ).loc Cert.StepInEvenReferenceIdeal.main_arg0) = m ((c.tc : Thread Cert.StepInEvenReferenceIdeal.nD Cert.StepInEvenReferenceIdeal.τ).loc Cert.StepInEvenReferenceIdeal.main_arg0)
      ∧ r.2.mem ((c.tc : Thread Cert.StepInEvenReferenceIdeal.nD Cert.StepInEvenReferenceIdeal.τ).loc Cert.StepInEvenReferenceIdeal.main_arg1) = m ((c.tc : Thread Cert.StepInEvenReferenceIdeal.nD Cert.StepInEvenReferenceIdeal.τ).loc Cert.StepInEvenReferenceIdeal.main_arg1)
      ∧ r.2.mem ((c.tc : Thread Cert.StepInEvenReferenceIdeal.nD Cert.StepInEvenReferenceIdeal.τ).loc Cert.StepInEvenReferenceIdeal.main_arg2) = m ((c.tc : Thread Cert.StepInEvenReferenceIdeal.nD Cert.StepInEvenReferenceIdeal.τ).loc Cert.StepInEvenReferenceIdeal.main_arg2)
      ∧ r.2.mem ((c.tc : Thread Cert.StepInEvenReferenceIdeal.nD Cert.StepInEvenReferenceIdeal.τ).loc Cert.StepInEvenReferenceIdeal.main_arg3) = m ((c.tc : Thread Cert.StepInEvenReferenceIdeal.nD Cert.StepInEvenReferenceIdeal.τ).loc Cert.StepInEvenReferenceIdeal.main_arg3))
      ∧ r.2.sem = fun _ => 0)

def quiescent_StepOutKernel [hStepOutKernel : Cert.StepOutKernel.Facts] : Prop :=
  ∀ (m : (ℓ : Loc Cert.StepOutKernel.nD Cert.StepOutKernel.τ Cert.StepOutKernel.sig) → Buf (Elt Bits) ℓ) (g : Dev Cert.StepOutKernel.nD → PrngReg), Pre_StepOutKernel m →
    θ_run (Cert.StepOutKernel.defs (F := Bits)) (onTc (τ := Cert.StepOutKernel.τ) (Cert.StepOutKernel.main (F := Bits))) ⟨m, fun _ => 0, g⟩ (fun r => (∀ c : Dev Cert.StepOutKernel.nD,
      r.2.mem ((c.tc : Thread Cert.StepOutKernel.nD Cert.StepOutKernel.τ).loc Cert.StepOutKernel.main_arg0) = m ((c.tc : Thread Cert.StepOutKernel.nD Cert.StepOutKernel.τ).loc Cert.StepOutKernel.main_arg0)
      ∧ r.2.mem ((c.tc : Thread Cert.StepOutKernel.nD Cert.StepOutKernel.τ).loc Cert.StepOutKernel.main_arg1) = m ((c.tc : Thread Cert.StepOutKernel.nD Cert.StepOutKernel.τ).loc Cert.StepOutKernel.main_arg1)
      ∧ r.2.mem ((c.tc : Thread Cert.StepOutKernel.nD Cert.StepOutKernel.τ).loc Cert.StepOutKernel.main_arg2) = m ((c.tc : Thread Cert.StepOutKernel.nD Cert.StepOutKernel.τ).loc Cert.StepOutKernel.main_arg2)
      ∧ r.2.mem ((c.tc : Thread Cert.StepOutKernel.nD Cert.StepOutKernel.τ).loc Cert.StepOutKernel.main_arg3) = m ((c.tc : Thread Cert.StepOutKernel.nD Cert.StepOutKernel.τ).loc Cert.StepOutKernel.main_arg3))
      ∧ r.2.sem = fun _ => 0)

def quiescent_StepOutKernelIdeal [hStepOutKernelIdeal : Cert.StepOutKernelIdeal.Facts] : Prop :=
  ∀ (m : (ℓ : Loc Cert.StepOutKernelIdeal.nD Cert.StepOutKernelIdeal.τ Cert.StepOutKernelIdeal.sig) → Buf (Elt Ideal) ℓ) (g : Dev Cert.StepOutKernelIdeal.nD → PrngReg), Pre_StepOutKernelIdeal m →
    θ_run (Cert.StepOutKernelIdeal.defs (F := Ideal)) (onTc (τ := Cert.StepOutKernelIdeal.τ) (Cert.StepOutKernelIdeal.main (F := Ideal))) ⟨m, fun _ => 0, g⟩ (fun r => (∀ c : Dev Cert.StepOutKernelIdeal.nD,
      r.2.mem ((c.tc : Thread Cert.StepOutKernelIdeal.nD Cert.StepOutKernelIdeal.τ).loc Cert.StepOutKernelIdeal.main_arg0) = m ((c.tc : Thread Cert.StepOutKernelIdeal.nD Cert.StepOutKernelIdeal.τ).loc Cert.StepOutKernelIdeal.main_arg0)
      ∧ r.2.mem ((c.tc : Thread Cert.StepOutKernelIdeal.nD Cert.StepOutKernelIdeal.τ).loc Cert.StepOutKernelIdeal.main_arg1) = m ((c.tc : Thread Cert.StepOutKernelIdeal.nD Cert.StepOutKernelIdeal.τ).loc Cert.StepOutKernelIdeal.main_arg1)
      ∧ r.2.mem ((c.tc : Thread Cert.StepOutKernelIdeal.nD Cert.StepOutKernelIdeal.τ).loc Cert.StepOutKernelIdeal.main_arg2) = m ((c.tc : Thread Cert.StepOutKernelIdeal.nD Cert.StepOutKernelIdeal.τ).loc Cert.StepOutKernelIdeal.main_arg2)
      ∧ r.2.mem ((c.tc : Thread Cert.StepOutKernelIdeal.nD Cert.StepOutKernelIdeal.τ).loc Cert.StepOutKernelIdeal.main_arg3) = m ((c.tc : Thread Cert.StepOutKernelIdeal.nD Cert.StepOutKernelIdeal.τ).loc Cert.StepOutKernelIdeal.main_arg3))
      ∧ r.2.sem = fun _ => 0)

def quiescent_StepOutReferenceIdeal [hStepOutReferenceIdeal : Cert.StepOutReferenceIdeal.Facts] : Prop :=
  ∀ (m : (ℓ : Loc Cert.StepOutReferenceIdeal.nD Cert.StepOutReferenceIdeal.τ Cert.StepOutReferenceIdeal.sig) → Buf (Elt Ideal) ℓ) (g : Dev Cert.StepOutReferenceIdeal.nD → PrngReg), Pre_StepOutReferenceIdeal m →
    θ_run (Cert.StepOutReferenceIdeal.defs (F := Ideal)) (onTc (τ := Cert.StepOutReferenceIdeal.τ) (Cert.StepOutReferenceIdeal.main (F := Ideal))) ⟨m, fun _ => 0, g⟩ (fun r => (∀ c : Dev Cert.StepOutReferenceIdeal.nD,
      r.2.mem ((c.tc : Thread Cert.StepOutReferenceIdeal.nD Cert.StepOutReferenceIdeal.τ).loc Cert.StepOutReferenceIdeal.main_arg0) = m ((c.tc : Thread Cert.StepOutReferenceIdeal.nD Cert.StepOutReferenceIdeal.τ).loc Cert.StepOutReferenceIdeal.main_arg0)
      ∧ r.2.mem ((c.tc : Thread Cert.StepOutReferenceIdeal.nD Cert.StepOutReferenceIdeal.τ).loc Cert.StepOutReferenceIdeal.main_arg1) = m ((c.tc : Thread Cert.StepOutReferenceIdeal.nD Cert.StepOutReferenceIdeal.τ).loc Cert.StepOutReferenceIdeal.main_arg1)
      ∧ r.2.mem ((c.tc : Thread Cert.StepOutReferenceIdeal.nD Cert.StepOutReferenceIdeal.τ).loc Cert.StepOutReferenceIdeal.main_arg2) = m ((c.tc : Thread Cert.StepOutReferenceIdeal.nD Cert.StepOutReferenceIdeal.τ).loc Cert.StepOutReferenceIdeal.main_arg2)
      ∧ r.2.mem ((c.tc : Thread Cert.StepOutReferenceIdeal.nD Cert.StepOutReferenceIdeal.τ).loc Cert.StepOutReferenceIdeal.main_arg3) = m ((c.tc : Thread Cert.StepOutReferenceIdeal.nD Cert.StepOutReferenceIdeal.τ).loc Cert.StepOutReferenceIdeal.main_arg3))
      ∧ r.2.sem = fun _ => 0)

def quiescent_StepInOddKernel [hStepInOddKernel : Cert.StepInOddKernel.Facts] : Prop :=
  ∀ (m : (ℓ : Loc Cert.StepInOddKernel.nD Cert.StepInOddKernel.τ Cert.StepInOddKernel.sig) → Buf (Elt Bits) ℓ) (g : Dev Cert.StepInOddKernel.nD → PrngReg), Pre_StepInOddKernel m →
    θ_run (Cert.StepInOddKernel.defs (F := Bits)) (onTc (τ := Cert.StepInOddKernel.τ) (Cert.StepInOddKernel.main (F := Bits))) ⟨m, fun _ => 0, g⟩ (fun r => (∀ c : Dev Cert.StepInOddKernel.nD,
      r.2.mem ((c.tc : Thread Cert.StepInOddKernel.nD Cert.StepInOddKernel.τ).loc Cert.StepInOddKernel.main_arg0) = m ((c.tc : Thread Cert.StepInOddKernel.nD Cert.StepInOddKernel.τ).loc Cert.StepInOddKernel.main_arg0)
      ∧ r.2.mem ((c.tc : Thread Cert.StepInOddKernel.nD Cert.StepInOddKernel.τ).loc Cert.StepInOddKernel.main_arg1) = m ((c.tc : Thread Cert.StepInOddKernel.nD Cert.StepInOddKernel.τ).loc Cert.StepInOddKernel.main_arg1)
      ∧ r.2.mem ((c.tc : Thread Cert.StepInOddKernel.nD Cert.StepInOddKernel.τ).loc Cert.StepInOddKernel.main_arg2) = m ((c.tc : Thread Cert.StepInOddKernel.nD Cert.StepInOddKernel.τ).loc Cert.StepInOddKernel.main_arg2)
      ∧ r.2.mem ((c.tc : Thread Cert.StepInOddKernel.nD Cert.StepInOddKernel.τ).loc Cert.StepInOddKernel.main_arg3) = m ((c.tc : Thread Cert.StepInOddKernel.nD Cert.StepInOddKernel.τ).loc Cert.StepInOddKernel.main_arg3))
      ∧ r.2.sem = fun _ => 0)

def quiescent_StepInOddKernelIdeal [hStepInOddKernelIdeal : Cert.StepInOddKernelIdeal.Facts] : Prop :=
  ∀ (m : (ℓ : Loc Cert.StepInOddKernelIdeal.nD Cert.StepInOddKernelIdeal.τ Cert.StepInOddKernelIdeal.sig) → Buf (Elt Ideal) ℓ) (g : Dev Cert.StepInOddKernelIdeal.nD → PrngReg), Pre_StepInOddKernelIdeal m →
    θ_run (Cert.StepInOddKernelIdeal.defs (F := Ideal)) (onTc (τ := Cert.StepInOddKernelIdeal.τ) (Cert.StepInOddKernelIdeal.main (F := Ideal))) ⟨m, fun _ => 0, g⟩ (fun r => (∀ c : Dev Cert.StepInOddKernelIdeal.nD,
      r.2.mem ((c.tc : Thread Cert.StepInOddKernelIdeal.nD Cert.StepInOddKernelIdeal.τ).loc Cert.StepInOddKernelIdeal.main_arg0) = m ((c.tc : Thread Cert.StepInOddKernelIdeal.nD Cert.StepInOddKernelIdeal.τ).loc Cert.StepInOddKernelIdeal.main_arg0)
      ∧ r.2.mem ((c.tc : Thread Cert.StepInOddKernelIdeal.nD Cert.StepInOddKernelIdeal.τ).loc Cert.StepInOddKernelIdeal.main_arg1) = m ((c.tc : Thread Cert.StepInOddKernelIdeal.nD Cert.StepInOddKernelIdeal.τ).loc Cert.StepInOddKernelIdeal.main_arg1)
      ∧ r.2.mem ((c.tc : Thread Cert.StepInOddKernelIdeal.nD Cert.StepInOddKernelIdeal.τ).loc Cert.StepInOddKernelIdeal.main_arg2) = m ((c.tc : Thread Cert.StepInOddKernelIdeal.nD Cert.StepInOddKernelIdeal.τ).loc Cert.StepInOddKernelIdeal.main_arg2)
      ∧ r.2.mem ((c.tc : Thread Cert.StepInOddKernelIdeal.nD Cert.StepInOddKernelIdeal.τ).loc Cert.StepInOddKernelIdeal.main_arg3) = m ((c.tc : Thread Cert.StepInOddKernelIdeal.nD Cert.StepInOddKernelIdeal.τ).loc Cert.StepInOddKernelIdeal.main_arg3))
      ∧ r.2.sem = fun _ => 0)

def quiescent_StepInOddReferenceIdeal [hStepInOddReferenceIdeal : Cert.StepInOddReferenceIdeal.Facts] : Prop :=
  ∀ (m : (ℓ : Loc Cert.StepInOddReferenceIdeal.nD Cert.StepInOddReferenceIdeal.τ Cert.StepInOddReferenceIdeal.sig) → Buf (Elt Ideal) ℓ) (g : Dev Cert.StepInOddReferenceIdeal.nD → PrngReg), Pre_StepInOddReferenceIdeal m →
    θ_run (Cert.StepInOddReferenceIdeal.defs (F := Ideal)) (onTc (τ := Cert.StepInOddReferenceIdeal.τ) (Cert.StepInOddReferenceIdeal.main (F := Ideal))) ⟨m, fun _ => 0, g⟩ (fun r => (∀ c : Dev Cert.StepInOddReferenceIdeal.nD,
      r.2.mem ((c.tc : Thread Cert.StepInOddReferenceIdeal.nD Cert.StepInOddReferenceIdeal.τ).loc Cert.StepInOddReferenceIdeal.main_arg0) = m ((c.tc : Thread Cert.StepInOddReferenceIdeal.nD Cert.StepInOddReferenceIdeal.τ).loc Cert.StepInOddReferenceIdeal.main_arg0)
      ∧ r.2.mem ((c.tc : Thread Cert.StepInOddReferenceIdeal.nD Cert.StepInOddReferenceIdeal.τ).loc Cert.StepInOddReferenceIdeal.main_arg1) = m ((c.tc : Thread Cert.StepInOddReferenceIdeal.nD Cert.StepInOddReferenceIdeal.τ).loc Cert.StepInOddReferenceIdeal.main_arg1)
      ∧ r.2.mem ((c.tc : Thread Cert.StepInOddReferenceIdeal.nD Cert.StepInOddReferenceIdeal.τ).loc Cert.StepInOddReferenceIdeal.main_arg2) = m ((c.tc : Thread Cert.StepInOddReferenceIdeal.nD Cert.StepInOddReferenceIdeal.τ).loc Cert.StepInOddReferenceIdeal.main_arg2)
      ∧ r.2.mem ((c.tc : Thread Cert.StepInOddReferenceIdeal.nD Cert.StepInOddReferenceIdeal.τ).loc Cert.StepInOddReferenceIdeal.main_arg3) = m ((c.tc : Thread Cert.StepInOddReferenceIdeal.nD Cert.StepInOddReferenceIdeal.τ).loc Cert.StepInOddReferenceIdeal.main_arg3))
      ∧ r.2.sem = fun _ => 0)

def quiescent_StepUpKernel [hStepUpKernel : Cert.StepUpKernel.Facts] : Prop :=
  ∀ (m : (ℓ : Loc Cert.StepUpKernel.nD Cert.StepUpKernel.τ Cert.StepUpKernel.sig) → Buf (Elt Bits) ℓ) (g : Dev Cert.StepUpKernel.nD → PrngReg), Pre_StepUpKernel m →
    θ_run (Cert.StepUpKernel.defs (F := Bits)) (onTc (τ := Cert.StepUpKernel.τ) (Cert.StepUpKernel.main (F := Bits))) ⟨m, fun _ => 0, g⟩ (fun r => (∀ c : Dev Cert.StepUpKernel.nD,
      r.2.mem ((c.tc : Thread Cert.StepUpKernel.nD Cert.StepUpKernel.τ).loc Cert.StepUpKernel.main_arg0) = m ((c.tc : Thread Cert.StepUpKernel.nD Cert.StepUpKernel.τ).loc Cert.StepUpKernel.main_arg0)
      ∧ r.2.mem ((c.tc : Thread Cert.StepUpKernel.nD Cert.StepUpKernel.τ).loc Cert.StepUpKernel.main_arg1) = m ((c.tc : Thread Cert.StepUpKernel.nD Cert.StepUpKernel.τ).loc Cert.StepUpKernel.main_arg1)
      ∧ r.2.mem ((c.tc : Thread Cert.StepUpKernel.nD Cert.StepUpKernel.τ).loc Cert.StepUpKernel.main_arg2) = m ((c.tc : Thread Cert.StepUpKernel.nD Cert.StepUpKernel.τ).loc Cert.StepUpKernel.main_arg2)
      ∧ r.2.mem ((c.tc : Thread Cert.StepUpKernel.nD Cert.StepUpKernel.τ).loc Cert.StepUpKernel.main_arg3) = m ((c.tc : Thread Cert.StepUpKernel.nD Cert.StepUpKernel.τ).loc Cert.StepUpKernel.main_arg3))
      ∧ r.2.sem = fun _ => 0)

def quiescent_StepUpKernelIdeal [hStepUpKernelIdeal : Cert.StepUpKernelIdeal.Facts] : Prop :=
  ∀ (m : (ℓ : Loc Cert.StepUpKernelIdeal.nD Cert.StepUpKernelIdeal.τ Cert.StepUpKernelIdeal.sig) → Buf (Elt Ideal) ℓ) (g : Dev Cert.StepUpKernelIdeal.nD → PrngReg), Pre_StepUpKernelIdeal m →
    θ_run (Cert.StepUpKernelIdeal.defs (F := Ideal)) (onTc (τ := Cert.StepUpKernelIdeal.τ) (Cert.StepUpKernelIdeal.main (F := Ideal))) ⟨m, fun _ => 0, g⟩ (fun r => (∀ c : Dev Cert.StepUpKernelIdeal.nD,
      r.2.mem ((c.tc : Thread Cert.StepUpKernelIdeal.nD Cert.StepUpKernelIdeal.τ).loc Cert.StepUpKernelIdeal.main_arg0) = m ((c.tc : Thread Cert.StepUpKernelIdeal.nD Cert.StepUpKernelIdeal.τ).loc Cert.StepUpKernelIdeal.main_arg0)
      ∧ r.2.mem ((c.tc : Thread Cert.StepUpKernelIdeal.nD Cert.StepUpKernelIdeal.τ).loc Cert.StepUpKernelIdeal.main_arg1) = m ((c.tc : Thread Cert.StepUpKernelIdeal.nD Cert.StepUpKernelIdeal.τ).loc Cert.StepUpKernelIdeal.main_arg1)
      ∧ r.2.mem ((c.tc : Thread Cert.StepUpKernelIdeal.nD Cert.StepUpKernelIdeal.τ).loc Cert.StepUpKernelIdeal.main_arg2) = m ((c.tc : Thread Cert.StepUpKernelIdeal.nD Cert.StepUpKernelIdeal.τ).loc Cert.StepUpKernelIdeal.main_arg2)
      ∧ r.2.mem ((c.tc : Thread Cert.StepUpKernelIdeal.nD Cert.StepUpKernelIdeal.τ).loc Cert.StepUpKernelIdeal.main_arg3) = m ((c.tc : Thread Cert.StepUpKernelIdeal.nD Cert.StepUpKernelIdeal.τ).loc Cert.StepUpKernelIdeal.main_arg3))
      ∧ r.2.sem = fun _ => 0)

def quiescent_StepUpReferenceIdeal [hStepUpReferenceIdeal : Cert.StepUpReferenceIdeal.Facts] : Prop :=
  ∀ (m : (ℓ : Loc Cert.StepUpReferenceIdeal.nD Cert.StepUpReferenceIdeal.τ Cert.StepUpReferenceIdeal.sig) → Buf (Elt Ideal) ℓ) (g : Dev Cert.StepUpReferenceIdeal.nD → PrngReg), Pre_StepUpReferenceIdeal m →
    θ_run (Cert.StepUpReferenceIdeal.defs (F := Ideal)) (onTc (τ := Cert.StepUpReferenceIdeal.τ) (Cert.StepUpReferenceIdeal.main (F := Ideal))) ⟨m, fun _ => 0, g⟩ (fun r => (∀ c : Dev Cert.StepUpReferenceIdeal.nD,
      r.2.mem ((c.tc : Thread Cert.StepUpReferenceIdeal.nD Cert.StepUpReferenceIdeal.τ).loc Cert.StepUpReferenceIdeal.main_arg0) = m ((c.tc : Thread Cert.StepUpReferenceIdeal.nD Cert.StepUpReferenceIdeal.τ).loc Cert.StepUpReferenceIdeal.main_arg0)
      ∧ r.2.mem ((c.tc : Thread Cert.StepUpReferenceIdeal.nD Cert.StepUpReferenceIdeal.τ).loc Cert.StepUpReferenceIdeal.main_arg1) = m ((c.tc : Thread Cert.StepUpReferenceIdeal.nD Cert.StepUpReferenceIdeal.τ).loc Cert.StepUpReferenceIdeal.main_arg1)
      ∧ r.2.mem ((c.tc : Thread Cert.StepUpReferenceIdeal.nD Cert.StepUpReferenceIdeal.τ).loc Cert.StepUpReferenceIdeal.main_arg2) = m ((c.tc : Thread Cert.StepUpReferenceIdeal.nD Cert.StepUpReferenceIdeal.τ).loc Cert.StepUpReferenceIdeal.main_arg2)
      ∧ r.2.mem ((c.tc : Thread Cert.StepUpReferenceIdeal.nD Cert.StepUpReferenceIdeal.τ).loc Cert.StepUpReferenceIdeal.main_arg3) = m ((c.tc : Thread Cert.StepUpReferenceIdeal.nD Cert.StepUpReferenceIdeal.τ).loc Cert.StepUpReferenceIdeal.main_arg3))
      ∧ r.2.sem = fun _ => 0)

def quiescent_StepDownKernel [hStepDownKernel : Cert.StepDownKernel.Facts] : Prop :=
  ∀ (m : (ℓ : Loc Cert.StepDownKernel.nD Cert.StepDownKernel.τ Cert.StepDownKernel.sig) → Buf (Elt Bits) ℓ) (g : Dev Cert.StepDownKernel.nD → PrngReg), Pre_StepDownKernel m →
    θ_run (Cert.StepDownKernel.defs (F := Bits)) (onTc (τ := Cert.StepDownKernel.τ) (Cert.StepDownKernel.main (F := Bits))) ⟨m, fun _ => 0, g⟩ (fun r => (∀ c : Dev Cert.StepDownKernel.nD,
      r.2.mem ((c.tc : Thread Cert.StepDownKernel.nD Cert.StepDownKernel.τ).loc Cert.StepDownKernel.main_arg0) = m ((c.tc : Thread Cert.StepDownKernel.nD Cert.StepDownKernel.τ).loc Cert.StepDownKernel.main_arg0)
      ∧ r.2.mem ((c.tc : Thread Cert.StepDownKernel.nD Cert.StepDownKernel.τ).loc Cert.StepDownKernel.main_arg1) = m ((c.tc : Thread Cert.StepDownKernel.nD Cert.StepDownKernel.τ).loc Cert.StepDownKernel.main_arg1)
      ∧ r.2.mem ((c.tc : Thread Cert.StepDownKernel.nD Cert.StepDownKernel.τ).loc Cert.StepDownKernel.main_arg2) = m ((c.tc : Thread Cert.StepDownKernel.nD Cert.StepDownKernel.τ).loc Cert.StepDownKernel.main_arg2)
      ∧ r.2.mem ((c.tc : Thread Cert.StepDownKernel.nD Cert.StepDownKernel.τ).loc Cert.StepDownKernel.main_arg3) = m ((c.tc : Thread Cert.StepDownKernel.nD Cert.StepDownKernel.τ).loc Cert.StepDownKernel.main_arg3))
      ∧ r.2.sem = fun _ => 0)

def quiescent_StepDownKernelIdeal [hStepDownKernelIdeal : Cert.StepDownKernelIdeal.Facts] : Prop :=
  ∀ (m : (ℓ : Loc Cert.StepDownKernelIdeal.nD Cert.StepDownKernelIdeal.τ Cert.StepDownKernelIdeal.sig) → Buf (Elt Ideal) ℓ) (g : Dev Cert.StepDownKernelIdeal.nD → PrngReg), Pre_StepDownKernelIdeal m →
    θ_run (Cert.StepDownKernelIdeal.defs (F := Ideal)) (onTc (τ := Cert.StepDownKernelIdeal.τ) (Cert.StepDownKernelIdeal.main (F := Ideal))) ⟨m, fun _ => 0, g⟩ (fun r => (∀ c : Dev Cert.StepDownKernelIdeal.nD,
      r.2.mem ((c.tc : Thread Cert.StepDownKernelIdeal.nD Cert.StepDownKernelIdeal.τ).loc Cert.StepDownKernelIdeal.main_arg0) = m ((c.tc : Thread Cert.StepDownKernelIdeal.nD Cert.StepDownKernelIdeal.τ).loc Cert.StepDownKernelIdeal.main_arg0)
      ∧ r.2.mem ((c.tc : Thread Cert.StepDownKernelIdeal.nD Cert.StepDownKernelIdeal.τ).loc Cert.StepDownKernelIdeal.main_arg1) = m ((c.tc : Thread Cert.StepDownKernelIdeal.nD Cert.StepDownKernelIdeal.τ).loc Cert.StepDownKernelIdeal.main_arg1)
      ∧ r.2.mem ((c.tc : Thread Cert.StepDownKernelIdeal.nD Cert.StepDownKernelIdeal.τ).loc Cert.StepDownKernelIdeal.main_arg2) = m ((c.tc : Thread Cert.StepDownKernelIdeal.nD Cert.StepDownKernelIdeal.τ).loc Cert.StepDownKernelIdeal.main_arg2)
      ∧ r.2.mem ((c.tc : Thread Cert.StepDownKernelIdeal.nD Cert.StepDownKernelIdeal.τ).loc Cert.StepDownKernelIdeal.main_arg3) = m ((c.tc : Thread Cert.StepDownKernelIdeal.nD Cert.StepDownKernelIdeal.τ).loc Cert.StepDownKernelIdeal.main_arg3))
      ∧ r.2.sem = fun _ => 0)

def quiescent_StepDownReferenceIdeal [hStepDownReferenceIdeal : Cert.StepDownReferenceIdeal.Facts] : Prop :=
  ∀ (m : (ℓ : Loc Cert.StepDownReferenceIdeal.nD Cert.StepDownReferenceIdeal.τ Cert.StepDownReferenceIdeal.sig) → Buf (Elt Ideal) ℓ) (g : Dev Cert.StepDownReferenceIdeal.nD → PrngReg), Pre_StepDownReferenceIdeal m →
    θ_run (Cert.StepDownReferenceIdeal.defs (F := Ideal)) (onTc (τ := Cert.StepDownReferenceIdeal.τ) (Cert.StepDownReferenceIdeal.main (F := Ideal))) ⟨m, fun _ => 0, g⟩ (fun r => (∀ c : Dev Cert.StepDownReferenceIdeal.nD,
      r.2.mem ((c.tc : Thread Cert.StepDownReferenceIdeal.nD Cert.StepDownReferenceIdeal.τ).loc Cert.StepDownReferenceIdeal.main_arg0) = m ((c.tc : Thread Cert.StepDownReferenceIdeal.nD Cert.StepDownReferenceIdeal.τ).loc Cert.StepDownReferenceIdeal.main_arg0)
      ∧ r.2.mem ((c.tc : Thread Cert.StepDownReferenceIdeal.nD Cert.StepDownReferenceIdeal.τ).loc Cert.StepDownReferenceIdeal.main_arg1) = m ((c.tc : Thread Cert.StepDownReferenceIdeal.nD Cert.StepDownReferenceIdeal.τ).loc Cert.StepDownReferenceIdeal.main_arg1)
      ∧ r.2.mem ((c.tc : Thread Cert.StepDownReferenceIdeal.nD Cert.StepDownReferenceIdeal.τ).loc Cert.StepDownReferenceIdeal.main_arg2) = m ((c.tc : Thread Cert.StepDownReferenceIdeal.nD Cert.StepDownReferenceIdeal.τ).loc Cert.StepDownReferenceIdeal.main_arg2)
      ∧ r.2.mem ((c.tc : Thread Cert.StepDownReferenceIdeal.nD Cert.StepDownReferenceIdeal.τ).loc Cert.StepDownReferenceIdeal.main_arg3) = m ((c.tc : Thread Cert.StepDownReferenceIdeal.nD Cert.StepDownReferenceIdeal.τ).loc Cert.StepDownReferenceIdeal.main_arg3))
      ∧ r.2.sem = fun _ => 0)

def quiescent_StepSmallKernel [hStepSmallKernel : Cert.StepSmallKernel.Facts] : Prop :=
  ∀ (m : (ℓ : Loc Cert.StepSmallKernel.nD Cert.StepSmallKernel.τ Cert.StepSmallKernel.sig) → Buf (Elt Bits) ℓ) (g : Dev Cert.StepSmallKernel.nD → PrngReg), Pre_StepSmallKernel m →
    θ_run (Cert.StepSmallKernel.defs (F := Bits)) (onTc (τ := Cert.StepSmallKernel.τ) (Cert.StepSmallKernel.main (F := Bits))) ⟨m, fun _ => 0, g⟩ (fun r => (∀ c : Dev Cert.StepSmallKernel.nD,
      r.2.mem ((c.tc : Thread Cert.StepSmallKernel.nD Cert.StepSmallKernel.τ).loc Cert.StepSmallKernel.main_arg0) = m ((c.tc : Thread Cert.StepSmallKernel.nD Cert.StepSmallKernel.τ).loc Cert.StepSmallKernel.main_arg0)
      ∧ r.2.mem ((c.tc : Thread Cert.StepSmallKernel.nD Cert.StepSmallKernel.τ).loc Cert.StepSmallKernel.main_arg1) = m ((c.tc : Thread Cert.StepSmallKernel.nD Cert.StepSmallKernel.τ).loc Cert.StepSmallKernel.main_arg1)
      ∧ r.2.mem ((c.tc : Thread Cert.StepSmallKernel.nD Cert.StepSmallKernel.τ).loc Cert.StepSmallKernel.main_arg2) = m ((c.tc : Thread Cert.StepSmallKernel.nD Cert.StepSmallKernel.τ).loc Cert.StepSmallKernel.main_arg2)
      ∧ r.2.mem ((c.tc : Thread Cert.StepSmallKernel.nD Cert.StepSmallKernel.τ).loc Cert.StepSmallKernel.main_arg3) = m ((c.tc : Thread Cert.StepSmallKernel.nD Cert.StepSmallKernel.τ).loc Cert.StepSmallKernel.main_arg3)
      ∧ r.2.mem ((c.tc : Thread Cert.StepSmallKernel.nD Cert.StepSmallKernel.τ).loc Cert.StepSmallKernel.main_arg4) = m ((c.tc : Thread Cert.StepSmallKernel.nD Cert.StepSmallKernel.τ).loc Cert.StepSmallKernel.main_arg4)
      ∧ r.2.mem ((c.tc : Thread Cert.StepSmallKernel.nD Cert.StepSmallKernel.τ).loc Cert.StepSmallKernel.main_arg5) = m ((c.tc : Thread Cert.StepSmallKernel.nD Cert.StepSmallKernel.τ).loc Cert.StepSmallKernel.main_arg5)
      ∧ r.2.mem ((c.tc : Thread Cert.StepSmallKernel.nD Cert.StepSmallKernel.τ).loc Cert.StepSmallKernel.main_arg6) = m ((c.tc : Thread Cert.StepSmallKernel.nD Cert.StepSmallKernel.τ).loc Cert.StepSmallKernel.main_arg6)
      ∧ r.2.mem ((c.tc : Thread Cert.StepSmallKernel.nD Cert.StepSmallKernel.τ).loc Cert.StepSmallKernel.main_arg7) = m ((c.tc : Thread Cert.StepSmallKernel.nD Cert.StepSmallKernel.τ).loc Cert.StepSmallKernel.main_arg7)
      ∧ r.2.mem ((c.tc : Thread Cert.StepSmallKernel.nD Cert.StepSmallKernel.τ).loc Cert.StepSmallKernel.main_arg8) = m ((c.tc : Thread Cert.StepSmallKernel.nD Cert.StepSmallKernel.τ).loc Cert.StepSmallKernel.main_arg8)
      ∧ r.2.mem ((c.tc : Thread Cert.StepSmallKernel.nD Cert.StepSmallKernel.τ).loc Cert.StepSmallKernel.main_arg9) = m ((c.tc : Thread Cert.StepSmallKernel.nD Cert.StepSmallKernel.τ).loc Cert.StepSmallKernel.main_arg9)
      ∧ r.2.mem ((c.tc : Thread Cert.StepSmallKernel.nD Cert.StepSmallKernel.τ).loc Cert.StepSmallKernel.main_arg10) = m ((c.tc : Thread Cert.StepSmallKernel.nD Cert.StepSmallKernel.τ).loc Cert.StepSmallKernel.main_arg10)
      ∧ r.2.mem ((c.tc : Thread Cert.StepSmallKernel.nD Cert.StepSmallKernel.τ).loc Cert.StepSmallKernel.main_arg11) = m ((c.tc : Thread Cert.StepSmallKernel.nD Cert.StepSmallKernel.τ).loc Cert.StepSmallKernel.main_arg11)
      ∧ r.2.mem ((c.tc : Thread Cert.StepSmallKernel.nD Cert.StepSmallKernel.τ).loc Cert.StepSmallKernel.main_arg12) = m ((c.tc : Thread Cert.StepSmallKernel.nD Cert.StepSmallKernel.τ).loc Cert.StepSmallKernel.main_arg12)
      ∧ r.2.mem ((c.tc : Thread Cert.StepSmallKernel.nD Cert.StepSmallKernel.τ).loc Cert.StepSmallKernel.main_arg13) = m ((c.tc : Thread Cert.StepSmallKernel.nD Cert.StepSmallKernel.τ).loc Cert.StepSmallKernel.main_arg13)
      ∧ r.2.mem ((c.tc : Thread Cert.StepSmallKernel.nD Cert.StepSmallKernel.τ).loc Cert.StepSmallKernel.main_arg14) = m ((c.tc : Thread Cert.StepSmallKernel.nD Cert.StepSmallKernel.τ).loc Cert.StepSmallKernel.main_arg14)
      ∧ r.2.mem ((c.tc : Thread Cert.StepSmallKernel.nD Cert.StepSmallKernel.τ).loc Cert.StepSmallKernel.main_arg15) = m ((c.tc : Thread Cert.StepSmallKernel.nD Cert.StepSmallKernel.τ).loc Cert.StepSmallKernel.main_arg15)
      ∧ r.2.mem ((c.tc : Thread Cert.StepSmallKernel.nD Cert.StepSmallKernel.τ).loc Cert.StepSmallKernel.main_arg16) = m ((c.tc : Thread Cert.StepSmallKernel.nD Cert.StepSmallKernel.τ).loc Cert.StepSmallKernel.main_arg16)
      ∧ r.2.mem ((c.tc : Thread Cert.StepSmallKernel.nD Cert.StepSmallKernel.τ).loc Cert.StepSmallKernel.main_arg17) = m ((c.tc : Thread Cert.StepSmallKernel.nD Cert.StepSmallKernel.τ).loc Cert.StepSmallKernel.main_arg17)
      ∧ r.2.mem ((c.tc : Thread Cert.StepSmallKernel.nD Cert.StepSmallKernel.τ).loc Cert.StepSmallKernel.main_arg18) = m ((c.tc : Thread Cert.StepSmallKernel.nD Cert.StepSmallKernel.τ).loc Cert.StepSmallKernel.main_arg18)
      ∧ r.2.mem ((c.tc : Thread Cert.StepSmallKernel.nD Cert.StepSmallKernel.τ).loc Cert.StepSmallKernel.main_arg19) = m ((c.tc : Thread Cert.StepSmallKernel.nD Cert.StepSmallKernel.τ).loc Cert.StepSmallKernel.main_arg19)
      ∧ r.2.mem ((c.tc : Thread Cert.StepSmallKernel.nD Cert.StepSmallKernel.τ).loc Cert.StepSmallKernel.main_arg20) = m ((c.tc : Thread Cert.StepSmallKernel.nD Cert.StepSmallKernel.τ).loc Cert.StepSmallKernel.main_arg20)
      ∧ r.2.mem ((c.tc : Thread Cert.StepSmallKernel.nD Cert.StepSmallKernel.τ).loc Cert.StepSmallKernel.main_arg21) = m ((c.tc : Thread Cert.StepSmallKernel.nD Cert.StepSmallKernel.τ).loc Cert.StepSmallKernel.main_arg21)
      ∧ r.2.mem ((c.tc : Thread Cert.StepSmallKernel.nD Cert.StepSmallKernel.τ).loc Cert.StepSmallKernel.main_arg22) = m ((c.tc : Thread Cert.StepSmallKernel.nD Cert.StepSmallKernel.τ).loc Cert.StepSmallKernel.main_arg22)
      ∧ r.2.mem ((c.tc : Thread Cert.StepSmallKernel.nD Cert.StepSmallKernel.τ).loc Cert.StepSmallKernel.main_arg23) = m ((c.tc : Thread Cert.StepSmallKernel.nD Cert.StepSmallKernel.τ).loc Cert.StepSmallKernel.main_arg23)
      ∧ r.2.mem ((c.tc : Thread Cert.StepSmallKernel.nD Cert.StepSmallKernel.τ).loc Cert.StepSmallKernel.main_arg24) = m ((c.tc : Thread Cert.StepSmallKernel.nD Cert.StepSmallKernel.τ).loc Cert.StepSmallKernel.main_arg24)
      ∧ r.2.mem ((c.tc : Thread Cert.StepSmallKernel.nD Cert.StepSmallKernel.τ).loc Cert.StepSmallKernel.main_arg25) = m ((c.tc : Thread Cert.StepSmallKernel.nD Cert.StepSmallKernel.τ).loc Cert.StepSmallKernel.main_arg25)
      ∧ r.2.mem ((c.tc : Thread Cert.StepSmallKernel.nD Cert.StepSmallKernel.τ).loc Cert.StepSmallKernel.main_arg26) = m ((c.tc : Thread Cert.StepSmallKernel.nD Cert.StepSmallKernel.τ).loc Cert.StepSmallKernel.main_arg26)
      ∧ r.2.mem ((c.tc : Thread Cert.StepSmallKernel.nD Cert.StepSmallKernel.τ).loc Cert.StepSmallKernel.main_arg27) = m ((c.tc : Thread Cert.StepSmallKernel.nD Cert.StepSmallKernel.τ).loc Cert.StepSmallKernel.main_arg27)
      ∧ r.2.mem ((c.tc : Thread Cert.StepSmallKernel.nD Cert.StepSmallKernel.τ).loc Cert.StepSmallKernel.main_arg28) = m ((c.tc : Thread Cert.StepSmallKernel.nD Cert.StepSmallKernel.τ).loc Cert.StepSmallKernel.main_arg28)
      ∧ r.2.mem ((c.tc : Thread Cert.StepSmallKernel.nD Cert.StepSmallKernel.τ).loc Cert.StepSmallKernel.main_arg29) = m ((c.tc : Thread Cert.StepSmallKernel.nD Cert.StepSmallKernel.τ).loc Cert.StepSmallKernel.main_arg29)
      ∧ r.2.mem ((c.tc : Thread Cert.StepSmallKernel.nD Cert.StepSmallKernel.τ).loc Cert.StepSmallKernel.main_arg30) = m ((c.tc : Thread Cert.StepSmallKernel.nD Cert.StepSmallKernel.τ).loc Cert.StepSmallKernel.main_arg30)
      ∧ r.2.mem ((c.tc : Thread Cert.StepSmallKernel.nD Cert.StepSmallKernel.τ).loc Cert.StepSmallKernel.main_arg31) = m ((c.tc : Thread Cert.StepSmallKernel.nD Cert.StepSmallKernel.τ).loc Cert.StepSmallKernel.main_arg31)
      ∧ r.2.mem ((c.tc : Thread Cert.StepSmallKernel.nD Cert.StepSmallKernel.τ).loc Cert.StepSmallKernel.main_arg32) = m ((c.tc : Thread Cert.StepSmallKernel.nD Cert.StepSmallKernel.τ).loc Cert.StepSmallKernel.main_arg32)
      ∧ r.2.mem ((c.tc : Thread Cert.StepSmallKernel.nD Cert.StepSmallKernel.τ).loc Cert.StepSmallKernel.main_arg33) = m ((c.tc : Thread Cert.StepSmallKernel.nD Cert.StepSmallKernel.τ).loc Cert.StepSmallKernel.main_arg33)
      ∧ r.2.mem ((c.tc : Thread Cert.StepSmallKernel.nD Cert.StepSmallKernel.τ).loc Cert.StepSmallKernel.main_arg34) = m ((c.tc : Thread Cert.StepSmallKernel.nD Cert.StepSmallKernel.τ).loc Cert.StepSmallKernel.main_arg34)
      ∧ r.2.mem ((c.tc : Thread Cert.StepSmallKernel.nD Cert.StepSmallKernel.τ).loc Cert.StepSmallKernel.main_arg35) = m ((c.tc : Thread Cert.StepSmallKernel.nD Cert.StepSmallKernel.τ).loc Cert.StepSmallKernel.main_arg35)
      ∧ r.2.mem ((c.tc : Thread Cert.StepSmallKernel.nD Cert.StepSmallKernel.τ).loc Cert.StepSmallKernel.main_arg36) = m ((c.tc : Thread Cert.StepSmallKernel.nD Cert.StepSmallKernel.τ).loc Cert.StepSmallKernel.main_arg36)
      ∧ r.2.mem ((c.tc : Thread Cert.StepSmallKernel.nD Cert.StepSmallKernel.τ).loc Cert.StepSmallKernel.main_arg37) = m ((c.tc : Thread Cert.StepSmallKernel.nD Cert.StepSmallKernel.τ).loc Cert.StepSmallKernel.main_arg37)
      ∧ r.2.mem ((c.tc : Thread Cert.StepSmallKernel.nD Cert.StepSmallKernel.τ).loc Cert.StepSmallKernel.main_arg38) = m ((c.tc : Thread Cert.StepSmallKernel.nD Cert.StepSmallKernel.τ).loc Cert.StepSmallKernel.main_arg38)
      ∧ r.2.mem ((c.tc : Thread Cert.StepSmallKernel.nD Cert.StepSmallKernel.τ).loc Cert.StepSmallKernel.main_arg39) = m ((c.tc : Thread Cert.StepSmallKernel.nD Cert.StepSmallKernel.τ).loc Cert.StepSmallKernel.main_arg39)
      ∧ r.2.mem ((c.tc : Thread Cert.StepSmallKernel.nD Cert.StepSmallKernel.τ).loc Cert.StepSmallKernel.main_arg40) = m ((c.tc : Thread Cert.StepSmallKernel.nD Cert.StepSmallKernel.τ).loc Cert.StepSmallKernel.main_arg40)
      ∧ r.2.mem ((c.tc : Thread Cert.StepSmallKernel.nD Cert.StepSmallKernel.τ).loc Cert.StepSmallKernel.main_arg41) = m ((c.tc : Thread Cert.StepSmallKernel.nD Cert.StepSmallKernel.τ).loc Cert.StepSmallKernel.main_arg41)
      ∧ r.2.mem ((c.tc : Thread Cert.StepSmallKernel.nD Cert.StepSmallKernel.τ).loc Cert.StepSmallKernel.main_arg42) = m ((c.tc : Thread Cert.StepSmallKernel.nD Cert.StepSmallKernel.τ).loc Cert.StepSmallKernel.main_arg42)
      ∧ r.2.mem ((c.tc : Thread Cert.StepSmallKernel.nD Cert.StepSmallKernel.τ).loc Cert.StepSmallKernel.main_arg43) = m ((c.tc : Thread Cert.StepSmallKernel.nD Cert.StepSmallKernel.τ).loc Cert.StepSmallKernel.main_arg43)
      ∧ r.2.mem ((c.tc : Thread Cert.StepSmallKernel.nD Cert.StepSmallKernel.τ).loc Cert.StepSmallKernel.main_arg44) = m ((c.tc : Thread Cert.StepSmallKernel.nD Cert.StepSmallKernel.τ).loc Cert.StepSmallKernel.main_arg44)
      ∧ r.2.mem ((c.tc : Thread Cert.StepSmallKernel.nD Cert.StepSmallKernel.τ).loc Cert.StepSmallKernel.main_arg45) = m ((c.tc : Thread Cert.StepSmallKernel.nD Cert.StepSmallKernel.τ).loc Cert.StepSmallKernel.main_arg45)
      ∧ r.2.mem ((c.tc : Thread Cert.StepSmallKernel.nD Cert.StepSmallKernel.τ).loc Cert.StepSmallKernel.main_arg46) = m ((c.tc : Thread Cert.StepSmallKernel.nD Cert.StepSmallKernel.τ).loc Cert.StepSmallKernel.main_arg46)
      ∧ r.2.mem ((c.tc : Thread Cert.StepSmallKernel.nD Cert.StepSmallKernel.τ).loc Cert.StepSmallKernel.main_arg47) = m ((c.tc : Thread Cert.StepSmallKernel.nD Cert.StepSmallKernel.τ).loc Cert.StepSmallKernel.main_arg47)
      ∧ r.2.mem ((c.tc : Thread Cert.StepSmallKernel.nD Cert.StepSmallKernel.τ).loc Cert.StepSmallKernel.main_arg48) = m ((c.tc : Thread Cert.StepSmallKernel.nD Cert.StepSmallKernel.τ).loc Cert.StepSmallKernel.main_arg48)
      ∧ r.2.mem ((c.tc : Thread Cert.StepSmallKernel.nD Cert.StepSmallKernel.τ).loc Cert.StepSmallKernel.main_arg49) = m ((c.tc : Thread Cert.StepSmallKernel.nD Cert.StepSmallKernel.τ).loc Cert.StepSmallKernel.main_arg49)
      ∧ r.2.mem ((c.tc : Thread Cert.StepSmallKernel.nD Cert.StepSmallKernel.τ).loc Cert.StepSmallKernel.main_arg50) = m ((c.tc : Thread Cert.StepSmallKernel.nD Cert.StepSmallKernel.τ).loc Cert.StepSmallKernel.main_arg50)
      ∧ r.2.mem ((c.tc : Thread Cert.StepSmallKernel.nD Cert.StepSmallKernel.τ).loc Cert.StepSmallKernel.main_arg51) = m ((c.tc : Thread Cert.StepSmallKernel.nD Cert.StepSmallKernel.τ).loc Cert.StepSmallKernel.main_arg51)
      ∧ r.2.mem ((c.tc : Thread Cert.StepSmallKernel.nD Cert.StepSmallKernel.τ).loc Cert.StepSmallKernel.main_arg52) = m ((c.tc : Thread Cert.StepSmallKernel.nD Cert.StepSmallKernel.τ).loc Cert.StepSmallKernel.main_arg52)
      ∧ r.2.mem ((c.tc : Thread Cert.StepSmallKernel.nD Cert.StepSmallKernel.τ).loc Cert.StepSmallKernel.main_arg53) = m ((c.tc : Thread Cert.StepSmallKernel.nD Cert.StepSmallKernel.τ).loc Cert.StepSmallKernel.main_arg53)
      ∧ r.2.mem ((c.tc : Thread Cert.StepSmallKernel.nD Cert.StepSmallKernel.τ).loc Cert.StepSmallKernel.main_arg54) = m ((c.tc : Thread Cert.StepSmallKernel.nD Cert.StepSmallKernel.τ).loc Cert.StepSmallKernel.main_arg54)
      ∧ r.2.mem ((c.tc : Thread Cert.StepSmallKernel.nD Cert.StepSmallKernel.τ).loc Cert.StepSmallKernel.main_arg55) = m ((c.tc : Thread Cert.StepSmallKernel.nD Cert.StepSmallKernel.τ).loc Cert.StepSmallKernel.main_arg55)
      ∧ r.2.mem ((c.tc : Thread Cert.StepSmallKernel.nD Cert.StepSmallKernel.τ).loc Cert.StepSmallKernel.main_arg56) = m ((c.tc : Thread Cert.StepSmallKernel.nD Cert.StepSmallKernel.τ).loc Cert.StepSmallKernel.main_arg56)
      ∧ r.2.mem ((c.tc : Thread Cert.StepSmallKernel.nD Cert.StepSmallKernel.τ).loc Cert.StepSmallKernel.main_arg57) = m ((c.tc : Thread Cert.StepSmallKernel.nD Cert.StepSmallKernel.τ).loc Cert.StepSmallKernel.main_arg57)
      ∧ r.2.mem ((c.tc : Thread Cert.StepSmallKernel.nD Cert.StepSmallKernel.τ).loc Cert.StepSmallKernel.main_arg58) = m ((c.tc : Thread Cert.StepSmallKernel.nD Cert.StepSmallKernel.τ).loc Cert.StepSmallKernel.main_arg58)
      ∧ r.2.mem ((c.tc : Thread Cert.StepSmallKernel.nD Cert.StepSmallKernel.τ).loc Cert.StepSmallKernel.main_arg59) = m ((c.tc : Thread Cert.StepSmallKernel.nD Cert.StepSmallKernel.τ).loc Cert.StepSmallKernel.main_arg59)
      ∧ r.2.mem ((c.tc : Thread Cert.StepSmallKernel.nD Cert.StepSmallKernel.τ).loc Cert.StepSmallKernel.main_arg60) = m ((c.tc : Thread Cert.StepSmallKernel.nD Cert.StepSmallKernel.τ).loc Cert.StepSmallKernel.main_arg60)
      ∧ r.2.mem ((c.tc : Thread Cert.StepSmallKernel.nD Cert.StepSmallKernel.τ).loc Cert.StepSmallKernel.main_arg61) = m ((c.tc : Thread Cert.StepSmallKernel.nD Cert.StepSmallKernel.τ).loc Cert.StepSmallKernel.main_arg61)
      ∧ r.2.mem ((c.tc : Thread Cert.StepSmallKernel.nD Cert.StepSmallKernel.τ).loc Cert.StepSmallKernel.main_arg62) = m ((c.tc : Thread Cert.StepSmallKernel.nD Cert.StepSmallKernel.τ).loc Cert.StepSmallKernel.main_arg62)
      ∧ r.2.mem ((c.tc : Thread Cert.StepSmallKernel.nD Cert.StepSmallKernel.τ).loc Cert.StepSmallKernel.main_arg63) = m ((c.tc : Thread Cert.StepSmallKernel.nD Cert.StepSmallKernel.τ).loc Cert.StepSmallKernel.main_arg63)
      ∧ r.2.mem ((c.tc : Thread Cert.StepSmallKernel.nD Cert.StepSmallKernel.τ).loc Cert.StepSmallKernel.main_arg64) = m ((c.tc : Thread Cert.StepSmallKernel.nD Cert.StepSmallKernel.τ).loc Cert.StepSmallKernel.main_arg64)
      ∧ r.2.mem ((c.tc : Thread Cert.StepSmallKernel.nD Cert.StepSmallKernel.τ).loc Cert.StepSmallKernel.main_arg65) = m ((c.tc : Thread Cert.StepSmallKernel.nD Cert.StepSmallKernel.τ).loc Cert.StepSmallKernel.main_arg65)
      ∧ r.2.mem ((c.tc : Thread Cert.StepSmallKernel.nD Cert.StepSmallKernel.τ).loc Cert.StepSmallKernel.main_arg66) = m ((c.tc : Thread Cert.StepSmallKernel.nD Cert.StepSmallKernel.τ).loc Cert.StepSmallKernel.main_arg66)
      ∧ r.2.mem ((c.tc : Thread Cert.StepSmallKernel.nD Cert.StepSmallKernel.τ).loc Cert.StepSmallKernel.main_arg67) = m ((c.tc : Thread Cert.StepSmallKernel.nD Cert.StepSmallKernel.τ).loc Cert.StepSmallKernel.main_arg67)
      ∧ r.2.mem ((c.tc : Thread Cert.StepSmallKernel.nD Cert.StepSmallKernel.τ).loc Cert.StepSmallKernel.main_arg68) = m ((c.tc : Thread Cert.StepSmallKernel.nD Cert.StepSmallKernel.τ).loc Cert.StepSmallKernel.main_arg68)
      ∧ r.2.mem ((c.tc : Thread Cert.StepSmallKernel.nD Cert.StepSmallKernel.τ).loc Cert.StepSmallKernel.main_arg69) = m ((c.tc : Thread Cert.StepSmallKernel.nD Cert.StepSmallKernel.τ).loc Cert.StepSmallKernel.main_arg69)
      ∧ r.2.mem ((c.tc : Thread Cert.StepSmallKernel.nD Cert.StepSmallKernel.τ).loc Cert.StepSmallKernel.main_arg70) = m ((c.tc : Thread Cert.StepSmallKernel.nD Cert.StepSmallKernel.τ).loc Cert.StepSmallKernel.main_arg70)
      ∧ r.2.mem ((c.tc : Thread Cert.StepSmallKernel.nD Cert.StepSmallKernel.τ).loc Cert.StepSmallKernel.main_arg71) = m ((c.tc : Thread Cert.StepSmallKernel.nD Cert.StepSmallKernel.τ).loc Cert.StepSmallKernel.main_arg71)
      ∧ r.2.mem ((c.tc : Thread Cert.StepSmallKernel.nD Cert.StepSmallKernel.τ).loc Cert.StepSmallKernel.main_arg72) = m ((c.tc : Thread Cert.StepSmallKernel.nD Cert.StepSmallKernel.τ).loc Cert.StepSmallKernel.main_arg72)
      ∧ r.2.mem ((c.tc : Thread Cert.StepSmallKernel.nD Cert.StepSmallKernel.τ).loc Cert.StepSmallKernel.main_arg73) = m ((c.tc : Thread Cert.StepSmallKernel.nD Cert.StepSmallKernel.τ).loc Cert.StepSmallKernel.main_arg73)
      ∧ r.2.mem ((c.tc : Thread Cert.StepSmallKernel.nD Cert.StepSmallKernel.τ).loc Cert.StepSmallKernel.main_arg74) = m ((c.tc : Thread Cert.StepSmallKernel.nD Cert.StepSmallKernel.τ).loc Cert.StepSmallKernel.main_arg74)
      ∧ r.2.mem ((c.tc : Thread Cert.StepSmallKernel.nD Cert.StepSmallKernel.τ).loc Cert.StepSmallKernel.main_arg75) = m ((c.tc : Thread Cert.StepSmallKernel.nD Cert.StepSmallKernel.τ).loc Cert.StepSmallKernel.main_arg75))
      ∧ r.2.sem = fun _ => 0)

def quiescent_StepSmallKernelIdeal [hStepSmallKernelIdeal : Cert.StepSmallKernelIdeal.Facts] : Prop :=
  ∀ (m : (ℓ : Loc Cert.StepSmallKernelIdeal.nD Cert.StepSmallKernelIdeal.τ Cert.StepSmallKernelIdeal.sig) → Buf (Elt Ideal) ℓ) (g : Dev Cert.StepSmallKernelIdeal.nD → PrngReg), Pre_StepSmallKernelIdeal m →
    θ_run (Cert.StepSmallKernelIdeal.defs (F := Ideal)) (onTc (τ := Cert.StepSmallKernelIdeal.τ) (Cert.StepSmallKernelIdeal.main (F := Ideal))) ⟨m, fun _ => 0, g⟩ (fun r => (∀ c : Dev Cert.StepSmallKernelIdeal.nD,
      r.2.mem ((c.tc : Thread Cert.StepSmallKernelIdeal.nD Cert.StepSmallKernelIdeal.τ).loc Cert.StepSmallKernelIdeal.main_arg0) = m ((c.tc : Thread Cert.StepSmallKernelIdeal.nD Cert.StepSmallKernelIdeal.τ).loc Cert.StepSmallKernelIdeal.main_arg0)
      ∧ r.2.mem ((c.tc : Thread Cert.StepSmallKernelIdeal.nD Cert.StepSmallKernelIdeal.τ).loc Cert.StepSmallKernelIdeal.main_arg1) = m ((c.tc : Thread Cert.StepSmallKernelIdeal.nD Cert.StepSmallKernelIdeal.τ).loc Cert.StepSmallKernelIdeal.main_arg1)
      ∧ r.2.mem ((c.tc : Thread Cert.StepSmallKernelIdeal.nD Cert.StepSmallKernelIdeal.τ).loc Cert.StepSmallKernelIdeal.main_arg2) = m ((c.tc : Thread Cert.StepSmallKernelIdeal.nD Cert.StepSmallKernelIdeal.τ).loc Cert.StepSmallKernelIdeal.main_arg2)
      ∧ r.2.mem ((c.tc : Thread Cert.StepSmallKernelIdeal.nD Cert.StepSmallKernelIdeal.τ).loc Cert.StepSmallKernelIdeal.main_arg3) = m ((c.tc : Thread Cert.StepSmallKernelIdeal.nD Cert.StepSmallKernelIdeal.τ).loc Cert.StepSmallKernelIdeal.main_arg3)
      ∧ r.2.mem ((c.tc : Thread Cert.StepSmallKernelIdeal.nD Cert.StepSmallKernelIdeal.τ).loc Cert.StepSmallKernelIdeal.main_arg4) = m ((c.tc : Thread Cert.StepSmallKernelIdeal.nD Cert.StepSmallKernelIdeal.τ).loc Cert.StepSmallKernelIdeal.main_arg4)
      ∧ r.2.mem ((c.tc : Thread Cert.StepSmallKernelIdeal.nD Cert.StepSmallKernelIdeal.τ).loc Cert.StepSmallKernelIdeal.main_arg5) = m ((c.tc : Thread Cert.StepSmallKernelIdeal.nD Cert.StepSmallKernelIdeal.τ).loc Cert.StepSmallKernelIdeal.main_arg5)
      ∧ r.2.mem ((c.tc : Thread Cert.StepSmallKernelIdeal.nD Cert.StepSmallKernelIdeal.τ).loc Cert.StepSmallKernelIdeal.main_arg6) = m ((c.tc : Thread Cert.StepSmallKernelIdeal.nD Cert.StepSmallKernelIdeal.τ).loc Cert.StepSmallKernelIdeal.main_arg6)
      ∧ r.2.mem ((c.tc : Thread Cert.StepSmallKernelIdeal.nD Cert.StepSmallKernelIdeal.τ).loc Cert.StepSmallKernelIdeal.main_arg7) = m ((c.tc : Thread Cert.StepSmallKernelIdeal.nD Cert.StepSmallKernelIdeal.τ).loc Cert.StepSmallKernelIdeal.main_arg7)
      ∧ r.2.mem ((c.tc : Thread Cert.StepSmallKernelIdeal.nD Cert.StepSmallKernelIdeal.τ).loc Cert.StepSmallKernelIdeal.main_arg8) = m ((c.tc : Thread Cert.StepSmallKernelIdeal.nD Cert.StepSmallKernelIdeal.τ).loc Cert.StepSmallKernelIdeal.main_arg8)
      ∧ r.2.mem ((c.tc : Thread Cert.StepSmallKernelIdeal.nD Cert.StepSmallKernelIdeal.τ).loc Cert.StepSmallKernelIdeal.main_arg9) = m ((c.tc : Thread Cert.StepSmallKernelIdeal.nD Cert.StepSmallKernelIdeal.τ).loc Cert.StepSmallKernelIdeal.main_arg9)
      ∧ r.2.mem ((c.tc : Thread Cert.StepSmallKernelIdeal.nD Cert.StepSmallKernelIdeal.τ).loc Cert.StepSmallKernelIdeal.main_arg10) = m ((c.tc : Thread Cert.StepSmallKernelIdeal.nD Cert.StepSmallKernelIdeal.τ).loc Cert.StepSmallKernelIdeal.main_arg10)
      ∧ r.2.mem ((c.tc : Thread Cert.StepSmallKernelIdeal.nD Cert.StepSmallKernelIdeal.τ).loc Cert.StepSmallKernelIdeal.main_arg11) = m ((c.tc : Thread Cert.StepSmallKernelIdeal.nD Cert.StepSmallKernelIdeal.τ).loc Cert.StepSmallKernelIdeal.main_arg11)
      ∧ r.2.mem ((c.tc : Thread Cert.StepSmallKernelIdeal.nD Cert.StepSmallKernelIdeal.τ).loc Cert.StepSmallKernelIdeal.main_arg12) = m ((c.tc : Thread Cert.StepSmallKernelIdeal.nD Cert.StepSmallKernelIdeal.τ).loc Cert.StepSmallKernelIdeal.main_arg12)
      ∧ r.2.mem ((c.tc : Thread Cert.StepSmallKernelIdeal.nD Cert.StepSmallKernelIdeal.τ).loc Cert.StepSmallKernelIdeal.main_arg13) = m ((c.tc : Thread Cert.StepSmallKernelIdeal.nD Cert.StepSmallKernelIdeal.τ).loc Cert.StepSmallKernelIdeal.main_arg13)
      ∧ r.2.mem ((c.tc : Thread Cert.StepSmallKernelIdeal.nD Cert.StepSmallKernelIdeal.τ).loc Cert.StepSmallKernelIdeal.main_arg14) = m ((c.tc : Thread Cert.StepSmallKernelIdeal.nD Cert.StepSmallKernelIdeal.τ).loc Cert.StepSmallKernelIdeal.main_arg14)
      ∧ r.2.mem ((c.tc : Thread Cert.StepSmallKernelIdeal.nD Cert.StepSmallKernelIdeal.τ).loc Cert.StepSmallKernelIdeal.main_arg15) = m ((c.tc : Thread Cert.StepSmallKernelIdeal.nD Cert.StepSmallKernelIdeal.τ).loc Cert.StepSmallKernelIdeal.main_arg15)
      ∧ r.2.mem ((c.tc : Thread Cert.StepSmallKernelIdeal.nD Cert.StepSmallKernelIdeal.τ).loc Cert.StepSmallKernelIdeal.main_arg16) = m ((c.tc : Thread Cert.StepSmallKernelIdeal.nD Cert.StepSmallKernelIdeal.τ).loc Cert.StepSmallKernelIdeal.main_arg16)
      ∧ r.2.mem ((c.tc : Thread Cert.StepSmallKernelIdeal.nD Cert.StepSmallKernelIdeal.τ).loc Cert.StepSmallKernelIdeal.main_arg17) = m ((c.tc : Thread Cert.StepSmallKernelIdeal.nD Cert.StepSmallKernelIdeal.τ).loc Cert.StepSmallKernelIdeal.main_arg17)
      ∧ r.2.mem ((c.tc : Thread Cert.StepSmallKernelIdeal.nD Cert.StepSmallKernelIdeal.τ).loc Cert.StepSmallKernelIdeal.main_arg18) = m ((c.tc : Thread Cert.StepSmallKernelIdeal.nD Cert.StepSmallKernelIdeal.τ).loc Cert.StepSmallKernelIdeal.main_arg18)
      ∧ r.2.mem ((c.tc : Thread Cert.StepSmallKernelIdeal.nD Cert.StepSmallKernelIdeal.τ).loc Cert.StepSmallKernelIdeal.main_arg19) = m ((c.tc : Thread Cert.StepSmallKernelIdeal.nD Cert.StepSmallKernelIdeal.τ).loc Cert.StepSmallKernelIdeal.main_arg19)
      ∧ r.2.mem ((c.tc : Thread Cert.StepSmallKernelIdeal.nD Cert.StepSmallKernelIdeal.τ).loc Cert.StepSmallKernelIdeal.main_arg20) = m ((c.tc : Thread Cert.StepSmallKernelIdeal.nD Cert.StepSmallKernelIdeal.τ).loc Cert.StepSmallKernelIdeal.main_arg20)
      ∧ r.2.mem ((c.tc : Thread Cert.StepSmallKernelIdeal.nD Cert.StepSmallKernelIdeal.τ).loc Cert.StepSmallKernelIdeal.main_arg21) = m ((c.tc : Thread Cert.StepSmallKernelIdeal.nD Cert.StepSmallKernelIdeal.τ).loc Cert.StepSmallKernelIdeal.main_arg21)
      ∧ r.2.mem ((c.tc : Thread Cert.StepSmallKernelIdeal.nD Cert.StepSmallKernelIdeal.τ).loc Cert.StepSmallKernelIdeal.main_arg22) = m ((c.tc : Thread Cert.StepSmallKernelIdeal.nD Cert.StepSmallKernelIdeal.τ).loc Cert.StepSmallKernelIdeal.main_arg22)
      ∧ r.2.mem ((c.tc : Thread Cert.StepSmallKernelIdeal.nD Cert.StepSmallKernelIdeal.τ).loc Cert.StepSmallKernelIdeal.main_arg23) = m ((c.tc : Thread Cert.StepSmallKernelIdeal.nD Cert.StepSmallKernelIdeal.τ).loc Cert.StepSmallKernelIdeal.main_arg23)
      ∧ r.2.mem ((c.tc : Thread Cert.StepSmallKernelIdeal.nD Cert.StepSmallKernelIdeal.τ).loc Cert.StepSmallKernelIdeal.main_arg24) = m ((c.tc : Thread Cert.StepSmallKernelIdeal.nD Cert.StepSmallKernelIdeal.τ).loc Cert.StepSmallKernelIdeal.main_arg24)
      ∧ r.2.mem ((c.tc : Thread Cert.StepSmallKernelIdeal.nD Cert.StepSmallKernelIdeal.τ).loc Cert.StepSmallKernelIdeal.main_arg25) = m ((c.tc : Thread Cert.StepSmallKernelIdeal.nD Cert.StepSmallKernelIdeal.τ).loc Cert.StepSmallKernelIdeal.main_arg25)
      ∧ r.2.mem ((c.tc : Thread Cert.StepSmallKernelIdeal.nD Cert.StepSmallKernelIdeal.τ).loc Cert.StepSmallKernelIdeal.main_arg26) = m ((c.tc : Thread Cert.StepSmallKernelIdeal.nD Cert.StepSmallKernelIdeal.τ).loc Cert.StepSmallKernelIdeal.main_arg26)
      ∧ r.2.mem ((c.tc : Thread Cert.StepSmallKernelIdeal.nD Cert.StepSmallKernelIdeal.τ).loc Cert.StepSmallKernelIdeal.main_arg27) = m ((c.tc : Thread Cert.StepSmallKernelIdeal.nD Cert.StepSmallKernelIdeal.τ).loc Cert.StepSmallKernelIdeal.main_arg27)
      ∧ r.2.mem ((c.tc : Thread Cert.StepSmallKernelIdeal.nD Cert.StepSmallKernelIdeal.τ).loc Cert.StepSmallKernelIdeal.main_arg28) = m ((c.tc : Thread Cert.StepSmallKernelIdeal.nD Cert.StepSmallKernelIdeal.τ).loc Cert.StepSmallKernelIdeal.main_arg28)
      ∧ r.2.mem ((c.tc : Thread Cert.StepSmallKernelIdeal.nD Cert.StepSmallKernelIdeal.τ).loc Cert.StepSmallKernelIdeal.main_arg29) = m ((c.tc : Thread Cert.StepSmallKernelIdeal.nD Cert.StepSmallKernelIdeal.τ).loc Cert.StepSmallKernelIdeal.main_arg29)
      ∧ r.2.mem ((c.tc : Thread Cert.StepSmallKernelIdeal.nD Cert.StepSmallKernelIdeal.τ).loc Cert.StepSmallKernelIdeal.main_arg30) = m ((c.tc : Thread Cert.StepSmallKernelIdeal.nD Cert.StepSmallKernelIdeal.τ).loc Cert.StepSmallKernelIdeal.main_arg30)
      ∧ r.2.mem ((c.tc : Thread Cert.StepSmallKernelIdeal.nD Cert.StepSmallKernelIdeal.τ).loc Cert.StepSmallKernelIdeal.main_arg31) = m ((c.tc : Thread Cert.StepSmallKernelIdeal.nD Cert.StepSmallKernelIdeal.τ).loc Cert.StepSmallKernelIdeal.main_arg31)
      ∧ r.2.mem ((c.tc : Thread Cert.StepSmallKernelIdeal.nD Cert.StepSmallKernelIdeal.τ).loc Cert.StepSmallKernelIdeal.main_arg32) = m ((c.tc : Thread Cert.StepSmallKernelIdeal.nD Cert.StepSmallKernelIdeal.τ).loc Cert.StepSmallKernelIdeal.main_arg32)
      ∧ r.2.mem ((c.tc : Thread Cert.StepSmallKernelIdeal.nD Cert.StepSmallKernelIdeal.τ).loc Cert.StepSmallKernelIdeal.main_arg33) = m ((c.tc : Thread Cert.StepSmallKernelIdeal.nD Cert.StepSmallKernelIdeal.τ).loc Cert.StepSmallKernelIdeal.main_arg33)
      ∧ r.2.mem ((c.tc : Thread Cert.StepSmallKernelIdeal.nD Cert.StepSmallKernelIdeal.τ).loc Cert.StepSmallKernelIdeal.main_arg34) = m ((c.tc : Thread Cert.StepSmallKernelIdeal.nD Cert.StepSmallKernelIdeal.τ).loc Cert.StepSmallKernelIdeal.main_arg34)
      ∧ r.2.mem ((c.tc : Thread Cert.StepSmallKernelIdeal.nD Cert.StepSmallKernelIdeal.τ).loc Cert.StepSmallKernelIdeal.main_arg35) = m ((c.tc : Thread Cert.StepSmallKernelIdeal.nD Cert.StepSmallKernelIdeal.τ).loc Cert.StepSmallKernelIdeal.main_arg35)
      ∧ r.2.mem ((c.tc : Thread Cert.StepSmallKernelIdeal.nD Cert.StepSmallKernelIdeal.τ).loc Cert.StepSmallKernelIdeal.main_arg36) = m ((c.tc : Thread Cert.StepSmallKernelIdeal.nD Cert.StepSmallKernelIdeal.τ).loc Cert.StepSmallKernelIdeal.main_arg36)
      ∧ r.2.mem ((c.tc : Thread Cert.StepSmallKernelIdeal.nD Cert.StepSmallKernelIdeal.τ).loc Cert.StepSmallKernelIdeal.main_arg37) = m ((c.tc : Thread Cert.StepSmallKernelIdeal.nD Cert.StepSmallKernelIdeal.τ).loc Cert.StepSmallKernelIdeal.main_arg37)
      ∧ r.2.mem ((c.tc : Thread Cert.StepSmallKernelIdeal.nD Cert.StepSmallKernelIdeal.τ).loc Cert.StepSmallKernelIdeal.main_arg38) = m ((c.tc : Thread Cert.StepSmallKernelIdeal.nD Cert.StepSmallKernelIdeal.τ).loc Cert.StepSmallKernelIdeal.main_arg38)
      ∧ r.2.mem ((c.tc : Thread Cert.StepSmallKernelIdeal.nD Cert.StepSmallKernelIdeal.τ).loc Cert.StepSmallKernelIdeal.main_arg39) = m ((c.tc : Thread Cert.StepSmallKernelIdeal.nD Cert.StepSmallKernelIdeal.τ).loc Cert.StepSmallKernelIdeal.main_arg39)
      ∧ r.2.mem ((c.tc : Thread Cert.StepSmallKernelIdeal.nD Cert.StepSmallKernelIdeal.τ).loc Cert.StepSmallKernelIdeal.main_arg40) = m ((c.tc : Thread Cert.StepSmallKernelIdeal.nD Cert.StepSmallKernelIdeal.τ).loc Cert.StepSmallKernelIdeal.main_arg40)
      ∧ r.2.mem ((c.tc : Thread Cert.StepSmallKernelIdeal.nD Cert.StepSmallKernelIdeal.τ).loc Cert.StepSmallKernelIdeal.main_arg41) = m ((c.tc : Thread Cert.StepSmallKernelIdeal.nD Cert.StepSmallKernelIdeal.τ).loc Cert.StepSmallKernelIdeal.main_arg41)
      ∧ r.2.mem ((c.tc : Thread Cert.StepSmallKernelIdeal.nD Cert.StepSmallKernelIdeal.τ).loc Cert.StepSmallKernelIdeal.main_arg42) = m ((c.tc : Thread Cert.StepSmallKernelIdeal.nD Cert.StepSmallKernelIdeal.τ).loc Cert.StepSmallKernelIdeal.main_arg42)
      ∧ r.2.mem ((c.tc : Thread Cert.StepSmallKernelIdeal.nD Cert.StepSmallKernelIdeal.τ).loc Cert.StepSmallKernelIdeal.main_arg43) = m ((c.tc : Thread Cert.StepSmallKernelIdeal.nD Cert.StepSmallKernelIdeal.τ).loc Cert.StepSmallKernelIdeal.main_arg43)
      ∧ r.2.mem ((c.tc : Thread Cert.StepSmallKernelIdeal.nD Cert.StepSmallKernelIdeal.τ).loc Cert.StepSmallKernelIdeal.main_arg44) = m ((c.tc : Thread Cert.StepSmallKernelIdeal.nD Cert.StepSmallKernelIdeal.τ).loc Cert.StepSmallKernelIdeal.main_arg44)
      ∧ r.2.mem ((c.tc : Thread Cert.StepSmallKernelIdeal.nD Cert.StepSmallKernelIdeal.τ).loc Cert.StepSmallKernelIdeal.main_arg45) = m ((c.tc : Thread Cert.StepSmallKernelIdeal.nD Cert.StepSmallKernelIdeal.τ).loc Cert.StepSmallKernelIdeal.main_arg45)
      ∧ r.2.mem ((c.tc : Thread Cert.StepSmallKernelIdeal.nD Cert.StepSmallKernelIdeal.τ).loc Cert.StepSmallKernelIdeal.main_arg46) = m ((c.tc : Thread Cert.StepSmallKernelIdeal.nD Cert.StepSmallKernelIdeal.τ).loc Cert.StepSmallKernelIdeal.main_arg46)
      ∧ r.2.mem ((c.tc : Thread Cert.StepSmallKernelIdeal.nD Cert.StepSmallKernelIdeal.τ).loc Cert.StepSmallKernelIdeal.main_arg47) = m ((c.tc : Thread Cert.StepSmallKernelIdeal.nD Cert.StepSmallKernelIdeal.τ).loc Cert.StepSmallKernelIdeal.main_arg47)
      ∧ r.2.mem ((c.tc : Thread Cert.StepSmallKernelIdeal.nD Cert.StepSmallKernelIdeal.τ).loc Cert.StepSmallKernelIdeal.main_arg48) = m ((c.tc : Thread Cert.StepSmallKernelIdeal.nD Cert.StepSmallKernelIdeal.τ).loc Cert.StepSmallKernelIdeal.main_arg48)
      ∧ r.2.mem ((c.tc : Thread Cert.StepSmallKernelIdeal.nD Cert.StepSmallKernelIdeal.τ).loc Cert.StepSmallKernelIdeal.main_arg49) = m ((c.tc : Thread Cert.StepSmallKernelIdeal.nD Cert.StepSmallKernelIdeal.τ).loc Cert.StepSmallKernelIdeal.main_arg49)
      ∧ r.2.mem ((c.tc : Thread Cert.StepSmallKernelIdeal.nD Cert.StepSmallKernelIdeal.τ).loc Cert.StepSmallKernelIdeal.main_arg50) = m ((c.tc : Thread Cert.StepSmallKernelIdeal.nD Cert.StepSmallKernelIdeal.τ).loc Cert.StepSmallKernelIdeal.main_arg50)
      ∧ r.2.mem ((c.tc : Thread Cert.StepSmallKernelIdeal.nD Cert.StepSmallKernelIdeal.τ).loc Cert.StepSmallKernelIdeal.main_arg51) = m ((c.tc : Thread Cert.StepSmallKernelIdeal.nD Cert.StepSmallKernelIdeal.τ).loc Cert.StepSmallKernelIdeal.main_arg51)
      ∧ r.2.mem ((c.tc : Thread Cert.StepSmallKernelIdeal.nD Cert.StepSmallKernelIdeal.τ).loc Cert.StepSmallKernelIdeal.main_arg52) = m ((c.tc : Thread Cert.StepSmallKernelIdeal.nD Cert.StepSmallKernelIdeal.τ).loc Cert.StepSmallKernelIdeal.main_arg52)
      ∧ r.2.mem ((c.tc : Thread Cert.StepSmallKernelIdeal.nD Cert.StepSmallKernelIdeal.τ).loc Cert.StepSmallKernelIdeal.main_arg53) = m ((c.tc : Thread Cert.StepSmallKernelIdeal.nD Cert.StepSmallKernelIdeal.τ).loc Cert.StepSmallKernelIdeal.main_arg53)
      ∧ r.2.mem ((c.tc : Thread Cert.StepSmallKernelIdeal.nD Cert.StepSmallKernelIdeal.τ).loc Cert.StepSmallKernelIdeal.main_arg54) = m ((c.tc : Thread Cert.StepSmallKernelIdeal.nD Cert.StepSmallKernelIdeal.τ).loc Cert.StepSmallKernelIdeal.main_arg54)
      ∧ r.2.mem ((c.tc : Thread Cert.StepSmallKernelIdeal.nD Cert.StepSmallKernelIdeal.τ).loc Cert.StepSmallKernelIdeal.main_arg55) = m ((c.tc : Thread Cert.StepSmallKernelIdeal.nD Cert.StepSmallKernelIdeal.τ).loc Cert.StepSmallKernelIdeal.main_arg55)
      ∧ r.2.mem ((c.tc : Thread Cert.StepSmallKernelIdeal.nD Cert.StepSmallKernelIdeal.τ).loc Cert.StepSmallKernelIdeal.main_arg56) = m ((c.tc : Thread Cert.StepSmallKernelIdeal.nD Cert.StepSmallKernelIdeal.τ).loc Cert.StepSmallKernelIdeal.main_arg56)
      ∧ r.2.mem ((c.tc : Thread Cert.StepSmallKernelIdeal.nD Cert.StepSmallKernelIdeal.τ).loc Cert.StepSmallKernelIdeal.main_arg57) = m ((c.tc : Thread Cert.StepSmallKernelIdeal.nD Cert.StepSmallKernelIdeal.τ).loc Cert.StepSmallKernelIdeal.main_arg57)
      ∧ r.2.mem ((c.tc : Thread Cert.StepSmallKernelIdeal.nD Cert.StepSmallKernelIdeal.τ).loc Cert.StepSmallKernelIdeal.main_arg58) = m ((c.tc : Thread Cert.StepSmallKernelIdeal.nD Cert.StepSmallKernelIdeal.τ).loc Cert.StepSmallKernelIdeal.main_arg58)
      ∧ r.2.mem ((c.tc : Thread Cert.StepSmallKernelIdeal.nD Cert.StepSmallKernelIdeal.τ).loc Cert.StepSmallKernelIdeal.main_arg59) = m ((c.tc : Thread Cert.StepSmallKernelIdeal.nD Cert.StepSmallKernelIdeal.τ).loc Cert.StepSmallKernelIdeal.main_arg59)
      ∧ r.2.mem ((c.tc : Thread Cert.StepSmallKernelIdeal.nD Cert.StepSmallKernelIdeal.τ).loc Cert.StepSmallKernelIdeal.main_arg60) = m ((c.tc : Thread Cert.StepSmallKernelIdeal.nD Cert.StepSmallKernelIdeal.τ).loc Cert.StepSmallKernelIdeal.main_arg60)
      ∧ r.2.mem ((c.tc : Thread Cert.StepSmallKernelIdeal.nD Cert.StepSmallKernelIdeal.τ).loc Cert.StepSmallKernelIdeal.main_arg61) = m ((c.tc : Thread Cert.StepSmallKernelIdeal.nD Cert.StepSmallKernelIdeal.τ).loc Cert.StepSmallKernelIdeal.main_arg61)
      ∧ r.2.mem ((c.tc : Thread Cert.StepSmallKernelIdeal.nD Cert.StepSmallKernelIdeal.τ).loc Cert.StepSmallKernelIdeal.main_arg62) = m ((c.tc : Thread Cert.StepSmallKernelIdeal.nD Cert.StepSmallKernelIdeal.τ).loc Cert.StepSmallKernelIdeal.main_arg62)
      ∧ r.2.mem ((c.tc : Thread Cert.StepSmallKernelIdeal.nD Cert.StepSmallKernelIdeal.τ).loc Cert.StepSmallKernelIdeal.main_arg63) = m ((c.tc : Thread Cert.StepSmallKernelIdeal.nD Cert.StepSmallKernelIdeal.τ).loc Cert.StepSmallKernelIdeal.main_arg63)
      ∧ r.2.mem ((c.tc : Thread Cert.StepSmallKernelIdeal.nD Cert.StepSmallKernelIdeal.τ).loc Cert.StepSmallKernelIdeal.main_arg64) = m ((c.tc : Thread Cert.StepSmallKernelIdeal.nD Cert.StepSmallKernelIdeal.τ).loc Cert.StepSmallKernelIdeal.main_arg64)
      ∧ r.2.mem ((c.tc : Thread Cert.StepSmallKernelIdeal.nD Cert.StepSmallKernelIdeal.τ).loc Cert.StepSmallKernelIdeal.main_arg65) = m ((c.tc : Thread Cert.StepSmallKernelIdeal.nD Cert.StepSmallKernelIdeal.τ).loc Cert.StepSmallKernelIdeal.main_arg65)
      ∧ r.2.mem ((c.tc : Thread Cert.StepSmallKernelIdeal.nD Cert.StepSmallKernelIdeal.τ).loc Cert.StepSmallKernelIdeal.main_arg66) = m ((c.tc : Thread Cert.StepSmallKernelIdeal.nD Cert.StepSmallKernelIdeal.τ).loc Cert.StepSmallKernelIdeal.main_arg66)
      ∧ r.2.mem ((c.tc : Thread Cert.StepSmallKernelIdeal.nD Cert.StepSmallKernelIdeal.τ).loc Cert.StepSmallKernelIdeal.main_arg67) = m ((c.tc : Thread Cert.StepSmallKernelIdeal.nD Cert.StepSmallKernelIdeal.τ).loc Cert.StepSmallKernelIdeal.main_arg67)
      ∧ r.2.mem ((c.tc : Thread Cert.StepSmallKernelIdeal.nD Cert.StepSmallKernelIdeal.τ).loc Cert.StepSmallKernelIdeal.main_arg68) = m ((c.tc : Thread Cert.StepSmallKernelIdeal.nD Cert.StepSmallKernelIdeal.τ).loc Cert.StepSmallKernelIdeal.main_arg68)
      ∧ r.2.mem ((c.tc : Thread Cert.StepSmallKernelIdeal.nD Cert.StepSmallKernelIdeal.τ).loc Cert.StepSmallKernelIdeal.main_arg69) = m ((c.tc : Thread Cert.StepSmallKernelIdeal.nD Cert.StepSmallKernelIdeal.τ).loc Cert.StepSmallKernelIdeal.main_arg69)
      ∧ r.2.mem ((c.tc : Thread Cert.StepSmallKernelIdeal.nD Cert.StepSmallKernelIdeal.τ).loc Cert.StepSmallKernelIdeal.main_arg70) = m ((c.tc : Thread Cert.StepSmallKernelIdeal.nD Cert.StepSmallKernelIdeal.τ).loc Cert.StepSmallKernelIdeal.main_arg70)
      ∧ r.2.mem ((c.tc : Thread Cert.StepSmallKernelIdeal.nD Cert.StepSmallKernelIdeal.τ).loc Cert.StepSmallKernelIdeal.main_arg71) = m ((c.tc : Thread Cert.StepSmallKernelIdeal.nD Cert.StepSmallKernelIdeal.τ).loc Cert.StepSmallKernelIdeal.main_arg71)
      ∧ r.2.mem ((c.tc : Thread Cert.StepSmallKernelIdeal.nD Cert.StepSmallKernelIdeal.τ).loc Cert.StepSmallKernelIdeal.main_arg72) = m ((c.tc : Thread Cert.StepSmallKernelIdeal.nD Cert.StepSmallKernelIdeal.τ).loc Cert.StepSmallKernelIdeal.main_arg72)
      ∧ r.2.mem ((c.tc : Thread Cert.StepSmallKernelIdeal.nD Cert.StepSmallKernelIdeal.τ).loc Cert.StepSmallKernelIdeal.main_arg73) = m ((c.tc : Thread Cert.StepSmallKernelIdeal.nD Cert.StepSmallKernelIdeal.τ).loc Cert.StepSmallKernelIdeal.main_arg73)
      ∧ r.2.mem ((c.tc : Thread Cert.StepSmallKernelIdeal.nD Cert.StepSmallKernelIdeal.τ).loc Cert.StepSmallKernelIdeal.main_arg74) = m ((c.tc : Thread Cert.StepSmallKernelIdeal.nD Cert.StepSmallKernelIdeal.τ).loc Cert.StepSmallKernelIdeal.main_arg74)
      ∧ r.2.mem ((c.tc : Thread Cert.StepSmallKernelIdeal.nD Cert.StepSmallKernelIdeal.τ).loc Cert.StepSmallKernelIdeal.main_arg75) = m ((c.tc : Thread Cert.StepSmallKernelIdeal.nD Cert.StepSmallKernelIdeal.τ).loc Cert.StepSmallKernelIdeal.main_arg75))
      ∧ r.2.sem = fun _ => 0)

def quiescent_StepSmallReferenceIdeal [hStepSmallReferenceIdeal : Cert.StepSmallReferenceIdeal.Facts] : Prop :=
  ∀ (m : (ℓ : Loc Cert.StepSmallReferenceIdeal.nD Cert.StepSmallReferenceIdeal.τ Cert.StepSmallReferenceIdeal.sig) → Buf (Elt Ideal) ℓ) (g : Dev Cert.StepSmallReferenceIdeal.nD → PrngReg), Pre_StepSmallReferenceIdeal m →
    θ_run (Cert.StepSmallReferenceIdeal.defs (F := Ideal)) (onTc (τ := Cert.StepSmallReferenceIdeal.τ) (Cert.StepSmallReferenceIdeal.main (F := Ideal))) ⟨m, fun _ => 0, g⟩ (fun r => (∀ c : Dev Cert.StepSmallReferenceIdeal.nD,
      r.2.mem ((c.tc : Thread Cert.StepSmallReferenceIdeal.nD Cert.StepSmallReferenceIdeal.τ).loc Cert.StepSmallReferenceIdeal.main_arg0) = m ((c.tc : Thread Cert.StepSmallReferenceIdeal.nD Cert.StepSmallReferenceIdeal.τ).loc Cert.StepSmallReferenceIdeal.main_arg0)
      ∧ r.2.mem ((c.tc : Thread Cert.StepSmallReferenceIdeal.nD Cert.StepSmallReferenceIdeal.τ).loc Cert.StepSmallReferenceIdeal.main_arg1) = m ((c.tc : Thread Cert.StepSmallReferenceIdeal.nD Cert.StepSmallReferenceIdeal.τ).loc Cert.StepSmallReferenceIdeal.main_arg1)
      ∧ r.2.mem ((c.tc : Thread Cert.StepSmallReferenceIdeal.nD Cert.StepSmallReferenceIdeal.τ).loc Cert.StepSmallReferenceIdeal.main_arg2) = m ((c.tc : Thread Cert.StepSmallReferenceIdeal.nD Cert.StepSmallReferenceIdeal.τ).loc Cert.StepSmallReferenceIdeal.main_arg2)
      ∧ r.2.mem ((c.tc : Thread Cert.StepSmallReferenceIdeal.nD Cert.StepSmallReferenceIdeal.τ).loc Cert.StepSmallReferenceIdeal.main_arg3) = m ((c.tc : Thread Cert.StepSmallReferenceIdeal.nD Cert.StepSmallReferenceIdeal.τ).loc Cert.StepSmallReferenceIdeal.main_arg3)
      ∧ r.2.mem ((c.tc : Thread Cert.StepSmallReferenceIdeal.nD Cert.StepSmallReferenceIdeal.τ).loc Cert.StepSmallReferenceIdeal.main_arg4) = m ((c.tc : Thread Cert.StepSmallReferenceIdeal.nD Cert.StepSmallReferenceIdeal.τ).loc Cert.StepSmallReferenceIdeal.main_arg4)
      ∧ r.2.mem ((c.tc : Thread Cert.StepSmallReferenceIdeal.nD Cert.StepSmallReferenceIdeal.τ).loc Cert.StepSmallReferenceIdeal.main_arg5) = m ((c.tc : Thread Cert.StepSmallReferenceIdeal.nD Cert.StepSmallReferenceIdeal.τ).loc Cert.StepSmallReferenceIdeal.main_arg5)
      ∧ r.2.mem ((c.tc : Thread Cert.StepSmallReferenceIdeal.nD Cert.StepSmallReferenceIdeal.τ).loc Cert.StepSmallReferenceIdeal.main_arg6) = m ((c.tc : Thread Cert.StepSmallReferenceIdeal.nD Cert.StepSmallReferenceIdeal.τ).loc Cert.StepSmallReferenceIdeal.main_arg6)
      ∧ r.2.mem ((c.tc : Thread Cert.StepSmallReferenceIdeal.nD Cert.StepSmallReferenceIdeal.τ).loc Cert.StepSmallReferenceIdeal.main_arg7) = m ((c.tc : Thread Cert.StepSmallReferenceIdeal.nD Cert.StepSmallReferenceIdeal.τ).loc Cert.StepSmallReferenceIdeal.main_arg7)
      ∧ r.2.mem ((c.tc : Thread Cert.StepSmallReferenceIdeal.nD Cert.StepSmallReferenceIdeal.τ).loc Cert.StepSmallReferenceIdeal.main_arg8) = m ((c.tc : Thread Cert.StepSmallReferenceIdeal.nD Cert.StepSmallReferenceIdeal.τ).loc Cert.StepSmallReferenceIdeal.main_arg8)
      ∧ r.2.mem ((c.tc : Thread Cert.StepSmallReferenceIdeal.nD Cert.StepSmallReferenceIdeal.τ).loc Cert.StepSmallReferenceIdeal.main_arg9) = m ((c.tc : Thread Cert.StepSmallReferenceIdeal.nD Cert.StepSmallReferenceIdeal.τ).loc Cert.StepSmallReferenceIdeal.main_arg9)
      ∧ r.2.mem ((c.tc : Thread Cert.StepSmallReferenceIdeal.nD Cert.StepSmallReferenceIdeal.τ).loc Cert.StepSmallReferenceIdeal.main_arg10) = m ((c.tc : Thread Cert.StepSmallReferenceIdeal.nD Cert.StepSmallReferenceIdeal.τ).loc Cert.StepSmallReferenceIdeal.main_arg10)
      ∧ r.2.mem ((c.tc : Thread Cert.StepSmallReferenceIdeal.nD Cert.StepSmallReferenceIdeal.τ).loc Cert.StepSmallReferenceIdeal.main_arg11) = m ((c.tc : Thread Cert.StepSmallReferenceIdeal.nD Cert.StepSmallReferenceIdeal.τ).loc Cert.StepSmallReferenceIdeal.main_arg11)
      ∧ r.2.mem ((c.tc : Thread Cert.StepSmallReferenceIdeal.nD Cert.StepSmallReferenceIdeal.τ).loc Cert.StepSmallReferenceIdeal.main_arg12) = m ((c.tc : Thread Cert.StepSmallReferenceIdeal.nD Cert.StepSmallReferenceIdeal.τ).loc Cert.StepSmallReferenceIdeal.main_arg12)
      ∧ r.2.mem ((c.tc : Thread Cert.StepSmallReferenceIdeal.nD Cert.StepSmallReferenceIdeal.τ).loc Cert.StepSmallReferenceIdeal.main_arg13) = m ((c.tc : Thread Cert.StepSmallReferenceIdeal.nD Cert.StepSmallReferenceIdeal.τ).loc Cert.StepSmallReferenceIdeal.main_arg13)
      ∧ r.2.mem ((c.tc : Thread Cert.StepSmallReferenceIdeal.nD Cert.StepSmallReferenceIdeal.τ).loc Cert.StepSmallReferenceIdeal.main_arg14) = m ((c.tc : Thread Cert.StepSmallReferenceIdeal.nD Cert.StepSmallReferenceIdeal.τ).loc Cert.StepSmallReferenceIdeal.main_arg14)
      ∧ r.2.mem ((c.tc : Thread Cert.StepSmallReferenceIdeal.nD Cert.StepSmallReferenceIdeal.τ).loc Cert.StepSmallReferenceIdeal.main_arg15) = m ((c.tc : Thread Cert.StepSmallReferenceIdeal.nD Cert.StepSmallReferenceIdeal.τ).loc Cert.StepSmallReferenceIdeal.main_arg15)
      ∧ r.2.mem ((c.tc : Thread Cert.StepSmallReferenceIdeal.nD Cert.StepSmallReferenceIdeal.τ).loc Cert.StepSmallReferenceIdeal.main_arg16) = m ((c.tc : Thread Cert.StepSmallReferenceIdeal.nD Cert.StepSmallReferenceIdeal.τ).loc Cert.StepSmallReferenceIdeal.main_arg16)
      ∧ r.2.mem ((c.tc : Thread Cert.StepSmallReferenceIdeal.nD Cert.StepSmallReferenceIdeal.τ).loc Cert.StepSmallReferenceIdeal.main_arg17) = m ((c.tc : Thread Cert.StepSmallReferenceIdeal.nD Cert.StepSmallReferenceIdeal.τ).loc Cert.StepSmallReferenceIdeal.main_arg17)
      ∧ r.2.mem ((c.tc : Thread Cert.StepSmallReferenceIdeal.nD Cert.StepSmallReferenceIdeal.τ).loc Cert.StepSmallReferenceIdeal.main_arg18) = m ((c.tc : Thread Cert.StepSmallReferenceIdeal.nD Cert.StepSmallReferenceIdeal.τ).loc Cert.StepSmallReferenceIdeal.main_arg18)
      ∧ r.2.mem ((c.tc : Thread Cert.StepSmallReferenceIdeal.nD Cert.StepSmallReferenceIdeal.τ).loc Cert.StepSmallReferenceIdeal.main_arg19) = m ((c.tc : Thread Cert.StepSmallReferenceIdeal.nD Cert.StepSmallReferenceIdeal.τ).loc Cert.StepSmallReferenceIdeal.main_arg19)
      ∧ r.2.mem ((c.tc : Thread Cert.StepSmallReferenceIdeal.nD Cert.StepSmallReferenceIdeal.τ).loc Cert.StepSmallReferenceIdeal.main_arg20) = m ((c.tc : Thread Cert.StepSmallReferenceIdeal.nD Cert.StepSmallReferenceIdeal.τ).loc Cert.StepSmallReferenceIdeal.main_arg20)
      ∧ r.2.mem ((c.tc : Thread Cert.StepSmallReferenceIdeal.nD Cert.StepSmallReferenceIdeal.τ).loc Cert.StepSmallReferenceIdeal.main_arg21) = m ((c.tc : Thread Cert.StepSmallReferenceIdeal.nD Cert.StepSmallReferenceIdeal.τ).loc Cert.StepSmallReferenceIdeal.main_arg21)
      ∧ r.2.mem ((c.tc : Thread Cert.StepSmallReferenceIdeal.nD Cert.StepSmallReferenceIdeal.τ).loc Cert.StepSmallReferenceIdeal.main_arg22) = m ((c.tc : Thread Cert.StepSmallReferenceIdeal.nD Cert.StepSmallReferenceIdeal.τ).loc Cert.StepSmallReferenceIdeal.main_arg22)
      ∧ r.2.mem ((c.tc : Thread Cert.StepSmallReferenceIdeal.nD Cert.StepSmallReferenceIdeal.τ).loc Cert.StepSmallReferenceIdeal.main_arg23) = m ((c.tc : Thread Cert.StepSmallReferenceIdeal.nD Cert.StepSmallReferenceIdeal.τ).loc Cert.StepSmallReferenceIdeal.main_arg23)
      ∧ r.2.mem ((c.tc : Thread Cert.StepSmallReferenceIdeal.nD Cert.StepSmallReferenceIdeal.τ).loc Cert.StepSmallReferenceIdeal.main_arg24) = m ((c.tc : Thread Cert.StepSmallReferenceIdeal.nD Cert.StepSmallReferenceIdeal.τ).loc Cert.StepSmallReferenceIdeal.main_arg24)
      ∧ r.2.mem ((c.tc : Thread Cert.StepSmallReferenceIdeal.nD Cert.StepSmallReferenceIdeal.τ).loc Cert.StepSmallReferenceIdeal.main_arg25) = m ((c.tc : Thread Cert.StepSmallReferenceIdeal.nD Cert.StepSmallReferenceIdeal.τ).loc Cert.StepSmallReferenceIdeal.main_arg25)
      ∧ r.2.mem ((c.tc : Thread Cert.StepSmallReferenceIdeal.nD Cert.StepSmallReferenceIdeal.τ).loc Cert.StepSmallReferenceIdeal.main_arg26) = m ((c.tc : Thread Cert.StepSmallReferenceIdeal.nD Cert.StepSmallReferenceIdeal.τ).loc Cert.StepSmallReferenceIdeal.main_arg26)
      ∧ r.2.mem ((c.tc : Thread Cert.StepSmallReferenceIdeal.nD Cert.StepSmallReferenceIdeal.τ).loc Cert.StepSmallReferenceIdeal.main_arg27) = m ((c.tc : Thread Cert.StepSmallReferenceIdeal.nD Cert.StepSmallReferenceIdeal.τ).loc Cert.StepSmallReferenceIdeal.main_arg27)
      ∧ r.2.mem ((c.tc : Thread Cert.StepSmallReferenceIdeal.nD Cert.StepSmallReferenceIdeal.τ).loc Cert.StepSmallReferenceIdeal.main_arg28) = m ((c.tc : Thread Cert.StepSmallReferenceIdeal.nD Cert.StepSmallReferenceIdeal.τ).loc Cert.StepSmallReferenceIdeal.main_arg28)
      ∧ r.2.mem ((c.tc : Thread Cert.StepSmallReferenceIdeal.nD Cert.StepSmallReferenceIdeal.τ).loc Cert.StepSmallReferenceIdeal.main_arg29) = m ((c.tc : Thread Cert.StepSmallReferenceIdeal.nD Cert.StepSmallReferenceIdeal.τ).loc Cert.StepSmallReferenceIdeal.main_arg29)
      ∧ r.2.mem ((c.tc : Thread Cert.StepSmallReferenceIdeal.nD Cert.StepSmallReferenceIdeal.τ).loc Cert.StepSmallReferenceIdeal.main_arg30) = m ((c.tc : Thread Cert.StepSmallReferenceIdeal.nD Cert.StepSmallReferenceIdeal.τ).loc Cert.StepSmallReferenceIdeal.main_arg30)
      ∧ r.2.mem ((c.tc : Thread Cert.StepSmallReferenceIdeal.nD Cert.StepSmallReferenceIdeal.τ).loc Cert.StepSmallReferenceIdeal.main_arg31) = m ((c.tc : Thread Cert.StepSmallReferenceIdeal.nD Cert.StepSmallReferenceIdeal.τ).loc Cert.StepSmallReferenceIdeal.main_arg31)
      ∧ r.2.mem ((c.tc : Thread Cert.StepSmallReferenceIdeal.nD Cert.StepSmallReferenceIdeal.τ).loc Cert.StepSmallReferenceIdeal.main_arg32) = m ((c.tc : Thread Cert.StepSmallReferenceIdeal.nD Cert.StepSmallReferenceIdeal.τ).loc Cert.StepSmallReferenceIdeal.main_arg32)
      ∧ r.2.mem ((c.tc : Thread Cert.StepSmallReferenceIdeal.nD Cert.StepSmallReferenceIdeal.τ).loc Cert.StepSmallReferenceIdeal.main_arg33) = m ((c.tc : Thread Cert.StepSmallReferenceIdeal.nD Cert.StepSmallReferenceIdeal.τ).loc Cert.StepSmallReferenceIdeal.main_arg33)
      ∧ r.2.mem ((c.tc : Thread Cert.StepSmallReferenceIdeal.nD Cert.StepSmallReferenceIdeal.τ).loc Cert.StepSmallReferenceIdeal.main_arg34) = m ((c.tc : Thread Cert.StepSmallReferenceIdeal.nD Cert.StepSmallReferenceIdeal.τ).loc Cert.StepSmallReferenceIdeal.main_arg34)
      ∧ r.2.mem ((c.tc : Thread Cert.StepSmallReferenceIdeal.nD Cert.StepSmallReferenceIdeal.τ).loc Cert.StepSmallReferenceIdeal.main_arg35) = m ((c.tc : Thread Cert.StepSmallReferenceIdeal.nD Cert.StepSmallReferenceIdeal.τ).loc Cert.StepSmallReferenceIdeal.main_arg35)
      ∧ r.2.mem ((c.tc : Thread Cert.StepSmallReferenceIdeal.nD Cert.StepSmallReferenceIdeal.τ).loc Cert.StepSmallReferenceIdeal.main_arg36) = m ((c.tc : Thread Cert.StepSmallReferenceIdeal.nD Cert.StepSmallReferenceIdeal.τ).loc Cert.StepSmallReferenceIdeal.main_arg36)
      ∧ r.2.mem ((c.tc : Thread Cert.StepSmallReferenceIdeal.nD Cert.StepSmallReferenceIdeal.τ).loc Cert.StepSmallReferenceIdeal.main_arg37) = m ((c.tc : Thread Cert.StepSmallReferenceIdeal.nD Cert.StepSmallReferenceIdeal.τ).loc Cert.StepSmallReferenceIdeal.main_arg37)
      ∧ r.2.mem ((c.tc : Thread Cert.StepSmallReferenceIdeal.nD Cert.StepSmallReferenceIdeal.τ).loc Cert.StepSmallReferenceIdeal.main_arg38) = m ((c.tc : Thread Cert.StepSmallReferenceIdeal.nD Cert.StepSmallReferenceIdeal.τ).loc Cert.StepSmallReferenceIdeal.main_arg38)
      ∧ r.2.mem ((c.tc : Thread Cert.StepSmallReferenceIdeal.nD Cert.StepSmallReferenceIdeal.τ).loc Cert.StepSmallReferenceIdeal.main_arg39) = m ((c.tc : Thread Cert.StepSmallReferenceIdeal.nD Cert.StepSmallReferenceIdeal.τ).loc Cert.StepSmallReferenceIdeal.main_arg39)
      ∧ r.2.mem ((c.tc : Thread Cert.StepSmallReferenceIdeal.nD Cert.StepSmallReferenceIdeal.τ).loc Cert.StepSmallReferenceIdeal.main_arg40) = m ((c.tc : Thread Cert.StepSmallReferenceIdeal.nD Cert.StepSmallReferenceIdeal.τ).loc Cert.StepSmallReferenceIdeal.main_arg40)
      ∧ r.2.mem ((c.tc : Thread Cert.StepSmallReferenceIdeal.nD Cert.StepSmallReferenceIdeal.τ).loc Cert.StepSmallReferenceIdeal.main_arg41) = m ((c.tc : Thread Cert.StepSmallReferenceIdeal.nD Cert.StepSmallReferenceIdeal.τ).loc Cert.StepSmallReferenceIdeal.main_arg41)
      ∧ r.2.mem ((c.tc : Thread Cert.StepSmallReferenceIdeal.nD Cert.StepSmallReferenceIdeal.τ).loc Cert.StepSmallReferenceIdeal.main_arg42) = m ((c.tc : Thread Cert.StepSmallReferenceIdeal.nD Cert.StepSmallReferenceIdeal.τ).loc Cert.StepSmallReferenceIdeal.main_arg42)
      ∧ r.2.mem ((c.tc : Thread Cert.StepSmallReferenceIdeal.nD Cert.StepSmallReferenceIdeal.τ).loc Cert.StepSmallReferenceIdeal.main_arg43) = m ((c.tc : Thread Cert.StepSmallReferenceIdeal.nD Cert.StepSmallReferenceIdeal.τ).loc Cert.StepSmallReferenceIdeal.main_arg43)
      ∧ r.2.mem ((c.tc : Thread Cert.StepSmallReferenceIdeal.nD Cert.StepSmallReferenceIdeal.τ).loc Cert.StepSmallReferenceIdeal.main_arg44) = m ((c.tc : Thread Cert.StepSmallReferenceIdeal.nD Cert.StepSmallReferenceIdeal.τ).loc Cert.StepSmallReferenceIdeal.main_arg44)
      ∧ r.2.mem ((c.tc : Thread Cert.StepSmallReferenceIdeal.nD Cert.StepSmallReferenceIdeal.τ).loc Cert.StepSmallReferenceIdeal.main_arg45) = m ((c.tc : Thread Cert.StepSmallReferenceIdeal.nD Cert.StepSmallReferenceIdeal.τ).loc Cert.StepSmallReferenceIdeal.main_arg45)
      ∧ r.2.mem ((c.tc : Thread Cert.StepSmallReferenceIdeal.nD Cert.StepSmallReferenceIdeal.τ).loc Cert.StepSmallReferenceIdeal.main_arg46) = m ((c.tc : Thread Cert.StepSmallReferenceIdeal.nD Cert.StepSmallReferenceIdeal.τ).loc Cert.StepSmallReferenceIdeal.main_arg46)
      ∧ r.2.mem ((c.tc : Thread Cert.StepSmallReferenceIdeal.nD Cert.StepSmallReferenceIdeal.τ).loc Cert.StepSmallReferenceIdeal.main_arg47) = m ((c.tc : Thread Cert.StepSmallReferenceIdeal.nD Cert.StepSmallReferenceIdeal.τ).loc Cert.StepSmallReferenceIdeal.main_arg47)
      ∧ r.2.mem ((c.tc : Thread Cert.StepSmallReferenceIdeal.nD Cert.StepSmallReferenceIdeal.τ).loc Cert.StepSmallReferenceIdeal.main_arg48) = m ((c.tc : Thread Cert.StepSmallReferenceIdeal.nD Cert.StepSmallReferenceIdeal.τ).loc Cert.StepSmallReferenceIdeal.main_arg48)
      ∧ r.2.mem ((c.tc : Thread Cert.StepSmallReferenceIdeal.nD Cert.StepSmallReferenceIdeal.τ).loc Cert.StepSmallReferenceIdeal.main_arg49) = m ((c.tc : Thread Cert.StepSmallReferenceIdeal.nD Cert.StepSmallReferenceIdeal.τ).loc Cert.StepSmallReferenceIdeal.main_arg49)
      ∧ r.2.mem ((c.tc : Thread Cert.StepSmallReferenceIdeal.nD Cert.StepSmallReferenceIdeal.τ).loc Cert.StepSmallReferenceIdeal.main_arg50) = m ((c.tc : Thread Cert.StepSmallReferenceIdeal.nD Cert.StepSmallReferenceIdeal.τ).loc Cert.StepSmallReferenceIdeal.main_arg50)
      ∧ r.2.mem ((c.tc : Thread Cert.StepSmallReferenceIdeal.nD Cert.StepSmallReferenceIdeal.τ).loc Cert.StepSmallReferenceIdeal.main_arg51) = m ((c.tc : Thread Cert.StepSmallReferenceIdeal.nD Cert.StepSmallReferenceIdeal.τ).loc Cert.StepSmallReferenceIdeal.main_arg51)
      ∧ r.2.mem ((c.tc : Thread Cert.StepSmallReferenceIdeal.nD Cert.StepSmallReferenceIdeal.τ).loc Cert.StepSmallReferenceIdeal.main_arg52) = m ((c.tc : Thread Cert.StepSmallReferenceIdeal.nD Cert.StepSmallReferenceIdeal.τ).loc Cert.StepSmallReferenceIdeal.main_arg52)
      ∧ r.2.mem ((c.tc : Thread Cert.StepSmallReferenceIdeal.nD Cert.StepSmallReferenceIdeal.τ).loc Cert.StepSmallReferenceIdeal.main_arg53) = m ((c.tc : Thread Cert.StepSmallReferenceIdeal.nD Cert.StepSmallReferenceIdeal.τ).loc Cert.StepSmallReferenceIdeal.main_arg53)
      ∧ r.2.mem ((c.tc : Thread Cert.StepSmallReferenceIdeal.nD Cert.StepSmallReferenceIdeal.τ).loc Cert.StepSmallReferenceIdeal.main_arg54) = m ((c.tc : Thread Cert.StepSmallReferenceIdeal.nD Cert.StepSmallReferenceIdeal.τ).loc Cert.StepSmallReferenceIdeal.main_arg54)
      ∧ r.2.mem ((c.tc : Thread Cert.StepSmallReferenceIdeal.nD Cert.StepSmallReferenceIdeal.τ).loc Cert.StepSmallReferenceIdeal.main_arg55) = m ((c.tc : Thread Cert.StepSmallReferenceIdeal.nD Cert.StepSmallReferenceIdeal.τ).loc Cert.StepSmallReferenceIdeal.main_arg55)
      ∧ r.2.mem ((c.tc : Thread Cert.StepSmallReferenceIdeal.nD Cert.StepSmallReferenceIdeal.τ).loc Cert.StepSmallReferenceIdeal.main_arg56) = m ((c.tc : Thread Cert.StepSmallReferenceIdeal.nD Cert.StepSmallReferenceIdeal.τ).loc Cert.StepSmallReferenceIdeal.main_arg56)
      ∧ r.2.mem ((c.tc : Thread Cert.StepSmallReferenceIdeal.nD Cert.StepSmallReferenceIdeal.τ).loc Cert.StepSmallReferenceIdeal.main_arg57) = m ((c.tc : Thread Cert.StepSmallReferenceIdeal.nD Cert.StepSmallReferenceIdeal.τ).loc Cert.StepSmallReferenceIdeal.main_arg57)
      ∧ r.2.mem ((c.tc : Thread Cert.StepSmallReferenceIdeal.nD Cert.StepSmallReferenceIdeal.τ).loc Cert.StepSmallReferenceIdeal.main_arg58) = m ((c.tc : Thread Cert.StepSmallReferenceIdeal.nD Cert.StepSmallReferenceIdeal.τ).loc Cert.StepSmallReferenceIdeal.main_arg58)
      ∧ r.2.mem ((c.tc : Thread Cert.StepSmallReferenceIdeal.nD Cert.StepSmallReferenceIdeal.τ).loc Cert.StepSmallReferenceIdeal.main_arg59) = m ((c.tc : Thread Cert.StepSmallReferenceIdeal.nD Cert.StepSmallReferenceIdeal.τ).loc Cert.StepSmallReferenceIdeal.main_arg59)
      ∧ r.2.mem ((c.tc : Thread Cert.StepSmallReferenceIdeal.nD Cert.StepSmallReferenceIdeal.τ).loc Cert.StepSmallReferenceIdeal.main_arg60) = m ((c.tc : Thread Cert.StepSmallReferenceIdeal.nD Cert.StepSmallReferenceIdeal.τ).loc Cert.StepSmallReferenceIdeal.main_arg60)
      ∧ r.2.mem ((c.tc : Thread Cert.StepSmallReferenceIdeal.nD Cert.StepSmallReferenceIdeal.τ).loc Cert.StepSmallReferenceIdeal.main_arg61) = m ((c.tc : Thread Cert.StepSmallReferenceIdeal.nD Cert.StepSmallReferenceIdeal.τ).loc Cert.StepSmallReferenceIdeal.main_arg61)
      ∧ r.2.mem ((c.tc : Thread Cert.StepSmallReferenceIdeal.nD Cert.StepSmallReferenceIdeal.τ).loc Cert.StepSmallReferenceIdeal.main_arg62) = m ((c.tc : Thread Cert.StepSmallReferenceIdeal.nD Cert.StepSmallReferenceIdeal.τ).loc Cert.StepSmallReferenceIdeal.main_arg62)
      ∧ r.2.mem ((c.tc : Thread Cert.StepSmallReferenceIdeal.nD Cert.StepSmallReferenceIdeal.τ).loc Cert.StepSmallReferenceIdeal.main_arg63) = m ((c.tc : Thread Cert.StepSmallReferenceIdeal.nD Cert.StepSmallReferenceIdeal.τ).loc Cert.StepSmallReferenceIdeal.main_arg63)
      ∧ r.2.mem ((c.tc : Thread Cert.StepSmallReferenceIdeal.nD Cert.StepSmallReferenceIdeal.τ).loc Cert.StepSmallReferenceIdeal.main_arg64) = m ((c.tc : Thread Cert.StepSmallReferenceIdeal.nD Cert.StepSmallReferenceIdeal.τ).loc Cert.StepSmallReferenceIdeal.main_arg64)
      ∧ r.2.mem ((c.tc : Thread Cert.StepSmallReferenceIdeal.nD Cert.StepSmallReferenceIdeal.τ).loc Cert.StepSmallReferenceIdeal.main_arg65) = m ((c.tc : Thread Cert.StepSmallReferenceIdeal.nD Cert.StepSmallReferenceIdeal.τ).loc Cert.StepSmallReferenceIdeal.main_arg65)
      ∧ r.2.mem ((c.tc : Thread Cert.StepSmallReferenceIdeal.nD Cert.StepSmallReferenceIdeal.τ).loc Cert.StepSmallReferenceIdeal.main_arg66) = m ((c.tc : Thread Cert.StepSmallReferenceIdeal.nD Cert.StepSmallReferenceIdeal.τ).loc Cert.StepSmallReferenceIdeal.main_arg66)
      ∧ r.2.mem ((c.tc : Thread Cert.StepSmallReferenceIdeal.nD Cert.StepSmallReferenceIdeal.τ).loc Cert.StepSmallReferenceIdeal.main_arg67) = m ((c.tc : Thread Cert.StepSmallReferenceIdeal.nD Cert.StepSmallReferenceIdeal.τ).loc Cert.StepSmallReferenceIdeal.main_arg67)
      ∧ r.2.mem ((c.tc : Thread Cert.StepSmallReferenceIdeal.nD Cert.StepSmallReferenceIdeal.τ).loc Cert.StepSmallReferenceIdeal.main_arg68) = m ((c.tc : Thread Cert.StepSmallReferenceIdeal.nD Cert.StepSmallReferenceIdeal.τ).loc Cert.StepSmallReferenceIdeal.main_arg68)
      ∧ r.2.mem ((c.tc : Thread Cert.StepSmallReferenceIdeal.nD Cert.StepSmallReferenceIdeal.τ).loc Cert.StepSmallReferenceIdeal.main_arg69) = m ((c.tc : Thread Cert.StepSmallReferenceIdeal.nD Cert.StepSmallReferenceIdeal.τ).loc Cert.StepSmallReferenceIdeal.main_arg69)
      ∧ r.2.mem ((c.tc : Thread Cert.StepSmallReferenceIdeal.nD Cert.StepSmallReferenceIdeal.τ).loc Cert.StepSmallReferenceIdeal.main_arg70) = m ((c.tc : Thread Cert.StepSmallReferenceIdeal.nD Cert.StepSmallReferenceIdeal.τ).loc Cert.StepSmallReferenceIdeal.main_arg70)
      ∧ r.2.mem ((c.tc : Thread Cert.StepSmallReferenceIdeal.nD Cert.StepSmallReferenceIdeal.τ).loc Cert.StepSmallReferenceIdeal.main_arg71) = m ((c.tc : Thread Cert.StepSmallReferenceIdeal.nD Cert.StepSmallReferenceIdeal.τ).loc Cert.StepSmallReferenceIdeal.main_arg71)
      ∧ r.2.mem ((c.tc : Thread Cert.StepSmallReferenceIdeal.nD Cert.StepSmallReferenceIdeal.τ).loc Cert.StepSmallReferenceIdeal.main_arg72) = m ((c.tc : Thread Cert.StepSmallReferenceIdeal.nD Cert.StepSmallReferenceIdeal.τ).loc Cert.StepSmallReferenceIdeal.main_arg72)
      ∧ r.2.mem ((c.tc : Thread Cert.StepSmallReferenceIdeal.nD Cert.StepSmallReferenceIdeal.τ).loc Cert.StepSmallReferenceIdeal.main_arg73) = m ((c.tc : Thread Cert.StepSmallReferenceIdeal.nD Cert.StepSmallReferenceIdeal.τ).loc Cert.StepSmallReferenceIdeal.main_arg73)
      ∧ r.2.mem ((c.tc : Thread Cert.StepSmallReferenceIdeal.nD Cert.StepSmallReferenceIdeal.τ).loc Cert.StepSmallReferenceIdeal.main_arg74) = m ((c.tc : Thread Cert.StepSmallReferenceIdeal.nD Cert.StepSmallReferenceIdeal.τ).loc Cert.StepSmallReferenceIdeal.main_arg74)
      ∧ r.2.mem ((c.tc : Thread Cert.StepSmallReferenceIdeal.nD Cert.StepSmallReferenceIdeal.τ).loc Cert.StepSmallReferenceIdeal.main_arg75) = m ((c.tc : Thread Cert.StepSmallReferenceIdeal.nD Cert.StepSmallReferenceIdeal.τ).loc Cert.StepSmallReferenceIdeal.main_arg75))
      ∧ r.2.sem = fun _ => 0)

def quiescent_InOddGradKernel [hInOddGradKernel : Cert.InOddGradKernel.Facts] : Prop :=
  ∀ (m : (ℓ : Loc Cert.InOddGradKernel.nD Cert.InOddGradKernel.τ Cert.InOddGradKernel.sig) → Buf (Elt Bits) ℓ) (g : Dev Cert.InOddGradKernel.nD → PrngReg), Pre_InOddGradKernel m →
    θ_run (Cert.InOddGradKernel.defs (F := Bits)) (onTc (τ := Cert.InOddGradKernel.τ) (Cert.InOddGradKernel.main (F := Bits))) ⟨m, fun _ => 0, g⟩ (fun r => (∀ c : Dev Cert.InOddGradKernel.nD,
      r.2.mem ((c.tc : Thread Cert.InOddGradKernel.nD Cert.InOddGradKernel.τ).loc Cert.InOddGradKernel.main_arg0) = m ((c.tc : Thread Cert.InOddGradKernel.nD Cert.InOddGradKernel.τ).loc Cert.InOddGradKernel.main_arg0)
      ∧ r.2.mem ((c.tc : Thread Cert.InOddGradKernel.nD Cert.InOddGradKernel.τ).loc Cert.InOddGradKernel.main_arg1) = m ((c.tc : Thread Cert.InOddGradKernel.nD Cert.InOddGradKernel.τ).loc Cert.InOddGradKernel.main_arg1))
      ∧ r.2.sem = fun _ => 0)

def quiescent_InOddGradKernelIdeal [hInOddGradKernelIdeal : Cert.InOddGradKernelIdeal.Facts] : Prop :=
  ∀ (m : (ℓ : Loc Cert.InOddGradKernelIdeal.nD Cert.InOddGradKernelIdeal.τ Cert.InOddGradKernelIdeal.sig) → Buf (Elt Ideal) ℓ) (g : Dev Cert.InOddGradKernelIdeal.nD → PrngReg), Pre_InOddGradKernelIdeal m →
    θ_run (Cert.InOddGradKernelIdeal.defs (F := Ideal)) (onTc (τ := Cert.InOddGradKernelIdeal.τ) (Cert.InOddGradKernelIdeal.main (F := Ideal))) ⟨m, fun _ => 0, g⟩ (fun r => (∀ c : Dev Cert.InOddGradKernelIdeal.nD,
      r.2.mem ((c.tc : Thread Cert.InOddGradKernelIdeal.nD Cert.InOddGradKernelIdeal.τ).loc Cert.InOddGradKernelIdeal.main_arg0) = m ((c.tc : Thread Cert.InOddGradKernelIdeal.nD Cert.InOddGradKernelIdeal.τ).loc Cert.InOddGradKernelIdeal.main_arg0)
      ∧ r.2.mem ((c.tc : Thread Cert.InOddGradKernelIdeal.nD Cert.InOddGradKernelIdeal.τ).loc Cert.InOddGradKernelIdeal.main_arg1) = m ((c.tc : Thread Cert.InOddGradKernelIdeal.nD Cert.InOddGradKernelIdeal.τ).loc Cert.InOddGradKernelIdeal.main_arg1))
      ∧ r.2.sem = fun _ => 0)

def quiescent_InOddGradReferenceIdeal [hInOddGradReferenceIdeal : Cert.InOddGradReferenceIdeal.Facts] : Prop :=
  ∀ (m : (ℓ : Loc Cert.InOddGradReferenceIdeal.nD Cert.InOddGradReferenceIdeal.τ Cert.InOddGradReferenceIdeal.sig) → Buf (Elt Ideal) ℓ) (g : Dev Cert.InOddGradReferenceIdeal.nD → PrngReg), Pre_InOddGradReferenceIdeal m →
    θ_run (Cert.InOddGradReferenceIdeal.defs (F := Ideal)) (onTc (τ := Cert.InOddGradReferenceIdeal.τ) (Cert.InOddGradReferenceIdeal.main (F := Ideal))) ⟨m, fun _ => 0, g⟩ (fun r => (∀ c : Dev Cert.InOddGradReferenceIdeal.nD,
      r.2.mem ((c.tc : Thread Cert.InOddGradReferenceIdeal.nD Cert.InOddGradReferenceIdeal.τ).loc Cert.InOddGradReferenceIdeal.main_arg0) = m ((c.tc : Thread Cert.InOddGradReferenceIdeal.nD Cert.InOddGradReferenceIdeal.τ).loc Cert.InOddGradReferenceIdeal.main_arg0)
      ∧ r.2.mem ((c.tc : Thread Cert.InOddGradReferenceIdeal.nD Cert.InOddGradReferenceIdeal.τ).loc Cert.InOddGradReferenceIdeal.main_arg1) = m ((c.tc : Thread Cert.InOddGradReferenceIdeal.nD Cert.InOddGradReferenceIdeal.τ).loc Cert.InOddGradReferenceIdeal.main_arg1))
      ∧ r.2.sem = fun _ => 0)

def quiescent_OutOddGradKernel [hOutOddGradKernel : Cert.OutOddGradKernel.Facts] : Prop :=
  ∀ (m : (ℓ : Loc Cert.OutOddGradKernel.nD Cert.OutOddGradKernel.τ Cert.OutOddGradKernel.sig) → Buf (Elt Bits) ℓ) (g : Dev Cert.OutOddGradKernel.nD → PrngReg), Pre_OutOddGradKernel m →
    θ_run (Cert.OutOddGradKernel.defs (F := Bits)) (onTc (τ := Cert.OutOddGradKernel.τ) (Cert.OutOddGradKernel.main (F := Bits))) ⟨m, fun _ => 0, g⟩ (fun r => (∀ c : Dev Cert.OutOddGradKernel.nD,
      r.2.mem ((c.tc : Thread Cert.OutOddGradKernel.nD Cert.OutOddGradKernel.τ).loc Cert.OutOddGradKernel.main_arg0) = m ((c.tc : Thread Cert.OutOddGradKernel.nD Cert.OutOddGradKernel.τ).loc Cert.OutOddGradKernel.main_arg0)
      ∧ r.2.mem ((c.tc : Thread Cert.OutOddGradKernel.nD Cert.OutOddGradKernel.τ).loc Cert.OutOddGradKernel.main_arg1) = m ((c.tc : Thread Cert.OutOddGradKernel.nD Cert.OutOddGradKernel.τ).loc Cert.OutOddGradKernel.main_arg1))
      ∧ r.2.sem = fun _ => 0)

def quiescent_OutOddGradKernelIdeal [hOutOddGradKernelIdeal : Cert.OutOddGradKernelIdeal.Facts] : Prop :=
  ∀ (m : (ℓ : Loc Cert.OutOddGradKernelIdeal.nD Cert.OutOddGradKernelIdeal.τ Cert.OutOddGradKernelIdeal.sig) → Buf (Elt Ideal) ℓ) (g : Dev Cert.OutOddGradKernelIdeal.nD → PrngReg), Pre_OutOddGradKernelIdeal m →
    θ_run (Cert.OutOddGradKernelIdeal.defs (F := Ideal)) (onTc (τ := Cert.OutOddGradKernelIdeal.τ) (Cert.OutOddGradKernelIdeal.main (F := Ideal))) ⟨m, fun _ => 0, g⟩ (fun r => (∀ c : Dev Cert.OutOddGradKernelIdeal.nD,
      r.2.mem ((c.tc : Thread Cert.OutOddGradKernelIdeal.nD Cert.OutOddGradKernelIdeal.τ).loc Cert.OutOddGradKernelIdeal.main_arg0) = m ((c.tc : Thread Cert.OutOddGradKernelIdeal.nD Cert.OutOddGradKernelIdeal.τ).loc Cert.OutOddGradKernelIdeal.main_arg0)
      ∧ r.2.mem ((c.tc : Thread Cert.OutOddGradKernelIdeal.nD Cert.OutOddGradKernelIdeal.τ).loc Cert.OutOddGradKernelIdeal.main_arg1) = m ((c.tc : Thread Cert.OutOddGradKernelIdeal.nD Cert.OutOddGradKernelIdeal.τ).loc Cert.OutOddGradKernelIdeal.main_arg1))
      ∧ r.2.sem = fun _ => 0)

def quiescent_OutOddGradReferenceIdeal [hOutOddGradReferenceIdeal : Cert.OutOddGradReferenceIdeal.Facts] : Prop :=
  ∀ (m : (ℓ : Loc Cert.OutOddGradReferenceIdeal.nD Cert.OutOddGradReferenceIdeal.τ Cert.OutOddGradReferenceIdeal.sig) → Buf (Elt Ideal) ℓ) (g : Dev Cert.OutOddGradReferenceIdeal.nD → PrngReg), Pre_OutOddGradReferenceIdeal m →
    θ_run (Cert.OutOddGradReferenceIdeal.defs (F := Ideal)) (onTc (τ := Cert.OutOddGradReferenceIdeal.τ) (Cert.OutOddGradReferenceIdeal.main (F := Ideal))) ⟨m, fun _ => 0, g⟩ (fun r => (∀ c : Dev Cert.OutOddGradReferenceIdeal.nD,
      r.2.mem ((c.tc : Thread Cert.OutOddGradReferenceIdeal.nD Cert.OutOddGradReferenceIdeal.τ).loc Cert.OutOddGradReferenceIdeal.main_arg0) = m ((c.tc : Thread Cert.OutOddGradReferenceIdeal.nD Cert.OutOddGradReferenceIdeal.τ).loc Cert.OutOddGradReferenceIdeal.main_arg0)
      ∧ r.2.mem ((c.tc : Thread Cert.OutOddGradReferenceIdeal.nD Cert.OutOddGradReferenceIdeal.τ).loc Cert.OutOddGradReferenceIdeal.main_arg1) = m ((c.tc : Thread Cert.OutOddGradReferenceIdeal.nD Cert.OutOddGradReferenceIdeal.τ).loc Cert.OutOddGradReferenceIdeal.main_arg1))
      ∧ r.2.sem = fun _ => 0)

def quiescent_InEvenKernel [hInEvenKernel : Cert.InEvenKernel.Facts] : Prop :=
  ∀ (m : (ℓ : Loc Cert.InEvenKernel.nD Cert.InEvenKernel.τ Cert.InEvenKernel.sig) → Buf (Elt Bits) ℓ) (g : Dev Cert.InEvenKernel.nD → PrngReg), Pre_InEvenKernel m →
    θ_run (Cert.InEvenKernel.defs (F := Bits)) (onTc (τ := Cert.InEvenKernel.τ) (Cert.InEvenKernel.main (F := Bits))) ⟨m, fun _ => 0, g⟩ (fun r => (∀ c : Dev Cert.InEvenKernel.nD,
      r.2.mem ((c.tc : Thread Cert.InEvenKernel.nD Cert.InEvenKernel.τ).loc Cert.InEvenKernel.main_arg0) = m ((c.tc : Thread Cert.InEvenKernel.nD Cert.InEvenKernel.τ).loc Cert.InEvenKernel.main_arg0)
      ∧ r.2.mem ((c.tc : Thread Cert.InEvenKernel.nD Cert.InEvenKernel.τ).loc Cert.InEvenKernel.main_arg1) = m ((c.tc : Thread Cert.InEvenKernel.nD Cert.InEvenKernel.τ).loc Cert.InEvenKernel.main_arg1))
      ∧ r.2.sem = fun _ => 0)

def quiescent_InEvenKernelIdeal [hInEvenKernelIdeal : Cert.InEvenKernelIdeal.Facts] : Prop :=
  ∀ (m : (ℓ : Loc Cert.InEvenKernelIdeal.nD Cert.InEvenKernelIdeal.τ Cert.InEvenKernelIdeal.sig) → Buf (Elt Ideal) ℓ) (g : Dev Cert.InEvenKernelIdeal.nD → PrngReg), Pre_InEvenKernelIdeal m →
    θ_run (Cert.InEvenKernelIdeal.defs (F := Ideal)) (onTc (τ := Cert.InEvenKernelIdeal.τ) (Cert.InEvenKernelIdeal.main (F := Ideal))) ⟨m, fun _ => 0, g⟩ (fun r => (∀ c : Dev Cert.InEvenKernelIdeal.nD,
      r.2.mem ((c.tc : Thread Cert.InEvenKernelIdeal.nD Cert.InEvenKernelIdeal.τ).loc Cert.InEvenKernelIdeal.main_arg0) = m ((c.tc : Thread Cert.InEvenKernelIdeal.nD Cert.InEvenKernelIdeal.τ).loc Cert.InEvenKernelIdeal.main_arg0)
      ∧ r.2.mem ((c.tc : Thread Cert.InEvenKernelIdeal.nD Cert.InEvenKernelIdeal.τ).loc Cert.InEvenKernelIdeal.main_arg1) = m ((c.tc : Thread Cert.InEvenKernelIdeal.nD Cert.InEvenKernelIdeal.τ).loc Cert.InEvenKernelIdeal.main_arg1))
      ∧ r.2.sem = fun _ => 0)

def quiescent_InEvenReferenceIdeal [hInEvenReferenceIdeal : Cert.InEvenReferenceIdeal.Facts] : Prop :=
  ∀ (m : (ℓ : Loc Cert.InEvenReferenceIdeal.nD Cert.InEvenReferenceIdeal.τ Cert.InEvenReferenceIdeal.sig) → Buf (Elt Ideal) ℓ) (g : Dev Cert.InEvenReferenceIdeal.nD → PrngReg), Pre_InEvenReferenceIdeal m →
    θ_run (Cert.InEvenReferenceIdeal.defs (F := Ideal)) (onTc (τ := Cert.InEvenReferenceIdeal.τ) (Cert.InEvenReferenceIdeal.main (F := Ideal))) ⟨m, fun _ => 0, g⟩ (fun r => (∀ c : Dev Cert.InEvenReferenceIdeal.nD,
      r.2.mem ((c.tc : Thread Cert.InEvenReferenceIdeal.nD Cert.InEvenReferenceIdeal.τ).loc Cert.InEvenReferenceIdeal.main_arg0) = m ((c.tc : Thread Cert.InEvenReferenceIdeal.nD Cert.InEvenReferenceIdeal.τ).loc Cert.InEvenReferenceIdeal.main_arg0)
      ∧ r.2.mem ((c.tc : Thread Cert.InEvenReferenceIdeal.nD Cert.InEvenReferenceIdeal.τ).loc Cert.InEvenReferenceIdeal.main_arg1) = m ((c.tc : Thread Cert.InEvenReferenceIdeal.nD Cert.InEvenReferenceIdeal.τ).loc Cert.InEvenReferenceIdeal.main_arg1))
      ∧ r.2.sem = fun _ => 0)

def quiescent_InEvenBackKernel [hInEvenBackKernel : Cert.InEvenBackKernel.Facts] : Prop :=
  ∀ (m : (ℓ : Loc Cert.InEvenBackKernel.nD Cert.InEvenBackKernel.τ Cert.InEvenBackKernel.sig) → Buf (Elt Bits) ℓ) (g : Dev Cert.InEvenBackKernel.nD → PrngReg), Pre_InEvenBackKernel m →
    θ_run (Cert.InEvenBackKernel.defs (F := Bits)) (onTc (τ := Cert.InEvenBackKernel.τ) (Cert.InEvenBackKernel.main (F := Bits))) ⟨m, fun _ => 0, g⟩ (fun r => (∀ c : Dev Cert.InEvenBackKernel.nD,
      r.2.mem ((c.tc : Thread Cert.InEvenBackKernel.nD Cert.InEvenBackKernel.τ).loc Cert.InEvenBackKernel.main_arg0) = m ((c.tc : Thread Cert.InEvenBackKernel.nD Cert.InEvenBackKernel.τ).loc Cert.InEvenBackKernel.main_arg0)
      ∧ r.2.mem ((c.tc : Thread Cert.InEvenBackKernel.nD Cert.InEvenBackKernel.τ).loc Cert.InEvenBackKernel.main_arg1) = m ((c.tc : Thread Cert.InEvenBackKernel.nD Cert.InEvenBackKernel.τ).loc Cert.InEvenBackKernel.main_arg1))
      ∧ r.2.sem = fun _ => 0)

def quiescent_InEvenBackKernelIdeal [hInEvenBackKernelIdeal : Cert.InEvenBackKernelIdeal.Facts] : Prop :=
  ∀ (m : (ℓ : Loc Cert.InEvenBackKernelIdeal.nD Cert.InEvenBackKernelIdeal.τ Cert.InEvenBackKernelIdeal.sig) → Buf (Elt Ideal) ℓ) (g : Dev Cert.InEvenBackKernelIdeal.nD → PrngReg), Pre_InEvenBackKernelIdeal m →
    θ_run (Cert.InEvenBackKernelIdeal.defs (F := Ideal)) (onTc (τ := Cert.InEvenBackKernelIdeal.τ) (Cert.InEvenBackKernelIdeal.main (F := Ideal))) ⟨m, fun _ => 0, g⟩ (fun r => (∀ c : Dev Cert.InEvenBackKernelIdeal.nD,
      r.2.mem ((c.tc : Thread Cert.InEvenBackKernelIdeal.nD Cert.InEvenBackKernelIdeal.τ).loc Cert.InEvenBackKernelIdeal.main_arg0) = m ((c.tc : Thread Cert.InEvenBackKernelIdeal.nD Cert.InEvenBackKernelIdeal.τ).loc Cert.InEvenBackKernelIdeal.main_arg0)
      ∧ r.2.mem ((c.tc : Thread Cert.InEvenBackKernelIdeal.nD Cert.InEvenBackKernelIdeal.τ).loc Cert.InEvenBackKernelIdeal.main_arg1) = m ((c.tc : Thread Cert.InEvenBackKernelIdeal.nD Cert.InEvenBackKernelIdeal.τ).loc Cert.InEvenBackKernelIdeal.main_arg1))
      ∧ r.2.sem = fun _ => 0)

def quiescent_InEvenBackReferenceIdeal [hInEvenBackReferenceIdeal : Cert.InEvenBackReferenceIdeal.Facts] : Prop :=
  ∀ (m : (ℓ : Loc Cert.InEvenBackReferenceIdeal.nD Cert.InEvenBackReferenceIdeal.τ Cert.InEvenBackReferenceIdeal.sig) → Buf (Elt Ideal) ℓ) (g : Dev Cert.InEvenBackReferenceIdeal.nD → PrngReg), Pre_InEvenBackReferenceIdeal m →
    θ_run (Cert.InEvenBackReferenceIdeal.defs (F := Ideal)) (onTc (τ := Cert.InEvenBackReferenceIdeal.τ) (Cert.InEvenBackReferenceIdeal.main (F := Ideal))) ⟨m, fun _ => 0, g⟩ (fun r => (∀ c : Dev Cert.InEvenBackReferenceIdeal.nD,
      r.2.mem ((c.tc : Thread Cert.InEvenBackReferenceIdeal.nD Cert.InEvenBackReferenceIdeal.τ).loc Cert.InEvenBackReferenceIdeal.main_arg0) = m ((c.tc : Thread Cert.InEvenBackReferenceIdeal.nD Cert.InEvenBackReferenceIdeal.τ).loc Cert.InEvenBackReferenceIdeal.main_arg0)
      ∧ r.2.mem ((c.tc : Thread Cert.InEvenBackReferenceIdeal.nD Cert.InEvenBackReferenceIdeal.τ).loc Cert.InEvenBackReferenceIdeal.main_arg1) = m ((c.tc : Thread Cert.InEvenBackReferenceIdeal.nD Cert.InEvenBackReferenceIdeal.τ).loc Cert.InEvenBackReferenceIdeal.main_arg1))
      ∧ r.2.sem = fun _ => 0)

def quiescent_InOddKernel [hInOddKernel : Cert.InOddKernel.Facts] : Prop :=
  ∀ (m : (ℓ : Loc Cert.InOddKernel.nD Cert.InOddKernel.τ Cert.InOddKernel.sig) → Buf (Elt Bits) ℓ) (g : Dev Cert.InOddKernel.nD → PrngReg), Pre_InOddKernel m →
    θ_run (Cert.InOddKernel.defs (F := Bits)) (onTc (τ := Cert.InOddKernel.τ) (Cert.InOddKernel.main (F := Bits))) ⟨m, fun _ => 0, g⟩ (fun r => (∀ c : Dev Cert.InOddKernel.nD,
      r.2.mem ((c.tc : Thread Cert.InOddKernel.nD Cert.InOddKernel.τ).loc Cert.InOddKernel.main_arg0) = m ((c.tc : Thread Cert.InOddKernel.nD Cert.InOddKernel.τ).loc Cert.InOddKernel.main_arg0)
      ∧ r.2.mem ((c.tc : Thread Cert.InOddKernel.nD Cert.InOddKernel.τ).loc Cert.InOddKernel.main_arg1) = m ((c.tc : Thread Cert.InOddKernel.nD Cert.InOddKernel.τ).loc Cert.InOddKernel.main_arg1))
      ∧ r.2.sem = fun _ => 0)

def quiescent_InOddKernelIdeal [hInOddKernelIdeal : Cert.InOddKernelIdeal.Facts] : Prop :=
  ∀ (m : (ℓ : Loc Cert.InOddKernelIdeal.nD Cert.InOddKernelIdeal.τ Cert.InOddKernelIdeal.sig) → Buf (Elt Ideal) ℓ) (g : Dev Cert.InOddKernelIdeal.nD → PrngReg), Pre_InOddKernelIdeal m →
    θ_run (Cert.InOddKernelIdeal.defs (F := Ideal)) (onTc (τ := Cert.InOddKernelIdeal.τ) (Cert.InOddKernelIdeal.main (F := Ideal))) ⟨m, fun _ => 0, g⟩ (fun r => (∀ c : Dev Cert.InOddKernelIdeal.nD,
      r.2.mem ((c.tc : Thread Cert.InOddKernelIdeal.nD Cert.InOddKernelIdeal.τ).loc Cert.InOddKernelIdeal.main_arg0) = m ((c.tc : Thread Cert.InOddKernelIdeal.nD Cert.InOddKernelIdeal.τ).loc Cert.InOddKernelIdeal.main_arg0)
      ∧ r.2.mem ((c.tc : Thread Cert.InOddKernelIdeal.nD Cert.InOddKernelIdeal.τ).loc Cert.InOddKernelIdeal.main_arg1) = m ((c.tc : Thread Cert.InOddKernelIdeal.nD Cert.InOddKernelIdeal.τ).loc Cert.InOddKernelIdeal.main_arg1))
      ∧ r.2.sem = fun _ => 0)

def quiescent_InOddReferenceIdeal [hInOddReferenceIdeal : Cert.InOddReferenceIdeal.Facts] : Prop :=
  ∀ (m : (ℓ : Loc Cert.InOddReferenceIdeal.nD Cert.InOddReferenceIdeal.τ Cert.InOddReferenceIdeal.sig) → Buf (Elt Ideal) ℓ) (g : Dev Cert.InOddReferenceIdeal.nD → PrngReg), Pre_InOddReferenceIdeal m →
    θ_run (Cert.InOddReferenceIdeal.defs (F := Ideal)) (onTc (τ := Cert.InOddReferenceIdeal.τ) (Cert.InOddReferenceIdeal.main (F := Ideal))) ⟨m, fun _ => 0, g⟩ (fun r => (∀ c : Dev Cert.InOddReferenceIdeal.nD,
      r.2.mem ((c.tc : Thread Cert.InOddReferenceIdeal.nD Cert.InOddReferenceIdeal.τ).loc Cert.InOddReferenceIdeal.main_arg0) = m ((c.tc : Thread Cert.InOddReferenceIdeal.nD Cert.InOddReferenceIdeal.τ).loc Cert.InOddReferenceIdeal.main_arg0)
      ∧ r.2.mem ((c.tc : Thread Cert.InOddReferenceIdeal.nD Cert.InOddReferenceIdeal.τ).loc Cert.InOddReferenceIdeal.main_arg1) = m ((c.tc : Thread Cert.InOddReferenceIdeal.nD Cert.InOddReferenceIdeal.τ).loc Cert.InOddReferenceIdeal.main_arg1))
      ∧ r.2.sem = fun _ => 0)

def quiescent_InOddBackKernel [hInOddBackKernel : Cert.InOddBackKernel.Facts] : Prop :=
  ∀ (m : (ℓ : Loc Cert.InOddBackKernel.nD Cert.InOddBackKernel.τ Cert.InOddBackKernel.sig) → Buf (Elt Bits) ℓ) (g : Dev Cert.InOddBackKernel.nD → PrngReg), Pre_InOddBackKernel m →
    θ_run (Cert.InOddBackKernel.defs (F := Bits)) (onTc (τ := Cert.InOddBackKernel.τ) (Cert.InOddBackKernel.main (F := Bits))) ⟨m, fun _ => 0, g⟩ (fun r => (∀ c : Dev Cert.InOddBackKernel.nD,
      r.2.mem ((c.tc : Thread Cert.InOddBackKernel.nD Cert.InOddBackKernel.τ).loc Cert.InOddBackKernel.main_arg0) = m ((c.tc : Thread Cert.InOddBackKernel.nD Cert.InOddBackKernel.τ).loc Cert.InOddBackKernel.main_arg0)
      ∧ r.2.mem ((c.tc : Thread Cert.InOddBackKernel.nD Cert.InOddBackKernel.τ).loc Cert.InOddBackKernel.main_arg1) = m ((c.tc : Thread Cert.InOddBackKernel.nD Cert.InOddBackKernel.τ).loc Cert.InOddBackKernel.main_arg1))
      ∧ r.2.sem = fun _ => 0)

def quiescent_InOddBackKernelIdeal [hInOddBackKernelIdeal : Cert.InOddBackKernelIdeal.Facts] : Prop :=
  ∀ (m : (ℓ : Loc Cert.InOddBackKernelIdeal.nD Cert.InOddBackKernelIdeal.τ Cert.InOddBackKernelIdeal.sig) → Buf (Elt Ideal) ℓ) (g : Dev Cert.InOddBackKernelIdeal.nD → PrngReg), Pre_InOddBackKernelIdeal m →
    θ_run (Cert.InOddBackKernelIdeal.defs (F := Ideal)) (onTc (τ := Cert.InOddBackKernelIdeal.τ) (Cert.InOddBackKernelIdeal.main (F := Ideal))) ⟨m, fun _ => 0, g⟩ (fun r => (∀ c : Dev Cert.InOddBackKernelIdeal.nD,
      r.2.mem ((c.tc : Thread Cert.InOddBackKernelIdeal.nD Cert.InOddBackKernelIdeal.τ).loc Cert.InOddBackKernelIdeal.main_arg0) = m ((c.tc : Thread Cert.InOddBackKernelIdeal.nD Cert.InOddBackKernelIdeal.τ).loc Cert.InOddBackKernelIdeal.main_arg0)
      ∧ r.2.mem ((c.tc : Thread Cert.InOddBackKernelIdeal.nD Cert.InOddBackKernelIdeal.τ).loc Cert.InOddBackKernelIdeal.main_arg1) = m ((c.tc : Thread Cert.InOddBackKernelIdeal.nD Cert.InOddBackKernelIdeal.τ).loc Cert.InOddBackKernelIdeal.main_arg1))
      ∧ r.2.sem = fun _ => 0)

def quiescent_InOddBackReferenceIdeal [hInOddBackReferenceIdeal : Cert.InOddBackReferenceIdeal.Facts] : Prop :=
  ∀ (m : (ℓ : Loc Cert.InOddBackReferenceIdeal.nD Cert.InOddBackReferenceIdeal.τ Cert.InOddBackReferenceIdeal.sig) → Buf (Elt Ideal) ℓ) (g : Dev Cert.InOddBackReferenceIdeal.nD → PrngReg), Pre_InOddBackReferenceIdeal m →
    θ_run (Cert.InOddBackReferenceIdeal.defs (F := Ideal)) (onTc (τ := Cert.InOddBackReferenceIdeal.τ) (Cert.InOddBackReferenceIdeal.main (F := Ideal))) ⟨m, fun _ => 0, g⟩ (fun r => (∀ c : Dev Cert.InOddBackReferenceIdeal.nD,
      r.2.mem ((c.tc : Thread Cert.InOddBackReferenceIdeal.nD Cert.InOddBackReferenceIdeal.τ).loc Cert.InOddBackReferenceIdeal.main_arg0) = m ((c.tc : Thread Cert.InOddBackReferenceIdeal.nD Cert.InOddBackReferenceIdeal.τ).loc Cert.InOddBackReferenceIdeal.main_arg0)
      ∧ r.2.mem ((c.tc : Thread Cert.InOddBackReferenceIdeal.nD Cert.InOddBackReferenceIdeal.τ).loc Cert.InOddBackReferenceIdeal.main_arg1) = m ((c.tc : Thread Cert.InOddBackReferenceIdeal.nD Cert.InOddBackReferenceIdeal.τ).loc Cert.InOddBackReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnKernel_FfnKernelIdeal : Prop :=
  True

def algebraic_FfnKernelIdeal_FfnReferenceIdeal_pre_all_finite [hFfnKernelIdeal : Cert.FfnKernelIdeal.Facts] [hFfnReferenceIdeal : Cert.FfnReferenceIdeal.Facts] [hPre_all_finite : Cert.Pre_all_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_all_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)) →
    ∃ (v0 : (c : Dev Cert.FfnKernelIdeal.nD) → Buf (Elt Ideal) ((c.tc : Thread Cert.FfnKernelIdeal.nD Cert.FfnKernelIdeal.τ).loc Cert.FfnKernelIdeal.main_v11)) (v1 : (c : Dev Cert.FfnKernelIdeal.nD) → Buf (Elt Ideal) ((c.tc : Thread Cert.FfnKernelIdeal.nD Cert.FfnKernelIdeal.τ).loc Cert.FfnKernelIdeal.main_v17_0)) (v2 : (c : Dev Cert.FfnKernelIdeal.nD) → Buf (Elt Ideal) ((c.tc : Thread Cert.FfnKernelIdeal.nD Cert.FfnKernelIdeal.τ).loc Cert.FfnKernelIdeal.main_v18)) (v3 : (c : Dev Cert.FfnKernelIdeal.nD) → Buf (Elt Ideal) ((c.tc : Thread Cert.FfnKernelIdeal.nD Cert.FfnKernelIdeal.τ).loc Cert.FfnKernelIdeal.main_v19)) (v4 : (c : Dev Cert.FfnKernelIdeal.nD) → Buf (Elt Ideal) ((c.tc : Thread Cert.FfnKernelIdeal.nD Cert.FfnKernelIdeal.τ).loc Cert.FfnKernelIdeal.main_v21)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v11) = v0 c
          ∧ r.2.mem ((c.tc : Thread Cert.FfnKernelIdeal.nD Cert.FfnKernelIdeal.τ).loc Cert.FfnKernelIdeal.main_v17_0) = v1 c
          ∧ r.2.mem ((c.tc : Thread Cert.FfnKernelIdeal.nD Cert.FfnKernelIdeal.τ).loc Cert.FfnKernelIdeal.main_v18) = v2 c
          ∧ r.2.mem ((c.tc : Thread Cert.FfnKernelIdeal.nD Cert.FfnKernelIdeal.τ).loc Cert.FfnKernelIdeal.main_v19) = v3 c
          ∧ r.2.mem ((c.tc : Thread Cert.FfnKernelIdeal.nD Cert.FfnKernelIdeal.τ).loc Cert.FfnKernelIdeal.main_v21) = v4 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v49) = v0 c
          ∧ r.2.mem ((c.tc : Thread Cert.FfnReferenceIdeal.nD Cert.FfnReferenceIdeal.τ).loc Cert.FfnReferenceIdeal.main_v118) = v1 c
          ∧ r.2.mem ((c.tc : Thread Cert.FfnReferenceIdeal.nD Cert.FfnReferenceIdeal.τ).loc Cert.FfnReferenceIdeal.main_v103) = v2 c
          ∧ r.2.mem ((c.tc : Thread Cert.FfnReferenceIdeal.nD Cert.FfnReferenceIdeal.τ).loc Cert.FfnReferenceIdeal.main_v85) = v3 c
          ∧ r.2.mem ((c.tc : Thread Cert.FfnReferenceIdeal.nD Cert.FfnReferenceIdeal.τ).loc Cert.FfnReferenceIdeal.main_v59) = v4 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_DownGradKernel_DownGradKernelIdeal : Prop :=
  True

def algebraic_DownGradKernelIdeal_DownGradReferenceIdeal [hDownGradKernelIdeal : Cert.DownGradKernelIdeal.Facts] [hDownGradReferenceIdeal : Cert.DownGradReferenceIdeal.Facts] : Prop :=
  ∀ (m : (ℓ : Loc Cert.DownGradKernelIdeal.nD Cert.DownGradKernelIdeal.τ Cert.DownGradKernelIdeal.sig) → Buf (Elt Ideal) ℓ) (g : Dev Cert.DownGradKernelIdeal.nD → PrngReg)
    (m' : (ℓ : Loc Cert.DownGradReferenceIdeal.nD Cert.DownGradReferenceIdeal.τ Cert.DownGradReferenceIdeal.sig) → Buf (Elt Ideal) ℓ) (g' : Dev Cert.DownGradReferenceIdeal.nD → PrngReg), Pre_DownGradKernelIdeal m →
    (∀ c : Dev Cert.DownGradKernelIdeal.nD,
      m' ((c.tc : Thread Cert.DownGradReferenceIdeal.nD Cert.DownGradReferenceIdeal.τ).loc Cert.DownGradReferenceIdeal.main_arg0) = m ((c.tc : Thread Cert.DownGradKernelIdeal.nD Cert.DownGradKernelIdeal.τ).loc Cert.DownGradKernelIdeal.main_arg0)
      ∧ m' ((c.tc : Thread Cert.DownGradReferenceIdeal.nD Cert.DownGradReferenceIdeal.τ).loc Cert.DownGradReferenceIdeal.main_arg1) = m ((c.tc : Thread Cert.DownGradKernelIdeal.nD Cert.DownGradKernelIdeal.τ).loc Cert.DownGradKernelIdeal.main_arg1)) →
    ∃ (v0 : (c : Dev Cert.DownGradKernelIdeal.nD) → Buf (Elt Ideal) ((c.tc : Thread Cert.DownGradKernelIdeal.nD Cert.DownGradKernelIdeal.τ).loc Cert.DownGradKernelIdeal.main_v0)),
      θ_run (Cert.DownGradKernelIdeal.defs (F := Ideal)) (onTc (τ := Cert.DownGradKernelIdeal.τ) (Cert.DownGradKernelIdeal.main (F := Ideal))) ⟨m, fun _ => 0, g⟩ (fun r => ∀ c : Dev Cert.DownGradKernelIdeal.nD,
          r.2.mem ((c.tc : Thread Cert.DownGradKernelIdeal.nD Cert.DownGradKernelIdeal.τ).loc Cert.DownGradKernelIdeal.main_v0) = v0 c
          ∧ r.2.mem ((c.tc : Thread Cert.DownGradKernelIdeal.nD Cert.DownGradKernelIdeal.τ).loc Cert.DownGradKernelIdeal.main_arg0) = m ((c.tc : Thread Cert.DownGradKernelIdeal.nD Cert.DownGradKernelIdeal.τ).loc Cert.DownGradKernelIdeal.main_arg0)
          ∧ r.2.mem ((c.tc : Thread Cert.DownGradKernelIdeal.nD Cert.DownGradKernelIdeal.τ).loc Cert.DownGradKernelIdeal.main_arg1) = m ((c.tc : Thread Cert.DownGradKernelIdeal.nD Cert.DownGradKernelIdeal.τ).loc Cert.DownGradKernelIdeal.main_arg1))
      ∧ θ_run (Cert.DownGradReferenceIdeal.defs (F := Ideal)) (onTc (τ := Cert.DownGradReferenceIdeal.τ) (Cert.DownGradReferenceIdeal.main (F := Ideal))) ⟨m', fun _ => 0, g'⟩ (fun r => ∀ c : Dev Cert.DownGradReferenceIdeal.nD,
          r.2.mem ((c.tc : Thread Cert.DownGradReferenceIdeal.nD Cert.DownGradReferenceIdeal.τ).loc Cert.DownGradReferenceIdeal.main_v5) = v0 c
          ∧ r.2.mem ((c.tc : Thread Cert.DownGradReferenceIdeal.nD Cert.DownGradReferenceIdeal.τ).loc Cert.DownGradReferenceIdeal.main_arg0) = m' ((c.tc : Thread Cert.DownGradReferenceIdeal.nD Cert.DownGradReferenceIdeal.τ).loc Cert.DownGradReferenceIdeal.main_arg0)
          ∧ r.2.mem ((c.tc : Thread Cert.DownGradReferenceIdeal.nD Cert.DownGradReferenceIdeal.τ).loc Cert.DownGradReferenceIdeal.main_arg1) = m' ((c.tc : Thread Cert.DownGradReferenceIdeal.nD Cert.DownGradReferenceIdeal.τ).loc Cert.DownGradReferenceIdeal.main_arg1))

def preserves_UpGradKernel_UpGradKernelIdeal : Prop :=
  True

def algebraic_UpGradKernelIdeal_UpGradReferenceIdeal [hUpGradKernelIdeal : Cert.UpGradKernelIdeal.Facts] [hUpGradReferenceIdeal : Cert.UpGradReferenceIdeal.Facts] : Prop :=
  ∀ (m : (ℓ : Loc Cert.UpGradKernelIdeal.nD Cert.UpGradKernelIdeal.τ Cert.UpGradKernelIdeal.sig) → Buf (Elt Ideal) ℓ) (g : Dev Cert.UpGradKernelIdeal.nD → PrngReg)
    (m' : (ℓ : Loc Cert.UpGradReferenceIdeal.nD Cert.UpGradReferenceIdeal.τ Cert.UpGradReferenceIdeal.sig) → Buf (Elt Ideal) ℓ) (g' : Dev Cert.UpGradReferenceIdeal.nD → PrngReg), Pre_UpGradKernelIdeal m →
    (∀ c : Dev Cert.UpGradKernelIdeal.nD,
      m' ((c.tc : Thread Cert.UpGradReferenceIdeal.nD Cert.UpGradReferenceIdeal.τ).loc Cert.UpGradReferenceIdeal.main_arg0) = m ((c.tc : Thread Cert.UpGradKernelIdeal.nD Cert.UpGradKernelIdeal.τ).loc Cert.UpGradKernelIdeal.main_arg0)
      ∧ m' ((c.tc : Thread Cert.UpGradReferenceIdeal.nD Cert.UpGradReferenceIdeal.τ).loc Cert.UpGradReferenceIdeal.main_arg1) = m ((c.tc : Thread Cert.UpGradKernelIdeal.nD Cert.UpGradKernelIdeal.τ).loc Cert.UpGradKernelIdeal.main_arg1)) →
    ∃ (v0 : (c : Dev Cert.UpGradKernelIdeal.nD) → Buf (Elt Ideal) ((c.tc : Thread Cert.UpGradKernelIdeal.nD Cert.UpGradKernelIdeal.τ).loc Cert.UpGradKernelIdeal.main_v0)),
      θ_run (Cert.UpGradKernelIdeal.defs (F := Ideal)) (onTc (τ := Cert.UpGradKernelIdeal.τ) (Cert.UpGradKernelIdeal.main (F := Ideal))) ⟨m, fun _ => 0, g⟩ (fun r => ∀ c : Dev Cert.UpGradKernelIdeal.nD,
          r.2.mem ((c.tc : Thread Cert.UpGradKernelIdeal.nD Cert.UpGradKernelIdeal.τ).loc Cert.UpGradKernelIdeal.main_v0) = v0 c
          ∧ r.2.mem ((c.tc : Thread Cert.UpGradKernelIdeal.nD Cert.UpGradKernelIdeal.τ).loc Cert.UpGradKernelIdeal.main_arg0) = m ((c.tc : Thread Cert.UpGradKernelIdeal.nD Cert.UpGradKernelIdeal.τ).loc Cert.UpGradKernelIdeal.main_arg0)
          ∧ r.2.mem ((c.tc : Thread Cert.UpGradKernelIdeal.nD Cert.UpGradKernelIdeal.τ).loc Cert.UpGradKernelIdeal.main_arg1) = m ((c.tc : Thread Cert.UpGradKernelIdeal.nD Cert.UpGradKernelIdeal.τ).loc Cert.UpGradKernelIdeal.main_arg1))
      ∧ θ_run (Cert.UpGradReferenceIdeal.defs (F := Ideal)) (onTc (τ := Cert.UpGradReferenceIdeal.τ) (Cert.UpGradReferenceIdeal.main (F := Ideal))) ⟨m', fun _ => 0, g'⟩ (fun r => ∀ c : Dev Cert.UpGradReferenceIdeal.nD,
          r.2.mem ((c.tc : Thread Cert.UpGradReferenceIdeal.nD Cert.UpGradReferenceIdeal.τ).loc Cert.UpGradReferenceIdeal.main_v8) = v0 c
          ∧ r.2.mem ((c.tc : Thread Cert.UpGradReferenceIdeal.nD Cert.UpGradReferenceIdeal.τ).loc Cert.UpGradReferenceIdeal.main_arg0) = m' ((c.tc : Thread Cert.UpGradReferenceIdeal.nD Cert.UpGradReferenceIdeal.τ).loc Cert.UpGradReferenceIdeal.main_arg0)
          ∧ r.2.mem ((c.tc : Thread Cert.UpGradReferenceIdeal.nD Cert.UpGradReferenceIdeal.τ).loc Cert.UpGradReferenceIdeal.main_arg1) = m' ((c.tc : Thread Cert.UpGradReferenceIdeal.nD Cert.UpGradReferenceIdeal.τ).loc Cert.UpGradReferenceIdeal.main_arg1))

def preserves_InGradKernel_InGradKernelIdeal : Prop :=
  True

def algebraic_InGradKernelIdeal_InGradReferenceIdeal [hInGradKernelIdeal : Cert.InGradKernelIdeal.Facts] [hInGradReferenceIdeal : Cert.InGradReferenceIdeal.Facts] : Prop :=
  ∀ (m : (ℓ : Loc Cert.InGradKernelIdeal.nD Cert.InGradKernelIdeal.τ Cert.InGradKernelIdeal.sig) → Buf (Elt Ideal) ℓ) (g : Dev Cert.InGradKernelIdeal.nD → PrngReg)
    (m' : (ℓ : Loc Cert.InGradReferenceIdeal.nD Cert.InGradReferenceIdeal.τ Cert.InGradReferenceIdeal.sig) → Buf (Elt Ideal) ℓ) (g' : Dev Cert.InGradReferenceIdeal.nD → PrngReg), Pre_InGradKernelIdeal m →
    (∀ c : Dev Cert.InGradKernelIdeal.nD,
      m' ((c.tc : Thread Cert.InGradReferenceIdeal.nD Cert.InGradReferenceIdeal.τ).loc Cert.InGradReferenceIdeal.main_arg0) = m ((c.tc : Thread Cert.InGradKernelIdeal.nD Cert.InGradKernelIdeal.τ).loc Cert.InGradKernelIdeal.main_arg0)
      ∧ m' ((c.tc : Thread Cert.InGradReferenceIdeal.nD Cert.InGradReferenceIdeal.τ).loc Cert.InGradReferenceIdeal.main_arg1) = m ((c.tc : Thread Cert.InGradKernelIdeal.nD Cert.InGradKernelIdeal.τ).loc Cert.InGradKernelIdeal.main_arg1)) →
    ∃ (v0 : (c : Dev Cert.InGradKernelIdeal.nD) → Buf (Elt Ideal) ((c.tc : Thread Cert.InGradKernelIdeal.nD Cert.InGradKernelIdeal.τ).loc Cert.InGradKernelIdeal.main_v0)),
      θ_run (Cert.InGradKernelIdeal.defs (F := Ideal)) (onTc (τ := Cert.InGradKernelIdeal.τ) (Cert.InGradKernelIdeal.main (F := Ideal))) ⟨m, fun _ => 0, g⟩ (fun r => ∀ c : Dev Cert.InGradKernelIdeal.nD,
          r.2.mem ((c.tc : Thread Cert.InGradKernelIdeal.nD Cert.InGradKernelIdeal.τ).loc Cert.InGradKernelIdeal.main_v0) = v0 c
          ∧ r.2.mem ((c.tc : Thread Cert.InGradKernelIdeal.nD Cert.InGradKernelIdeal.τ).loc Cert.InGradKernelIdeal.main_arg0) = m ((c.tc : Thread Cert.InGradKernelIdeal.nD Cert.InGradKernelIdeal.τ).loc Cert.InGradKernelIdeal.main_arg0)
          ∧ r.2.mem ((c.tc : Thread Cert.InGradKernelIdeal.nD Cert.InGradKernelIdeal.τ).loc Cert.InGradKernelIdeal.main_arg1) = m ((c.tc : Thread Cert.InGradKernelIdeal.nD Cert.InGradKernelIdeal.τ).loc Cert.InGradKernelIdeal.main_arg1))
      ∧ θ_run (Cert.InGradReferenceIdeal.defs (F := Ideal)) (onTc (τ := Cert.InGradReferenceIdeal.τ) (Cert.InGradReferenceIdeal.main (F := Ideal))) ⟨m', fun _ => 0, g'⟩ (fun r => ∀ c : Dev Cert.InGradReferenceIdeal.nD,
          r.2.mem ((c.tc : Thread Cert.InGradReferenceIdeal.nD Cert.InGradReferenceIdeal.τ).loc Cert.InGradReferenceIdeal.main_v8) = v0 c
          ∧ r.2.mem ((c.tc : Thread Cert.InGradReferenceIdeal.nD Cert.InGradReferenceIdeal.τ).loc Cert.InGradReferenceIdeal.main_arg0) = m' ((c.tc : Thread Cert.InGradReferenceIdeal.nD Cert.InGradReferenceIdeal.τ).loc Cert.InGradReferenceIdeal.main_arg0)
          ∧ r.2.mem ((c.tc : Thread Cert.InGradReferenceIdeal.nD Cert.InGradReferenceIdeal.τ).loc Cert.InGradReferenceIdeal.main_arg1) = m' ((c.tc : Thread Cert.InGradReferenceIdeal.nD Cert.InGradReferenceIdeal.τ).loc Cert.InGradReferenceIdeal.main_arg1))

def preserves_StepInEvenKernel_StepInEvenKernelIdeal : Prop :=
  True

def algebraic_StepInEvenKernelIdeal_StepInEvenReferenceIdeal [hStepInEvenKernelIdeal : Cert.StepInEvenKernelIdeal.Facts] [hStepInEvenReferenceIdeal : Cert.StepInEvenReferenceIdeal.Facts] : Prop :=
  ∀ (m : (ℓ : Loc Cert.StepInEvenKernelIdeal.nD Cert.StepInEvenKernelIdeal.τ Cert.StepInEvenKernelIdeal.sig) → Buf (Elt Ideal) ℓ) (g : Dev Cert.StepInEvenKernelIdeal.nD → PrngReg)
    (m' : (ℓ : Loc Cert.StepInEvenReferenceIdeal.nD Cert.StepInEvenReferenceIdeal.τ Cert.StepInEvenReferenceIdeal.sig) → Buf (Elt Ideal) ℓ) (g' : Dev Cert.StepInEvenReferenceIdeal.nD → PrngReg), Pre_StepInEvenKernelIdeal m →
    (∀ c : Dev Cert.StepInEvenKernelIdeal.nD,
      m' ((c.tc : Thread Cert.StepInEvenReferenceIdeal.nD Cert.StepInEvenReferenceIdeal.τ).loc Cert.StepInEvenReferenceIdeal.main_arg0) = m ((c.tc : Thread Cert.StepInEvenKernelIdeal.nD Cert.StepInEvenKernelIdeal.τ).loc Cert.StepInEvenKernelIdeal.main_arg0)
      ∧ m' ((c.tc : Thread Cert.StepInEvenReferenceIdeal.nD Cert.StepInEvenReferenceIdeal.τ).loc Cert.StepInEvenReferenceIdeal.main_arg1) = m ((c.tc : Thread Cert.StepInEvenKernelIdeal.nD Cert.StepInEvenKernelIdeal.τ).loc Cert.StepInEvenKernelIdeal.main_arg1)
      ∧ m' ((c.tc : Thread Cert.StepInEvenReferenceIdeal.nD Cert.StepInEvenReferenceIdeal.τ).loc Cert.StepInEvenReferenceIdeal.main_arg2) = m ((c.tc : Thread Cert.StepInEvenKernelIdeal.nD Cert.StepInEvenKernelIdeal.τ).loc Cert.StepInEvenKernelIdeal.main_arg2)
      ∧ m' ((c.tc : Thread Cert.StepInEvenReferenceIdeal.nD Cert.StepInEvenReferenceIdeal.τ).loc Cert.StepInEvenReferenceIdeal.main_arg3) = m ((c.tc : Thread Cert.StepInEvenKernelIdeal.nD Cert.StepInEvenKernelIdeal.τ).loc Cert.StepInEvenKernelIdeal.main_arg3)) →
    ∃ (v0 : (c : Dev Cert.StepInEvenKernelIdeal.nD) → Buf (Elt Ideal) ((c.tc : Thread Cert.StepInEvenKernelIdeal.nD Cert.StepInEvenKernelIdeal.τ).loc Cert.StepInEvenKernelIdeal.main_v4_0)) (v1 : (c : Dev Cert.StepInEvenKernelIdeal.nD) → Buf (Elt Ideal) ((c.tc : Thread Cert.StepInEvenKernelIdeal.nD Cert.StepInEvenKernelIdeal.τ).loc Cert.StepInEvenKernelIdeal.main_v4_1)) (v2 : (c : Dev Cert.StepInEvenKernelIdeal.nD) → Buf (Elt Ideal) ((c.tc : Thread Cert.StepInEvenKernelIdeal.nD Cert.StepInEvenKernelIdeal.τ).loc Cert.StepInEvenKernelIdeal.main_v4_2)),
      θ_run (Cert.StepInEvenKernelIdeal.defs (F := Ideal)) (onTc (τ := Cert.StepInEvenKernelIdeal.τ) (Cert.StepInEvenKernelIdeal.main (F := Ideal))) ⟨m, fun _ => 0, g⟩ (fun r => ∀ c : Dev Cert.StepInEvenKernelIdeal.nD,
          r.2.mem ((c.tc : Thread Cert.StepInEvenKernelIdeal.nD Cert.StepInEvenKernelIdeal.τ).loc Cert.StepInEvenKernelIdeal.main_v4_0) = v0 c
          ∧ r.2.mem ((c.tc : Thread Cert.StepInEvenKernelIdeal.nD Cert.StepInEvenKernelIdeal.τ).loc Cert.StepInEvenKernelIdeal.main_v4_1) = v1 c
          ∧ r.2.mem ((c.tc : Thread Cert.StepInEvenKernelIdeal.nD Cert.StepInEvenKernelIdeal.τ).loc Cert.StepInEvenKernelIdeal.main_v4_2) = v2 c
          ∧ r.2.mem ((c.tc : Thread Cert.StepInEvenKernelIdeal.nD Cert.StepInEvenKernelIdeal.τ).loc Cert.StepInEvenKernelIdeal.main_arg0) = m ((c.tc : Thread Cert.StepInEvenKernelIdeal.nD Cert.StepInEvenKernelIdeal.τ).loc Cert.StepInEvenKernelIdeal.main_arg0)
          ∧ r.2.mem ((c.tc : Thread Cert.StepInEvenKernelIdeal.nD Cert.StepInEvenKernelIdeal.τ).loc Cert.StepInEvenKernelIdeal.main_arg1) = m ((c.tc : Thread Cert.StepInEvenKernelIdeal.nD Cert.StepInEvenKernelIdeal.τ).loc Cert.StepInEvenKernelIdeal.main_arg1)
          ∧ r.2.mem ((c.tc : Thread Cert.StepInEvenKernelIdeal.nD Cert.StepInEvenKernelIdeal.τ).loc Cert.StepInEvenKernelIdeal.main_arg2) = m ((c.tc : Thread Cert.StepInEvenKernelIdeal.nD Cert.StepInEvenKernelIdeal.τ).loc Cert.StepInEvenKernelIdeal.main_arg2)
          ∧ r.2.mem ((c.tc : Thread Cert.StepInEvenKernelIdeal.nD Cert.StepInEvenKernelIdeal.τ).loc Cert.StepInEvenKernelIdeal.main_arg3) = m ((c.tc : Thread Cert.StepInEvenKernelIdeal.nD Cert.StepInEvenKernelIdeal.τ).loc Cert.StepInEvenKernelIdeal.main_arg3))
      ∧ θ_run (Cert.StepInEvenReferenceIdeal.defs (F := Ideal)) (onTc (τ := Cert.StepInEvenReferenceIdeal.τ) (Cert.StepInEvenReferenceIdeal.main (F := Ideal))) ⟨m', fun _ => 0, g'⟩ (fun r => ∀ c : Dev Cert.StepInEvenReferenceIdeal.nD,
          r.2.mem ((c.tc : Thread Cert.StepInEvenReferenceIdeal.nD Cert.StepInEvenReferenceIdeal.τ).loc Cert.StepInEvenReferenceIdeal.main_v24) = v0 c
          ∧ r.2.mem ((c.tc : Thread Cert.StepInEvenReferenceIdeal.nD Cert.StepInEvenReferenceIdeal.τ).loc Cert.StepInEvenReferenceIdeal.main_v25) = v1 c
          ∧ r.2.mem ((c.tc : Thread Cert.StepInEvenReferenceIdeal.nD Cert.StepInEvenReferenceIdeal.τ).loc Cert.StepInEvenReferenceIdeal.main_v26) = v2 c
          ∧ r.2.mem ((c.tc : Thread Cert.StepInEvenReferenceIdeal.nD Cert.StepInEvenReferenceIdeal.τ).loc Cert.StepInEvenReferenceIdeal.main_arg0) = m' ((c.tc : Thread Cert.StepInEvenReferenceIdeal.nD Cert.StepInEvenReferenceIdeal.τ).loc Cert.StepInEvenReferenceIdeal.main_arg0)
          ∧ r.2.mem ((c.tc : Thread Cert.StepInEvenReferenceIdeal.nD Cert.StepInEvenReferenceIdeal.τ).loc Cert.StepInEvenReferenceIdeal.main_arg1) = m' ((c.tc : Thread Cert.StepInEvenReferenceIdeal.nD Cert.StepInEvenReferenceIdeal.τ).loc Cert.StepInEvenReferenceIdeal.main_arg1)
          ∧ r.2.mem ((c.tc : Thread Cert.StepInEvenReferenceIdeal.nD Cert.StepInEvenReferenceIdeal.τ).loc Cert.StepInEvenReferenceIdeal.main_arg2) = m' ((c.tc : Thread Cert.StepInEvenReferenceIdeal.nD Cert.StepInEvenReferenceIdeal.τ).loc Cert.StepInEvenReferenceIdeal.main_arg2)
          ∧ r.2.mem ((c.tc : Thread Cert.StepInEvenReferenceIdeal.nD Cert.StepInEvenReferenceIdeal.τ).loc Cert.StepInEvenReferenceIdeal.main_arg3) = m' ((c.tc : Thread Cert.StepInEvenReferenceIdeal.nD Cert.StepInEvenReferenceIdeal.τ).loc Cert.StepInEvenReferenceIdeal.main_arg3))

def preserves_StepOutKernel_StepOutKernelIdeal : Prop :=
  True

def algebraic_StepOutKernelIdeal_StepOutReferenceIdeal [hStepOutKernelIdeal : Cert.StepOutKernelIdeal.Facts] [hStepOutReferenceIdeal : Cert.StepOutReferenceIdeal.Facts] : Prop :=
  ∀ (m : (ℓ : Loc Cert.StepOutKernelIdeal.nD Cert.StepOutKernelIdeal.τ Cert.StepOutKernelIdeal.sig) → Buf (Elt Ideal) ℓ) (g : Dev Cert.StepOutKernelIdeal.nD → PrngReg)
    (m' : (ℓ : Loc Cert.StepOutReferenceIdeal.nD Cert.StepOutReferenceIdeal.τ Cert.StepOutReferenceIdeal.sig) → Buf (Elt Ideal) ℓ) (g' : Dev Cert.StepOutReferenceIdeal.nD → PrngReg), Pre_StepOutKernelIdeal m →
    (∀ c : Dev Cert.StepOutKernelIdeal.nD,
      m' ((c.tc : Thread Cert.StepOutReferenceIdeal.nD Cert.StepOutReferenceIdeal.τ).loc Cert.StepOutReferenceIdeal.main_arg0) = m ((c.tc : Thread Cert.StepOutKernelIdeal.nD Cert.StepOutKernelIdeal.τ).loc Cert.StepOutKernelIdeal.main_arg0)
      ∧ m' ((c.tc : Thread Cert.StepOutReferenceIdeal.nD Cert.StepOutReferenceIdeal.τ).loc Cert.StepOutReferenceIdeal.main_arg1) = m ((c.tc : Thread Cert.StepOutKernelIdeal.nD Cert.StepOutKernelIdeal.τ).loc Cert.StepOutKernelIdeal.main_arg1)
      ∧ m' ((c.tc : Thread Cert.StepOutReferenceIdeal.nD Cert.StepOutReferenceIdeal.τ).loc Cert.StepOutReferenceIdeal.main_arg2) = m ((c.tc : Thread Cert.StepOutKernelIdeal.nD Cert.StepOutKernelIdeal.τ).loc Cert.StepOutKernelIdeal.main_arg2)
      ∧ m' ((c.tc : Thread Cert.StepOutReferenceIdeal.nD Cert.StepOutReferenceIdeal.τ).loc Cert.StepOutReferenceIdeal.main_arg3) = m ((c.tc : Thread Cert.StepOutKernelIdeal.nD Cert.StepOutKernelIdeal.τ).loc Cert.StepOutKernelIdeal.main_arg3)) →
    ∃ (v0 : (c : Dev Cert.StepOutKernelIdeal.nD) → Buf (Elt Ideal) ((c.tc : Thread Cert.StepOutKernelIdeal.nD Cert.StepOutKernelIdeal.τ).loc Cert.StepOutKernelIdeal.main_v4_0)) (v1 : (c : Dev Cert.StepOutKernelIdeal.nD) → Buf (Elt Ideal) ((c.tc : Thread Cert.StepOutKernelIdeal.nD Cert.StepOutKernelIdeal.τ).loc Cert.StepOutKernelIdeal.main_v4_1)) (v2 : (c : Dev Cert.StepOutKernelIdeal.nD) → Buf (Elt Ideal) ((c.tc : Thread Cert.StepOutKernelIdeal.nD Cert.StepOutKernelIdeal.τ).loc Cert.StepOutKernelIdeal.main_v4_2)),
      θ_run (Cert.StepOutKernelIdeal.defs (F := Ideal)) (onTc (τ := Cert.StepOutKernelIdeal.τ) (Cert.StepOutKernelIdeal.main (F := Ideal))) ⟨m, fun _ => 0, g⟩ (fun r => ∀ c : Dev Cert.StepOutKernelIdeal.nD,
          r.2.mem ((c.tc : Thread Cert.StepOutKernelIdeal.nD Cert.StepOutKernelIdeal.τ).loc Cert.StepOutKernelIdeal.main_v4_0) = v0 c
          ∧ r.2.mem ((c.tc : Thread Cert.StepOutKernelIdeal.nD Cert.StepOutKernelIdeal.τ).loc Cert.StepOutKernelIdeal.main_v4_1) = v1 c
          ∧ r.2.mem ((c.tc : Thread Cert.StepOutKernelIdeal.nD Cert.StepOutKernelIdeal.τ).loc Cert.StepOutKernelIdeal.main_v4_2) = v2 c
          ∧ r.2.mem ((c.tc : Thread Cert.StepOutKernelIdeal.nD Cert.StepOutKernelIdeal.τ).loc Cert.StepOutKernelIdeal.main_arg0) = m ((c.tc : Thread Cert.StepOutKernelIdeal.nD Cert.StepOutKernelIdeal.τ).loc Cert.StepOutKernelIdeal.main_arg0)
          ∧ r.2.mem ((c.tc : Thread Cert.StepOutKernelIdeal.nD Cert.StepOutKernelIdeal.τ).loc Cert.StepOutKernelIdeal.main_arg1) = m ((c.tc : Thread Cert.StepOutKernelIdeal.nD Cert.StepOutKernelIdeal.τ).loc Cert.StepOutKernelIdeal.main_arg1)
          ∧ r.2.mem ((c.tc : Thread Cert.StepOutKernelIdeal.nD Cert.StepOutKernelIdeal.τ).loc Cert.StepOutKernelIdeal.main_arg2) = m ((c.tc : Thread Cert.StepOutKernelIdeal.nD Cert.StepOutKernelIdeal.τ).loc Cert.StepOutKernelIdeal.main_arg2)
          ∧ r.2.mem ((c.tc : Thread Cert.StepOutKernelIdeal.nD Cert.StepOutKernelIdeal.τ).loc Cert.StepOutKernelIdeal.main_arg3) = m ((c.tc : Thread Cert.StepOutKernelIdeal.nD Cert.StepOutKernelIdeal.τ).loc Cert.StepOutKernelIdeal.main_arg3))
      ∧ θ_run (Cert.StepOutReferenceIdeal.defs (F := Ideal)) (onTc (τ := Cert.StepOutReferenceIdeal.τ) (Cert.StepOutReferenceIdeal.main (F := Ideal))) ⟨m', fun _ => 0, g'⟩ (fun r => ∀ c : Dev Cert.StepOutReferenceIdeal.nD,
          r.2.mem ((c.tc : Thread Cert.StepOutReferenceIdeal.nD Cert.StepOutReferenceIdeal.τ).loc Cert.StepOutReferenceIdeal.main_v24) = v0 c
          ∧ r.2.mem ((c.tc : Thread Cert.StepOutReferenceIdeal.nD Cert.StepOutReferenceIdeal.τ).loc Cert.StepOutReferenceIdeal.main_v25) = v1 c
          ∧ r.2.mem ((c.tc : Thread Cert.StepOutReferenceIdeal.nD Cert.StepOutReferenceIdeal.τ).loc Cert.StepOutReferenceIdeal.main_v26) = v2 c
          ∧ r.2.mem ((c.tc : Thread Cert.StepOutReferenceIdeal.nD Cert.StepOutReferenceIdeal.τ).loc Cert.StepOutReferenceIdeal.main_arg0) = m' ((c.tc : Thread Cert.StepOutReferenceIdeal.nD Cert.StepOutReferenceIdeal.τ).loc Cert.StepOutReferenceIdeal.main_arg0)
          ∧ r.2.mem ((c.tc : Thread Cert.StepOutReferenceIdeal.nD Cert.StepOutReferenceIdeal.τ).loc Cert.StepOutReferenceIdeal.main_arg1) = m' ((c.tc : Thread Cert.StepOutReferenceIdeal.nD Cert.StepOutReferenceIdeal.τ).loc Cert.StepOutReferenceIdeal.main_arg1)
          ∧ r.2.mem ((c.tc : Thread Cert.StepOutReferenceIdeal.nD Cert.StepOutReferenceIdeal.τ).loc Cert.StepOutReferenceIdeal.main_arg2) = m' ((c.tc : Thread Cert.StepOutReferenceIdeal.nD Cert.StepOutReferenceIdeal.τ).loc Cert.StepOutReferenceIdeal.main_arg2)
          ∧ r.2.mem ((c.tc : Thread Cert.StepOutReferenceIdeal.nD Cert.StepOutReferenceIdeal.τ).loc Cert.StepOutReferenceIdeal.main_arg3) = m' ((c.tc : Thread Cert.StepOutReferenceIdeal.nD Cert.StepOutReferenceIdeal.τ).loc Cert.StepOutReferenceIdeal.main_arg3))

def preserves_StepInOddKernel_StepInOddKernelIdeal : Prop :=
  True

def algebraic_StepInOddKernelIdeal_StepInOddReferenceIdeal [hStepInOddKernelIdeal : Cert.StepInOddKernelIdeal.Facts] [hStepInOddReferenceIdeal : Cert.StepInOddReferenceIdeal.Facts] : Prop :=
  ∀ (m : (ℓ : Loc Cert.StepInOddKernelIdeal.nD Cert.StepInOddKernelIdeal.τ Cert.StepInOddKernelIdeal.sig) → Buf (Elt Ideal) ℓ) (g : Dev Cert.StepInOddKernelIdeal.nD → PrngReg)
    (m' : (ℓ : Loc Cert.StepInOddReferenceIdeal.nD Cert.StepInOddReferenceIdeal.τ Cert.StepInOddReferenceIdeal.sig) → Buf (Elt Ideal) ℓ) (g' : Dev Cert.StepInOddReferenceIdeal.nD → PrngReg), Pre_StepInOddKernelIdeal m →
    (∀ c : Dev Cert.StepInOddKernelIdeal.nD,
      m' ((c.tc : Thread Cert.StepInOddReferenceIdeal.nD Cert.StepInOddReferenceIdeal.τ).loc Cert.StepInOddReferenceIdeal.main_arg0) = m ((c.tc : Thread Cert.StepInOddKernelIdeal.nD Cert.StepInOddKernelIdeal.τ).loc Cert.StepInOddKernelIdeal.main_arg0)
      ∧ m' ((c.tc : Thread Cert.StepInOddReferenceIdeal.nD Cert.StepInOddReferenceIdeal.τ).loc Cert.StepInOddReferenceIdeal.main_arg1) = m ((c.tc : Thread Cert.StepInOddKernelIdeal.nD Cert.StepInOddKernelIdeal.τ).loc Cert.StepInOddKernelIdeal.main_arg1)
      ∧ m' ((c.tc : Thread Cert.StepInOddReferenceIdeal.nD Cert.StepInOddReferenceIdeal.τ).loc Cert.StepInOddReferenceIdeal.main_arg2) = m ((c.tc : Thread Cert.StepInOddKernelIdeal.nD Cert.StepInOddKernelIdeal.τ).loc Cert.StepInOddKernelIdeal.main_arg2)
      ∧ m' ((c.tc : Thread Cert.StepInOddReferenceIdeal.nD Cert.StepInOddReferenceIdeal.τ).loc Cert.StepInOddReferenceIdeal.main_arg3) = m ((c.tc : Thread Cert.StepInOddKernelIdeal.nD Cert.StepInOddKernelIdeal.τ).loc Cert.StepInOddKernelIdeal.main_arg3)) →
    ∃ (v0 : (c : Dev Cert.StepInOddKernelIdeal.nD) → Buf (Elt Ideal) ((c.tc : Thread Cert.StepInOddKernelIdeal.nD Cert.StepInOddKernelIdeal.τ).loc Cert.StepInOddKernelIdeal.main_v4_0)) (v1 : (c : Dev Cert.StepInOddKernelIdeal.nD) → Buf (Elt Ideal) ((c.tc : Thread Cert.StepInOddKernelIdeal.nD Cert.StepInOddKernelIdeal.τ).loc Cert.StepInOddKernelIdeal.main_v4_1)) (v2 : (c : Dev Cert.StepInOddKernelIdeal.nD) → Buf (Elt Ideal) ((c.tc : Thread Cert.StepInOddKernelIdeal.nD Cert.StepInOddKernelIdeal.τ).loc Cert.StepInOddKernelIdeal.main_v4_2)),
      θ_run (Cert.StepInOddKernelIdeal.defs (F := Ideal)) (onTc (τ := Cert.StepInOddKernelIdeal.τ) (Cert.StepInOddKernelIdeal.main (F := Ideal))) ⟨m, fun _ => 0, g⟩ (fun r => ∀ c : Dev Cert.StepInOddKernelIdeal.nD,
          r.2.mem ((c.tc : Thread Cert.StepInOddKernelIdeal.nD Cert.StepInOddKernelIdeal.τ).loc Cert.StepInOddKernelIdeal.main_v4_0) = v0 c
          ∧ r.2.mem ((c.tc : Thread Cert.StepInOddKernelIdeal.nD Cert.StepInOddKernelIdeal.τ).loc Cert.StepInOddKernelIdeal.main_v4_1) = v1 c
          ∧ r.2.mem ((c.tc : Thread Cert.StepInOddKernelIdeal.nD Cert.StepInOddKernelIdeal.τ).loc Cert.StepInOddKernelIdeal.main_v4_2) = v2 c
          ∧ r.2.mem ((c.tc : Thread Cert.StepInOddKernelIdeal.nD Cert.StepInOddKernelIdeal.τ).loc Cert.StepInOddKernelIdeal.main_arg0) = m ((c.tc : Thread Cert.StepInOddKernelIdeal.nD Cert.StepInOddKernelIdeal.τ).loc Cert.StepInOddKernelIdeal.main_arg0)
          ∧ r.2.mem ((c.tc : Thread Cert.StepInOddKernelIdeal.nD Cert.StepInOddKernelIdeal.τ).loc Cert.StepInOddKernelIdeal.main_arg1) = m ((c.tc : Thread Cert.StepInOddKernelIdeal.nD Cert.StepInOddKernelIdeal.τ).loc Cert.StepInOddKernelIdeal.main_arg1)
          ∧ r.2.mem ((c.tc : Thread Cert.StepInOddKernelIdeal.nD Cert.StepInOddKernelIdeal.τ).loc Cert.StepInOddKernelIdeal.main_arg2) = m ((c.tc : Thread Cert.StepInOddKernelIdeal.nD Cert.StepInOddKernelIdeal.τ).loc Cert.StepInOddKernelIdeal.main_arg2)
          ∧ r.2.mem ((c.tc : Thread Cert.StepInOddKernelIdeal.nD Cert.StepInOddKernelIdeal.τ).loc Cert.StepInOddKernelIdeal.main_arg3) = m ((c.tc : Thread Cert.StepInOddKernelIdeal.nD Cert.StepInOddKernelIdeal.τ).loc Cert.StepInOddKernelIdeal.main_arg3))
      ∧ θ_run (Cert.StepInOddReferenceIdeal.defs (F := Ideal)) (onTc (τ := Cert.StepInOddReferenceIdeal.τ) (Cert.StepInOddReferenceIdeal.main (F := Ideal))) ⟨m', fun _ => 0, g'⟩ (fun r => ∀ c : Dev Cert.StepInOddReferenceIdeal.nD,
          r.2.mem ((c.tc : Thread Cert.StepInOddReferenceIdeal.nD Cert.StepInOddReferenceIdeal.τ).loc Cert.StepInOddReferenceIdeal.main_v24) = v0 c
          ∧ r.2.mem ((c.tc : Thread Cert.StepInOddReferenceIdeal.nD Cert.StepInOddReferenceIdeal.τ).loc Cert.StepInOddReferenceIdeal.main_v25) = v1 c
          ∧ r.2.mem ((c.tc : Thread Cert.StepInOddReferenceIdeal.nD Cert.StepInOddReferenceIdeal.τ).loc Cert.StepInOddReferenceIdeal.main_v26) = v2 c
          ∧ r.2.mem ((c.tc : Thread Cert.StepInOddReferenceIdeal.nD Cert.StepInOddReferenceIdeal.τ).loc Cert.StepInOddReferenceIdeal.main_arg0) = m' ((c.tc : Thread Cert.StepInOddReferenceIdeal.nD Cert.StepInOddReferenceIdeal.τ).loc Cert.StepInOddReferenceIdeal.main_arg0)
          ∧ r.2.mem ((c.tc : Thread Cert.StepInOddReferenceIdeal.nD Cert.StepInOddReferenceIdeal.τ).loc Cert.StepInOddReferenceIdeal.main_arg1) = m' ((c.tc : Thread Cert.StepInOddReferenceIdeal.nD Cert.StepInOddReferenceIdeal.τ).loc Cert.StepInOddReferenceIdeal.main_arg1)
          ∧ r.2.mem ((c.tc : Thread Cert.StepInOddReferenceIdeal.nD Cert.StepInOddReferenceIdeal.τ).loc Cert.StepInOddReferenceIdeal.main_arg2) = m' ((c.tc : Thread Cert.StepInOddReferenceIdeal.nD Cert.StepInOddReferenceIdeal.τ).loc Cert.StepInOddReferenceIdeal.main_arg2)
          ∧ r.2.mem ((c.tc : Thread Cert.StepInOddReferenceIdeal.nD Cert.StepInOddReferenceIdeal.τ).loc Cert.StepInOddReferenceIdeal.main_arg3) = m' ((c.tc : Thread Cert.StepInOddReferenceIdeal.nD Cert.StepInOddReferenceIdeal.τ).loc Cert.StepInOddReferenceIdeal.main_arg3))

def preserves_StepUpKernel_StepUpKernelIdeal : Prop :=
  True

def algebraic_StepUpKernelIdeal_StepUpReferenceIdeal [hStepUpKernelIdeal : Cert.StepUpKernelIdeal.Facts] [hStepUpReferenceIdeal : Cert.StepUpReferenceIdeal.Facts] : Prop :=
  ∀ (m : (ℓ : Loc Cert.StepUpKernelIdeal.nD Cert.StepUpKernelIdeal.τ Cert.StepUpKernelIdeal.sig) → Buf (Elt Ideal) ℓ) (g : Dev Cert.StepUpKernelIdeal.nD → PrngReg)
    (m' : (ℓ : Loc Cert.StepUpReferenceIdeal.nD Cert.StepUpReferenceIdeal.τ Cert.StepUpReferenceIdeal.sig) → Buf (Elt Ideal) ℓ) (g' : Dev Cert.StepUpReferenceIdeal.nD → PrngReg), Pre_StepUpKernelIdeal m →
    (∀ c : Dev Cert.StepUpKernelIdeal.nD,
      m' ((c.tc : Thread Cert.StepUpReferenceIdeal.nD Cert.StepUpReferenceIdeal.τ).loc Cert.StepUpReferenceIdeal.main_arg0) = m ((c.tc : Thread Cert.StepUpKernelIdeal.nD Cert.StepUpKernelIdeal.τ).loc Cert.StepUpKernelIdeal.main_arg0)
      ∧ m' ((c.tc : Thread Cert.StepUpReferenceIdeal.nD Cert.StepUpReferenceIdeal.τ).loc Cert.StepUpReferenceIdeal.main_arg1) = m ((c.tc : Thread Cert.StepUpKernelIdeal.nD Cert.StepUpKernelIdeal.τ).loc Cert.StepUpKernelIdeal.main_arg1)
      ∧ m' ((c.tc : Thread Cert.StepUpReferenceIdeal.nD Cert.StepUpReferenceIdeal.τ).loc Cert.StepUpReferenceIdeal.main_arg2) = m ((c.tc : Thread Cert.StepUpKernelIdeal.nD Cert.StepUpKernelIdeal.τ).loc Cert.StepUpKernelIdeal.main_arg2)
      ∧ m' ((c.tc : Thread Cert.StepUpReferenceIdeal.nD Cert.StepUpReferenceIdeal.τ).loc Cert.StepUpReferenceIdeal.main_arg3) = m ((c.tc : Thread Cert.StepUpKernelIdeal.nD Cert.StepUpKernelIdeal.τ).loc Cert.StepUpKernelIdeal.main_arg3)) →
    ∃ (v0 : (c : Dev Cert.StepUpKernelIdeal.nD) → Buf (Elt Ideal) ((c.tc : Thread Cert.StepUpKernelIdeal.nD Cert.StepUpKernelIdeal.τ).loc Cert.StepUpKernelIdeal.main_v4_0)) (v1 : (c : Dev Cert.StepUpKernelIdeal.nD) → Buf (Elt Ideal) ((c.tc : Thread Cert.StepUpKernelIdeal.nD Cert.StepUpKernelIdeal.τ).loc Cert.StepUpKernelIdeal.main_v4_1)) (v2 : (c : Dev Cert.StepUpKernelIdeal.nD) → Buf (Elt Ideal) ((c.tc : Thread Cert.StepUpKernelIdeal.nD Cert.StepUpKernelIdeal.τ).loc Cert.StepUpKernelIdeal.main_v4_2)),
      θ_run (Cert.StepUpKernelIdeal.defs (F := Ideal)) (onTc (τ := Cert.StepUpKernelIdeal.τ) (Cert.StepUpKernelIdeal.main (F := Ideal))) ⟨m, fun _ => 0, g⟩ (fun r => ∀ c : Dev Cert.StepUpKernelIdeal.nD,
          r.2.mem ((c.tc : Thread Cert.StepUpKernelIdeal.nD Cert.StepUpKernelIdeal.τ).loc Cert.StepUpKernelIdeal.main_v4_0) = v0 c
          ∧ r.2.mem ((c.tc : Thread Cert.StepUpKernelIdeal.nD Cert.StepUpKernelIdeal.τ).loc Cert.StepUpKernelIdeal.main_v4_1) = v1 c
          ∧ r.2.mem ((c.tc : Thread Cert.StepUpKernelIdeal.nD Cert.StepUpKernelIdeal.τ).loc Cert.StepUpKernelIdeal.main_v4_2) = v2 c
          ∧ r.2.mem ((c.tc : Thread Cert.StepUpKernelIdeal.nD Cert.StepUpKernelIdeal.τ).loc Cert.StepUpKernelIdeal.main_arg0) = m ((c.tc : Thread Cert.StepUpKernelIdeal.nD Cert.StepUpKernelIdeal.τ).loc Cert.StepUpKernelIdeal.main_arg0)
          ∧ r.2.mem ((c.tc : Thread Cert.StepUpKernelIdeal.nD Cert.StepUpKernelIdeal.τ).loc Cert.StepUpKernelIdeal.main_arg1) = m ((c.tc : Thread Cert.StepUpKernelIdeal.nD Cert.StepUpKernelIdeal.τ).loc Cert.StepUpKernelIdeal.main_arg1)
          ∧ r.2.mem ((c.tc : Thread Cert.StepUpKernelIdeal.nD Cert.StepUpKernelIdeal.τ).loc Cert.StepUpKernelIdeal.main_arg2) = m ((c.tc : Thread Cert.StepUpKernelIdeal.nD Cert.StepUpKernelIdeal.τ).loc Cert.StepUpKernelIdeal.main_arg2)
          ∧ r.2.mem ((c.tc : Thread Cert.StepUpKernelIdeal.nD Cert.StepUpKernelIdeal.τ).loc Cert.StepUpKernelIdeal.main_arg3) = m ((c.tc : Thread Cert.StepUpKernelIdeal.nD Cert.StepUpKernelIdeal.τ).loc Cert.StepUpKernelIdeal.main_arg3))
      ∧ θ_run (Cert.StepUpReferenceIdeal.defs (F := Ideal)) (onTc (τ := Cert.StepUpReferenceIdeal.τ) (Cert.StepUpReferenceIdeal.main (F := Ideal))) ⟨m', fun _ => 0, g'⟩ (fun r => ∀ c : Dev Cert.StepUpReferenceIdeal.nD,
          r.2.mem ((c.tc : Thread Cert.StepUpReferenceIdeal.nD Cert.StepUpReferenceIdeal.τ).loc Cert.StepUpReferenceIdeal.main_v24) = v0 c
          ∧ r.2.mem ((c.tc : Thread Cert.StepUpReferenceIdeal.nD Cert.StepUpReferenceIdeal.τ).loc Cert.StepUpReferenceIdeal.main_v25) = v1 c
          ∧ r.2.mem ((c.tc : Thread Cert.StepUpReferenceIdeal.nD Cert.StepUpReferenceIdeal.τ).loc Cert.StepUpReferenceIdeal.main_v26) = v2 c
          ∧ r.2.mem ((c.tc : Thread Cert.StepUpReferenceIdeal.nD Cert.StepUpReferenceIdeal.τ).loc Cert.StepUpReferenceIdeal.main_arg0) = m' ((c.tc : Thread Cert.StepUpReferenceIdeal.nD Cert.StepUpReferenceIdeal.τ).loc Cert.StepUpReferenceIdeal.main_arg0)
          ∧ r.2.mem ((c.tc : Thread Cert.StepUpReferenceIdeal.nD Cert.StepUpReferenceIdeal.τ).loc Cert.StepUpReferenceIdeal.main_arg1) = m' ((c.tc : Thread Cert.StepUpReferenceIdeal.nD Cert.StepUpReferenceIdeal.τ).loc Cert.StepUpReferenceIdeal.main_arg1)
          ∧ r.2.mem ((c.tc : Thread Cert.StepUpReferenceIdeal.nD Cert.StepUpReferenceIdeal.τ).loc Cert.StepUpReferenceIdeal.main_arg2) = m' ((c.tc : Thread Cert.StepUpReferenceIdeal.nD Cert.StepUpReferenceIdeal.τ).loc Cert.StepUpReferenceIdeal.main_arg2)
          ∧ r.2.mem ((c.tc : Thread Cert.StepUpReferenceIdeal.nD Cert.StepUpReferenceIdeal.τ).loc Cert.StepUpReferenceIdeal.main_arg3) = m' ((c.tc : Thread Cert.StepUpReferenceIdeal.nD Cert.StepUpReferenceIdeal.τ).loc Cert.StepUpReferenceIdeal.main_arg3))

def preserves_StepDownKernel_StepDownKernelIdeal : Prop :=
  True

def algebraic_StepDownKernelIdeal_StepDownReferenceIdeal [hStepDownKernelIdeal : Cert.StepDownKernelIdeal.Facts] [hStepDownReferenceIdeal : Cert.StepDownReferenceIdeal.Facts] : Prop :=
  ∀ (m : (ℓ : Loc Cert.StepDownKernelIdeal.nD Cert.StepDownKernelIdeal.τ Cert.StepDownKernelIdeal.sig) → Buf (Elt Ideal) ℓ) (g : Dev Cert.StepDownKernelIdeal.nD → PrngReg)
    (m' : (ℓ : Loc Cert.StepDownReferenceIdeal.nD Cert.StepDownReferenceIdeal.τ Cert.StepDownReferenceIdeal.sig) → Buf (Elt Ideal) ℓ) (g' : Dev Cert.StepDownReferenceIdeal.nD → PrngReg), Pre_StepDownKernelIdeal m →
    (∀ c : Dev Cert.StepDownKernelIdeal.nD,
      m' ((c.tc : Thread Cert.StepDownReferenceIdeal.nD Cert.StepDownReferenceIdeal.τ).loc Cert.StepDownReferenceIdeal.main_arg0) = m ((c.tc : Thread Cert.StepDownKernelIdeal.nD Cert.StepDownKernelIdeal.τ).loc Cert.StepDownKernelIdeal.main_arg0)
      ∧ m' ((c.tc : Thread Cert.StepDownReferenceIdeal.nD Cert.StepDownReferenceIdeal.τ).loc Cert.StepDownReferenceIdeal.main_arg1) = m ((c.tc : Thread Cert.StepDownKernelIdeal.nD Cert.StepDownKernelIdeal.τ).loc Cert.StepDownKernelIdeal.main_arg1)
      ∧ m' ((c.tc : Thread Cert.StepDownReferenceIdeal.nD Cert.StepDownReferenceIdeal.τ).loc Cert.StepDownReferenceIdeal.main_arg2) = m ((c.tc : Thread Cert.StepDownKernelIdeal.nD Cert.StepDownKernelIdeal.τ).loc Cert.StepDownKernelIdeal.main_arg2)
      ∧ m' ((c.tc : Thread Cert.StepDownReferenceIdeal.nD Cert.StepDownReferenceIdeal.τ).loc Cert.StepDownReferenceIdeal.main_arg3) = m ((c.tc : Thread Cert.StepDownKernelIdeal.nD Cert.StepDownKernelIdeal.τ).loc Cert.StepDownKernelIdeal.main_arg3)) →
    ∃ (v0 : (c : Dev Cert.StepDownKernelIdeal.nD) → Buf (Elt Ideal) ((c.tc : Thread Cert.StepDownKernelIdeal.nD Cert.StepDownKernelIdeal.τ).loc Cert.StepDownKernelIdeal.main_v4_0)) (v1 : (c : Dev Cert.StepDownKernelIdeal.nD) → Buf (Elt Ideal) ((c.tc : Thread Cert.StepDownKernelIdeal.nD Cert.StepDownKernelIdeal.τ).loc Cert.StepDownKernelIdeal.main_v4_1)) (v2 : (c : Dev Cert.StepDownKernelIdeal.nD) → Buf (Elt Ideal) ((c.tc : Thread Cert.StepDownKernelIdeal.nD Cert.StepDownKernelIdeal.τ).loc Cert.StepDownKernelIdeal.main_v4_2)),
      θ_run (Cert.StepDownKernelIdeal.defs (F := Ideal)) (onTc (τ := Cert.StepDownKernelIdeal.τ) (Cert.StepDownKernelIdeal.main (F := Ideal))) ⟨m, fun _ => 0, g⟩ (fun r => ∀ c : Dev Cert.StepDownKernelIdeal.nD,
          r.2.mem ((c.tc : Thread Cert.StepDownKernelIdeal.nD Cert.StepDownKernelIdeal.τ).loc Cert.StepDownKernelIdeal.main_v4_0) = v0 c
          ∧ r.2.mem ((c.tc : Thread Cert.StepDownKernelIdeal.nD Cert.StepDownKernelIdeal.τ).loc Cert.StepDownKernelIdeal.main_v4_1) = v1 c
          ∧ r.2.mem ((c.tc : Thread Cert.StepDownKernelIdeal.nD Cert.StepDownKernelIdeal.τ).loc Cert.StepDownKernelIdeal.main_v4_2) = v2 c
          ∧ r.2.mem ((c.tc : Thread Cert.StepDownKernelIdeal.nD Cert.StepDownKernelIdeal.τ).loc Cert.StepDownKernelIdeal.main_arg0) = m ((c.tc : Thread Cert.StepDownKernelIdeal.nD Cert.StepDownKernelIdeal.τ).loc Cert.StepDownKernelIdeal.main_arg0)
          ∧ r.2.mem ((c.tc : Thread Cert.StepDownKernelIdeal.nD Cert.StepDownKernelIdeal.τ).loc Cert.StepDownKernelIdeal.main_arg1) = m ((c.tc : Thread Cert.StepDownKernelIdeal.nD Cert.StepDownKernelIdeal.τ).loc Cert.StepDownKernelIdeal.main_arg1)
          ∧ r.2.mem ((c.tc : Thread Cert.StepDownKernelIdeal.nD Cert.StepDownKernelIdeal.τ).loc Cert.StepDownKernelIdeal.main_arg2) = m ((c.tc : Thread Cert.StepDownKernelIdeal.nD Cert.StepDownKernelIdeal.τ).loc Cert.StepDownKernelIdeal.main_arg2)
          ∧ r.2.mem ((c.tc : Thread Cert.StepDownKernelIdeal.nD Cert.StepDownKernelIdeal.τ).loc Cert.StepDownKernelIdeal.main_arg3) = m ((c.tc : Thread Cert.StepDownKernelIdeal.nD Cert.StepDownKernelIdeal.τ).loc Cert.StepDownKernelIdeal.main_arg3))
      ∧ θ_run (Cert.StepDownReferenceIdeal.defs (F := Ideal)) (onTc (τ := Cert.StepDownReferenceIdeal.τ) (Cert.StepDownReferenceIdeal.main (F := Ideal))) ⟨m', fun _ => 0, g'⟩ (fun r => ∀ c : Dev Cert.StepDownReferenceIdeal.nD,
          r.2.mem ((c.tc : Thread Cert.StepDownReferenceIdeal.nD Cert.StepDownReferenceIdeal.τ).loc Cert.StepDownReferenceIdeal.main_v24) = v0 c
          ∧ r.2.mem ((c.tc : Thread Cert.StepDownReferenceIdeal.nD Cert.StepDownReferenceIdeal.τ).loc Cert.StepDownReferenceIdeal.main_v25) = v1 c
          ∧ r.2.mem ((c.tc : Thread Cert.StepDownReferenceIdeal.nD Cert.StepDownReferenceIdeal.τ).loc Cert.StepDownReferenceIdeal.main_v26) = v2 c
          ∧ r.2.mem ((c.tc : Thread Cert.StepDownReferenceIdeal.nD Cert.StepDownReferenceIdeal.τ).loc Cert.StepDownReferenceIdeal.main_arg0) = m' ((c.tc : Thread Cert.StepDownReferenceIdeal.nD Cert.StepDownReferenceIdeal.τ).loc Cert.StepDownReferenceIdeal.main_arg0)
          ∧ r.2.mem ((c.tc : Thread Cert.StepDownReferenceIdeal.nD Cert.StepDownReferenceIdeal.τ).loc Cert.StepDownReferenceIdeal.main_arg1) = m' ((c.tc : Thread Cert.StepDownReferenceIdeal.nD Cert.StepDownReferenceIdeal.τ).loc Cert.StepDownReferenceIdeal.main_arg1)
          ∧ r.2.mem ((c.tc : Thread Cert.StepDownReferenceIdeal.nD Cert.StepDownReferenceIdeal.τ).loc Cert.StepDownReferenceIdeal.main_arg2) = m' ((c.tc : Thread Cert.StepDownReferenceIdeal.nD Cert.StepDownReferenceIdeal.τ).loc Cert.StepDownReferenceIdeal.main_arg2)
          ∧ r.2.mem ((c.tc : Thread Cert.StepDownReferenceIdeal.nD Cert.StepDownReferenceIdeal.τ).loc Cert.StepDownReferenceIdeal.main_arg3) = m' ((c.tc : Thread Cert.StepDownReferenceIdeal.nD Cert.StepDownReferenceIdeal.τ).loc Cert.StepDownReferenceIdeal.main_arg3))

def preserves_StepSmallKernel_StepSmallKernelIdeal : Prop :=
  True

def algebraic_StepSmallKernelIdeal_StepSmallReferenceIdeal [hStepSmallKernelIdeal : Cert.StepSmallKernelIdeal.Facts] [hStepSmallReferenceIdeal : Cert.StepSmallReferenceIdeal.Facts] : Prop :=
  ∀ (m : (ℓ : Loc Cert.StepSmallKernelIdeal.nD Cert.StepSmallKernelIdeal.τ Cert.StepSmallKernelIdeal.sig) → Buf (Elt Ideal) ℓ) (g : Dev Cert.StepSmallKernelIdeal.nD → PrngReg)
    (m' : (ℓ : Loc Cert.StepSmallReferenceIdeal.nD Cert.StepSmallReferenceIdeal.τ Cert.StepSmallReferenceIdeal.sig) → Buf (Elt Ideal) ℓ) (g' : Dev Cert.StepSmallReferenceIdeal.nD → PrngReg), Pre_StepSmallKernelIdeal m →
    (∀ c : Dev Cert.StepSmallKernelIdeal.nD,
      m' ((c.tc : Thread Cert.StepSmallReferenceIdeal.nD Cert.StepSmallReferenceIdeal.τ).loc Cert.StepSmallReferenceIdeal.main_arg0) = m ((c.tc : Thread Cert.StepSmallKernelIdeal.nD Cert.StepSmallKernelIdeal.τ).loc Cert.StepSmallKernelIdeal.main_arg0)
      ∧ m' ((c.tc : Thread Cert.StepSmallReferenceIdeal.nD Cert.StepSmallReferenceIdeal.τ).loc Cert.StepSmallReferenceIdeal.main_arg1) = m ((c.tc : Thread Cert.StepSmallKernelIdeal.nD Cert.StepSmallKernelIdeal.τ).loc Cert.StepSmallKernelIdeal.main_arg1)
      ∧ m' ((c.tc : Thread Cert.StepSmallReferenceIdeal.nD Cert.StepSmallReferenceIdeal.τ).loc Cert.StepSmallReferenceIdeal.main_arg2) = m ((c.tc : Thread Cert.StepSmallKernelIdeal.nD Cert.StepSmallKernelIdeal.τ).loc Cert.StepSmallKernelIdeal.main_arg2)
      ∧ m' ((c.tc : Thread Cert.StepSmallReferenceIdeal.nD Cert.StepSmallReferenceIdeal.τ).loc Cert.StepSmallReferenceIdeal.main_arg3) = m ((c.tc : Thread Cert.StepSmallKernelIdeal.nD Cert.StepSmallKernelIdeal.τ).loc Cert.StepSmallKernelIdeal.main_arg3)
      ∧ m' ((c.tc : Thread Cert.StepSmallReferenceIdeal.nD Cert.StepSmallReferenceIdeal.τ).loc Cert.StepSmallReferenceIdeal.main_arg4) = m ((c.tc : Thread Cert.StepSmallKernelIdeal.nD Cert.StepSmallKernelIdeal.τ).loc Cert.StepSmallKernelIdeal.main_arg4)
      ∧ m' ((c.tc : Thread Cert.StepSmallReferenceIdeal.nD Cert.StepSmallReferenceIdeal.τ).loc Cert.StepSmallReferenceIdeal.main_arg5) = m ((c.tc : Thread Cert.StepSmallKernelIdeal.nD Cert.StepSmallKernelIdeal.τ).loc Cert.StepSmallKernelIdeal.main_arg5)
      ∧ m' ((c.tc : Thread Cert.StepSmallReferenceIdeal.nD Cert.StepSmallReferenceIdeal.τ).loc Cert.StepSmallReferenceIdeal.main_arg6) = m ((c.tc : Thread Cert.StepSmallKernelIdeal.nD Cert.StepSmallKernelIdeal.τ).loc Cert.StepSmallKernelIdeal.main_arg6)
      ∧ m' ((c.tc : Thread Cert.StepSmallReferenceIdeal.nD Cert.StepSmallReferenceIdeal.τ).loc Cert.StepSmallReferenceIdeal.main_arg7) = m ((c.tc : Thread Cert.StepSmallKernelIdeal.nD Cert.StepSmallKernelIdeal.τ).loc Cert.StepSmallKernelIdeal.main_arg7)
      ∧ m' ((c.tc : Thread Cert.StepSmallReferenceIdeal.nD Cert.StepSmallReferenceIdeal.τ).loc Cert.StepSmallReferenceIdeal.main_arg8) = m ((c.tc : Thread Cert.StepSmallKernelIdeal.nD Cert.StepSmallKernelIdeal.τ).loc Cert.StepSmallKernelIdeal.main_arg8)
      ∧ m' ((c.tc : Thread Cert.StepSmallReferenceIdeal.nD Cert.StepSmallReferenceIdeal.τ).loc Cert.StepSmallReferenceIdeal.main_arg9) = m ((c.tc : Thread Cert.StepSmallKernelIdeal.nD Cert.StepSmallKernelIdeal.τ).loc Cert.StepSmallKernelIdeal.main_arg9)
      ∧ m' ((c.tc : Thread Cert.StepSmallReferenceIdeal.nD Cert.StepSmallReferenceIdeal.τ).loc Cert.StepSmallReferenceIdeal.main_arg10) = m ((c.tc : Thread Cert.StepSmallKernelIdeal.nD Cert.StepSmallKernelIdeal.τ).loc Cert.StepSmallKernelIdeal.main_arg10)
      ∧ m' ((c.tc : Thread Cert.StepSmallReferenceIdeal.nD Cert.StepSmallReferenceIdeal.τ).loc Cert.StepSmallReferenceIdeal.main_arg11) = m ((c.tc : Thread Cert.StepSmallKernelIdeal.nD Cert.StepSmallKernelIdeal.τ).loc Cert.StepSmallKernelIdeal.main_arg11)
      ∧ m' ((c.tc : Thread Cert.StepSmallReferenceIdeal.nD Cert.StepSmallReferenceIdeal.τ).loc Cert.StepSmallReferenceIdeal.main_arg12) = m ((c.tc : Thread Cert.StepSmallKernelIdeal.nD Cert.StepSmallKernelIdeal.τ).loc Cert.StepSmallKernelIdeal.main_arg12)
      ∧ m' ((c.tc : Thread Cert.StepSmallReferenceIdeal.nD Cert.StepSmallReferenceIdeal.τ).loc Cert.StepSmallReferenceIdeal.main_arg13) = m ((c.tc : Thread Cert.StepSmallKernelIdeal.nD Cert.StepSmallKernelIdeal.τ).loc Cert.StepSmallKernelIdeal.main_arg13)
      ∧ m' ((c.tc : Thread Cert.StepSmallReferenceIdeal.nD Cert.StepSmallReferenceIdeal.τ).loc Cert.StepSmallReferenceIdeal.main_arg14) = m ((c.tc : Thread Cert.StepSmallKernelIdeal.nD Cert.StepSmallKernelIdeal.τ).loc Cert.StepSmallKernelIdeal.main_arg14)
      ∧ m' ((c.tc : Thread Cert.StepSmallReferenceIdeal.nD Cert.StepSmallReferenceIdeal.τ).loc Cert.StepSmallReferenceIdeal.main_arg15) = m ((c.tc : Thread Cert.StepSmallKernelIdeal.nD Cert.StepSmallKernelIdeal.τ).loc Cert.StepSmallKernelIdeal.main_arg15)
      ∧ m' ((c.tc : Thread Cert.StepSmallReferenceIdeal.nD Cert.StepSmallReferenceIdeal.τ).loc Cert.StepSmallReferenceIdeal.main_arg16) = m ((c.tc : Thread Cert.StepSmallKernelIdeal.nD Cert.StepSmallKernelIdeal.τ).loc Cert.StepSmallKernelIdeal.main_arg16)
      ∧ m' ((c.tc : Thread Cert.StepSmallReferenceIdeal.nD Cert.StepSmallReferenceIdeal.τ).loc Cert.StepSmallReferenceIdeal.main_arg17) = m ((c.tc : Thread Cert.StepSmallKernelIdeal.nD Cert.StepSmallKernelIdeal.τ).loc Cert.StepSmallKernelIdeal.main_arg17)
      ∧ m' ((c.tc : Thread Cert.StepSmallReferenceIdeal.nD Cert.StepSmallReferenceIdeal.τ).loc Cert.StepSmallReferenceIdeal.main_arg18) = m ((c.tc : Thread Cert.StepSmallKernelIdeal.nD Cert.StepSmallKernelIdeal.τ).loc Cert.StepSmallKernelIdeal.main_arg18)
      ∧ m' ((c.tc : Thread Cert.StepSmallReferenceIdeal.nD Cert.StepSmallReferenceIdeal.τ).loc Cert.StepSmallReferenceIdeal.main_arg19) = m ((c.tc : Thread Cert.StepSmallKernelIdeal.nD Cert.StepSmallKernelIdeal.τ).loc Cert.StepSmallKernelIdeal.main_arg19)
      ∧ m' ((c.tc : Thread Cert.StepSmallReferenceIdeal.nD Cert.StepSmallReferenceIdeal.τ).loc Cert.StepSmallReferenceIdeal.main_arg20) = m ((c.tc : Thread Cert.StepSmallKernelIdeal.nD Cert.StepSmallKernelIdeal.τ).loc Cert.StepSmallKernelIdeal.main_arg20)
      ∧ m' ((c.tc : Thread Cert.StepSmallReferenceIdeal.nD Cert.StepSmallReferenceIdeal.τ).loc Cert.StepSmallReferenceIdeal.main_arg21) = m ((c.tc : Thread Cert.StepSmallKernelIdeal.nD Cert.StepSmallKernelIdeal.τ).loc Cert.StepSmallKernelIdeal.main_arg21)
      ∧ m' ((c.tc : Thread Cert.StepSmallReferenceIdeal.nD Cert.StepSmallReferenceIdeal.τ).loc Cert.StepSmallReferenceIdeal.main_arg22) = m ((c.tc : Thread Cert.StepSmallKernelIdeal.nD Cert.StepSmallKernelIdeal.τ).loc Cert.StepSmallKernelIdeal.main_arg22)
      ∧ m' ((c.tc : Thread Cert.StepSmallReferenceIdeal.nD Cert.StepSmallReferenceIdeal.τ).loc Cert.StepSmallReferenceIdeal.main_arg23) = m ((c.tc : Thread Cert.StepSmallKernelIdeal.nD Cert.StepSmallKernelIdeal.τ).loc Cert.StepSmallKernelIdeal.main_arg23)
      ∧ m' ((c.tc : Thread Cert.StepSmallReferenceIdeal.nD Cert.StepSmallReferenceIdeal.τ).loc Cert.StepSmallReferenceIdeal.main_arg24) = m ((c.tc : Thread Cert.StepSmallKernelIdeal.nD Cert.StepSmallKernelIdeal.τ).loc Cert.StepSmallKernelIdeal.main_arg24)
      ∧ m' ((c.tc : Thread Cert.StepSmallReferenceIdeal.nD Cert.StepSmallReferenceIdeal.τ).loc Cert.StepSmallReferenceIdeal.main_arg25) = m ((c.tc : Thread Cert.StepSmallKernelIdeal.nD Cert.StepSmallKernelIdeal.τ).loc Cert.StepSmallKernelIdeal.main_arg25)
      ∧ m' ((c.tc : Thread Cert.StepSmallReferenceIdeal.nD Cert.StepSmallReferenceIdeal.τ).loc Cert.StepSmallReferenceIdeal.main_arg26) = m ((c.tc : Thread Cert.StepSmallKernelIdeal.nD Cert.StepSmallKernelIdeal.τ).loc Cert.StepSmallKernelIdeal.main_arg26)
      ∧ m' ((c.tc : Thread Cert.StepSmallReferenceIdeal.nD Cert.StepSmallReferenceIdeal.τ).loc Cert.StepSmallReferenceIdeal.main_arg27) = m ((c.tc : Thread Cert.StepSmallKernelIdeal.nD Cert.StepSmallKernelIdeal.τ).loc Cert.StepSmallKernelIdeal.main_arg27)
      ∧ m' ((c.tc : Thread Cert.StepSmallReferenceIdeal.nD Cert.StepSmallReferenceIdeal.τ).loc Cert.StepSmallReferenceIdeal.main_arg28) = m ((c.tc : Thread Cert.StepSmallKernelIdeal.nD Cert.StepSmallKernelIdeal.τ).loc Cert.StepSmallKernelIdeal.main_arg28)
      ∧ m' ((c.tc : Thread Cert.StepSmallReferenceIdeal.nD Cert.StepSmallReferenceIdeal.τ).loc Cert.StepSmallReferenceIdeal.main_arg29) = m ((c.tc : Thread Cert.StepSmallKernelIdeal.nD Cert.StepSmallKernelIdeal.τ).loc Cert.StepSmallKernelIdeal.main_arg29)
      ∧ m' ((c.tc : Thread Cert.StepSmallReferenceIdeal.nD Cert.StepSmallReferenceIdeal.τ).loc Cert.StepSmallReferenceIdeal.main_arg30) = m ((c.tc : Thread Cert.StepSmallKernelIdeal.nD Cert.StepSmallKernelIdeal.τ).loc Cert.StepSmallKernelIdeal.main_arg30)
      ∧ m' ((c.tc : Thread Cert.StepSmallReferenceIdeal.nD Cert.StepSmallReferenceIdeal.τ).loc Cert.StepSmallReferenceIdeal.main_arg31) = m ((c.tc : Thread Cert.StepSmallKernelIdeal.nD Cert.StepSmallKernelIdeal.τ).loc Cert.StepSmallKernelIdeal.main_arg31)
      ∧ m' ((c.tc : Thread Cert.StepSmallReferenceIdeal.nD Cert.StepSmallReferenceIdeal.τ).loc Cert.StepSmallReferenceIdeal.main_arg32) = m ((c.tc : Thread Cert.StepSmallKernelIdeal.nD Cert.StepSmallKernelIdeal.τ).loc Cert.StepSmallKernelIdeal.main_arg32)
      ∧ m' ((c.tc : Thread Cert.StepSmallReferenceIdeal.nD Cert.StepSmallReferenceIdeal.τ).loc Cert.StepSmallReferenceIdeal.main_arg33) = m ((c.tc : Thread Cert.StepSmallKernelIdeal.nD Cert.StepSmallKernelIdeal.τ).loc Cert.StepSmallKernelIdeal.main_arg33)
      ∧ m' ((c.tc : Thread Cert.StepSmallReferenceIdeal.nD Cert.StepSmallReferenceIdeal.τ).loc Cert.StepSmallReferenceIdeal.main_arg34) = m ((c.tc : Thread Cert.StepSmallKernelIdeal.nD Cert.StepSmallKernelIdeal.τ).loc Cert.StepSmallKernelIdeal.main_arg34)
      ∧ m' ((c.tc : Thread Cert.StepSmallReferenceIdeal.nD Cert.StepSmallReferenceIdeal.τ).loc Cert.StepSmallReferenceIdeal.main_arg35) = m ((c.tc : Thread Cert.StepSmallKernelIdeal.nD Cert.StepSmallKernelIdeal.τ).loc Cert.StepSmallKernelIdeal.main_arg35)
      ∧ m' ((c.tc : Thread Cert.StepSmallReferenceIdeal.nD Cert.StepSmallReferenceIdeal.τ).loc Cert.StepSmallReferenceIdeal.main_arg36) = m ((c.tc : Thread Cert.StepSmallKernelIdeal.nD Cert.StepSmallKernelIdeal.τ).loc Cert.StepSmallKernelIdeal.main_arg36)
      ∧ m' ((c.tc : Thread Cert.StepSmallReferenceIdeal.nD Cert.StepSmallReferenceIdeal.τ).loc Cert.StepSmallReferenceIdeal.main_arg37) = m ((c.tc : Thread Cert.StepSmallKernelIdeal.nD Cert.StepSmallKernelIdeal.τ).loc Cert.StepSmallKernelIdeal.main_arg37)
      ∧ m' ((c.tc : Thread Cert.StepSmallReferenceIdeal.nD Cert.StepSmallReferenceIdeal.τ).loc Cert.StepSmallReferenceIdeal.main_arg38) = m ((c.tc : Thread Cert.StepSmallKernelIdeal.nD Cert.StepSmallKernelIdeal.τ).loc Cert.StepSmallKernelIdeal.main_arg38)
      ∧ m' ((c.tc : Thread Cert.StepSmallReferenceIdeal.nD Cert.StepSmallReferenceIdeal.τ).loc Cert.StepSmallReferenceIdeal.main_arg39) = m ((c.tc : Thread Cert.StepSmallKernelIdeal.nD Cert.StepSmallKernelIdeal.τ).loc Cert.StepSmallKernelIdeal.main_arg39)
      ∧ m' ((c.tc : Thread Cert.StepSmallReferenceIdeal.nD Cert.StepSmallReferenceIdeal.τ).loc Cert.StepSmallReferenceIdeal.main_arg40) = m ((c.tc : Thread Cert.StepSmallKernelIdeal.nD Cert.StepSmallKernelIdeal.τ).loc Cert.StepSmallKernelIdeal.main_arg40)
      ∧ m' ((c.tc : Thread Cert.StepSmallReferenceIdeal.nD Cert.StepSmallReferenceIdeal.τ).loc Cert.StepSmallReferenceIdeal.main_arg41) = m ((c.tc : Thread Cert.StepSmallKernelIdeal.nD Cert.StepSmallKernelIdeal.τ).loc Cert.StepSmallKernelIdeal.main_arg41)
      ∧ m' ((c.tc : Thread Cert.StepSmallReferenceIdeal.nD Cert.StepSmallReferenceIdeal.τ).loc Cert.StepSmallReferenceIdeal.main_arg42) = m ((c.tc : Thread Cert.StepSmallKernelIdeal.nD Cert.StepSmallKernelIdeal.τ).loc Cert.StepSmallKernelIdeal.main_arg42)
      ∧ m' ((c.tc : Thread Cert.StepSmallReferenceIdeal.nD Cert.StepSmallReferenceIdeal.τ).loc Cert.StepSmallReferenceIdeal.main_arg43) = m ((c.tc : Thread Cert.StepSmallKernelIdeal.nD Cert.StepSmallKernelIdeal.τ).loc Cert.StepSmallKernelIdeal.main_arg43)
      ∧ m' ((c.tc : Thread Cert.StepSmallReferenceIdeal.nD Cert.StepSmallReferenceIdeal.τ).loc Cert.StepSmallReferenceIdeal.main_arg44) = m ((c.tc : Thread Cert.StepSmallKernelIdeal.nD Cert.StepSmallKernelIdeal.τ).loc Cert.StepSmallKernelIdeal.main_arg44)
      ∧ m' ((c.tc : Thread Cert.StepSmallReferenceIdeal.nD Cert.StepSmallReferenceIdeal.τ).loc Cert.StepSmallReferenceIdeal.main_arg45) = m ((c.tc : Thread Cert.StepSmallKernelIdeal.nD Cert.StepSmallKernelIdeal.τ).loc Cert.StepSmallKernelIdeal.main_arg45)
      ∧ m' ((c.tc : Thread Cert.StepSmallReferenceIdeal.nD Cert.StepSmallReferenceIdeal.τ).loc Cert.StepSmallReferenceIdeal.main_arg46) = m ((c.tc : Thread Cert.StepSmallKernelIdeal.nD Cert.StepSmallKernelIdeal.τ).loc Cert.StepSmallKernelIdeal.main_arg46)
      ∧ m' ((c.tc : Thread Cert.StepSmallReferenceIdeal.nD Cert.StepSmallReferenceIdeal.τ).loc Cert.StepSmallReferenceIdeal.main_arg47) = m ((c.tc : Thread Cert.StepSmallKernelIdeal.nD Cert.StepSmallKernelIdeal.τ).loc Cert.StepSmallKernelIdeal.main_arg47)
      ∧ m' ((c.tc : Thread Cert.StepSmallReferenceIdeal.nD Cert.StepSmallReferenceIdeal.τ).loc Cert.StepSmallReferenceIdeal.main_arg48) = m ((c.tc : Thread Cert.StepSmallKernelIdeal.nD Cert.StepSmallKernelIdeal.τ).loc Cert.StepSmallKernelIdeal.main_arg48)
      ∧ m' ((c.tc : Thread Cert.StepSmallReferenceIdeal.nD Cert.StepSmallReferenceIdeal.τ).loc Cert.StepSmallReferenceIdeal.main_arg49) = m ((c.tc : Thread Cert.StepSmallKernelIdeal.nD Cert.StepSmallKernelIdeal.τ).loc Cert.StepSmallKernelIdeal.main_arg49)
      ∧ m' ((c.tc : Thread Cert.StepSmallReferenceIdeal.nD Cert.StepSmallReferenceIdeal.τ).loc Cert.StepSmallReferenceIdeal.main_arg50) = m ((c.tc : Thread Cert.StepSmallKernelIdeal.nD Cert.StepSmallKernelIdeal.τ).loc Cert.StepSmallKernelIdeal.main_arg50)
      ∧ m' ((c.tc : Thread Cert.StepSmallReferenceIdeal.nD Cert.StepSmallReferenceIdeal.τ).loc Cert.StepSmallReferenceIdeal.main_arg51) = m ((c.tc : Thread Cert.StepSmallKernelIdeal.nD Cert.StepSmallKernelIdeal.τ).loc Cert.StepSmallKernelIdeal.main_arg51)
      ∧ m' ((c.tc : Thread Cert.StepSmallReferenceIdeal.nD Cert.StepSmallReferenceIdeal.τ).loc Cert.StepSmallReferenceIdeal.main_arg52) = m ((c.tc : Thread Cert.StepSmallKernelIdeal.nD Cert.StepSmallKernelIdeal.τ).loc Cert.StepSmallKernelIdeal.main_arg52)
      ∧ m' ((c.tc : Thread Cert.StepSmallReferenceIdeal.nD Cert.StepSmallReferenceIdeal.τ).loc Cert.StepSmallReferenceIdeal.main_arg53) = m ((c.tc : Thread Cert.StepSmallKernelIdeal.nD Cert.StepSmallKernelIdeal.τ).loc Cert.StepSmallKernelIdeal.main_arg53)
      ∧ m' ((c.tc : Thread Cert.StepSmallReferenceIdeal.nD Cert.StepSmallReferenceIdeal.τ).loc Cert.StepSmallReferenceIdeal.main_arg54) = m ((c.tc : Thread Cert.StepSmallKernelIdeal.nD Cert.StepSmallKernelIdeal.τ).loc Cert.StepSmallKernelIdeal.main_arg54)
      ∧ m' ((c.tc : Thread Cert.StepSmallReferenceIdeal.nD Cert.StepSmallReferenceIdeal.τ).loc Cert.StepSmallReferenceIdeal.main_arg55) = m ((c.tc : Thread Cert.StepSmallKernelIdeal.nD Cert.StepSmallKernelIdeal.τ).loc Cert.StepSmallKernelIdeal.main_arg55)
      ∧ m' ((c.tc : Thread Cert.StepSmallReferenceIdeal.nD Cert.StepSmallReferenceIdeal.τ).loc Cert.StepSmallReferenceIdeal.main_arg56) = m ((c.tc : Thread Cert.StepSmallKernelIdeal.nD Cert.StepSmallKernelIdeal.τ).loc Cert.StepSmallKernelIdeal.main_arg56)
      ∧ m' ((c.tc : Thread Cert.StepSmallReferenceIdeal.nD Cert.StepSmallReferenceIdeal.τ).loc Cert.StepSmallReferenceIdeal.main_arg57) = m ((c.tc : Thread Cert.StepSmallKernelIdeal.nD Cert.StepSmallKernelIdeal.τ).loc Cert.StepSmallKernelIdeal.main_arg57)
      ∧ m' ((c.tc : Thread Cert.StepSmallReferenceIdeal.nD Cert.StepSmallReferenceIdeal.τ).loc Cert.StepSmallReferenceIdeal.main_arg58) = m ((c.tc : Thread Cert.StepSmallKernelIdeal.nD Cert.StepSmallKernelIdeal.τ).loc Cert.StepSmallKernelIdeal.main_arg58)
      ∧ m' ((c.tc : Thread Cert.StepSmallReferenceIdeal.nD Cert.StepSmallReferenceIdeal.τ).loc Cert.StepSmallReferenceIdeal.main_arg59) = m ((c.tc : Thread Cert.StepSmallKernelIdeal.nD Cert.StepSmallKernelIdeal.τ).loc Cert.StepSmallKernelIdeal.main_arg59)
      ∧ m' ((c.tc : Thread Cert.StepSmallReferenceIdeal.nD Cert.StepSmallReferenceIdeal.τ).loc Cert.StepSmallReferenceIdeal.main_arg60) = m ((c.tc : Thread Cert.StepSmallKernelIdeal.nD Cert.StepSmallKernelIdeal.τ).loc Cert.StepSmallKernelIdeal.main_arg60)
      ∧ m' ((c.tc : Thread Cert.StepSmallReferenceIdeal.nD Cert.StepSmallReferenceIdeal.τ).loc Cert.StepSmallReferenceIdeal.main_arg61) = m ((c.tc : Thread Cert.StepSmallKernelIdeal.nD Cert.StepSmallKernelIdeal.τ).loc Cert.StepSmallKernelIdeal.main_arg61)
      ∧ m' ((c.tc : Thread Cert.StepSmallReferenceIdeal.nD Cert.StepSmallReferenceIdeal.τ).loc Cert.StepSmallReferenceIdeal.main_arg62) = m ((c.tc : Thread Cert.StepSmallKernelIdeal.nD Cert.StepSmallKernelIdeal.τ).loc Cert.StepSmallKernelIdeal.main_arg62)
      ∧ m' ((c.tc : Thread Cert.StepSmallReferenceIdeal.nD Cert.StepSmallReferenceIdeal.τ).loc Cert.StepSmallReferenceIdeal.main_arg63) = m ((c.tc : Thread Cert.StepSmallKernelIdeal.nD Cert.StepSmallKernelIdeal.τ).loc Cert.StepSmallKernelIdeal.main_arg63)
      ∧ m' ((c.tc : Thread Cert.StepSmallReferenceIdeal.nD Cert.StepSmallReferenceIdeal.τ).loc Cert.StepSmallReferenceIdeal.main_arg64) = m ((c.tc : Thread Cert.StepSmallKernelIdeal.nD Cert.StepSmallKernelIdeal.τ).loc Cert.StepSmallKernelIdeal.main_arg64)
      ∧ m' ((c.tc : Thread Cert.StepSmallReferenceIdeal.nD Cert.StepSmallReferenceIdeal.τ).loc Cert.StepSmallReferenceIdeal.main_arg65) = m ((c.tc : Thread Cert.StepSmallKernelIdeal.nD Cert.StepSmallKernelIdeal.τ).loc Cert.StepSmallKernelIdeal.main_arg65)
      ∧ m' ((c.tc : Thread Cert.StepSmallReferenceIdeal.nD Cert.StepSmallReferenceIdeal.τ).loc Cert.StepSmallReferenceIdeal.main_arg66) = m ((c.tc : Thread Cert.StepSmallKernelIdeal.nD Cert.StepSmallKernelIdeal.τ).loc Cert.StepSmallKernelIdeal.main_arg66)
      ∧ m' ((c.tc : Thread Cert.StepSmallReferenceIdeal.nD Cert.StepSmallReferenceIdeal.τ).loc Cert.StepSmallReferenceIdeal.main_arg67) = m ((c.tc : Thread Cert.StepSmallKernelIdeal.nD Cert.StepSmallKernelIdeal.τ).loc Cert.StepSmallKernelIdeal.main_arg67)
      ∧ m' ((c.tc : Thread Cert.StepSmallReferenceIdeal.nD Cert.StepSmallReferenceIdeal.τ).loc Cert.StepSmallReferenceIdeal.main_arg68) = m ((c.tc : Thread Cert.StepSmallKernelIdeal.nD Cert.StepSmallKernelIdeal.τ).loc Cert.StepSmallKernelIdeal.main_arg68)
      ∧ m' ((c.tc : Thread Cert.StepSmallReferenceIdeal.nD Cert.StepSmallReferenceIdeal.τ).loc Cert.StepSmallReferenceIdeal.main_arg69) = m ((c.tc : Thread Cert.StepSmallKernelIdeal.nD Cert.StepSmallKernelIdeal.τ).loc Cert.StepSmallKernelIdeal.main_arg69)
      ∧ m' ((c.tc : Thread Cert.StepSmallReferenceIdeal.nD Cert.StepSmallReferenceIdeal.τ).loc Cert.StepSmallReferenceIdeal.main_arg70) = m ((c.tc : Thread Cert.StepSmallKernelIdeal.nD Cert.StepSmallKernelIdeal.τ).loc Cert.StepSmallKernelIdeal.main_arg70)
      ∧ m' ((c.tc : Thread Cert.StepSmallReferenceIdeal.nD Cert.StepSmallReferenceIdeal.τ).loc Cert.StepSmallReferenceIdeal.main_arg71) = m ((c.tc : Thread Cert.StepSmallKernelIdeal.nD Cert.StepSmallKernelIdeal.τ).loc Cert.StepSmallKernelIdeal.main_arg71)
      ∧ m' ((c.tc : Thread Cert.StepSmallReferenceIdeal.nD Cert.StepSmallReferenceIdeal.τ).loc Cert.StepSmallReferenceIdeal.main_arg72) = m ((c.tc : Thread Cert.StepSmallKernelIdeal.nD Cert.StepSmallKernelIdeal.τ).loc Cert.StepSmallKernelIdeal.main_arg72)
      ∧ m' ((c.tc : Thread Cert.StepSmallReferenceIdeal.nD Cert.StepSmallReferenceIdeal.τ).loc Cert.StepSmallReferenceIdeal.main_arg73) = m ((c.tc : Thread Cert.StepSmallKernelIdeal.nD Cert.StepSmallKernelIdeal.τ).loc Cert.StepSmallKernelIdeal.main_arg73)
      ∧ m' ((c.tc : Thread Cert.StepSmallReferenceIdeal.nD Cert.StepSmallReferenceIdeal.τ).loc Cert.StepSmallReferenceIdeal.main_arg74) = m ((c.tc : Thread Cert.StepSmallKernelIdeal.nD Cert.StepSmallKernelIdeal.τ).loc Cert.StepSmallKernelIdeal.main_arg74)
      ∧ m' ((c.tc : Thread Cert.StepSmallReferenceIdeal.nD Cert.StepSmallReferenceIdeal.τ).loc Cert.StepSmallReferenceIdeal.main_arg75) = m ((c.tc : Thread Cert.StepSmallKernelIdeal.nD Cert.StepSmallKernelIdeal.τ).loc Cert.StepSmallKernelIdeal.main_arg75)) →
    ∃ (v0 : (c : Dev Cert.StepSmallKernelIdeal.nD) → Buf (Elt Ideal) ((c.tc : Thread Cert.StepSmallKernelIdeal.nD Cert.StepSmallKernelIdeal.τ).loc Cert.StepSmallKernelIdeal.main_v114)) (v1 : (c : Dev Cert.StepSmallKernelIdeal.nD) → Buf (Elt Ideal) ((c.tc : Thread Cert.StepSmallKernelIdeal.nD Cert.StepSmallKernelIdeal.τ).loc Cert.StepSmallKernelIdeal.main_v116)) (v2 : (c : Dev Cert.StepSmallKernelIdeal.nD) → Buf (Elt Ideal) ((c.tc : Thread Cert.StepSmallKernelIdeal.nD Cert.StepSmallKernelIdeal.τ).loc Cert.StepSmallKernelIdeal.main_v118)) (v3 : (c : Dev Cert.StepSmallKernelIdeal.nD) → Buf (Elt Ideal) ((c.tc : Thread Cert.StepSmallKernelIdeal.nD Cert.StepSmallKernelIdeal.τ).loc Cert.StepSmallKernelIdeal.main_v120)) (v4 : (c : Dev Cert.StepSmallKernelIdeal.nD) → Buf (Elt Ideal) ((c.tc : Thread Cert.StepSmallKernelIdeal.nD Cert.StepSmallKernelIdeal.τ).loc Cert.StepSmallKernelIdeal.main_v122)) (v5 : (c : Dev Cert.StepSmallKernelIdeal.nD) → Buf (Elt Ideal) ((c.tc : Thread Cert.StepSmallKernelIdeal.nD Cert.StepSmallKernelIdeal.τ).loc Cert.StepSmallKernelIdeal.main_v124)) (v6 : (c : Dev Cert.StepSmallKernelIdeal.nD) → Buf (Elt Ideal) ((c.tc : Thread Cert.StepSmallKernelIdeal.nD Cert.StepSmallKernelIdeal.τ).loc Cert.StepSmallKernelIdeal.main_v126)) (v7 : (c : Dev Cert.StepSmallKernelIdeal.nD) → Buf (Elt Ideal) ((c.tc : Thread Cert.StepSmallKernelIdeal.nD Cert.StepSmallKernelIdeal.τ).loc Cert.StepSmallKernelIdeal.main_v128)) (v8 : (c : Dev Cert.StepSmallKernelIdeal.nD) → Buf (Elt Ideal) ((c.tc : Thread Cert.StepSmallKernelIdeal.nD Cert.StepSmallKernelIdeal.τ).loc Cert.StepSmallKernelIdeal.main_v130)) (v9 : (c : Dev Cert.StepSmallKernelIdeal.nD) → Buf (Elt Ideal) ((c.tc : Thread Cert.StepSmallKernelIdeal.nD Cert.StepSmallKernelIdeal.τ).loc Cert.StepSmallKernelIdeal.main_v132)) (v10 : (c : Dev Cert.StepSmallKernelIdeal.nD) → Buf (Elt Ideal) ((c.tc : Thread Cert.StepSmallKernelIdeal.nD Cert.StepSmallKernelIdeal.τ).loc Cert.StepSmallKernelIdeal.main_v134)) (v11 : (c : Dev Cert.StepSmallKernelIdeal.nD) → Buf (Elt Ideal) ((c.tc : Thread Cert.StepSmallKernelIdeal.nD Cert.StepSmallKernelIdeal.τ).loc Cert.StepSmallKernelIdeal.main_v136)) (v12 : (c : Dev Cert.StepSmallKernelIdeal.nD) → Buf (Elt Ideal) ((c.tc : Thread Cert.StepSmallKernelIdeal.nD Cert.StepSmallKernelIdeal.τ).loc Cert.StepSmallKernelIdeal.main_v138)) (v13 : (c : Dev Cert.StepSmallKernelIdeal.nD) → Buf (Elt Ideal) ((c.tc : Thread Cert.StepSmallKernelIdeal.nD Cert.StepSmallKernelIdeal.τ).loc Cert.StepSmallKernelIdeal.main_v140)) (v14 : (c : Dev Cert.StepSmallKernelIdeal.nD) → Buf (Elt Ideal) ((c.tc : Thread Cert.StepSmallKernelIdeal.nD Cert.StepSmallKernelIdeal.τ).loc Cert.StepSmallKernelIdeal.main_v142)) (v15 : (c : Dev Cert.StepSmallKernelIdeal.nD) → Buf (Elt Ideal) ((c.tc : Thread Cert.StepSmallKernelIdeal.nD Cert.StepSmallKernelIdeal.τ).loc Cert.StepSmallKernelIdeal.main_v144)) (v16 : (c : Dev Cert.StepSmallKernelIdeal.nD) → Buf (Elt Ideal) ((c.tc : Thread Cert.StepSmallKernelIdeal.nD Cert.StepSmallKernelIdeal.τ).loc Cert.StepSmallKernelIdeal.main_v146)) (v17 : (c : Dev Cert.StepSmallKernelIdeal.nD) → Buf (Elt Ideal) ((c.tc : Thread Cert.StepSmallKernelIdeal.nD Cert.StepSmallKernelIdeal.τ).loc Cert.StepSmallKernelIdeal.main_v148)) (v18 : (c : Dev Cert.StepSmallKernelIdeal.nD) → Buf (Elt Ideal) ((c.tc : Thread Cert.StepSmallKernelIdeal.nD Cert.StepSmallKernelIdeal.τ).loc Cert.StepSmallKernelIdeal.main_v150)) (v19 : (c : Dev Cert.StepSmallKernelIdeal.nD) → Buf (Elt Ideal) ((c.tc : Thread Cert.StepSmallKernelIdeal.nD Cert.StepSmallKernelIdeal.τ).loc Cert.StepSmallKernelIdeal.main_v156)) (v20 : (c : Dev Cert.StepSmallKernelIdeal.nD) → Buf (Elt Ideal) ((c.tc : Thread Cert.StepSmallKernelIdeal.nD Cert.StepSmallKernelIdeal.τ).loc Cert.StepSmallKernelIdeal.main_v158)) (v21 : (c : Dev Cert.StepSmallKernelIdeal.nD) → Buf (Elt Ideal) ((c.tc : Thread Cert.StepSmallKernelIdeal.nD Cert.StepSmallKernelIdeal.τ).loc Cert.StepSmallKernelIdeal.main_v160)) (v22 : (c : Dev Cert.StepSmallKernelIdeal.nD) → Buf (Elt Ideal) ((c.tc : Thread Cert.StepSmallKernelIdeal.nD Cert.StepSmallKernelIdeal.τ).loc Cert.StepSmallKernelIdeal.main_v162)) (v23 : (c : Dev Cert.StepSmallKernelIdeal.nD) → Buf (Elt Ideal) ((c.tc : Thread Cert.StepSmallKernelIdeal.nD Cert.StepSmallKernelIdeal.τ).loc Cert.StepSmallKernelIdeal.main_v164)) (v24 : (c : Dev Cert.StepSmallKernelIdeal.nD) → Buf (Elt Ideal) ((c.tc : Thread Cert.StepSmallKernelIdeal.nD Cert.StepSmallKernelIdeal.τ).loc Cert.StepSmallKernelIdeal.main_v166)) (v25 : (c : Dev Cert.StepSmallKernelIdeal.nD) → Buf (Elt Ideal) ((c.tc : Thread Cert.StepSmallKernelIdeal.nD Cert.StepSmallKernelIdeal.τ).loc Cert.StepSmallKernelIdeal.main_v168)) (v26 : (c : Dev Cert.StepSmallKernelIdeal.nD) → Buf (Elt Ideal) ((c.tc : Thread Cert.StepSmallKernelIdeal.nD Cert.StepSmallKernelIdeal.τ).loc Cert.StepSmallKernelIdeal.main_v170)) (v27 : (c : Dev Cert.StepSmallKernelIdeal.nD) → Buf (Elt Ideal) ((c.tc : Thread Cert.StepSmallKernelIdeal.nD Cert.StepSmallKernelIdeal.τ).loc Cert.StepSmallKernelIdeal.main_v172)) (v28 : (c : Dev Cert.StepSmallKernelIdeal.nD) → Buf (Elt Ideal) ((c.tc : Thread Cert.StepSmallKernelIdeal.nD Cert.StepSmallKernelIdeal.τ).loc Cert.StepSmallKernelIdeal.main_v174)) (v29 : (c : Dev Cert.StepSmallKernelIdeal.nD) → Buf (Elt Ideal) ((c.tc : Thread Cert.StepSmallKernelIdeal.nD Cert.StepSmallKernelIdeal.τ).loc Cert.StepSmallKernelIdeal.main_v176)) (v30 : (c : Dev Cert.StepSmallKernelIdeal.nD) → Buf (Elt Ideal) ((c.tc : Thread Cert.StepSmallKernelIdeal.nD Cert.StepSmallKernelIdeal.τ).loc Cert.StepSmallKernelIdeal.main_v178)) (v31 : (c : Dev Cert.StepSmallKernelIdeal.nD) → Buf (Elt Ideal) ((c.tc : Thread Cert.StepSmallKernelIdeal.nD Cert.StepSmallKernelIdeal.τ).loc Cert.StepSmallKernelIdeal.main_v180)) (v32 : (c : Dev Cert.StepSmallKernelIdeal.nD) → Buf (Elt Ideal) ((c.tc : Thread Cert.StepSmallKernelIdeal.nD Cert.StepSmallKernelIdeal.τ).loc Cert.StepSmallKernelIdeal.main_v182)) (v33 : (c : Dev Cert.StepSmallKernelIdeal.nD) → Buf (Elt Ideal) ((c.tc : Thread Cert.StepSmallKernelIdeal.nD Cert.StepSmallKernelIdeal.τ).loc Cert.StepSmallKernelIdeal.main_v184)) (v34 : (c : Dev Cert.StepSmallKernelIdeal.nD) → Buf (Elt Ideal) ((c.tc : Thread Cert.StepSmallKernelIdeal.nD Cert.StepSmallKernelIdeal.τ).loc Cert.StepSmallKernelIdeal.main_v186)) (v35 : (c : Dev Cert.StepSmallKernelIdeal.nD) → Buf (Elt Ideal) ((c.tc : Thread Cert.StepSmallKernelIdeal.nD Cert.StepSmallKernelIdeal.τ).loc Cert.StepSmallKernelIdeal.main_v188)) (v36 : (c : Dev Cert.StepSmallKernelIdeal.nD) → Buf (Elt Ideal) ((c.tc : Thread Cert.StepSmallKernelIdeal.nD Cert.StepSmallKernelIdeal.τ).loc Cert.StepSmallKernelIdeal.main_v190)) (v37 : (c : Dev Cert.StepSmallKernelIdeal.nD) → Buf (Elt Ideal) ((c.tc : Thread Cert.StepSmallKernelIdeal.nD Cert.StepSmallKernelIdeal.τ).loc Cert.StepSmallKernelIdeal.main_v192)) (v38 : (c : Dev Cert.StepSmallKernelIdeal.nD) → Buf (Elt Ideal) ((c.tc : Thread Cert.StepSmallKernelIdeal.nD Cert.StepSmallKernelIdeal.τ).loc Cert.StepSmallKernelIdeal.main_v198)) (v39 : (c : Dev Cert.StepSmallKernelIdeal.nD) → Buf (Elt Ideal) ((c.tc : Thread Cert.StepSmallKernelIdeal.nD Cert.StepSmallKernelIdeal.τ).loc Cert.StepSmallKernelIdeal.main_v200)) (v40 : (c : Dev Cert.StepSmallKernelIdeal.nD) → Buf (Elt Ideal) ((c.tc : Thread Cert.StepSmallKernelIdeal.nD Cert.StepSmallKernelIdeal.τ).loc Cert.StepSmallKernelIdeal.main_v202)) (v41 : (c : Dev Cert.StepSmallKernelIdeal.nD) → Buf (Elt Ideal) ((c.tc : Thread Cert.StepSmallKernelIdeal.nD Cert.StepSmallKernelIdeal.τ).loc Cert.StepSmallKernelIdeal.main_v204)) (v42 : (c : Dev Cert.StepSmallKernelIdeal.nD) → Buf (Elt Ideal) ((c.tc : Thread Cert.StepSmallKernelIdeal.nD Cert.StepSmallKernelIdeal.τ).loc Cert.StepSmallKernelIdeal.main_v206)) (v43 : (c : Dev Cert.StepSmallKernelIdeal.nD) → Buf (Elt Ideal) ((c.tc : Thread Cert.StepSmallKernelIdeal.nD Cert.StepSmallKernelIdeal.τ).loc Cert.StepSmallKernelIdeal.main_v208)) (v44 : (c : Dev Cert.StepSmallKernelIdeal.nD) → Buf (Elt Ideal) ((c.tc : Thread Cert.StepSmallKernelIdeal.nD Cert.StepSmallKernelIdeal.τ).loc Cert.StepSmallKernelIdeal.main_v210)) (v45 : (c : Dev Cert.StepSmallKernelIdeal.nD) → Buf (Elt Ideal) ((c.tc : Thread Cert.StepSmallKernelIdeal.nD Cert.StepSmallKernelIdeal.τ).loc Cert.StepSmallKernelIdeal.main_v212)) (v46 : (c : Dev Cert.StepSmallKernelIdeal.nD) → Buf (Elt Ideal) ((c.tc : Thread Cert.StepSmallKernelIdeal.nD Cert.StepSmallKernelIdeal.τ).loc Cert.StepSmallKernelIdeal.main_v214)) (v47 : (c : Dev Cert.StepSmallKernelIdeal.nD) → Buf (Elt Ideal) ((c.tc : Thread Cert.StepSmallKernelIdeal.nD Cert.StepSmallKernelIdeal.τ).loc Cert.StepSmallKernelIdeal.main_v216)) (v48 : (c : Dev Cert.StepSmallKernelIdeal.nD) → Buf (Elt Ideal) ((c.tc : Thread Cert.StepSmallKernelIdeal.nD Cert.StepSmallKernelIdeal.τ).loc Cert.StepSmallKernelIdeal.main_v218)) (v49 : (c : Dev Cert.StepSmallKernelIdeal.nD) → Buf (Elt Ideal) ((c.tc : Thread Cert.StepSmallKernelIdeal.nD Cert.StepSmallKernelIdeal.τ).loc Cert.StepSmallKernelIdeal.main_v220)) (v50 : (c : Dev Cert.StepSmallKernelIdeal.nD) → Buf (Elt Ideal) ((c.tc : Thread Cert.StepSmallKernelIdeal.nD Cert.StepSmallKernelIdeal.τ).loc Cert.StepSmallKernelIdeal.main_v222)) (v51 : (c : Dev Cert.StepSmallKernelIdeal.nD) → Buf (Elt Ideal) ((c.tc : Thread Cert.StepSmallKernelIdeal.nD Cert.StepSmallKernelIdeal.τ).loc Cert.StepSmallKernelIdeal.main_v224)) (v52 : (c : Dev Cert.StepSmallKernelIdeal.nD) → Buf (Elt Ideal) ((c.tc : Thread Cert.StepSmallKernelIdeal.nD Cert.StepSmallKernelIdeal.τ).loc Cert.StepSmallKernelIdeal.main_v226)) (v53 : (c : Dev Cert.StepSmallKernelIdeal.nD) → Buf (Elt Ideal) ((c.tc : Thread Cert.StepSmallKernelIdeal.nD Cert.StepSmallKernelIdeal.τ).loc Cert.StepSmallKernelIdeal.main_v228)) (v54 : (c : Dev Cert.StepSmallKernelIdeal.nD) → Buf (Elt Ideal) ((c.tc : Thread Cert.StepSmallKernelIdeal.nD Cert.StepSmallKernelIdeal.τ).loc Cert.StepSmallKernelIdeal.main_v230)) (v55 : (c : Dev Cert.StepSmallKernelIdeal.nD) → Buf (Elt Ideal) ((c.tc : Thread Cert.StepSmallKernelIdeal.nD Cert.StepSmallKernelIdeal.τ).loc Cert.StepSmallKernelIdeal.main_v232)) (v56 : (c : Dev Cert.StepSmallKernelIdeal.nD) → Buf (Elt Ideal) ((c.tc : Thread Cert.StepSmallKernelIdeal.nD Cert.StepSmallKernelIdeal.τ).loc Cert.StepSmallKernelIdeal.main_v234)),
      θ_run (Cert.StepSmallKernelIdeal.defs (F := Ideal)) (onTc (τ := Cert.StepSmallKernelIdeal.τ) (Cert.StepSmallKernelIdeal.main (F := Ideal))) ⟨m, fun _ => 0, g⟩ (fun r => ∀ c : Dev Cert.StepSmallKernelIdeal.nD,
          r.2.mem ((c.tc : Thread Cert.StepSmallKernelIdeal.nD Cert.StepSmallKernelIdeal.τ).loc Cert.StepSmallKernelIdeal.main_v114) = v0 c
          ∧ r.2.mem ((c.tc : Thread Cert.StepSmallKernelIdeal.nD Cert.StepSmallKernelIdeal.τ).loc Cert.StepSmallKernelIdeal.main_v116) = v1 c
          ∧ r.2.mem ((c.tc : Thread Cert.StepSmallKernelIdeal.nD Cert.StepSmallKernelIdeal.τ).loc Cert.StepSmallKernelIdeal.main_v118) = v2 c
          ∧ r.2.mem ((c.tc : Thread Cert.StepSmallKernelIdeal.nD Cert.StepSmallKernelIdeal.τ).loc Cert.StepSmallKernelIdeal.main_v120) = v3 c
          ∧ r.2.mem ((c.tc : Thread Cert.StepSmallKernelIdeal.nD Cert.StepSmallKernelIdeal.τ).loc Cert.StepSmallKernelIdeal.main_v122) = v4 c
          ∧ r.2.mem ((c.tc : Thread Cert.StepSmallKernelIdeal.nD Cert.StepSmallKernelIdeal.τ).loc Cert.StepSmallKernelIdeal.main_v124) = v5 c
          ∧ r.2.mem ((c.tc : Thread Cert.StepSmallKernelIdeal.nD Cert.StepSmallKernelIdeal.τ).loc Cert.StepSmallKernelIdeal.main_v126) = v6 c
          ∧ r.2.mem ((c.tc : Thread Cert.StepSmallKernelIdeal.nD Cert.StepSmallKernelIdeal.τ).loc Cert.StepSmallKernelIdeal.main_v128) = v7 c
          ∧ r.2.mem ((c.tc : Thread Cert.StepSmallKernelIdeal.nD Cert.StepSmallKernelIdeal.τ).loc Cert.StepSmallKernelIdeal.main_v130) = v8 c
          ∧ r.2.mem ((c.tc : Thread Cert.StepSmallKernelIdeal.nD Cert.StepSmallKernelIdeal.τ).loc Cert.StepSmallKernelIdeal.main_v132) = v9 c
          ∧ r.2.mem ((c.tc : Thread Cert.StepSmallKernelIdeal.nD Cert.StepSmallKernelIdeal.τ).loc Cert.StepSmallKernelIdeal.main_v134) = v10 c
          ∧ r.2.mem ((c.tc : Thread Cert.StepSmallKernelIdeal.nD Cert.StepSmallKernelIdeal.τ).loc Cert.StepSmallKernelIdeal.main_v136) = v11 c
          ∧ r.2.mem ((c.tc : Thread Cert.StepSmallKernelIdeal.nD Cert.StepSmallKernelIdeal.τ).loc Cert.StepSmallKernelIdeal.main_v138) = v12 c
          ∧ r.2.mem ((c.tc : Thread Cert.StepSmallKernelIdeal.nD Cert.StepSmallKernelIdeal.τ).loc Cert.StepSmallKernelIdeal.main_v140) = v13 c
          ∧ r.2.mem ((c.tc : Thread Cert.StepSmallKernelIdeal.nD Cert.StepSmallKernelIdeal.τ).loc Cert.StepSmallKernelIdeal.main_v142) = v14 c
          ∧ r.2.mem ((c.tc : Thread Cert.StepSmallKernelIdeal.nD Cert.StepSmallKernelIdeal.τ).loc Cert.StepSmallKernelIdeal.main_v144) = v15 c
          ∧ r.2.mem ((c.tc : Thread Cert.StepSmallKernelIdeal.nD Cert.StepSmallKernelIdeal.τ).loc Cert.StepSmallKernelIdeal.main_v146) = v16 c
          ∧ r.2.mem ((c.tc : Thread Cert.StepSmallKernelIdeal.nD Cert.StepSmallKernelIdeal.τ).loc Cert.StepSmallKernelIdeal.main_v148) = v17 c
          ∧ r.2.mem ((c.tc : Thread Cert.StepSmallKernelIdeal.nD Cert.StepSmallKernelIdeal.τ).loc Cert.StepSmallKernelIdeal.main_v150) = v18 c
          ∧ r.2.mem ((c.tc : Thread Cert.StepSmallKernelIdeal.nD Cert.StepSmallKernelIdeal.τ).loc Cert.StepSmallKernelIdeal.main_v156) = v19 c
          ∧ r.2.mem ((c.tc : Thread Cert.StepSmallKernelIdeal.nD Cert.StepSmallKernelIdeal.τ).loc Cert.StepSmallKernelIdeal.main_v158) = v20 c
          ∧ r.2.mem ((c.tc : Thread Cert.StepSmallKernelIdeal.nD Cert.StepSmallKernelIdeal.τ).loc Cert.StepSmallKernelIdeal.main_v160) = v21 c
          ∧ r.2.mem ((c.tc : Thread Cert.StepSmallKernelIdeal.nD Cert.StepSmallKernelIdeal.τ).loc Cert.StepSmallKernelIdeal.main_v162) = v22 c
          ∧ r.2.mem ((c.tc : Thread Cert.StepSmallKernelIdeal.nD Cert.StepSmallKernelIdeal.τ).loc Cert.StepSmallKernelIdeal.main_v164) = v23 c
          ∧ r.2.mem ((c.tc : Thread Cert.StepSmallKernelIdeal.nD Cert.StepSmallKernelIdeal.τ).loc Cert.StepSmallKernelIdeal.main_v166) = v24 c
          ∧ r.2.mem ((c.tc : Thread Cert.StepSmallKernelIdeal.nD Cert.StepSmallKernelIdeal.τ).loc Cert.StepSmallKernelIdeal.main_v168) = v25 c
          ∧ r.2.mem ((c.tc : Thread Cert.StepSmallKernelIdeal.nD Cert.StepSmallKernelIdeal.τ).loc Cert.StepSmallKernelIdeal.main_v170) = v26 c
          ∧ r.2.mem ((c.tc : Thread Cert.StepSmallKernelIdeal.nD Cert.StepSmallKernelIdeal.τ).loc Cert.StepSmallKernelIdeal.main_v172) = v27 c
          ∧ r.2.mem ((c.tc : Thread Cert.StepSmallKernelIdeal.nD Cert.StepSmallKernelIdeal.τ).loc Cert.StepSmallKernelIdeal.main_v174) = v28 c
          ∧ r.2.mem ((c.tc : Thread Cert.StepSmallKernelIdeal.nD Cert.StepSmallKernelIdeal.τ).loc Cert.StepSmallKernelIdeal.main_v176) = v29 c
          ∧ r.2.mem ((c.tc : Thread Cert.StepSmallKernelIdeal.nD Cert.StepSmallKernelIdeal.τ).loc Cert.StepSmallKernelIdeal.main_v178) = v30 c
          ∧ r.2.mem ((c.tc : Thread Cert.StepSmallKernelIdeal.nD Cert.StepSmallKernelIdeal.τ).loc Cert.StepSmallKernelIdeal.main_v180) = v31 c
          ∧ r.2.mem ((c.tc : Thread Cert.StepSmallKernelIdeal.nD Cert.StepSmallKernelIdeal.τ).loc Cert.StepSmallKernelIdeal.main_v182) = v32 c
          ∧ r.2.mem ((c.tc : Thread Cert.StepSmallKernelIdeal.nD Cert.StepSmallKernelIdeal.τ).loc Cert.StepSmallKernelIdeal.main_v184) = v33 c
          ∧ r.2.mem ((c.tc : Thread Cert.StepSmallKernelIdeal.nD Cert.StepSmallKernelIdeal.τ).loc Cert.StepSmallKernelIdeal.main_v186) = v34 c
          ∧ r.2.mem ((c.tc : Thread Cert.StepSmallKernelIdeal.nD Cert.StepSmallKernelIdeal.τ).loc Cert.StepSmallKernelIdeal.main_v188) = v35 c
          ∧ r.2.mem ((c.tc : Thread Cert.StepSmallKernelIdeal.nD Cert.StepSmallKernelIdeal.τ).loc Cert.StepSmallKernelIdeal.main_v190) = v36 c
          ∧ r.2.mem ((c.tc : Thread Cert.StepSmallKernelIdeal.nD Cert.StepSmallKernelIdeal.τ).loc Cert.StepSmallKernelIdeal.main_v192) = v37 c
          ∧ r.2.mem ((c.tc : Thread Cert.StepSmallKernelIdeal.nD Cert.StepSmallKernelIdeal.τ).loc Cert.StepSmallKernelIdeal.main_v198) = v38 c
          ∧ r.2.mem ((c.tc : Thread Cert.StepSmallKernelIdeal.nD Cert.StepSmallKernelIdeal.τ).loc Cert.StepSmallKernelIdeal.main_v200) = v39 c
          ∧ r.2.mem ((c.tc : Thread Cert.StepSmallKernelIdeal.nD Cert.StepSmallKernelIdeal.τ).loc Cert.StepSmallKernelIdeal.main_v202) = v40 c
          ∧ r.2.mem ((c.tc : Thread Cert.StepSmallKernelIdeal.nD Cert.StepSmallKernelIdeal.τ).loc Cert.StepSmallKernelIdeal.main_v204) = v41 c
          ∧ r.2.mem ((c.tc : Thread Cert.StepSmallKernelIdeal.nD Cert.StepSmallKernelIdeal.τ).loc Cert.StepSmallKernelIdeal.main_v206) = v42 c
          ∧ r.2.mem ((c.tc : Thread Cert.StepSmallKernelIdeal.nD Cert.StepSmallKernelIdeal.τ).loc Cert.StepSmallKernelIdeal.main_v208) = v43 c
          ∧ r.2.mem ((c.tc : Thread Cert.StepSmallKernelIdeal.nD Cert.StepSmallKernelIdeal.τ).loc Cert.StepSmallKernelIdeal.main_v210) = v44 c
          ∧ r.2.mem ((c.tc : Thread Cert.StepSmallKernelIdeal.nD Cert.StepSmallKernelIdeal.τ).loc Cert.StepSmallKernelIdeal.main_v212) = v45 c
          ∧ r.2.mem ((c.tc : Thread Cert.StepSmallKernelIdeal.nD Cert.StepSmallKernelIdeal.τ).loc Cert.StepSmallKernelIdeal.main_v214) = v46 c
          ∧ r.2.mem ((c.tc : Thread Cert.StepSmallKernelIdeal.nD Cert.StepSmallKernelIdeal.τ).loc Cert.StepSmallKernelIdeal.main_v216) = v47 c
          ∧ r.2.mem ((c.tc : Thread Cert.StepSmallKernelIdeal.nD Cert.StepSmallKernelIdeal.τ).loc Cert.StepSmallKernelIdeal.main_v218) = v48 c
          ∧ r.2.mem ((c.tc : Thread Cert.StepSmallKernelIdeal.nD Cert.StepSmallKernelIdeal.τ).loc Cert.StepSmallKernelIdeal.main_v220) = v49 c
          ∧ r.2.mem ((c.tc : Thread Cert.StepSmallKernelIdeal.nD Cert.StepSmallKernelIdeal.τ).loc Cert.StepSmallKernelIdeal.main_v222) = v50 c
          ∧ r.2.mem ((c.tc : Thread Cert.StepSmallKernelIdeal.nD Cert.StepSmallKernelIdeal.τ).loc Cert.StepSmallKernelIdeal.main_v224) = v51 c
          ∧ r.2.mem ((c.tc : Thread Cert.StepSmallKernelIdeal.nD Cert.StepSmallKernelIdeal.τ).loc Cert.StepSmallKernelIdeal.main_v226) = v52 c
          ∧ r.2.mem ((c.tc : Thread Cert.StepSmallKernelIdeal.nD Cert.StepSmallKernelIdeal.τ).loc Cert.StepSmallKernelIdeal.main_v228) = v53 c
          ∧ r.2.mem ((c.tc : Thread Cert.StepSmallKernelIdeal.nD Cert.StepSmallKernelIdeal.τ).loc Cert.StepSmallKernelIdeal.main_v230) = v54 c
          ∧ r.2.mem ((c.tc : Thread Cert.StepSmallKernelIdeal.nD Cert.StepSmallKernelIdeal.τ).loc Cert.StepSmallKernelIdeal.main_v232) = v55 c
          ∧ r.2.mem ((c.tc : Thread Cert.StepSmallKernelIdeal.nD Cert.StepSmallKernelIdeal.τ).loc Cert.StepSmallKernelIdeal.main_v234) = v56 c
          ∧ r.2.mem ((c.tc : Thread Cert.StepSmallKernelIdeal.nD Cert.StepSmallKernelIdeal.τ).loc Cert.StepSmallKernelIdeal.main_arg0) = m ((c.tc : Thread Cert.StepSmallKernelIdeal.nD Cert.StepSmallKernelIdeal.τ).loc Cert.StepSmallKernelIdeal.main_arg0)
          ∧ r.2.mem ((c.tc : Thread Cert.StepSmallKernelIdeal.nD Cert.StepSmallKernelIdeal.τ).loc Cert.StepSmallKernelIdeal.main_arg1) = m ((c.tc : Thread Cert.StepSmallKernelIdeal.nD Cert.StepSmallKernelIdeal.τ).loc Cert.StepSmallKernelIdeal.main_arg1)
          ∧ r.2.mem ((c.tc : Thread Cert.StepSmallKernelIdeal.nD Cert.StepSmallKernelIdeal.τ).loc Cert.StepSmallKernelIdeal.main_arg2) = m ((c.tc : Thread Cert.StepSmallKernelIdeal.nD Cert.StepSmallKernelIdeal.τ).loc Cert.StepSmallKernelIdeal.main_arg2)
          ∧ r.2.mem ((c.tc : Thread Cert.StepSmallKernelIdeal.nD Cert.StepSmallKernelIdeal.τ).loc Cert.StepSmallKernelIdeal.main_arg3) = m ((c.tc : Thread Cert.StepSmallKernelIdeal.nD Cert.StepSmallKernelIdeal.τ).loc Cert.StepSmallKernelIdeal.main_arg3)
          ∧ r.2.mem ((c.tc : Thread Cert.StepSmallKernelIdeal.nD Cert.StepSmallKernelIdeal.τ).loc Cert.StepSmallKernelIdeal.main_arg4) = m ((c.tc : Thread Cert.StepSmallKernelIdeal.nD Cert.StepSmallKernelIdeal.τ).loc Cert.StepSmallKernelIdeal.main_arg4)
          ∧ r.2.mem ((c.tc : Thread Cert.StepSmallKernelIdeal.nD Cert.StepSmallKernelIdeal.τ).loc Cert.StepSmallKernelIdeal.main_arg5) = m ((c.tc : Thread Cert.StepSmallKernelIdeal.nD Cert.StepSmallKernelIdeal.τ).loc Cert.StepSmallKernelIdeal.main_arg5)
          ∧ r.2.mem ((c.tc : Thread Cert.StepSmallKernelIdeal.nD Cert.StepSmallKernelIdeal.τ).loc Cert.StepSmallKernelIdeal.main_arg6) = m ((c.tc : Thread Cert.StepSmallKernelIdeal.nD Cert.StepSmallKernelIdeal.τ).loc Cert.StepSmallKernelIdeal.main_arg6)
          ∧ r.2.mem ((c.tc : Thread Cert.StepSmallKernelIdeal.nD Cert.StepSmallKernelIdeal.τ).loc Cert.StepSmallKernelIdeal.main_arg7) = m ((c.tc : Thread Cert.StepSmallKernelIdeal.nD Cert.StepSmallKernelIdeal.τ).loc Cert.StepSmallKernelIdeal.main_arg7)
          ∧ r.2.mem ((c.tc : Thread Cert.StepSmallKernelIdeal.nD Cert.StepSmallKernelIdeal.τ).loc Cert.StepSmallKernelIdeal.main_arg8) = m ((c.tc : Thread Cert.StepSmallKernelIdeal.nD Cert.StepSmallKernelIdeal.τ).loc Cert.StepSmallKernelIdeal.main_arg8)
          ∧ r.2.mem ((c.tc : Thread Cert.StepSmallKernelIdeal.nD Cert.StepSmallKernelIdeal.τ).loc Cert.StepSmallKernelIdeal.main_arg9) = m ((c.tc : Thread Cert.StepSmallKernelIdeal.nD Cert.StepSmallKernelIdeal.τ).loc Cert.StepSmallKernelIdeal.main_arg9)
          ∧ r.2.mem ((c.tc : Thread Cert.StepSmallKernelIdeal.nD Cert.StepSmallKernelIdeal.τ).loc Cert.StepSmallKernelIdeal.main_arg10) = m ((c.tc : Thread Cert.StepSmallKernelIdeal.nD Cert.StepSmallKernelIdeal.τ).loc Cert.StepSmallKernelIdeal.main_arg10)
          ∧ r.2.mem ((c.tc : Thread Cert.StepSmallKernelIdeal.nD Cert.StepSmallKernelIdeal.τ).loc Cert.StepSmallKernelIdeal.main_arg11) = m ((c.tc : Thread Cert.StepSmallKernelIdeal.nD Cert.StepSmallKernelIdeal.τ).loc Cert.StepSmallKernelIdeal.main_arg11)
          ∧ r.2.mem ((c.tc : Thread Cert.StepSmallKernelIdeal.nD Cert.StepSmallKernelIdeal.τ).loc Cert.StepSmallKernelIdeal.main_arg12) = m ((c.tc : Thread Cert.StepSmallKernelIdeal.nD Cert.StepSmallKernelIdeal.τ).loc Cert.StepSmallKernelIdeal.main_arg12)
          ∧ r.2.mem ((c.tc : Thread Cert.StepSmallKernelIdeal.nD Cert.StepSmallKernelIdeal.τ).loc Cert.StepSmallKernelIdeal.main_arg13) = m ((c.tc : Thread Cert.StepSmallKernelIdeal.nD Cert.StepSmallKernelIdeal.τ).loc Cert.StepSmallKernelIdeal.main_arg13)
          ∧ r.2.mem ((c.tc : Thread Cert.StepSmallKernelIdeal.nD Cert.StepSmallKernelIdeal.τ).loc Cert.StepSmallKernelIdeal.main_arg14) = m ((c.tc : Thread Cert.StepSmallKernelIdeal.nD Cert.StepSmallKernelIdeal.τ).loc Cert.StepSmallKernelIdeal.main_arg14)
          ∧ r.2.mem ((c.tc : Thread Cert.StepSmallKernelIdeal.nD Cert.StepSmallKernelIdeal.τ).loc Cert.StepSmallKernelIdeal.main_arg15) = m ((c.tc : Thread Cert.StepSmallKernelIdeal.nD Cert.StepSmallKernelIdeal.τ).loc Cert.StepSmallKernelIdeal.main_arg15)
          ∧ r.2.mem ((c.tc : Thread Cert.StepSmallKernelIdeal.nD Cert.StepSmallKernelIdeal.τ).loc Cert.StepSmallKernelIdeal.main_arg16) = m ((c.tc : Thread Cert.StepSmallKernelIdeal.nD Cert.StepSmallKernelIdeal.τ).loc Cert.StepSmallKernelIdeal.main_arg16)
          ∧ r.2.mem ((c.tc : Thread Cert.StepSmallKernelIdeal.nD Cert.StepSmallKernelIdeal.τ).loc Cert.StepSmallKernelIdeal.main_arg17) = m ((c.tc : Thread Cert.StepSmallKernelIdeal.nD Cert.StepSmallKernelIdeal.τ).loc Cert.StepSmallKernelIdeal.main_arg17)
          ∧ r.2.mem ((c.tc : Thread Cert.StepSmallKernelIdeal.nD Cert.StepSmallKernelIdeal.τ).loc Cert.StepSmallKernelIdeal.main_arg18) = m ((c.tc : Thread Cert.StepSmallKernelIdeal.nD Cert.StepSmallKernelIdeal.τ).loc Cert.StepSmallKernelIdeal.main_arg18)
          ∧ r.2.mem ((c.tc : Thread Cert.StepSmallKernelIdeal.nD Cert.StepSmallKernelIdeal.τ).loc Cert.StepSmallKernelIdeal.main_arg19) = m ((c.tc : Thread Cert.StepSmallKernelIdeal.nD Cert.StepSmallKernelIdeal.τ).loc Cert.StepSmallKernelIdeal.main_arg19)
          ∧ r.2.mem ((c.tc : Thread Cert.StepSmallKernelIdeal.nD Cert.StepSmallKernelIdeal.τ).loc Cert.StepSmallKernelIdeal.main_arg20) = m ((c.tc : Thread Cert.StepSmallKernelIdeal.nD Cert.StepSmallKernelIdeal.τ).loc Cert.StepSmallKernelIdeal.main_arg20)
          ∧ r.2.mem ((c.tc : Thread Cert.StepSmallKernelIdeal.nD Cert.StepSmallKernelIdeal.τ).loc Cert.StepSmallKernelIdeal.main_arg21) = m ((c.tc : Thread Cert.StepSmallKernelIdeal.nD Cert.StepSmallKernelIdeal.τ).loc Cert.StepSmallKernelIdeal.main_arg21)
          ∧ r.2.mem ((c.tc : Thread Cert.StepSmallKernelIdeal.nD Cert.StepSmallKernelIdeal.τ).loc Cert.StepSmallKernelIdeal.main_arg22) = m ((c.tc : Thread Cert.StepSmallKernelIdeal.nD Cert.StepSmallKernelIdeal.τ).loc Cert.StepSmallKernelIdeal.main_arg22)
          ∧ r.2.mem ((c.tc : Thread Cert.StepSmallKernelIdeal.nD Cert.StepSmallKernelIdeal.τ).loc Cert.StepSmallKernelIdeal.main_arg23) = m ((c.tc : Thread Cert.StepSmallKernelIdeal.nD Cert.StepSmallKernelIdeal.τ).loc Cert.StepSmallKernelIdeal.main_arg23)
          ∧ r.2.mem ((c.tc : Thread Cert.StepSmallKernelIdeal.nD Cert.StepSmallKernelIdeal.τ).loc Cert.StepSmallKernelIdeal.main_arg24) = m ((c.tc : Thread Cert.StepSmallKernelIdeal.nD Cert.StepSmallKernelIdeal.τ).loc Cert.StepSmallKernelIdeal.main_arg24)
          ∧ r.2.mem ((c.tc : Thread Cert.StepSmallKernelIdeal.nD Cert.StepSmallKernelIdeal.τ).loc Cert.StepSmallKernelIdeal.main_arg25) = m ((c.tc : Thread Cert.StepSmallKernelIdeal.nD Cert.StepSmallKernelIdeal.τ).loc Cert.StepSmallKernelIdeal.main_arg25)
          ∧ r.2.mem ((c.tc : Thread Cert.StepSmallKernelIdeal.nD Cert.StepSmallKernelIdeal.τ).loc Cert.StepSmallKernelIdeal.main_arg26) = m ((c.tc : Thread Cert.StepSmallKernelIdeal.nD Cert.StepSmallKernelIdeal.τ).loc Cert.StepSmallKernelIdeal.main_arg26)
          ∧ r.2.mem ((c.tc : Thread Cert.StepSmallKernelIdeal.nD Cert.StepSmallKernelIdeal.τ).loc Cert.StepSmallKernelIdeal.main_arg27) = m ((c.tc : Thread Cert.StepSmallKernelIdeal.nD Cert.StepSmallKernelIdeal.τ).loc Cert.StepSmallKernelIdeal.main_arg27)
          ∧ r.2.mem ((c.tc : Thread Cert.StepSmallKernelIdeal.nD Cert.StepSmallKernelIdeal.τ).loc Cert.StepSmallKernelIdeal.main_arg28) = m ((c.tc : Thread Cert.StepSmallKernelIdeal.nD Cert.StepSmallKernelIdeal.τ).loc Cert.StepSmallKernelIdeal.main_arg28)
          ∧ r.2.mem ((c.tc : Thread Cert.StepSmallKernelIdeal.nD Cert.StepSmallKernelIdeal.τ).loc Cert.StepSmallKernelIdeal.main_arg29) = m ((c.tc : Thread Cert.StepSmallKernelIdeal.nD Cert.StepSmallKernelIdeal.τ).loc Cert.StepSmallKernelIdeal.main_arg29)
          ∧ r.2.mem ((c.tc : Thread Cert.StepSmallKernelIdeal.nD Cert.StepSmallKernelIdeal.τ).loc Cert.StepSmallKernelIdeal.main_arg30) = m ((c.tc : Thread Cert.StepSmallKernelIdeal.nD Cert.StepSmallKernelIdeal.τ).loc Cert.StepSmallKernelIdeal.main_arg30)
          ∧ r.2.mem ((c.tc : Thread Cert.StepSmallKernelIdeal.nD Cert.StepSmallKernelIdeal.τ).loc Cert.StepSmallKernelIdeal.main_arg31) = m ((c.tc : Thread Cert.StepSmallKernelIdeal.nD Cert.StepSmallKernelIdeal.τ).loc Cert.StepSmallKernelIdeal.main_arg31)
          ∧ r.2.mem ((c.tc : Thread Cert.StepSmallKernelIdeal.nD Cert.StepSmallKernelIdeal.τ).loc Cert.StepSmallKernelIdeal.main_arg32) = m ((c.tc : Thread Cert.StepSmallKernelIdeal.nD Cert.StepSmallKernelIdeal.τ).loc Cert.StepSmallKernelIdeal.main_arg32)
          ∧ r.2.mem ((c.tc : Thread Cert.StepSmallKernelIdeal.nD Cert.StepSmallKernelIdeal.τ).loc Cert.StepSmallKernelIdeal.main_arg33) = m ((c.tc : Thread Cert.StepSmallKernelIdeal.nD Cert.StepSmallKernelIdeal.τ).loc Cert.StepSmallKernelIdeal.main_arg33)
          ∧ r.2.mem ((c.tc : Thread Cert.StepSmallKernelIdeal.nD Cert.StepSmallKernelIdeal.τ).loc Cert.StepSmallKernelIdeal.main_arg34) = m ((c.tc : Thread Cert.StepSmallKernelIdeal.nD Cert.StepSmallKernelIdeal.τ).loc Cert.StepSmallKernelIdeal.main_arg34)
          ∧ r.2.mem ((c.tc : Thread Cert.StepSmallKernelIdeal.nD Cert.StepSmallKernelIdeal.τ).loc Cert.StepSmallKernelIdeal.main_arg35) = m ((c.tc : Thread Cert.StepSmallKernelIdeal.nD Cert.StepSmallKernelIdeal.τ).loc Cert.StepSmallKernelIdeal.main_arg35)
          ∧ r.2.mem ((c.tc : Thread Cert.StepSmallKernelIdeal.nD Cert.StepSmallKernelIdeal.τ).loc Cert.StepSmallKernelIdeal.main_arg36) = m ((c.tc : Thread Cert.StepSmallKernelIdeal.nD Cert.StepSmallKernelIdeal.τ).loc Cert.StepSmallKernelIdeal.main_arg36)
          ∧ r.2.mem ((c.tc : Thread Cert.StepSmallKernelIdeal.nD Cert.StepSmallKernelIdeal.τ).loc Cert.StepSmallKernelIdeal.main_arg37) = m ((c.tc : Thread Cert.StepSmallKernelIdeal.nD Cert.StepSmallKernelIdeal.τ).loc Cert.StepSmallKernelIdeal.main_arg37)
          ∧ r.2.mem ((c.tc : Thread Cert.StepSmallKernelIdeal.nD Cert.StepSmallKernelIdeal.τ).loc Cert.StepSmallKernelIdeal.main_arg38) = m ((c.tc : Thread Cert.StepSmallKernelIdeal.nD Cert.StepSmallKernelIdeal.τ).loc Cert.StepSmallKernelIdeal.main_arg38)
          ∧ r.2.mem ((c.tc : Thread Cert.StepSmallKernelIdeal.nD Cert.StepSmallKernelIdeal.τ).loc Cert.StepSmallKernelIdeal.main_arg39) = m ((c.tc : Thread Cert.StepSmallKernelIdeal.nD Cert.StepSmallKernelIdeal.τ).loc Cert.StepSmallKernelIdeal.main_arg39)
          ∧ r.2.mem ((c.tc : Thread Cert.StepSmallKernelIdeal.nD Cert.StepSmallKernelIdeal.τ).loc Cert.StepSmallKernelIdeal.main_arg40) = m ((c.tc : Thread Cert.StepSmallKernelIdeal.nD Cert.StepSmallKernelIdeal.τ).loc Cert.StepSmallKernelIdeal.main_arg40)
          ∧ r.2.mem ((c.tc : Thread Cert.StepSmallKernelIdeal.nD Cert.StepSmallKernelIdeal.τ).loc Cert.StepSmallKernelIdeal.main_arg41) = m ((c.tc : Thread Cert.StepSmallKernelIdeal.nD Cert.StepSmallKernelIdeal.τ).loc Cert.StepSmallKernelIdeal.main_arg41)
          ∧ r.2.mem ((c.tc : Thread Cert.StepSmallKernelIdeal.nD Cert.StepSmallKernelIdeal.τ).loc Cert.StepSmallKernelIdeal.main_arg42) = m ((c.tc : Thread Cert.StepSmallKernelIdeal.nD Cert.StepSmallKernelIdeal.τ).loc Cert.StepSmallKernelIdeal.main_arg42)
          ∧ r.2.mem ((c.tc : Thread Cert.StepSmallKernelIdeal.nD Cert.StepSmallKernelIdeal.τ).loc Cert.StepSmallKernelIdeal.main_arg43) = m ((c.tc : Thread Cert.StepSmallKernelIdeal.nD Cert.StepSmallKernelIdeal.τ).loc Cert.StepSmallKernelIdeal.main_arg43)
          ∧ r.2.mem ((c.tc : Thread Cert.StepSmallKernelIdeal.nD Cert.StepSmallKernelIdeal.τ).loc Cert.StepSmallKernelIdeal.main_arg44) = m ((c.tc : Thread Cert.StepSmallKernelIdeal.nD Cert.StepSmallKernelIdeal.τ).loc Cert.StepSmallKernelIdeal.main_arg44)
          ∧ r.2.mem ((c.tc : Thread Cert.StepSmallKernelIdeal.nD Cert.StepSmallKernelIdeal.τ).loc Cert.StepSmallKernelIdeal.main_arg45) = m ((c.tc : Thread Cert.StepSmallKernelIdeal.nD Cert.StepSmallKernelIdeal.τ).loc Cert.StepSmallKernelIdeal.main_arg45)
          ∧ r.2.mem ((c.tc : Thread Cert.StepSmallKernelIdeal.nD Cert.StepSmallKernelIdeal.τ).loc Cert.StepSmallKernelIdeal.main_arg46) = m ((c.tc : Thread Cert.StepSmallKernelIdeal.nD Cert.StepSmallKernelIdeal.τ).loc Cert.StepSmallKernelIdeal.main_arg46)
          ∧ r.2.mem ((c.tc : Thread Cert.StepSmallKernelIdeal.nD Cert.StepSmallKernelIdeal.τ).loc Cert.StepSmallKernelIdeal.main_arg47) = m ((c.tc : Thread Cert.StepSmallKernelIdeal.nD Cert.StepSmallKernelIdeal.τ).loc Cert.StepSmallKernelIdeal.main_arg47)
          ∧ r.2.mem ((c.tc : Thread Cert.StepSmallKernelIdeal.nD Cert.StepSmallKernelIdeal.τ).loc Cert.StepSmallKernelIdeal.main_arg48) = m ((c.tc : Thread Cert.StepSmallKernelIdeal.nD Cert.StepSmallKernelIdeal.τ).loc Cert.StepSmallKernelIdeal.main_arg48)
          ∧ r.2.mem ((c.tc : Thread Cert.StepSmallKernelIdeal.nD Cert.StepSmallKernelIdeal.τ).loc Cert.StepSmallKernelIdeal.main_arg49) = m ((c.tc : Thread Cert.StepSmallKernelIdeal.nD Cert.StepSmallKernelIdeal.τ).loc Cert.StepSmallKernelIdeal.main_arg49)
          ∧ r.2.mem ((c.tc : Thread Cert.StepSmallKernelIdeal.nD Cert.StepSmallKernelIdeal.τ).loc Cert.StepSmallKernelIdeal.main_arg50) = m ((c.tc : Thread Cert.StepSmallKernelIdeal.nD Cert.StepSmallKernelIdeal.τ).loc Cert.StepSmallKernelIdeal.main_arg50)
          ∧ r.2.mem ((c.tc : Thread Cert.StepSmallKernelIdeal.nD Cert.StepSmallKernelIdeal.τ).loc Cert.StepSmallKernelIdeal.main_arg51) = m ((c.tc : Thread Cert.StepSmallKernelIdeal.nD Cert.StepSmallKernelIdeal.τ).loc Cert.StepSmallKernelIdeal.main_arg51)
          ∧ r.2.mem ((c.tc : Thread Cert.StepSmallKernelIdeal.nD Cert.StepSmallKernelIdeal.τ).loc Cert.StepSmallKernelIdeal.main_arg52) = m ((c.tc : Thread Cert.StepSmallKernelIdeal.nD Cert.StepSmallKernelIdeal.τ).loc Cert.StepSmallKernelIdeal.main_arg52)
          ∧ r.2.mem ((c.tc : Thread Cert.StepSmallKernelIdeal.nD Cert.StepSmallKernelIdeal.τ).loc Cert.StepSmallKernelIdeal.main_arg53) = m ((c.tc : Thread Cert.StepSmallKernelIdeal.nD Cert.StepSmallKernelIdeal.τ).loc Cert.StepSmallKernelIdeal.main_arg53)
          ∧ r.2.mem ((c.tc : Thread Cert.StepSmallKernelIdeal.nD Cert.StepSmallKernelIdeal.τ).loc Cert.StepSmallKernelIdeal.main_arg54) = m ((c.tc : Thread Cert.StepSmallKernelIdeal.nD Cert.StepSmallKernelIdeal.τ).loc Cert.StepSmallKernelIdeal.main_arg54)
          ∧ r.2.mem ((c.tc : Thread Cert.StepSmallKernelIdeal.nD Cert.StepSmallKernelIdeal.τ).loc Cert.StepSmallKernelIdeal.main_arg55) = m ((c.tc : Thread Cert.StepSmallKernelIdeal.nD Cert.StepSmallKernelIdeal.τ).loc Cert.StepSmallKernelIdeal.main_arg55)
          ∧ r.2.mem ((c.tc : Thread Cert.StepSmallKernelIdeal.nD Cert.StepSmallKernelIdeal.τ).loc Cert.StepSmallKernelIdeal.main_arg56) = m ((c.tc : Thread Cert.StepSmallKernelIdeal.nD Cert.StepSmallKernelIdeal.τ).loc Cert.StepSmallKernelIdeal.main_arg56)
          ∧ r.2.mem ((c.tc : Thread Cert.StepSmallKernelIdeal.nD Cert.StepSmallKernelIdeal.τ).loc Cert.StepSmallKernelIdeal.main_arg57) = m ((c.tc : Thread Cert.StepSmallKernelIdeal.nD Cert.StepSmallKernelIdeal.τ).loc Cert.StepSmallKernelIdeal.main_arg57)
          ∧ r.2.mem ((c.tc : Thread Cert.StepSmallKernelIdeal.nD Cert.StepSmallKernelIdeal.τ).loc Cert.StepSmallKernelIdeal.main_arg58) = m ((c.tc : Thread Cert.StepSmallKernelIdeal.nD Cert.StepSmallKernelIdeal.τ).loc Cert.StepSmallKernelIdeal.main_arg58)
          ∧ r.2.mem ((c.tc : Thread Cert.StepSmallKernelIdeal.nD Cert.StepSmallKernelIdeal.τ).loc Cert.StepSmallKernelIdeal.main_arg59) = m ((c.tc : Thread Cert.StepSmallKernelIdeal.nD Cert.StepSmallKernelIdeal.τ).loc Cert.StepSmallKernelIdeal.main_arg59)
          ∧ r.2.mem ((c.tc : Thread Cert.StepSmallKernelIdeal.nD Cert.StepSmallKernelIdeal.τ).loc Cert.StepSmallKernelIdeal.main_arg60) = m ((c.tc : Thread Cert.StepSmallKernelIdeal.nD Cert.StepSmallKernelIdeal.τ).loc Cert.StepSmallKernelIdeal.main_arg60)
          ∧ r.2.mem ((c.tc : Thread Cert.StepSmallKernelIdeal.nD Cert.StepSmallKernelIdeal.τ).loc Cert.StepSmallKernelIdeal.main_arg61) = m ((c.tc : Thread Cert.StepSmallKernelIdeal.nD Cert.StepSmallKernelIdeal.τ).loc Cert.StepSmallKernelIdeal.main_arg61)
          ∧ r.2.mem ((c.tc : Thread Cert.StepSmallKernelIdeal.nD Cert.StepSmallKernelIdeal.τ).loc Cert.StepSmallKernelIdeal.main_arg62) = m ((c.tc : Thread Cert.StepSmallKernelIdeal.nD Cert.StepSmallKernelIdeal.τ).loc Cert.StepSmallKernelIdeal.main_arg62)
          ∧ r.2.mem ((c.tc : Thread Cert.StepSmallKernelIdeal.nD Cert.StepSmallKernelIdeal.τ).loc Cert.StepSmallKernelIdeal.main_arg63) = m ((c.tc : Thread Cert.StepSmallKernelIdeal.nD Cert.StepSmallKernelIdeal.τ).loc Cert.StepSmallKernelIdeal.main_arg63)
          ∧ r.2.mem ((c.tc : Thread Cert.StepSmallKernelIdeal.nD Cert.StepSmallKernelIdeal.τ).loc Cert.StepSmallKernelIdeal.main_arg64) = m ((c.tc : Thread Cert.StepSmallKernelIdeal.nD Cert.StepSmallKernelIdeal.τ).loc Cert.StepSmallKernelIdeal.main_arg64)
          ∧ r.2.mem ((c.tc : Thread Cert.StepSmallKernelIdeal.nD Cert.StepSmallKernelIdeal.τ).loc Cert.StepSmallKernelIdeal.main_arg65) = m ((c.tc : Thread Cert.StepSmallKernelIdeal.nD Cert.StepSmallKernelIdeal.τ).loc Cert.StepSmallKernelIdeal.main_arg65)
          ∧ r.2.mem ((c.tc : Thread Cert.StepSmallKernelIdeal.nD Cert.StepSmallKernelIdeal.τ).loc Cert.StepSmallKernelIdeal.main_arg66) = m ((c.tc : Thread Cert.StepSmallKernelIdeal.nD Cert.StepSmallKernelIdeal.τ).loc Cert.StepSmallKernelIdeal.main_arg66)
          ∧ r.2.mem ((c.tc : Thread Cert.StepSmallKernelIdeal.nD Cert.StepSmallKernelIdeal.τ).loc Cert.StepSmallKernelIdeal.main_arg67) = m ((c.tc : Thread Cert.StepSmallKernelIdeal.nD Cert.StepSmallKernelIdeal.τ).loc Cert.StepSmallKernelIdeal.main_arg67)
          ∧ r.2.mem ((c.tc : Thread Cert.StepSmallKernelIdeal.nD Cert.StepSmallKernelIdeal.τ).loc Cert.StepSmallKernelIdeal.main_arg68) = m ((c.tc : Thread Cert.StepSmallKernelIdeal.nD Cert.StepSmallKernelIdeal.τ).loc Cert.StepSmallKernelIdeal.main_arg68)
          ∧ r.2.mem ((c.tc : Thread Cert.StepSmallKernelIdeal.nD Cert.StepSmallKernelIdeal.τ).loc Cert.StepSmallKernelIdeal.main_arg69) = m ((c.tc : Thread Cert.StepSmallKernelIdeal.nD Cert.StepSmallKernelIdeal.τ).loc Cert.StepSmallKernelIdeal.main_arg69)
          ∧ r.2.mem ((c.tc : Thread Cert.StepSmallKernelIdeal.nD Cert.StepSmallKernelIdeal.τ).loc Cert.StepSmallKernelIdeal.main_arg70) = m ((c.tc : Thread Cert.StepSmallKernelIdeal.nD Cert.StepSmallKernelIdeal.τ).loc Cert.StepSmallKernelIdeal.main_arg70)
          ∧ r.2.mem ((c.tc : Thread Cert.StepSmallKernelIdeal.nD Cert.StepSmallKernelIdeal.τ).loc Cert.StepSmallKernelIdeal.main_arg71) = m ((c.tc : Thread Cert.StepSmallKernelIdeal.nD Cert.StepSmallKernelIdeal.τ).loc Cert.StepSmallKernelIdeal.main_arg71)
          ∧ r.2.mem ((c.tc : Thread Cert.StepSmallKernelIdeal.nD Cert.StepSmallKernelIdeal.τ).loc Cert.StepSmallKernelIdeal.main_arg72) = m ((c.tc : Thread Cert.StepSmallKernelIdeal.nD Cert.StepSmallKernelIdeal.τ).loc Cert.StepSmallKernelIdeal.main_arg72)
          ∧ r.2.mem ((c.tc : Thread Cert.StepSmallKernelIdeal.nD Cert.StepSmallKernelIdeal.τ).loc Cert.StepSmallKernelIdeal.main_arg73) = m ((c.tc : Thread Cert.StepSmallKernelIdeal.nD Cert.StepSmallKernelIdeal.τ).loc Cert.StepSmallKernelIdeal.main_arg73)
          ∧ r.2.mem ((c.tc : Thread Cert.StepSmallKernelIdeal.nD Cert.StepSmallKernelIdeal.τ).loc Cert.StepSmallKernelIdeal.main_arg74) = m ((c.tc : Thread Cert.StepSmallKernelIdeal.nD Cert.StepSmallKernelIdeal.τ).loc Cert.StepSmallKernelIdeal.main_arg74)
          ∧ r.2.mem ((c.tc : Thread Cert.StepSmallKernelIdeal.nD Cert.StepSmallKernelIdeal.τ).loc Cert.StepSmallKernelIdeal.main_arg75) = m ((c.tc : Thread Cert.StepSmallKernelIdeal.nD Cert.StepSmallKernelIdeal.τ).loc Cert.StepSmallKernelIdeal.main_arg75))
      ∧ θ_run (Cert.StepSmallReferenceIdeal.defs (F := Ideal)) (onTc (τ := Cert.StepSmallReferenceIdeal.τ) (Cert.StepSmallReferenceIdeal.main (F := Ideal))) ⟨m', fun _ => 0, g'⟩ (fun r => ∀ c : Dev Cert.StepSmallReferenceIdeal.nD,
          r.2.mem ((c.tc : Thread Cert.StepSmallReferenceIdeal.nD Cert.StepSmallReferenceIdeal.τ).loc Cert.StepSmallReferenceIdeal.main_v23) = v0 c
          ∧ r.2.mem ((c.tc : Thread Cert.StepSmallReferenceIdeal.nD Cert.StepSmallReferenceIdeal.τ).loc Cert.StepSmallReferenceIdeal.main_v47) = v1 c
          ∧ r.2.mem ((c.tc : Thread Cert.StepSmallReferenceIdeal.nD Cert.StepSmallReferenceIdeal.τ).loc Cert.StepSmallReferenceIdeal.main_v71) = v2 c
          ∧ r.2.mem ((c.tc : Thread Cert.StepSmallReferenceIdeal.nD Cert.StepSmallReferenceIdeal.τ).loc Cert.StepSmallReferenceIdeal.main_v95) = v3 c
          ∧ r.2.mem ((c.tc : Thread Cert.StepSmallReferenceIdeal.nD Cert.StepSmallReferenceIdeal.τ).loc Cert.StepSmallReferenceIdeal.main_v119) = v4 c
          ∧ r.2.mem ((c.tc : Thread Cert.StepSmallReferenceIdeal.nD Cert.StepSmallReferenceIdeal.τ).loc Cert.StepSmallReferenceIdeal.main_v143) = v5 c
          ∧ r.2.mem ((c.tc : Thread Cert.StepSmallReferenceIdeal.nD Cert.StepSmallReferenceIdeal.τ).loc Cert.StepSmallReferenceIdeal.main_v167) = v6 c
          ∧ r.2.mem ((c.tc : Thread Cert.StepSmallReferenceIdeal.nD Cert.StepSmallReferenceIdeal.τ).loc Cert.StepSmallReferenceIdeal.main_v191) = v7 c
          ∧ r.2.mem ((c.tc : Thread Cert.StepSmallReferenceIdeal.nD Cert.StepSmallReferenceIdeal.τ).loc Cert.StepSmallReferenceIdeal.main_v215) = v8 c
          ∧ r.2.mem ((c.tc : Thread Cert.StepSmallReferenceIdeal.nD Cert.StepSmallReferenceIdeal.τ).loc Cert.StepSmallReferenceIdeal.main_v239) = v9 c
          ∧ r.2.mem ((c.tc : Thread Cert.StepSmallReferenceIdeal.nD Cert.StepSmallReferenceIdeal.τ).loc Cert.StepSmallReferenceIdeal.main_v263) = v10 c
          ∧ r.2.mem ((c.tc : Thread Cert.StepSmallReferenceIdeal.nD Cert.StepSmallReferenceIdeal.τ).loc Cert.StepSmallReferenceIdeal.main_v287) = v11 c
          ∧ r.2.mem ((c.tc : Thread Cert.StepSmallReferenceIdeal.nD Cert.StepSmallReferenceIdeal.τ).loc Cert.StepSmallReferenceIdeal.main_v311) = v12 c
          ∧ r.2.mem ((c.tc : Thread Cert.StepSmallReferenceIdeal.nD Cert.StepSmallReferenceIdeal.τ).loc Cert.StepSmallReferenceIdeal.main_v335) = v13 c
          ∧ r.2.mem ((c.tc : Thread Cert.StepSmallReferenceIdeal.nD Cert.StepSmallReferenceIdeal.τ).loc Cert.StepSmallReferenceIdeal.main_v359) = v14 c
          ∧ r.2.mem ((c.tc : Thread Cert.StepSmallReferenceIdeal.nD Cert.StepSmallReferenceIdeal.τ).loc Cert.StepSmallReferenceIdeal.main_v383) = v15 c
          ∧ r.2.mem ((c.tc : Thread Cert.StepSmallReferenceIdeal.nD Cert.StepSmallReferenceIdeal.τ).loc Cert.StepSmallReferenceIdeal.main_v407) = v16 c
          ∧ r.2.mem ((c.tc : Thread Cert.StepSmallReferenceIdeal.nD Cert.StepSmallReferenceIdeal.τ).loc Cert.StepSmallReferenceIdeal.main_v431) = v17 c
          ∧ r.2.mem ((c.tc : Thread Cert.StepSmallReferenceIdeal.nD Cert.StepSmallReferenceIdeal.τ).loc Cert.StepSmallReferenceIdeal.main_v455) = v18 c
          ∧ r.2.mem ((c.tc : Thread Cert.StepSmallReferenceIdeal.nD Cert.StepSmallReferenceIdeal.τ).loc Cert.StepSmallReferenceIdeal.main_v4) = v19 c
          ∧ r.2.mem ((c.tc : Thread Cert.StepSmallReferenceIdeal.nD Cert.StepSmallReferenceIdeal.τ).loc Cert.StepSmallReferenceIdeal.main_v28) = v20 c
          ∧ r.2.mem ((c.tc : Thread Cert.StepSmallReferenceIdeal.nD Cert.StepSmallReferenceIdeal.τ).loc Cert.StepSmallReferenceIdeal.main_v52) = v21 c
          ∧ r.2.mem ((c.tc : Thread Cert.StepSmallReferenceIdeal.nD Cert.StepSmallReferenceIdeal.τ).loc Cert.StepSmallReferenceIdeal.main_v76) = v22 c
          ∧ r.2.mem ((c.tc : Thread Cert.StepSmallReferenceIdeal.nD Cert.StepSmallReferenceIdeal.τ).loc Cert.StepSmallReferenceIdeal.main_v100) = v23 c
          ∧ r.2.mem ((c.tc : Thread Cert.StepSmallReferenceIdeal.nD Cert.StepSmallReferenceIdeal.τ).loc Cert.StepSmallReferenceIdeal.main_v124) = v24 c
          ∧ r.2.mem ((c.tc : Thread Cert.StepSmallReferenceIdeal.nD Cert.StepSmallReferenceIdeal.τ).loc Cert.StepSmallReferenceIdeal.main_v148) = v25 c
          ∧ r.2.mem ((c.tc : Thread Cert.StepSmallReferenceIdeal.nD Cert.StepSmallReferenceIdeal.τ).loc Cert.StepSmallReferenceIdeal.main_v172) = v26 c
          ∧ r.2.mem ((c.tc : Thread Cert.StepSmallReferenceIdeal.nD Cert.StepSmallReferenceIdeal.τ).loc Cert.StepSmallReferenceIdeal.main_v196) = v27 c
          ∧ r.2.mem ((c.tc : Thread Cert.StepSmallReferenceIdeal.nD Cert.StepSmallReferenceIdeal.τ).loc Cert.StepSmallReferenceIdeal.main_v220) = v28 c
          ∧ r.2.mem ((c.tc : Thread Cert.StepSmallReferenceIdeal.nD Cert.StepSmallReferenceIdeal.τ).loc Cert.StepSmallReferenceIdeal.main_v244) = v29 c
          ∧ r.2.mem ((c.tc : Thread Cert.StepSmallReferenceIdeal.nD Cert.StepSmallReferenceIdeal.τ).loc Cert.StepSmallReferenceIdeal.main_v268) = v30 c
          ∧ r.2.mem ((c.tc : Thread Cert.StepSmallReferenceIdeal.nD Cert.StepSmallReferenceIdeal.τ).loc Cert.StepSmallReferenceIdeal.main_v292) = v31 c
          ∧ r.2.mem ((c.tc : Thread Cert.StepSmallReferenceIdeal.nD Cert.StepSmallReferenceIdeal.τ).loc Cert.StepSmallReferenceIdeal.main_v316) = v32 c
          ∧ r.2.mem ((c.tc : Thread Cert.StepSmallReferenceIdeal.nD Cert.StepSmallReferenceIdeal.τ).loc Cert.StepSmallReferenceIdeal.main_v340) = v33 c
          ∧ r.2.mem ((c.tc : Thread Cert.StepSmallReferenceIdeal.nD Cert.StepSmallReferenceIdeal.τ).loc Cert.StepSmallReferenceIdeal.main_v364) = v34 c
          ∧ r.2.mem ((c.tc : Thread Cert.StepSmallReferenceIdeal.nD Cert.StepSmallReferenceIdeal.τ).loc Cert.StepSmallReferenceIdeal.main_v388) = v35 c
          ∧ r.2.mem ((c.tc : Thread Cert.StepSmallReferenceIdeal.nD Cert.StepSmallReferenceIdeal.τ).loc Cert.StepSmallReferenceIdeal.main_v412) = v36 c
          ∧ r.2.mem ((c.tc : Thread Cert.StepSmallReferenceIdeal.nD Cert.StepSmallReferenceIdeal.τ).loc Cert.StepSmallReferenceIdeal.main_v436) = v37 c
          ∧ r.2.mem ((c.tc : Thread Cert.StepSmallReferenceIdeal.nD Cert.StepSmallReferenceIdeal.τ).loc Cert.StepSmallReferenceIdeal.main_v10) = v38 c
          ∧ r.2.mem ((c.tc : Thread Cert.StepSmallReferenceIdeal.nD Cert.StepSmallReferenceIdeal.τ).loc Cert.StepSmallReferenceIdeal.main_v34) = v39 c
          ∧ r.2.mem ((c.tc : Thread Cert.StepSmallReferenceIdeal.nD Cert.StepSmallReferenceIdeal.τ).loc Cert.StepSmallReferenceIdeal.main_v58) = v40 c
          ∧ r.2.mem ((c.tc : Thread Cert.StepSmallReferenceIdeal.nD Cert.StepSmallReferenceIdeal.τ).loc Cert.StepSmallReferenceIdeal.main_v82) = v41 c
          ∧ r.2.mem ((c.tc : Thread Cert.StepSmallReferenceIdeal.nD Cert.StepSmallReferenceIdeal.τ).loc Cert.StepSmallReferenceIdeal.main_v106) = v42 c
          ∧ r.2.mem ((c.tc : Thread Cert.StepSmallReferenceIdeal.nD Cert.StepSmallReferenceIdeal.τ).loc Cert.StepSmallReferenceIdeal.main_v130) = v43 c
          ∧ r.2.mem ((c.tc : Thread Cert.StepSmallReferenceIdeal.nD Cert.StepSmallReferenceIdeal.τ).loc Cert.StepSmallReferenceIdeal.main_v154) = v44 c
          ∧ r.2.mem ((c.tc : Thread Cert.StepSmallReferenceIdeal.nD Cert.StepSmallReferenceIdeal.τ).loc Cert.StepSmallReferenceIdeal.main_v178) = v45 c
          ∧ r.2.mem ((c.tc : Thread Cert.StepSmallReferenceIdeal.nD Cert.StepSmallReferenceIdeal.τ).loc Cert.StepSmallReferenceIdeal.main_v202) = v46 c
          ∧ r.2.mem ((c.tc : Thread Cert.StepSmallReferenceIdeal.nD Cert.StepSmallReferenceIdeal.τ).loc Cert.StepSmallReferenceIdeal.main_v226) = v47 c
          ∧ r.2.mem ((c.tc : Thread Cert.StepSmallReferenceIdeal.nD Cert.StepSmallReferenceIdeal.τ).loc Cert.StepSmallReferenceIdeal.main_v250) = v48 c
          ∧ r.2.mem ((c.tc : Thread Cert.StepSmallReferenceIdeal.nD Cert.StepSmallReferenceIdeal.τ).loc Cert.StepSmallReferenceIdeal.main_v274) = v49 c
          ∧ r.2.mem ((c.tc : Thread Cert.StepSmallReferenceIdeal.nD Cert.StepSmallReferenceIdeal.τ).loc Cert.StepSmallReferenceIdeal.main_v298) = v50 c
          ∧ r.2.mem ((c.tc : Thread Cert.StepSmallReferenceIdeal.nD Cert.StepSmallReferenceIdeal.τ).loc Cert.StepSmallReferenceIdeal.main_v322) = v51 c
          ∧ r.2.mem ((c.tc : Thread Cert.StepSmallReferenceIdeal.nD Cert.StepSmallReferenceIdeal.τ).loc Cert.StepSmallReferenceIdeal.main_v346) = v52 c
          ∧ r.2.mem ((c.tc : Thread Cert.StepSmallReferenceIdeal.nD Cert.StepSmallReferenceIdeal.τ).loc Cert.StepSmallReferenceIdeal.main_v370) = v53 c
          ∧ r.2.mem ((c.tc : Thread Cert.StepSmallReferenceIdeal.nD Cert.StepSmallReferenceIdeal.τ).loc Cert.StepSmallReferenceIdeal.main_v394) = v54 c
          ∧ r.2.mem ((c.tc : Thread Cert.StepSmallReferenceIdeal.nD Cert.StepSmallReferenceIdeal.τ).loc Cert.StepSmallReferenceIdeal.main_v418) = v55 c
          ∧ r.2.mem ((c.tc : Thread Cert.StepSmallReferenceIdeal.nD Cert.StepSmallReferenceIdeal.τ).loc Cert.StepSmallReferenceIdeal.main_v442) = v56 c
          ∧ r.2.mem ((c.tc : Thread Cert.StepSmallReferenceIdeal.nD Cert.StepSmallReferenceIdeal.τ).loc Cert.StepSmallReferenceIdeal.main_arg0) = m' ((c.tc : Thread Cert.StepSmallReferenceIdeal.nD Cert.StepSmallReferenceIdeal.τ).loc Cert.StepSmallReferenceIdeal.main_arg0)
          ∧ r.2.mem ((c.tc : Thread Cert.StepSmallReferenceIdeal.nD Cert.StepSmallReferenceIdeal.τ).loc Cert.StepSmallReferenceIdeal.main_arg1) = m' ((c.tc : Thread Cert.StepSmallReferenceIdeal.nD Cert.StepSmallReferenceIdeal.τ).loc Cert.StepSmallReferenceIdeal.main_arg1)
          ∧ r.2.mem ((c.tc : Thread Cert.StepSmallReferenceIdeal.nD Cert.StepSmallReferenceIdeal.τ).loc Cert.StepSmallReferenceIdeal.main_arg2) = m' ((c.tc : Thread Cert.StepSmallReferenceIdeal.nD Cert.StepSmallReferenceIdeal.τ).loc Cert.StepSmallReferenceIdeal.main_arg2)
          ∧ r.2.mem ((c.tc : Thread Cert.StepSmallReferenceIdeal.nD Cert.StepSmallReferenceIdeal.τ).loc Cert.StepSmallReferenceIdeal.main_arg3) = m' ((c.tc : Thread Cert.StepSmallReferenceIdeal.nD Cert.StepSmallReferenceIdeal.τ).loc Cert.StepSmallReferenceIdeal.main_arg3)
          ∧ r.2.mem ((c.tc : Thread Cert.StepSmallReferenceIdeal.nD Cert.StepSmallReferenceIdeal.τ).loc Cert.StepSmallReferenceIdeal.main_arg4) = m' ((c.tc : Thread Cert.StepSmallReferenceIdeal.nD Cert.StepSmallReferenceIdeal.τ).loc Cert.StepSmallReferenceIdeal.main_arg4)
          ∧ r.2.mem ((c.tc : Thread Cert.StepSmallReferenceIdeal.nD Cert.StepSmallReferenceIdeal.τ).loc Cert.StepSmallReferenceIdeal.main_arg5) = m' ((c.tc : Thread Cert.StepSmallReferenceIdeal.nD Cert.StepSmallReferenceIdeal.τ).loc Cert.StepSmallReferenceIdeal.main_arg5)
          ∧ r.2.mem ((c.tc : Thread Cert.StepSmallReferenceIdeal.nD Cert.StepSmallReferenceIdeal.τ).loc Cert.StepSmallReferenceIdeal.main_arg6) = m' ((c.tc : Thread Cert.StepSmallReferenceIdeal.nD Cert.StepSmallReferenceIdeal.τ).loc Cert.StepSmallReferenceIdeal.main_arg6)
          ∧ r.2.mem ((c.tc : Thread Cert.StepSmallReferenceIdeal.nD Cert.StepSmallReferenceIdeal.τ).loc Cert.StepSmallReferenceIdeal.main_arg7) = m' ((c.tc : Thread Cert.StepSmallReferenceIdeal.nD Cert.StepSmallReferenceIdeal.τ).loc Cert.StepSmallReferenceIdeal.main_arg7)
          ∧ r.2.mem ((c.tc : Thread Cert.StepSmallReferenceIdeal.nD Cert.StepSmallReferenceIdeal.τ).loc Cert.StepSmallReferenceIdeal.main_arg8) = m' ((c.tc : Thread Cert.StepSmallReferenceIdeal.nD Cert.StepSmallReferenceIdeal.τ).loc Cert.StepSmallReferenceIdeal.main_arg8)
          ∧ r.2.mem ((c.tc : Thread Cert.StepSmallReferenceIdeal.nD Cert.StepSmallReferenceIdeal.τ).loc Cert.StepSmallReferenceIdeal.main_arg9) = m' ((c.tc : Thread Cert.StepSmallReferenceIdeal.nD Cert.StepSmallReferenceIdeal.τ).loc Cert.StepSmallReferenceIdeal.main_arg9)
          ∧ r.2.mem ((c.tc : Thread Cert.StepSmallReferenceIdeal.nD Cert.StepSmallReferenceIdeal.τ).loc Cert.StepSmallReferenceIdeal.main_arg10) = m' ((c.tc : Thread Cert.StepSmallReferenceIdeal.nD Cert.StepSmallReferenceIdeal.τ).loc Cert.StepSmallReferenceIdeal.main_arg10)
          ∧ r.2.mem ((c.tc : Thread Cert.StepSmallReferenceIdeal.nD Cert.StepSmallReferenceIdeal.τ).loc Cert.StepSmallReferenceIdeal.main_arg11) = m' ((c.tc : Thread Cert.StepSmallReferenceIdeal.nD Cert.StepSmallReferenceIdeal.τ).loc Cert.StepSmallReferenceIdeal.main_arg11)
          ∧ r.2.mem ((c.tc : Thread Cert.StepSmallReferenceIdeal.nD Cert.StepSmallReferenceIdeal.τ).loc Cert.StepSmallReferenceIdeal.main_arg12) = m' ((c.tc : Thread Cert.StepSmallReferenceIdeal.nD Cert.StepSmallReferenceIdeal.τ).loc Cert.StepSmallReferenceIdeal.main_arg12)
          ∧ r.2.mem ((c.tc : Thread Cert.StepSmallReferenceIdeal.nD Cert.StepSmallReferenceIdeal.τ).loc Cert.StepSmallReferenceIdeal.main_arg13) = m' ((c.tc : Thread Cert.StepSmallReferenceIdeal.nD Cert.StepSmallReferenceIdeal.τ).loc Cert.StepSmallReferenceIdeal.main_arg13)
          ∧ r.2.mem ((c.tc : Thread Cert.StepSmallReferenceIdeal.nD Cert.StepSmallReferenceIdeal.τ).loc Cert.StepSmallReferenceIdeal.main_arg14) = m' ((c.tc : Thread Cert.StepSmallReferenceIdeal.nD Cert.StepSmallReferenceIdeal.τ).loc Cert.StepSmallReferenceIdeal.main_arg14)
          ∧ r.2.mem ((c.tc : Thread Cert.StepSmallReferenceIdeal.nD Cert.StepSmallReferenceIdeal.τ).loc Cert.StepSmallReferenceIdeal.main_arg15) = m' ((c.tc : Thread Cert.StepSmallReferenceIdeal.nD Cert.StepSmallReferenceIdeal.τ).loc Cert.StepSmallReferenceIdeal.main_arg15)
          ∧ r.2.mem ((c.tc : Thread Cert.StepSmallReferenceIdeal.nD Cert.StepSmallReferenceIdeal.τ).loc Cert.StepSmallReferenceIdeal.main_arg16) = m' ((c.tc : Thread Cert.StepSmallReferenceIdeal.nD Cert.StepSmallReferenceIdeal.τ).loc Cert.StepSmallReferenceIdeal.main_arg16)
          ∧ r.2.mem ((c.tc : Thread Cert.StepSmallReferenceIdeal.nD Cert.StepSmallReferenceIdeal.τ).loc Cert.StepSmallReferenceIdeal.main_arg17) = m' ((c.tc : Thread Cert.StepSmallReferenceIdeal.nD Cert.StepSmallReferenceIdeal.τ).loc Cert.StepSmallReferenceIdeal.main_arg17)
          ∧ r.2.mem ((c.tc : Thread Cert.StepSmallReferenceIdeal.nD Cert.StepSmallReferenceIdeal.τ).loc Cert.StepSmallReferenceIdeal.main_arg18) = m' ((c.tc : Thread Cert.StepSmallReferenceIdeal.nD Cert.StepSmallReferenceIdeal.τ).loc Cert.StepSmallReferenceIdeal.main_arg18)
          ∧ r.2.mem ((c.tc : Thread Cert.StepSmallReferenceIdeal.nD Cert.StepSmallReferenceIdeal.τ).loc Cert.StepSmallReferenceIdeal.main_arg19) = m' ((c.tc : Thread Cert.StepSmallReferenceIdeal.nD Cert.StepSmallReferenceIdeal.τ).loc Cert.StepSmallReferenceIdeal.main_arg19)
          ∧ r.2.mem ((c.tc : Thread Cert.StepSmallReferenceIdeal.nD Cert.StepSmallReferenceIdeal.τ).loc Cert.StepSmallReferenceIdeal.main_arg20) = m' ((c.tc : Thread Cert.StepSmallReferenceIdeal.nD Cert.StepSmallReferenceIdeal.τ).loc Cert.StepSmallReferenceIdeal.main_arg20)
          ∧ r.2.mem ((c.tc : Thread Cert.StepSmallReferenceIdeal.nD Cert.StepSmallReferenceIdeal.τ).loc Cert.StepSmallReferenceIdeal.main_arg21) = m' ((c.tc : Thread Cert.StepSmallReferenceIdeal.nD Cert.StepSmallReferenceIdeal.τ).loc Cert.StepSmallReferenceIdeal.main_arg21)
          ∧ r.2.mem ((c.tc : Thread Cert.StepSmallReferenceIdeal.nD Cert.StepSmallReferenceIdeal.τ).loc Cert.StepSmallReferenceIdeal.main_arg22) = m' ((c.tc : Thread Cert.StepSmallReferenceIdeal.nD Cert.StepSmallReferenceIdeal.τ).loc Cert.StepSmallReferenceIdeal.main_arg22)
          ∧ r.2.mem ((c.tc : Thread Cert.StepSmallReferenceIdeal.nD Cert.StepSmallReferenceIdeal.τ).loc Cert.StepSmallReferenceIdeal.main_arg23) = m' ((c.tc : Thread Cert.StepSmallReferenceIdeal.nD Cert.StepSmallReferenceIdeal.τ).loc Cert.StepSmallReferenceIdeal.main_arg23)
          ∧ r.2.mem ((c.tc : Thread Cert.StepSmallReferenceIdeal.nD Cert.StepSmallReferenceIdeal.τ).loc Cert.StepSmallReferenceIdeal.main_arg24) = m' ((c.tc : Thread Cert.StepSmallReferenceIdeal.nD Cert.StepSmallReferenceIdeal.τ).loc Cert.StepSmallReferenceIdeal.main_arg24)
          ∧ r.2.mem ((c.tc : Thread Cert.StepSmallReferenceIdeal.nD Cert.StepSmallReferenceIdeal.τ).loc Cert.StepSmallReferenceIdeal.main_arg25) = m' ((c.tc : Thread Cert.StepSmallReferenceIdeal.nD Cert.StepSmallReferenceIdeal.τ).loc Cert.StepSmallReferenceIdeal.main_arg25)
          ∧ r.2.mem ((c.tc : Thread Cert.StepSmallReferenceIdeal.nD Cert.StepSmallReferenceIdeal.τ).loc Cert.StepSmallReferenceIdeal.main_arg26) = m' ((c.tc : Thread Cert.StepSmallReferenceIdeal.nD Cert.StepSmallReferenceIdeal.τ).loc Cert.StepSmallReferenceIdeal.main_arg26)
          ∧ r.2.mem ((c.tc : Thread Cert.StepSmallReferenceIdeal.nD Cert.StepSmallReferenceIdeal.τ).loc Cert.StepSmallReferenceIdeal.main_arg27) = m' ((c.tc : Thread Cert.StepSmallReferenceIdeal.nD Cert.StepSmallReferenceIdeal.τ).loc Cert.StepSmallReferenceIdeal.main_arg27)
          ∧ r.2.mem ((c.tc : Thread Cert.StepSmallReferenceIdeal.nD Cert.StepSmallReferenceIdeal.τ).loc Cert.StepSmallReferenceIdeal.main_arg28) = m' ((c.tc : Thread Cert.StepSmallReferenceIdeal.nD Cert.StepSmallReferenceIdeal.τ).loc Cert.StepSmallReferenceIdeal.main_arg28)
          ∧ r.2.mem ((c.tc : Thread Cert.StepSmallReferenceIdeal.nD Cert.StepSmallReferenceIdeal.τ).loc Cert.StepSmallReferenceIdeal.main_arg29) = m' ((c.tc : Thread Cert.StepSmallReferenceIdeal.nD Cert.StepSmallReferenceIdeal.τ).loc Cert.StepSmallReferenceIdeal.main_arg29)
          ∧ r.2.mem ((c.tc : Thread Cert.StepSmallReferenceIdeal.nD Cert.StepSmallReferenceIdeal.τ).loc Cert.StepSmallReferenceIdeal.main_arg30) = m' ((c.tc : Thread Cert.StepSmallReferenceIdeal.nD Cert.StepSmallReferenceIdeal.τ).loc Cert.StepSmallReferenceIdeal.main_arg30)
          ∧ r.2.mem ((c.tc : Thread Cert.StepSmallReferenceIdeal.nD Cert.StepSmallReferenceIdeal.τ).loc Cert.StepSmallReferenceIdeal.main_arg31) = m' ((c.tc : Thread Cert.StepSmallReferenceIdeal.nD Cert.StepSmallReferenceIdeal.τ).loc Cert.StepSmallReferenceIdeal.main_arg31)
          ∧ r.2.mem ((c.tc : Thread Cert.StepSmallReferenceIdeal.nD Cert.StepSmallReferenceIdeal.τ).loc Cert.StepSmallReferenceIdeal.main_arg32) = m' ((c.tc : Thread Cert.StepSmallReferenceIdeal.nD Cert.StepSmallReferenceIdeal.τ).loc Cert.StepSmallReferenceIdeal.main_arg32)
          ∧ r.2.mem ((c.tc : Thread Cert.StepSmallReferenceIdeal.nD Cert.StepSmallReferenceIdeal.τ).loc Cert.StepSmallReferenceIdeal.main_arg33) = m' ((c.tc : Thread Cert.StepSmallReferenceIdeal.nD Cert.StepSmallReferenceIdeal.τ).loc Cert.StepSmallReferenceIdeal.main_arg33)
          ∧ r.2.mem ((c.tc : Thread Cert.StepSmallReferenceIdeal.nD Cert.StepSmallReferenceIdeal.τ).loc Cert.StepSmallReferenceIdeal.main_arg34) = m' ((c.tc : Thread Cert.StepSmallReferenceIdeal.nD Cert.StepSmallReferenceIdeal.τ).loc Cert.StepSmallReferenceIdeal.main_arg34)
          ∧ r.2.mem ((c.tc : Thread Cert.StepSmallReferenceIdeal.nD Cert.StepSmallReferenceIdeal.τ).loc Cert.StepSmallReferenceIdeal.main_arg35) = m' ((c.tc : Thread Cert.StepSmallReferenceIdeal.nD Cert.StepSmallReferenceIdeal.τ).loc Cert.StepSmallReferenceIdeal.main_arg35)
          ∧ r.2.mem ((c.tc : Thread Cert.StepSmallReferenceIdeal.nD Cert.StepSmallReferenceIdeal.τ).loc Cert.StepSmallReferenceIdeal.main_arg36) = m' ((c.tc : Thread Cert.StepSmallReferenceIdeal.nD Cert.StepSmallReferenceIdeal.τ).loc Cert.StepSmallReferenceIdeal.main_arg36)
          ∧ r.2.mem ((c.tc : Thread Cert.StepSmallReferenceIdeal.nD Cert.StepSmallReferenceIdeal.τ).loc Cert.StepSmallReferenceIdeal.main_arg37) = m' ((c.tc : Thread Cert.StepSmallReferenceIdeal.nD Cert.StepSmallReferenceIdeal.τ).loc Cert.StepSmallReferenceIdeal.main_arg37)
          ∧ r.2.mem ((c.tc : Thread Cert.StepSmallReferenceIdeal.nD Cert.StepSmallReferenceIdeal.τ).loc Cert.StepSmallReferenceIdeal.main_arg38) = m' ((c.tc : Thread Cert.StepSmallReferenceIdeal.nD Cert.StepSmallReferenceIdeal.τ).loc Cert.StepSmallReferenceIdeal.main_arg38)
          ∧ r.2.mem ((c.tc : Thread Cert.StepSmallReferenceIdeal.nD Cert.StepSmallReferenceIdeal.τ).loc Cert.StepSmallReferenceIdeal.main_arg39) = m' ((c.tc : Thread Cert.StepSmallReferenceIdeal.nD Cert.StepSmallReferenceIdeal.τ).loc Cert.StepSmallReferenceIdeal.main_arg39)
          ∧ r.2.mem ((c.tc : Thread Cert.StepSmallReferenceIdeal.nD Cert.StepSmallReferenceIdeal.τ).loc Cert.StepSmallReferenceIdeal.main_arg40) = m' ((c.tc : Thread Cert.StepSmallReferenceIdeal.nD Cert.StepSmallReferenceIdeal.τ).loc Cert.StepSmallReferenceIdeal.main_arg40)
          ∧ r.2.mem ((c.tc : Thread Cert.StepSmallReferenceIdeal.nD Cert.StepSmallReferenceIdeal.τ).loc Cert.StepSmallReferenceIdeal.main_arg41) = m' ((c.tc : Thread Cert.StepSmallReferenceIdeal.nD Cert.StepSmallReferenceIdeal.τ).loc Cert.StepSmallReferenceIdeal.main_arg41)
          ∧ r.2.mem ((c.tc : Thread Cert.StepSmallReferenceIdeal.nD Cert.StepSmallReferenceIdeal.τ).loc Cert.StepSmallReferenceIdeal.main_arg42) = m' ((c.tc : Thread Cert.StepSmallReferenceIdeal.nD Cert.StepSmallReferenceIdeal.τ).loc Cert.StepSmallReferenceIdeal.main_arg42)
          ∧ r.2.mem ((c.tc : Thread Cert.StepSmallReferenceIdeal.nD Cert.StepSmallReferenceIdeal.τ).loc Cert.StepSmallReferenceIdeal.main_arg43) = m' ((c.tc : Thread Cert.StepSmallReferenceIdeal.nD Cert.StepSmallReferenceIdeal.τ).loc Cert.StepSmallReferenceIdeal.main_arg43)
          ∧ r.2.mem ((c.tc : Thread Cert.StepSmallReferenceIdeal.nD Cert.StepSmallReferenceIdeal.τ).loc Cert.StepSmallReferenceIdeal.main_arg44) = m' ((c.tc : Thread Cert.StepSmallReferenceIdeal.nD Cert.StepSmallReferenceIdeal.τ).loc Cert.StepSmallReferenceIdeal.main_arg44)
          ∧ r.2.mem ((c.tc : Thread Cert.StepSmallReferenceIdeal.nD Cert.StepSmallReferenceIdeal.τ).loc Cert.StepSmallReferenceIdeal.main_arg45) = m' ((c.tc : Thread Cert.StepSmallReferenceIdeal.nD Cert.StepSmallReferenceIdeal.τ).loc Cert.StepSmallReferenceIdeal.main_arg45)
          ∧ r.2.mem ((c.tc : Thread Cert.StepSmallReferenceIdeal.nD Cert.StepSmallReferenceIdeal.τ).loc Cert.StepSmallReferenceIdeal.main_arg46) = m' ((c.tc : Thread Cert.StepSmallReferenceIdeal.nD Cert.StepSmallReferenceIdeal.τ).loc Cert.StepSmallReferenceIdeal.main_arg46)
          ∧ r.2.mem ((c.tc : Thread Cert.StepSmallReferenceIdeal.nD Cert.StepSmallReferenceIdeal.τ).loc Cert.StepSmallReferenceIdeal.main_arg47) = m' ((c.tc : Thread Cert.StepSmallReferenceIdeal.nD Cert.StepSmallReferenceIdeal.τ).loc Cert.StepSmallReferenceIdeal.main_arg47)
          ∧ r.2.mem ((c.tc : Thread Cert.StepSmallReferenceIdeal.nD Cert.StepSmallReferenceIdeal.τ).loc Cert.StepSmallReferenceIdeal.main_arg48) = m' ((c.tc : Thread Cert.StepSmallReferenceIdeal.nD Cert.StepSmallReferenceIdeal.τ).loc Cert.StepSmallReferenceIdeal.main_arg48)
          ∧ r.2.mem ((c.tc : Thread Cert.StepSmallReferenceIdeal.nD Cert.StepSmallReferenceIdeal.τ).loc Cert.StepSmallReferenceIdeal.main_arg49) = m' ((c.tc : Thread Cert.StepSmallReferenceIdeal.nD Cert.StepSmallReferenceIdeal.τ).loc Cert.StepSmallReferenceIdeal.main_arg49)
          ∧ r.2.mem ((c.tc : Thread Cert.StepSmallReferenceIdeal.nD Cert.StepSmallReferenceIdeal.τ).loc Cert.StepSmallReferenceIdeal.main_arg50) = m' ((c.tc : Thread Cert.StepSmallReferenceIdeal.nD Cert.StepSmallReferenceIdeal.τ).loc Cert.StepSmallReferenceIdeal.main_arg50)
          ∧ r.2.mem ((c.tc : Thread Cert.StepSmallReferenceIdeal.nD Cert.StepSmallReferenceIdeal.τ).loc Cert.StepSmallReferenceIdeal.main_arg51) = m' ((c.tc : Thread Cert.StepSmallReferenceIdeal.nD Cert.StepSmallReferenceIdeal.τ).loc Cert.StepSmallReferenceIdeal.main_arg51)
          ∧ r.2.mem ((c.tc : Thread Cert.StepSmallReferenceIdeal.nD Cert.StepSmallReferenceIdeal.τ).loc Cert.StepSmallReferenceIdeal.main_arg52) = m' ((c.tc : Thread Cert.StepSmallReferenceIdeal.nD Cert.StepSmallReferenceIdeal.τ).loc Cert.StepSmallReferenceIdeal.main_arg52)
          ∧ r.2.mem ((c.tc : Thread Cert.StepSmallReferenceIdeal.nD Cert.StepSmallReferenceIdeal.τ).loc Cert.StepSmallReferenceIdeal.main_arg53) = m' ((c.tc : Thread Cert.StepSmallReferenceIdeal.nD Cert.StepSmallReferenceIdeal.τ).loc Cert.StepSmallReferenceIdeal.main_arg53)
          ∧ r.2.mem ((c.tc : Thread Cert.StepSmallReferenceIdeal.nD Cert.StepSmallReferenceIdeal.τ).loc Cert.StepSmallReferenceIdeal.main_arg54) = m' ((c.tc : Thread Cert.StepSmallReferenceIdeal.nD Cert.StepSmallReferenceIdeal.τ).loc Cert.StepSmallReferenceIdeal.main_arg54)
          ∧ r.2.mem ((c.tc : Thread Cert.StepSmallReferenceIdeal.nD Cert.StepSmallReferenceIdeal.τ).loc Cert.StepSmallReferenceIdeal.main_arg55) = m' ((c.tc : Thread Cert.StepSmallReferenceIdeal.nD Cert.StepSmallReferenceIdeal.τ).loc Cert.StepSmallReferenceIdeal.main_arg55)
          ∧ r.2.mem ((c.tc : Thread Cert.StepSmallReferenceIdeal.nD Cert.StepSmallReferenceIdeal.τ).loc Cert.StepSmallReferenceIdeal.main_arg56) = m' ((c.tc : Thread Cert.StepSmallReferenceIdeal.nD Cert.StepSmallReferenceIdeal.τ).loc Cert.StepSmallReferenceIdeal.main_arg56)
          ∧ r.2.mem ((c.tc : Thread Cert.StepSmallReferenceIdeal.nD Cert.StepSmallReferenceIdeal.τ).loc Cert.StepSmallReferenceIdeal.main_arg57) = m' ((c.tc : Thread Cert.StepSmallReferenceIdeal.nD Cert.StepSmallReferenceIdeal.τ).loc Cert.StepSmallReferenceIdeal.main_arg57)
          ∧ r.2.mem ((c.tc : Thread Cert.StepSmallReferenceIdeal.nD Cert.StepSmallReferenceIdeal.τ).loc Cert.StepSmallReferenceIdeal.main_arg58) = m' ((c.tc : Thread Cert.StepSmallReferenceIdeal.nD Cert.StepSmallReferenceIdeal.τ).loc Cert.StepSmallReferenceIdeal.main_arg58)
          ∧ r.2.mem ((c.tc : Thread Cert.StepSmallReferenceIdeal.nD Cert.StepSmallReferenceIdeal.τ).loc Cert.StepSmallReferenceIdeal.main_arg59) = m' ((c.tc : Thread Cert.StepSmallReferenceIdeal.nD Cert.StepSmallReferenceIdeal.τ).loc Cert.StepSmallReferenceIdeal.main_arg59)
          ∧ r.2.mem ((c.tc : Thread Cert.StepSmallReferenceIdeal.nD Cert.StepSmallReferenceIdeal.τ).loc Cert.StepSmallReferenceIdeal.main_arg60) = m' ((c.tc : Thread Cert.StepSmallReferenceIdeal.nD Cert.StepSmallReferenceIdeal.τ).loc Cert.StepSmallReferenceIdeal.main_arg60)
          ∧ r.2.mem ((c.tc : Thread Cert.StepSmallReferenceIdeal.nD Cert.StepSmallReferenceIdeal.τ).loc Cert.StepSmallReferenceIdeal.main_arg61) = m' ((c.tc : Thread Cert.StepSmallReferenceIdeal.nD Cert.StepSmallReferenceIdeal.τ).loc Cert.StepSmallReferenceIdeal.main_arg61)
          ∧ r.2.mem ((c.tc : Thread Cert.StepSmallReferenceIdeal.nD Cert.StepSmallReferenceIdeal.τ).loc Cert.StepSmallReferenceIdeal.main_arg62) = m' ((c.tc : Thread Cert.StepSmallReferenceIdeal.nD Cert.StepSmallReferenceIdeal.τ).loc Cert.StepSmallReferenceIdeal.main_arg62)
          ∧ r.2.mem ((c.tc : Thread Cert.StepSmallReferenceIdeal.nD Cert.StepSmallReferenceIdeal.τ).loc Cert.StepSmallReferenceIdeal.main_arg63) = m' ((c.tc : Thread Cert.StepSmallReferenceIdeal.nD Cert.StepSmallReferenceIdeal.τ).loc Cert.StepSmallReferenceIdeal.main_arg63)
          ∧ r.2.mem ((c.tc : Thread Cert.StepSmallReferenceIdeal.nD Cert.StepSmallReferenceIdeal.τ).loc Cert.StepSmallReferenceIdeal.main_arg64) = m' ((c.tc : Thread Cert.StepSmallReferenceIdeal.nD Cert.StepSmallReferenceIdeal.τ).loc Cert.StepSmallReferenceIdeal.main_arg64)
          ∧ r.2.mem ((c.tc : Thread Cert.StepSmallReferenceIdeal.nD Cert.StepSmallReferenceIdeal.τ).loc Cert.StepSmallReferenceIdeal.main_arg65) = m' ((c.tc : Thread Cert.StepSmallReferenceIdeal.nD Cert.StepSmallReferenceIdeal.τ).loc Cert.StepSmallReferenceIdeal.main_arg65)
          ∧ r.2.mem ((c.tc : Thread Cert.StepSmallReferenceIdeal.nD Cert.StepSmallReferenceIdeal.τ).loc Cert.StepSmallReferenceIdeal.main_arg66) = m' ((c.tc : Thread Cert.StepSmallReferenceIdeal.nD Cert.StepSmallReferenceIdeal.τ).loc Cert.StepSmallReferenceIdeal.main_arg66)
          ∧ r.2.mem ((c.tc : Thread Cert.StepSmallReferenceIdeal.nD Cert.StepSmallReferenceIdeal.τ).loc Cert.StepSmallReferenceIdeal.main_arg67) = m' ((c.tc : Thread Cert.StepSmallReferenceIdeal.nD Cert.StepSmallReferenceIdeal.τ).loc Cert.StepSmallReferenceIdeal.main_arg67)
          ∧ r.2.mem ((c.tc : Thread Cert.StepSmallReferenceIdeal.nD Cert.StepSmallReferenceIdeal.τ).loc Cert.StepSmallReferenceIdeal.main_arg68) = m' ((c.tc : Thread Cert.StepSmallReferenceIdeal.nD Cert.StepSmallReferenceIdeal.τ).loc Cert.StepSmallReferenceIdeal.main_arg68)
          ∧ r.2.mem ((c.tc : Thread Cert.StepSmallReferenceIdeal.nD Cert.StepSmallReferenceIdeal.τ).loc Cert.StepSmallReferenceIdeal.main_arg69) = m' ((c.tc : Thread Cert.StepSmallReferenceIdeal.nD Cert.StepSmallReferenceIdeal.τ).loc Cert.StepSmallReferenceIdeal.main_arg69)
          ∧ r.2.mem ((c.tc : Thread Cert.StepSmallReferenceIdeal.nD Cert.StepSmallReferenceIdeal.τ).loc Cert.StepSmallReferenceIdeal.main_arg70) = m' ((c.tc : Thread Cert.StepSmallReferenceIdeal.nD Cert.StepSmallReferenceIdeal.τ).loc Cert.StepSmallReferenceIdeal.main_arg70)
          ∧ r.2.mem ((c.tc : Thread Cert.StepSmallReferenceIdeal.nD Cert.StepSmallReferenceIdeal.τ).loc Cert.StepSmallReferenceIdeal.main_arg71) = m' ((c.tc : Thread Cert.StepSmallReferenceIdeal.nD Cert.StepSmallReferenceIdeal.τ).loc Cert.StepSmallReferenceIdeal.main_arg71)
          ∧ r.2.mem ((c.tc : Thread Cert.StepSmallReferenceIdeal.nD Cert.StepSmallReferenceIdeal.τ).loc Cert.StepSmallReferenceIdeal.main_arg72) = m' ((c.tc : Thread Cert.StepSmallReferenceIdeal.nD Cert.StepSmallReferenceIdeal.τ).loc Cert.StepSmallReferenceIdeal.main_arg72)
          ∧ r.2.mem ((c.tc : Thread Cert.StepSmallReferenceIdeal.nD Cert.StepSmallReferenceIdeal.τ).loc Cert.StepSmallReferenceIdeal.main_arg73) = m' ((c.tc : Thread Cert.StepSmallReferenceIdeal.nD Cert.StepSmallReferenceIdeal.τ).loc Cert.StepSmallReferenceIdeal.main_arg73)
          ∧ r.2.mem ((c.tc : Thread Cert.StepSmallReferenceIdeal.nD Cert.StepSmallReferenceIdeal.τ).loc Cert.StepSmallReferenceIdeal.main_arg74) = m' ((c.tc : Thread Cert.StepSmallReferenceIdeal.nD Cert.StepSmallReferenceIdeal.τ).loc Cert.StepSmallReferenceIdeal.main_arg74)
          ∧ r.2.mem ((c.tc : Thread Cert.StepSmallReferenceIdeal.nD Cert.StepSmallReferenceIdeal.τ).loc Cert.StepSmallReferenceIdeal.main_arg75) = m' ((c.tc : Thread Cert.StepSmallReferenceIdeal.nD Cert.StepSmallReferenceIdeal.τ).loc Cert.StepSmallReferenceIdeal.main_arg75))

def preserves_InOddGradKernel_InOddGradKernelIdeal : Prop :=
  True

def algebraic_InOddGradKernelIdeal_InOddGradReferenceIdeal [hInOddGradKernelIdeal : Cert.InOddGradKernelIdeal.Facts] [hInOddGradReferenceIdeal : Cert.InOddGradReferenceIdeal.Facts] : Prop :=
  ∀ (m : (ℓ : Loc Cert.InOddGradKernelIdeal.nD Cert.InOddGradKernelIdeal.τ Cert.InOddGradKernelIdeal.sig) → Buf (Elt Ideal) ℓ) (g : Dev Cert.InOddGradKernelIdeal.nD → PrngReg)
    (m' : (ℓ : Loc Cert.InOddGradReferenceIdeal.nD Cert.InOddGradReferenceIdeal.τ Cert.InOddGradReferenceIdeal.sig) → Buf (Elt Ideal) ℓ) (g' : Dev Cert.InOddGradReferenceIdeal.nD → PrngReg), Pre_InOddGradKernelIdeal m →
    (∀ c : Dev Cert.InOddGradKernelIdeal.nD,
      m' ((c.tc : Thread Cert.InOddGradReferenceIdeal.nD Cert.InOddGradReferenceIdeal.τ).loc Cert.InOddGradReferenceIdeal.main_arg0) = m ((c.tc : Thread Cert.InOddGradKernelIdeal.nD Cert.InOddGradKernelIdeal.τ).loc Cert.InOddGradKernelIdeal.main_arg0)
      ∧ m' ((c.tc : Thread Cert.InOddGradReferenceIdeal.nD Cert.InOddGradReferenceIdeal.τ).loc Cert.InOddGradReferenceIdeal.main_arg1) = m ((c.tc : Thread Cert.InOddGradKernelIdeal.nD Cert.InOddGradKernelIdeal.τ).loc Cert.InOddGradKernelIdeal.main_arg1)) →
    ∃ (v0 : (c : Dev Cert.InOddGradKernelIdeal.nD) → Buf (Elt Ideal) ((c.tc : Thread Cert.InOddGradKernelIdeal.nD Cert.InOddGradKernelIdeal.τ).loc Cert.InOddGradKernelIdeal.main_v0)),
      θ_run (Cert.InOddGradKernelIdeal.defs (F := Ideal)) (onTc (τ := Cert.InOddGradKernelIdeal.τ) (Cert.InOddGradKernelIdeal.main (F := Ideal))) ⟨m, fun _ => 0, g⟩ (fun r => ∀ c : Dev Cert.InOddGradKernelIdeal.nD,
          r.2.mem ((c.tc : Thread Cert.InOddGradKernelIdeal.nD Cert.InOddGradKernelIdeal.τ).loc Cert.InOddGradKernelIdeal.main_v0) = v0 c
          ∧ r.2.mem ((c.tc : Thread Cert.InOddGradKernelIdeal.nD Cert.InOddGradKernelIdeal.τ).loc Cert.InOddGradKernelIdeal.main_arg0) = m ((c.tc : Thread Cert.InOddGradKernelIdeal.nD Cert.InOddGradKernelIdeal.τ).loc Cert.InOddGradKernelIdeal.main_arg0)
          ∧ r.2.mem ((c.tc : Thread Cert.InOddGradKernelIdeal.nD Cert.InOddGradKernelIdeal.τ).loc Cert.InOddGradKernelIdeal.main_arg1) = m ((c.tc : Thread Cert.InOddGradKernelIdeal.nD Cert.InOddGradKernelIdeal.τ).loc Cert.InOddGradKernelIdeal.main_arg1))
      ∧ θ_run (Cert.InOddGradReferenceIdeal.defs (F := Ideal)) (onTc (τ := Cert.InOddGradReferenceIdeal.τ) (Cert.InOddGradReferenceIdeal.main (F := Ideal))) ⟨m', fun _ => 0, g'⟩ (fun r => ∀ c : Dev Cert.InOddGradReferenceIdeal.nD,
          r.2.mem ((c.tc : Thread Cert.InOddGradReferenceIdeal.nD Cert.InOddGradReferenceIdeal.τ).loc Cert.InOddGradReferenceIdeal.main_v8) = v0 c
          ∧ r.2.mem ((c.tc : Thread Cert.InOddGradReferenceIdeal.nD Cert.InOddGradReferenceIdeal.τ).loc Cert.InOddGradReferenceIdeal.main_arg0) = m' ((c.tc : Thread Cert.InOddGradReferenceIdeal.nD Cert.InOddGradReferenceIdeal.τ).loc Cert.InOddGradReferenceIdeal.main_arg0)
          ∧ r.2.mem ((c.tc : Thread Cert.InOddGradReferenceIdeal.nD Cert.InOddGradReferenceIdeal.τ).loc Cert.InOddGradReferenceIdeal.main_arg1) = m' ((c.tc : Thread Cert.InOddGradReferenceIdeal.nD Cert.InOddGradReferenceIdeal.τ).loc Cert.InOddGradReferenceIdeal.main_arg1))

def preserves_OutOddGradKernel_OutOddGradKernelIdeal : Prop :=
  True

def algebraic_OutOddGradKernelIdeal_OutOddGradReferenceIdeal [hOutOddGradKernelIdeal : Cert.OutOddGradKernelIdeal.Facts] [hOutOddGradReferenceIdeal : Cert.OutOddGradReferenceIdeal.Facts] : Prop :=
  ∀ (m : (ℓ : Loc Cert.OutOddGradKernelIdeal.nD Cert.OutOddGradKernelIdeal.τ Cert.OutOddGradKernelIdeal.sig) → Buf (Elt Ideal) ℓ) (g : Dev Cert.OutOddGradKernelIdeal.nD → PrngReg)
    (m' : (ℓ : Loc Cert.OutOddGradReferenceIdeal.nD Cert.OutOddGradReferenceIdeal.τ Cert.OutOddGradReferenceIdeal.sig) → Buf (Elt Ideal) ℓ) (g' : Dev Cert.OutOddGradReferenceIdeal.nD → PrngReg), Pre_OutOddGradKernelIdeal m →
    (∀ c : Dev Cert.OutOddGradKernelIdeal.nD,
      m' ((c.tc : Thread Cert.OutOddGradReferenceIdeal.nD Cert.OutOddGradReferenceIdeal.τ).loc Cert.OutOddGradReferenceIdeal.main_arg0) = m ((c.tc : Thread Cert.OutOddGradKernelIdeal.nD Cert.OutOddGradKernelIdeal.τ).loc Cert.OutOddGradKernelIdeal.main_arg0)
      ∧ m' ((c.tc : Thread Cert.OutOddGradReferenceIdeal.nD Cert.OutOddGradReferenceIdeal.τ).loc Cert.OutOddGradReferenceIdeal.main_arg1) = m ((c.tc : Thread Cert.OutOddGradKernelIdeal.nD Cert.OutOddGradKernelIdeal.τ).loc Cert.OutOddGradKernelIdeal.main_arg1)) →
    ∃ (v0 : (c : Dev Cert.OutOddGradKernelIdeal.nD) → Buf (Elt Ideal) ((c.tc : Thread Cert.OutOddGradKernelIdeal.nD Cert.OutOddGradKernelIdeal.τ).loc Cert.OutOddGradKernelIdeal.main_v0)),
      θ_run (Cert.OutOddGradKernelIdeal.defs (F := Ideal)) (onTc (τ := Cert.OutOddGradKernelIdeal.τ) (Cert.OutOddGradKernelIdeal.main (F := Ideal))) ⟨m, fun _ => 0, g⟩ (fun r => ∀ c : Dev Cert.OutOddGradKernelIdeal.nD,
          r.2.mem ((c.tc : Thread Cert.OutOddGradKernelIdeal.nD Cert.OutOddGradKernelIdeal.τ).loc Cert.OutOddGradKernelIdeal.main_v0) = v0 c
          ∧ r.2.mem ((c.tc : Thread Cert.OutOddGradKernelIdeal.nD Cert.OutOddGradKernelIdeal.τ).loc Cert.OutOddGradKernelIdeal.main_arg0) = m ((c.tc : Thread Cert.OutOddGradKernelIdeal.nD Cert.OutOddGradKernelIdeal.τ).loc Cert.OutOddGradKernelIdeal.main_arg0)
          ∧ r.2.mem ((c.tc : Thread Cert.OutOddGradKernelIdeal.nD Cert.OutOddGradKernelIdeal.τ).loc Cert.OutOddGradKernelIdeal.main_arg1) = m ((c.tc : Thread Cert.OutOddGradKernelIdeal.nD Cert.OutOddGradKernelIdeal.τ).loc Cert.OutOddGradKernelIdeal.main_arg1))
      ∧ θ_run (Cert.OutOddGradReferenceIdeal.defs (F := Ideal)) (onTc (τ := Cert.OutOddGradReferenceIdeal.τ) (Cert.OutOddGradReferenceIdeal.main (F := Ideal))) ⟨m', fun _ => 0, g'⟩ (fun r => ∀ c : Dev Cert.OutOddGradReferenceIdeal.nD,
          r.2.mem ((c.tc : Thread Cert.OutOddGradReferenceIdeal.nD Cert.OutOddGradReferenceIdeal.τ).loc Cert.OutOddGradReferenceIdeal.main_v5) = v0 c
          ∧ r.2.mem ((c.tc : Thread Cert.OutOddGradReferenceIdeal.nD Cert.OutOddGradReferenceIdeal.τ).loc Cert.OutOddGradReferenceIdeal.main_arg0) = m' ((c.tc : Thread Cert.OutOddGradReferenceIdeal.nD Cert.OutOddGradReferenceIdeal.τ).loc Cert.OutOddGradReferenceIdeal.main_arg0)
          ∧ r.2.mem ((c.tc : Thread Cert.OutOddGradReferenceIdeal.nD Cert.OutOddGradReferenceIdeal.τ).loc Cert.OutOddGradReferenceIdeal.main_arg1) = m' ((c.tc : Thread Cert.OutOddGradReferenceIdeal.nD Cert.OutOddGradReferenceIdeal.τ).loc Cert.OutOddGradReferenceIdeal.main_arg1))

def preserves_InEvenKernel_InEvenKernelIdeal : Prop :=
  True

def algebraic_InEvenKernelIdeal_InEvenReferenceIdeal [hInEvenKernelIdeal : Cert.InEvenKernelIdeal.Facts] [hInEvenReferenceIdeal : Cert.InEvenReferenceIdeal.Facts] : Prop :=
  ∀ (m : (ℓ : Loc Cert.InEvenKernelIdeal.nD Cert.InEvenKernelIdeal.τ Cert.InEvenKernelIdeal.sig) → Buf (Elt Ideal) ℓ) (g : Dev Cert.InEvenKernelIdeal.nD → PrngReg)
    (m' : (ℓ : Loc Cert.InEvenReferenceIdeal.nD Cert.InEvenReferenceIdeal.τ Cert.InEvenReferenceIdeal.sig) → Buf (Elt Ideal) ℓ) (g' : Dev Cert.InEvenReferenceIdeal.nD → PrngReg), Pre_InEvenKernelIdeal m →
    (∀ c : Dev Cert.InEvenKernelIdeal.nD,
      m' ((c.tc : Thread Cert.InEvenReferenceIdeal.nD Cert.InEvenReferenceIdeal.τ).loc Cert.InEvenReferenceIdeal.main_arg0) = m ((c.tc : Thread Cert.InEvenKernelIdeal.nD Cert.InEvenKernelIdeal.τ).loc Cert.InEvenKernelIdeal.main_arg0)
      ∧ m' ((c.tc : Thread Cert.InEvenReferenceIdeal.nD Cert.InEvenReferenceIdeal.τ).loc Cert.InEvenReferenceIdeal.main_arg1) = m ((c.tc : Thread Cert.InEvenKernelIdeal.nD Cert.InEvenKernelIdeal.τ).loc Cert.InEvenKernelIdeal.main_arg1)) →
    ∃ (v0 : (c : Dev Cert.InEvenKernelIdeal.nD) → Buf (Elt Ideal) ((c.tc : Thread Cert.InEvenKernelIdeal.nD Cert.InEvenKernelIdeal.τ).loc Cert.InEvenKernelIdeal.main_v0)),
      θ_run (Cert.InEvenKernelIdeal.defs (F := Ideal)) (onTc (τ := Cert.InEvenKernelIdeal.τ) (Cert.InEvenKernelIdeal.main (F := Ideal))) ⟨m, fun _ => 0, g⟩ (fun r => ∀ c : Dev Cert.InEvenKernelIdeal.nD,
          r.2.mem ((c.tc : Thread Cert.InEvenKernelIdeal.nD Cert.InEvenKernelIdeal.τ).loc Cert.InEvenKernelIdeal.main_v0) = v0 c
          ∧ r.2.mem ((c.tc : Thread Cert.InEvenKernelIdeal.nD Cert.InEvenKernelIdeal.τ).loc Cert.InEvenKernelIdeal.main_arg0) = m ((c.tc : Thread Cert.InEvenKernelIdeal.nD Cert.InEvenKernelIdeal.τ).loc Cert.InEvenKernelIdeal.main_arg0)
          ∧ r.2.mem ((c.tc : Thread Cert.InEvenKernelIdeal.nD Cert.InEvenKernelIdeal.τ).loc Cert.InEvenKernelIdeal.main_arg1) = m ((c.tc : Thread Cert.InEvenKernelIdeal.nD Cert.InEvenKernelIdeal.τ).loc Cert.InEvenKernelIdeal.main_arg1))
      ∧ θ_run (Cert.InEvenReferenceIdeal.defs (F := Ideal)) (onTc (τ := Cert.InEvenReferenceIdeal.τ) (Cert.InEvenReferenceIdeal.main (F := Ideal))) ⟨m', fun _ => 0, g'⟩ (fun r => ∀ c : Dev Cert.InEvenReferenceIdeal.nD,
          r.2.mem ((c.tc : Thread Cert.InEvenReferenceIdeal.nD Cert.InEvenReferenceIdeal.τ).loc Cert.InEvenReferenceIdeal.main_v2) = v0 c
          ∧ r.2.mem ((c.tc : Thread Cert.InEvenReferenceIdeal.nD Cert.InEvenReferenceIdeal.τ).loc Cert.InEvenReferenceIdeal.main_arg0) = m' ((c.tc : Thread Cert.InEvenReferenceIdeal.nD Cert.InEvenReferenceIdeal.τ).loc Cert.InEvenReferenceIdeal.main_arg0)
          ∧ r.2.mem ((c.tc : Thread Cert.InEvenReferenceIdeal.nD Cert.InEvenReferenceIdeal.τ).loc Cert.InEvenReferenceIdeal.main_arg1) = m' ((c.tc : Thread Cert.InEvenReferenceIdeal.nD Cert.InEvenReferenceIdeal.τ).loc Cert.InEvenReferenceIdeal.main_arg1))

def preserves_InEvenBackKernel_InEvenBackKernelIdeal : Prop :=
  True

def algebraic_InEvenBackKernelIdeal_InEvenBackReferenceIdeal [hInEvenBackKernelIdeal : Cert.InEvenBackKernelIdeal.Facts] [hInEvenBackReferenceIdeal : Cert.InEvenBackReferenceIdeal.Facts] : Prop :=
  ∀ (m : (ℓ : Loc Cert.InEvenBackKernelIdeal.nD Cert.InEvenBackKernelIdeal.τ Cert.InEvenBackKernelIdeal.sig) → Buf (Elt Ideal) ℓ) (g : Dev Cert.InEvenBackKernelIdeal.nD → PrngReg)
    (m' : (ℓ : Loc Cert.InEvenBackReferenceIdeal.nD Cert.InEvenBackReferenceIdeal.τ Cert.InEvenBackReferenceIdeal.sig) → Buf (Elt Ideal) ℓ) (g' : Dev Cert.InEvenBackReferenceIdeal.nD → PrngReg), Pre_InEvenBackKernelIdeal m →
    (∀ c : Dev Cert.InEvenBackKernelIdeal.nD,
      m' ((c.tc : Thread Cert.InEvenBackReferenceIdeal.nD Cert.InEvenBackReferenceIdeal.τ).loc Cert.InEvenBackReferenceIdeal.main_arg0) = m ((c.tc : Thread Cert.InEvenBackKernelIdeal.nD Cert.InEvenBackKernelIdeal.τ).loc Cert.InEvenBackKernelIdeal.main_arg0)
      ∧ m' ((c.tc : Thread Cert.InEvenBackReferenceIdeal.nD Cert.InEvenBackReferenceIdeal.τ).loc Cert.InEvenBackReferenceIdeal.main_arg1) = m ((c.tc : Thread Cert.InEvenBackKernelIdeal.nD Cert.InEvenBackKernelIdeal.τ).loc Cert.InEvenBackKernelIdeal.main_arg1)) →
    ∃ (v0 : (c : Dev Cert.InEvenBackKernelIdeal.nD) → Buf (Elt Ideal) ((c.tc : Thread Cert.InEvenBackKernelIdeal.nD Cert.InEvenBackKernelIdeal.τ).loc Cert.InEvenBackKernelIdeal.main_v0)),
      θ_run (Cert.InEvenBackKernelIdeal.defs (F := Ideal)) (onTc (τ := Cert.InEvenBackKernelIdeal.τ) (Cert.InEvenBackKernelIdeal.main (F := Ideal))) ⟨m, fun _ => 0, g⟩ (fun r => ∀ c : Dev Cert.InEvenBackKernelIdeal.nD,
          r.2.mem ((c.tc : Thread Cert.InEvenBackKernelIdeal.nD Cert.InEvenBackKernelIdeal.τ).loc Cert.InEvenBackKernelIdeal.main_v0) = v0 c
          ∧ r.2.mem ((c.tc : Thread Cert.InEvenBackKernelIdeal.nD Cert.InEvenBackKernelIdeal.τ).loc Cert.InEvenBackKernelIdeal.main_arg0) = m ((c.tc : Thread Cert.InEvenBackKernelIdeal.nD Cert.InEvenBackKernelIdeal.τ).loc Cert.InEvenBackKernelIdeal.main_arg0)
          ∧ r.2.mem ((c.tc : Thread Cert.InEvenBackKernelIdeal.nD Cert.InEvenBackKernelIdeal.τ).loc Cert.InEvenBackKernelIdeal.main_arg1) = m ((c.tc : Thread Cert.InEvenBackKernelIdeal.nD Cert.InEvenBackKernelIdeal.τ).loc Cert.InEvenBackKernelIdeal.main_arg1))
      ∧ θ_run (Cert.InEvenBackReferenceIdeal.defs (F := Ideal)) (onTc (τ := Cert.InEvenBackReferenceIdeal.τ) (Cert.InEvenBackReferenceIdeal.main (F := Ideal))) ⟨m', fun _ => 0, g'⟩ (fun r => ∀ c : Dev Cert.InEvenBackReferenceIdeal.nD,
          r.2.mem ((c.tc : Thread Cert.InEvenBackReferenceIdeal.nD Cert.InEvenBackReferenceIdeal.τ).loc Cert.InEvenBackReferenceIdeal.main_v5) = v0 c
          ∧ r.2.mem ((c.tc : Thread Cert.InEvenBackReferenceIdeal.nD Cert.InEvenBackReferenceIdeal.τ).loc Cert.InEvenBackReferenceIdeal.main_arg0) = m' ((c.tc : Thread Cert.InEvenBackReferenceIdeal.nD Cert.InEvenBackReferenceIdeal.τ).loc Cert.InEvenBackReferenceIdeal.main_arg0)
          ∧ r.2.mem ((c.tc : Thread Cert.InEvenBackReferenceIdeal.nD Cert.InEvenBackReferenceIdeal.τ).loc Cert.InEvenBackReferenceIdeal.main_arg1) = m' ((c.tc : Thread Cert.InEvenBackReferenceIdeal.nD Cert.InEvenBackReferenceIdeal.τ).loc Cert.InEvenBackReferenceIdeal.main_arg1))

def preserves_InOddKernel_InOddKernelIdeal : Prop :=
  True

def algebraic_InOddKernelIdeal_InOddReferenceIdeal [hInOddKernelIdeal : Cert.InOddKernelIdeal.Facts] [hInOddReferenceIdeal : Cert.InOddReferenceIdeal.Facts] : Prop :=
  ∀ (m : (ℓ : Loc Cert.InOddKernelIdeal.nD Cert.InOddKernelIdeal.τ Cert.InOddKernelIdeal.sig) → Buf (Elt Ideal) ℓ) (g : Dev Cert.InOddKernelIdeal.nD → PrngReg)
    (m' : (ℓ : Loc Cert.InOddReferenceIdeal.nD Cert.InOddReferenceIdeal.τ Cert.InOddReferenceIdeal.sig) → Buf (Elt Ideal) ℓ) (g' : Dev Cert.InOddReferenceIdeal.nD → PrngReg), Pre_InOddKernelIdeal m →
    (∀ c : Dev Cert.InOddKernelIdeal.nD,
      m' ((c.tc : Thread Cert.InOddReferenceIdeal.nD Cert.InOddReferenceIdeal.τ).loc Cert.InOddReferenceIdeal.main_arg0) = m ((c.tc : Thread Cert.InOddKernelIdeal.nD Cert.InOddKernelIdeal.τ).loc Cert.InOddKernelIdeal.main_arg0)
      ∧ m' ((c.tc : Thread Cert.InOddReferenceIdeal.nD Cert.InOddReferenceIdeal.τ).loc Cert.InOddReferenceIdeal.main_arg1) = m ((c.tc : Thread Cert.InOddKernelIdeal.nD Cert.InOddKernelIdeal.τ).loc Cert.InOddKernelIdeal.main_arg1)) →
    ∃ (v0 : (c : Dev Cert.InOddKernelIdeal.nD) → Buf (Elt Ideal) ((c.tc : Thread Cert.InOddKernelIdeal.nD Cert.InOddKernelIdeal.τ).loc Cert.InOddKernelIdeal.main_v0)),
      θ_run (Cert.InOddKernelIdeal.defs (F := Ideal)) (onTc (τ := Cert.InOddKernelIdeal.τ) (Cert.InOddKernelIdeal.main (F := Ideal))) ⟨m, fun _ => 0, g⟩ (fun r => ∀ c : Dev Cert.InOddKernelIdeal.nD,
          r.2.mem ((c.tc : Thread Cert.InOddKernelIdeal.nD Cert.InOddKernelIdeal.τ).loc Cert.InOddKernelIdeal.main_v0) = v0 c
          ∧ r.2.mem ((c.tc : Thread Cert.InOddKernelIdeal.nD Cert.InOddKernelIdeal.τ).loc Cert.InOddKernelIdeal.main_arg0) = m ((c.tc : Thread Cert.InOddKernelIdeal.nD Cert.InOddKernelIdeal.τ).loc Cert.InOddKernelIdeal.main_arg0)
          ∧ r.2.mem ((c.tc : Thread Cert.InOddKernelIdeal.nD Cert.InOddKernelIdeal.τ).loc Cert.InOddKernelIdeal.main_arg1) = m ((c.tc : Thread Cert.InOddKernelIdeal.nD Cert.InOddKernelIdeal.τ).loc Cert.InOddKernelIdeal.main_arg1))
      ∧ θ_run (Cert.InOddReferenceIdeal.defs (F := Ideal)) (onTc (τ := Cert.InOddReferenceIdeal.τ) (Cert.InOddReferenceIdeal.main (F := Ideal))) ⟨m', fun _ => 0, g'⟩ (fun r => ∀ c : Dev Cert.InOddReferenceIdeal.nD,
          r.2.mem ((c.tc : Thread Cert.InOddReferenceIdeal.nD Cert.InOddReferenceIdeal.τ).loc Cert.InOddReferenceIdeal.main_v2) = v0 c
          ∧ r.2.mem ((c.tc : Thread Cert.InOddReferenceIdeal.nD Cert.InOddReferenceIdeal.τ).loc Cert.InOddReferenceIdeal.main_arg0) = m' ((c.tc : Thread Cert.InOddReferenceIdeal.nD Cert.InOddReferenceIdeal.τ).loc Cert.InOddReferenceIdeal.main_arg0)
          ∧ r.2.mem ((c.tc : Thread Cert.InOddReferenceIdeal.nD Cert.InOddReferenceIdeal.τ).loc Cert.InOddReferenceIdeal.main_arg1) = m' ((c.tc : Thread Cert.InOddReferenceIdeal.nD Cert.InOddReferenceIdeal.τ).loc Cert.InOddReferenceIdeal.main_arg1))

def preserves_InOddBackKernel_InOddBackKernelIdeal : Prop :=
  True

def algebraic_InOddBackKernelIdeal_InOddBackReferenceIdeal [hInOddBackKernelIdeal : Cert.InOddBackKernelIdeal.Facts] [hInOddBackReferenceIdeal : Cert.InOddBackReferenceIdeal.Facts] : Prop :=
  ∀ (m : (ℓ : Loc Cert.InOddBackKernelIdeal.nD Cert.InOddBackKernelIdeal.τ Cert.InOddBackKernelIdeal.sig) → Buf (Elt Ideal) ℓ) (g : Dev Cert.InOddBackKernelIdeal.nD → PrngReg)
    (m' : (ℓ : Loc Cert.InOddBackReferenceIdeal.nD Cert.InOddBackReferenceIdeal.τ Cert.InOddBackReferenceIdeal.sig) → Buf (Elt Ideal) ℓ) (g' : Dev Cert.InOddBackReferenceIdeal.nD → PrngReg), Pre_InOddBackKernelIdeal m →
    (∀ c : Dev Cert.InOddBackKernelIdeal.nD,
      m' ((c.tc : Thread Cert.InOddBackReferenceIdeal.nD Cert.InOddBackReferenceIdeal.τ).loc Cert.InOddBackReferenceIdeal.main_arg0) = m ((c.tc : Thread Cert.InOddBackKernelIdeal.nD Cert.InOddBackKernelIdeal.τ).loc Cert.InOddBackKernelIdeal.main_arg0)
      ∧ m' ((c.tc : Thread Cert.InOddBackReferenceIdeal.nD Cert.InOddBackReferenceIdeal.τ).loc Cert.InOddBackReferenceIdeal.main_arg1) = m ((c.tc : Thread Cert.InOddBackKernelIdeal.nD Cert.InOddBackKernelIdeal.τ).loc Cert.InOddBackKernelIdeal.main_arg1)) →
    ∃ (v0 : (c : Dev Cert.InOddBackKernelIdeal.nD) → Buf (Elt Ideal) ((c.tc : Thread Cert.InOddBackKernelIdeal.nD Cert.InOddBackKernelIdeal.τ).loc Cert.InOddBackKernelIdeal.main_v0)),
      θ_run (Cert.InOddBackKernelIdeal.defs (F := Ideal)) (onTc (τ := Cert.InOddBackKernelIdeal.τ) (Cert.InOddBackKernelIdeal.main (F := Ideal))) ⟨m, fun _ => 0, g⟩ (fun r => ∀ c : Dev Cert.InOddBackKernelIdeal.nD,
          r.2.mem ((c.tc : Thread Cert.InOddBackKernelIdeal.nD Cert.InOddBackKernelIdeal.τ).loc Cert.InOddBackKernelIdeal.main_v0) = v0 c
          ∧ r.2.mem ((c.tc : Thread Cert.InOddBackKernelIdeal.nD Cert.InOddBackKernelIdeal.τ).loc Cert.InOddBackKernelIdeal.main_arg0) = m ((c.tc : Thread Cert.InOddBackKernelIdeal.nD Cert.InOddBackKernelIdeal.τ).loc Cert.InOddBackKernelIdeal.main_arg0)
          ∧ r.2.mem ((c.tc : Thread Cert.InOddBackKernelIdeal.nD Cert.InOddBackKernelIdeal.τ).loc Cert.InOddBackKernelIdeal.main_arg1) = m ((c.tc : Thread Cert.InOddBackKernelIdeal.nD Cert.InOddBackKernelIdeal.τ).loc Cert.InOddBackKernelIdeal.main_arg1))
      ∧ θ_run (Cert.InOddBackReferenceIdeal.defs (F := Ideal)) (onTc (τ := Cert.InOddBackReferenceIdeal.τ) (Cert.InOddBackReferenceIdeal.main (F := Ideal))) ⟨m', fun _ => 0, g'⟩ (fun r => ∀ c : Dev Cert.InOddBackReferenceIdeal.nD,
          r.2.mem ((c.tc : Thread Cert.InOddBackReferenceIdeal.nD Cert.InOddBackReferenceIdeal.τ).loc Cert.InOddBackReferenceIdeal.main_v5) = v0 c
          ∧ r.2.mem ((c.tc : Thread Cert.InOddBackReferenceIdeal.nD Cert.InOddBackReferenceIdeal.τ).loc Cert.InOddBackReferenceIdeal.main_arg0) = m' ((c.tc : Thread Cert.InOddBackReferenceIdeal.nD Cert.InOddBackReferenceIdeal.τ).loc Cert.InOddBackReferenceIdeal.main_arg0)
          ∧ r.2.mem ((c.tc : Thread Cert.InOddBackReferenceIdeal.nD Cert.InOddBackReferenceIdeal.τ).loc Cert.InOddBackReferenceIdeal.main_arg1) = m' ((c.tc : Thread Cert.InOddBackReferenceIdeal.nD Cert.InOddBackReferenceIdeal.τ).loc Cert.InOddBackReferenceIdeal.main_arg1))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hDownGradKernel : Cert.DownGradKernel.Facts) (hDownGradKernelIdeal : Cert.DownGradKernelIdeal.Facts) (hDownGradReferenceIdeal : Cert.DownGradReferenceIdeal.Facts) (hUpGradKernel : Cert.UpGradKernel.Facts) (hUpGradKernelIdeal : Cert.UpGradKernelIdeal.Facts) (hUpGradReferenceIdeal : Cert.UpGradReferenceIdeal.Facts) (hInGradKernel : Cert.InGradKernel.Facts) (hInGradKernelIdeal : Cert.InGradKernelIdeal.Facts) (hInGradReferenceIdeal : Cert.InGradReferenceIdeal.Facts) (hStepInEvenKernel : Cert.StepInEvenKernel.Facts) (hStepInEvenKernelIdeal : Cert.StepInEvenKernelIdeal.Facts) (hStepInEvenReferenceIdeal : Cert.StepInEvenReferenceIdeal.Facts) (hStepOutKernel : Cert.StepOutKernel.Facts) (hStepOutKernelIdeal : Cert.StepOutKernelIdeal.Facts) (hStepOutReferenceIdeal : Cert.StepOutReferenceIdeal.Facts) (hStepInOddKernel : Cert.StepInOddKernel.Facts) (hStepInOddKernelIdeal : Cert.StepInOddKernelIdeal.Facts) (hStepInOddReferenceIdeal : Cert.StepInOddReferenceIdeal.Facts) (hStepUpKernel : Cert.StepUpKernel.Facts) (hStepUpKernelIdeal : Cert.StepUpKernelIdeal.Facts) (hStepUpReferenceIdeal : Cert.StepUpReferenceIdeal.Facts) (hStepDownKernel : Cert.StepDownKernel.Facts) (hStepDownKernelIdeal : Cert.StepDownKernelIdeal.Facts) (hStepDownReferenceIdeal : Cert.StepDownReferenceIdeal.Facts) (hStepSmallKernel : Cert.StepSmallKernel.Facts) (hStepSmallKernelIdeal : Cert.StepSmallKernelIdeal.Facts) (hStepSmallReferenceIdeal : Cert.StepSmallReferenceIdeal.Facts) (hInOddGradKernel : Cert.InOddGradKernel.Facts) (hInOddGradKernelIdeal : Cert.InOddGradKernelIdeal.Facts) (hInOddGradReferenceIdeal : Cert.InOddGradReferenceIdeal.Facts) (hOutOddGradKernel : Cert.OutOddGradKernel.Facts) (hOutOddGradKernelIdeal : Cert.OutOddGradKernelIdeal.Facts) (hOutOddGradReferenceIdeal : Cert.OutOddGradReferenceIdeal.Facts) (hInEvenKernel : Cert.InEvenKernel.Facts) (hInEvenKernelIdeal : Cert.InEvenKernelIdeal.Facts) (hInEvenReferenceIdeal : Cert.InEvenReferenceIdeal.Facts) (hInEvenBackKernel : Cert.InEvenBackKernel.Facts) (hInEvenBackKernelIdeal : Cert.InEvenBackKernelIdeal.Facts) (hInEvenBackReferenceIdeal : Cert.InEvenBackReferenceIdeal.Facts) (hInOddKernel : Cert.InOddKernel.Facts) (hInOddKernelIdeal : Cert.InOddKernelIdeal.Facts) (hInOddReferenceIdeal : Cert.InOddReferenceIdeal.Facts) (hInOddBackKernel : Cert.InOddBackKernel.Facts) (hInOddBackKernelIdeal : Cert.InOddBackKernelIdeal.Facts) (hInOddBackReferenceIdeal : Cert.InOddBackReferenceIdeal.Facts) (hPre_finite : Cert.Pre_finite.Facts) (hPre_all_finite : Cert.Pre_all_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnKernel (hFfnKernel := hFfnKernel)
    ∧ quiescent_FfnKernelIdeal (hFfnKernelIdeal := hFfnKernelIdeal)
    ∧ quiescent_FfnKernelIdeal_pre_all_finite (hFfnKernelIdeal := hFfnKernelIdeal) (hPre_all_finite := hPre_all_finite)
    ∧ quiescent_FfnReferenceIdeal (hFfnReferenceIdeal := hFfnReferenceIdeal)
    ∧ quiescent_FfnReferenceIdeal_pre_all_finite (hFfnReferenceIdeal := hFfnReferenceIdeal) (hPre_all_finite := hPre_all_finite)
    ∧ quiescent_DownGradKernel (hDownGradKernel := hDownGradKernel)
    ∧ quiescent_DownGradKernelIdeal (hDownGradKernelIdeal := hDownGradKernelIdeal)
    ∧ quiescent_DownGradReferenceIdeal (hDownGradReferenceIdeal := hDownGradReferenceIdeal)
    ∧ quiescent_UpGradKernel (hUpGradKernel := hUpGradKernel)
    ∧ quiescent_UpGradKernelIdeal (hUpGradKernelIdeal := hUpGradKernelIdeal)
    ∧ quiescent_UpGradReferenceIdeal (hUpGradReferenceIdeal := hUpGradReferenceIdeal)
    ∧ quiescent_InGradKernel (hInGradKernel := hInGradKernel)
    ∧ quiescent_InGradKernelIdeal (hInGradKernelIdeal := hInGradKernelIdeal)
    ∧ quiescent_InGradReferenceIdeal (hInGradReferenceIdeal := hInGradReferenceIdeal)
    ∧ quiescent_StepInEvenKernel (hStepInEvenKernel := hStepInEvenKernel)
    ∧ quiescent_StepInEvenKernelIdeal (hStepInEvenKernelIdeal := hStepInEvenKernelIdeal)
    ∧ quiescent_StepInEvenReferenceIdeal (hStepInEvenReferenceIdeal := hStepInEvenReferenceIdeal)
    ∧ quiescent_StepOutKernel (hStepOutKernel := hStepOutKernel)
    ∧ quiescent_StepOutKernelIdeal (hStepOutKernelIdeal := hStepOutKernelIdeal)
    ∧ quiescent_StepOutReferenceIdeal (hStepOutReferenceIdeal := hStepOutReferenceIdeal)
    ∧ quiescent_StepInOddKernel (hStepInOddKernel := hStepInOddKernel)
    ∧ quiescent_StepInOddKernelIdeal (hStepInOddKernelIdeal := hStepInOddKernelIdeal)
    ∧ quiescent_StepInOddReferenceIdeal (hStepInOddReferenceIdeal := hStepInOddReferenceIdeal)
    ∧ quiescent_StepUpKernel (hStepUpKernel := hStepUpKernel)
    ∧ quiescent_StepUpKernelIdeal (hStepUpKernelIdeal := hStepUpKernelIdeal)
    ∧ quiescent_StepUpReferenceIdeal (hStepUpReferenceIdeal := hStepUpReferenceIdeal)
    ∧ quiescent_StepDownKernel (hStepDownKernel := hStepDownKernel)
    ∧ quiescent_StepDownKernelIdeal (hStepDownKernelIdeal := hStepDownKernelIdeal)
    ∧ quiescent_StepDownReferenceIdeal (hStepDownReferenceIdeal := hStepDownReferenceIdeal)
    ∧ quiescent_StepSmallKernel (hStepSmallKernel := hStepSmallKernel)
    ∧ quiescent_StepSmallKernelIdeal (hStepSmallKernelIdeal := hStepSmallKernelIdeal)
    ∧ quiescent_StepSmallReferenceIdeal (hStepSmallReferenceIdeal := hStepSmallReferenceIdeal)
    ∧ quiescent_InOddGradKernel (hInOddGradKernel := hInOddGradKernel)
    ∧ quiescent_InOddGradKernelIdeal (hInOddGradKernelIdeal := hInOddGradKernelIdeal)
    ∧ quiescent_InOddGradReferenceIdeal (hInOddGradReferenceIdeal := hInOddGradReferenceIdeal)
    ∧ quiescent_OutOddGradKernel (hOutOddGradKernel := hOutOddGradKernel)
    ∧ quiescent_OutOddGradKernelIdeal (hOutOddGradKernelIdeal := hOutOddGradKernelIdeal)
    ∧ quiescent_OutOddGradReferenceIdeal (hOutOddGradReferenceIdeal := hOutOddGradReferenceIdeal)
    ∧ quiescent_InEvenKernel (hInEvenKernel := hInEvenKernel)
    ∧ quiescent_InEvenKernelIdeal (hInEvenKernelIdeal := hInEvenKernelIdeal)
    ∧ quiescent_InEvenReferenceIdeal (hInEvenReferenceIdeal := hInEvenReferenceIdeal)
    ∧ quiescent_InEvenBackKernel (hInEvenBackKernel := hInEvenBackKernel)
    ∧ quiescent_InEvenBackKernelIdeal (hInEvenBackKernelIdeal := hInEvenBackKernelIdeal)
    ∧ quiescent_InEvenBackReferenceIdeal (hInEvenBackReferenceIdeal := hInEvenBackReferenceIdeal)
    ∧ quiescent_InOddKernel (hInOddKernel := hInOddKernel)
    ∧ quiescent_InOddKernelIdeal (hInOddKernelIdeal := hInOddKernelIdeal)
    ∧ quiescent_InOddReferenceIdeal (hInOddReferenceIdeal := hInOddReferenceIdeal)
    ∧ quiescent_InOddBackKernel (hInOddBackKernel := hInOddBackKernel)
    ∧ quiescent_InOddBackKernelIdeal (hInOddBackKernelIdeal := hInOddBackKernelIdeal)
    ∧ quiescent_InOddBackReferenceIdeal (hInOddBackReferenceIdeal := hInOddBackReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnKernel_FfnKernelIdeal
    ∧ algebraic_FfnKernelIdeal_FfnReferenceIdeal_pre_all_finite (hFfnKernelIdeal := hFfnKernelIdeal) (hFfnReferenceIdeal := hFfnReferenceIdeal) (hPre_all_finite := hPre_all_finite)
    ∧ preserves_DownGradKernel_DownGradKernelIdeal
    ∧ algebraic_DownGradKernelIdeal_DownGradReferenceIdeal (hDownGradKernelIdeal := hDownGradKernelIdeal) (hDownGradReferenceIdeal := hDownGradReferenceIdeal)
    ∧ preserves_UpGradKernel_UpGradKernelIdeal
    ∧ algebraic_UpGradKernelIdeal_UpGradReferenceIdeal (hUpGradKernelIdeal := hUpGradKernelIdeal) (hUpGradReferenceIdeal := hUpGradReferenceIdeal)
    ∧ preserves_InGradKernel_InGradKernelIdeal
    ∧ algebraic_InGradKernelIdeal_InGradReferenceIdeal (hInGradKernelIdeal := hInGradKernelIdeal) (hInGradReferenceIdeal := hInGradReferenceIdeal)
    ∧ preserves_StepInEvenKernel_StepInEvenKernelIdeal
    ∧ algebraic_StepInEvenKernelIdeal_StepInEvenReferenceIdeal (hStepInEvenKernelIdeal := hStepInEvenKernelIdeal) (hStepInEvenReferenceIdeal := hStepInEvenReferenceIdeal)
    ∧ preserves_StepOutKernel_StepOutKernelIdeal
    ∧ algebraic_StepOutKernelIdeal_StepOutReferenceIdeal (hStepOutKernelIdeal := hStepOutKernelIdeal) (hStepOutReferenceIdeal := hStepOutReferenceIdeal)
    ∧ preserves_StepInOddKernel_StepInOddKernelIdeal
    ∧ algebraic_StepInOddKernelIdeal_StepInOddReferenceIdeal (hStepInOddKernelIdeal := hStepInOddKernelIdeal) (hStepInOddReferenceIdeal := hStepInOddReferenceIdeal)
    ∧ preserves_StepUpKernel_StepUpKernelIdeal
    ∧ algebraic_StepUpKernelIdeal_StepUpReferenceIdeal (hStepUpKernelIdeal := hStepUpKernelIdeal) (hStepUpReferenceIdeal := hStepUpReferenceIdeal)
    ∧ preserves_StepDownKernel_StepDownKernelIdeal
    ∧ algebraic_StepDownKernelIdeal_StepDownReferenceIdeal (hStepDownKernelIdeal := hStepDownKernelIdeal) (hStepDownReferenceIdeal := hStepDownReferenceIdeal)
    ∧ preserves_StepSmallKernel_StepSmallKernelIdeal
    ∧ algebraic_StepSmallKernelIdeal_StepSmallReferenceIdeal (hStepSmallKernelIdeal := hStepSmallKernelIdeal) (hStepSmallReferenceIdeal := hStepSmallReferenceIdeal)
    ∧ preserves_InOddGradKernel_InOddGradKernelIdeal
    ∧ algebraic_InOddGradKernelIdeal_InOddGradReferenceIdeal (hInOddGradKernelIdeal := hInOddGradKernelIdeal) (hInOddGradReferenceIdeal := hInOddGradReferenceIdeal)
    ∧ preserves_OutOddGradKernel_OutOddGradKernelIdeal
    ∧ algebraic_OutOddGradKernelIdeal_OutOddGradReferenceIdeal (hOutOddGradKernelIdeal := hOutOddGradKernelIdeal) (hOutOddGradReferenceIdeal := hOutOddGradReferenceIdeal)
    ∧ preserves_InEvenKernel_InEvenKernelIdeal
    ∧ algebraic_InEvenKernelIdeal_InEvenReferenceIdeal (hInEvenKernelIdeal := hInEvenKernelIdeal) (hInEvenReferenceIdeal := hInEvenReferenceIdeal)
    ∧ preserves_InEvenBackKernel_InEvenBackKernelIdeal
    ∧ algebraic_InEvenBackKernelIdeal_InEvenBackReferenceIdeal (hInEvenBackKernelIdeal := hInEvenBackKernelIdeal) (hInEvenBackReferenceIdeal := hInEvenBackReferenceIdeal)
    ∧ preserves_InOddKernel_InOddKernelIdeal
    ∧ algebraic_InOddKernelIdeal_InOddReferenceIdeal (hInOddKernelIdeal := hInOddKernelIdeal) (hInOddReferenceIdeal := hInOddReferenceIdeal)
    ∧ preserves_InOddBackKernel_InOddBackKernelIdeal
    ∧ algebraic_InOddBackKernelIdeal_InOddBackReferenceIdeal (hInOddBackKernelIdeal := hInOddBackKernelIdeal) (hInOddBackReferenceIdeal := hInOddBackReferenceIdeal)
-- ==== Pre_all_finite.lean ====
abbrev S8192x1024 : Shape := ⟨2, ![8192, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S3x2816 : S_.BroadcastsInDim S3x2816 (![] : Fin 0 → Fin S3x2816.rank)
  reducesTo_S3x2816_S_d0_1 : S3x2816.ReducesTo [0, 1] S_
  bcast_S_S2816 : S_.BroadcastsInDim S2816 (![] : Fin 0 → Fin S2816.rank)
  reducesTo_S2816_S_d0 : S2816.ReducesTo [0] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816 .f32) (main_arg5 : FVec F S2816x1024 .f32) (main_arg6 : FVec F S8192x1024 .f32) (main_v3 : IVec S_ 1) (main_v7 : IVec S_ 1) (main_v11 : IVec S_ 1) (main_v15 : IVec S_ 1) : IVec S_ 1 :=
  let main_v16 : FVec F S2816 .f32 := Host.absf main_arg4
  let main_cst_6 : FVec F S_ .f32 := constant S_ .f32 0x7F800000#32
  let main_v17 : FVec F S2816 .f32 := broadcastInDim S2816 ![] bcast_S_S2816 main_cst_6
  let main_v18 : IVec S2816 1 := cmpf .olt main_v16 main_v17
  let main_c_7 : IVec S_ 1 := constantI S_ 1 1#1
  let main_v19 : IVec S_ 1 := (fun x v => Host.reduce IntOp.andi x v reducesTo_S2816_S_d0 h_S_) main_v18 main_c_7
  let main_v20 : FVec F S2816x1024 .f32 := Host.absf main_arg5
  let main_cst_8 : FVec F S_ .f32 := constant S_ .f32 0x7F800000#32
  let main_v21 : FVec F S2816x1024 .f32 := broadcastInDim S2816x1024 ![] bcast_S_S2816x1024 main_cst_8
  let main_v22 : IVec S2816x1024 1 := cmpf .olt main_v20 main_v21
  let main_c_9 : IVec S_ 1 := constantI S_ 1 1#1
  let main_v23 : IVec S_ 1 := (fun x v => Host.reduce IntOp.andi x v reducesTo_S2816x1024_S_d0_1 h_S_) main_v22 main_c_9
  let main_v24 : FVec F S8192x1024 .f32 := Host.absf main_arg6
  let main_cst_10 : FVec F S_ .f32 := constant S_ .f32 0x7F800000#32
  let main_v25 : FVec F S8192x1024 .f32 := broadcastInDim S8192x1024 ![] bcast_S_S8192x1024 main_cst_10
  let main_v26 : IVec S8192x1024 1 := cmpf .olt main_v24 main_v25
  let main_c_11 : IVec S_ 1 := constantI S_ 1 1#1
  let main_v27 : IVec S_ 1 := (fun x v => Host.reduce IntOp.andi x v reducesTo_S8192x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8192x1024 .f32) (main_arg1 : FVec F S1024 .f32) (main_arg2 : FVec F S1024x5632 .f32) (main_arg3 : FVec F S3x2816 .f32) (main_arg4 : FVec F S2816 .f32) (main_arg5 : FVec F S2816x1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x5632 .f32 := Host.absf main_arg2
  let main_cst_2 : FVec F S_ .f32 := constant S_ .f32 0x7F800000#32
  let main_v9 : FVec F S1024x5632 .f32 := broadcastInDim S1024x5632 ![] bcast_S_S1024x5632 main_cst_2
  let main_v10 : IVec S1024x5632 1 := cmpf .olt main_v8 main_v9
  let main_c_3 : IVec S_ 1 := constantI S_ 1 1#1
  let main_v11 : IVec S_ 1 := (fun x v => Host.reduce IntOp.andi x v reducesTo_S1024x5632_S_d0_1 h_S_) main_v10 main_c_3
  let main_v12 : FVec F S3x2816 .f32 := Host.absf main_arg3
  let main_cst_4 : FVec F S_ .f32 := constant S_ .f32 0x7F800000#32
  let main_v13 : FVec F S3x2816 .f32 := broadcastInDim S3x2816 ![] bcast_S_S3x2816 main_cst_4
  let main_v14 : IVec S3x2816 1 := cmpf .olt main_v12 main_v13
  let main_c_5 : IVec S_ 1 := constantI S_ 1 1#1
  let main_v15 : IVec S_ 1 := (fun x v => Host.reduce IntOp.andi x v reducesTo_S3x2816_S_d0_1 h_S_) main_v14 main_c_5
  fn_part1 (F := F) main_arg4 main_arg5 main_arg6 main_v3 main_v7 main_v11 main_v15
-- ==== Pre_finite.lean ====
abbrev S8192x8x96 : Shape := ⟨3, ![8192, 8, 96]⟩
abbrev S8192x8x64 : Shape := ⟨3, ![8192, 8, 64]⟩
abbrev S_ : Shape := ⟨0, ![]⟩

class Facts : Prop where
  bcast_S_S8192x8x96 : S_.BroadcastsInDim S8192x8x96 (![] : Fin 0 → Fin S8192x8x96.rank)
  reducesTo_S8192x8x96_S_d0_1_2 : S8192x8x96.ReducesTo [0, 1, 2] S_
  h_S_ : 0 < S_.numel
  bcast_S_S8192x8x64 : S_.BroadcastsInDim S8192x8x64 (![] : Fin 0 → Fin S8192x8x64.rank)
  reducesTo_S8192x8x64_S_d0_1_2 : S8192x8x64.ReducesTo [0, 1, 2] S_

variable [Facts]

def fn_part1 {F : FTy → Type} [FloatOps F] (main_v13 : IVec S_ 1) (main_v16 : IVec S8192x8x64 1) : IVec S_ 1 :=
  let main_c_5 : IVec S_ 1 := constantI S_ 1 1#1
  let main_v17 : IVec S_ 1 := (fun x v => Host.reduce IntOp.andi x v reducesTo_S8192x8x64_S_d0_1_2 h_S_) main_v16 main_c_5
  let main_v18 : IVec S_ 1 := andi main_v13 main_v17
  main_v18

def fn {F : FTy → Type} [FloatOps F] (main_arg0 : FVec F S8192x8x96 .f32) (main_arg1 : FVec F S8192x8x96 .f32) (main_arg2 : FVec F S8192x8x64 .f32) (main_arg3 : FVec F S8192x8x64 .f32) : IVec S_ 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_c : IVec S_ 1 := constantI S_ 1 1#1
  let main_v3 : IVec S_ 1 := (fun x v => Host.reduce IntOp.andi x v reducesTo_S8192x8x96_S_d0_1_2 h_S_) main_v2 main_c
  let main_v4 : FVec F S8192x8x96 .f32 := Host.absf main_arg1
  let main_cst_0 : FVec F S_ .f32 := constant S_ .f32 0x7F800000#32
  let main_v5 : FVec F S8192x8x96 .f32 := broadcastInDim S8192x8x96 ![] bcast_S_S8192x8x96 main_cst_0
  let main_v6 : IVec S8192x8x96 1 := cmpf .olt main_v4 main_v5
  let main_c_1 : IVec S_ 1 := constantI S_ 1 1#1
  let main_v7 : IVec S_ 1 := (fun x v => Host.reduce IntOp.andi x v reducesTo_S8192x8x96_S_d0_1_2 h_S_) main_v6 main_c_1
  let main_v8 : IVec S_ 1 := andi main_v3 main_v7
  let main_v9 : FVec F S8192x8x64 .f32 := Host.absf main_arg2
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_c_3 : IVec S_ 1 := constantI S_ 1 1#1
  let main_v12 : IVec S_ 1 := (fun x v => Host.reduce IntOp.andi x v reducesTo_S8192x8x64_S_d0_1_2 h_S_) main_v11 main_c_3
  let main_v13 : IVec S_ 1 := andi main_v8 main_v12
  let main_v14 : FVec F S8192x8x64 .f32 := Host.absf main_arg3
  let main_cst_4 : FVec F S_ .f32 := constant S_ .f32 0x7F800000#32
  let main_v15 : FVec F S8192x8x64 .f32 := broadcastInDim S8192x8x64 ![] bcast_S_S8192x8x64 main_cst_4
  let main_v16 : IVec S8192x8x64 1 := cmpf .olt main_v14 main_v15
  fn_part1 (F := F) main_v13 main_v16
-- ==== Kernel.lean ====
abbrev S8192x8x96 : Shape := ⟨3, ![8192, 8, 96]⟩
abbrev S8192x8x64 : Shape := ⟨3, ![8192, 8, 64]⟩
abbrev S_ : Shape := ⟨0, ![]⟩
abbrev S8192x8x128 : Shape := ⟨3, ![8192, 8, 128]⟩
abbrev S8192x1024 : Shape := ⟨2, ![8192, 1024]⟩
abbrev S8x8192x1 : Shape := ⟨3, ![8, 8192, 1]⟩
abbrev S512x128 : Shape := ⟨2, ![512, 128]⟩
abbrev S8192x128 : Shape := ⟨2, ![8192, 128]⟩
abbrev S1x512x1 : Shape := ⟨3, ![1, 512, 1]⟩
abbrev S512x1 : Shape := ⟨2, ![512, 1]⟩
abbrev S512x8192 : Shape := ⟨2, ![512, 8192]⟩
abbrev S512 : Shape := ⟨1, ![512]⟩
abbrev S4096x128 : Shape := ⟨2, ![4096, 128]⟩
abbrev S512x4096 : Shape := ⟨2, ![512, 4096]⟩

abbrev nBuf : Space → Nat
  | .hbm => 45
  | .vmem => 31
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S_, .f32⟩
  | .hbm, ⟨5, _⟩ => ⟨S_, .f32⟩
  | .hbm, ⟨6, _⟩ => ⟨S_, .i32⟩
  | .hbm, ⟨7, _⟩ => ⟨S_, .f32⟩
  | .hbm, ⟨8, _⟩ => ⟨S8192x8x128, .f32⟩
  | .hbm, ⟨9, _⟩ => ⟨S8192x1024, .f32⟩
  | .hbm, ⟨10, _⟩ => ⟨S_, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .bf16⟩
  | .hbm, ⟨15, _⟩ => ⟨S_, .i32⟩
  | .hbm, ⟨16, _⟩ => ⟨S_, .f32⟩
  | .hbm, ⟨17, _⟩ => ⟨S8192x8x128, .f32⟩
  | .hbm, ⟨18, _⟩ => ⟨S8192x1024, .f32⟩
  | .hbm, ⟨19, _⟩ => ⟨S8192x1024, .bf16⟩
  | .hbm, ⟨20, _⟩ => ⟨S_, .i32⟩
  | .hbm, ⟨21, _⟩ => ⟨S_, .f32⟩
  | .hbm, ⟨22, _⟩ => ⟨S8192x8x128, .f32⟩
  | .hbm, ⟨23, _⟩ => ⟨S8192x1024, .f32⟩
  | .hbm, ⟨24, _⟩ => ⟨S8192x1024, .bf16⟩
  | .hbm, ⟨25, _⟩ => ⟨S8192x1024, .f32⟩
  | .hbm, ⟨26, _⟩ => ⟨S8x8192x1, .f32⟩
  | .hbm, ⟨27, _⟩ => ⟨S_, .i32⟩
  | .hbm, ⟨28, _⟩ => ⟨S_, .f32⟩
  | .hbm, ⟨29, _⟩ => ⟨S8192x8x128, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x8x128, .f32⟩
  | .hbm, ⟨38, _⟩ => ⟨S8192x8x96, .f32⟩
  | .hbm, ⟨39, _⟩ => ⟨S8192x1024, .f32⟩
  | .hbm, ⟨40, _⟩ => ⟨S8192x1024, .f32⟩
  | .hbm, ⟨41, _⟩ => ⟨S8192x8x128, .f32⟩
  | .hbm, ⟨42, _⟩ => ⟨S8192x8x96, .f32⟩
  | .hbm, ⟨43, _⟩ => ⟨S8192x8x128, .f32⟩
  | .hbm, ⟨44, _⟩ => ⟨S8192x8x64, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x128, .f32⟩
  | .local _ .vmem, ⟨7, _⟩ => ⟨S512x128, .f32⟩
  | .local _ .vmem, ⟨8, _⟩ => ⟨S1x512x1, .f32⟩
  | .local _ .vmem, ⟨9, _⟩ => ⟨S1x512x1, .f32⟩
  | .local _ .vmem, ⟨10, _⟩ => ⟨S512x1, .f32⟩
  | .local _ .vmem, ⟨11, _⟩ => ⟨S512x1, .f32⟩
  | .local _ .vmem, ⟨12, _⟩ => ⟨S512x128, .f32⟩
  | .local _ .vmem, ⟨13, _⟩ => ⟨S512x128, .bf16⟩
  | .local _ .vmem, ⟨14, _⟩ => ⟨S512x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .bf16⟩
  | .local _ .vmem, ⟨19, _⟩ => ⟨S512x128, .f32⟩
  | .local _ .vmem, ⟨20, _⟩ => ⟨S512x128, .f32⟩
  | .local _ .vmem, ⟨21, _⟩ => ⟨S1x512x1, .f32⟩
  | .local _ .vmem, ⟨22, _⟩ => ⟨S1x512x1, .f32⟩
  | .local _ .vmem, ⟨23, _⟩ => ⟨S512x128, .f32⟩
  | .local _ .vmem, ⟨24, _⟩ => ⟨S512x128, .f32⟩
  | .local _ .vmem, ⟨25, _⟩ => ⟨S8192x128, .f32⟩
  | .local _ .vmem, ⟨26, _⟩ => ⟨S8192x128, .f32⟩
  | .local _ .vmem, ⟨27, _⟩ => ⟨S4096x128, .f32⟩
  | .local _ .vmem, ⟨28, _⟩ => ⟨S4096x128, .f32⟩
  | .local _ .vmem, ⟨29, _⟩ => ⟨S4096x128, .f32⟩
  | .local _ .vmem, ⟨30, _⟩ => ⟨S4096x128, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_call2_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_c_3 : Ref sig .tc := ⟨.hbm, 27, rfl⟩
abbrev main_call3_v0 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v16_2 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨3, ![8, 16, 1], ![false, false, false]⟩

def k0_cond2 (i : grid0.Coords) : BitVec 1 :=
  let arg2 : BitVec 32 := BitVec.ofNat 32 (i 2).val
  let c0_i32_21 : BitVec 32 := 0#32
  let v39 : BitVec 1 := Scalar.cmpi .eq arg2 c0_i32_21
  let v40 : BitVec 32 := Scalar.extui v39
  let c0_i32_22 : BitVec 32 := 0#32
  let v41 : BitVec 1 := Scalar.cmpi .ne v40 c0_i32_22
  v41

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![8, 2, 16], ![false, false, false]⟩

def k1_mult1 (i : grid1.Coords) : BitVec 32 :=
  let arg2 : BitVec 32 := BitVec.ofNat 32 (i 2).val
  let c512_i32 : BitVec 32 := 512#32
  let v42 : BitVec 32 := Scalar.muli arg2 c512_i32
  v42
def k1_cond2 (i : grid1.Coords) : BitVec 1 :=
  let arg1 : BitVec 32 := BitVec.ofNat 32 (i 1).val
  let c0_i32_26 : BitVec 32 := 0#32
  let v44 : BitVec 1 := Scalar.cmpi .eq arg1 c0_i32_26
  let v45 : BitVec 32 := Scalar.extui v44
  let c0_i32_27 : BitVec 32 := 0#32
  let v46 : BitVec 1 := Scalar.cmpi .ne v45 c0_i32_27
  v46

def k1_off1 (i : grid1.Coords) : Fin 2 → Nat :=
  let arg2 : BitVec 32 := BitVec.ofNat 32 (i 2).val
  let c512_i32 : BitVec 32 := 512#32
  let v42 : BitVec 32 := Scalar.muli arg2 c512_i32
  let v43 : BitVec 32 := v42
  let v50 : Index := Scalar.indexCast v43
  let c0_30 : Index := 0#32
  ![v50.toNat, 0]
def k1_cond3 (i : grid1.Coords) : BitVec 1 :=
  let arg1 : BitVec 32 := BitVec.ofNat 32 (i 1).val
  let c0_i32_28 : BitVec 32 := 0#32
  let v47 : BitVec 1 := Scalar.cmpi .ne arg1 c0_i32_28
  let v48 : BitVec 32 := Scalar.extui v47
  let c0_i32_29 : BitVec 32 := 0#32
  let v49 : BitVec 1 := Scalar.cmpi .ne v48 c0_i32_29
  v49

def k1_off2 (i : grid1.Coords) : Fin 2 → Nat :=
  let arg2 : BitVec 32 := BitVec.ofNat 32 (i 2).val
  let c512_i32 : BitVec 32 := 512#32
  let v42 : BitVec 32 := Scalar.muli arg2 c512_i32
  let v43 : BitVec 32 := v42
  let v50 : Index := Scalar.indexCast v43
  let c0_30 : Index := 0#32
  ![v50.toNat, 0]
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, true]

abbrev stage1_6 : Fin 2 → Memref sig .tc .vmem S8192x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, false]

abbrev stage1_7 : Fin 2 → Memref sig .tc .vmem S4096x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev stage1_8 : Fin 2 → Memref sig .tc .vmem S4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]
-- ==== ReferenceIdeal.lean ====
abbrev S8192x8x96 : Shape := ⟨3, ![8192, 8, 96]⟩
abbrev S8192x8x64 : Shape := ⟨3, ![8192, 8, 64]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩

abbrev nBuf : Space → Nat
  | .hbm => 73
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S_, .f32⟩
  | .hbm, ⟨9, _⟩ => ⟨S8x8192, .f32⟩
  | .hbm, ⟨10, _⟩ => ⟨S8x8192x1, .f32⟩
  | .hbm, ⟨11, _⟩ => ⟨S8x8192x8192, .f32⟩
  | .hbm, ⟨12, _⟩ => ⟨S8x8192x8192, .i1⟩
  | .hbm, ⟨13, _⟩ => ⟨S8x8192x8192, .f32⟩
  | .hbm, ⟨14, _⟩ => ⟨S_, .f32⟩
  | .hbm, ⟨15, _⟩ => ⟨S8x8192, .f32⟩
  | .hbm, ⟨16, _⟩ => ⟨S_, .f32⟩
  | .hbm, ⟨17, _⟩ => ⟨S8x8192, .f32⟩
  | .hbm, ⟨18, _⟩ => ⟨S8x8192, .f32⟩
  | .hbm, ⟨19, _⟩ => ⟨S_, .f32⟩
  | .hbm, ⟨20, _⟩ => ⟨S8x8192, .f32⟩
  | .hbm, ⟨21, _⟩ => ⟨S8x8192, .i1⟩
  | .hbm, ⟨22, _⟩ => ⟨S_, .f32⟩
  | .hbm, ⟨23, _⟩ => ⟨S8x8192, .f32⟩
  | .hbm, ⟨24, _⟩ => ⟨S8x8192, .i1⟩
  | .hbm, ⟨25, _⟩ => ⟨S_, .f32⟩
  | .hbm, ⟨26, _⟩ => ⟨S8x8192, .f32⟩
  | .hbm, ⟨27, _⟩ => ⟨S_, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S8x8192, .f32⟩
  | .hbm, ⟨33, _⟩ => ⟨S8x8192x1, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S_, .f32⟩
  | .hbm, ⟨38, _⟩ => ⟨S8x8192, .f32⟩
  | .hbm, ⟨39, _⟩ => ⟨S8x8192x1, .f32⟩
  | .hbm, ⟨40, _⟩ => ⟨S8x8192x8192, .f32⟩
  | .hbm, ⟨41, _⟩ => ⟨S8x8192x8192, .f32⟩
  | .hbm, ⟨42, _⟩ => ⟨S8x8192x1, .f32⟩
  | .hbm, ⟨43, _⟩ => ⟨S_, .f32⟩
  | .hbm, ⟨44, _⟩ => ⟨S8x8192x1, .f32⟩
  | .hbm, ⟨45, _⟩ => ⟨S8x8192x1, .f32⟩
  | .hbm, ⟨46, _⟩ => ⟨S8x64x8192, .f32⟩
  | .hbm, ⟨47, _⟩ => ⟨S8192x8x64, .f32⟩
  | .hbm, ⟨48, _⟩ => ⟨S8x64x8192, .f32⟩
  | .hbm, ⟨49, _⟩ => ⟨S8x8192x8192, .f32⟩
  | .hbm, ⟨50, _⟩ => ⟨S8x64x8192, .f32⟩
  | .hbm, ⟨51, _⟩ => ⟨S8192x8x64, .f32⟩
  | .hbm, ⟨52, _⟩ => ⟨S8x8192x8192, .f32⟩
  | .hbm, ⟨53, _⟩ => ⟨S8x8192x8192, .f32⟩
  | .hbm, ⟨54, _⟩ => ⟨S8x8192x8192, .f32⟩
  | .hbm, ⟨55, _⟩ => ⟨S_, .f32⟩
  | .hbm, ⟨56, _⟩ => ⟨S8x8192, .f32⟩
  | .hbm, ⟨57, _⟩ => ⟨S8x8192x1, .f32⟩
  | .hbm, ⟨58, _⟩ => ⟨S8x8192x1, .f32⟩
  | .hbm, ⟨59, _⟩ => ⟨S8x8192x8192, .f32⟩
  | .hbm, ⟨60, _⟩ => ⟨S8x8192x8192, .f32⟩
  | .hbm, ⟨61, _⟩ => ⟨S_, .f32⟩
  | .hbm, ⟨62, _⟩ => ⟨S8x8192, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S_, .f32⟩
  | .hbm, ⟨67, _⟩ => ⟨S8x8192x8192, .f32⟩
  | .hbm, ⟨68, _⟩ => ⟨S8x8192x8192, .f32⟩
  | .hbm, ⟨69, _⟩ => ⟨S8x8192x96, .f32⟩
  | .hbm, ⟨70, _⟩ => ⟨S8192x8x96, .f32⟩
  | .hbm, ⟨71, _⟩ => ⟨S8x8192x96, .f32⟩
  | .hbm, ⟨72, _⟩ => ⟨S8192x8x96, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== FfnKernel.lean ====
abbrev S8192x1024 : Shape := ⟨2, ![8192, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S5632x1024 : Shape := ⟨2, ![5632, 1024]⟩
abbrev S_ : Shape := ⟨0, ![]⟩
abbrev S8x2816 : Shape := ⟨2, ![8, 2816]⟩
abbrev S1024x2816 : Shape := ⟨2, ![1024, 2816]⟩
abbrev S1x2816 : Shape := ⟨2, ![1, 2816]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S8192x5632 : Shape := ⟨2, ![8192, 5632]⟩
abbrev S1024x1024 : Shape := ⟨2, ![1024, 1024]⟩
abbrev S8192x2816 : Shape := ⟨2, ![8192, 2816]⟩
abbrev S512x1408 : Shape := ⟨2, ![512, 1408]⟩
abbrev S16x1408 : Shape := ⟨2, ![16, 1408]⟩
abbrev S8x1408 : Shape := ⟨2, ![8, 1408]⟩
abbrev S1x1408 : Shape := ⟨2, ![1, 1408]⟩
abbrev S1408 : Shape := ⟨1, ![1408]⟩
abbrev S5632x512 : Shape := ⟨2, ![5632, 512]⟩
abbrev S1024x512 : Shape := ⟨2, ![1024, 512]⟩

abbrev nBuf : Space → Nat
  | .hbm => 34
  | .vmem => 83
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S8192x1024, .f32⟩
  | .hbm, ⟨7, _⟩ => ⟨S5632x1024, .f32⟩
  | .hbm, ⟨8, _⟩ => ⟨S5632x1024, .bf16⟩
  | .hbm, ⟨9, _⟩ => ⟨S2816x1024, .bf16⟩
  | .hbm, ⟨10, _⟩ => ⟨S_, .i32⟩
  | .hbm, ⟨11, _⟩ => ⟨S_, .f32⟩
  | .hbm, ⟨12, _⟩ => ⟨S8x2816, .f32⟩
  | .hbm, ⟨13, _⟩ => ⟨S1024x5632, .bf16⟩
  | .hbm, ⟨14, _⟩ => ⟨S1024x2816, .bf16⟩
  | .hbm, ⟨15, _⟩ => ⟨S1x2816, .f32⟩
  | .hbm, ⟨16, _⟩ => ⟨S1x1024, .f32⟩
  | .hbm, ⟨17, _⟩ => ⟨S8192x1024, .bf16⟩
  | .hbm, ⟨18, _⟩ => ⟨S8192x5632, .bf16⟩
  | .hbm, ⟨19, _⟩ => ⟨S8192x2816, .bf16⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x5632, .bf16⟩
  | .hbm, ⟨24, _⟩ => ⟨S8x2816, .f32⟩
  | .hbm, ⟨25, _⟩ => ⟨S8192x5632, .bf16⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S1x1024, .f32⟩
  | .hbm, ⟨30, _⟩ => ⟨S1024, .f32⟩
  | .hbm, ⟨31, _⟩ => ⟨S3x2816, .f32⟩
  | .hbm, ⟨32, _⟩ => ⟨S1x2816, .f32⟩
  | .hbm, ⟨33, _⟩ => ⟨S2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2816, .bf16⟩
  | .local _ .vmem, ⟨8, _⟩ => ⟨S1024x2816, .bf16⟩
  | .local _ .vmem, ⟨9, _⟩ => ⟨S1024x2816, .bf16⟩
  | .local _ .vmem, ⟨10, _⟩ => ⟨S1024x2816, .bf16⟩
  | .local _ .vmem, ⟨11, _⟩ => ⟨S512x1408, .bf16⟩
  | .local _ .vmem, ⟨12, _⟩ => ⟨S512x1408, .bf16⟩
  | .local _ .vmem, ⟨13, _⟩ => ⟨S16x1408, .bf16⟩
  | .local _ .vmem, ⟨14, _⟩ => ⟨S16x1408, .bf16⟩
  | .local _ .vmem, ⟨15, _⟩ => ⟨S16x1408, .bf16⟩
  | .local _ .vmem, ⟨16, _⟩ => ⟨S16x1408, .bf16⟩
  | .local _ .vmem, ⟨17, _⟩ => ⟨S512x1408, .bf16⟩
  | .local _ .vmem, ⟨18, _⟩ => ⟨S512x1408, .bf16⟩
  | .local _ .vmem, ⟨19, _⟩ => ⟨S8x1408, .f32⟩
  | .local _ .vmem, ⟨20, _⟩ => ⟨S8x1408, .f32⟩
  | .local _ .vmem, ⟨21, _⟩ => ⟨S1x1408, .f32⟩
  | .local _ .vmem, ⟨22, _⟩ => ⟨S1x1408, .f32⟩
  | .local _ .vmem, ⟨23, _⟩ => ⟨S512x1408, .bf16⟩
  | .local _ .vmem, ⟨24, _⟩ => ⟨S512x1408, .bf16⟩
  | .local _ .vmem, ⟨25, _⟩ => ⟨S1024x2816, .bf16⟩
  | .local _ .vmem, ⟨26, _⟩ => ⟨S1024x2816, .bf16⟩
  | .local _ .vmem, ⟨27, _⟩ => ⟨S2816x1024, .bf16⟩
  | .local _ .vmem, ⟨28, _⟩ => ⟨S1024x1024, .f32⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | .local _ .vmem, ⟨32, _⟩ => ⟨S1024x1024, .f32⟩
  | .local _ .vmem, ⟨33, _⟩ => ⟨S1024x1024, .f32⟩
  | .local _ .vmem, ⟨34, _⟩ => ⟨S1024x2816, .bf16⟩
  | .local _ .vmem, ⟨35, _⟩ => ⟨S1024x2816, .f32⟩
  | .local _ .vmem, ⟨36, _⟩ => ⟨S1024x2816, .f32⟩
  | .local _ .vmem, ⟨37, _⟩ => ⟨S512x1408, .bf16⟩
  | .local _ .vmem, ⟨38, _⟩ => ⟨S512x1408, .bf16⟩
  | .local _ .vmem, ⟨39, _⟩ => ⟨S16x1408, .bf16⟩
  | .local _ .vmem, ⟨40, _⟩ => ⟨S16x1408, .bf16⟩
  | .local _ .vmem, ⟨41, _⟩ => ⟨S16x1408, .bf16⟩
  | .local _ .vmem, ⟨42, _⟩ => ⟨S16x1408, .bf16⟩
  | .local _ .vmem, ⟨43, _⟩ => ⟨S512x1408, .bf16⟩
  | .local _ .vmem, ⟨44, _⟩ => ⟨S512x1408, .bf16⟩
  | .local _ .vmem, ⟨45, _⟩ => ⟨S8x1408, .f32⟩
  | .local _ .vmem, ⟨46, _⟩ => ⟨S8x1408, .f32⟩
  | .local _ .vmem, ⟨47, _⟩ => ⟨S1x1408, .f32⟩
  | .local _ .vmem, ⟨48, _⟩ => ⟨S1x1408, .f32⟩
  | .local _ .vmem, ⟨49, _⟩ => ⟨S512x1408, .f32⟩
  | .local _ .vmem, ⟨50, _⟩ => ⟨S512x1408, .f32⟩
  | .local _ .vmem, ⟨51, _⟩ => ⟨S512x1408, .f32⟩
  | .local _ .vmem, ⟨52, _⟩ => ⟨S512x1408, .f32⟩
  | .local _ .vmem, ⟨53, _⟩ => ⟨S512x1408, .bf16⟩
  | .local _ .vmem, ⟨54, _⟩ => ⟨S512x1408, .bf16⟩
  | .local _ .vmem, ⟨55, _⟩ => ⟨S8x1408, .f32⟩
  | .local _ .vmem, ⟨56, _⟩ => ⟨S8x1408, .f32⟩
  | .local _ .vmem, ⟨57, _⟩ => ⟨S512x1408, .f32⟩
  | .local _ .vmem, ⟨58, _⟩ => ⟨S512x1408, .f32⟩
  | .local _ .vmem, ⟨59, _⟩ => ⟨S8x1408, .f32⟩
  | .local _ .vmem, ⟨60, _⟩ => ⟨S8x1408, .f32⟩
  | .local _ .vmem, ⟨61, _⟩ => ⟨S8x1408, .f32⟩
  | .local _ .vmem, ⟨62, _⟩ => ⟨S8x1408, .f32⟩
  | .local _ .vmem, ⟨63, _⟩ => ⟨S8x1408, .f32⟩
  | .local _ .vmem, ⟨64, _⟩ => ⟨S8x1408, .f32⟩
  | .local _ .vmem, ⟨65, _⟩ => ⟨S512x1408, .bf16⟩
  | .local _ .vmem, ⟨66, _⟩ => ⟨S512x1408, .bf16⟩
  | .local _ .vmem, ⟨67, _⟩ => ⟨S1024x5632, .bf16⟩
  | .local _ .vmem, ⟨68, _⟩ => ⟨S1024x5632, .bf16⟩
  | .local _ .vmem, ⟨69, _⟩ => ⟨S5632x512, .bf16⟩
  | .local _ .vmem, ⟨70, _⟩ => ⟨S5632x512, .bf16⟩
  | .local _ .vmem, ⟨71, _⟩ => ⟨S1024x512, .f32⟩
  | .local _ .vmem, ⟨72, _⟩ => ⟨S1024x512, .f32⟩
  | .local _ .vmem, ⟨73, _⟩ => ⟨S512x1024, .f32⟩
  | .local _ .vmem, ⟨74, _⟩ => ⟨S512x1024, .f32⟩
  | .local _ .vmem, ⟨75, _⟩ => ⟨S1x1024, .f32⟩
  | .local _ .vmem, ⟨76, _⟩ => ⟨S512x1024, .f32⟩
  | .local _ .vmem, ⟨77, _⟩ => ⟨S512x1024, .f32⟩
  | .local _ .vmem, ⟨78, _⟩ => ⟨S512x1024, .f32⟩
  | .local _ .vmem, ⟨79, _⟩ => ⟨S512x1024, .f32⟩
  | .local _ .vmem, ⟨80, _⟩ => ⟨S512x1024, .f32⟩
  | .local _ .vmem, ⟨81, _⟩ => ⟨S512x1024, .f32⟩
  | .local _ .vmem, ⟨82, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | _, _ => false

abbrev semScoped : Fin 0 → Bool
  | ⟨_, h⟩ => absurd h (Nat.not_lt_zero _)

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  ofTc nBuf bufTy 0 83 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc2_stg6_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg3_1 : Ref sig .tc := ⟨.vmem, 44, rfl⟩
abbrev cc5_stg4_0 : Ref sig .tc := ⟨.vmem, 45, rfl⟩
abbrev cc5_stg4_1 : Ref sig .tc := ⟨.vmem, 46, rfl⟩
abbrev cc5_stg5_0 : Ref sig .tc := ⟨.vmem, 47, rfl⟩
abbrev cc5_stg5_1 : Ref sig .tc := ⟨.vmem, 48, rfl⟩
abbrev cc5_stg6_0 : Ref sig .tc := ⟨.vmem, 49, rfl⟩
abbrev cc5_stg6_1 : Ref sig .tc := ⟨.vmem, 50, rfl⟩
abbrev cc5_stg7_0 : Ref sig .tc := ⟨.vmem, 51, rfl⟩
abbrev cc5_stg7_1 : Ref sig .tc := ⟨.vmem, 52, rfl⟩
abbrev cc5_stg8_0 : Ref sig .tc := ⟨.vmem, 53, rfl⟩
abbrev cc5_stg8_1 : Ref sig .tc := ⟨.vmem, 54, rfl⟩
abbrev cc5_stg9_0 : Ref sig .tc := ⟨.vmem, 55, rfl⟩
abbrev cc5_stg9_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg1_1 : Ref sig .tc := ⟨.vmem, 60, rfl⟩
abbrev cc6_stg2_0 : Ref sig .tc := ⟨.vmem, 61, rfl⟩
abbrev cc6_stg2_1 : Ref sig .tc := ⟨.vmem, 62, rfl⟩
abbrev cc6_stg3_0 : Ref sig .tc := ⟨.vmem, 63, rfl⟩
abbrev cc6_stg3_1 : Ref sig .tc := ⟨.vmem, 64, rfl⟩
abbrev cc6_stg4_0 : Ref sig .tc := ⟨.vmem, 65, rfl⟩
abbrev cc6_stg4_1 : Ref sig .tc := ⟨.vmem, 66, rfl⟩
abbrev cc7_stg0_0 : Ref sig .tc := ⟨.vmem, 67, rfl⟩
abbrev cc7_stg0_1 : Ref sig .tc := ⟨.vmem, 68, rfl⟩
abbrev cc7_stg1_0 : Ref sig .tc := ⟨.vmem, 69, rfl⟩
abbrev cc7_stg1_1 : Ref sig .tc := ⟨.vmem, 70, rfl⟩
abbrev cc7_stg2_0 : Ref sig .tc := ⟨.vmem, 71, rfl⟩
abbrev cc7_stg2_1 : Ref sig .tc := ⟨.vmem, 72, rfl⟩
abbrev cc8_stg0_0 : Ref sig .tc := ⟨.vmem, 73, rfl⟩
abbrev cc8_stg0_1 : Ref sig .tc := ⟨.vmem, 74, rfl⟩
abbrev cc8_stg1_0 : Ref sig .tc := ⟨.vmem, 75, rfl⟩
abbrev cc8_stg2_0 : Ref sig .tc := ⟨.vmem, 76, rfl⟩
abbrev cc8_stg2_1 : Ref sig .tc := ⟨.vmem, 77, rfl⟩
abbrev cc8_stg3_0 : Ref sig .tc := ⟨.vmem, 78, rfl⟩
abbrev cc8_stg3_1 : Ref sig .tc := ⟨.vmem, 79, rfl⟩
abbrev cc8_stg4_0 : Ref sig .tc := ⟨.vmem, 80, rfl⟩
abbrev cc8_stg4_1 : Ref sig .tc := ⟨.vmem, 81, rfl⟩
abbrev cc8_stg5_0 : Ref sig .tc := ⟨.vmem, 82, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22
abbrev cc2_sem6_0 : DmaSem sig := 23
abbrev cc2_sem6_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem3_1 : DmaSem sig := 44
abbrev cc5_sem4_0 : DmaSem sig := 45
abbrev cc5_sem4_1 : DmaSem sig := 46
abbrev cc5_sem5_0 : DmaSem sig := 47
abbrev cc5_sem5_1 : DmaSem sig := 48
abbrev cc5_sem6_0 : DmaSem sig := 49
abbrev cc5_sem6_1 : DmaSem sig := 50
abbrev cc5_sem7_0 : DmaSem sig := 51
abbrev cc5_sem7_1 : DmaSem sig := 52
abbrev cc5_sem8_0 : DmaSem sig := 53
abbrev cc5_sem8_1 : DmaSem sig := 54
abbrev cc5_sem9_0 : DmaSem sig := 55
abbrev cc5_sem9_1 : DmaSem sig := 56
abbrev cc6_sem0_0 : DmaSem sig := 57
abbrev cc6_sem0_1 : DmaSem sig := 58
abbrev cc6_sem1_0 : DmaSem sig := 59
abbrev cc6_sem1_1 : DmaSem sig := 60
abbrev cc6_sem2_0 : DmaSem sig := 61
abbrev cc6_sem2_1 : DmaSem sig := 62
abbrev cc6_sem3_0 : DmaSem sig := 63
abbrev cc6_sem3_1 : DmaSem sig := 64
abbrev cc6_sem4_0 : DmaSem sig := 65
abbrev cc6_sem4_1 : DmaSem sig := 66
abbrev cc7_sem0_0 : DmaSem sig := 67
abbrev cc7_sem0_1 : DmaSem sig := 68
abbrev cc7_sem1_0 : DmaSem sig := 69
abbrev cc7_sem1_1 : DmaSem sig := 70
abbrev cc7_sem2_0 : DmaSem sig := 71
abbrev cc7_sem2_1 : DmaSem sig := 72
abbrev cc8_sem0_0 : DmaSem sig := 73
abbrev cc8_sem0_1 : DmaSem sig := 74
abbrev cc8_sem1_0 : DmaSem sig := 75
abbrev cc8_sem2_0 : DmaSem sig := 76
abbrev cc8_sem2_1 : DmaSem sig := 77
abbrev cc8_sem3_0 : DmaSem sig := 78
abbrev cc8_sem3_1 : DmaSem sig := 79
abbrev cc8_sem4_0 : DmaSem sig := 80
abbrev cc8_sem4_1 : DmaSem sig := 81
abbrev cc8_sem5_0 : DmaSem sig := 82

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc2_transform_2 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg1.toNat]

def cc2_transform_3 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S16x1408 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S16x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1408 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S8x1408 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S1x1408 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S512x1408 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨2, ![1, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S1024x2816 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S2816x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![1, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S1024x2816 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S1024x2816 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 16], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_1 (i : grid5.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc5_transform_2 (i : grid5.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg0.toNat]

def cc5_transform_3 (i : grid5.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_8 (i : grid5.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc5_transform_9 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage5_0 : Fin 2 → Memref sig .tc .vmem S512x1408 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S16x1408 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S16x1408 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S512x1408 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S8x1408 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev stage5_5 : Fin 2 → Memref sig .tc .vmem S1x1408 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev stage5_6 : Fin 2 → Memref sig .tc .vmem S512x1408 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]

abbrev stage5_7 : Fin 2 → Memref sig .tc .vmem S512x1408 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, true]

abbrev stage5_8 : Fin 2 → Memref sig .tc .vmem S512x1408 .bf16 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true, true]

abbrev stage5_9 : Fin 2 → Memref sig .tc .vmem S8x1408 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true, false]

abbrev grid6 : Pipeline.Grid := ⟨2, ![16, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc6_transform_2 (i : grid6.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![v2.toNat, arg1.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S512x1408 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S8x1408 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S8x1408 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S8x1408 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![false, true]

abbrev stage6_4 : Fin 2 → Memref sig .tc .vmem S512x1408 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev grid7 : Pipeline.Grid := ⟨2, ![2, 8], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage7_0 : Fin 2 → Memref sig .tc .vmem S1024x5632 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S5632x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨1, ![16], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S512x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x1024 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S512x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S512x1024 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S512x1024 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S1x1024 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]
-- ==== FfnReferenceIdeal.lean ====
abbrev S8192x1024 : Shape := ⟨2, ![8192, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S1x2816 : Shape := ⟨2, ![1, 2816]⟩
abbrev S8191x2816 : Shape := ⟨2, ![8191, 2816]⟩
abbrev S1024x2816 : Shape := ⟨2, ![1024, 2816]⟩
abbrev S5632x1024 : Shape := ⟨2, ![5632, 1024]⟩

abbrev nBuf : Space → Nat
  | .hbm => 166
  | .vmem => 0
  | .smem => 0
  | _ => 0

abbrev hbmTy0_0 (i : Nat) : BufTy := match i % 128 with
  | 0 => ⟨S8192x1024, .f32⟩
  | 1 => ⟨S1024, .f32⟩
  | 2 => ⟨S1024x5632, .f32⟩
  | 3 => ⟨S3x2816, .f32⟩
  | 4 => ⟨S2816, .f32⟩
  | 5 => ⟨S2816x1024, .f32⟩
  | 6 => ⟨S8192x1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S1x1024, .f32⟩
  | 25 => ⟨S8192x1024, .f32⟩
  | 26 => ⟨S8192x1024, .f32⟩
  | 27 => ⟨S8192x5632, .f32⟩
  | 28 => ⟨S8192x2816, .f32⟩
  | 29 => ⟨S8192x2816, .f32⟩
  | 30 => ⟨S_, .f32⟩
  | 31 => ⟨S1x2816, .f32⟩
  | 32 => ⟨S8191x2816, .f32⟩
  | 33 => ⟨S8192x2816, .f32⟩
  | 34 => ⟨S_, .f32⟩
  | 35 => ⟨S1x2816, .f32⟩
  | 36 => ⟨S8191x2816, .f32⟩
  | 37 => ⟨S8192x2816, .f32⟩
  | 38 => ⟨S_, .f32⟩
  | 39 => ⟨S1x2816, .f32⟩
  | 40 => ⟨S1x2816, .f32⟩
  | 41 => ⟨S2816, .f32⟩
  | 42 => ⟨S1x2816, .f32⟩
  | 43 => ⟨S8192x2816, .f32⟩
  | 44 => ⟨S8192x2816, .f32⟩
  | 45 => ⟨S1x2816, .f32⟩
  | 46 => ⟨S2816, .f32⟩
  | 47 => ⟨S1x2816, .f32⟩
  | 48 => ⟨S8192x2816, .f32⟩
  | 49 => ⟨S8192x2816, .f32⟩
  | 50 => ⟨S8192x2816, .f32⟩
  | 51 => ⟨S1x2816, .f32⟩
  | 52 => ⟨S2816, .f32⟩
  | 53 => ⟨S1x2816, .f32⟩
  | 54 => ⟨S8192x2816, .f32⟩
  | 55 => ⟨S8192x2816, .f32⟩
  | 56 => ⟨S8192x2816, .f32⟩
  | 57 => ⟨S1x2816, .f32⟩
  | 58 => ⟨S8192x2816, .f32⟩
  | 59 => ⟨S8192x2816, .f32⟩
  | 60 => ⟨S8192x2816, .f32⟩
  | 61 => ⟨S8192x2816, .f32⟩
  | 62 => ⟨S_, .f32⟩
  | 63 => ⟨S8192x2816, .f32⟩
  | 64 => ⟨S8192x2816, .f32⟩
  | 65 => ⟨S_, .f32⟩
  | 66 => ⟨S8192x2816, .f32⟩
  | 67 => ⟨S8192x2816, .f32⟩
  | 68 => ⟨S_, .f32⟩
  | 69 => ⟨S8192x2816, .f32⟩
  | 70 => ⟨S8192x2816, .f32⟩
  | 71 => ⟨S8192x2816, .f32⟩
  | 72 => ⟨S8192x2816, .f32⟩
  | 73 => ⟨S8192x2816, .f32⟩
  | 74 => ⟨S8192x1024, .f32⟩
  | 75 => ⟨S8192x1024, .f32⟩
  | 76 => ⟨S8192x1024, .f32⟩
  | 77 => ⟨S1024x2816, .f32⟩
  | 78 => ⟨S2816x1024, .f32⟩
  | 79 => ⟨S8192x2816, .f32⟩
  | 80 => ⟨S8192x2816, .f32⟩
  | 81 => ⟨S8192x2816, .f32⟩
  | 82 => ⟨S8192x2816, .f32⟩
  | 83 => ⟨S8192x2816, .f32⟩
  | 84 => ⟨S8192x2816, .f32⟩
  | 85 => ⟨S8192x2816, .f32⟩
  | 86 => ⟨S_, .f32⟩
  | 87 => ⟨S2816, .f32⟩
  | 88 => ⟨S1x2816, .f32⟩
  | 89 => ⟨S_, .f32⟩
  | 90 => ⟨S2816, .f32⟩
  | 91 => ⟨S8192x2816, .f32⟩
  | 92 => ⟨S_, .f32⟩
  | 93 => ⟨S2816, .f32⟩
  | 94 => ⟨S1x2816, .f32⟩
  | 95 => ⟨S8192x2816, .f32⟩
  | 96 => ⟨S8192x2816, .f32⟩
  | 97 => ⟨S_, .f32⟩
  | 98 => ⟨S2816, .f32⟩
  | 99 => ⟨S1x2816, .f32⟩
  | 100 => ⟨S_, .f32⟩
  | 101 => ⟨S3x2816, .f32⟩
  | 102 => ⟨S8192x2816, .f32⟩
  | 103 => ⟨S_, .f32⟩
  | 104 => ⟨S2816, .f32⟩
  | 105 => ⟨S1x2816, .f32⟩
  | 106 => ⟨S8192x2816, .f32⟩
  | 107 => ⟨S8192x2816, .f32⟩
  | 108 => ⟨S_, .f32⟩
  | 109 => ⟨S2816, .f32⟩
  | 110 => ⟨S1x2816, .f32⟩
  | 111 => ⟨S_, .f32⟩
  | 112 => ⟨S3x2816, .f32⟩
  | 113 => ⟨S3x2816, .f32⟩
  | 114 => ⟨S8192x2816, .f32⟩
  | 115 => ⟨S_, .f32⟩
  | 116 => ⟨S2816, .f32⟩
  | 117 => ⟨S1x2816, .f32⟩
  | 118 => ⟨S8192x2816, .f32⟩
  | 119 => ⟨S8192x2816, .f32⟩
  | 120 => ⟨S_, .f32⟩
  | 121 => ⟨S2816, .f32⟩
  | 122 => ⟨S1x2816, .f32⟩
  | 123 => ⟨S_, .f32⟩
  | 124 => ⟨S3x2816, .f32⟩
  | 125 => ⟨S3x2816, .f32⟩
  | 126 => ⟨S8191x2816, .f32⟩
  | 127 => ⟨S1x2816, .f32⟩
  | _ => ⟨S8192x1024, .f32⟩

abbrev hbmTy0_1 (i : Nat) : BufTy := match i % 128 with
  | 0 => ⟨S_, .f32⟩
  | 1 => ⟨S8192x2816, .f32⟩
  | 2 => ⟨S8192x2816, .f32⟩
  | 3 => ⟨S1x2816, .f32⟩
  | 4 => ⟨S8191x2816, .f32⟩
  | 5 => ⟨S_, .f32⟩
  | 6 => ⟨S8192x2816, .f32⟩
  | 7 => ⟨S8192x2816, .f32⟩
  | 8 => ⟨S8192x5632, .f32⟩
  | 9 => ⟨S5632x1024, .f32⟩
  | 10 => ⟨S1024x5632, .f32⟩
  | 11 => ⟨S8192x1024, .f32⟩
  | 12 => ⟨S8192x1024, .f32⟩
  | 13 => ⟨S_, .f32⟩
  | 14 => ⟨S1024, .f32⟩
  | 15 => ⟨S1x1024, .f32⟩
  | 16 => ⟨S8192x1024, .f32⟩
  | 17 => ⟨S8192x1024, .f32⟩
  | 18 => ⟨S_, .f32⟩
  | 19 => ⟨S1024, .f32⟩
  | 20 => ⟨S8192x1024, .f32⟩
  | 21 => ⟨S_, .f32⟩
  | 22 => ⟨S8192, .f32⟩
  | 23 => ⟨S8192x1, .f32⟩
  | 24 => ⟨S8192x1024, .f32⟩
  | 25 => ⟨S8192x1024, .f32⟩
  | 26 => ⟨S8192x1024, .f32⟩
  | 27 => ⟨S8192x1, .f32⟩
  | 28 => ⟨S_, .f32⟩
  | 29 => ⟨S8192x1, .f32⟩
  | 30 => ⟨S8192x1, .f32⟩
  | 31 => ⟨S_, .f32⟩
  | 32 => ⟨S8192, .f32⟩
  | 33 => ⟨S8192x1024, .f32⟩
  | 34 => ⟨S8192x1024, .f32⟩
  | 35 => ⟨S8192x1024, .f32⟩
  | 36 => ⟨S8192x1024, .f32⟩
  | 37 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_v46_2 : Ref sig .tc := ⟨.hbm, 67, rfl⟩
abbrev main_call0_cst_1 : Ref sig .tc := ⟨.hbm, 68, rfl⟩
abbrev main_call0_v6 : Ref sig .tc := ⟨.hbm, 69, rfl⟩
abbrev main_call0_v7 : Ref sig .tc := ⟨.hbm, 70, rfl⟩
abbrev main_v46_1 : Ref sig .tc := ⟨.hbm, 71, rfl⟩
abbrev main_v46_0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v56 : Ref sig .tc := ⟨.hbm, 85, rfl⟩
abbrev main_cst_6 : Ref sig .tc := ⟨.hbm, 86, rfl⟩
abbrev main_v57 : Ref sig .tc := ⟨.hbm, 87, rfl⟩
abbrev main_v58 : Ref sig .tc := ⟨.hbm, 88, rfl⟩
abbrev main_cst_7 : Ref sig .tc := ⟨.hbm, 89, rfl⟩
abbrev main_v59 : Ref sig .tc := ⟨.hbm, 90, rfl⟩
abbrev main_v60 : Ref sig .tc := ⟨.hbm, 91, rfl⟩
abbrev main_cst_8 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_9 : Ref sig .tc := ⟨.hbm, 97, rfl⟩
abbrev main_v65 : Ref sig .tc := ⟨.hbm, 98, rfl⟩
abbrev main_v66 : Ref sig .tc := ⟨.hbm, 99, rfl⟩
abbrev main_cst_10 : Ref sig .tc := ⟨.hbm, 100, rfl⟩
abbrev main_v67 : Ref sig .tc := ⟨.hbm, 101, rfl⟩
abbrev main_v68 : Ref sig .tc := ⟨.hbm, 102, rfl⟩
abbrev main_cst_11 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_12 : Ref sig .tc := ⟨.hbm, 108, rfl⟩
abbrev main_v73 : Ref sig .tc := ⟨.hbm, 109, rfl⟩
abbrev main_v74 : Ref sig .tc := ⟨.hbm, 110, rfl⟩
abbrev main_cst_13 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_14 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_15 : Ref sig .tc := ⟨.hbm, 120, rfl⟩
abbrev main_v82 : Ref sig .tc := ⟨.hbm, 121, rfl⟩
abbrev main_v83 : Ref sig .tc := ⟨.hbm, 122, rfl⟩
abbrev main_cst_16 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_17 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_18 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_19 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_20 : Ref sig .tc := ⟨.hbm, 146, rfl⟩
abbrev main_v103 : Ref sig .tc := ⟨.hbm, 147, rfl⟩
abbrev main_v104 : Ref sig .tc := ⟨.hbm, 148, rfl⟩
abbrev main_cst_21 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_22 : Ref sig .tc := ⟨.hbm, 156, rfl⟩
abbrev main_v111 : Ref sig .tc := ⟨.hbm, 157, rfl⟩
abbrev main_v112 : Ref sig .tc := ⟨.hbm, 158, rfl⟩
abbrev main_cst_23 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩

abbrev nD : Nat := 1
abbrev τ : Topo := Topo.v7x

variable {F : FTy → Type} [FloatOps F]
-- ==== DownGradKernel.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpGradKernel.lean ====
abbrev S8192x5632 : Shape := ⟨2, ![8192, 5632]⟩
abbrev S8192x1024 : Shape := ⟨2, ![8192, 1024]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGradReferenceIdeal.lean ====
abbrev S8192x5632 : Shape := ⟨2, ![8192, 5632]⟩
abbrev S8192x1024 : Shape := ⟨2, ![8192, 1024]⟩
abbrev S_ : Shape := ⟨0, ![]⟩
abbrev S5632x1024 : Shape := ⟨2, ![5632, 1024]⟩
abbrev S1024x5632 : Shape := ⟨2, ![1024, 5632]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S_, .f32⟩
  | .hbm, ⟨3, _⟩ => ⟨S5632x1024, .f32⟩
  | .hbm, ⟨4, _⟩ => ⟨S8192x1024, .f32⟩
  | .hbm, ⟨5, _⟩ => ⟨S1024x5632, .f32⟩
  | .hbm, ⟨6, _⟩ => ⟨S8192x5632, .f32⟩
  | .hbm, ⟨7, _⟩ => ⟨S8192x5632, .f32⟩
  | .hbm, ⟨8, _⟩ => ⟨S5632x1024, .f32⟩
  | .hbm, ⟨9, _⟩ => ⟨S1024x5632, .f32⟩
  | .hbm, ⟨10, _⟩ => ⟨S5632x1024, .f32⟩
  | .hbm, ⟨11, _⟩ => ⟨S5632x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InGradKernel.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGradReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== StepInEvenKernel.lean ====
abbrev S2x1024x340 : Shape := ⟨3, ![2, 1024, 340]⟩
abbrev S2048x340 : Shape := ⟨2, ![2048, 340]⟩
abbrev S256x340 : Shape := ⟨2, ![256, 340]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x340, .f32⟩
  | .hbm, ⟨1, _⟩ => ⟨S2x1024x340, .f32⟩
  | .hbm, ⟨2, _⟩ => ⟨S2x1024x340, .f32⟩
  | .hbm, ⟨3, _⟩ => ⟨S2x1024x340, .f32⟩
  | .hbm, ⟨4, _⟩ => ⟨S2048x340, .f32⟩
  | .hbm, ⟨5, _⟩ => ⟨S2048x340, .f32⟩
  | .hbm, ⟨6, _⟩ => ⟨S2048x340, .f32⟩
  | .hbm, ⟨7, _⟩ => ⟨S2048x340, .f32⟩
  | .hbm, ⟨8, _⟩ => ⟨S2048x340, .f32⟩
  | .hbm, ⟨9, _⟩ => ⟨S2048x340, .f32⟩
  | .hbm, ⟨10, _⟩ => ⟨S2048x340, .f32⟩
  | .local _ .vmem, ⟨0, _⟩ => ⟨S256x340, .f32⟩
  | .local _ .vmem, ⟨1, _⟩ => ⟨S256x340, .f32⟩
  | .local _ .vmem, ⟨2, _⟩ => ⟨S256x340, .f32⟩
  | .local _ .vmem, ⟨3, _⟩ => ⟨S256x340, .f32⟩
  | .local _ .vmem, ⟨4, _⟩ => ⟨S256x340, .f32⟩
  | .local _ .vmem, ⟨5, _⟩ => ⟨S256x340, .f32⟩
  | .local _ .vmem, ⟨6, _⟩ => ⟨S256x340, .f32⟩
  | .local _ .vmem, ⟨7, _⟩ => ⟨S256x340, .f32⟩
  | .local _ .vmem, ⟨8, _⟩ => ⟨S256x340, .f32⟩
  | .local _ .vmem, ⟨9, _⟩ => ⟨S256x340, .f32⟩
  | .local _ .vmem, ⟨10, _⟩ => ⟨S256x340, .f32⟩
  | .local _ .vmem, ⟨11, _⟩ => ⟨S256x340, .f32⟩
  | .local _ .vmem, ⟨12, _⟩ => ⟨S256x340, .f32⟩
  | .local _ .vmem, ⟨13, _⟩ => ⟨S256x340, .f32⟩
  | _, _ => ⟨S2x1024x340, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x340 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x340 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x340 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x340 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x340 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x340 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x340 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepInEvenKernelIdeal.lean ====
abbrev S2x1024x340 : Shape := ⟨3, ![2, 1024, 340]⟩
abbrev S2048x340 : Shape := ⟨2, ![2048, 340]⟩
abbrev S256x340 : Shape := ⟨2, ![256, 340]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x340, .f32⟩
  | .hbm, ⟨1, _⟩ => ⟨S2x1024x340, .f32⟩
  | .hbm, ⟨2, _⟩ => ⟨S2x1024x340, .f32⟩
  | .hbm, ⟨3, _⟩ => ⟨S2x1024x340, .f32⟩
  | .hbm, ⟨4, _⟩ => ⟨S2048x340, .f32⟩
  | .hbm, ⟨5, _⟩ => ⟨S2048x340, .f32⟩
  | .hbm, ⟨6, _⟩ => ⟨S2048x340, .f32⟩
  | .hbm, ⟨7, _⟩ => ⟨S2048x340, .f32⟩
  | .hbm, ⟨8, _⟩ => ⟨S2048x340, .f32⟩
  | .hbm, ⟨9, _⟩ => ⟨S2048x340, .f32⟩
  | .hbm, ⟨10, _⟩ => ⟨S2048x340, .f32⟩
  | .local _ .vmem, ⟨0, _⟩ => ⟨S256x340, .f32⟩
  | .local _ .vmem, ⟨1, _⟩ => ⟨S256x340, .f32⟩
  | .local _ .vmem, ⟨2, _⟩ => ⟨S256x340, .f32⟩
  | .local _ .vmem, ⟨3, _⟩ => ⟨S256x340, .f32⟩
  | .local _ .vmem, ⟨4, _⟩ => ⟨S256x340, .f32⟩
  | .local _ .vmem, ⟨5, _⟩ => ⟨S256x340, .f32⟩
  | .local _ .vmem, ⟨6, _⟩ => ⟨S256x340, .f32⟩
  | .local _ .vmem, ⟨7, _⟩ => ⟨S256x340, .f32⟩
  | .local _ .vmem, ⟨8, _⟩ => ⟨S256x340, .f32⟩
  | .local _ .vmem, ⟨9, _⟩ => ⟨S256x340, .f32⟩
  | .local _ .vmem, ⟨10, _⟩ => ⟨S256x340, .f32⟩
  | .local _ .vmem, ⟨11, _⟩ => ⟨S256x340, .f32⟩
  | .local _ .vmem, ⟨12, _⟩ => ⟨S256x340, .f32⟩
  | .local _ .vmem, ⟨13, _⟩ => ⟨S256x340, .f32⟩
  | _, _ => ⟨S2x1024x340, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x340 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x340 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x340 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x340 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x340 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x340 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x340 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepInEvenReferenceIdeal.lean ====
abbrev S2x1024x340 : Shape := ⟨3, ![2, 1024, 340]⟩
abbrev S_ : Shape := ⟨0, ![]⟩
abbrev S2048x340 : Shape := ⟨2, ![2048, 340]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x340, .f32⟩
  | .hbm, ⟨1, _⟩ => ⟨S2x1024x340, .f32⟩
  | .hbm, ⟨2, _⟩ => ⟨S2x1024x340, .f32⟩
  | .hbm, ⟨3, _⟩ => ⟨S2x1024x340, .f32⟩
  | .hbm, ⟨4, _⟩ => ⟨S_, .f32⟩
  | .hbm, ⟨5, _⟩ => ⟨S2x1024x340, .f32⟩
  | .hbm, ⟨6, _⟩ => ⟨S2x1024x340, .f32⟩
  | .hbm, ⟨7, _⟩ => ⟨S_, .f32⟩
  | .hbm, ⟨8, _⟩ => ⟨S2x1024x340, .f32⟩
  | .hbm, ⟨9, _⟩ => ⟨S2x1024x340, .f32⟩
  | .hbm, ⟨10, _⟩ => ⟨S2x1024x340, .f32⟩
  | .hbm, ⟨11, _⟩ => ⟨S_, .f32⟩
  | .hbm, ⟨12, _⟩ => ⟨S2x1024x340, .f32⟩
  | .hbm, ⟨13, _⟩ => ⟨S2x1024x340, .f32⟩
  | .hbm, ⟨14, _⟩ => ⟨S2x1024x340, .f32⟩
  | .hbm, ⟨15, _⟩ => ⟨S_, .f32⟩
  | .hbm, ⟨16, _⟩ => ⟨S2x1024x340, .f32⟩
  | .hbm, ⟨17, _⟩ => ⟨S2x1024x340, .f32⟩
  | .hbm, ⟨18, _⟩ => ⟨S2x1024x340, .f32⟩
  | .hbm, ⟨19, _⟩ => ⟨S_, .f32⟩
  | .hbm, ⟨20, _⟩ => ⟨S2x1024x340, .f32⟩
  | .hbm, ⟨21, _⟩ => ⟨S2x1024x340, .f32⟩
  | .hbm, ⟨22, _⟩ => ⟨S_, .f32⟩
  | .hbm, ⟨23, _⟩ => ⟨S2x1024x340, .f32⟩
  | .hbm, ⟨24, _⟩ => ⟨S2x1024x340, .f32⟩
  | .hbm, ⟨25, _⟩ => ⟨S2x1024x340, .f32⟩
  | .hbm, ⟨26, _⟩ => ⟨S_, .f32⟩
  | .hbm, ⟨27, _⟩ => ⟨S2x1024x340, .f32⟩
  | .hbm, ⟨28, _⟩ => ⟨S2x1024x340, .f32⟩
  | .hbm, ⟨29, _⟩ => ⟨S2x1024x340, .f32⟩
  | .hbm, ⟨30, _⟩ => ⟨S_, .f32⟩
  | .hbm, ⟨31, _⟩ => ⟨S2x1024x340, .f32⟩
  | .hbm, ⟨32, _⟩ => ⟨S2x1024x340, .f32⟩
  | .hbm, ⟨33, _⟩ => ⟨S2x1024x340, .f32⟩
  | .hbm, ⟨34, _⟩ => ⟨S_, .f32⟩
  | .hbm, ⟨35, _⟩ => ⟨S2x1024x340, .f32⟩
  | .hbm, ⟨36, _⟩ => ⟨S2x1024x340, .f32⟩
  | .hbm, ⟨37, _⟩ => ⟨S2048x340, .f32⟩
  | .hbm, ⟨38, _⟩ => ⟨S2048x340, .f32⟩
  | .hbm, ⟨39, _⟩ => ⟨S2048x340, .f32⟩
  | _, _ => ⟨S2x1024x340, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== StepOutKernel.lean ====
abbrev S2x128x1024 : Shape := ⟨3, ![2, 128, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepOutKernelIdeal.lean ====
abbrev S2x128x1024 : Shape := ⟨3, ![2, 128, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepOutReferenceIdeal.lean ====
abbrev S2x128x1024 : Shape := ⟨3, ![2, 128, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S_, .f32⟩
  | .hbm, ⟨5, _⟩ => ⟨S2x128x1024, .f32⟩
  | .hbm, ⟨6, _⟩ => ⟨S2x128x1024, .f32⟩
  | .hbm, ⟨7, _⟩ => ⟨S_, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S_, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .hbm, ⟨15, _⟩ => ⟨S_, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S_, .f32⟩
  | .hbm, ⟨23, _⟩ => ⟨S2x128x1024, .f32⟩
  | .hbm, ⟨24, _⟩ => ⟨S2x128x1024, .f32⟩
  | .hbm, ⟨25, _⟩ => ⟨S2x128x1024, .f32⟩
  | .hbm, ⟨26, _⟩ => ⟨S_, .f32⟩
  | .hbm, ⟨27, _⟩ => ⟨S2x128x1024, .f32⟩
  | .hbm, ⟨28, _⟩ => ⟨S2x128x1024, .f32⟩
  | .hbm, ⟨29, _⟩ => ⟨S2x128x1024, .f32⟩
  | .hbm, ⟨30, _⟩ => ⟨S_, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== StepInOddKernel.lean ====
abbrev S2x1024x388 : Shape := ⟨3, ![2, 1024, 388]⟩
abbrev S2048x388 : Shape := ⟨2, ![2048, 388]⟩
abbrev S256x388 : Shape := ⟨2, ![256, 388]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x388, .f32⟩
  | .hbm, ⟨1, _⟩ => ⟨S2x1024x388, .f32⟩
  | .hbm, ⟨2, _⟩ => ⟨S2x1024x388, .f32⟩
  | .hbm, ⟨3, _⟩ => ⟨S2x1024x388, .f32⟩
  | .hbm, ⟨4, _⟩ => ⟨S2048x388, .f32⟩
  | .hbm, ⟨5, _⟩ => ⟨S2048x388, .f32⟩
  | .hbm, ⟨6, _⟩ => ⟨S2048x388, .f32⟩
  | .hbm, ⟨7, _⟩ => ⟨S2048x388, .f32⟩
  | .hbm, ⟨8, _⟩ => ⟨S2048x388, .f32⟩
  | .hbm, ⟨9, _⟩ => ⟨S2048x388, .f32⟩
  | .hbm, ⟨10, _⟩ => ⟨S2048x388, .f32⟩
  | .local _ .vmem, ⟨0, _⟩ => ⟨S256x388, .f32⟩
  | .local _ .vmem, ⟨1, _⟩ => ⟨S256x388, .f32⟩
  | .local _ .vmem, ⟨2, _⟩ => ⟨S256x388, .f32⟩
  | .local _ .vmem, ⟨3, _⟩ => ⟨S256x388, .f32⟩
  | .local _ .vmem, ⟨4, _⟩ => ⟨S256x388, .f32⟩
  | .local _ .vmem, ⟨5, _⟩ => ⟨S256x388, .f32⟩
  | .local _ .vmem, ⟨6, _⟩ => ⟨S256x388, .f32⟩
  | .local _ .vmem, ⟨7, _⟩ => ⟨S256x388, .f32⟩
  | .local _ .vmem, ⟨8, _⟩ => ⟨S256x388, .f32⟩
  | .local _ .vmem, ⟨9, _⟩ => ⟨S256x388, .f32⟩
  | .local _ .vmem, ⟨10, _⟩ => ⟨S256x388, .f32⟩
  | .local _ .vmem, ⟨11, _⟩ => ⟨S256x388, .f32⟩
  | .local _ .vmem, ⟨12, _⟩ => ⟨S256x388, .f32⟩
  | .local _ .vmem, ⟨13, _⟩ => ⟨S256x388, .f32⟩
  | _, _ => ⟨S2x1024x388, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x388 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x388 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x388 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x388 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x388 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x388 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x388 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepInOddKernelIdeal.lean ====
abbrev S2x1024x388 : Shape := ⟨3, ![2, 1024, 388]⟩
abbrev S2048x388 : Shape := ⟨2, ![2048, 388]⟩
abbrev S256x388 : Shape := ⟨2, ![256, 388]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x388, .f32⟩
  | .hbm, ⟨1, _⟩ => ⟨S2x1024x388, .f32⟩
  | .hbm, ⟨2, _⟩ => ⟨S2x1024x388, .f32⟩
  | .hbm, ⟨3, _⟩ => ⟨S2x1024x388, .f32⟩
  | .hbm, ⟨4, _⟩ => ⟨S2048x388, .f32⟩
  | .hbm, ⟨5, _⟩ => ⟨S2048x388, .f32⟩
  | .hbm, ⟨6, _⟩ => ⟨S2048x388, .f32⟩
  | .hbm, ⟨7, _⟩ => ⟨S2048x388, .f32⟩
  | .hbm, ⟨8, _⟩ => ⟨S2048x388, .f32⟩
  | .hbm, ⟨9, _⟩ => ⟨S2048x388, .f32⟩
  | .hbm, ⟨10, _⟩ => ⟨S2048x388, .f32⟩
  | .local _ .vmem, ⟨0, _⟩ => ⟨S256x388, .f32⟩
  | .local _ .vmem, ⟨1, _⟩ => ⟨S256x388, .f32⟩
  | .local _ .vmem, ⟨2, _⟩ => ⟨S256x388, .f32⟩
  | .local _ .vmem, ⟨3, _⟩ => ⟨S256x388, .f32⟩
  | .local _ .vmem, ⟨4, _⟩ => ⟨S256x388, .f32⟩
  | .local _ .vmem, ⟨5, _⟩ => ⟨S256x388, .f32⟩
  | .local _ .vmem, ⟨6, _⟩ => ⟨S256x388, .f32⟩
  | .local _ .vmem, ⟨7, _⟩ => ⟨S256x388, .f32⟩
  | .local _ .vmem, ⟨8, _⟩ => ⟨S256x388, .f32⟩
  | .local _ .vmem, ⟨9, _⟩ => ⟨S256x388, .f32⟩
  | .local _ .vmem, ⟨10, _⟩ => ⟨S256x388, .f32⟩
  | .local _ .vmem, ⟨11, _⟩ => ⟨S256x388, .f32⟩
  | .local _ .vmem, ⟨12, _⟩ => ⟨S256x388, .f32⟩
  | .local _ .vmem, ⟨13, _⟩ => ⟨S256x388, .f32⟩
  | _, _ => ⟨S2x1024x388, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x388 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x388 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x388 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x388 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x388 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x388 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x388 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepInOddReferenceIdeal.lean ====
abbrev S2x1024x388 : Shape := ⟨3, ![2, 1024, 388]⟩
abbrev S_ : Shape := ⟨0, ![]⟩
abbrev S2048x388 : Shape := ⟨2, ![2048, 388]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x388, .f32⟩
  | .hbm, ⟨1, _⟩ => ⟨S2x1024x388, .f32⟩
  | .hbm, ⟨2, _⟩ => ⟨S2x1024x388, .f32⟩
  | .hbm, ⟨3, _⟩ => ⟨S2x1024x388, .f32⟩
  | .hbm, ⟨4, _⟩ => ⟨S_, .f32⟩
  | .hbm, ⟨5, _⟩ => ⟨S2x1024x388, .f32⟩
  | .hbm, ⟨6, _⟩ => ⟨S2x1024x388, .f32⟩
  | .hbm, ⟨7, _⟩ => ⟨S_, .f32⟩
  | .hbm, ⟨8, _⟩ => ⟨S2x1024x388, .f32⟩
  | .hbm, ⟨9, _⟩ => ⟨S2x1024x388, .f32⟩
  | .hbm, ⟨10, _⟩ => ⟨S2x1024x388, .f32⟩
  | .hbm, ⟨11, _⟩ => ⟨S_, .f32⟩
  | .hbm, ⟨12, _⟩ => ⟨S2x1024x388, .f32⟩
  | .hbm, ⟨13, _⟩ => ⟨S2x1024x388, .f32⟩
  | .hbm, ⟨14, _⟩ => ⟨S2x1024x388, .f32⟩
  | .hbm, ⟨15, _⟩ => ⟨S_, .f32⟩
  | .hbm, ⟨16, _⟩ => ⟨S2x1024x388, .f32⟩
  | .hbm, ⟨17, _⟩ => ⟨S2x1024x388, .f32⟩
  | .hbm, ⟨18, _⟩ => ⟨S2x1024x388, .f32⟩
  | .hbm, ⟨19, _⟩ => ⟨S_, .f32⟩
  | .hbm, ⟨20, _⟩ => ⟨S2x1024x388, .f32⟩
  | .hbm, ⟨21, _⟩ => ⟨S2x1024x388, .f32⟩
  | .hbm, ⟨22, _⟩ => ⟨S_, .f32⟩
  | .hbm, ⟨23, _⟩ => ⟨S2x1024x388, .f32⟩
  | .hbm, ⟨24, _⟩ => ⟨S2x1024x388, .f32⟩
  | .hbm, ⟨25, _⟩ => ⟨S2x1024x388, .f32⟩
  | .hbm, ⟨26, _⟩ => ⟨S_, .f32⟩
  | .hbm, ⟨27, _⟩ => ⟨S2x1024x388, .f32⟩
  | .hbm, ⟨28, _⟩ => ⟨S2x1024x388, .f32⟩
  | .hbm, ⟨29, _⟩ => ⟨S2x1024x388, .f32⟩
  | .hbm, ⟨30, _⟩ => ⟨S_, .f32⟩
  | .hbm, ⟨31, _⟩ => ⟨S2x1024x388, .f32⟩
  | .hbm, ⟨32, _⟩ => ⟨S2x1024x388, .f32⟩
  | .hbm, ⟨33, _⟩ => ⟨S2x1024x388, .f32⟩
  | .hbm, ⟨34, _⟩ => ⟨S_, .f32⟩
  | .hbm, ⟨35, _⟩ => ⟨S2x1024x388, .f32⟩
  | .hbm, ⟨36, _⟩ => ⟨S2x1024x388, .f32⟩
  | .hbm, ⟨37, _⟩ => ⟨S2048x388, .f32⟩
  | .hbm, ⟨38, _⟩ => ⟨S2048x388, .f32⟩
  | .hbm, ⟨39, _⟩ => ⟨S2048x388, .f32⟩
  | _, _ => ⟨S2x1024x388, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== StepUpKernel.lean ====
abbrev S4x1024x704 : Shape := ⟨3, ![4, 1024, 704]⟩
abbrev S4096x704 : Shape := ⟨2, ![4096, 704]⟩
abbrev S256x704 : Shape := ⟨2, ![256, 704]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepUpKernelIdeal.lean ====
abbrev S4x1024x704 : Shape := ⟨3, ![4, 1024, 704]⟩
abbrev S4096x704 : Shape := ⟨2, ![4096, 704]⟩
abbrev S256x704 : Shape := ⟨2, ![256, 704]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepUpReferenceIdeal.lean ====
abbrev S4x1024x704 : Shape := ⟨3, ![4, 1024, 704]⟩
abbrev S_ : Shape := ⟨0, ![]⟩
abbrev S4096x704 : Shape := ⟨2, ![4096, 704]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S_, .f32⟩
  | .hbm, ⟨5, _⟩ => ⟨S4x1024x704, .f32⟩
  | .hbm, ⟨6, _⟩ => ⟨S4x1024x704, .f32⟩
  | .hbm, ⟨7, _⟩ => ⟨S_, .f32⟩
  | .hbm, ⟨8, _⟩ => ⟨S4x1024x704, .f32⟩
  | .hbm, ⟨9, _⟩ => ⟨S4x1024x704, .f32⟩
  | .hbm, ⟨10, _⟩ => ⟨S4x1024x704, .f32⟩
  | .hbm, ⟨11, _⟩ => ⟨S_, .f32⟩
  | .hbm, ⟨12, _⟩ => ⟨S4x1024x704, .f32⟩
  | .hbm, ⟨13, _⟩ => ⟨S4x1024x704, .f32⟩
  | .hbm, ⟨14, _⟩ => ⟨S4x1024x704, .f32⟩
  | .hbm, ⟨15, _⟩ => ⟨S_, .f32⟩
  | .hbm, ⟨16, _⟩ => ⟨S4x1024x704, .f32⟩
  | .hbm, ⟨17, _⟩ => ⟨S4x1024x704, .f32⟩
  | .hbm, ⟨18, _⟩ => ⟨S4x1024x704, .f32⟩
  | .hbm, ⟨19, _⟩ => ⟨S_, .f32⟩
  | .hbm, ⟨20, _⟩ => ⟨S4x1024x704, .f32⟩
  | .hbm, ⟨21, _⟩ => ⟨S4x1024x704, .f32⟩
  | .hbm, ⟨22, _⟩ => ⟨S_, .f32⟩
  | .hbm, ⟨23, _⟩ => ⟨S4x1024x704, .f32⟩
  | .hbm, ⟨24, _⟩ => ⟨S4x1024x704, .f32⟩
  | .hbm, ⟨25, _⟩ => ⟨S4x1024x704, .f32⟩
  | .hbm, ⟨26, _⟩ => ⟨S_, .f32⟩
  | .hbm, ⟨27, _⟩ => ⟨S4x1024x704, .f32⟩
  | .hbm, ⟨28, _⟩ => ⟨S4x1024x704, .f32⟩
  | .hbm, ⟨29, _⟩ => ⟨S4x1024x704, .f32⟩
  | .hbm, ⟨30, _⟩ => ⟨S_, .f32⟩
  | .hbm, ⟨31, _⟩ => ⟨S4x1024x704, .f32⟩
  | .hbm, ⟨32, _⟩ => ⟨S4x1024x704, .f32⟩
  | .hbm, ⟨33, _⟩ => ⟨S4x1024x704, .f32⟩
  | .hbm, ⟨34, _⟩ => ⟨S_, .f32⟩
  | .hbm, ⟨35, _⟩ => ⟨S4x1024x704, .f32⟩
  | .hbm, ⟨36, _⟩ => ⟨S4x1024x704, .f32⟩
  | .hbm, ⟨37, _⟩ => ⟨S4096x704, .f32⟩
  | .hbm, ⟨38, _⟩ => ⟨S4096x704, .f32⟩
  | .hbm, ⟨39, _⟩ => ⟨S4096x704, .f32⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== StepDownKernel.lean ====
abbrev S4x352x1024 : Shape := ⟨3, ![4, 352, 1024]⟩
abbrev S1408x1024 : Shape := ⟨2, ![1408, 1024]⟩
abbrev S176x1024 : Shape := ⟨2, ![176, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepDownReferenceIdeal.lean ====
abbrev S4x352x1024 : Shape := ⟨3, ![4, 352, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S_, .f32⟩
  | .hbm, ⟨5, _⟩ => ⟨S4x352x1024, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== StepSmallKernel.lean ====
abbrev S2x384x96 : Shape := ⟨3, ![2, 384, 96]⟩
abbrev S2x256x128 : Shape := ⟨3, ![2, 256, 128]⟩
abbrev S2x128 : Shape := ⟨2, ![2, 128]⟩
abbrev S2x16x64 : Shape := ⟨3, ![2, 16, 64]⟩
abbrev S2x64 : Shape := ⟨2, ![2, 64]⟩
abbrev S2x4x32 : Shape := ⟨3, ![2, 4, 32]⟩
abbrev S4x3x352 : Shape := ⟨3, ![4, 3, 352]⟩
abbrev S2x1024 : Shape := ⟨2, ![2, 1024]⟩
abbrev S2x384 : Shape := ⟨2, ![2, 384]⟩
abbrev S2x256 : Shape := ⟨2, ![2, 256]⟩
abbrev S2x96 : Shape := ⟨2, ![2, 96]⟩
abbrev S2x8 : Shape := ⟨2, ![2, 8]⟩
abbrev S2x8x64 : Shape := ⟨3, ![2, 8, 64]⟩
abbrev S4x1024 : Shape := ⟨2, ![4, 1024]⟩
abbrev S4x2816 : Shape := ⟨2, ![4, 2816]⟩
abbrev S73728 : Shape := ⟨1, ![73728]⟩
abbrev S65536 : Shape := ⟨1, ![65536]⟩
abbrev S256 : Shape := ⟨1, ![256]⟩
abbrev S2048 : Shape := ⟨1, ![2048]⟩
abbrev S128 : Shape := ⟨1, ![128]⟩
abbrev S4224 : Shape := ⟨1, ![4224]⟩
abbrev S148352 : Shape := ⟨1, ![148352]⟩
abbrev S_ : Shape := ⟨0, ![]⟩
abbrev S155648 : Shape := ⟨1, ![155648]⟩
abbrev S152x1024 : Shape := ⟨2, ![152, 1024]⟩
abbrev S768 : Shape := ⟨1, ![768]⟩
abbrev S512 : Shape := ⟨1, ![512]⟩
abbrev S192 : Shape := ⟨1, ![192]⟩
abbrev S16 : Shape := ⟨1, ![16]⟩
abbrev S1024 : Shape := ⟨1, ![1024]⟩
abbrev S4096 : Shape := ⟨1, ![4096]⟩
abbrev S11264 : Shape := ⟨1, ![11264]⟩
abbrev S20128 : Shape := ⟨1, ![20128]⟩
abbrev S24576 : Shape := ⟨1, ![24576]⟩
abbrev S24x1024 : Shape := ⟨2, ![24, 1024]⟩
abbrev S80x1024 : Shape := ⟨2, ![80, 1024]⟩
abbrev S256x1024 : Shape := ⟨2, ![256, 1024]⟩

abbrev nBuf : Space → Nat
  | .hbm => 333
  | .vmem => 7
  | .smem => 0
  | _ => 0

abbrev hbmTy0_0 (i : Nat) : BufTy := match i % 128 with
  | 0 => ⟨S2x384x96, .f32⟩
  | 1 => ⟨S2x256x128, .f32⟩
  | 2 => ⟨S2x128, .f32⟩
  | 3 => ⟨S2x16x64, .f32⟩
  | 4 => ⟨S2x64, .f32⟩
  | 5 => ⟨S2x16x64, .f32⟩
  | 6 => ⟨S2x64, .f32⟩
  | 7 => ⟨S2x4x32, .f32⟩
  | 8 => ⟨S4x3x352, .f32⟩
  | 9 => ⟨S2x1024, .f32⟩
  | 10 => ⟨S2x384, .f32⟩
  | 11 => ⟨S2x256, .f32⟩
  | 12 => ⟨S2x96, .f32⟩
  | 13 => ⟨S2x96, .f32⟩
  | 14 => ⟨S2x8, .f32⟩
  | 15 => ⟨S2x8, .f32⟩
  | 16 => ⟨S2x8x64, .f32⟩
  | 17 => ⟨S4x1024, .f32⟩
  | 18 => ⟨S4x2816, .f32⟩
  | 19 => ⟨S2x384x96, .f32⟩
  | 20 => ⟨S2x256x128, .f32⟩
  | 21 => ⟨S2x128, .f32⟩
  | 22 => ⟨S2x16x64, .f32⟩
  | 23 => ⟨S2x64, .f32⟩
  | 24 => ⟨S2x16x64, .f32⟩
  | 25 => ⟨S2x64, .f32⟩
  | 26 => ⟨S2x4x32, .f32⟩
  | 27 => ⟨S4x3x352, .f32⟩
  | 28 => ⟨S2x1024, .f32⟩
  | 29 => ⟨S2x384, .f32⟩
  | 30 => ⟨S2x256, .f32⟩
  | 31 => ⟨S2x96, .f32⟩
  | 32 => ⟨S2x96, .f32⟩
  | 33 => ⟨S2x8, .f32⟩
  | 34 => ⟨S2x8, .f32⟩
  | 35 => ⟨S2x8x64, .f32⟩
  | 36 => ⟨S4x1024, .f32⟩
  | 37 => ⟨S4x2816, .f32⟩
  | 38 => ⟨S2x384x96, .f32⟩
  | 39 => ⟨S2x256x128, .f32⟩
  | 40 => ⟨S2x128, .f32⟩
  | 41 => ⟨S2x16x64, .f32⟩
  | 42 => ⟨S2x64, .f32⟩
  | 43 => ⟨S2x16x64, .f32⟩
  | 44 => ⟨S2x64, .f32⟩
  | 45 => ⟨S2x4x32, .f32⟩
  | 46 => ⟨S4x3x352, .f32⟩
  | 47 => ⟨S2x1024, .f32⟩
  | 48 => ⟨S2x384, .f32⟩
  | 49 => ⟨S2x256, .f32⟩
  | 50 => ⟨S2x96, .f32⟩
  | 51 => ⟨S2x96, .f32⟩
  | 52 => ⟨S2x8, .f32⟩
  | 53 => ⟨S2x8, .f32⟩
  | 54 => ⟨S2x8x64, .f32⟩
  | 55 => ⟨S4x1024, .f32⟩
  | 56 => ⟨S4x2816, .f32⟩
  | 57 => ⟨S2x384x96, .f32⟩
  | 58 => ⟨S2x256x128, .f32⟩
  | 59 => ⟨S2x128, .f32⟩
  | 60 => ⟨S2x16x64, .f32⟩
  | 61 => ⟨S2x64, .f32⟩
  | 62 => ⟨S2x16x64, .f32⟩
  | 63 => ⟨S2x64, .f32⟩
  | 64 => ⟨S2x4x32, .f32⟩
  | 65 => ⟨S4x3x352, .f32⟩
  | 66 => ⟨S2x1024, .f32⟩
  | 67 => ⟨S2x384, .f32⟩
  | 68 => ⟨S2x256, .f32⟩
  | 69 => ⟨S2x96, .f32⟩
  | 70 => ⟨S2x96, .f32⟩
  | 71 => ⟨S2x8, .f32⟩
  | 72 => ⟨S2x8, .f32⟩
  | 73 => ⟨S2x8x64, .f32⟩
  | 74 => ⟨S4x1024, .f32⟩
  | 75 => ⟨S4x2816, .f32⟩
  | 76 => ⟨S73728, .f32⟩
  | 77 => ⟨S65536, .f32⟩
  | 78 => ⟨S256, .f32⟩
  | 79 => ⟨S2048, .f32⟩
  | 80 => ⟨S128, .f32⟩
  | 81 => ⟨S2048, .f32⟩
  | 82 => ⟨S128, .f32⟩
  | 83 => ⟨S256, .f32⟩
  | 84 => ⟨S4224, .f32⟩
  | 85 => ⟨S148352, .f32⟩
  | 86 => ⟨S_, .i32⟩
  | 87 => ⟨S_, .f32⟩
  | 88 => ⟨S155648, .f32⟩
  | 89 => ⟨S152x1024, .f32⟩
  | 90 => ⟨S2048, .f32⟩
  | 91 => ⟨S768, .f32⟩
  | 92 => ⟨S512, .f32⟩
  | 93 => ⟨S192, .f32⟩
  | 94 => ⟨S192, .f32⟩
  | 95 => ⟨S16, .f32⟩
  | 96 => ⟨S16, .f32⟩
  | 97 => ⟨S1024, .f32⟩
  | 98 => ⟨S4096, .f32⟩
  | 99 => ⟨S11264, .f32⟩
  | 100 => ⟨S20128, .f32⟩
  | 101 => ⟨S_, .i32⟩
  | 102 => ⟨S_, .f32⟩
  | 103 => ⟨S24576, .f32⟩
  | 104 => ⟨S24x1024, .f32⟩
  | 105 => ⟨S_, .f32⟩
  | 106 => ⟨S80x1024, .f32⟩
  | 107 => ⟨S256x1024, .f32⟩
  | 108 => ⟨S73728, .f32⟩
  | 109 => ⟨S65536, .f32⟩
  | 110 => ⟨S256, .f32⟩
  | 111 => ⟨S2048, .f32⟩
  | 112 => ⟨S128, .f32⟩
  | 113 => ⟨S2048, .f32⟩
  | 114 => ⟨S128, .f32⟩
  | 115 => ⟨S256, .f32⟩
  | 116 => ⟨S4224, .f32⟩
  | 117 => ⟨S148352, .f32⟩
  | 118 => ⟨S_, .i32⟩
  | 119 => ⟨S_, .f32⟩
  | 120 => ⟨S155648, .f32⟩
  | 121 => ⟨S152x1024, .f32⟩
  | 122 => ⟨S2048, .f32⟩
  | 123 => ⟨S768, .f32⟩
  | 124 => ⟨S512, .f32⟩
  | 125 => ⟨S192, .f32⟩
  | 126 => ⟨S192, .f32⟩
  | 127 => ⟨S16, .f32⟩
  | _ => ⟨S2x384x96, .f32⟩

abbrev hbmTy0_1 (i : Nat) : BufTy := match i % 128 with
  | 0 => ⟨S16, .f32⟩
  | 1 => ⟨S1024, .f32⟩
  | 2 => ⟨S4096, .f32⟩
  | 3 => ⟨S11264, .f32⟩
  | 4 => ⟨S20128, .f32⟩
  | 5 => ⟨S_, .i32⟩
  | 6 => ⟨S_, .f32⟩
  | 7 => ⟨S24576, .f32⟩
  | 8 => ⟨S24x1024, .f32⟩
  | 9 => ⟨S_, .f32⟩
  | 10 => ⟨S80x1024, .f32⟩
  | 11 => ⟨S256x1024, .f32⟩
  | 12 => ⟨S73728, .f32⟩
  | 13 => ⟨S65536, .f32⟩
  | 14 => ⟨S256, .f32⟩
  | 15 => ⟨S2048, .f32⟩
  | 16 => ⟨S128, .f32⟩
  | 17 => ⟨S2048, .f32⟩
  | 18 => ⟨S128, .f32⟩
  | 19 => ⟨S256, .f32⟩
  | 20 => ⟨S4224, .f32⟩
  | 21 => ⟨S148352, .f32⟩
  | 22 => ⟨S_, .i32⟩
  | 23 => ⟨S_, .f32⟩
  | 24 => ⟨S155648, .f32⟩
  | 25 => ⟨S152x1024, .f32⟩
  | 26 => ⟨S2048, .f32⟩
  | 27 => ⟨S768, .f32⟩
  | 28 => ⟨S512, .f32⟩
  | 29 => ⟨S192, .f32⟩
  | 30 => ⟨S192, .f32⟩
  | 31 => ⟨S16, .f32⟩
  | 32 => ⟨S16, .f32⟩
  | 33 => ⟨S1024, .f32⟩
  | 34 => ⟨S4096, .f32⟩
  | 35 => ⟨S11264, .f32⟩
  | 36 => ⟨S20128, .f32⟩
  | 37 => ⟨S_, .i32⟩
  | 38 => ⟨S_, .f32⟩
  | 39 => ⟨S24576, .f32⟩
  | 40 => ⟨S24x1024, .f32⟩
  | 41 => ⟨S_, .f32⟩
  | 42 => ⟨S80x1024, .f32⟩
  | 43 => ⟨S256x1024, .f32⟩
  | 44 => ⟨S73728, .f32⟩
  | 45 => ⟨S65536, .f32⟩
  | 46 => ⟨S256, .f32⟩
  | 47 => ⟨S2048, .f32⟩
  | 48 => ⟨S128, .f32⟩
  | 49 => ⟨S2048, .f32⟩
  | 50 => ⟨S128, .f32⟩
  | 51 => ⟨S256, .f32⟩
  | 52 => ⟨S4224, .f32⟩
  | 53 => ⟨S148352, .f32⟩
  | 54 => ⟨S_, .i32⟩
  | 55 => ⟨S_, .f32⟩
  | 56 => ⟨S155648, .f32⟩
  | 57 => ⟨S152x1024, .f32⟩
  | 58 => ⟨S2048, .f32⟩
  | 59 => ⟨S768, .f32⟩
  | 60 => ⟨S512, .f32⟩
  | 61 => ⟨S192, .f32⟩
  | 62 => ⟨S192, .f32⟩
  | 63 => ⟨S16, .f32⟩
  | 64 => ⟨S16, .f32⟩
  | 65 => ⟨S1024, .f32⟩
  | 66 => ⟨S4096, .f32⟩
  | 67 => ⟨S11264, .f32⟩
  | 68 => ⟨S20128, .f32⟩
  | 69 => ⟨S_, .i32⟩
  | 70 => ⟨S_, .f32⟩
  | 71 => ⟨S24576, .f32⟩
  | 72 => ⟨S24x1024, .f32⟩
  | 73 => ⟨S_, .f32⟩
  | 74 => ⟨S80x1024, .f32⟩
  | 75 => ⟨S256x1024, .f32⟩
  | 76 => ⟨S256x1024, .f32⟩
  | 77 => ⟨S256x1024, .f32⟩
  | 78 => ⟨S256x1024, .f32⟩
  | 79 => ⟨S152x1024, .f32⟩
  | 80 => ⟨S155648, .f32⟩
  | 81 => ⟨S24x1024, .f32⟩
  | 82 => ⟨S24576, .f32⟩
  | 83 => ⟨S73728, .f32⟩
  | 84 => ⟨S2x384x96, .f32⟩
  | 85 => ⟨S65536, .f32⟩
  | 86 => ⟨S2x256x128, .f32⟩
  | 87 => ⟨S256, .f32⟩
  | 88 => ⟨S2x128, .f32⟩
  | 89 => ⟨S2048, .f32⟩
  | 90 => ⟨S2x16x64, .f32⟩
  | 91 => ⟨S128, .f32⟩
  | 92 => ⟨S2x64, .f32⟩
  | 93 => ⟨S2048, .f32⟩
  | 94 => ⟨S2x16x64, .f32⟩
  | 95 => ⟨S128, .f32⟩
  | 96 => ⟨S2x64, .f32⟩
  | 97 => ⟨S256, .f32⟩
  | 98 => ⟨S2x4x32, .f32⟩
  | 99 => ⟨S4224, .f32⟩
  | 100 => ⟨S4x3x352, .f32⟩
  | 101 => ⟨S2048, .f32⟩
  | 102 => ⟨S2x1024, .f32⟩
  | 103 => ⟨S768, .f32⟩
  | 104 => ⟨S2x384, .f32⟩
  | 105 => ⟨S512, .f32⟩
  | 106 => ⟨S2x256, .f32⟩
  | 107 => ⟨S192, .f32⟩
  | 108 => ⟨S2x96, .f32⟩
  | 109 => ⟨S192, .f32⟩
  | 110 => ⟨S2x96, .f32⟩
  | 111 => ⟨S16, .f32⟩
  | 112 => ⟨S2x8, .f32⟩
  | 113 => ⟨S16, .f32⟩
  | 114 => ⟨S2x8, .f32⟩
  | 115 => ⟨S1024, .f32⟩
  | 116 => ⟨S2x8x64, .f32⟩
  | 117 => ⟨S4096, .f32⟩
  | 118 => ⟨S4x1024, .f32⟩
  | 119 => ⟨S11264, .f32⟩
  | 120 => ⟨S4x2816, .f32⟩
  | 121 => ⟨S152x1024, .f32⟩
  | 122 => ⟨S155648, .f32⟩
  | 123 => ⟨S24x1024, .f32⟩
  | 124 => ⟨S24576, .f32⟩
  | 125 => ⟨S73728, .f32⟩
  | 126 => ⟨S2x384x96, .f32⟩
  | 127 => ⟨S65536, .f32⟩
  | _ => ⟨S2x384x96, .f32⟩

abbrev hbmTy0_2 (i : Nat) : BufTy := match i % 128 with
  | 0 => ⟨S2x256x128, .f32⟩
  | 1 => ⟨S256, .f32⟩
  | 2 => ⟨S2x128, .f32⟩
  | 3 => ⟨S2048, .f32⟩
  | 4 => ⟨S2x16x64, .f32⟩
  | 5 => ⟨S128, .f32⟩
  | 6 => ⟨S2x64, .f32⟩
  | 7 => ⟨S2048, .f32⟩
  | 8 => ⟨S2x16x64, .f32⟩
  | 9 => ⟨S128, .f32⟩
  | 10 => ⟨S2x64, .f32⟩
  | 11 => ⟨S256, .f32⟩
  | 12 => ⟨S2x4x32, .f32⟩
  | 13 => ⟨S4224, .f32⟩
  | 14 => ⟨S4x3x352, .f32⟩
  | 15 => ⟨S2048, .f32⟩
  | 16 => ⟨S2x1024, .f32⟩
  | 17 => ⟨S768, .f32⟩
  | 18 => ⟨S2x384, .f32⟩
  | 19 => ⟨S512, .f32⟩
  | 20 => ⟨S2x256, .f32⟩
  | 21 => ⟨S192, .f32⟩
  | 22 => ⟨S2x96, .f32⟩
  | 23 => ⟨S192, .f32⟩
  | 24 => ⟨S2x96, .f32⟩
  | 25 => ⟨S16, .f32⟩
  | 26 => ⟨S2x8, .f32⟩
  | 27 => ⟨S16, .f32⟩
  | 28 => ⟨S2x8, .f32⟩
  | 29 => ⟨S1024, .f32⟩
  | 30 => ⟨S2x8x64, .f32⟩
  | 31 => ⟨S4096, .f32⟩
  | 32 => ⟨S4x1024, .f32⟩
  | 33 => ⟨S11264, .f32⟩
  | 34 => ⟨S4x2816, .f32⟩
  | 35 => ⟨S152x1024, .f32⟩
  | 36 => ⟨S155648, .f32⟩
  | 37 => ⟨S24x1024, .f32⟩
  | 38 => ⟨S24576, .f32⟩
  | 39 => ⟨S73728, .f32⟩
  | 40 => ⟨S2x384x96, .f32⟩
  | 41 => ⟨S65536, .f32⟩
  | 42 => ⟨S2x256x128, .f32⟩
  | 43 => ⟨S256, .f32⟩
  | 44 => ⟨S2x128, .f32⟩
  | 45 => ⟨S2048, .f32⟩
  | 46 => ⟨S2x16x64, .f32⟩
  | 47 => ⟨S128, .f32⟩
  | 48 => ⟨S2x64, .f32⟩
  | 49 => ⟨S2048, .f32⟩
  | 50 => ⟨S2x16x64, .f32⟩
  | 51 => ⟨S128, .f32⟩
  | 52 => ⟨S2x64, .f32⟩
  | 53 => ⟨S256, .f32⟩
  | 54 => ⟨S2x4x32, .f32⟩
  | 55 => ⟨S4224, .f32⟩
  | 56 => ⟨S4x3x352, .f32⟩
  | 57 => ⟨S2048, .f32⟩
  | 58 => ⟨S2x1024, .f32⟩
  | 59 => ⟨S768, .f32⟩
  | 60 => ⟨S2x384, .f32⟩
  | 61 => ⟨S512, .f32⟩
  | 62 => ⟨S2x256, .f32⟩
  | 63 => ⟨S192, .f32⟩
  | 64 => ⟨S2x96, .f32⟩
  | 65 => ⟨S192, .f32⟩
  | 66 => ⟨S2x96, .f32⟩
  | 67 => ⟨S16, .f32⟩
  | 68 => ⟨S2x8, .f32⟩
  | 69 => ⟨S16, .f32⟩
  | 70 => ⟨S2x8, .f32⟩
  | 71 => ⟨S1024, .f32⟩
  | 72 => ⟨S2x8x64, .f32⟩
  | 73 => ⟨S4096, .f32⟩
  | 74 => ⟨S4x1024, .f32⟩
  | 75 => ⟨S11264, .f32⟩
  | 76 => ⟨S4x2816, .f32⟩
  | _ => ⟨S2x384x96, .f32⟩

abbrev hbmTy (i : Nat) : BufTy := match i / 128 with
  | 0 => hbmTy0_0 i
  | 1 => hbmTy0_1 i
  | 2 => hbmTy0_2 i
  | _ => ⟨S2x384x96, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2x384x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_arg72 : Ref sig .tc := ⟨.hbm, 72, rfl⟩
abbrev main_arg73 : Ref sig .tc := ⟨.hbm, 73, rfl⟩
abbrev main_arg74 : Ref sig .tc := ⟨.hbm, 74, rfl⟩
abbrev main_arg75 : Ref sig .tc := ⟨.hbm, 75, rfl⟩
abbrev main_v0 : Ref sig .tc := ⟨.hbm, 76, rfl⟩
abbrev main_v1 : Ref sig .tc := ⟨.hbm, 77, rfl⟩
abbrev main_v2 : Ref sig .tc := ⟨.hbm, 78, rfl⟩
abbrev main_v3 : Ref sig .tc := ⟨.hbm, 79, rfl⟩
abbrev main_v4 : Ref sig .tc := ⟨.hbm, 80, rfl⟩
abbrev main_v5 : Ref sig .tc := ⟨.hbm, 81, rfl⟩
abbrev main_v6 : Ref sig .tc := ⟨.hbm, 82, rfl⟩
abbrev main_v7 : Ref sig .tc := ⟨.hbm, 83, rfl⟩
abbrev main_v8 : Ref sig .tc := ⟨.hbm, 84, rfl⟩
abbrev main_v9 : Ref sig .tc := ⟨.hbm, 85, rfl⟩
abbrev main_c : Ref sig .tc := ⟨.hbm, 86, rfl⟩
abbrev main_call0_v0 : Ref sig .tc := ⟨.hbm, 87, rfl⟩
abbrev main_v10 : Ref sig .tc := ⟨.hbm, 88, rfl⟩
abbrev main_v11 : Ref sig .tc := ⟨.hbm, 89, rfl⟩
abbrev main_v12 : Ref sig .tc := ⟨.hbm, 90, rfl⟩
abbrev main_v13 : Ref sig .tc := ⟨.hbm, 91, rfl⟩
abbrev main_v14 : Ref sig .tc := ⟨.hbm, 92, rfl⟩
abbrev main_v15 : Ref sig .tc := ⟨.hbm, 93, rfl⟩
abbrev main_v16 : Ref sig .tc := ⟨.hbm, 94, rfl⟩
abbrev main_v17 : Ref sig .tc := ⟨.hbm, 95, rfl⟩
abbrev main_v18 : Ref sig .tc := ⟨.hbm, 96, rfl⟩
abbrev main_v19 : Ref sig .tc := ⟨.hbm, 97, rfl⟩
abbrev main_v20 : Ref sig .tc := ⟨.hbm, 98, rfl⟩
abbrev main_v21 : Ref sig .tc := ⟨.hbm, 99, rfl⟩
abbrev main_v22 : Ref sig .tc := ⟨.hbm, 100, rfl⟩
abbrev main_c_0 : Ref sig .tc := ⟨.hbm, 101, rfl⟩
abbrev main_call1_v0 : Ref sig .tc := ⟨.hbm, 102, rfl⟩
abbrev main_v23 : Ref sig .tc := ⟨.hbm, 103, rfl⟩
abbrev main_v24 : Ref sig .tc := ⟨.hbm, 104, rfl⟩
abbrev main_cst : Ref sig .tc := ⟨.hbm, 105, rfl⟩
abbrev main_v25 : Ref sig .tc := ⟨.hbm, 106, rfl⟩
abbrev main_v26 : Ref sig .tc := ⟨.hbm, 107, rfl⟩
abbrev main_v27 : Ref sig .tc := ⟨.hbm, 108, rfl⟩
abbrev main_v28 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_v35 : Ref sig .tc := ⟨.hbm, 116, rfl⟩
abbrev main_v36 : Ref sig .tc := ⟨.hbm, 117, rfl⟩
abbrev main_c_1 : Ref sig .tc := ⟨.hbm, 118, rfl⟩
abbrev main_call2_v0 : Ref sig .tc := ⟨.hbm, 119, rfl⟩
abbrev main_v37 : Ref sig .tc := ⟨.hbm, 120, rfl⟩
abbrev main_v38 : Ref sig .tc := ⟨.hbm, 121, rfl⟩
abbrev main_v39 : Ref sig .tc := ⟨.hbm, 122, rfl⟩
abbrev main_v40 : Ref sig .tc := ⟨.hbm, 123, rfl⟩
abbrev main_v41 : Ref sig .tc := ⟨.hbm, 124, rfl⟩
abbrev main_v42 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_c_2 : Ref sig .tc := ⟨.hbm, 133, rfl⟩
abbrev main_call3_v0 : Ref sig .tc := ⟨.hbm, 134, rfl⟩
abbrev main_v50 : Ref sig .tc := ⟨.hbm, 135, rfl⟩
abbrev main_v51 : Ref sig .tc := ⟨.hbm, 136, rfl⟩
abbrev main_cst_3 : Ref sig .tc := ⟨.hbm, 137, rfl⟩
abbrev main_v52 : Ref sig .tc := ⟨.hbm, 138, rfl⟩
abbrev main_v53 : Ref sig .tc := ⟨.hbm, 139, rfl⟩
abbrev main_v54 : Ref sig .tc := ⟨.hbm, 140, rfl⟩
abbrev main_v55 : Ref sig .tc := ⟨.hbm, 141, rfl⟩
abbrev main_v56 : Ref sig .tc := ⟨.hbm, 142, rfl⟩
abbrev main_v57 : Ref sig .tc := ⟨.hbm, 143, rfl⟩
abbrev main_v58 : Ref sig .tc := ⟨.hbm, 144, rfl⟩
abbrev main_v59 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_c_4 : Ref sig .tc := ⟨.hbm, 150, rfl⟩
abbrev main_call4_v0 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_v76 : Ref sig .tc := ⟨.hbm, 164, rfl⟩
abbrev main_c_5 : Ref sig .tc := ⟨.hbm, 165, rfl⟩
abbrev main_call5_v0 : Ref sig .tc := ⟨.hbm, 166, rfl⟩
abbrev main_v77 : Ref sig .tc := ⟨.hbm, 167, rfl⟩
abbrev main_v78 : Ref sig .tc := ⟨.hbm, 168, rfl⟩
abbrev main_cst_6 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_c_7 : Ref sig .tc := ⟨.hbm, 182, rfl⟩
abbrev main_call6_v0 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_c_8 : Ref sig .tc := ⟨.hbm, 197, rfl⟩
abbrev main_call7_v0 : Ref sig .tc := ⟨.hbm, 198, rfl⟩
abbrev main_v104 : Ref sig .tc := ⟨.hbm, 199, rfl⟩
abbrev main_v105 : Ref sig .tc := ⟨.hbm, 200, rfl⟩
abbrev main_cst_9 : Ref sig .tc := ⟨.hbm, 201, rfl⟩
abbrev main_v106 : Ref sig .tc := ⟨.hbm, 202, rfl⟩
abbrev main_v107 : Ref sig .tc := ⟨.hbm, 203, rfl⟩
abbrev main_v108_0 : Ref sig .tc := ⟨.hbm, 204, rfl⟩
abbrev main_v108_1 : Ref sig .tc := ⟨.hbm, 205, rfl⟩
abbrev main_v108_2 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_v114 : Ref sig .tc := ⟨.hbm, 212, rfl⟩
abbrev main_v115 : Ref sig .tc := ⟨.hbm, 213, rfl⟩
abbrev main_v116 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_v121 : Ref sig .tc := ⟨.hbm, 219, rfl⟩
abbrev main_v122 : Ref sig .tc := ⟨.hbm, 220, rfl⟩
abbrev main_v123 : Ref sig .tc := ⟨.hbm, 221, rfl⟩
abbrev main_v124 : Ref sig .tc := ⟨.hbm, 222, rfl⟩
abbrev main_v125 : Ref sig .tc := ⟨.hbm, 223, rfl⟩
abbrev main_v126 : Ref sig .tc := ⟨.hbm, 224, rfl⟩
abbrev main_v127 : Ref sig .tc := ⟨.hbm, 225, rfl⟩
abbrev main_v128 : Ref sig .tc := ⟨.hbm, 226, rfl⟩
abbrev main_v129 : Ref sig .tc := ⟨.hbm, 227, rfl⟩
abbrev main_v130 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_v137 : Ref sig .tc := ⟨.hbm, 235, rfl⟩
abbrev main_v138 : Ref sig .tc := ⟨.hbm, 236, rfl⟩
abbrev main_v139 : Ref sig .tc := ⟨.hbm, 237, rfl⟩
abbrev main_v140 : Ref sig .tc := ⟨.hbm, 238, rfl⟩
abbrev main_v141 : Ref sig .tc := ⟨.hbm, 239, rfl⟩
abbrev main_v142 : Ref sig .tc := ⟨.hbm, 240, rfl⟩
abbrev main_v143 : Ref sig .tc := ⟨.hbm, 241, rfl⟩
abbrev main_v144 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_v176 : Ref sig .tc := ⟨.hbm, 274, rfl⟩
abbrev main_v177 : Ref sig .tc := ⟨.hbm, 275, rfl⟩
abbrev main_v178 : Ref sig .tc := ⟨.hbm, 276, rfl⟩
abbrev main_v179 : Ref sig .tc := ⟨.hbm, 277, rfl⟩
abbrev main_v180 : Ref sig .tc := ⟨.hbm, 278, rfl⟩
abbrev main_v181 : Ref sig .tc := ⟨.hbm, 279, rfl⟩
abbrev main_v182 : Ref sig .tc := ⟨.hbm, 280, rfl⟩
abbrev main_v183 : Ref sig .tc := ⟨.hbm, 281, rfl⟩
abbrev main_v184 : Ref sig .tc := ⟨.hbm, 282, rfl⟩
abbrev main_v185 : Ref sig .tc := ⟨.hbm, 283, rfl⟩
abbrev main_v186 : Ref sig .tc := ⟨.hbm, 284, rfl⟩
abbrev main_v187 : Ref sig .tc := ⟨.hbm, 285, rfl⟩
abbrev main_v188 : Ref sig .tc := ⟨.hbm, 286, rfl⟩
abbrev main_v189 : Ref sig .tc := ⟨.hbm, 287, rfl⟩
abbrev main_v190 : Ref sig .tc := ⟨.hbm, 288, rfl⟩
abbrev main_v191 : Ref sig .tc := ⟨.hbm, 289, rfl⟩
abbrev main_v192 : Ref sig .tc := ⟨.hbm, 290, rfl⟩
abbrev main_v193 : Ref sig .tc := ⟨.hbm, 291, rfl⟩
abbrev main_v194 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_v201 : Ref sig .tc := ⟨.hbm, 299, rfl⟩
abbrev main_v202 : Ref sig .tc := ⟨.hbm, 300, rfl⟩
abbrev main_v203 : Ref sig .tc := ⟨.hbm, 301, rfl⟩
abbrev main_v204 : Ref sig .tc := ⟨.hbm, 302, rfl⟩
abbrev main_v205 : Ref sig .tc := ⟨.hbm, 303, rfl⟩
abbrev main_v206 : Ref sig .tc := ⟨.hbm, 304, rfl⟩
abbrev main_v207 : Ref sig .tc := ⟨.hbm, 305, rfl⟩
abbrev main_v208 : Ref sig .tc := ⟨.hbm, 306, rfl⟩
abbrev main_v209 : Ref sig .tc := ⟨.hbm, 307, rfl⟩
abbrev main_v210 : Ref sig .tc := ⟨.hbm, 308, rfl⟩
abbrev main_v211 : Ref sig .tc := ⟨.hbm, 309, rfl⟩
abbrev main_v212 : Ref sig .tc := ⟨.hbm, 310, rfl⟩
abbrev main_v213 : Ref sig .tc := ⟨.hbm, 311, rfl⟩
abbrev main_v214 : Ref sig .tc := ⟨.hbm, 312, rfl⟩
abbrev main_v215 : Ref sig .tc := ⟨.hbm, 313, rfl⟩
abbrev main_v216 : Ref sig .tc := ⟨.hbm, 314, rfl⟩
abbrev main_v217 : Ref sig .tc := ⟨.hbm, 315, rfl⟩
abbrev main_v218 : Ref sig .tc := ⟨.hbm, 316, rfl⟩
abbrev main_v219 : Ref sig .tc := ⟨.hbm, 317, rfl⟩
abbrev main_v220 : Ref sig .tc := ⟨.hbm, 318, rfl⟩
abbrev main_v221 : Ref sig .tc := ⟨.hbm, 319, rfl⟩
abbrev main_v222 : Ref sig .tc := ⟨.hbm, 320, rfl⟩
abbrev main_v223 : Ref sig .tc := ⟨.hbm, 321, rfl⟩
abbrev main_v224 : Ref sig .tc := ⟨.hbm, 322, rfl⟩
abbrev main_v225 : Ref sig .tc := ⟨.hbm, 323, rfl⟩
abbrev main_v226 : Ref sig .tc := ⟨.hbm, 324, rfl⟩
abbrev main_v227 : Ref sig .tc := ⟨.hbm, 325, rfl⟩
abbrev main_v228 : Ref sig .tc := ⟨.hbm, 326, rfl⟩
abbrev main_v229 : Ref sig .tc := ⟨.hbm, 327, rfl⟩
abbrev main_v230 : Ref sig .tc := ⟨.hbm, 328, rfl⟩
abbrev main_v231 : Ref sig .tc := ⟨.hbm, 329, rfl⟩
abbrev main_v232 : Ref sig .tc := ⟨.hbm, 330, rfl⟩
abbrev main_v233 : Ref sig .tc := ⟨.hbm, 331, rfl⟩
abbrev main_v234 : Ref sig .tc := ⟨.hbm, 332, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepSmallReferenceIdeal.lean ====
abbrev S2x384x96 : Shape := ⟨3, ![2, 384, 96]⟩
abbrev S2x256x128 : Shape := ⟨3, ![2, 256, 128]⟩
abbrev S2x128 : Shape := ⟨2, ![2, 128]⟩
abbrev S2x16x64 : Shape := ⟨3, ![2, 16, 64]⟩
abbrev S2x64 : Shape := ⟨2, ![2, 64]⟩
abbrev S2x4x32 : Shape := ⟨3, ![2, 4, 32]⟩
abbrev S4x3x352 : Shape := ⟨3, ![4, 3, 352]⟩
abbrev S2x1024 : Shape := ⟨2, ![2, 1024]⟩
abbrev S2x384 : Shape := ⟨2, ![2, 384]⟩
abbrev S2x256 : Shape := ⟨2, ![2, 256]⟩
abbrev S2x96 : Shape := ⟨2, ![2, 96]⟩
abbrev S2x8 : Shape := ⟨2, ![2, 8]⟩
abbrev S2x8x64 : Shape := ⟨3, ![2, 8, 64]⟩
abbrev S4x1024 : Shape := ⟨2, ![4, 1024]⟩
abbrev S4x2816 : Shape := ⟨2, ![4, 2816]⟩
abbrev S_ : Shape := ⟨0, ![]⟩

abbrev nBuf : Space → Nat
  | .hbm => 703
  | .vmem => 0
  | .smem => 0
  | _ => 0

abbrev hbmTy0_0 (i : Nat) : BufTy := match i % 128 with
  | 0 => ⟨S2x384x96, .f32⟩
  | 1 => ⟨S2x256x128, .f32⟩
  | 2 => ⟨S2x128, .f32⟩
  | 3 => ⟨S2x16x64, .f32⟩
  | 4 => ⟨S2x64, .f32⟩
  | 5 => ⟨S2x16x64, .f32⟩
  | 6 => ⟨S2x64, .f32⟩
  | 7 => ⟨S2x4x32, .f32⟩
  | 8 => ⟨S4x3x352, .f32⟩
  | 9 => ⟨S2x1024, .f32⟩
  | 10 => ⟨S2x384, .f32⟩
  | 11 => ⟨S2x256, .f32⟩
  | 12 => ⟨S2x96, .f32⟩
  | 13 => ⟨S2x96, .f32⟩
  | 14 => ⟨S2x8, .f32⟩
  | 15 => ⟨S2x8, .f32⟩
  | 16 => ⟨S2x8x64, .f32⟩
  | 17 => ⟨S4x1024, .f32⟩
  | 18 => ⟨S4x2816, .f32⟩
  | 19 => ⟨S2x384x96, .f32⟩
  | 20 => ⟨S2x256x128, .f32⟩
  | 21 => ⟨S2x128, .f32⟩
  | 22 => ⟨S2x16x64, .f32⟩
  | 23 => ⟨S2x64, .f32⟩
  | 24 => ⟨S2x16x64, .f32⟩
  | 25 => ⟨S2x64, .f32⟩
  | 26 => ⟨S2x4x32, .f32⟩
  | 27 => ⟨S4x3x352, .f32⟩
  | 28 => ⟨S2x1024, .f32⟩
  | 29 => ⟨S2x384, .f32⟩
  | 30 => ⟨S2x256, .f32⟩
  | 31 => ⟨S2x96, .f32⟩
  | 32 => ⟨S2x96, .f32⟩
  | 33 => ⟨S2x8, .f32⟩
  | 34 => ⟨S2x8, .f32⟩
  | 35 => ⟨S2x8x64, .f32⟩
  | 36 => ⟨S4x1024, .f32⟩
  | 37 => ⟨S4x2816, .f32⟩
  | 38 => ⟨S2x384x96, .f32⟩
  | 39 => ⟨S2x256x128, .f32⟩
  | 40 => ⟨S2x128, .f32⟩
  | 41 => ⟨S2x16x64, .f32⟩
  | 42 => ⟨S2x64, .f32⟩
  | 43 => ⟨S2x16x64, .f32⟩
  | 44 => ⟨S2x64, .f32⟩
  | 45 => ⟨S2x4x32, .f32⟩
  | 46 => ⟨S4x3x352, .f32⟩
  | 47 => ⟨S2x1024, .f32⟩
  | 48 => ⟨S2x384, .f32⟩
  | 49 => ⟨S2x256, .f32⟩
  | 50 => ⟨S2x96, .f32⟩
  | 51 => ⟨S2x96, .f32⟩
  | 52 => ⟨S2x8, .f32⟩
  | 53 => ⟨S2x8, .f32⟩
  | 54 => ⟨S2x8x64, .f32⟩
  | 55 => ⟨S4x1024, .f32⟩
  | 56 => ⟨S4x2816, .f32⟩
  | 57 => ⟨S2x384x96, .f32⟩
  | 58 => ⟨S2x256x128, .f32⟩
  | 59 => ⟨S2x128, .f32⟩
  | 60 => ⟨S2x16x64, .f32⟩
  | 61 => ⟨S2x64, .f32⟩
  | 62 => ⟨S2x16x64, .f32⟩
  | 63 => ⟨S2x64, .f32⟩
  | 64 => ⟨S2x4x32, .f32⟩
  | 65 => ⟨S4x3x352, .f32⟩
  | 66 => ⟨S2x1024, .f32⟩
  | 67 => ⟨S2x384, .f32⟩
  | 68 => ⟨S2x256, .f32⟩
  | 69 => ⟨S2x96, .f32⟩
  | 70 => ⟨S2x96, .f32⟩
  | 71 => ⟨S2x8, .f32⟩
  | 72 => ⟨S2x8, .f32⟩
  | 73 => ⟨S2x8x64, .f32⟩
  | 74 => ⟨S4x1024, .f32⟩
  | 75 => ⟨S4x2816, .f32⟩
  | 76 => ⟨S_, .f32⟩
  | 77 => ⟨S2x384x96, .f32⟩
  | 78 => ⟨S2x384x96, .f32⟩
  | 79 => ⟨S_, .f32⟩
  | 80 => ⟨S2x384x96, .f32⟩
  | 81 => ⟨S2x384x96, .f32⟩
  | 82 => ⟨S2x384x96, .f32⟩
  | 83 => ⟨S_, .f32⟩
  | 84 => ⟨S2x384x96, .f32⟩
  | 85 => ⟨S2x384x96, .f32⟩
  | 86 => ⟨S2x384x96, .f32⟩
  | 87 => ⟨S_, .f32⟩
  | 88 => ⟨S2x384x96, .f32⟩
  | 89 => ⟨S2x384x96, .f32⟩
  | 90 => ⟨S2x384x96, .f32⟩
  | 91 => ⟨S_, .f32⟩
  | 92 => ⟨S2x384x96, .f32⟩
  | 93 => ⟨S2x384x96, .f32⟩
  | 94 => ⟨S_, .f32⟩
  | 95 => ⟨S2x384x96, .f32⟩
  | 96 => ⟨S2x384x96, .f32⟩
  | 97 => ⟨S2x384x96, .f32⟩
  | 98 => ⟨S_, .f32⟩
  | 99 => ⟨S2x384x96, .f32⟩
  | 100 => ⟨S2x384x96, .f32⟩
  | 101 => ⟨S2x384x96, .f32⟩
  | 102 => ⟨S_, .f32⟩
  | 103 => ⟨S2x384x96, .f32⟩
  | 104 => ⟨S2x384x96, .f32⟩
  | 105 => ⟨S2x384x96, .f32⟩
  | 106 => ⟨S_, .f32⟩
  | 107 => ⟨S2x384x96, .f32⟩
  | 108 => ⟨S2x384x96, .f32⟩
  | 109 => ⟨S_, .f32⟩
  | 110 => ⟨S2x256x128, .f32⟩
  | 111 => ⟨S2x256x128, .f32⟩
  | 112 => ⟨S_, .f32⟩
  | 113 => ⟨S2x256x128, .f32⟩
  | 114 => ⟨S2x256x128, .f32⟩
  | 115 => ⟨S2x256x128, .f32⟩
  | 116 => ⟨S_, .f32⟩
  | 117 => ⟨S2x256x128, .f32⟩
  | 118 => ⟨S2x256x128, .f32⟩
  | 119 => ⟨S2x256x128, .f32⟩
  | 120 => ⟨S_, .f32⟩
  | 121 => ⟨S2x256x128, .f32⟩
  | 122 => ⟨S2x256x128, .f32⟩
  | 123 => ⟨S2x256x128, .f32⟩
  | 124 => ⟨S_, .f32⟩
  | 125 => ⟨S2x256x128, .f32⟩
  | 126 => ⟨S2x256x128, .f32⟩
  | 127 => ⟨S_, .f32⟩
  | _ => ⟨S2x384x96, .f32⟩

abbrev hbmTy0_1 (i : Nat) : BufTy := match i % 128 with
  | 0 => ⟨S2x256x128, .f32⟩
  | 1 => ⟨S2x256x128, .f32⟩
  | 2 => ⟨S2x256x128, .f32⟩
  | 3 => ⟨S_, .f32⟩
  | 4 => ⟨S2x256x128, .f32⟩
  | 5 => ⟨S2x256x128, .f32⟩
  | 6 => ⟨S2x256x128, .f32⟩
  | 7 => ⟨S_, .f32⟩
  | 8 => ⟨S2x256x128, .f32⟩
  | 9 => ⟨S2x256x128, .f32⟩
  | 10 => ⟨S2x256x128, .f32⟩
  | 11 => ⟨S_, .f32⟩
  | 12 => ⟨S2x256x128, .f32⟩
  | 13 => ⟨S2x256x128, .f32⟩
  | 14 => ⟨S_, .f32⟩
  | 15 => ⟨S2x128, .f32⟩
  | 16 => ⟨S2x128, .f32⟩
  | 17 => ⟨S_, .f32⟩
  | 18 => ⟨S2x128, .f32⟩
  | 19 => ⟨S2x128, .f32⟩
  | 20 => ⟨S2x128, .f32⟩
  | 21 => ⟨S_, .f32⟩
  | 22 => ⟨S2x128, .f32⟩
  | 23 => ⟨S2x128, .f32⟩
  | 24 => ⟨S2x128, .f32⟩
  | 25 => ⟨S_, .f32⟩
  | 26 => ⟨S2x128, .f32⟩
  | 27 => ⟨S2x128, .f32⟩
  | 28 => ⟨S2x128, .f32⟩
  | 29 => ⟨S_, .f32⟩
  | 30 => ⟨S2x128, .f32⟩
  | 31 => ⟨S2x128, .f32⟩
  | 32 => ⟨S_, .f32⟩
  | 33 => ⟨S2x128, .f32⟩
  | 34 => ⟨S2x128, .f32⟩
  | 35 => ⟨S2x128, .f32⟩
  | 36 => ⟨S_, .f32⟩
  | 37 => ⟨S2x128, .f32⟩
  | 38 => ⟨S2x128, .f32⟩
  | 39 => ⟨S2x128, .f32⟩
  | 40 => ⟨S_, .f32⟩
  | 41 => ⟨S2x128, .f32⟩
  | 42 => ⟨S2x128, .f32⟩
  | 43 => ⟨S2x128, .f32⟩
  | 44 => ⟨S_, .f32⟩
  | 45 => ⟨S2x128, .f32⟩
  | 46 => ⟨S2x128, .f32⟩
  | 47 => ⟨S_, .f32⟩
  | 48 => ⟨S2x16x64, .f32⟩
  | 49 => ⟨S2x16x64, .f32⟩
  | 50 => ⟨S_, .f32⟩
  | 51 => ⟨S2x16x64, .f32⟩
  | 52 => ⟨S2x16x64, .f32⟩
  | 53 => ⟨S2x16x64, .f32⟩
  | 54 => ⟨S_, .f32⟩
  | 55 => ⟨S2x16x64, .f32⟩
  | 56 => ⟨S2x16x64, .f32⟩
  | 57 => ⟨S2x16x64, .f32⟩
  | 58 => ⟨S_, .f32⟩
  | 59 => ⟨S2x16x64, .f32⟩
  | 60 => ⟨S2x16x64, .f32⟩
  | 61 => ⟨S2x16x64, .f32⟩
  | 62 => ⟨S_, .f32⟩
  | 63 => ⟨S2x16x64, .f32⟩
  | 64 => ⟨S2x16x64, .f32⟩
  | 65 => ⟨S_, .f32⟩
  | 66 => ⟨S2x16x64, .f32⟩
  | 67 => ⟨S2x16x64, .f32⟩
  | 68 => ⟨S2x16x64, .f32⟩
  | 69 => ⟨S_, .f32⟩
  | 70 => ⟨S2x16x64, .f32⟩
  | 71 => ⟨S2x16x64, .f32⟩
  | 72 => ⟨S2x16x64, .f32⟩
  | 73 => ⟨S_, .f32⟩
  | 74 => ⟨S2x16x64, .f32⟩
  | 75 => ⟨S2x16x64, .f32⟩
  | 76 => ⟨S2x16x64, .f32⟩
  | 77 => ⟨S_, .f32⟩
  | 78 => ⟨S2x16x64, .f32⟩
  | 79 => ⟨S2x16x64, .f32⟩
  | 80 => ⟨S_, .f32⟩
  | 81 => ⟨S2x64, .f32⟩
  | 82 => ⟨S2x64, .f32⟩
  | 83 => ⟨S_, .f32⟩
  | 84 => ⟨S2x64, .f32⟩
  | 85 => ⟨S2x64, .f32⟩
  | 86 => ⟨S2x64, .f32⟩
  | 87 => ⟨S_, .f32⟩
  | 88 => ⟨S2x64, .f32⟩
  | 89 => ⟨S2x64, .f32⟩
  | 90 => ⟨S2x64, .f32⟩
  | 91 => ⟨S_, .f32⟩
  | 92 => ⟨S2x64, .f32⟩
  | 93 => ⟨S2x64, .f32⟩
  | 94 => ⟨S2x64, .f32⟩
  | 95 => ⟨S_, .f32⟩
  | 96 => ⟨S2x64, .f32⟩
  | 97 => ⟨S2x64, .f32⟩
  | 98 => ⟨S_, .f32⟩
  | 99 => ⟨S2x64, .f32⟩
  | 100 => ⟨S2x64, .f32⟩
  | 101 => ⟨S2x64, .f32⟩
  | 102 => ⟨S_, .f32⟩
  | 103 => ⟨S2x64, .f32⟩
  | 104 => ⟨S2x64, .f32⟩
  | 105 => ⟨S2x64, .f32⟩
  | 106 => ⟨S_, .f32⟩
  | 107 => ⟨S2x64, .f32⟩
  | 108 => ⟨S2x64, .f32⟩
  | 109 => ⟨S2x64, .f32⟩
  | 110 => ⟨S_, .f32⟩
  | 111 => ⟨S2x64, .f32⟩
  | 112 => ⟨S2x64, .f32⟩
  | 113 => ⟨S_, .f32⟩
  | 114 => ⟨S2x16x64, .f32⟩
  | 115 => ⟨S2x16x64, .f32⟩
  | 116 => ⟨S_, .f32⟩
  | 117 => ⟨S2x16x64, .f32⟩
  | 118 => ⟨S2x16x64, .f32⟩
  | 119 => ⟨S2x16x64, .f32⟩
  | 120 => ⟨S_, .f32⟩
  | 121 => ⟨S2x16x64, .f32⟩
  | 122 => ⟨S2x16x64, .f32⟩
  | 123 => ⟨S2x16x64, .f32⟩
  | 124 => ⟨S_, .f32⟩
  | 125 => ⟨S2x16x64, .f32⟩
  | 126 => ⟨S2x16x64, .f32⟩
  | 127 => ⟨S2x16x64, .f32⟩
  | _ => ⟨S2x384x96, .f32⟩

abbrev hbmTy0_2 (i : Nat) : BufTy := match i % 128 with
  | 0 => ⟨S_, .f32⟩
  | 1 => ⟨S2x16x64, .f32⟩
  | 2 => ⟨S2x16x64, .f32⟩
  | 3 => ⟨S_, .f32⟩
  | 4 => ⟨S2x16x64, .f32⟩
  | 5 => ⟨S2x16x64, .f32⟩
  | 6 => ⟨S2x16x64, .f32⟩
  | 7 => ⟨S_, .f32⟩
  | 8 => ⟨S2x16x64, .f32⟩
  | 9 => ⟨S2x16x64, .f32⟩
  | 10 => ⟨S2x16x64, .f32⟩
  | 11 => ⟨S_, .f32⟩
  | 12 => ⟨S2x16x64, .f32⟩
  | 13 => ⟨S2x16x64, .f32⟩
  | 14 => ⟨S2x16x64, .f32⟩
  | 15 => ⟨S_, .f32⟩
  | 16 => ⟨S2x16x64, .f32⟩
  | 17 => ⟨S2x16x64, .f32⟩
  | 18 => ⟨S_, .f32⟩
  | 19 => ⟨S2x64, .f32⟩
  | 20 => ⟨S2x64, .f32⟩
  | 21 => ⟨S_, .f32⟩
  | 22 => ⟨S2x64, .f32⟩
  | 23 => ⟨S2x64, .f32⟩
  | 24 => ⟨S2x64, .f32⟩
  | 25 => ⟨S_, .f32⟩
  | 26 => ⟨S2x64, .f32⟩
  | 27 => ⟨S2x64, .f32⟩
  | 28 => ⟨S2x64, .f32⟩
  | 29 => ⟨S_, .f32⟩
  | 30 => ⟨S2x64, .f32⟩
  | 31 => ⟨S2x64, .f32⟩
  | 32 => ⟨S2x64, .f32⟩
  | 33 => ⟨S_, .f32⟩
  | 34 => ⟨S2x64, .f32⟩
  | 35 => ⟨S2x64, .f32⟩
  | 36 => ⟨S_, .f32⟩
  | 37 => ⟨S2x64, .f32⟩
  | 38 => ⟨S2x64, .f32⟩
  | 39 => ⟨S2x64, .f32⟩
  | 40 => ⟨S_, .f32⟩
  | 41 => ⟨S2x64, .f32⟩
  | 42 => ⟨S2x64, .f32⟩
  | 43 => ⟨S2x64, .f32⟩
  | 44 => ⟨S_, .f32⟩
  | 45 => ⟨S2x64, .f32⟩
  | 46 => ⟨S2x64, .f32⟩
  | 47 => ⟨S2x64, .f32⟩
  | 48 => ⟨S_, .f32⟩
  | 49 => ⟨S2x64, .f32⟩
  | 50 => ⟨S2x64, .f32⟩
  | 51 => ⟨S_, .f32⟩
  | 52 => ⟨S2x4x32, .f32⟩
  | 53 => ⟨S2x4x32, .f32⟩
  | 54 => ⟨S_, .f32⟩
  | 55 => ⟨S2x4x32, .f32⟩
  | 56 => ⟨S2x4x32, .f32⟩
  | 57 => ⟨S2x4x32, .f32⟩
  | 58 => ⟨S_, .f32⟩
  | 59 => ⟨S2x4x32, .f32⟩
  | 60 => ⟨S2x4x32, .f32⟩
  | 61 => ⟨S2x4x32, .f32⟩
  | 62 => ⟨S_, .f32⟩
  | 63 => ⟨S2x4x32, .f32⟩
  | 64 => ⟨S2x4x32, .f32⟩
  | 65 => ⟨S2x4x32, .f32⟩
  | 66 => ⟨S_, .f32⟩
  | 67 => ⟨S2x4x32, .f32⟩
  | 68 => ⟨S2x4x32, .f32⟩
  | 69 => ⟨S_, .f32⟩
  | 70 => ⟨S2x4x32, .f32⟩
  | 71 => ⟨S2x4x32, .f32⟩
  | 72 => ⟨S2x4x32, .f32⟩
  | 73 => ⟨S_, .f32⟩
  | 74 => ⟨S2x4x32, .f32⟩
  | 75 => ⟨S2x4x32, .f32⟩
  | 76 => ⟨S2x4x32, .f32⟩
  | 77 => ⟨S_, .f32⟩
  | 78 => ⟨S2x4x32, .f32⟩
  | 79 => ⟨S2x4x32, .f32⟩
  | 80 => ⟨S2x4x32, .f32⟩
  | 81 => ⟨S_, .f32⟩
  | 82 => ⟨S2x4x32, .f32⟩
  | 83 => ⟨S2x4x32, .f32⟩
  | 84 => ⟨S_, .f32⟩
  | 85 => ⟨S4x3x352, .f32⟩
  | 86 => ⟨S4x3x352, .f32⟩
  | 87 => ⟨S_, .f32⟩
  | 88 => ⟨S4x3x352, .f32⟩
  | 89 => ⟨S4x3x352, .f32⟩
  | 90 => ⟨S4x3x352, .f32⟩
  | 91 => ⟨S_, .f32⟩
  | 92 => ⟨S4x3x352, .f32⟩
  | 93 => ⟨S4x3x352, .f32⟩
  | 94 => ⟨S4x3x352, .f32⟩
  | 95 => ⟨S_, .f32⟩
  | 96 => ⟨S4x3x352, .f32⟩
  | 97 => ⟨S4x3x352, .f32⟩
  | 98 => ⟨S4x3x352, .f32⟩
  | 99 => ⟨S_, .f32⟩
  | 100 => ⟨S4x3x352, .f32⟩
  | 101 => ⟨S4x3x352, .f32⟩
  | 102 => ⟨S_, .f32⟩
  | 103 => ⟨S4x3x352, .f32⟩
  | 104 => ⟨S4x3x352, .f32⟩
  | 105 => ⟨S4x3x352, .f32⟩
  | 106 => ⟨S_, .f32⟩
  | 107 => ⟨S4x3x352, .f32⟩
  | 108 => ⟨S4x3x352, .f32⟩
  | 109 => ⟨S4x3x352, .f32⟩
  | 110 => ⟨S_, .f32⟩
  | 111 => ⟨S4x3x352, .f32⟩
  | 112 => ⟨S4x3x352, .f32⟩
  | 113 => ⟨S4x3x352, .f32⟩
  | 114 => ⟨S_, .f32⟩
  | 115 => ⟨S4x3x352, .f32⟩
  | 116 => ⟨S4x3x352, .f32⟩
  | 117 => ⟨S_, .f32⟩
  | 118 => ⟨S2x1024, .f32⟩
  | 119 => ⟨S2x1024, .f32⟩
  | 120 => ⟨S_, .f32⟩
  | 121 => ⟨S2x1024, .f32⟩
  | 122 => ⟨S2x1024, .f32⟩
  | 123 => ⟨S2x1024, .f32⟩
  | 124 => ⟨S_, .f32⟩
  | 125 => ⟨S2x1024, .f32⟩
  | 126 => ⟨S2x1024, .f32⟩
  | 127 => ⟨S2x1024, .f32⟩
  | _ => ⟨S2x384x96, .f32⟩

abbrev hbmTy0_3 (i : Nat) : BufTy := match i % 128 with
  | 0 => ⟨S_, .f32⟩
  | 1 => ⟨S2x1024, .f32⟩
  | 2 => ⟨S2x1024, .f32⟩
  | 3 => ⟨S2x1024, .f32⟩
  | 4 => ⟨S_, .f32⟩
  | 5 => ⟨S2x1024, .f32⟩
  | 6 => ⟨S2x1024, .f32⟩
  | 7 => ⟨S_, .f32⟩
  | 8 => ⟨S2x1024, .f32⟩
  | 9 => ⟨S2x1024, .f32⟩
  | 10 => ⟨S2x1024, .f32⟩
  | 11 => ⟨S_, .f32⟩
  | 12 => ⟨S2x1024, .f32⟩
  | 13 => ⟨S2x1024, .f32⟩
  | 14 => ⟨S2x1024, .f32⟩
  | 15 => ⟨S_, .f32⟩
  | 16 => ⟨S2x1024, .f32⟩
  | 17 => ⟨S2x1024, .f32⟩
  | 18 => ⟨S2x1024, .f32⟩
  | 19 => ⟨S_, .f32⟩
  | 20 => ⟨S2x1024, .f32⟩
  | 21 => ⟨S2x1024, .f32⟩
  | 22 => ⟨S_, .f32⟩
  | 23 => ⟨S2x384, .f32⟩
  | 24 => ⟨S2x384, .f32⟩
  | 25 => ⟨S_, .f32⟩
  | 26 => ⟨S2x384, .f32⟩
  | 27 => ⟨S2x384, .f32⟩
  | 28 => ⟨S2x384, .f32⟩
  | 29 => ⟨S_, .f32⟩
  | 30 => ⟨S2x384, .f32⟩
  | 31 => ⟨S2x384, .f32⟩
  | 32 => ⟨S2x384, .f32⟩
  | 33 => ⟨S_, .f32⟩
  | 34 => ⟨S2x384, .f32⟩
  | 35 => ⟨S2x384, .f32⟩
  | 36 => ⟨S2x384, .f32⟩
  | 37 => ⟨S_, .f32⟩
  | 38 => ⟨S2x384, .f32⟩
  | 39 => ⟨S2x384, .f32⟩
  | 40 => ⟨S_, .f32⟩
  | 41 => ⟨S2x384, .f32⟩
  | 42 => ⟨S2x384, .f32⟩
  | 43 => ⟨S2x384, .f32⟩
  | 44 => ⟨S_, .f32⟩
  | 45 => ⟨S2x384, .f32⟩
  | 46 => ⟨S2x384, .f32⟩
  | 47 => ⟨S2x384, .f32⟩
  | 48 => ⟨S_, .f32⟩
  | 49 => ⟨S2x384, .f32⟩
  | 50 => ⟨S2x384, .f32⟩
  | 51 => ⟨S2x384, .f32⟩
  | 52 => ⟨S_, .f32⟩
  | 53 => ⟨S2x384, .f32⟩
  | 54 => ⟨S2x384, .f32⟩
  | 55 => ⟨S_, .f32⟩
  | 56 => ⟨S2x256, .f32⟩
  | 57 => ⟨S2x256, .f32⟩
  | 58 => ⟨S_, .f32⟩
  | 59 => ⟨S2x256, .f32⟩
  | 60 => ⟨S2x256, .f32⟩
  | 61 => ⟨S2x256, .f32⟩
  | 62 => ⟨S_, .f32⟩
  | 63 => ⟨S2x256, .f32⟩
  | 64 => ⟨S2x256, .f32⟩
  | 65 => ⟨S2x256, .f32⟩
  | 66 => ⟨S_, .f32⟩
  | 67 => ⟨S2x256, .f32⟩
  | 68 => ⟨S2x256, .f32⟩
  | 69 => ⟨S2x256, .f32⟩
  | 70 => ⟨S_, .f32⟩
  | 71 => ⟨S2x256, .f32⟩
  | 72 => ⟨S2x256, .f32⟩
  | 73 => ⟨S_, .f32⟩
  | 74 => ⟨S2x256, .f32⟩
  | 75 => ⟨S2x256, .f32⟩
  | 76 => ⟨S2x256, .f32⟩
  | 77 => ⟨S_, .f32⟩
  | 78 => ⟨S2x256, .f32⟩
  | 79 => ⟨S2x256, .f32⟩
  | 80 => ⟨S2x256, .f32⟩
  | 81 => ⟨S_, .f32⟩
  | 82 => ⟨S2x256, .f32⟩
  | 83 => ⟨S2x256, .f32⟩
  | 84 => ⟨S2x256, .f32⟩
  | 85 => ⟨S_, .f32⟩
  | 86 => ⟨S2x256, .f32⟩
  | 87 => ⟨S2x256, .f32⟩
  | 88 => ⟨S_, .f32⟩
  | 89 => ⟨S2x96, .f32⟩
  | 90 => ⟨S2x96, .f32⟩
  | 91 => ⟨S_, .f32⟩
  | 92 => ⟨S2x96, .f32⟩
  | 93 => ⟨S2x96, .f32⟩
  | 94 => ⟨S2x96, .f32⟩
  | 95 => ⟨S_, .f32⟩
  | 96 => ⟨S2x96, .f32⟩
  | 97 => ⟨S2x96, .f32⟩
  | 98 => ⟨S2x96, .f32⟩
  | 99 => ⟨S_, .f32⟩
  | 100 => ⟨S2x96, .f32⟩
  | 101 => ⟨S2x96, .f32⟩
  | 102 => ⟨S2x96, .f32⟩
  | 103 => ⟨S_, .f32⟩
  | 104 => ⟨S2x96, .f32⟩
  | 105 => ⟨S2x96, .f32⟩
  | 106 => ⟨S_, .f32⟩
  | 107 => ⟨S2x96, .f32⟩
  | 108 => ⟨S2x96, .f32⟩
  | 109 => ⟨S2x96, .f32⟩
  | 110 => ⟨S_, .f32⟩
  | 111 => ⟨S2x96, .f32⟩
  | 112 => ⟨S2x96, .f32⟩
  | 113 => ⟨S2x96, .f32⟩
  | 114 => ⟨S_, .f32⟩
  | 115 => ⟨S2x96, .f32⟩
  | 116 => ⟨S2x96, .f32⟩
  | 117 => ⟨S2x96, .f32⟩
  | 118 => ⟨S_, .f32⟩
  | 119 => ⟨S2x96, .f32⟩
  | 120 => ⟨S2x96, .f32⟩
  | 121 => ⟨S_, .f32⟩
  | 122 => ⟨S2x96, .f32⟩
  | 123 => ⟨S2x96, .f32⟩
  | 124 => ⟨S_, .f32⟩
  | 125 => ⟨S2x96, .f32⟩
  | 126 => ⟨S2x96, .f32⟩
  | 127 => ⟨S2x96, .f32⟩
  | _ => ⟨S2x384x96, .f32⟩

abbrev hbmTy0_4 (i : Nat) : BufTy := match i % 128 with
  | 0 => ⟨S_, .f32⟩
  | 1 => ⟨S2x96, .f32⟩
  | 2 => ⟨S2x96, .f32⟩
  | 3 => ⟨S2x96, .f32⟩
  | 4 => ⟨S_, .f32⟩
  | 5 => ⟨S2x96, .f32⟩
  | 6 => ⟨S2x96, .f32⟩
  | 7 => ⟨S2x96, .f32⟩
  | 8 => ⟨S_, .f32⟩
  | 9 => ⟨S2x96, .f32⟩
  | 10 => ⟨S2x96, .f32⟩
  | 11 => ⟨S_, .f32⟩
  | 12 => ⟨S2x96, .f32⟩
  | 13 => ⟨S2x96, .f32⟩
  | 14 => ⟨S2x96, .f32⟩
  | 15 => ⟨S_, .f32⟩
  | 16 => ⟨S2x96, .f32⟩
  | 17 => ⟨S2x96, .f32⟩
  | 18 => ⟨S2x96, .f32⟩
  | 19 => ⟨S_, .f32⟩
  | 20 => ⟨S2x96, .f32⟩
  | 21 => ⟨S2x96, .f32⟩
  | 22 => ⟨S2x96, .f32⟩
  | 23 => ⟨S_, .f32⟩
  | 24 => ⟨S2x96, .f32⟩
  | 25 => ⟨S2x96, .f32⟩
  | 26 => ⟨S_, .f32⟩
  | 27 => ⟨S2x8, .f32⟩
  | 28 => ⟨S2x8, .f32⟩
  | 29 => ⟨S_, .f32⟩
  | 30 => ⟨S2x8, .f32⟩
  | 31 => ⟨S2x8, .f32⟩
  | 32 => ⟨S2x8, .f32⟩
  | 33 => ⟨S_, .f32⟩
  | 34 => ⟨S2x8, .f32⟩
  | 35 => ⟨S2x8, .f32⟩
  | 36 => ⟨S2x8, .f32⟩
  | 37 => ⟨S_, .f32⟩
  | 38 => ⟨S2x8, .f32⟩
  | 39 => ⟨S2x8, .f32⟩
  | 40 => ⟨S2x8, .f32⟩
  | 41 => ⟨S_, .f32⟩
  | 42 => ⟨S2x8, .f32⟩
  | 43 => ⟨S2x8, .f32⟩
  | 44 => ⟨S_, .f32⟩
  | 45 => ⟨S2x8, .f32⟩
  | 46 => ⟨S2x8, .f32⟩
  | 47 => ⟨S2x8, .f32⟩
  | 48 => ⟨S_, .f32⟩
  | 49 => ⟨S2x8, .f32⟩
  | 50 => ⟨S2x8, .f32⟩
  | 51 => ⟨S2x8, .f32⟩
  | 52 => ⟨S_, .f32⟩
  | 53 => ⟨S2x8, .f32⟩
  | 54 => ⟨S2x8, .f32⟩
  | 55 => ⟨S2x8, .f32⟩
  | 56 => ⟨S_, .f32⟩
  | 57 => ⟨S2x8, .f32⟩
  | 58 => ⟨S2x8, .f32⟩
  | 59 => ⟨S_, .f32⟩
  | 60 => ⟨S2x8, .f32⟩
  | 61 => ⟨S2x8, .f32⟩
  | 62 => ⟨S_, .f32⟩
  | 63 => ⟨S2x8, .f32⟩
  | 64 => ⟨S2x8, .f32⟩
  | 65 => ⟨S2x8, .f32⟩
  | 66 => ⟨S_, .f32⟩
  | 67 => ⟨S2x8, .f32⟩
  | 68 => ⟨S2x8, .f32⟩
  | 69 => ⟨S2x8, .f32⟩
  | 70 => ⟨S_, .f32⟩
  | 71 => ⟨S2x8, .f32⟩
  | 72 => ⟨S2x8, .f32⟩
  | 73 => ⟨S2x8, .f32⟩
  | 74 => ⟨S_, .f32⟩
  | 75 => ⟨S2x8, .f32⟩
  | 76 => ⟨S2x8, .f32⟩
  | 77 => ⟨S_, .f32⟩
  | 78 => ⟨S2x8, .f32⟩
  | 79 => ⟨S2x8, .f32⟩
  | 80 => ⟨S2x8, .f32⟩
  | 81 => ⟨S_, .f32⟩
  | 82 => ⟨S2x8, .f32⟩
  | 83 => ⟨S2x8, .f32⟩
  | 84 => ⟨S2x8, .f32⟩
  | 85 => ⟨S_, .f32⟩
  | 86 => ⟨S2x8, .f32⟩
  | 87 => ⟨S2x8, .f32⟩
  | 88 => ⟨S2x8, .f32⟩
  | 89 => ⟨S_, .f32⟩
  | 90 => ⟨S2x8, .f32⟩
  | 91 => ⟨S2x8, .f32⟩
  | 92 => ⟨S_, .f32⟩
  | 93 => ⟨S2x8x64, .f32⟩
  | 94 => ⟨S2x8x64, .f32⟩
  | 95 => ⟨S_, .f32⟩
  | 96 => ⟨S2x8x64, .f32⟩
  | 97 => ⟨S2x8x64, .f32⟩
  | 98 => ⟨S2x8x64, .f32⟩
  | 99 => ⟨S_, .f32⟩
  | 100 => ⟨S2x8x64, .f32⟩
  | 101 => ⟨S2x8x64, .f32⟩
  | 102 => ⟨S2x8x64, .f32⟩
  | 103 => ⟨S_, .f32⟩
  | 104 => ⟨S2x8x64, .f32⟩
  | 105 => ⟨S2x8x64, .f32⟩
  | 106 => ⟨S2x8x64, .f32⟩
  | 107 => ⟨S_, .f32⟩
  | 108 => ⟨S2x8x64, .f32⟩
  | 109 => ⟨S2x8x64, .f32⟩
  | 110 => ⟨S_, .f32⟩
  | 111 => ⟨S2x8x64, .f32⟩
  | 112 => ⟨S2x8x64, .f32⟩
  | 113 => ⟨S2x8x64, .f32⟩
  | 114 => ⟨S_, .f32⟩
  | 115 => ⟨S2x8x64, .f32⟩
  | 116 => ⟨S2x8x64, .f32⟩
  | 117 => ⟨S2x8x64, .f32⟩
  | 118 => ⟨S_, .f32⟩
  | 119 => ⟨S2x8x64, .f32⟩
  | 120 => ⟨S2x8x64, .f32⟩
  | 121 => ⟨S2x8x64, .f32⟩
  | 122 => ⟨S_, .f32⟩
  | 123 => ⟨S2x8x64, .f32⟩
  | 124 => ⟨S2x8x64, .f32⟩
  | 125 => ⟨S_, .f32⟩
  | 126 => ⟨S4x1024, .f32⟩
  | 127 => ⟨S4x1024, .f32⟩
  | _ => ⟨S2x384x96, .f32⟩

abbrev hbmTy0_5 (i : Nat) : BufTy := match i % 128 with
  | 0 => ⟨S_, .f32⟩
  | 1 => ⟨S4x1024, .f32⟩
  | 2 => ⟨S4x1024, .f32⟩
  | 3 => ⟨S4x1024, .f32⟩
  | 4 => ⟨S_, .f32⟩
  | 5 => ⟨S4x1024, .f32⟩
  | 6 => ⟨S4x1024, .f32⟩
  | 7 => ⟨S4x1024, .f32⟩
  | 8 => ⟨S_, .f32⟩
  | 9 => ⟨S4x1024, .f32⟩
  | 10 => ⟨S4x1024, .f32⟩
  | 11 => ⟨S4x1024, .f32⟩
  | 12 => ⟨S_, .f32⟩
  | 13 => ⟨S4x1024, .f32⟩
  | 14 => ⟨S4x1024, .f32⟩
  | 15 => ⟨S_, .f32⟩
  | 16 => ⟨S4x1024, .f32⟩
  | 17 => ⟨S4x1024, .f32⟩
  | 18 => ⟨S4x1024, .f32⟩
  | 19 => ⟨S_, .f32⟩
  | 20 => ⟨S4x1024, .f32⟩
  | 21 => ⟨S4x1024, .f32⟩
  | 22 => ⟨S4x1024, .f32⟩
  | 23 => ⟨S_, .f32⟩
  | 24 => ⟨S4x1024, .f32⟩
  | 25 => ⟨S4x1024, .f32⟩
  | 26 => ⟨S4x1024, .f32⟩
  | 27 => ⟨S_, .f32⟩
  | 28 => ⟨S4x1024, .f32⟩
  | 29 => ⟨S4x1024, .f32⟩
  | 30 => ⟨S_, .f32⟩
  | 31 => ⟨S4x2816, .f32⟩
  | 32 => ⟨S4x2816, .f32⟩
  | 33 => ⟨S_, .f32⟩
  | 34 => ⟨S4x2816, .f32⟩
  | 35 => ⟨S4x2816, .f32⟩
  | 36 => ⟨S4x2816, .f32⟩
  | 37 => ⟨S_, .f32⟩
  | 38 => ⟨S4x2816, .f32⟩
  | 39 => ⟨S4x2816, .f32⟩
  | 40 => ⟨S4x2816, .f32⟩
  | 41 => ⟨S_, .f32⟩
  | 42 => ⟨S4x2816, .f32⟩
  | 43 => ⟨S4x2816, .f32⟩
  | 44 => ⟨S4x2816, .f32⟩
  | 45 => ⟨S_, .f32⟩
  | 46 => ⟨S4x2816, .f32⟩
  | 47 => ⟨S4x2816, .f32⟩
  | 48 => ⟨S_, .f32⟩
  | 49 => ⟨S4x2816, .f32⟩
  | 50 => ⟨S4x2816, .f32⟩
  | 51 => ⟨S4x2816, .f32⟩
  | 52 => ⟨S_, .f32⟩
  | 53 => ⟨S4x2816, .f32⟩
  | 54 => ⟨S4x2816, .f32⟩
  | 55 => ⟨S4x2816, .f32⟩
  | 56 => ⟨S_, .f32⟩
  | 57 => ⟨S4x2816, .f32⟩
  | 58 => ⟨S4x2816, .f32⟩
  | 59 => ⟨S4x2816, .f32⟩
  | 60 => ⟨S_, .f32⟩
  | 61 => ⟨S4x2816, .f32⟩
  | 62 => ⟨S4x2816, .f32⟩
  | _ => ⟨S2x384x96, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x384x96, .f32⟩

abbrev bufTy : (tb : Table) → Fin (tcTables nBuf tb) → BufTy
  | .hbm, ⟨i, _⟩ => hbmTy i
  | _, _ => ⟨S2x384x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_arg72 : Ref sig .tc := ⟨.hbm, 72, rfl⟩
abbrev main_arg73 : Ref sig .tc := ⟨.hbm, 73, rfl⟩
abbrev main_arg74 : Ref sig .tc := ⟨.hbm, 74, rfl⟩
abbrev main_arg75 : Ref sig .tc := ⟨.hbm, 75, rfl⟩
abbrev main_cst : Ref sig .tc := ⟨.hbm, 76, rfl⟩
abbrev main_v0 : Ref sig .tc := ⟨.hbm, 77, rfl⟩
abbrev main_v1 : Ref sig .tc := ⟨.hbm, 78, rfl⟩
abbrev main_cst_0 : Ref sig .tc := ⟨.hbm, 79, rfl⟩
abbrev main_v2 : Ref sig .tc := ⟨.hbm, 80, rfl⟩
abbrev main_v3 : Ref sig .tc := ⟨.hbm, 81, rfl⟩
abbrev main_v4 : Ref sig .tc := ⟨.hbm, 82, rfl⟩
abbrev main_cst_1 : Ref sig .tc := ⟨.hbm, 83, rfl⟩
abbrev main_v5 : Ref sig .tc := ⟨.hbm, 84, rfl⟩
abbrev main_v6 : Ref sig .tc := ⟨.hbm, 85, rfl⟩
abbrev main_v7 : Ref sig .tc := ⟨.hbm, 86, rfl⟩
abbrev main_cst_2 : Ref sig .tc := ⟨.hbm, 87, rfl⟩
abbrev main_v8 : Ref sig .tc := ⟨.hbm, 88, rfl⟩
abbrev main_v9 : Ref sig .tc := ⟨.hbm, 89, rfl⟩
abbrev main_v10 : Ref sig .tc := ⟨.hbm, 90, rfl⟩
abbrev main_cst_3 : Ref sig .tc := ⟨.hbm, 91, rfl⟩
abbrev main_v11 : Ref sig .tc := ⟨.hbm, 92, rfl⟩
abbrev main_v12 : Ref sig .tc := ⟨.hbm, 93, rfl⟩
abbrev main_cst_4 : Ref sig .tc := ⟨.hbm, 94, rfl⟩
abbrev main_v13 : Ref sig .tc := ⟨.hbm, 95, rfl⟩
abbrev main_v14 : Ref sig .tc := ⟨.hbm, 96, rfl⟩
abbrev main_v15 : Ref sig .tc := ⟨.hbm, 97, rfl⟩
abbrev main_cst_5 : Ref sig .tc := ⟨.hbm, 98, rfl⟩
abbrev main_v16 : Ref sig .tc := ⟨.hbm, 99, rfl⟩
abbrev main_v17 : Ref sig .tc := ⟨.hbm, 100, rfl⟩
abbrev main_v18 : Ref sig .tc := ⟨.hbm, 101, rfl⟩
abbrev main_cst_6 : Ref sig .tc := ⟨.hbm, 102, rfl⟩
abbrev main_v19 : Ref sig .tc := ⟨.hbm, 103, rfl⟩
abbrev main_v20 : Ref sig .tc := ⟨.hbm, 104, rfl⟩
abbrev main_v21 : Ref sig .tc := ⟨.hbm, 105, rfl⟩
abbrev main_cst_7 : Ref sig .tc := ⟨.hbm, 106, rfl⟩
abbrev main_v22 : Ref sig .tc := ⟨.hbm, 107, rfl⟩
abbrev main_v23 : Ref sig .tc := ⟨.hbm, 108, rfl⟩
abbrev main_cst_8 : Ref sig .tc := ⟨.hbm, 109, rfl⟩
abbrev main_v24 : Ref sig .tc := ⟨.hbm, 110, rfl⟩
abbrev main_v25 : Ref sig .tc := ⟨.hbm, 111, rfl⟩
abbrev main_cst_9 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_cst_10 : Ref sig .tc := ⟨.hbm, 116, rfl⟩
abbrev main_v29 : Ref sig .tc := ⟨.hbm, 117, rfl⟩
abbrev main_v30 : Ref sig .tc := ⟨.hbm, 118, rfl⟩
abbrev main_v31 : Ref sig .tc := ⟨.hbm, 119, rfl⟩
abbrev main_cst_11 : Ref sig .tc := ⟨.hbm, 120, rfl⟩
abbrev main_v32 : Ref sig .tc := ⟨.hbm, 121, rfl⟩
abbrev main_v33 : Ref sig .tc := ⟨.hbm, 122, rfl⟩
abbrev main_v34 : Ref sig .tc := ⟨.hbm, 123, rfl⟩
abbrev main_cst_12 : Ref sig .tc := ⟨.hbm, 124, rfl⟩
abbrev main_v35 : Ref sig .tc := ⟨.hbm, 125, rfl⟩
abbrev main_v36 : Ref sig .tc := ⟨.hbm, 126, rfl⟩
abbrev main_cst_13 : Ref sig .tc := ⟨.hbm, 127, rfl⟩
abbrev main_v37 : Ref sig .tc := ⟨.hbm, 128, rfl⟩
abbrev main_v38 : Ref sig .tc := ⟨.hbm, 129, rfl⟩
abbrev main_v39 : Ref sig .tc := ⟨.hbm, 130, rfl⟩
abbrev main_cst_14 : Ref sig .tc := ⟨.hbm, 131, rfl⟩
abbrev main_v40 : Ref sig .tc := ⟨.hbm, 132, rfl⟩
abbrev main_v41 : Ref sig .tc := ⟨.hbm, 133, rfl⟩
abbrev main_v42 : Ref sig .tc := ⟨.hbm, 134, rfl⟩
abbrev main_cst_15 : Ref sig .tc := ⟨.hbm, 135, rfl⟩
abbrev main_v43 : Ref sig .tc := ⟨.hbm, 136, rfl⟩
abbrev main_v44 : Ref sig .tc := ⟨.hbm, 137, rfl⟩
abbrev main_v45 : Ref sig .tc := ⟨.hbm, 138, rfl⟩
abbrev main_cst_16 : Ref sig .tc := ⟨.hbm, 139, rfl⟩
abbrev main_v46 : Ref sig .tc := ⟨.hbm, 140, rfl⟩
abbrev main_v47 : Ref sig .tc := ⟨.hbm, 141, rfl⟩
abbrev main_cst_17 : Ref sig .tc := ⟨.hbm, 142, rfl⟩
abbrev main_v48 : Ref sig .tc := ⟨.hbm, 143, rfl⟩
abbrev main_v49 : Ref sig .tc := ⟨.hbm, 144, rfl⟩
abbrev main_cst_18 : Ref sig .tc := ⟨.hbm, 145, rfl⟩
abbrev main_v50 : Ref sig .tc := ⟨.hbm, 146, rfl⟩
abbrev main_v51 : Ref sig .tc := ⟨.hbm, 147, rfl⟩
abbrev main_v52 : Ref sig .tc := ⟨.hbm, 148, rfl⟩
abbrev main_cst_19 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_cst_20 : Ref sig .tc := ⟨.hbm, 153, rfl⟩
abbrev main_v56 : Ref sig .tc := ⟨.hbm, 154, rfl⟩
abbrev main_v57 : Ref sig .tc := ⟨.hbm, 155, rfl⟩
abbrev main_v58 : Ref sig .tc := ⟨.hbm, 156, rfl⟩
abbrev main_cst_21 : Ref sig .tc := ⟨.hbm, 157, rfl⟩
abbrev main_v59 : Ref sig .tc := ⟨.hbm, 158, rfl⟩
abbrev main_v60 : Ref sig .tc := ⟨.hbm, 159, rfl⟩
abbrev main_cst_22 : Ref sig .tc := ⟨.hbm, 160, rfl⟩
abbrev main_v61 : Ref sig .tc := ⟨.hbm, 161, rfl⟩
abbrev main_v62 : Ref sig .tc := ⟨.hbm, 162, rfl⟩
abbrev main_v63 : Ref sig .tc := ⟨.hbm, 163, rfl⟩
abbrev main_cst_23 : Ref sig .tc := ⟨.hbm, 164, rfl⟩
abbrev main_v64 : Ref sig .tc := ⟨.hbm, 165, rfl⟩
abbrev main_v65 : Ref sig .tc := ⟨.hbm, 166, rfl⟩
abbrev main_v66 : Ref sig .tc := ⟨.hbm, 167, rfl⟩
abbrev main_cst_24 : Ref sig .tc := ⟨.hbm, 168, rfl⟩
abbrev main_v67 : Ref sig .tc := ⟨.hbm, 169, rfl⟩
abbrev main_v68 : Ref sig .tc := ⟨.hbm, 170, rfl⟩
abbrev main_v69 : Ref sig .tc := ⟨.hbm, 171, rfl⟩
abbrev main_cst_25 : Ref sig .tc := ⟨.hbm, 172, rfl⟩
abbrev main_v70 : Ref sig .tc := ⟨.hbm, 173, rfl⟩
abbrev main_v71 : Ref sig .tc := ⟨.hbm, 174, rfl⟩
abbrev main_cst_26 : Ref sig .tc := ⟨.hbm, 175, rfl⟩
abbrev main_v72 : Ref sig .tc := ⟨.hbm, 176, rfl⟩
abbrev main_v73 : Ref sig .tc := ⟨.hbm, 177, rfl⟩
abbrev main_cst_27 : Ref sig .tc := ⟨.hbm, 178, rfl⟩
abbrev main_v74 : Ref sig .tc := ⟨.hbm, 179, rfl⟩
abbrev main_v75 : Ref sig .tc := ⟨.hbm, 180, rfl⟩
abbrev main_v76 : Ref sig .tc := ⟨.hbm, 181, rfl⟩
abbrev main_cst_28 : Ref sig .tc := ⟨.hbm, 182, rfl⟩
abbrev main_v77 : Ref sig .tc := ⟨.hbm, 183, rfl⟩
abbrev main_v78 : Ref sig .tc := ⟨.hbm, 184, rfl⟩
abbrev main_v79 : Ref sig .tc := ⟨.hbm, 185, rfl⟩
abbrev main_cst_29 : Ref sig .tc := ⟨.hbm, 186, rfl⟩
abbrev main_v80 : Ref sig .tc := ⟨.hbm, 187, rfl⟩
abbrev main_v81 : Ref sig .tc := ⟨.hbm, 188, rfl⟩
abbrev main_v82 : Ref sig .tc := ⟨.hbm, 189, rfl⟩
abbrev main_cst_30 : Ref sig .tc := ⟨.hbm, 190, rfl⟩
abbrev main_v83 : Ref sig .tc := ⟨.hbm, 191, rfl⟩
abbrev main_v84 : Ref sig .tc := ⟨.hbm, 192, rfl⟩
abbrev main_cst_31 : Ref sig .tc := ⟨.hbm, 193, rfl⟩
abbrev main_v85 : Ref sig .tc := ⟨.hbm, 194, rfl⟩
abbrev main_v86 : Ref sig .tc := ⟨.hbm, 195, rfl⟩
abbrev main_v87 : Ref sig .tc := ⟨.hbm, 196, rfl⟩
abbrev main_cst_32 : Ref sig .tc := ⟨.hbm, 197, rfl⟩
abbrev main_v88 : Ref sig .tc := ⟨.hbm, 198, rfl⟩
abbrev main_v89 : Ref sig .tc := ⟨.hbm, 199, rfl⟩
abbrev main_v90 : Ref sig .tc := ⟨.hbm, 200, rfl⟩
abbrev main_cst_33 : Ref sig .tc := ⟨.hbm, 201, rfl⟩
abbrev main_v91 : Ref sig .tc := ⟨.hbm, 202, rfl⟩
abbrev main_v92 : Ref sig .tc := ⟨.hbm, 203, rfl⟩
abbrev main_v93 : Ref sig .tc := ⟨.hbm, 204, rfl⟩
abbrev main_cst_34 : Ref sig .tc := ⟨.hbm, 205, rfl⟩
abbrev main_v94 : Ref sig .tc := ⟨.hbm, 206, rfl⟩
abbrev main_v95 : Ref sig .tc := ⟨.hbm, 207, rfl⟩
abbrev main_cst_35 : Ref sig .tc := ⟨.hbm, 208, rfl⟩
abbrev main_v96 : Ref sig .tc := ⟨.hbm, 209, rfl⟩
abbrev main_v97 : Ref sig .tc := ⟨.hbm, 210, rfl⟩
abbrev main_cst_36 : Ref sig .tc := ⟨.hbm, 211, rfl⟩
abbrev main_v98 : Ref sig .tc := ⟨.hbm, 212, rfl⟩
abbrev main_v99 : Ref sig .tc := ⟨.hbm, 213, rfl⟩
abbrev main_v100 : Ref sig .tc := ⟨.hbm, 214, rfl⟩
abbrev main_cst_37 : Ref sig .tc := ⟨.hbm, 215, rfl⟩
abbrev main_v101 : Ref sig .tc := ⟨.hbm, 216, rfl⟩
abbrev main_v102 : Ref sig .tc := ⟨.hbm, 217, rfl⟩
abbrev main_v103 : Ref sig .tc := ⟨.hbm, 218, rfl⟩
abbrev main_cst_38 : Ref sig .tc := ⟨.hbm, 219, rfl⟩
abbrev main_v104 : Ref sig .tc := ⟨.hbm, 220, rfl⟩
abbrev main_v105 : Ref sig .tc := ⟨.hbm, 221, rfl⟩
abbrev main_v106 : Ref sig .tc := ⟨.hbm, 222, rfl⟩
abbrev main_cst_39 : Ref sig .tc := ⟨.hbm, 223, rfl⟩
abbrev main_v107 : Ref sig .tc := ⟨.hbm, 224, rfl⟩
abbrev main_v108 : Ref sig .tc := ⟨.hbm, 225, rfl⟩
abbrev main_cst_40 : Ref sig .tc := ⟨.hbm, 226, rfl⟩
abbrev main_v109 : Ref sig .tc := ⟨.hbm, 227, rfl⟩
abbrev main_v110 : Ref sig .tc := ⟨.hbm, 228, rfl⟩
abbrev main_v111 : Ref sig .tc := ⟨.hbm, 229, rfl⟩
abbrev main_cst_41 : Ref sig .tc := ⟨.hbm, 230, rfl⟩
abbrev main_v112 : Ref sig .tc := ⟨.hbm, 231, rfl⟩
abbrev main_v113 : Ref sig .tc := ⟨.hbm, 232, rfl⟩
abbrev main_v114 : Ref sig .tc := ⟨.hbm, 233, rfl⟩
abbrev main_cst_42 : Ref sig .tc := ⟨.hbm, 234, rfl⟩
abbrev main_v115 : Ref sig .tc := ⟨.hbm, 235, rfl⟩
abbrev main_v116 : Ref sig .tc := ⟨.hbm, 236, rfl⟩
abbrev main_v117 : Ref sig .tc := ⟨.hbm, 237, rfl⟩
abbrev main_cst_43 : Ref sig .tc := ⟨.hbm, 238, rfl⟩
abbrev main_v118 : Ref sig .tc := ⟨.hbm, 239, rfl⟩
abbrev main_v119 : Ref sig .tc := ⟨.hbm, 240, rfl⟩
abbrev main_cst_44 : Ref sig .tc := ⟨.hbm, 241, rfl⟩
abbrev main_v120 : Ref sig .tc := ⟨.hbm, 242, rfl⟩
abbrev main_v121 : Ref sig .tc := ⟨.hbm, 243, rfl⟩
abbrev main_cst_45 : Ref sig .tc := ⟨.hbm, 244, rfl⟩
abbrev main_v122 : Ref sig .tc := ⟨.hbm, 245, rfl⟩
abbrev main_v123 : Ref sig .tc := ⟨.hbm, 246, rfl⟩
abbrev main_v124 : Ref sig .tc := ⟨.hbm, 247, rfl⟩
abbrev main_cst_46 : Ref sig .tc := ⟨.hbm, 248, rfl⟩
abbrev main_v125 : Ref sig .tc := ⟨.hbm, 249, rfl⟩
abbrev main_v126 : Ref sig .tc := ⟨.hbm, 250, rfl⟩
abbrev main_v127 : Ref sig .tc := ⟨.hbm, 251, rfl⟩
abbrev main_cst_47 : Ref sig .tc := ⟨.hbm, 252, rfl⟩
abbrev main_v128 : Ref sig .tc := ⟨.hbm, 253, rfl⟩
abbrev main_v129 : Ref sig .tc := ⟨.hbm, 254, rfl⟩
abbrev main_v130 : Ref sig .tc := ⟨.hbm, 255, rfl⟩
abbrev main_cst_48 : Ref sig .tc := ⟨.hbm, 256, rfl⟩
abbrev main_v131 : Ref sig .tc := ⟨.hbm, 257, rfl⟩
abbrev main_v132 : Ref sig .tc := ⟨.hbm, 258, rfl⟩
abbrev main_cst_49 : Ref sig .tc := ⟨.hbm, 259, rfl⟩
abbrev main_v133 : Ref sig .tc := ⟨.hbm, 260, rfl⟩
abbrev main_v134 : Ref sig .tc := ⟨.hbm, 261, rfl⟩
abbrev main_v135 : Ref sig .tc := ⟨.hbm, 262, rfl⟩
abbrev main_cst_50 : Ref sig .tc := ⟨.hbm, 263, rfl⟩
abbrev main_v136 : Ref sig .tc := ⟨.hbm, 264, rfl⟩
abbrev main_v137 : Ref sig .tc := ⟨.hbm, 265, rfl⟩
abbrev main_v138 : Ref sig .tc := ⟨.hbm, 266, rfl⟩
abbrev main_cst_51 : Ref sig .tc := ⟨.hbm, 267, rfl⟩
abbrev main_v139 : Ref sig .tc := ⟨.hbm, 268, rfl⟩
abbrev main_v140 : Ref sig .tc := ⟨.hbm, 269, rfl⟩
abbrev main_v141 : Ref sig .tc := ⟨.hbm, 270, rfl⟩
abbrev main_cst_52 : Ref sig .tc := ⟨.hbm, 271, rfl⟩
abbrev main_v142 : Ref sig .tc := ⟨.hbm, 272, rfl⟩
abbrev main_v143 : Ref sig .tc := ⟨.hbm, 273, rfl⟩
abbrev main_cst_53 : Ref sig .tc := ⟨.hbm, 274, rfl⟩
abbrev main_v144 : Ref sig .tc := ⟨.hbm, 275, rfl⟩
abbrev main_v145 : Ref sig .tc := ⟨.hbm, 276, rfl⟩
abbrev main_cst_54 : Ref sig .tc := ⟨.hbm, 277, rfl⟩
abbrev main_v146 : Ref sig .tc := ⟨.hbm, 278, rfl⟩
abbrev main_v147 : Ref sig .tc := ⟨.hbm, 279, rfl⟩
abbrev main_v148 : Ref sig .tc := ⟨.hbm, 280, rfl⟩
abbrev main_cst_55 : Ref sig .tc := ⟨.hbm, 281, rfl⟩
abbrev main_v149 : Ref sig .tc := ⟨.hbm, 282, rfl⟩
abbrev main_v150 : Ref sig .tc := ⟨.hbm, 283, rfl⟩
abbrev main_v151 : Ref sig .tc := ⟨.hbm, 284, rfl⟩
abbrev main_cst_56 : Ref sig .tc := ⟨.hbm, 285, rfl⟩
abbrev main_v152 : Ref sig .tc := ⟨.hbm, 286, rfl⟩
abbrev main_v153 : Ref sig .tc := ⟨.hbm, 287, rfl⟩
abbrev main_v154 : Ref sig .tc := ⟨.hbm, 288, rfl⟩
abbrev main_cst_57 : Ref sig .tc := ⟨.hbm, 289, rfl⟩
abbrev main_v155 : Ref sig .tc := ⟨.hbm, 290, rfl⟩
abbrev main_v156 : Ref sig .tc := ⟨.hbm, 291, rfl⟩
abbrev main_cst_58 : Ref sig .tc := ⟨.hbm, 292, rfl⟩
abbrev main_v157 : Ref sig .tc := ⟨.hbm, 293, rfl⟩
abbrev main_v158 : Ref sig .tc := ⟨.hbm, 294, rfl⟩
abbrev main_v159 : Ref sig .tc := ⟨.hbm, 295, rfl⟩
abbrev main_cst_59 : Ref sig .tc := ⟨.hbm, 296, rfl⟩
abbrev main_v160 : Ref sig .tc := ⟨.hbm, 297, rfl⟩
abbrev main_v161 : Ref sig .tc := ⟨.hbm, 298, rfl⟩
abbrev main_v162 : Ref sig .tc := ⟨.hbm, 299, rfl⟩
abbrev main_cst_60 : Ref sig .tc := ⟨.hbm, 300, rfl⟩
abbrev main_v163 : Ref sig .tc := ⟨.hbm, 301, rfl⟩
abbrev main_v164 : Ref sig .tc := ⟨.hbm, 302, rfl⟩
abbrev main_v165 : Ref sig .tc := ⟨.hbm, 303, rfl⟩
abbrev main_cst_61 : Ref sig .tc := ⟨.hbm, 304, rfl⟩
abbrev main_v166 : Ref sig .tc := ⟨.hbm, 305, rfl⟩
abbrev main_v167 : Ref sig .tc := ⟨.hbm, 306, rfl⟩
abbrev main_cst_62 : Ref sig .tc := ⟨.hbm, 307, rfl⟩
abbrev main_v168 : Ref sig .tc := ⟨.hbm, 308, rfl⟩
abbrev main_v169 : Ref sig .tc := ⟨.hbm, 309, rfl⟩
abbrev main_cst_63 : Ref sig .tc := ⟨.hbm, 310, rfl⟩
abbrev main_v170 : Ref sig .tc := ⟨.hbm, 311, rfl⟩
abbrev main_v171 : Ref sig .tc := ⟨.hbm, 312, rfl⟩
abbrev main_v172 : Ref sig .tc := ⟨.hbm, 313, rfl⟩
abbrev main_cst_64 : Ref sig .tc := ⟨.hbm, 314, rfl⟩
abbrev main_v173 : Ref sig .tc := ⟨.hbm, 315, rfl⟩
abbrev main_v174 : Ref sig .tc := ⟨.hbm, 316, rfl⟩
abbrev main_v175 : Ref sig .tc := ⟨.hbm, 317, rfl⟩
abbrev main_cst_65 : Ref sig .tc := ⟨.hbm, 318, rfl⟩
abbrev main_v176 : Ref sig .tc := ⟨.hbm, 319, rfl⟩
abbrev main_v177 : Ref sig .tc := ⟨.hbm, 320, rfl⟩
abbrev main_v178 : Ref sig .tc := ⟨.hbm, 321, rfl⟩
abbrev main_cst_66 : Ref sig .tc := ⟨.hbm, 322, rfl⟩
abbrev main_v179 : Ref sig .tc := ⟨.hbm, 323, rfl⟩
abbrev main_v180 : Ref sig .tc := ⟨.hbm, 324, rfl⟩
abbrev main_cst_67 : Ref sig .tc := ⟨.hbm, 325, rfl⟩
abbrev main_v181 : Ref sig .tc := ⟨.hbm, 326, rfl⟩
abbrev main_v182 : Ref sig .tc := ⟨.hbm, 327, rfl⟩
abbrev main_v183 : Ref sig .tc := ⟨.hbm, 328, rfl⟩
abbrev main_cst_68 : Ref sig .tc := ⟨.hbm, 329, rfl⟩
abbrev main_v184 : Ref sig .tc := ⟨.hbm, 330, rfl⟩
abbrev main_v185 : Ref sig .tc := ⟨.hbm, 331, rfl⟩
abbrev main_v186 : Ref sig .tc := ⟨.hbm, 332, rfl⟩
abbrev main_cst_69 : Ref sig .tc := ⟨.hbm, 333, rfl⟩
abbrev main_v187 : Ref sig .tc := ⟨.hbm, 334, rfl⟩
abbrev main_v188 : Ref sig .tc := ⟨.hbm, 335, rfl⟩
abbrev main_v189 : Ref sig .tc := ⟨.hbm, 336, rfl⟩
abbrev main_cst_70 : Ref sig .tc := ⟨.hbm, 337, rfl⟩
abbrev main_v190 : Ref sig .tc := ⟨.hbm, 338, rfl⟩
abbrev main_v191 : Ref sig .tc := ⟨.hbm, 339, rfl⟩
abbrev main_cst_71 : Ref sig .tc := ⟨.hbm, 340, rfl⟩
abbrev main_v192 : Ref sig .tc := ⟨.hbm, 341, rfl⟩
abbrev main_v193 : Ref sig .tc := ⟨.hbm, 342, rfl⟩
abbrev main_cst_72 : Ref sig .tc := ⟨.hbm, 343, rfl⟩
abbrev main_v194 : Ref sig .tc := ⟨.hbm, 344, rfl⟩
abbrev main_v195 : Ref sig .tc := ⟨.hbm, 345, rfl⟩
abbrev main_v196 : Ref sig .tc := ⟨.hbm, 346, rfl⟩
abbrev main_cst_73 : Ref sig .tc := ⟨.hbm, 347, rfl⟩
abbrev main_v197 : Ref sig .tc := ⟨.hbm, 348, rfl⟩
abbrev main_v198 : Ref sig .tc := ⟨.hbm, 349, rfl⟩
abbrev main_v199 : Ref sig .tc := ⟨.hbm, 350, rfl⟩
abbrev main_cst_74 : Ref sig .tc := ⟨.hbm, 351, rfl⟩
abbrev main_v200 : Ref sig .tc := ⟨.hbm, 352, rfl⟩
abbrev main_v201 : Ref sig .tc := ⟨.hbm, 353, rfl⟩
abbrev main_v202 : Ref sig .tc := ⟨.hbm, 354, rfl⟩
abbrev main_cst_75 : Ref sig .tc := ⟨.hbm, 355, rfl⟩
abbrev main_v203 : Ref sig .tc := ⟨.hbm, 356, rfl⟩
abbrev main_v204 : Ref sig .tc := ⟨.hbm, 357, rfl⟩
abbrev main_cst_76 : Ref sig .tc := ⟨.hbm, 358, rfl⟩
abbrev main_v205 : Ref sig .tc := ⟨.hbm, 359, rfl⟩
abbrev main_v206 : Ref sig .tc := ⟨.hbm, 360, rfl⟩
abbrev main_v207 : Ref sig .tc := ⟨.hbm, 361, rfl⟩
abbrev main_cst_77 : Ref sig .tc := ⟨.hbm, 362, rfl⟩
abbrev main_v208 : Ref sig .tc := ⟨.hbm, 363, rfl⟩
abbrev main_v209 : Ref sig .tc := ⟨.hbm, 364, rfl⟩
abbrev main_v210 : Ref sig .tc := ⟨.hbm, 365, rfl⟩
abbrev main_cst_78 : Ref sig .tc := ⟨.hbm, 366, rfl⟩
abbrev main_v211 : Ref sig .tc := ⟨.hbm, 367, rfl⟩
abbrev main_v212 : Ref sig .tc := ⟨.hbm, 368, rfl⟩
abbrev main_v213 : Ref sig .tc := ⟨.hbm, 369, rfl⟩
abbrev main_cst_79 : Ref sig .tc := ⟨.hbm, 370, rfl⟩
abbrev main_v214 : Ref sig .tc := ⟨.hbm, 371, rfl⟩
abbrev main_v215 : Ref sig .tc := ⟨.hbm, 372, rfl⟩
abbrev main_cst_80 : Ref sig .tc := ⟨.hbm, 373, rfl⟩
abbrev main_v216 : Ref sig .tc := ⟨.hbm, 374, rfl⟩
abbrev main_v217 : Ref sig .tc := ⟨.hbm, 375, rfl⟩
abbrev main_cst_81 : Ref sig .tc := ⟨.hbm, 376, rfl⟩
abbrev main_v218 : Ref sig .tc := ⟨.hbm, 377, rfl⟩
abbrev main_v219 : Ref sig .tc := ⟨.hbm, 378, rfl⟩
abbrev main_v220 : Ref sig .tc := ⟨.hbm, 379, rfl⟩
abbrev main_cst_82 : Ref sig .tc := ⟨.hbm, 380, rfl⟩
abbrev main_v221 : Ref sig .tc := ⟨.hbm, 381, rfl⟩
abbrev main_v222 : Ref sig .tc := ⟨.hbm, 382, rfl⟩
abbrev main_v223 : Ref sig .tc := ⟨.hbm, 383, rfl⟩
abbrev main_cst_83 : Ref sig .tc := ⟨.hbm, 384, rfl⟩
abbrev main_v224 : Ref sig .tc := ⟨.hbm, 385, rfl⟩
abbrev main_v225 : Ref sig .tc := ⟨.hbm, 386, rfl⟩
abbrev main_v226 : Ref sig .tc := ⟨.hbm, 387, rfl⟩
abbrev main_cst_84 : Ref sig .tc := ⟨.hbm, 388, rfl⟩
abbrev main_v227 : Ref sig .tc := ⟨.hbm, 389, rfl⟩
abbrev main_v228 : Ref sig .tc := ⟨.hbm, 390, rfl⟩
abbrev main_cst_85 : Ref sig .tc := ⟨.hbm, 391, rfl⟩
abbrev main_v229 : Ref sig .tc := ⟨.hbm, 392, rfl⟩
abbrev main_v230 : Ref sig .tc := ⟨.hbm, 393, rfl⟩
abbrev main_v231 : Ref sig .tc := ⟨.hbm, 394, rfl⟩
abbrev main_cst_86 : Ref sig .tc := ⟨.hbm, 395, rfl⟩
abbrev main_v232 : Ref sig .tc := ⟨.hbm, 396, rfl⟩
abbrev main_v233 : Ref sig .tc := ⟨.hbm, 397, rfl⟩
abbrev main_v234 : Ref sig .tc := ⟨.hbm, 398, rfl⟩
abbrev main_cst_87 : Ref sig .tc := ⟨.hbm, 399, rfl⟩
abbrev main_v235 : Ref sig .tc := ⟨.hbm, 400, rfl⟩
abbrev main_v236 : Ref sig .tc := ⟨.hbm, 401, rfl⟩
abbrev main_v237 : Ref sig .tc := ⟨.hbm, 402, rfl⟩
abbrev main_cst_88 : Ref sig .tc := ⟨.hbm, 403, rfl⟩
abbrev main_v238 : Ref sig .tc := ⟨.hbm, 404, rfl⟩
abbrev main_v239 : Ref sig .tc := ⟨.hbm, 405, rfl⟩
abbrev main_cst_89 : Ref sig .tc := ⟨.hbm, 406, rfl⟩
abbrev main_v240 : Ref sig .tc := ⟨.hbm, 407, rfl⟩
abbrev main_v241 : Ref sig .tc := ⟨.hbm, 408, rfl⟩
abbrev main_cst_90 : Ref sig .tc := ⟨.hbm, 409, rfl⟩
abbrev main_v242 : Ref sig .tc := ⟨.hbm, 410, rfl⟩
abbrev main_v243 : Ref sig .tc := ⟨.hbm, 411, rfl⟩
abbrev main_v244 : Ref sig .tc := ⟨.hbm, 412, rfl⟩
abbrev main_cst_91 : Ref sig .tc := ⟨.hbm, 413, rfl⟩
abbrev main_v245 : Ref sig .tc := ⟨.hbm, 414, rfl⟩
abbrev main_v246 : Ref sig .tc := ⟨.hbm, 415, rfl⟩
abbrev main_v247 : Ref sig .tc := ⟨.hbm, 416, rfl⟩
abbrev main_cst_92 : Ref sig .tc := ⟨.hbm, 417, rfl⟩
abbrev main_v248 : Ref sig .tc := ⟨.hbm, 418, rfl⟩
abbrev main_v249 : Ref sig .tc := ⟨.hbm, 419, rfl⟩
abbrev main_v250 : Ref sig .tc := ⟨.hbm, 420, rfl⟩
abbrev main_cst_93 : Ref sig .tc := ⟨.hbm, 421, rfl⟩
abbrev main_v251 : Ref sig .tc := ⟨.hbm, 422, rfl⟩
abbrev main_v252 : Ref sig .tc := ⟨.hbm, 423, rfl⟩
abbrev main_cst_94 : Ref sig .tc := ⟨.hbm, 424, rfl⟩
abbrev main_v253 : Ref sig .tc := ⟨.hbm, 425, rfl⟩
abbrev main_v254 : Ref sig .tc := ⟨.hbm, 426, rfl⟩
abbrev main_v255 : Ref sig .tc := ⟨.hbm, 427, rfl⟩
abbrev main_cst_95 : Ref sig .tc := ⟨.hbm, 428, rfl⟩
abbrev main_v256 : Ref sig .tc := ⟨.hbm, 429, rfl⟩
abbrev main_v257 : Ref sig .tc := ⟨.hbm, 430, rfl⟩
abbrev main_v258 : Ref sig .tc := ⟨.hbm, 431, rfl⟩
abbrev main_cst_96 : Ref sig .tc := ⟨.hbm, 432, rfl⟩
abbrev main_v259 : Ref sig .tc := ⟨.hbm, 433, rfl⟩
abbrev main_v260 : Ref sig .tc := ⟨.hbm, 434, rfl⟩
abbrev main_v261 : Ref sig .tc := ⟨.hbm, 435, rfl⟩
abbrev main_cst_97 : Ref sig .tc := ⟨.hbm, 436, rfl⟩
abbrev main_v262 : Ref sig .tc := ⟨.hbm, 437, rfl⟩
abbrev main_v263 : Ref sig .tc := ⟨.hbm, 438, rfl⟩
abbrev main_cst_98 : Ref sig .tc := ⟨.hbm, 439, rfl⟩
abbrev main_v264 : Ref sig .tc := ⟨.hbm, 440, rfl⟩
abbrev main_v265 : Ref sig .tc := ⟨.hbm, 441, rfl⟩
abbrev main_cst_99 : Ref sig .tc := ⟨.hbm, 442, rfl⟩
abbrev main_v266 : Ref sig .tc := ⟨.hbm, 443, rfl⟩
abbrev main_v267 : Ref sig .tc := ⟨.hbm, 444, rfl⟩
abbrev main_v268 : Ref sig .tc := ⟨.hbm, 445, rfl⟩
abbrev main_cst_100 : Ref sig .tc := ⟨.hbm, 446, rfl⟩
abbrev main_v269 : Ref sig .tc := ⟨.hbm, 447, rfl⟩
abbrev main_v270 : Ref sig .tc := ⟨.hbm, 448, rfl⟩
abbrev main_v271 : Ref sig .tc := ⟨.hbm, 449, rfl⟩
abbrev main_cst_101 : Ref sig .tc := ⟨.hbm, 450, rfl⟩
abbrev main_v272 : Ref sig .tc := ⟨.hbm, 451, rfl⟩
abbrev main_v273 : Ref sig .tc := ⟨.hbm, 452, rfl⟩
abbrev main_v274 : Ref sig .tc := ⟨.hbm, 453, rfl⟩
abbrev main_cst_102 : Ref sig .tc := ⟨.hbm, 454, rfl⟩
abbrev main_v275 : Ref sig .tc := ⟨.hbm, 455, rfl⟩
abbrev main_v276 : Ref sig .tc := ⟨.hbm, 456, rfl⟩
abbrev main_cst_103 : Ref sig .tc := ⟨.hbm, 457, rfl⟩
abbrev main_v277 : Ref sig .tc := ⟨.hbm, 458, rfl⟩
abbrev main_v278 : Ref sig .tc := ⟨.hbm, 459, rfl⟩
abbrev main_v279 : Ref sig .tc := ⟨.hbm, 460, rfl⟩
abbrev main_cst_104 : Ref sig .tc := ⟨.hbm, 461, rfl⟩
abbrev main_v280 : Ref sig .tc := ⟨.hbm, 462, rfl⟩
abbrev main_v281 : Ref sig .tc := ⟨.hbm, 463, rfl⟩
abbrev main_v282 : Ref sig .tc := ⟨.hbm, 464, rfl⟩
abbrev main_cst_105 : Ref sig .tc := ⟨.hbm, 465, rfl⟩
abbrev main_v283 : Ref sig .tc := ⟨.hbm, 466, rfl⟩
abbrev main_v284 : Ref sig .tc := ⟨.hbm, 467, rfl⟩
abbrev main_v285 : Ref sig .tc := ⟨.hbm, 468, rfl⟩
abbrev main_cst_106 : Ref sig .tc := ⟨.hbm, 469, rfl⟩
abbrev main_v286 : Ref sig .tc := ⟨.hbm, 470, rfl⟩
abbrev main_v287 : Ref sig .tc := ⟨.hbm, 471, rfl⟩
abbrev main_cst_107 : Ref sig .tc := ⟨.hbm, 472, rfl⟩
abbrev main_v288 : Ref sig .tc := ⟨.hbm, 473, rfl⟩
abbrev main_v289 : Ref sig .tc := ⟨.hbm, 474, rfl⟩
abbrev main_cst_108 : Ref sig .tc := ⟨.hbm, 475, rfl⟩
abbrev main_v290 : Ref sig .tc := ⟨.hbm, 476, rfl⟩
abbrev main_v291 : Ref sig .tc := ⟨.hbm, 477, rfl⟩
abbrev main_v292 : Ref sig .tc := ⟨.hbm, 478, rfl⟩
abbrev main_cst_109 : Ref sig .tc := ⟨.hbm, 479, rfl⟩
abbrev main_v293 : Ref sig .tc := ⟨.hbm, 480, rfl⟩
abbrev main_v294 : Ref sig .tc := ⟨.hbm, 481, rfl⟩
abbrev main_v295 : Ref sig .tc := ⟨.hbm, 482, rfl⟩
abbrev main_cst_110 : Ref sig .tc := ⟨.hbm, 483, rfl⟩
abbrev main_v296 : Ref sig .tc := ⟨.hbm, 484, rfl⟩
abbrev main_v297 : Ref sig .tc := ⟨.hbm, 485, rfl⟩
abbrev main_v298 : Ref sig .tc := ⟨.hbm, 486, rfl⟩
abbrev main_cst_111 : Ref sig .tc := ⟨.hbm, 487, rfl⟩
abbrev main_v299 : Ref sig .tc := ⟨.hbm, 488, rfl⟩
abbrev main_v300 : Ref sig .tc := ⟨.hbm, 489, rfl⟩
abbrev main_cst_112 : Ref sig .tc := ⟨.hbm, 490, rfl⟩
abbrev main_v301 : Ref sig .tc := ⟨.hbm, 491, rfl⟩
abbrev main_v302 : Ref sig .tc := ⟨.hbm, 492, rfl⟩
abbrev main_v303 : Ref sig .tc := ⟨.hbm, 493, rfl⟩
abbrev main_cst_113 : Ref sig .tc := ⟨.hbm, 494, rfl⟩
abbrev main_v304 : Ref sig .tc := ⟨.hbm, 495, rfl⟩
abbrev main_v305 : Ref sig .tc := ⟨.hbm, 496, rfl⟩
abbrev main_v306 : Ref sig .tc := ⟨.hbm, 497, rfl⟩
abbrev main_cst_114 : Ref sig .tc := ⟨.hbm, 498, rfl⟩
abbrev main_v307 : Ref sig .tc := ⟨.hbm, 499, rfl⟩
abbrev main_v308 : Ref sig .tc := ⟨.hbm, 500, rfl⟩
abbrev main_v309 : Ref sig .tc := ⟨.hbm, 501, rfl⟩
abbrev main_cst_115 : Ref sig .tc := ⟨.hbm, 502, rfl⟩
abbrev main_v310 : Ref sig .tc := ⟨.hbm, 503, rfl⟩
abbrev main_v311 : Ref sig .tc := ⟨.hbm, 504, rfl⟩
abbrev main_cst_116 : Ref sig .tc := ⟨.hbm, 505, rfl⟩
abbrev main_v312 : Ref sig .tc := ⟨.hbm, 506, rfl⟩
abbrev main_v313 : Ref sig .tc := ⟨.hbm, 507, rfl⟩
abbrev main_cst_117 : Ref sig .tc := ⟨.hbm, 508, rfl⟩
abbrev main_v314 : Ref sig .tc := ⟨.hbm, 509, rfl⟩
abbrev main_v315 : Ref sig .tc := ⟨.hbm, 510, rfl⟩
abbrev main_v316 : Ref sig .tc := ⟨.hbm, 511, rfl⟩
abbrev main_cst_118 : Ref sig .tc := ⟨.hbm, 512, rfl⟩
abbrev main_v317 : Ref sig .tc := ⟨.hbm, 513, rfl⟩
abbrev main_v318 : Ref sig .tc := ⟨.hbm, 514, rfl⟩
abbrev main_v319 : Ref sig .tc := ⟨.hbm, 515, rfl⟩
abbrev main_cst_119 : Ref sig .tc := ⟨.hbm, 516, rfl⟩
abbrev main_v320 : Ref sig .tc := ⟨.hbm, 517, rfl⟩
abbrev main_v321 : Ref sig .tc := ⟨.hbm, 518, rfl⟩
abbrev main_v322 : Ref sig .tc := ⟨.hbm, 519, rfl⟩
abbrev main_cst_120 : Ref sig .tc := ⟨.hbm, 520, rfl⟩
abbrev main_v323 : Ref sig .tc := ⟨.hbm, 521, rfl⟩
abbrev main_v324 : Ref sig .tc := ⟨.hbm, 522, rfl⟩
abbrev main_cst_121 : Ref sig .tc := ⟨.hbm, 523, rfl⟩
abbrev main_v325 : Ref sig .tc := ⟨.hbm, 524, rfl⟩
abbrev main_v326 : Ref sig .tc := ⟨.hbm, 525, rfl⟩
abbrev main_v327 : Ref sig .tc := ⟨.hbm, 526, rfl⟩
abbrev main_cst_122 : Ref sig .tc := ⟨.hbm, 527, rfl⟩
abbrev main_v328 : Ref sig .tc := ⟨.hbm, 528, rfl⟩
abbrev main_v329 : Ref sig .tc := ⟨.hbm, 529, rfl⟩
abbrev main_v330 : Ref sig .tc := ⟨.hbm, 530, rfl⟩
abbrev main_cst_123 : Ref sig .tc := ⟨.hbm, 531, rfl⟩
abbrev main_v331 : Ref sig .tc := ⟨.hbm, 532, rfl⟩
abbrev main_v332 : Ref sig .tc := ⟨.hbm, 533, rfl⟩
abbrev main_v333 : Ref sig .tc := ⟨.hbm, 534, rfl⟩
abbrev main_cst_124 : Ref sig .tc := ⟨.hbm, 535, rfl⟩
abbrev main_v334 : Ref sig .tc := ⟨.hbm, 536, rfl⟩
abbrev main_v335 : Ref sig .tc := ⟨.hbm, 537, rfl⟩
abbrev main_cst_125 : Ref sig .tc := ⟨.hbm, 538, rfl⟩
abbrev main_v336 : Ref sig .tc := ⟨.hbm, 539, rfl⟩
abbrev main_v337 : Ref sig .tc := ⟨.hbm, 540, rfl⟩
abbrev main_cst_126 : Ref sig .tc := ⟨.hbm, 541, rfl⟩
abbrev main_v338 : Ref sig .tc := ⟨.hbm, 542, rfl⟩
abbrev main_v339 : Ref sig .tc := ⟨.hbm, 543, rfl⟩
abbrev main_v340 : Ref sig .tc := ⟨.hbm, 544, rfl⟩
abbrev main_cst_127 : Ref sig .tc := ⟨.hbm, 545, rfl⟩
abbrev main_v341 : Ref sig .tc := ⟨.hbm, 546, rfl⟩
abbrev main_v342 : Ref sig .tc := ⟨.hbm, 547, rfl⟩
abbrev main_v343 : Ref sig .tc := ⟨.hbm, 548, rfl⟩
abbrev main_cst_128 : Ref sig .tc := ⟨.hbm, 549, rfl⟩
abbrev main_v344 : Ref sig .tc := ⟨.hbm, 550, rfl⟩
abbrev main_v345 : Ref sig .tc := ⟨.hbm, 551, rfl⟩
abbrev main_v346 : Ref sig .tc := ⟨.hbm, 552, rfl⟩
abbrev main_cst_129 : Ref sig .tc := ⟨.hbm, 553, rfl⟩
abbrev main_v347 : Ref sig .tc := ⟨.hbm, 554, rfl⟩
abbrev main_v348 : Ref sig .tc := ⟨.hbm, 555, rfl⟩
abbrev main_cst_130 : Ref sig .tc := ⟨.hbm, 556, rfl⟩
abbrev main_v349 : Ref sig .tc := ⟨.hbm, 557, rfl⟩
abbrev main_v350 : Ref sig .tc := ⟨.hbm, 558, rfl⟩
abbrev main_v351 : Ref sig .tc := ⟨.hbm, 559, rfl⟩
abbrev main_cst_131 : Ref sig .tc := ⟨.hbm, 560, rfl⟩
abbrev main_v352 : Ref sig .tc := ⟨.hbm, 561, rfl⟩
abbrev main_v353 : Ref sig .tc := ⟨.hbm, 562, rfl⟩
abbrev main_v354 : Ref sig .tc := ⟨.hbm, 563, rfl⟩
abbrev main_cst_132 : Ref sig .tc := ⟨.hbm, 564, rfl⟩
abbrev main_v355 : Ref sig .tc := ⟨.hbm, 565, rfl⟩
abbrev main_v356 : Ref sig .tc := ⟨.hbm, 566, rfl⟩
abbrev main_v357 : Ref sig .tc := ⟨.hbm, 567, rfl⟩
abbrev main_cst_133 : Ref sig .tc := ⟨.hbm, 568, rfl⟩
abbrev main_v358 : Ref sig .tc := ⟨.hbm, 569, rfl⟩
abbrev main_v359 : Ref sig .tc := ⟨.hbm, 570, rfl⟩
abbrev main_cst_134 : Ref sig .tc := ⟨.hbm, 571, rfl⟩
abbrev main_v360 : Ref sig .tc := ⟨.hbm, 572, rfl⟩
abbrev main_v361 : Ref sig .tc := ⟨.hbm, 573, rfl⟩
abbrev main_cst_135 : Ref sig .tc := ⟨.hbm, 574, rfl⟩
abbrev main_v362 : Ref sig .tc := ⟨.hbm, 575, rfl⟩
abbrev main_v363 : Ref sig .tc := ⟨.hbm, 576, rfl⟩
abbrev main_v364 : Ref sig .tc := ⟨.hbm, 577, rfl⟩
abbrev main_cst_136 : Ref sig .tc := ⟨.hbm, 578, rfl⟩
abbrev main_v365 : Ref sig .tc := ⟨.hbm, 579, rfl⟩
abbrev main_v366 : Ref sig .tc := ⟨.hbm, 580, rfl⟩
abbrev main_v367 : Ref sig .tc := ⟨.hbm, 581, rfl⟩
abbrev main_cst_137 : Ref sig .tc := ⟨.hbm, 582, rfl⟩
abbrev main_v368 : Ref sig .tc := ⟨.hbm, 583, rfl⟩
abbrev main_v369 : Ref sig .tc := ⟨.hbm, 584, rfl⟩
abbrev main_v370 : Ref sig .tc := ⟨.hbm, 585, rfl⟩
abbrev main_cst_138 : Ref sig .tc := ⟨.hbm, 586, rfl⟩
abbrev main_v371 : Ref sig .tc := ⟨.hbm, 587, rfl⟩
abbrev main_v372 : Ref sig .tc := ⟨.hbm, 588, rfl⟩
abbrev main_cst_139 : Ref sig .tc := ⟨.hbm, 589, rfl⟩
abbrev main_v373 : Ref sig .tc := ⟨.hbm, 590, rfl⟩
abbrev main_v374 : Ref sig .tc := ⟨.hbm, 591, rfl⟩
abbrev main_v375 : Ref sig .tc := ⟨.hbm, 592, rfl⟩
abbrev main_cst_140 : Ref sig .tc := ⟨.hbm, 593, rfl⟩
abbrev main_v376 : Ref sig .tc := ⟨.hbm, 594, rfl⟩
abbrev main_v377 : Ref sig .tc := ⟨.hbm, 595, rfl⟩
abbrev main_v378 : Ref sig .tc := ⟨.hbm, 596, rfl⟩
abbrev main_cst_141 : Ref sig .tc := ⟨.hbm, 597, rfl⟩
abbrev main_v379 : Ref sig .tc := ⟨.hbm, 598, rfl⟩
abbrev main_v380 : Ref sig .tc := ⟨.hbm, 599, rfl⟩
abbrev main_v381 : Ref sig .tc := ⟨.hbm, 600, rfl⟩
abbrev main_cst_142 : Ref sig .tc := ⟨.hbm, 601, rfl⟩
abbrev main_v382 : Ref sig .tc := ⟨.hbm, 602, rfl⟩
abbrev main_v383 : Ref sig .tc := ⟨.hbm, 603, rfl⟩
abbrev main_cst_143 : Ref sig .tc := ⟨.hbm, 604, rfl⟩
abbrev main_v384 : Ref sig .tc := ⟨.hbm, 605, rfl⟩
abbrev main_v385 : Ref sig .tc := ⟨.hbm, 606, rfl⟩
abbrev main_cst_144 : Ref sig .tc := ⟨.hbm, 607, rfl⟩
abbrev main_v386 : Ref sig .tc := ⟨.hbm, 608, rfl⟩
abbrev main_v387 : Ref sig .tc := ⟨.hbm, 609, rfl⟩
abbrev main_v388 : Ref sig .tc := ⟨.hbm, 610, rfl⟩
abbrev main_cst_145 : Ref sig .tc := ⟨.hbm, 611, rfl⟩
abbrev main_v389 : Ref sig .tc := ⟨.hbm, 612, rfl⟩
abbrev main_v390 : Ref sig .tc := ⟨.hbm, 613, rfl⟩
abbrev main_v391 : Ref sig .tc := ⟨.hbm, 614, rfl⟩
abbrev main_cst_146 : Ref sig .tc := ⟨.hbm, 615, rfl⟩
abbrev main_v392 : Ref sig .tc := ⟨.hbm, 616, rfl⟩
abbrev main_v393 : Ref sig .tc := ⟨.hbm, 617, rfl⟩
abbrev main_v394 : Ref sig .tc := ⟨.hbm, 618, rfl⟩
abbrev main_cst_147 : Ref sig .tc := ⟨.hbm, 619, rfl⟩
abbrev main_v395 : Ref sig .tc := ⟨.hbm, 620, rfl⟩
abbrev main_v396 : Ref sig .tc := ⟨.hbm, 621, rfl⟩
abbrev main_cst_148 : Ref sig .tc := ⟨.hbm, 622, rfl⟩
abbrev main_v397 : Ref sig .tc := ⟨.hbm, 623, rfl⟩
abbrev main_v398 : Ref sig .tc := ⟨.hbm, 624, rfl⟩
abbrev main_v399 : Ref sig .tc := ⟨.hbm, 625, rfl⟩
abbrev main_cst_149 : Ref sig .tc := ⟨.hbm, 626, rfl⟩
abbrev main_v400 : Ref sig .tc := ⟨.hbm, 627, rfl⟩
abbrev main_v401 : Ref sig .tc := ⟨.hbm, 628, rfl⟩
abbrev main_v402 : Ref sig .tc := ⟨.hbm, 629, rfl⟩
abbrev main_cst_150 : Ref sig .tc := ⟨.hbm, 630, rfl⟩
abbrev main_v403 : Ref sig .tc := ⟨.hbm, 631, rfl⟩
abbrev main_v404 : Ref sig .tc := ⟨.hbm, 632, rfl⟩
abbrev main_v405 : Ref sig .tc := ⟨.hbm, 633, rfl⟩
abbrev main_cst_151 : Ref sig .tc := ⟨.hbm, 634, rfl⟩
abbrev main_v406 : Ref sig .tc := ⟨.hbm, 635, rfl⟩
abbrev main_v407 : Ref sig .tc := ⟨.hbm, 636, rfl⟩
abbrev main_cst_152 : Ref sig .tc := ⟨.hbm, 637, rfl⟩
abbrev main_v408 : Ref sig .tc := ⟨.hbm, 638, rfl⟩
abbrev main_v409 : Ref sig .tc := ⟨.hbm, 639, rfl⟩
abbrev main_cst_153 : Ref sig .tc := ⟨.hbm, 640, rfl⟩
abbrev main_v410 : Ref sig .tc := ⟨.hbm, 641, rfl⟩
abbrev main_v411 : Ref sig .tc := ⟨.hbm, 642, rfl⟩
abbrev main_v412 : Ref sig .tc := ⟨.hbm, 643, rfl⟩
abbrev main_cst_154 : Ref sig .tc := ⟨.hbm, 644, rfl⟩
abbrev main_v413 : Ref sig .tc := ⟨.hbm, 645, rfl⟩
abbrev main_v414 : Ref sig .tc := ⟨.hbm, 646, rfl⟩
abbrev main_v415 : Ref sig .tc := ⟨.hbm, 647, rfl⟩
abbrev main_cst_155 : Ref sig .tc := ⟨.hbm, 648, rfl⟩
abbrev main_v416 : Ref sig .tc := ⟨.hbm, 649, rfl⟩
abbrev main_v417 : Ref sig .tc := ⟨.hbm, 650, rfl⟩
abbrev main_v418 : Ref sig .tc := ⟨.hbm, 651, rfl⟩
abbrev main_cst_156 : Ref sig .tc := ⟨.hbm, 652, rfl⟩
abbrev main_v419 : Ref sig .tc := ⟨.hbm, 653, rfl⟩
abbrev main_v420 : Ref sig .tc := ⟨.hbm, 654, rfl⟩
abbrev main_cst_157 : Ref sig .tc := ⟨.hbm, 655, rfl⟩
abbrev main_v421 : Ref sig .tc := ⟨.hbm, 656, rfl⟩
abbrev main_v422 : Ref sig .tc := ⟨.hbm, 657, rfl⟩
abbrev main_v423 : Ref sig .tc := ⟨.hbm, 658, rfl⟩
abbrev main_cst_158 : Ref sig .tc := ⟨.hbm, 659, rfl⟩
abbrev main_v424 : Ref sig .tc := ⟨.hbm, 660, rfl⟩
abbrev main_v425 : Ref sig .tc := ⟨.hbm, 661, rfl⟩
abbrev main_v426 : Ref sig .tc := ⟨.hbm, 662, rfl⟩
abbrev main_cst_159 : Ref sig .tc := ⟨.hbm, 663, rfl⟩
abbrev main_v427 : Ref sig .tc := ⟨.hbm, 664, rfl⟩
abbrev main_v428 : Ref sig .tc := ⟨.hbm, 665, rfl⟩
abbrev main_v429 : Ref sig .tc := ⟨.hbm, 666, rfl⟩
abbrev main_cst_160 : Ref sig .tc := ⟨.hbm, 667, rfl⟩
abbrev main_v430 : Ref sig .tc := ⟨.hbm, 668, rfl⟩
abbrev main_v431 : Ref sig .tc := ⟨.hbm, 669, rfl⟩
abbrev main_cst_161 : Ref sig .tc := ⟨.hbm, 670, rfl⟩
abbrev main_v432 : Ref sig .tc := ⟨.hbm, 671, rfl⟩
abbrev main_v433 : Ref sig .tc := ⟨.hbm, 672, rfl⟩
abbrev main_cst_162 : Ref sig .tc := ⟨.hbm, 673, rfl⟩
abbrev main_v434 : Ref sig .tc := ⟨.hbm, 674, rfl⟩
abbrev main_v435 : Ref sig .tc := ⟨.hbm, 675, rfl⟩
abbrev main_v436 : Ref sig .tc := ⟨.hbm, 676, rfl⟩
abbrev main_cst_163 : Ref sig .tc := ⟨.hbm, 677, rfl⟩
abbrev main_v437 : Ref sig .tc := ⟨.hbm, 678, rfl⟩
abbrev main_v438 : Ref sig .tc := ⟨.hbm, 679, rfl⟩
abbrev main_v439 : Ref sig .tc := ⟨.hbm, 680, rfl⟩
abbrev main_cst_164 : Ref sig .tc := ⟨.hbm, 681, rfl⟩
abbrev main_v440 : Ref sig .tc := ⟨.hbm, 682, rfl⟩
abbrev main_v441 : Ref sig .tc := ⟨.hbm, 683, rfl⟩
abbrev main_v442 : Ref sig .tc := ⟨.hbm, 684, rfl⟩
abbrev main_cst_165 : Ref sig .tc := ⟨.hbm, 685, rfl⟩
abbrev main_v443 : Ref sig .tc := ⟨.hbm, 686, rfl⟩
abbrev main_v444 : Ref sig .tc := ⟨.hbm, 687, rfl⟩
abbrev main_cst_166 : Ref sig .tc := ⟨.hbm, 688, rfl⟩
abbrev main_v445 : Ref sig .tc := ⟨.hbm, 689, rfl⟩
abbrev main_v446 : Ref sig .tc := ⟨.hbm, 690, rfl⟩
abbrev main_v447 : Ref sig .tc := ⟨.hbm, 691, rfl⟩
abbrev main_cst_167 : Ref sig .tc := ⟨.hbm, 692, rfl⟩
abbrev main_v448 : Ref sig .tc := ⟨.hbm, 693, rfl⟩
abbrev main_v449 : Ref sig .tc := ⟨.hbm, 694, rfl⟩
abbrev main_v450 : Ref sig .tc := ⟨.hbm, 695, rfl⟩
abbrev main_cst_168 : Ref sig .tc := ⟨.hbm, 696, rfl⟩
abbrev main_v451 : Ref sig .tc := ⟨.hbm, 697, rfl⟩
abbrev main_v452 : Ref sig .tc := ⟨.hbm, 698, rfl⟩
abbrev main_v453 : Ref sig .tc := ⟨.hbm, 699, rfl⟩
abbrev main_cst_169 : Ref sig .tc := ⟨.hbm, 700, rfl⟩
abbrev main_v454 : Ref sig .tc := ⟨.hbm, 701, rfl⟩
abbrev main_v455 : Ref sig .tc := ⟨.hbm, 702, rfl⟩

abbrev nD : Nat := 1
abbrev τ : Topo := Topo.v7x

variable {F : FTy → Type} [FloatOps F]
-- ==== InOddGradKernel.lean ====
abbrev S8192x3200 : Shape := ⟨2, ![8192, 3200]⟩
abbrev S8192x1024 : Shape := ⟨2, ![8192, 1024]⟩
abbrev S3200x1024 : Shape := ⟨2, ![3200, 1024]⟩
abbrev S1024x640 : Shape := ⟨2, ![1024, 640]⟩
abbrev S1024x1024 : Shape := ⟨2, ![1024, 1024]⟩
abbrev S640x1024 : Shape := ⟨2, ![640, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3200, .bf16⟩
  | .hbm, ⟨1, _⟩ => ⟨S8192x1024, .bf16⟩
  | .hbm, ⟨2, _⟩ => ⟨S3200x1024, .bf16⟩
  | .local _ .vmem, ⟨0, _⟩ => ⟨S1024x640, .bf16⟩
  | .local _ .vmem, ⟨1, _⟩ => ⟨S1024x640, .bf16⟩
  | .local _ .vmem, ⟨2, _⟩ => ⟨S1024x1024, .bf16⟩
  | .local _ .vmem, ⟨3, _⟩ => ⟨S1024x1024, .bf16⟩
  | .local _ .vmem, ⟨4, _⟩ => ⟨S640x1024, .bf16⟩
  | .local _ .vmem, ⟨5, _⟩ => ⟨S640x1024, .bf16⟩
  | .local _ .vmem, ⟨6, _⟩ => ⟨S640x1024, .f32⟩
  | _, _ => ⟨S8192x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InOddGradReferenceIdeal.lean ====
abbrev S8192x3200 : Shape := ⟨2, ![8192, 3200]⟩
abbrev S8192x1024 : Shape := ⟨2, ![8192, 1024]⟩
abbrev S_ : Shape := ⟨0, ![]⟩
abbrev S3200x1024 : Shape := ⟨2, ![3200, 1024]⟩
abbrev S1024x3200 : Shape := ⟨2, ![1024, 3200]⟩

abbrev nBuf : Space → Nat
  | .hbm => 12
  | .vmem => 0
  | .smem => 0
  | _ => 0

abbrev bufTy : (tb : Table) → Fin (tcTables nBuf tb) → BufTy
  | .hbm, ⟨0, _⟩ => ⟨S8192x3200, .bf16⟩
  | .hbm, ⟨1, _⟩ => ⟨S8192x1024, .bf16⟩
  | .hbm, ⟨2, _⟩ => ⟨S_, .f32⟩
  | .hbm, ⟨3, _⟩ => ⟨S3200x1024, .f32⟩
  | .hbm, ⟨4, _⟩ => ⟨S8192x1024, .f32⟩
  | .hbm, ⟨5, _⟩ => ⟨S1024x3200, .f32⟩
  | .hbm, ⟨6, _⟩ => ⟨S8192x3200, .f32⟩
  | .hbm, ⟨7, _⟩ => ⟨S8192x3200, .f32⟩
  | .hbm, ⟨8, _⟩ => ⟨S3200x1024, .f32⟩
  | .hbm, ⟨9, _⟩ => ⟨S1024x3200, .f32⟩
  | .hbm, ⟨10, _⟩ => ⟨S3200x1024, .f32⟩
  | .hbm, ⟨11, _⟩ => ⟨S3200x1024, .bf16⟩
  | _, _ => ⟨S8192x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutOddGradKernel.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutOddGradReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InEvenKernel.lean ====
abbrev S8192x1024 : Shape := ⟨2, ![8192, 1024]⟩
abbrev S1024x2816 : Shape := ⟨2, ![1024, 2816]⟩
abbrev S8192x2816 : Shape := ⟨2, ![8192, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .f32⟩
  | .local _ .vmem, ⟨4, _⟩ => ⟨S1024x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InEvenKernelIdeal.lean ====
abbrev S8192x1024 : Shape := ⟨2, ![8192, 1024]⟩
abbrev S1024x2816 : Shape := ⟨2, ![1024, 2816]⟩
abbrev S8192x2816 : Shape := ⟨2, ![8192, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .f32⟩
  | .local _ .vmem, ⟨4, _⟩ => ⟨S1024x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InEvenReferenceIdeal.lean ====
abbrev S8192x1024 : Shape := ⟨2, ![8192, 1024]⟩
abbrev S1024x2816 : Shape := ⟨2, ![1024, 2816]⟩
abbrev S8192x2816 : Shape := ⟨2, ![8192, 2816]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x1024, .f32⟩
  | .hbm, ⟨3, _⟩ => ⟨S1024x2816, .f32⟩
  | .hbm, ⟨4, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InEvenBackKernel.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InEvenBackKernelIdeal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InEvenBackReferenceIdeal.lean ====
abbrev S8192x2816 : Shape := ⟨2, ![8192, 2816]⟩
abbrev S2816x1024 : Shape := ⟨2, ![2816, 1024]⟩
abbrev S_ : Shape := ⟨0, ![]⟩
abbrev S8192x1024 : Shape := ⟨2, ![8192, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S_, .f32⟩
  | .hbm, ⟨3, _⟩ => ⟨S8192x1024, .f32⟩
  | .hbm, ⟨4, _⟩ => ⟨S2816x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InOddKernel.lean ====
abbrev S8192x1024 : Shape := ⟨2, ![8192, 1024]⟩
abbrev S1024x3200 : Shape := ⟨2, ![1024, 3200]⟩
abbrev S8192x3200 : Shape := ⟨2, ![8192, 3200]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x3200, .f32⟩
  | .local _ .vmem, ⟨0, _⟩ => ⟨S1024x1024, .bf16⟩
  | .local _ .vmem, ⟨1, _⟩ => ⟨S1024x1024, .bf16⟩
  | .local _ .vmem, ⟨2, _⟩ => ⟨S1024x3200, .bf16⟩
  | .local _ .vmem, ⟨3, _⟩ => ⟨S1024x3200, .f32⟩
  | .local _ .vmem, ⟨4, _⟩ => ⟨S1024x3200, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InOddReferenceIdeal.lean ====
abbrev S8192x1024 : Shape := ⟨2, ![8192, 1024]⟩
abbrev S1024x3200 : Shape := ⟨2, ![1024, 3200]⟩
abbrev S8192x3200 : Shape := ⟨2, ![8192, 3200]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x1024, .f32⟩
  | .hbm, ⟨3, _⟩ => ⟨S1024x3200, .f32⟩
  | .hbm, ⟨4, _⟩ => ⟨S8192x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InOddBackKernel.lean ====
abbrev S8192x3200 : Shape := ⟨2, ![8192, 3200]⟩
abbrev S3200x1024 : Shape := ⟨2, ![3200, 1024]⟩
abbrev S8192x1024 : Shape := ⟨2, ![8192, 1024]⟩
abbrev S1024x3200 : Shape := ⟨2, ![1024, 3200]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x3200, .bf16⟩
  | .hbm, ⟨1, _⟩ => ⟨S3200x1024, .bf16⟩
  | .hbm, ⟨2, _⟩ => ⟨S8192x1024, .f32⟩
  | .local _ .vmem, ⟨0, _⟩ => ⟨S1024x3200, .bf16⟩
  | .local _ .vmem, ⟨1, _⟩ => ⟨S1024x3200, .bf16⟩
  | .local _ .vmem, ⟨2, _⟩ => ⟨S3200x1024, .bf16⟩
  | .local _ .vmem, ⟨3, _⟩ => ⟨S1024x1024, .f32⟩
  | .local _ .vmem, ⟨4, _⟩ => ⟨S1024x1024, .f32⟩
  | _, _ => ⟨S8192x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InOddBackReferenceIdeal.lean ====
abbrev S8192x3200 : Shape := ⟨2, ![8192, 3200]⟩
abbrev S3200x1024 : Shape := ⟨2, ![3200, 1024]⟩
abbrev S_ : Shape := ⟨0, ![]⟩
abbrev S8192x1024 : Shape := ⟨2, ![8192, 1024]⟩
abbrev S1024x3200 : Shape := ⟨2, ![1024, 3200]⟩

abbrev nBuf : Space → Nat
  | .hbm => 9
  | .vmem => 0
  | .smem => 0
  | _ => 0

abbrev bufTy : (tb : Table) → Fin (tcTables nBuf tb) → BufTy
  | .hbm, ⟨0, _⟩ => ⟨S8192x3200, .bf16⟩
  | .hbm, ⟨1, _⟩ => ⟨S3200x1024, .bf16⟩
  | .hbm, ⟨2, _⟩ => ⟨S_, .f32⟩
  | .hbm, ⟨3, _⟩ => ⟨S8192x1024, .f32⟩
  | .hbm, ⟨4, _⟩ => ⟨S3200x1024, .f32⟩
  | .hbm, ⟨5, _⟩ => ⟨S1024x3200, .f32⟩
  | .hbm, ⟨6, _⟩ => ⟨S8192x3200, .f32⟩
  | .hbm, ⟨7, _⟩ => ⟨S8192x3200, .f32⟩
  | .hbm, ⟨8, _⟩ => ⟨S8192x1024, .f32⟩
  | _, _ => ⟨S8192x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.FwdRun.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # One step of the forward attention

The grid of the forward call has a single block of keys, so every point starts from the empty
running state, takes all keys at once and writes its two results. -/

/-- The row maxima after the keys' block. -/
def fMax (q : Vec F S512x128 .bf16) (k : Vec F S8192x128 .bf16) : Vec F S512x1 .f32 :=
  k0_pay2 (k0_pay9 q k k0_pay5)
/-- The row sums after the keys' block. -/
def fSum (q : Vec F S512x128 .bf16) (k : Vec F S8192x128 .bf16) : Vec F S512x1 .f32 :=
  k0_pay12 q k k0_pay5 k0_pay6
/-- The accumulated weighted values. -/
def fAcc (q : Vec F S512x128 .bf16) (k v : Vec F S8192x128 .bf16) : Vec F S512x128 .f32 :=
  k0_pay1 (k0_pay13 q k k0_pay5 k0_pay7 v)
/-- The block of the attention's output. -/
def fOut (q : Vec F S512x128 .bf16) (k v : Vec F S8192x128 .bf16) : Vec F S512x128 .f32 :=
  k0_pay3 (fAcc q k v) (fSum q k)
/-- The block of the rows' log-sum-exponentials, to base two. -/
def fLse (q : Vec F S512x128 .bf16) (k : Vec F S8192x128 .bf16) : Vec F S1x512x1 .f32 :=
  k0_pay4 (fMax q k) (fSum q k)

/-- The first branch's condition. -/
abbrev fst0 (i : grid0.Coords) : Prop :=
  (Scalar.cmpi .ne (Scalar.extui (Scalar.cmpi .eq (BitVec.ofNat 32 (i 2).val) 0#32)) 0#32) = 1#1

theorem fst0_all (t : Fin grid0.N) : fst0 (grid0.coords t) := by
  have ht : t.val < 128 := Nat.lt_of_lt_of_eq t.isLt N_0
  have e2 : (grid0.coords t 2).val = t.val / 1 % 1 := Pipeline.Grid.coords_val t 2 (by decide) rfl
  simp only [fst0, e2]
  word_cmp

theorem lst0_all (t : Fin grid0.N) : k0_cond2 (grid0.coords t) = 1#1 := by
  have ht : t.val < 128 := Nat.lt_of_lt_of_eq t.isLt N_0
  have e2 : (grid0.coords t 2).val = t.val / 1 % 1 := Pipeline.Grid.coords_val t 2 (by decide) rfl
  simp only [k0_cond2, e2]
  word_cmp

set_option maxHeartbeats 1000000 in
/-- The forward body on whole buffers: the inputs stay, the two outputs become `fOut` and `fLse` of
them, the scratch buffers end at something. -/
theorem run0 (c : Dev nD) (i : grid0.Coords) (arg3 : Memref sig .tc .vmem S512x128 .bf16) (harg3 : arg3.IsWhole)
    (arg4 : Memref sig .tc .vmem S8192x128 .bf16) (harg4 : arg4.IsWhole) (arg5 : Memref sig .tc .vmem S8192x128 .bf16) (harg5 : arg5.IsWhole)
    (arg6 : Memref sig .tc .vmem S512x128 .f32) (harg6 : arg6.IsWhole) (arg7 : Memref sig .tc .vmem S1x512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x128 .f32) (harg10 : arg10.IsWhole) (hc0 : fst0 i) (hc1 : k0_cond2 i = 1#1)
    (q : Vec F S512x128 .bf16) (k v : Vec F S8192x128 .bf16) (E : Set ℕ) (K : PUnit → sProp 𝕄) :
    iprop(owns (c : Thread nD τ) arg3 fullShare q ∗ owns (c : Thread nD τ) arg4 fullShare k ∗ owns (c : Thread nD τ) arg5 fullShare v
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d)
        ∗ (iprop(owns (c : Thread nD τ) arg3 fullShare q ∗ owns (c : Thread nD τ) arg4 fullShare k ∗ owns (c : Thread nD τ) arg5 fullShare v
            ∗ owns (c : Thread nD τ) arg6 fullShare (fOut q k v) ∗ owns (c : Thread nD τ) arg7 fullShare (fLse q k)
            ∗ (∃ d, owns (c : Thread nD τ) arg8 fullShare d) ∗ (∃ d, owns (c : Thread nD τ) arg9 fullShare d)
            ∗ (∃ d, owns (c : Thread nD τ) arg10 fullShare d)) -∗ K ⟨⟩))
      ⊢ wp frame (wpE (defs₀ (F := F)) Variants.none c none) E
          (cc0_attn_fwd i arg3 harg3 arg4 harg4 arg5 harg5 arg6 harg6 arg7 harg7 arg8 harg8 arg9 harg9 arg10 harg10) K := by
  simp only [cc0_attn_fwd_eq_skeleton]; unfold cc0_attn_fwd_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
  obtain rfl := harg3.eq_unread hf0; obtain rfl := harg4.eq_unread hf1; obtain rfl := harg5.eq_unread hf2
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [View.read_writes_full]
    repeat (first | rw [View.readCov_full] | rw [View.readAt_full] | rw [harg3.read_unread] | rw [harg4.read_unread] | rw [harg5.read_unread] | (fail_if_no_progress sl_unfold_run_names))
    rfl
  isplitl [H4]
  · iexists _; isplitr
    swap; · iexact H4
    ipureintro
    rw [View.read_writes_full]
    repeat (first | rw [View.readCov_full] | rw [View.readAt_full] | rw [harg3.read_unread] | rw [harg4.read_unread] | rw [harg5.read_unread] | (fail_if_no_progress sl_unfold_run_names))
    rfl
  isplitl [H5]
  · iexists _; iexists _; isplitr
    swap; · iexact H5
    ipureintro; rfl
  isplitl [H6]
  · iexists _; iexists _; isplitr
    swap; · iexact H6
    ipureintro; rfl
  iexists _; iexists _; isplitr
  swap; · iexact H7
  ipureintro; rfl

end Cert.KernelIdeal.Hand

end
-- ==== Proof.FwdValue.lean ====
module

public import proofs.«01_k».proof.Proof.FwdRun
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-! # The forward step at real blocks

On blocks of real numbers the step's two results are real: the softmax average of the values, and the
base-two logarithm of the row's sum of powers. The row's maximum, which the step subtracts, cancels. -/

/-- A sum of real numbers, taken among the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The maximum of a nonempty finite family of real numbers is one. -/
theorem coe_fold_max {ι : Type} (s : Finset ι) (hs : s.Nonempty) (f : ι → ℝ) :
    ∃ M : ℝ, s.fold max (⊥ : EReal) (fun i => (f i : EReal)) = (M : EReal) := by
  classical
  induction hs using Finset.Nonempty.cons_induction with
  | singleton a => exact ⟨f a, by simp⟩
  | cons a s ha hs ih =>
    obtain ⟨M, hM⟩ := ih
    exact ⟨max (f a) M, by rw [Finset.fold_cons, hM]; exact (EReal.coe_strictMono.monotone.map_max).symm⟩

theorem ofBits_neg_inf : Ideal.ofBits .f32 0xFF800000#32 = (⊥ : EReal) := by simp [Ideal.ofBits, Ideal.ieee]
theorem ofBits_two : Ideal.ofBits .f32 0x40000000#32 = ((2 : ℝ) : EReal) := by
  simp [Ideal.ofBits, Ideal.ieee, -EReal.coe_mul]; norm_num

/-- A quotient of real numbers, taken among the extended reals. -/
theorem coe_div (x y : ℝ) (h : y ≠ 0) : Ideal.div (x : EReal) (y : EReal) = ((x / y : ℝ) : EReal) := by
  rw [Ideal.div_coe h, ← EReal.coe_mul, mul_one_div]

theorem coe_exp2 (x : ℝ) : FloatOps.exp2 (F := Ideal) (φ := .f32) (x : EReal) = (((2 : ℝ) ^ x : ℝ) : EReal) := rfl

theorem coe_log (x : ℝ) (h : 0 < x) : Ideal.log (x : EReal) = ((Real.log x : ℝ) : EReal) := by
  rw [Ideal.log_coe, if_neg (not_le.mpr h)]

section
variable (q : Vec Ideal S512x128 .bf16) (k v : Vec Ideal S8192x128 .bf16)

theorem k0_pay8_at (r : Fin 512) (j : Fin 8192) : k0_pay8 q k (ix2 r j) = ∑ d : Fin 128, q (ix2 r d) * k (ix2 j d) := by
  pointwise [k0_pay8]

theorem rowMax_at (S : FVec Ideal S512x8192 .f32) (r : Fin 512) :
    shapeCast S512x1 (multiReduction .maximumf [1] S512 S 0xFF800000#32 reduces_S512x8192_S512 (.inl rfl) rfl) shapeCasts_S512_S512x1 (ix2 r 0)
      = Finset.fold max (Ideal.ofBits .f32 0xFF800000#32) (fun j : Fin 8192 => S (ix2 r j)) Finset.univ := by
  pointwise

theorem maximumf_at {s : Shape} (x y : FVec Ideal s .f32) (i : s.Idx) : maximumf x y i = max (x i) (y i) := rfl

theorem k0_pay9_at (m : Vec Ideal S512x1 .f32) (r : Fin 512) : k0_pay9 q k m (ix2 r 0)
    = max (m (ix2 r 0)) (Finset.fold max (Ideal.ofBits .f32 0xFF800000#32) (fun j : Fin 8192 => k0_pay8 q k (ix2 r j)) Finset.univ) := by
  unfold k0_pay9
  rw [← rowMax_at (k0_pay8 q k) r]
  exact maximumf_at _ _ _

theorem fMax_at (r : Fin 512) : fMax q k (ix2 r 0) = k0_pay9 q k (fun _ => (⊥ : EReal)) (ix2 r 0) := by
  unfold fMax k0_pay2
  rw [show (k0_pay5 : FVec Ideal S512x1 .f32) = fun _ => (⊥ : EReal) from by
    funext i; idx_vars i; pointwise [k0_pay5, ofBits_neg_inf]]
  generalize k0_pay9 q k _ = S
  pointwise

theorem fSum_at (r : Fin 512) : fSum q k (ix2 r 0)
    = ∑ j : Fin 8192, FloatOps.exp2 (F := Ideal) (φ := .f32) (k0_pay8 q k (ix2 r j) - fMax q k (ix2 r 0)) := by
  rw [fMax_at]
  unfold fSum k0_pay12 k0_pay11 k0_pay10
  rw [show (k0_pay5 : FVec Ideal S512x1 .f32) = fun _ => (⊥ : EReal) from by
    funext i; idx_vars i; pointwise [k0_pay5, ofBits_neg_inf]]
  generalize k0_pay9 q k _ = M
  generalize k0_pay8 q k = S
  pointwise [k0_pay6]
  simp

theorem fAcc_at (r : Fin 512) (e : Fin 128) : fAcc q k v (ix2 r e)
    = ∑ j : Fin 8192, FloatOps.exp2 (F := Ideal) (φ := .f32) (k0_pay8 q k (ix2 r j) - fMax q k (ix2 r 0)) * v (ix2 j e) := by
  rw [fMax_at]
  unfold fAcc k0_pay1 k0_pay13 k0_pay11 k0_pay10
  rw [show (k0_pay5 : FVec Ideal S512x1 .f32) = fun _ => (⊥ : EReal) from by
    funext i; idx_vars i; pointwise [k0_pay5, ofBits_neg_inf]]
  generalize k0_pay9 q k _ = M
  generalize k0_pay8 q k = S
  pointwise [k0_pay7]
  simp

theorem fOut_at (r : Fin 512) (e : Fin 128) : fOut q k v (ix2 r e) = Ideal.div (fAcc q k v (ix2 r e)) (fSum q k (ix2 r 0)) := by
  unfold fOut
  generalize fAcc q k v = A
  generalize fSum q k = B
  pointwise [k0_pay3]

theorem cast_at (X : FVec Ideal S512x1 .f32) (r : Fin 512) :
    shapeCast S1x512x1 X shapeCasts_S512x1_S1x512x1 (ix3 0 r 0) = X (ix2 r 0) := by
  pointwise

theorem addf_at {s : Shape} (x y : FVec Ideal s .f32) (i : s.Idx) : addf x y i = x i + y i := rfl
theorem divf_at {s : Shape} (x y : FVec Ideal s .f32) (i : s.Idx) : divf x y i = Ideal.div (x i) (y i) := rfl
theorem log_at {s : Shape} (x : FVec Ideal s .f32) (i : s.Idx) : log x i = Ideal.log (x i) := rfl

theorem k0_pay4_at (m l : Vec Ideal S512x1 .f32) (r : Fin 512) : k0_pay4 m l (ix3 0 r 0)
    = m (ix2 r 0) + Ideal.div (Ideal.log (l (ix2 r 0))) (Ideal.log (Ideal.ofBits .f32 0x40000000#32)) := by
  unfold k0_pay4
  refine (cast_at _ r).trans ((addf_at _ _ _).trans (congrArg (m (ix2 r 0) + ·) ((divf_at _ _ _).trans ?_)))
  rw [log_at, log_at]
  rfl

theorem fLse_at (r : Fin 512) : fLse q k (ix3 0 r 0)
    = fMax q k (ix2 r 0) + Ideal.div (Ideal.log (fSum q k (ix2 r 0))) (Ideal.log (Ideal.ofBits .f32 0x40000000#32)) :=
  k0_pay4_at _ _ r
end

variable {q : Vec Ideal S512x128 .bf16} {k v : Vec Ideal S8192x128 .bf16}
variable {qr : Fin 512 → Fin 128 → ℝ} {kr vr : Fin 8192 → Fin 128 → ℝ}

/-- The scores. -/
theorem scores_coe (hq : ∀ r d, q (ix2 r d) = ((qr r d : ℝ) : EReal)) (hk : ∀ j d, k (ix2 j d) = ((kr j d : ℝ) : EReal)) (r : Fin 512) (j : Fin 8192) :
    k0_pay8 q k (ix2 r j) = ((∑ d, qr r d * kr j d : ℝ) : EReal) := by
  rw [k0_pay8_at, ← coe_sum]
  exact Finset.sum_congr rfl fun d _ => by rw [hq, hk, EReal.coe_mul]

theorem max_coe (hq : ∀ r d, q (ix2 r d) = ((qr r d : ℝ) : EReal)) (hk : ∀ j d, k (ix2 j d) = ((kr j d : ℝ) : EReal)) (r : Fin 512) :
    ∃ M : ℝ, fMax q k (ix2 r 0) = (M : EReal) := by
  obtain ⟨M, hM⟩ := coe_fold_max (Finset.univ : Finset (Fin 8192)) ⟨0, Finset.mem_univ _⟩ fun j => ∑ d, qr r d * kr j d
  refine ⟨M, ?_⟩
  rw [fMax_at, k0_pay9_at, ofBits_neg_inf]
  rw [show (fun j : Fin 8192 => k0_pay8 q k (ix2 r j)) = fun j => ((∑ d, qr r d * kr j d : ℝ) : EReal) from
    funext fun j => scores_coe hq hk r j, hM]
  exact max_eq_right bot_le

/-- The row's sum of powers is the sum of the powers of the scores, scaled down by the power of the maximum. -/
theorem fSum_coe (hq : ∀ r d, q (ix2 r d) = ((qr r d : ℝ) : EReal)) (hk : ∀ j d, k (ix2 j d) = ((kr j d : ℝ) : EReal)) (r : Fin 512) (M : ℝ)
    (hM : fMax q k (ix2 r 0) = (M : EReal)) :
    fSum q k (ix2 r 0) = (((2 : ℝ) ^ (-M) * ∑ j, (2 : ℝ) ^ (∑ d, qr r d * kr j d) : ℝ) : EReal) := by
  rw [fSum_at, hM, Finset.mul_sum, ← coe_sum]
  refine Finset.sum_congr rfl fun j _ => ?_
  rw [scores_coe hq hk, ← EReal.coe_sub, coe_exp2, sub_eq_neg_add, Real.rpow_add two_pos]

theorem fAcc_coe (hq : ∀ r d, q (ix2 r d) = ((qr r d : ℝ) : EReal)) (hk : ∀ j d, k (ix2 j d) = ((kr j d : ℝ) : EReal))
    (hv : ∀ j e, v (ix2 j e) = ((vr j e : ℝ) : EReal)) (r : Fin 512) (e : Fin 128) (M : ℝ) (hM : fMax q k (ix2 r 0) = (M : EReal)) :
    fAcc q k v (ix2 r e) = (((2 : ℝ) ^ (-M) * ∑ j, (2 : ℝ) ^ (∑ d, qr r d * kr j d) * vr j e : ℝ) : EReal) := by
  rw [fAcc_at, hM, Finset.mul_sum, ← coe_sum]
  refine Finset.sum_congr rfl fun j _ => ?_
  rw [scores_coe hq hk, ← EReal.coe_sub, coe_exp2, hv, ← EReal.coe_mul, sub_eq_neg_add, Real.rpow_add two_pos, mul_assoc]

theorem powers_pos {ι : Type} [Fintype ι] [Nonempty ι] (s : ι → ℝ) : 0 < ∑ j, (2 : ℝ) ^ s j :=
  Finset.sum_pos (fun j _ => Real.rpow_pos_of_pos two_pos _) Finset.univ_nonempty

/-- The attention's output: the average of the values under the powers of the scores. -/
theorem fOut_coe (hq : ∀ r d, q (ix2 r d) = ((qr r d : ℝ) : EReal)) (hk : ∀ j d, k (ix2 j d) = ((kr j d : ℝ) : EReal))
    (hv : ∀ j e, v (ix2 j e) = ((vr j e : ℝ) : EReal)) (r : Fin 512) (e : Fin 128) :
    fOut q k v (ix2 r e)
      = (((∑ j, (2 : ℝ) ^ (∑ d, qr r d * kr j d) * vr j e) / ∑ j, (2 : ℝ) ^ (∑ d, qr r d * kr j d) : ℝ) : EReal) := by
  obtain ⟨M, hM⟩ := max_coe hq hk r
  have h2 : (0 : ℝ) < 2 ^ (-M) := Real.rpow_pos_of_pos two_pos _
  rw [fOut_at, fAcc_coe hq hk hv r e M hM, fSum_coe hq hk r M hM,
    coe_div _ _ (mul_pos h2 (powers_pos _)).ne', mul_div_mul_left _ _ h2.ne']

/-- The row's log-sum: the base-two logarithm of the sum of the powers of the scores. -/
theorem fLse_coe (hq : ∀ r d, q (ix2 r d) = ((qr r d : ℝ) : EReal)) (hk : ∀ j d, k (ix2 j d) = ((kr j d : ℝ) : EReal)) (r : Fin 512) :
    fLse q k (ix3 0 r 0) = ((Real.log (∑ j, (2 : ℝ) ^ (∑ d, qr r d * kr j d)) / Real.log 2 : ℝ) : EReal) := by
  obtain ⟨M, hM⟩ := max_coe hq hk r
  have h2 : (0 : ℝ) < 2 ^ (-M) := Real.rpow_pos_of_pos two_pos _
  have hl : Real.log 2 ≠ 0 := (Real.log_pos one_lt_two).ne'
  rw [fLse_at, ofBits_two, hM, fSum_coe hq hk r M hM, coe_log _ (mul_pos h2 (powers_pos _)), coe_log _ two_pos, coe_div _ _ hl, ← EReal.coe_add,
    Real.log_mul h2.ne' (powers_pos _).ne', Real.log_rpow two_pos]
  exact congrArg ((↑) : ℝ → EReal) (by field_simp; ring)

end Cert.KernelIdeal.Hand

end
-- ==== Proof.BwdRun.lean ====
module

public import proofs.«01_k».proof.Proof.FwdRun
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # One step of the backward attention

At a point the body has a block of 512 queries and a block of 4096 keys. It adds to the blocks of the
keys' and values' gradients (cleared at the first queries' block) and puts or adds the queries' gradient
into the rows of the whole array of one head. -/

/-- The scores' gradient. -/
def bDs (q : Vec F S512x128 .bf16) (k v : Vec F S4096x128 .bf16) (o : Vec F S512x128 .f32) (lse : Vec F S1x512x1 .f32)
    (dy : Vec F S512x128 .f32) : FVec F S512x4096 .f32 :=
  k1_pay10 q k v dy lse o
/-- The keys' gradient, added to `a`. -/
def bDk (q : Vec F S512x128 .bf16) (k v : Vec F S4096x128 .bf16) (o : Vec F S512x128 .f32) (lse : Vec F S1x512x1 .f32)
    (dy : Vec F S512x128 .f32) (a : Vec F S4096x128 .f32) : Vec F S4096x128 .f32 :=
  k1_pay1 (k1_pay6 q) (bDs q k v o lse dy) a
/-- The values' gradient, added to `a`. -/
def bDv (q : Vec F S512x128 .bf16) (k : Vec F S4096x128 .bf16) (lse : Vec F S1x512x1 .f32)
    (dy : Vec F S512x128 .f32) (a : Vec F S4096x128 .f32) : Vec F S4096x128 .f32 :=
  k1_pay11 q k dy lse a
/-- The queries' gradient from this block of keys. -/
def bDq (q : Vec F S512x128 .bf16) (k v : Vec F S4096x128 .bf16) (o : Vec F S512x128 .f32) (lse : Vec F S1x512x1 .f32)
    (dy : Vec F S512x128 .f32) : Vec F S512x128 .f32 :=
  k1_pay2 (k1_pay7 k) (bDs q k v o lse dy)
/-- The queries' gradient from this block of keys, added to `a`. -/
def bDqAdd (q : Vec F S512x128 .bf16) (k v : Vec F S4096x128 .bf16) (o : Vec F S512x128 .f32) (lse : Vec F S1x512x1 .f32)
    (dy : Vec F S512x128 .f32) (a : Vec F S512x128 .f32) : Vec F S512x128 .f32 :=
  k1_pay3 (k1_pay7 k) (bDs q k v o lse dy) a

/-- Whether this is the first block of queries. -/
abbrev fst1 (i : grid1.Coords) : Prop :=
  (Scalar.cmpi .ne (Scalar.extui (Scalar.cmpi .eq (BitVec.ofNat 32 (i 2).val) 0#32)) 0#32) = 1#1

/-- Where the block's rows begin in a head's array. -/
def rowOff (i : grid1.Coords) : Fin 2 → ℕ := ![512 * (i 2).val, 0]

theorem rowOff_inb (i : grid1.Coords) : ∀ a, rowOff i a + S512x128.size a ≤ S8192x128.size a := by
  have h : (i 2).val < 16 := (i 2).isLt
  intro a
  fin_cases a
  · show 512 * (i 2).val + 512 ≤ 8192
    omega
  · show 0 + 128 ≤ 128
    omega

theorem rowNat (n : ℕ) (h : n < 16) : (Scalar.indexCast (Scalar.muli (BitVec.ofNat 32 n) 512#32) : Index).toNat = 512 * n :=
  (by decide : ∀ n : Fin 16, (Scalar.indexCast (Scalar.muli (BitVec.ofNat 32 n.val) 512#32) : Index).toNat = 512 * n.val) ⟨n, h⟩

theorem off1_eq (i : grid1.Coords) : k1_off1 i = rowOff i := by
  have h : (i 2).val < 16 := (i 2).isLt
  funext a
  fin_cases a
  · exact rowNat _ h
  · rfl

theorem off2_eq (i : grid1.Coords) : k1_off2 i = rowOff i := by
  have h : (i 2).val < 16 := (i 2).isLt
  funext a
  fin_cases a
  · exact rowNat _ h
  · rfl

/-- What a point leaves in the head's array of the queries' gradient. -/
def dqStep (i : grid1.Coords) (q : Vec F S512x128 .bf16) (k v : Vec F S4096x128 .bf16) (o : Vec F S512x128 .f32) (lse : Vec F S1x512x1 .f32)
    (dy : Vec F S512x128 .f32) (d : Vec F S8192x128 .f32) : Vec F S8192x128 .f32 :=
  if k1_cond2 i = 1#1 then VecWindow.put d (rowOff i) S512x128.size (bDq q k v o lse dy)
  else VecWindow.put d (rowOff i) S512x128.size (bDqAdd q k v o lse dy (VecWindow.window d (rowOff i) S512x128.size (rowOff_inb i)))

set_option maxHeartbeats 1000000 in
/-- The backward body on whole buffers. -/
theorem run1 (c : Dev nD) (i : grid1.Coords) (arg3 : Memref sig .tc .vmem S512x128 .bf16) (harg3 : arg3.IsWhole)
    (arg4 : Memref sig .tc .vmem S4096x128 .bf16) (harg4 : arg4.IsWhole) (arg5 : Memref sig .tc .vmem S4096x128 .bf16) (harg5 : arg5.IsWhole)
    (arg6 : Memref sig .tc .vmem S512x128 .f32) (harg6 : arg6.IsWhole) (arg7 : Memref sig .tc .vmem S1x512x1 .f32) (harg7 : arg7.IsWhole)
    (arg8 : Memref sig .tc .vmem S512x128 .f32) (harg8 : arg8.IsWhole) (arg9 : Memref sig .tc .vmem S8192x128 .f32) (harg9 : arg9.IsWhole)
    (arg10 : Memref sig .tc .vmem S4096x128 .f32) (harg10 : arg10.IsWhole) (arg11 : Memref sig .tc .vmem S4096x128 .f32) (harg11 : arg11.IsWhole)
    (h23 : k1_cond2 i = 1#1 ↔ ¬ k1_cond3 i = 1#1)
    (q : Vec F S512x128 .bf16) (k v : Vec F S4096x128 .bf16) (o : Vec F S512x128 .f32) (lse : Vec F S1x512x1 .f32)
    (dy : Vec F S512x128 .f32) (d6 : Vec F S8192x128 .f32) (d7 d8 : Vec F S4096x128 .f32) (E : Set ℕ) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o ∗ owns (c : Thread nD τ) arg7 fullShare lse ∗ owns (c : Thread nD τ) arg8 fullShare dy
        ∗ owns (c : Thread nD τ) arg9 fullShare d6 ∗ owns (c : Thread nD τ) arg10 fullShare d7 ∗ owns (c : Thread nD τ) arg11 fullShare d8
        ∗ (iprop(owns (c : Thread nD τ) arg3 fullShare q ∗ owns (c : Thread nD τ) arg4 fullShare k ∗ owns (c : Thread nD τ) arg5 fullShare v
            ∗ owns (c : Thread nD τ) arg6 fullShare o ∗ owns (c : Thread nD τ) arg7 fullShare lse ∗ owns (c : Thread nD τ) arg8 fullShare dy
            ∗ owns (c : Thread nD τ) arg9 fullShare (dqStep i q k v o lse dy d6)
            ∗ owns (c : Thread nD τ) arg10 fullShare (bDk q k v o lse dy (if fst1 i then k1_pay4 else d7))
            ∗ owns (c : Thread nD τ) arg11 fullShare (bDv q k lse dy (if fst1 i then k1_pay5 else d8))) -∗ K ⟨⟩))
      ⊢ wp frame (wpE (defs₀ (F := F)) Variants.none c none) E
          (cc1_attn_bwd i arg3 harg3 arg4 harg4 arg5 harg5 arg6 harg6 arg7 harg7 arg8 harg8 arg9 harg9 arg10 harg10 arg11 harg11) K := by
  simp only [cc1_attn_bwd_eq_skeleton]; unfold cc1_attn_bwd_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  have h01 : (k1_cond2 i = 1#1 ∧ ¬ k1_cond3 i = 1#1) ∨ (¬ k1_cond2 i = 1#1 ∧ k1_cond3 i = 1#1) := by
    by_cases h : k1_cond2 i = 1#1
    · exact .inl ⟨h, h23.mp h⟩
    · exact .inr ⟨h, not_not.mp (mt h23.mpr h)⟩
  rcases em (fst1 i) with hc0 | hc0 <;> rcases h01 with ⟨hc1, hc2⟩ | ⟨hc1, hc2⟩
  all_goals
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr
      swap; · iexact H6
      ipureintro
      first
      | rw [View.read_writes_cons_put _ _ _ _ _ (off1_eq i)]
      | rw [View.read_writes_cons_put _ _ _ _ _ (off2_eq i)]
      rw [View.writes_nil]
      repeat (first | rw [View.readCov_full] | rw [View.readAt_full] | rw [View.readAt_unit _ _ _ (off2_eq i) (rowOff_inb i)] | rw [harg3.read_unread] | rw [harg4.read_unread] | rw [harg5.read_unread] | rw [harg6.read_unread] | rw [harg7.read_unread] | rw [harg8.read_unread] | rw [harg9.read_unread]  | (fail_if_no_progress sl_unfold_run_names))
      first
      | rw [dqStep, if_pos hc1]; rfl
      | rw [dqStep, if_neg hc1]; rfl
    isplitl [H7]
    · iexists _; isplitr
      swap; · iexact H7
      ipureintro
      rw [View.read_writes_full]
      repeat (first | rw [View.readCov_full] | rw [View.readAt_full] | rw [harg3.read_unread] | rw [harg4.read_unread] | rw [harg5.read_unread] | rw [harg6.read_unread] | rw [harg7.read_unread] | rw [harg8.read_unread] | rw [harg10.read_unread]  | (fail_if_no_progress sl_unfold_run_names))
      first
      | rw [if_pos hc0]; rfl
      | rw [if_neg hc0]; rfl
    iexists _; isplitr
    swap; · iexact H8
    ipureintro
    rw [View.read_writes_full]
    repeat (first | rw [View.readCov_full] | rw [View.readAt_full] | rw [harg3.read_unread] | rw [harg4.read_unread] | rw [harg5.read_unread] | rw [harg6.read_unread] | rw [harg7.read_unread] | rw [harg8.read_unread] | rw [harg11.read_unread]  | (fail_if_no_progress sl_unfold_run_names))
    first
    | rw [if_pos hc0]; rfl
    | rw [if_neg hc0]; rfl

end Cert.KernelIdeal.Hand

end
-- ==== Proof.BwdValue.lean ====
module

public import proofs.«01_k».proof.Proof.FwdValue
public import proofs.«01_k».proof.Proof.BwdRun

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-! # The backward step at real blocks -/

section
variable (q : Vec Ideal S512x128 .bf16) (k v : Vec Ideal S4096x128 .bf16) (o dy : Vec Ideal S512x128 .f32) (lse : Vec Ideal S1x512x1 .f32)

theorem score1_at (r : Fin 512) (j : Fin 4096) :
    matmul (F := Ideal) (φ₁ := .bf16) (φ₂ := .bf16) dot_S512x128_S4096x128_S512x4096_1_1_0_0_n_n none (k1_pay6 q) (k1_pay7 k) (constant S512x4096 .f32 0x00000000#32) (ix2 r j)
      = ∑ d : Fin 128, q (ix2 r d) * k (ix2 j d) := by
  pointwise [k1_pay6, k1_pay7]

theorem lseCol_at (r : Fin 512) (j : Fin 4096) :
    broadcastTo S512x4096 (shapeCast S512x1 lse shapeCasts_S1x512x1_S512x1) broadcasts_S512x1_S512x4096 (ix2 r j) = lse (ix3 0 r 0) := by
  pointwise

theorem subf_at {s : Shape} (x y : FVec Ideal s .f32) (i : s.Idx) : subf x y i = x i - y i := rfl
theorem mulf_at {s : Shape} (x y : FVec Ideal s .f32) (i : s.Idx) : mulf x y i = x i * y i := rfl
theorem exp2_at {s : Shape} (x : FVec Ideal s .f32) (i : s.Idx) : exp2 x i = FloatOps.exp2 (F := Ideal) (φ := .f32) (x i) := rfl

theorem k1_pay9_at (r : Fin 512) (j : Fin 4096) :
    k1_pay9 q k lse (ix2 r j) = FloatOps.exp2 (F := Ideal) (φ := .f32) ((∑ d : Fin 128, q (ix2 r d) * k (ix2 j d)) - lse (ix3 0 r 0)) := by
  unfold k1_pay9
  rw [exp2_at, subf_at, score1_at, lseCol_at]

theorem dpv_at (r : Fin 512) (j : Fin 4096) :
    matmul (F := Ideal) (φ₁ := .bf16) (φ₂ := .bf16) dot_S512x128_S4096x128_S512x4096_1_1_0_0_n_n none (truncf .bf16 (k1_pay8 dy) bitsLt_bf16_f32)
        (shapeCast S4096x128 (v : FVec Ideal S4096x128 .bf16) shapeCasts_S4096x128_S4096x128) (constant S512x4096 .f32 0x00000000#32) (ix2 r j)
      = ∑ e : Fin 128, dy (ix2 r e) * v (ix2 j e) := by
  pointwise [k1_pay8]

theorem rowSum_at (X : FVec Ideal S512x128 .f32) (r : Fin 512) (j : Fin 4096) :
    broadcastTo S512x4096 (shapeCast S512x1 (multiReduction .add [1] S512 X 0x00000000#32 reduces_S512x128_S512 (.inl rfl) rfl) shapeCasts_S512_S512x1)
        broadcasts_S512x1_S512x4096 (ix2 r j)
      = ∑ e : Fin 128, X (ix2 r e) := by
  pointwise

theorem same_at (X : FVec Ideal S512x128 .f32) (i : S512x128.Idx) : shapeCast S512x128 X shapeCasts_S512x128_S512x128 i = X i := by
  pointwise

/-- The scores' gradient of the step. -/
theorem bDs_at (r : Fin 512) (j : Fin 4096) : bDs q k v o lse dy (ix2 r j)
    = k1_pay9 q k lse (ix2 r j) * ((∑ e : Fin 128, dy (ix2 r e) * v (ix2 j e)) - ∑ e : Fin 128, dy (ix2 r e) * o (ix2 r e)) := by
  unfold bDs k1_pay10
  rw [mulf_at, subf_at, dpv_at, rowSum_at]
  refine congrArg (fun z : EReal => (k1_pay9 q k lse (ix2 r j) : EReal) * ((∑ e : Fin 128, dy (ix2 r e) * v (ix2 j e)) - z)) (Finset.sum_congr rfl fun e _ => ?_)
  rw [mulf_at, same_at]
  unfold k1_pay8
  rw [same_at]

theorem tmm_at (S : FVec Ideal S512x4096 .f32) (X : FVec Ideal S512x128 .bf16) (j : Fin 4096) (d : Fin 128) :
    matmul (F := Ideal) (φ₁ := .bf16) (φ₂ := .bf16) dot_S512x4096_S512x128_S4096x128_0_0_1_1_n_n none (truncf .bf16 S bitsLt_bf16_f32) X (constant S4096x128 .f32 0x00000000#32) (ix2 j d)
      = ∑ r : Fin 512, S (ix2 r j) * X (ix2 r d) := by
  pointwise

theorem mm_at (S : FVec Ideal S512x4096 .f32) (X : FVec Ideal S4096x128 .bf16) (r : Fin 512) (d : Fin 128) :
    matmul (F := Ideal) (φ₁ := .bf16) (φ₂ := .bf16) dot_S512x4096_S4096x128_S512x128_1_0_0_1_n_n none (truncf .bf16 S bitsLt_bf16_f32) X (constant S512x128 .f32 0x00000000#32) (ix2 r d)
      = ∑ j : Fin 4096, S (ix2 r j) * X (ix2 j d) := by
  pointwise

theorem same4096_at (X : FVec Ideal S4096x128 .f32) (i : S4096x128.Idx) : shapeCast S4096x128 X shapeCasts_S4096x128_S4096x128 i = X i := by
  pointwise
theorem pay6_at (i : S512x128.Idx) : k1_pay6 q i = q i := by pointwise [k1_pay6]
theorem pay7_at (i : S4096x128.Idx) : k1_pay7 k i = k i := by pointwise [k1_pay7]
theorem truncDy_at (i : S512x128.Idx) : truncf .bf16 (k1_pay8 dy) bitsLt_bf16_f32 i = dy i := by pointwise [k1_pay8]

theorem bDk_at (a : Vec Ideal S4096x128 .f32) (j : Fin 4096) (d : Fin 128) :
    bDk q k v o lse dy a (ix2 j d) = a (ix2 j d) + ∑ r : Fin 512, bDs q k v o lse dy (ix2 r j) * q (ix2 r d) := by
  unfold bDk k1_pay1
  rw [addf_at, same4096_at, tmm_at]
  exact congrArg (a (ix2 j d) + ·) (Finset.sum_congr rfl fun r _ => by rw [pay6_at])

theorem bDv_at (a : Vec Ideal S4096x128 .f32) (j : Fin 4096) (e : Fin 128) :
    bDv q k lse dy a (ix2 j e) = a (ix2 j e) + ∑ r : Fin 512, k1_pay9 q k lse (ix2 r j) * dy (ix2 r e) := by
  unfold bDv k1_pay11
  rw [addf_at, same4096_at, tmm_at]
  exact congrArg (a (ix2 j e) + ·) (Finset.sum_congr rfl fun r _ => by rw [truncDy_at])

theorem bDq_at (r : Fin 512) (d : Fin 128) :
    bDq q k v o lse dy (ix2 r d) = ∑ j : Fin 4096, bDs q k v o lse dy (ix2 r j) * k (ix2 j d) := by
  unfold bDq k1_pay2
  rw [mm_at]
  exact Finset.sum_congr rfl fun j _ => by rw [pay7_at]

theorem bDqAdd_at (a : Vec Ideal S512x128 .f32) (r : Fin 512) (d : Fin 128) :
    bDqAdd q k v o lse dy a (ix2 r d) = a (ix2 r d) + ∑ j : Fin 4096, bDs q k v o lse dy (ix2 r j) * k (ix2 j d) := by
  unfold bDqAdd k1_pay3
  rw [addf_at, same_at]
  exact congrArg (a (ix2 r d) + ·) (bDq_at q k v o dy lse r d)
end

variable {q : Vec Ideal S512x128 .bf16} {k v : Vec Ideal S4096x128 .bf16} {o dy : Vec Ideal S512x128 .f32} {lse : Vec Ideal S1x512x1 .f32}
variable {qr or dr : Fin 512 → Fin 128 → ℝ} {kr vr : Fin 4096 → Fin 128 → ℝ} {lr : Fin 512 → ℝ}

/-- The probabilities. -/
theorem prob_coe (hq : ∀ r d, q (ix2 r d) = ((qr r d : ℝ) : EReal)) (hk : ∀ j d, k (ix2 j d) = ((kr j d : ℝ) : EReal))
    (hl : ∀ r, lse (ix3 0 r 0) = ((lr r : ℝ) : EReal)) (r : Fin 512) (j : Fin 4096) :
    k1_pay9 q k lse (ix2 r j) = (((2 : ℝ) ^ ((∑ d, qr r d * kr j d) - lr r) : ℝ) : EReal) := by
  rw [k1_pay9_at, hl, ← coe_exp2, EReal.coe_sub, ← coe_sum]
  refine congrArg (FloatOps.exp2 (F := Ideal) (φ := .f32)) (congrArg (· - (lr r : EReal)) (Finset.sum_congr rfl fun d _ => ?_))
  rw [hq, hk, EReal.coe_mul]

/-- The scores' gradient. -/
theorem bDs_coe (hq : ∀ r d, q (ix2 r d) = ((qr r d : ℝ) : EReal)) (hk : ∀ j d, k (ix2 j d) = ((kr j d : ℝ) : EReal))
    (hv : ∀ j e, v (ix2 j e) = ((vr j e : ℝ) : EReal)) (ho : ∀ r e, o (ix2 r e) = ((or r e : ℝ) : EReal))
    (hd : ∀ r e, dy (ix2 r e) = ((dr r e : ℝ) : EReal)) (hl : ∀ r, lse (ix3 0 r 0) = ((lr r : ℝ) : EReal)) (r : Fin 512) (j : Fin 4096) :
    bDs q k v o lse dy (ix2 r j)
      = (((2 : ℝ) ^ ((∑ d, qr r d * kr j d) - lr r) * ((∑ e, dr r e * vr j e) - ∑ e, dr r e * or r e) : ℝ) : EReal) := by
  rw [bDs_at, prob_coe hq hk hl, EReal.coe_mul, EReal.coe_sub, ← coe_sum, ← coe_sum]
  refine congrArg (_ * ·) (congrArg₂ (· - ·) (Finset.sum_congr rfl fun e _ => ?_) (Finset.sum_congr rfl fun e _ => ?_))
  · rw [hd, hv, EReal.coe_mul]
  · rw [hd, ho, EReal.coe_mul]

end Cert.KernelIdeal.Hand

end
-- ==== Proof.FwdData.lean ====
module

public import proofs.«01_k».proof.Proof.FwdRun
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The forward call's proof data

The contents `V c` of core `c`'s buffers at the call's entry are a parameter. -/

variable (V : Dev nD → Valuation τ sig (Elt F))

/-- Window `w`'s block at point `t`, read off its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The arrays as the call finds them; after each point the inputs' buffers at their blocks, the outputs' at
`fOut` and `fLse` of them. -/
def dat0 (c : Dev nD) : Dat τ (Elt F) Unit ℕ (UR sig nD τ) ℕ cfg0 c where
  A w := V c (Proc.devRef .tc (Pipeline.arrRef spec0 w))
  after w t := match w with
    | ⟨0, _⟩ => blk0 V c 0 t
    | ⟨1, _⟩ => blk0 V c 1 t
    | ⟨2, _⟩ => blk0 V c 2 t
    | ⟨3, _⟩ => fOut (blk0 V c 0 t) (blk0 V c 1 t) (blk0 V c 2 t)
    | ⟨4, _⟩ => fLse (blk0 V c 0 t) (blk0 V c 1 t)
  Φ _ := Pipeline.ΦA spec0 c
  q _ := fullShare
  owed _ := 0

theorem dat0_A (c : Dev nD) (w : Fin cfg0.W) : (dat0 V c).A w = V c (Proc.devRef .tc (Pipeline.arrRef spec0 w)) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = fOut (blk0 V c 0 t) (blk0 V c 1 t) (blk0 V c 2 t) := by dsimp only [dat0]
theorem after0_4 (c : Dev nD) (t : Fin cfg0.N) : (dat0 V c).after 4 t = fLse (blk0 V c 0 t) (blk0 V c 1 t) := by dsimp only [dat0]

theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; rfl) t d).trans rfl
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; rfl) t d).trans rfl
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; rfl) t d).trans rfl

/-- The scoped buffers that are no staging buffer: the body's three scratch buffers at some contents, and the rest. -/
theorem rest0_split (c : Dev nD) : ∃ R : sProp 𝕄, (Pipeline.scopedRest spec0 c : sProp 𝕄)
    = iprop((∃ d, owns (c : Thread nD τ) (Memref.whole cc0_scratch0 : Memref sig .tc .vmem S512x1 .f32) fullShare d)
        ∗ (∃ d, owns (c : Thread nD τ) (Memref.whole cc0_scratch1 : Memref sig .tc .vmem S512x1 .f32) fullShare d)
        ∗ (∃ d, owns (c : Thread nD τ) (Memref.whole cc0_scratch2 : Memref sig .tc .vmem S512x128 .f32) fullShare d) ∗ R) :=
  ⟨_, by rw [scopedRest0_eq]; simp only [owns_whole]; rfl⟩

theorem live0_3 : ∀ t : Fin cfg0.N, cfg0.idle 3 (grid0.coords t) = false := by decide +kernel
theorem live0_4 : ∀ t : Fin cfg0.N, cfg0.idle 4 (grid0.coords t) = false := by decide +kernel

/-- What the body is called with at point `t`, window by window, -/
def pre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d)))

/-- and what it returns. -/
def post0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 800000 in
theorem sound0 (c : Dev nD) (t : Fin cfg0.N) :
    pre0 V c t ⊢ wp frame (wpE (defs₀ (F := F)) Variants.none c none) Set.univ (bodyAt0 t) (fun _ => post0 V c t) := by
  obtain ⟨R, hR⟩ := rest0_split (F := F) c
  unfold pre0 post0 bodyAt0
  simp only [before0_0, before0_1, before0_2]
  rw [show (dat0 V c).Φ t.succ = (dat0 V c).Φ t.castSucc from rfl,
    show (dat0 V c).owesAt () t.succ = (dat0 V c).owesAt () t.castSucc from rfl]
  rw [show (dat0 V c).Φ t.castSucc = Pipeline.ΦA spec0 c from rfl]
  unfold Pipeline.ΦA
  rw [hR]
  rw [show (dat0 V c).leavesExact 0 t = owns (c : Thread nD τ) (win0_0.stage (cfg0.slots t 0)) fullShare ((dat0 V c).after 0 t) from rfl, after0_0]
  rw [show (dat0 V c).leavesExact 1 t = owns (c : Thread nD τ) (win0_1.stage (cfg0.slots t 1)) fullShare ((dat0 V c).after 1 t) from rfl, after0_1]
  rw [show (dat0 V c).leavesExact 2 t = owns (c : Thread nD τ) (win0_2.stage (cfg0.slots t 2)) fullShare ((dat0 V c).after 2 t) from rfl, after0_2]
  rw [show (dat0 V c).leavesExact 3 t = owns (c : Thread nD τ) (win0_3.stage (cfg0.slots t 3)) fullShare ((dat0 V c).after 3 t) from by
      unfold Dat.leavesExact; rw [live0_3 t], after0_3]
  rw [show (dat0 V c).leavesExact 4 t = owns (c : Thread nD τ) (win0_4.stage (cfg0.slots t 4)) fullShare ((dat0 V c).after 4 t) from by
      unfold Dat.leavesExact; rw [live0_4 t], after0_4]
  iintro ⟨⟨⟨HS0, HS1, HS2, HR⟩, Hg⟩, Ho, ⟨%d0, H0⟩, ⟨%d1, H1⟩, ⟨%d2, H2⟩, ⟨%d3, H3⟩, ⟨%d4, H4⟩⟩
  iapply (run0 c (grid0.coords t) _ _ _ _ _ _ _ _ _ _ _ _ _ _ _ _ (fst0_all t) (lst0_all t) (blk0 V c 0 t) (blk0 V c 1 t) (blk0 V c 2 t) Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HS2]; · iexact HS2
  iintro ⟨H0, H1, H2, H3, H4, HS0, HS1, HS2⟩
  isplitl [HS0 HS1 HS2 HR Hg]
  · isplitl [HS0 HS1 HS2 HR]
    · isplitl [HS0]; · iexact HS0
      isplitl [HS1]; · iexact HS1
      isplitl [HS2]; · iexact HS2
      iexact HR
    iexact Hg
  isplitl [Ho]; · iexact Ho
  isplitl [H0]; · iexact H0
  isplitl [H1]; · iexact H1
  isplitl [H2]; · iexact H2
  isplitl [H3]; · iexact H3
  iexact H4

theorem row0 (t : Fin cfg0.N) : defs₀ (F := F) .tc cfg0.body (cfg0.bodyArgs t (cfg0.slots t)) = bodyAt0 t := by
  unfold defs₀; rw [Defs.onTc_tc]

theorem body0 (c : Dev nD) : BodyObligation (dat0 (F := F) V c) (defs₀ (F := F)) Variants.none () Set.univ := fun t => by
  rw [bigSep_W0, bigSep_W0, row0]
  exact triple_restated (sound0 V c t) rfl .rfl fun _ => .rfl

end Cert.KernelIdeal.Hand

end
-- ==== Proof.BwdData.lean ====
module

public import proofs.«01_k».proof.Proof.BwdRun
public import Idealize.ShloMosaic.Lib.Pipeline.DatRel
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The backward call's proof data

The contents `V c` of core `c`'s buffers at the call's entry are a parameter. The blocks of the keys' and
values' gradients are named exactly. The array of the queries' gradient of one head is only partly
written while the head's points run, so there the data say what it is from SOME first contents; once
the head is through, the first contents are gone. -/

variable (V : Dev nD → Valuation τ sig (Elt F))

/-- Window `w`'s block at point `t`, read off its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

theorem fst1_iff : ∀ t : Fin grid1.N, fst1 (grid1.coords t) ↔ t.val % 16 = 0 := fun t => by
  have ht : t.val < 256 := Nat.lt_of_lt_of_eq t.isLt N_1
  have e2 : (grid1.coords t 2).val = t.val / 1 % 16 := Pipeline.Grid.coords_val t 2 (by decide) rfl
  simp only [fst1, e2]
  word_cmp
theorem cond2_iff : ∀ t : Fin grid1.N, k1_cond2 (grid1.coords t) = 1#1 ↔ t.val / 16 % 2 = 0 := fun t => by
  have ht : t.val < 256 := Nat.lt_of_lt_of_eq t.isLt N_1
  have e1 : (grid1.coords t 1).val = t.val / 16 % 2 := Pipeline.Grid.coords_val t 1 (by decide) rfl
  simp only [k1_cond2, e1]
  word_cmp
theorem cond3_iff : ∀ t : Fin grid1.N, k1_cond3 (grid1.coords t) = 1#1 ↔ t.val / 16 % 2 = 1 := fun t => by
  have ht : t.val < 256 := Nat.lt_of_lt_of_eq t.isLt N_1
  have e1 : (grid1.coords t 1).val = t.val / 16 % 2 := Pipeline.Grid.coords_val t 1 (by decide) rfl
  simp only [k1_cond3, e1]
  word_cmp
theorem cond23 (t : Fin grid1.N) : k1_cond2 (grid1.coords t) = 1#1 ↔ ¬ k1_cond3 (grid1.coords t) = 1#1 := by
  rw [cond2_iff, cond3_iff]; omega

/-- What point `t` makes of the keys' gradient, from `a`. -/
def dkOne (c : Dev nD) (t : Fin cfg1.N) (a : Vec F S4096x128 .f32) : Vec F S4096x128 .f32 :=
  bDk (blk1 V c 0 t) (blk1 V c 1 t) (blk1 V c 2 t) (blk1 V c 3 t) (blk1 V c 4 t) (blk1 V c 5 t) a
/-- What point `t` makes of the values' gradient, from `a`. -/
def dvOne (c : Dev nD) (t : Fin cfg1.N) (a : Vec F S4096x128 .f32) : Vec F S4096x128 .f32 :=
  bDv (blk1 V c 0 t) (blk1 V c 1 t) (blk1 V c 4 t) (blk1 V c 5 t) a
/-- What point `t` makes of the head's array of the queries' gradient, from `d`. -/
def dqOne (c : Dev nD) (t : Fin cfg1.N) (d : Vec F S8192x128 .f32) : Vec F S8192x128 .f32 :=
  dqStep (grid1.coords t) (blk1 V c 0 t) (blk1 V c 1 t) (blk1 V c 2 t) (blk1 V c 3 t) (blk1 V c 4 t) (blk1 V c 5 t) d

/-- The keys' gradient after point `n`: the fold of `dkOne`, begun anew at each multiple of 16. -/
def dkAt (c : Dev nD) : (n : ℕ) → n < cfg1.N → Vec F S4096x128 .f32
  | 0, h => dkOne V c ⟨0, h⟩ k1_pay4
  | n + 1, h => dkOne V c ⟨n + 1, h⟩ (if (n + 1) % 16 = 0 then k1_pay4 else dkAt c n (by omega))
/-- The values' gradient after point `n`. -/
def dvAt (c : Dev nD) : (n : ℕ) → n < cfg1.N → Vec F S4096x128 .f32
  | 0, h => dvOne V c ⟨0, h⟩ k1_pay5
  | n + 1, h => dvOne V c ⟨n + 1, h⟩ (if (n + 1) % 16 = 0 then k1_pay5 else dvAt c n (by omega))
/-- The head's array of the queries' gradient after point `n`, the head begun with `d`. -/
def dqAt (c : Dev nD) (d : Vec F S8192x128 .f32) : (n : ℕ) → n < cfg1.N → Vec F S8192x128 .f32
  | 0, h => dqOne V c ⟨0, h⟩ d
  | n + 1, h => dqOne V c ⟨n + 1, h⟩ (if (n + 1) % 32 = 0 then d else dqAt c d n (by omega))

/-- The arrays as the call finds them; after each point the inputs' buffers at their blocks, the outputs'
at the folds. -/
def dat1 (c : Dev nD) : Dat τ (Elt F) Unit ℕ (UR sig nD τ) ℕ cfg1 c where
  A w := V c (Proc.devRef .tc (Pipeline.arrRef spec1 w))
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => dqAt V c (fun _ => Scalar.ofBits .f32 0#32) t.val t.isLt
    | ⟨7, _⟩ => dkAt V c t.val t.isLt
    | ⟨8, _⟩ => dvAt V c t.val t.isLt
  Φ _ := Pipeline.ΦA spec1 c
  q _ := fullShare
  owed _ := 0

/-- The one window whose contents are only partly known on the way. -/
def part1 (w : Fin cfg1.W) : Bool :=
  match w with
  | ⟨6, _⟩ => true
  | _ => false

/-- What is known of the queries' gradient after point `t`. -/
def rel1 (c : Dev nD) (w : Fin cfg1.W) (t : Fin cfg1.N) (X : (cfg1.win w).block.Idx → Elt F (cfg1.win w).elt) : Prop :=
  match w, X with
  | ⟨6, _⟩, X => ∃ d, X = dqAt V c d t.val t.isLt
  | _, _ => True

theorem dat1_A (c : Dev nD) (w : Fin cfg1.W) : (dat1 V c).A w = V c (Proc.devRef .tc (Pipeline.arrRef spec1 w)) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_7 (c : Dev nD) (t : Fin cfg1.N) : (dat1 V c).after 7 t = dkAt V c t.val t.isLt := by dsimp only [dat1]
theorem after1_8 (c : Dev nD) (t : Fin cfg1.N) : (dat1 V c).after 8 t = dvAt V c t.val t.isLt := by dsimp only [dat1]

theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; rfl) t d).trans rfl
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; rfl) t d).trans rfl
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; rfl) t d).trans rfl
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; rfl) t d).trans rfl
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; rfl) t d).trans rfl
theorem before1_5 (c : Dev nD) (t : Fin cfg1.N) (d) : (dat1 V c).before 5 t d = blk1 V c 5 t :=
  ((dat1 V c).before_in_eq_fetched 5 rfl (fun _ => rfl) (fun _ _ _ => rfl) (fun t => by rw [after1_5]; rfl) t d).trans rfl

theorem live1_6 : ∀ t : Fin cfg1.N, cfg1.idle 6 (grid1.coords t) = false := by decide +kernel
theorem live1_7 : ∀ t : Fin cfg1.N, cfg1.idle 7 (grid1.coords t) = false := by decide +kernel
theorem live1_8 : ∀ t : Fin cfg1.N, cfg1.idle 8 (grid1.coords t) = false := by decide +kernel
theorem nofetch1_6 : ∀ t : Fin cfg1.N, (cfg1.win 6).fetch t = false := fun _ => rfl
theorem nofetch1_7 : ∀ t : Fin cfg1.N, (cfg1.win 7).fetch t = false := fun _ => rfl
theorem nofetch1_8 : ∀ t : Fin cfg1.N, (cfg1.win 8).fetch t = false := fun _ => rfl

/-- Past the first block of queries the body finds what the point before left. -/
theorem before1_7 (c : Dev nD) (t : Fin cfg1.N) (h : ¬ t.val % 16 = 0) (d) :
    (dat1 V c).before 7 t d = dkAt V c (t.val - 1) (Nat.lt_of_le_of_lt (Nat.sub_le _ _) t.isLt) := by
  have hf : (cfg1.win 7).flush ⟨t.val - 1, Nat.lt_of_le_of_lt (Nat.sub_le _ _) t.isLt⟩ = false := by
    rw [← Bool.not_eq_true, flush1_7]; dsimp only; omega
  rw [(dat1 V c).before_of_pos 7 t (fun e => h (by rw [e])) (nofetch1_7 t), hf, if_neg Bool.false_ne_true]
  unfold Dat.left
  rw [live1_7]
  dsimp only
  unfold Dat.kept
  rw [Pipeline.fill_of_clip_none 7 _ (fun _ => rfl) d ((dat1 V c).after 7 _), Window.fill_cut, after1_7]

theorem dkAt_step (c : Dev nD) (t : Fin cfg1.N) (d) :
    dkOne V c t (if fst1 (grid1.coords t) then k1_pay4 else (dat1 V c).before 7 t d) = dkAt V c t.val t.isLt := by
  obtain ⟨n, hn⟩ := t
  cases n with
  | zero => rw [if_pos ((fst1_iff _).mpr rfl)]; rfl
  | succ n =>
    by_cases h : (n + 1) % 16 = 0
    · rw [if_pos ((fst1_iff _).mpr h)]
      unfold dkAt; rw [if_pos h]
    · rw [if_neg (fun e => h ((fst1_iff _).mp e)), before1_7 V c _ h]
      conv_rhs => unfold dkAt
      rw [if_neg h]; rfl

/-- Past the first block of queries the body finds what the point before left. -/
theorem before1_8 (c : Dev nD) (t : Fin cfg1.N) (h : ¬ t.val % 16 = 0) (d) :
    (dat1 V c).before 8 t d = dvAt V c (t.val - 1) (Nat.lt_of_le_of_lt (Nat.sub_le _ _) t.isLt) := by
  have hf : (cfg1.win 8).flush ⟨t.val - 1, Nat.lt_of_le_of_lt (Nat.sub_le _ _) t.isLt⟩ = false := by
    rw [← Bool.not_eq_true, flush1_8]; dsimp only; omega
  rw [(dat1 V c).before_of_pos 8 t (fun e => h (by rw [e])) (nofetch1_8 t), hf, if_neg Bool.false_ne_true]
  unfold Dat.left
  rw [live1_8]
  dsimp only
  unfold Dat.kept
  rw [Pipeline.fill_of_clip_none 8 _ (fun _ => rfl) d ((dat1 V c).after 8 _), Window.fill_cut, after1_8]

theorem dvAt_step (c : Dev nD) (t : Fin cfg1.N) (d) :
    dvOne V c t (if fst1 (grid1.coords t) then k1_pay5 else (dat1 V c).before 8 t d) = dvAt V c t.val t.isLt := by
  obtain ⟨n, hn⟩ := t
  cases n with
  | zero => rw [if_pos ((fst1_iff _).mpr rfl)]; rfl
  | succ n =>
    by_cases h : (n + 1) % 16 = 0
    · rw [if_pos ((fst1_iff _).mpr h)]
      unfold dvAt; rw [if_pos h]
    · rw [if_neg (fun e => h ((fst1_iff _).mp e)), before1_8 V c _ h]
      conv_rhs => unfold dvAt
      rw [if_neg h]; rfl

/-- What the body finds of the queries' gradient, worked at point `t`, is again known. -/
theorem dqAt_step (c : Dev nD) (t : Fin cfg1.N) (Y : (cfg1.win 6).block.Idx → Elt F (cfg1.win 6).elt)
    (hY : ((dat1 V c).toRRel part1 (rel1 V c)).Finds 6 t Y) : rel1 V c 6 t (dqOne V c t Y) := by
  show ∃ d, dqOne V c t Y = dqAt V c d t.val t.isLt
  obtain ⟨n, hn⟩ := t
  cases n with
  | zero => exact ⟨Y, rfl⟩
  | succ n =>
    by_cases h : (n + 1) % 32 = 0
    · exact ⟨Y, by conv_rhs => unfold dqAt
                   rw [if_pos h]⟩
    · rcases (((dat1 V c).toRRel part1 (rel1 V c)).finds_of_pos (nofetch1_6 _) (Nat.succ_ne_zero n) Y).mp hY with hf | hl
      · exact absurd ((flush1_6 _).mp hf) (by dsimp only; omega)
      · obtain ⟨d, hd⟩ : ∃ d, Y = dqAt V c d n (by omega) := (dat1 V c).toRRel_leaves (fgt := part1) rfl hl
        exact ⟨d, by conv_rhs => unfold dqAt
                     rw [if_neg h, hd]⟩

/-- What the body is called with at point `t`, window by window, -/
def pre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d))
    ∗ (∃ Y, ⌜((dat1 V c).toRRel part1 (rel1 V c)).Finds 6 t Y⌝ ∗ owns (c : Thread nD τ) (win1_6.stage (cfg1.slots t 6)) fullShare Y)
    ∗ (∃ d, owns (c : Thread nD τ) (win1_7.stage (cfg1.slots t 7)) fullShare ((dat1 V c).before 7 t d))
    ∗ (∃ d, owns (c : Thread nD τ) (win1_8.stage (cfg1.slots t 8)) fullShare ((dat1 V c).before 8 t d)))

/-- and what it returns. -/
def post1 (c : Dev nD) (t : Fin cfg1.N) : sProp 𝕄 :=
  iprop((dat1 V c).Φ t.succ ∗ (dat1 V c).owesAt () t.succ
    ∗ owns (c : Thread nD τ) (win1_0.stage (cfg1.slots t 0)) fullShare ((dat1 V c).after 0 t)
    ∗ owns (c : Thread nD τ) (win1_1.stage (cfg1.slots t 1)) fullShare ((dat1 V c).after 1 t)
    ∗ owns (c : Thread nD τ) (win1_2.stage (cfg1.slots t 2)) fullShare ((dat1 V c).after 2 t)
    ∗ owns (c : Thread nD τ) (win1_3.stage (cfg1.slots t 3)) fullShare ((dat1 V c).after 3 t)
    ∗ owns (c : Thread nD τ) (win1_4.stage (cfg1.slots t 4)) fullShare ((dat1 V c).after 4 t)
    ∗ owns (c : Thread nD τ) (win1_5.stage (cfg1.slots t 5)) fullShare ((dat1 V c).after 5 t)
    ∗ (∃ X, ⌜rel1 V c 6 t X⌝ ∗ owns (c : Thread nD τ) (win1_6.stage (cfg1.slots t 6)) fullShare X)
    ∗ owns (c : Thread nD τ) (win1_7.stage (cfg1.slots t 7)) fullShare ((dat1 V c).after 7 t)
    ∗ owns (c : Thread nD τ) (win1_8.stage (cfg1.slots t 8)) fullShare ((dat1 V c).after 8 t))

set_option maxHeartbeats 800000 in
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5, after1_0, after1_1, after1_2, after1_3, after1_4, after1_5, after1_7, after1_8]
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%Y, %hY, H6⟩, ⟨%d7, H7⟩, ⟨%d8, H8⟩⟩
  iapply (run1 c (grid1.coords t) _ _ _ _ _ _ _ _ _ _ _ _ _ _ _ _ _ _ (cond23 t) (blk1 V c 0 t) (blk1 V c 1 t) (blk1 V c 2 t) (blk1 V c 3 t) (blk1 V c 4 t) (blk1 V c 5 t)
    Y ((dat1 V c).before 7 t d7) ((dat1 V c).before 8 t d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  rw [← dkAt_step V c t d7, ← dvAt_step V c t d8]
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; exact dqAt_step V c t Y hY
  isplitl [H7]; · iexact H7
  iexact H8

theorem row1 (t : Fin cfg1.N) : defs₀ (F := F) .tc cfg1.body (cfg1.bodyArgs t (cfg1.slots t)) = bodyAt1 t := by
  unfold defs₀; rw [Defs.onTc_tc]

theorem body1 (c : Dev nD) :
    Pipeline.BodyObligationRel (dat1 (F := F) V c) (defs₀ (F := F)) Variants.none () Set.univ part1 (rel1 V c) := fun t => by
  rw [bigSep_W1, bigSep_W1, row1]
  refine triple_restated (sound1 V c t) rfl ?_ fun _ => ?_
  · exact .rfl
  · dsimp only [part1]
    exact .rfl

end Cert.KernelIdeal.Hand

end
-- ==== Proof.DqFold.lean ====
module

public import proofs.«01_k».proof.Proof.BwdData

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The head's array of the queries' gradient, once the head is through

Each block of rows is written in the pass over the first keys and added to in the pass over the second. -/

variable (V : Dev nD → Valuation τ sig (Elt F))

/-- Where block `j` of rows begins. -/
def rowAt (j : ℕ) : Fin 2 → ℕ := ![512 * j, 0]

theorem rowAt_inb (j : ℕ) (h : j < 16) : ∀ a, rowAt j a + S512x128.size a ≤ S8192x128.size a := by
  intro a
  fin_cases a
  · show 512 * j + 512 ≤ 8192
    omega
  · show 0 + 128 ≤ 128
    omega

/-- Block `j` of rows. -/
def rowsOf (d : Vec F S8192x128 .f32) (j : ℕ) (h : j < 16) : Vec F S512x128 .f32 :=
  VecWindow.window d (rowAt j) S512x128.size (rowAt_inb j h)

theorem rowOff_at (t : Fin cfg1.N) : rowOff (grid1.coords t) = rowAt (t.val % 16) := by
  have e2 : (grid1.coords t 2).val = t.val / 1 % 16 := Pipeline.Grid.coords_val t 2 (by decide) rfl
  unfold rowOff rowAt
  rw [e2, Nat.div_one]

theorem rowsOf_put_same (d : Vec F S8192x128 .f32) (j : ℕ) (h : j < 16) (w : Vec F S512x128 .f32) :
    rowsOf (VecWindow.put d (rowAt j) S512x128.size w) j h = w :=
  VecWindow.window_put_same d (rowAt j) S512x128.size (rowAt_inb j h) w

theorem rowsOf_put_ne (d : Vec F S8192x128 .f32) (i j : ℕ) (h : j < 16) (hij : i ≠ j) (w : Vec F S512x128 .f32) :
    rowsOf (VecWindow.put d (rowAt i) S512x128.size w) j h = rowsOf d j h :=
  VecWindow.window_put_of_disjoint d (rowAt i) S512x128.size (rowAt j) S512x128.size (rowAt_inb j h) w 0 (by
    show 512 * j + 512 ≤ 512 * i ∨ 512 * i + 512 ≤ 512 * j
    omega)

/-- Row `r` is in block `r / 512`. -/
theorem rowsOf_apply (d : Vec F S8192x128 .f32) (x : S8192x128.Idx) :
    d x = rowsOf d ((x 0).val / 512) (by have : (x 0).val < 8192 := (x 0).isLt; omega)
      (fun a => match a with
        | ⟨0, _⟩ => ⟨(x 0).val % 512, Nat.mod_lt _ (by decide)⟩
        | ⟨1, _⟩ => x 1) := by
  refine congrArg d (funext fun a => Fin.ext ?_)
  fin_cases a
  · show (x 0).val = 512 * ((x 0).val / 512) + 1 * ((x 0).val % 512)
    omega
  · show (x 1).val = 0 + 1 * (x 1).val
    omega

theorem ext_rows {d d' : Vec F S8192x128 .f32} (h : ∀ j (hj : j < 16), rowsOf d j hj = rowsOf d' j hj) : d = d' := by
  funext x
  rw [rowsOf_apply d x, rowsOf_apply d' x, h]

theorem window_off {α : Type} {s : Shape} (d : s.Idx → α) {off off' size : Fin s.rank → ℕ} (e : off = off')
    (inb : ∀ a, off a + size a ≤ s.size a) (inb' : ∀ a, off' a + size a ≤ s.size a) :
    VecWindow.window d off size inb = VecWindow.window d off' size inb' := by
  subst e; rfl

/-- What point `t` writes in the first pass, -/
def dqFirst (c : Dev nD) (t : Fin cfg1.N) : Vec F S512x128 .f32 :=
  bDq (blk1 V c 0 t) (blk1 V c 1 t) (blk1 V c 2 t) (blk1 V c 3 t) (blk1 V c 4 t) (blk1 V c 5 t)
/-- and in the second, over `a`. -/
def dqNext (c : Dev nD) (t : Fin cfg1.N) (a : Vec F S512x128 .f32) : Vec F S512x128 .f32 :=
  bDqAdd (blk1 V c 0 t) (blk1 V c 1 t) (blk1 V c 2 t) (blk1 V c 3 t) (blk1 V c 4 t) (blk1 V c 5 t) a

theorem dqOne_first (c : Dev nD) (t : Fin cfg1.N) (h : t.val / 16 % 2 = 0) (d : Vec F S8192x128 .f32) :
    dqOne V c t d = VecWindow.put d (rowAt (t.val % 16)) S512x128.size (dqFirst V c t) := by
  unfold dqOne dqStep
  rw [if_pos ((cond2_iff t).mpr h), rowOff_at]; rfl

theorem dqOne_next (c : Dev nD) (t : Fin cfg1.N) (h : ¬ t.val / 16 % 2 = 0) (d : Vec F S8192x128 .f32) :
    dqOne V c t d = VecWindow.put d (rowAt (t.val % 16)) S512x128.size
      (dqNext V c t (rowsOf d (t.val % 16) (Nat.mod_lt _ (by decide)))) := by
  unfold dqOne dqStep
  rw [if_neg (fun e => h ((cond2_iff t).mp e))]
  have e := rowOff_at t
  unfold dqNext rowsOf
  congr 1
  exact congrArg _ (window_off d e _ _)

/-- The point before, or the first contents at the head's first point. -/
def dqBase (c : Dev nD) (d : Vec F S8192x128 .f32) (t : Fin cfg1.N) : Vec F S8192x128 .f32 :=
  if t.val % 32 = 0 then d else dqAt V c d (t.val - 1) (Nat.lt_of_le_of_lt (Nat.sub_le _ _) t.isLt)

theorem dqAt_eq (c : Dev nD) (d : Vec F S8192x128 .f32) (n : ℕ) (hn : n < cfg1.N) :
    dqAt V c d n hn = dqOne V c ⟨n, hn⟩ (dqBase V c d ⟨n, hn⟩) := by
  cases n with
  | zero => rfl
  | succ n => unfold dqBase; conv_lhs => unfold dqAt
              rfl

/-- In the first pass, the blocks reached so far hold what their points wrote. -/
theorem dqAt_first (c : Dev nD) (d : Vec F S8192x128 .f32) : ∀ (n : ℕ) (hn : n < cfg1.N), n / 16 % 2 = 0 →
    ∀ u : Fin cfg1.N, u.val / 16 = n / 16 → u.val ≤ n →
      rowsOf (dqAt V c d n hn) (u.val % 16) (Nat.mod_lt _ (by decide)) = dqFirst V c u := by
  intro n
  induction n with
  | zero =>
    intro hn h u hu hle
    obtain rfl : u = ⟨0, hn⟩ := Fin.ext (Nat.le_zero.mp hle)
    rw [dqAt_eq, dqOne_first V c _ h]
    exact rowsOf_put_same _ _ _ _
  | succ n ih =>
    intro hn h u hu hle
    rw [dqAt_eq, dqOne_first V c _ h]
    by_cases e : u.val = n + 1
    · obtain rfl : u = ⟨n + 1, hn⟩ := Fin.ext e
      exact rowsOf_put_same _ _ _ _
    · refine (rowsOf_put_ne _ _ _ _ (by dsimp only; omega) _).trans ?_
      unfold dqBase
      rw [if_neg (by dsimp only; omega)]
      exact ih (by omega) (by omega) u (by omega) (by omega)

/-- In the second, those reached hold the sum, the others still what the first pass wrote. -/
theorem dqAt_next (c : Dev nD) (d : Vec F S8192x128 .f32) : ∀ (n : ℕ) (hn : n < cfg1.N), ¬ n / 16 % 2 = 0 →
    ∀ u v : Fin cfg1.N, v.val / 16 = n / 16 → u.val + 16 = v.val →
      rowsOf (dqAt V c d n hn) (v.val % 16) (Nat.mod_lt _ (by decide))
        = if v.val ≤ n then dqNext V c v (dqFirst V c u) else dqFirst V c u := by
  intro n
  induction n with
  | zero => intro hn h; exact absurd rfl h
  | succ n ih =>
    intro hn h u v hv huv
    have hbase : rowsOf (dqBase V c d ⟨n + 1, hn⟩) (v.val % 16) (Nat.mod_lt _ (by decide))
        = if v.val ≤ n then dqNext V c v (dqFirst V c u) else dqFirst V c u := by
      unfold dqBase
      rw [if_neg (by dsimp only; omega)]
      by_cases h' : n / 16 % 2 = 0
      · rw [if_neg (by omega)]
        have := dqAt_first V c d n (by omega) h' u (by omega) (by omega)
        rw [← this]
        congr 1
        omega
      · exact ih (by omega) h' u v (by omega) huv
    rw [dqAt_eq, dqOne_next V c _ h]
    by_cases e : v.val = n + 1
    · obtain rfl : v = ⟨n + 1, hn⟩ := Fin.ext e
      rw [if_pos (Nat.le_refl _)]
      refine (rowsOf_put_same _ _ _ _).trans ?_
      congr 1
      rw [hbase, if_neg (by dsimp only; omega)]
    · refine (rowsOf_put_ne _ _ _ _ (by dsimp only; omega) _).trans ?_
      rw [hbase]
      by_cases hvn : v.val ≤ n
      · rw [if_pos hvn, if_pos (by omega)]
      · rw [if_neg hvn, if_neg (by omega)]

/-- Once the head is through, every block holds its sum. -/
theorem dqAt_last (c : Dev nD) (d : Vec F S8192x128 .f32) (t : Fin cfg1.N) (h : t.val % 32 = 31) (u v : Fin cfg1.N)
    (hv : v.val / 16 = t.val / 16) (huv : u.val + 16 = v.val) :
    rowsOf (dqAt V c d t.val t.isLt) (v.val % 16) (Nat.mod_lt _ (by decide)) = dqNext V c v (dqFirst V c u) := by
  rw [dqAt_next V c d t.val t.isLt (by omega) u v hv huv, if_pos (by omega)]

/-- Then nothing is left of the first contents. -/
theorem dqAt_free (c : Dev nD) (d d' : Vec F S8192x128 .f32) (t : Fin cfg1.N) (h : t.val % 32 = 31) :
    dqAt V c d t.val t.isLt = dqAt V c d' t.val t.isLt := by
  refine ext_rows fun j hj => ?_
  have ht := t.isLt
  have e : (⟨t.val - 15 + j, by omega⟩ : Fin cfg1.N).val % 16 = j := by dsimp only; omega
  have e1 := dqAt_last V c d t h ⟨t.val - 15 + j - 16, by omega⟩ ⟨t.val - 15 + j, by omega⟩ (by dsimp only; omega) (by dsimp only; omega)
  have e2 := dqAt_last V c d' t h ⟨t.val - 15 + j - 16, by omega⟩ ⟨t.val - 15 + j, by omega⟩ (by dsimp only; omega) (by dsimp only; omega)
  have e3 := e1.trans e2.symm
  have go : ∀ (i : ℕ) (hi : i < 16), i = j → rowsOf (dqAt V c d t.val t.isLt) i hi = rowsOf (dqAt V c d' t.val t.isLt) i hi →
      rowsOf (dqAt V c d t.val t.isLt) j hj = rowsOf (dqAt V c d' t.val t.isLt) j hj := by
    rintro i hi rfl hh; exact hh
  exact go _ _ e e3

/-- So what is written back is what the data name. -/
theorem rel1_named (c : Dev nD) (w : Fin cfg1.W) (hw : part1 w = true) (u : Fin cfg1.N) (hu : (cfg1.win w).flush u = true)
    (X : (cfg1.win w).block.Idx → Elt F (cfg1.win w).elt) (hX : rel1 V c w u X) : X = (dat1 V c).after w u := by
  match w, hw, X, hX, hu with
  | ⟨6, _⟩, _, X, ⟨d, hd⟩, hu => exact hd.trans (dqAt_free V c d _ u ((flush1_6 u).mp hu))

end Cert.KernelIdeal.Hand

end
-- ==== Proof.RegionRel.lean ====
module

public import Idealize.ShloMosaic.Lib.Pipeline.DatRel
public import Idealize.ShloMosaic.Lib.Pipeline.ArrRel
public import Idealize.ShloMosaic.Lib.Pipeline.Regions
public import Idealize.ShloMosaic.Lib.Pipeline.RegionArraysS
public import Idealize.ShloMosaic.Lib.Pipeline.FrameTail
public import Idealize.ShloMosaic.Lib.Pipeline.FrameBody

@[expose] public section

set_option maxRecDepth 16384

noncomputable section

/-! # A region whose partly known windows are exact where they are written back -/

namespace Idealize.ShloMosaic.Pipeline

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} [∀ e, Nonempty (Val e)] {Λ₀ : Idealize.SL.Sem.Labels}

section Arrays

variable {Ix : Type} [DecidableEq Ix] {Name : Type} [DecidableEq Name] {U : Type} [URA U] {Lvl : Type}
variable {cfg : Cfg sig Λ₀} {c : Dev nD} (dat : Dat τ Val Ix Name U Lvl cfg c)

/-- An array that a partly known window writes is what the exact data name, if what is written back is. -/
theorem Dat.toRRel_arrAt_eq {fgt : Fin cfg.W → Bool} {Rl : (w : Fin cfg.W) → Fin cfg.N → ((cfg.win w).block.Idx → Val (cfg.win w).elt) → Prop}
    (h : ∀ w, fgt w = true → ∀ u, (cfg.win w).flush u = true → ∀ X, Rl w u X → X = dat.after w u)
    (w : Fin cfg.W) (n : ℕ) (G : Buf Val ((cfg.win w).arr.view.loc (c.tc : Thread nD τ)))
    (hG : (dat.toRRel fgt Rl).ArrAt w n G) : G = dat.arrAt w n := by
  cases hf : fgt w with
  | false => exact (dat.toR_arrAt_iff w n G).mp ((dat.toR.override_arrAt (by simp only [hf]) n G).mp hG)
  | true =>
    obtain ⟨X, hX, hA⟩ := hG.exists_exact
    exact hA dat.after fun u hu hfu => (h w hf u hfu _ (dat.toRRel_leaves hf (hX u hu hfu))).symm

theorem Dat.toRRel_arraysAt {fgt : Fin cfg.W → Bool} {Rl : (w : Fin cfg.W) → Fin cfg.N → ((cfg.win w).block.Idx → Val (cfg.win w).elt) → Prop}
    (h : ∀ w, fgt w = true → ∀ u, (cfg.win w).flush u = true → ∀ X, Rl w u X → X = dat.after w u) (n : ℕ) :
    ((dat.toRRel fgt Rl).arraysAt n : sProp (MT nD τ sig Ix Val Name U Lvl)) ⊢ dat.arrays (dat.arrAt · n) := by
  unfold RDat.arraysAt Dat.arrays
  refine BI.bigSep_mono fun w _ => ?_
  show (iprop(∃ G, ⌜(dat.toRRel fgt Rl).ArrAt w n G⌝ ∗ (((cfg.win w).arr.view.loc (c.tc : Thread nD τ)) ↦[(cfg.win w).arr.view.set]{dat.share w} G)) : sProp (MT nD τ sig Ix Val Name U Lvl))
    ⊢ iprop(((cfg.win w).arr.view.loc (c.tc : Thread nD τ)) ↦[(cfg.win w).arr.view.set]{dat.share w} dat.arrAt w n)
  iintro ⟨%G, %hG, H⟩
  rw [dat.toRRel_arrAt_eq h w n G hG]
  iexact H

end Arrays

section Region

variable {P : Type} [Fintype P]
variable (pcs : P → PCfg sig Λ₀ Val) (a : (p : P) → (pcs p).Adm)
  (pdats : (p : P) → (c : Dev nD) → Dat τ Val Unit ℕ (UR sig nD τ) ℕ (pin pcs a p) c)
  (defs₀ : Defs nD τ sig Val Λ₀) (𝒱₀ : Variants)
  (L : GSem nD τ sig → Finset Unit) (lv : GSem nD τ sig → Unit → ℕ) (p : P)
  (fg : (q : P) → Fin (pin pcs a q).W → Bool)
  (Rl : (q : P) → (c : Dev nD) → (w : Fin (pin pcs a q).W) → Fin (pin pcs a q).N → (((pin pcs a q).win w).block.Idx → Val ((pin pcs a q).win w).elt) → Prop)

/-- The exact data read with the marked windows held to `Rl`. -/
abbrev relDats : (q : P) → (c : Dev nD) → RDat τ Val Unit ℕ (UR sig nD τ) ℕ (pin pcs a q) c :=
  fun q c => (pdats q c).toRRel (fg q) (Rl q c)

/-- What rides beside the buffers: the generator register and what the core owes. -/
abbrev beside (c : Dev nD) : sProp (MT nD τ sig Unit Val ℕ (UR sig nD τ) ℕ) :=
  iprop((∃ r, prngReg c r) ∗ ∃ W, owes (c : Thread nD τ) (0 : CellTallies nD τ sig Unit) W)

/-- The region entered from the unscoped buffers at `W c`, left with them at `afterRegion`. -/
def regionRel (kit : PLaunchFacts (nD := nD) (τ := τ) pcs p) (hK : (pcs p).pre.K = 0)
    (harr : ∀ w, (arrRef (pcs p).spec w).isScoped = false)
    (hbody : ∀ c, BodyObligationRel (pdats p c) defs₀ 𝒱₀ () Set.univ (fg p) (Rl p c))
    (hnamed : ∀ c w, fg p w = true → ∀ u, ((pin pcs a p).win w).flush u = true → ∀ X, Rl p c w u X → X = (pdats p c).after w u)
    (howed : ∀ c t, (pdats p c).owed t = 0) (hrec : ∀ c, (pdats p c).recorded 0 = Set.univ)
    (hshare : ∀ c w, (pdats p c).share w = fullShare)
    (hΦ : ∀ c t, (pdats p c).Φ t = ΦA (pin pcs a p).spec c)
    (W : Dev nD → Valuation τ sig Val)
    (hW : ∀ c w, (pdats p c).A w = W c (Proc.devRef .tc (arrRef (pin pcs a p).spec w))) :
    RDat.RegionSeg pcs a (relDats pcs a pdats fg Rl) () defs₀ 𝒱₀ L lv p where
  win := kit.to₀.win
  block_pos := kit.to₀.block_pos
  stage_whole := kit.to₀.stage_whole
  K := PEmpty
  osem k := k.elim
  ho := OwnSemFacts.none _
  hbody c := (hbody c).toRRel
  hwaits := RDat.hwaits_of_owed_zero pcs a (relDats pcs a pdats fg Rl) () L lv p fun c t => howed c t
  pre c := iprop(StableHlo.held (c.tc : Thread nD τ) (ucRefs τ sig) (W c) ∗ beside c)
  post c := iprop(StableHlo.held (c.tc : Thread nD τ) (ucRefs τ sig) (afterRegion (pdats p c) (W c)) ∗ beside c)
  X c := iprop(∃ r, prngReg c r)
  Y c := iprop(∃ r, prngReg c r)
  Z c := StableHlo.held (c.tc : Thread nD τ) (ucRefs τ sig \ arrRefs (pcs p).spec) (W c)
  hentry c := by
    show _ ⊢ |={Set.univ}=> iprop((pdats p c).arrays (pdats p c).A ∗ prefHeld (pcs p).pre c (fun _ => fullShare) (a p).1
        ∗ (pdats p c).owesAt () 0 ∗ _ ∗ _)
    rw [prefHeld_of_none _ hK, ownSems0_none, arrays_held pcs a pdats p kit c (hshare c) (pdats p c).A (W c) (hW c),
      StableHlo.held_sub_split (c.tc : Thread nD τ) (arrRefs_sub_ucRefs (pcs p).spec harr) (W c)]
    iintro ⟨⟨⟨Ha, Hr⟩, Hp, HO⟩, -, -⟩
    imodintro
    isplitl [Ha]; · iexact Ha
    isplitr; · iempintro
    isplitl [HO]
    · unfold Dat.owesAt owesWithin Dat.bound
      rw [howed c 0, hrec c]
      icases HO with ⟨%Wd, HO⟩; iexists Wd; isplitr; · ipureintro; exact fun _ _ => Or.inl trivial
      iexact HO
    isplitl [Hp]; · iexact Hp
    iexact Hr
  hin c := by
    show _ ⊢ (pdats p c).Φ 0
    rw [hΦ c 0]; unfold ΦA
    iintro ⟨Hp, -, Hr⟩
    isplitl [Hr]; · iexact Hr
    iexact Hp
  hout c := by
    show (pdats p c).Φ (Fin.last (pin pcs a p).N) ⊢ _
    rw [hΦ c (Fin.last _), ownSems0_none]; unfold ΦA
    iintro ⟨Hr, Hp⟩
    isplitl [Hp]; · iexact Hp
    isplitr; · iempintro
    iexact Hr
  hexit c := by
    show iprop(((pdats p c).toRRel (fg p) (Rl p c)).arraysAt (pin pcs a p).N ∗ (pdats p c).owesAt () (Fin.last (pin pcs a p).N) ∗ _ ∗ _) ⊢ _
    have hinj : Function.Injective (arrRef (pin pcs a p).spec) := kit.win.arr_inj
    rw [StableHlo.held_sub_split (c.tc : Thread nD τ) (arrRefs_sub_ucRefs (pcs p).spec harr) (afterRegion (pdats p c) (W c)),
      StableHlo.held_congr (c.tc : Thread nD τ) (afterRegion_off (pdats p c) (W c) (ucRefs τ sig)),
      ← arrays_held pcs a pdats p kit c (hshare c) ((pdats p c).arrAt · (pin pcs a p).N) (afterRegion (pdats p c) (W c))
        (fun w => (afterRegion_arr (pdats p c) (W c) hinj w).symm)]
    iintro ⟨Ha, HO, Hp, Hr⟩
    ihave Ha := ((pdats p c).toRRel_arraysAt (hnamed c) (pin pcs a p).N) $$ Ha
    imodintro
    isplitl [Ha Hr]
    · isplitl [Ha]; · iexact Ha
      iexact Hr
    isplitl [Hp]; · iexact Hp
    unfold Dat.owesAt owesWithin
    rw [howed c (Fin.last _)]
    icases HO with ⟨%Wd, -, HO⟩; iexists Wd; iexact HO

end Region

end Idealize.ShloMosaic.Pipeline

end
-- ==== Proof.Run.lean ====
module

public import proofs.«01_k».proof.Proof.FwdData
public import proofs.«01_k».proof.Proof.DqFold
public import proofs.«01_k».proof.Proof.RegionRel
public import proofs.«01_k».proof.Proof.Gen.KernelIdeal.Regions

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RDat HostSeg)
open Cert.KernelIdeal Cert.KernelIdeal.Gen

variable {F : FTy → Type} [FloatOps F]

local notation "𝕄" => MT nD τ sig Unit (Elt F) ℕ (UR sig nD τ) ℕ

/-! # The whole program's run -/

variable (m : (ℓ : Loc nD τ sig) → Buf (Elt F) ℓ) (ρ : Dev nD → PrngReg)

/-! ## The buffers between the items -/

/-- After the forward call; -/
def W8 (c : Dev nD) : Valuation τ sig (Elt F) := Pipeline.afterRegion (dat0 (V7 m) c) (V7 m c)
/-- at the backward call; -/
def W11 (c : Dev nD) : Valuation τ sig (Elt F) :=
  StableHlo.after hostOps1_2 (StableHlo.after hostOps1_1 (StableHlo.after hostOps1 (W8 m c)))
/-- after it; -/
def W12 (c : Dev nD) : Valuation τ sig (Elt F) := Pipeline.afterRegion (dat1 (W11 m) c) (W11 m c)
/-- at the end. -/
def W13 (c : Dev nD) : Valuation τ sig (Elt F) := StableHlo.after hostOps2 (W12 m c)

/-! ## The two calls' records -/

/-- The two calls' proof data. -/
def pdats : (p : Fin 2) → (c : Dev nD) → Dat τ (Elt F) Unit ℕ (UR sig nD τ) ℕ (cfgs p) c
  | ⟨0, _⟩ => fun c => dat0 (V7 m) c
  | ⟨1, _⟩ => fun c => dat1 (W11 m) c

/-- The windows whose contents are only partly known on the way. -/
def marks : (p : Fin 2) → Fin (cfgs p).W → Bool
  | ⟨0, _⟩ => fun _ => false
  | ⟨1, _⟩ => part1

/-- What is known of them. -/
def rels : (p : Fin 2) → (c : Dev nD) → (w : Fin (cfgs p).W) → Fin (cfgs p).N → (((cfgs p).win w).block.Idx → Elt F ((cfgs p).win w).elt) → Prop
  | ⟨0, _⟩ => fun _ _ _ _ => True
  | ⟨1, _⟩ => fun c => rel1 (W11 m) c

/-- No core owes another anything. -/
abbrev L : GSem nD τ sig → Finset Unit := fun _ => ∅
abbrev lv : GSem nD τ sig → Unit → ℕ := fun _ _ => 0

/-- What rides beside the buffers. -/
abbrev E3 : Fin 3 → Dev nD → sProp 𝕄 := fun _ c => Pipeline.beside c

/-- The forward call's obligation in the form both calls' records take. -/
theorem body0_rel (c : Dev nD) :
    Pipeline.BodyObligationRel (dat0 (V7 (F := F) m) c) (defs₀ (F := F)) Variants.none () Set.univ (fun _ => false) (fun _ _ _ => True) :=
  have h := (body0 (V7 m) c).loose
  fun t => h t

theorem arr0_unscoped : ∀ w : Fin 5, (Pipeline.arrRef spec0 w).isScoped = false := by decide
theorem arr1_unscoped : ∀ w : Fin 9, (Pipeline.arrRef spec1 w).isScoped = false := by decide

/-- The forward call. -/
def reg0 : RDat.RegionSeg (pcfgs (F := F)) adm (Pipeline.relDats (pcfgs (F := F)) adm (pdats m) marks (rels m)) () defs₀ Variants.none L lv 0 :=
  Pipeline.regionRel (pcfgs (F := F)) adm (pdats m) defs₀ Variants.none L lv 0 marks (rels m) launch0.toP rfl
    arr0_unscoped (fun c => body0_rel m c) (fun _ _ h => absurd h Bool.false_ne_true) (fun _ _ => rfl) (fun _ => rfl)
    (fun c => (dat0 (V7 m) c).share_full fun _ => rfl) (fun _ _ => rfl) (V7 m) (fun c w => dat0_A (V7 m) c w)

/-- The backward call. -/
def reg1 : RDat.RegionSeg (pcfgs (F := F)) adm (Pipeline.relDats (pcfgs (F := F)) adm (pdats m) marks (rels m)) () defs₀ Variants.none L lv 1 :=
  Pipeline.regionRel (pcfgs (F := F)) adm (pdats m) defs₀ Variants.none L lv 1 marks (rels m) launch1.toP rfl
    arr1_unscoped (fun c => body1 (W11 m) c) (fun c w h u hu X hX => rel1_named (W11 m) c w h u hu X hX) (fun _ _ => rfl) (fun _ => rfl)
    (fun c => (dat1 (W11 m) c).share_full fun _ => rfl) (fun _ _ => rfl) (W11 m) (fun c w => dat1_A (W11 m) c w)

/-- A host stretch over the unscoped buffers at `V`. -/
def hostAt (ops : List (HloOp τ sig (Elt F))) (hs : ops.Forall fun op => op.bufs ⊆ StableHlo.tcRefs τ sig) (hf : ops.Forall fun op => op.fresh = ∅)
    (V : Dev nD → Valuation τ sig (Elt F)) : HostSeg (Ix := Unit) (Name := ℕ) (U := UR sig nD τ) (Lvl := ℕ) (pcfgs (F := F)) defs₀ Variants.none L lv :=
  HostSeg.ofOps _ _ _ _ _ (Pipeline.ucRefs τ sig) ops
    (fun op h => Pipeline.sub_ucRefs op ((List.forall_iff_forall_mem.mp hs) op h))
    (fun op h => (List.forall_iff_forall_mem.mp hf) op h) V (E3 0)

/-- @main's items. -/
abbrev segs (c : Dev nD) : List (RDat.Seg (pcfgs (F := F)) adm (Pipeline.relDats (pcfgs (F := F)) adm (pdats m) marks (rels m)) () defs₀ Variants.none L lv) :=
  [.host (hostAt hostOps0 hostOps0_sub hostOps0_fresh (V0 m)), .host (hostAt hostOps0_1 hostOps0_1_sub hostOps0_1_fresh (V1 m)),
   .host (hostAt hostOps0_2 hostOps0_2_sub hostOps0_2_fresh (V2 m)), .host (hostAt hostOps0_3 hostOps0_3_sub hostOps0_3_fresh (V3 m)),
   .host (hostAt hostOps0_4 hostOps0_4_sub hostOps0_4_fresh (V4 m)), .host (hostAt hostOps0_5 hostOps0_5_sub hostOps0_5_fresh (V5 m)),
   .host (hostAt hostOps0_6 hostOps0_6_sub hostOps0_6_fresh (V6 m)), .region (reg0 m),
   .host (hostAt hostOps1 hostOps1_sub hostOps1_fresh (W8 m)),
   .host (hostAt hostOps1_1 hostOps1_1_sub hostOps1_1_fresh fun c => StableHlo.after hostOps1 (W8 m c)),
   .host (hostAt hostOps1_2 hostOps1_2_sub hostOps1_2_fresh fun c => StableHlo.after hostOps1_1 (StableHlo.after hostOps1 (W8 m c))),
   .region (reg1 m), .host (hostAt hostOps2 hostOps2_sub hostOps2_fresh (W12 m))]

set_option backward.isDefEq.respectTransparency.types false in
/-- From any memory with the counters at zero, the program ends, every buffer holds what `W13` names, and the counters are at zero. -/
theorem run_main : θ_run defs (onTc (τ := τ) (main (F := F))) ⟨m, fun _ => 0, ρ⟩ (fun r =>
    (∀ c : Dev nD, ∀ b ∈ Pipeline.ucRefs τ sig, r.2.mem ((c, b) : Loc nD τ sig) = W13 m c b) ∧ r.2.sem = fun _ => 0) := by
  refine RDat.θ_run_regions_kit_dev_sems (pcfgs (F := F)) adm (Pipeline.relDats (pcfgs (F := F)) adm (pdats m) marks (rels m)) () cellOf_inj
    (emb₁ (nD := nD) (τ := τ) (sig := sig) (Ix := Unit) (Val := Elt F) (Name := ℕ) (Lvl := ℕ)) defs₀ Variants.none L lv m ρ main (segs m)
    (fun c Q => by
      rewrite [main_chain c, RDat.Seg.run_eq_chain,
        show (segs m c).map RDat.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      dsimp (config := { failIfUnchanged := false }) only
      exact .rfl)
    (fun c => by simp only [segs, RDat.Seg.pipes_host, RDat.Seg.pipes_region, RDat.Seg.pipes_nil]; decide) 0 (fun _ _ => rfl)
    (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (V0 m c) ∗ Pipeline.beside c))
    (Tₙ := fun c => StableHlo.held (c : Thread nD τ) (Pipeline.ucRefs τ sig) (W13 m c))
    (hch := fun c => ⟨.rfl, .rfl, .rfl, .rfl, .rfl, .rfl, .rfl, .rfl, .rfl, .rfl, .rfl, .rfl, .rfl, sep_mono .rfl (by
      iintro ⟨-, H⟩; iexact H)⟩)
    (hinit := ?_) (QY := fun c s => ∀ b ∈ Pipeline.ucRefs τ sig, s.mem ((c, b) : Loc nD τ sig) = W13 m c b)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (W13 m c) s') $$ [Hh HSI]
    · isplitl [Hh] <;> iassumption
    icases Hr with ⟨%h, HSI⟩
    imodintro
    isplitr
    · ipureintro; exact h
    · iexact HSI

/-- An unscoped buffer is read off the end. -/
theorem mem_uc (r : Ref sig .tc) (h : r.isScoped = false) : Proc.devRef .tc r ∈ Pipeline.ucRefs τ sig := Pipeline.devRef_mem_ucRefs h

/-- A buffer that no item writes reaches the end as launched. -/
theorem W13_kept (c : Dev nD) (r : Ref sig .tc)
    (h : r ∉ hostOps0_W ∧ r ∉ hostOps0_1_W ∧ r ∉ hostOps0_2_W ∧ r ∉ hostOps0_3_W ∧ r ∉ hostOps0_4_W ∧ r ∉ hostOps0_5_W ∧ r ∉ hostOps0_6_W)
    (h0 : ∀ w : Fin 5, Pipeline.arrRef spec0 w = r → (cfg0.win w).isOut = false)
    (h1 : r ∉ hostOps1_W ∧ r ∉ hostOps1_1_W ∧ r ∉ hostOps1_2_W)
    (h2 : ∀ w : Fin 9, Pipeline.arrRef spec1 w = r → (cfg1.win w).isOut = false) (h3 : r ∉ hostOps2_W) :
    W13 m c r = m ((c : Thread nD τ).loc r) := by
  obtain ⟨a0, a1, a2, a3, a4, a5, a6⟩ := h
  obtain ⟨b0, b1, b2⟩ := h1
  calc W13 m c r = W12 m c r := StableHlo.after_of_writes_sub hostOps2 _ hostOps2_writes h3
    _ = W11 m c r := Pipeline.afterRegion_keeps (dat1 (W11 m) c) (W11 m c) launch1.win.arr_inj (fun w => dat1_A (W11 m) c w) r h2
    _ = StableHlo.after hostOps1_1 (StableHlo.after hostOps1 (W8 m c)) r := StableHlo.after_of_writes_sub hostOps1_2 _ hostOps1_2_writes b2
    _ = StableHlo.after hostOps1 (W8 m c) r := StableHlo.after_of_writes_sub hostOps1_1 _ hostOps1_1_writes b1
    _ = W8 m c r := StableHlo.after_of_writes_sub hostOps1 _ hostOps1_writes b0
    _ = V7 m c r := Pipeline.afterRegion_keeps (dat0 (V7 m) c) (V7 m c) launch0.win.arr_inj (fun w => dat0_A (V7 m) c w) r h0
    _ = V6 m c r := V7_of m c r a6
    _ = V5 m c r := V6_of m c r a5
    _ = V4 m c r := V5_of m c r a4
    _ = V3 m c r := V4_of m c r a3
    _ = V2 m c r := V3_of m c r a2
    _ = V1 m c r := V2_of m c r a1
    _ = V0 m c r := V1_of m c r a0
    _ = m ((c : Thread nD τ).loc r) := rfl

theorem W13_arg0 (c : Dev nD) : W13 m c main_arg0 = m ((c : Thread nD τ).loc main_arg0) :=
  W13_kept m c main_arg0 (by decide) (by decide) (by decide) (by decide) (by decide)
theorem W13_arg1 (c : Dev nD) : W13 m c main_arg1 = m ((c : Thread nD τ).loc main_arg1) :=
  W13_kept m c main_arg1 (by decide) (by decide) (by decide) (by decide) (by decide)
theorem W13_arg2 (c : Dev nD) : W13 m c main_arg2 = m ((c : Thread nD τ).loc main_arg2) :=
  W13_kept m c main_arg2 (by decide) (by decide) (by decide) (by decide) (by decide)
theorem W13_arg3 (c : Dev nD) : W13 m c main_arg3 = m ((c : Thread nD τ).loc main_arg3) :=
  W13_kept m c main_arg3 (by decide) (by decide) (by decide) (by decide) (by decide)

/-- The run, with the results and the arguments read off the end. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v20) = W13 m c main_v20
      ∧ r.2.mem ((c.tc : Thread nD τ).loc main_v24) = W13 m c main_v24
      ∧ r.2.mem ((c.tc : Thread nD τ).loc main_v26) = W13 m c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨h.1 c _ (mem_uc main_v20 (by decide)), h.1 c _ (mem_uc main_v24 (by decide)),
    h.1 c _ (mem_uc main_v26 (by decide)),
    (h.1 c _ (mem_uc main_arg0 (by decide))).trans (W13_arg0 m c), (h.1 c _ (mem_uc main_arg1 (by decide))).trans (W13_arg1 m c),
    (h.1 c _ (mem_uc main_arg2 (by decide))).trans (W13_arg2 m c), (h.1 c _ (mem_uc main_arg3 (by decide))).trans (W13_arg3 m c)⟩, h.2⟩)
    (run_main m ρ)

end Cert.KernelIdeal.Hand

end
-- ==== Proof.HostValue.lean ====
module

public import proofs.«01_k».proof.Proof.BwdValue
public import proofs.«01_k».proof.Proof.Run
public import Idealize.ShloMosaic.Lib.Claim
public import Idealize.ShloMosaic.Lib.Pipeline.ValueKit
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-! # The arrays the two calls are given -/

section
variable {F : FTy → Type} [FloatOps F] (m : (ℓ : Loc nD τ sig) → Buf (Elt F) ℓ) (c : Dev nD)

/-- A query or key padded to 128 lanes. -/
def pad96 (x : FVec F S8192x8x96 .f32) : FVec F S8192x1024 .f32 :=
  shapeCast S8192x1024 (pad S8192x8x128 ![0, 0, 0] ![0, 0, 32] ![0, 0, 0] x (sitofp .f32 (constantI S_ 32 0#32))
    pads_S8192x8x96_S8192x8x128_000_000_0320 h_S_) shapeCasts_S8192x8x128_S8192x1024

/-- A value padded to 128 lanes. -/
def pad64 (x : FVec F S8192x8x64 .f32) : FVec F S8192x1024 .f32 :=
  shapeCast S8192x1024 (pad S8192x8x128 ![0, 0, 0] ![0, 0, 64] ![0, 0, 0] x (sitofp .f32 (constantI S_ 32 0#32))
    pads_S8192x8x64_S8192x8x128_000_000_0640 h_S_) shapeCasts_S8192x8x128_S8192x1024

/-- The logarithm of two, as the program computes it. -/
def logTwo : FVec F S_ .f32 := Host.log (constant S_ .f32 0x40000000#32)

/-- A number spread over a padded array. -/
def spread (x : FVec F S_ .f32) : FVec F S8192x1024 .f32 := broadcastInDim S8192x1024 ![] bcast_S_S8192x1024 x

theorem v0_eq : V7 m c main_v0 = logTwo := by
  rw [V7_of m c main_v0 (by decide), V6_of m c main_v0 (by decide), V5_of m c main_v0 (by decide), V4_of m c main_v0 (by decide),
    V3_of m c main_v0 (by decide), V2_of m c main_v0 (by decide)]
  unfold V1
  after_results_simp
  rfl

theorem v6_eq : V7 m c main_v6 = truncf .bf16 (mulf (pad96 (m ((c : Thread nD τ).loc main_arg0)))
    (spread (Host.divf (constant S_ .f32 0x3DD105EC#32) logTwo))) bitsLt_bf16_f32 := by
  rw [V7_of m c main_v6 (by decide), V6_of m c main_v6 (by decide), V5_of m c main_v6 (by decide), V4_of m c main_v6 (by decide)]
  unfold V3 V2 V1 V0
  after_results_simp
  rfl

theorem v9_eq : V7 m c main_v9 = truncf .bf16 (pad96 (m ((c : Thread nD τ).loc main_arg1))) bitsLt_bf16_f32 := by
  rw [V7_of m c main_v9 (by decide), V6_of m c main_v9 (by decide)]
  unfold V5 V4 V3 V2 V1 V0
  after_results_simp
  rfl

theorem v12_eq : V7 m c main_v12 = truncf .bf16 (pad64 (m ((c : Thread nD τ).loc main_arg2))) bitsLt_bf16_f32 := by
  unfold V7 V6 V5 V4 V3 V2 V1 V0
  after_results_simp
  rfl

end

/-! ## Read at an index -/

/-- Lane `l` of head `h`. -/
def lane (h : Fin 8) (l : Fin 128) : Fin 1024 := ⟨128 * h.val + l.val, by have := h.isLt; have := l.isLt; omega⟩

theorem cast2_at (X : FVec Ideal S8192x8x128 .f32) (i : Fin 8192) (h : Fin 8) (l : Fin 128) :
    shapeCast S8192x1024 X shapeCasts_S8192x8x128_S8192x1024 (ix2 i (lane h l)) = X (ix3 i h l) := by
  unfold lane
  pointwise

theorem zero_word : FloatOps.sitofp (F := Ideal) .f32 0#32 = (0 : EReal) := by
  show (((0#32 : BitVec 32).toInt : ℝ) : EReal) = 0
  simp

theorem pad96_at (x : FVec Ideal S8192x8x96 .f32) (i : Fin 8192) (h : Fin 8) (l : Fin 128) :
    pad96 x (ix2 i (lane h l)) = if hl : l.val < 96 then x (ix3 i h ⟨l.val, hl⟩) else (0 : EReal) := by
  unfold pad96
  rw [cast2_at]
  pointwise
  rw [zero_word]

theorem pad64_at (x : FVec Ideal S8192x8x64 .f32) (i : Fin 8192) (h : Fin 8) (l : Fin 128) :
    pad64 x (ix2 i (lane h l)) = if hl : l.val < 64 then x (ix3 i h ⟨l.val, hl⟩) else (0 : EReal) := by
  unfold pad64
  rw [cast2_at]
  pointwise
  rw [zero_word]

theorem spread_at (x : FVec Ideal S_ .f32) (i : S8192x1024.Idx) : spread x i = x ix0 := by
  unfold spread
  pointwise

theorem logTwo_at (i : S_.Idx) : logTwo (F := Ideal) i = ((Real.log 2 : ℝ) : EReal) := by
  show Ideal.log (Ideal.ofBits .f32 0x40000000#32) = _
  rw [ofBits_two, coe_log 2 two_pos]

/-- The scale of the scores: the constant nearest to the reciprocal of the square root of 96. -/
def scaleR : ℝ := 13698540 / 134217728

theorem ofBits_scale : Ideal.ofBits .f32 0x3DD105EC#32 = ((scaleR : ℝ) : EReal) := by
  unfold scaleR
  simp [Ideal.ofBits, Ideal.ieee, -EReal.coe_mul]; norm_num

/-- Lanes from `n` on hold zero. -/
def padR {n : Nat} (x : Fin 8192 → Fin 8 → Fin n → ℝ) (i : Fin 8192) (h : Fin 8) (l : Fin 128) : ℝ :=
  if hl : l.val < n then x i h ⟨l.val, hl⟩ else 0

theorem pad96_coe {x : FVec Ideal S8192x8x96 .f32} {xr : Fin 8192 → Fin 8 → Fin 96 → ℝ} (hx : ∀ i h d, x (ix3 i h d) = ((xr i h d : ℝ) : EReal))
    (i : Fin 8192) (h : Fin 8) (l : Fin 128) : pad96 x (ix2 i (lane h l)) = ((padR xr i h l : ℝ) : EReal) := by
  rw [pad96_at]
  unfold padR
  split
  · exact hx ..
  · rfl

theorem pad64_coe {x : FVec Ideal S8192x8x64 .f32} {xr : Fin 8192 → Fin 8 → Fin 64 → ℝ} (hx : ∀ i h d, x (ix3 i h d) = ((xr i h d : ℝ) : EReal))
    (i : Fin 8192) (h : Fin 8) (l : Fin 128) : pad64 x (ix2 i (lane h l)) = ((padR xr i h l : ℝ) : EReal) := by
  rw [pad64_at]
  unfold padR
  split
  · exact hx ..
  · rfl

/-- The scaled queries. -/
theorem scaled_coe {x : FVec Ideal S8192x8x96 .f32} {xr : Fin 8192 → Fin 8 → Fin 96 → ℝ} (hx : ∀ i h d, x (ix3 i h d) = ((xr i h d : ℝ) : EReal))
    (i : Fin 8192) (h : Fin 8) (l : Fin 128) :
    truncf .bf16 (mulf (pad96 x) (spread (Host.divf (constant S_ .f32 0x3DD105EC#32) logTwo))) bitsLt_bf16_f32 (ix2 i (lane h l))
      = ((padR xr i h l * (scaleR / Real.log 2) : ℝ) : EReal) := by
  show pad96 x (ix2 i (lane h l)) * spread (Host.divf (constant S_ .f32 0x3DD105EC#32) logTwo) (ix2 i (lane h l)) = _
  rw [pad96_coe hx, spread_at, EReal.coe_mul]
  refine congrArg (fun z : EReal => ((padR xr i h l : ℝ) : EReal) * z) ?_
  show Ideal.div (Ideal.ofBits .f32 0x3DD105EC#32) (logTwo (F := Ideal) ix0) = _
  rw [ofBits_scale, logTwo_at, coe_div _ _ (Real.log_pos one_lt_two).ne']

end Cert.KernelIdeal.Hand
-- ==== Proof.RefValue.lean ====
module

public import proofs.«01_k».proof.Proof.Gen.ReferenceIdeal.Read
public import proofs.«01_k».proof.Proof.HostValue
public import proofs.«01_k».proof.Proof.BwdValue

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen Cert.ReferenceIdeal.Read
open Cert.KernelIdeal.Hand (scaleR ofBits_scale ofBits_neg_inf coe_sum coe_fold_max coe_div)

/-! # The reference's gradients at real arguments

`M` is any real shift of the rows' scores: the reference takes each row's maximum. -/

section
variable (q k : Fin 8192 → Fin 8 → Fin 96 → ℝ) (v y : Fin 8192 → Fin 8 → Fin 64 → ℝ) (M : Fin 8 → Fin 8192 → ℝ)

/-- The score of query `i` and key `j`. -/
def scR (h : Fin 8) (i j : Fin 8192) : ℝ := (∑ d, q i h d * k j h d) * scaleR

/-- Its exponential, shifted. -/
def exR (h : Fin 8) (i j : Fin 8192) : ℝ := Real.exp (scR q k h i j - M h i)

/-- A row's sum of exponentials. -/
def rowR (h : Fin 8) (i : Fin 8192) : ℝ := ∑ j, exR q k M h i j

/-- The gradient of the attention weight of query `i` and key `j`. -/
def dpR (h : Fin 8) (i j : Fin 8192) : ℝ := ∑ e, y i h e * v j h e

/-- The gradient of the score, as the derivative of the quotient gives it. -/
def gsR (h : Fin 8) (i j : Fin 8192) : ℝ :=
  (dpR v y h i j / rowR q k M h i
    + -∑ j', dpR v y h i j' * (1 / (rowR q k M h i * rowR q k M h i)) * exR q k M h i j') * exR q k M h i j * scaleR

theorem rowR_pos (h : Fin 8) (i : Fin 8192) : 0 < rowR q k M h i :=
  Finset.sum_pos (fun _ _ => Real.exp_pos _) ⟨0, Finset.mem_univ _⟩
end

section
variable {x0 x1 : (⟨S8192x8x96, .f32⟩ : BufTy).Contents (Elt Ideal)} {x2 x3 : (⟨S8192x8x64, .f32⟩ : BufTy).Contents (Elt Ideal)}
  {q k : Fin 8192 → Fin 8 → Fin 96 → ℝ} {v y : Fin 8192 → Fin 8 → Fin 64 → ℝ} {M : Fin 8 → Fin 8192 → ℝ}

theorem zero_first (z : Ideal .f32) : FloatOps.ofBits (F := Ideal) .f32 0x00000000#32 + z = z := by
  rw [show FloatOps.ofBits (F := Ideal) .f32 0x00000000#32 = (0 : EReal) from Ideal.ofBits_zero_f32]
  exact zero_add (z : EReal)

theorem score_at (hq : ∀ i h d, x0 (ix3 i h d) = ((q i h d : ℝ) : EReal)) (hk : ∀ i h d, x1 (ix3 i h d) = ((k i h d : ℝ) : EReal))
    (h : Fin 8) (i j : Fin 8192) : val_main_v2 x0 x1 (ix3 h i j) = ((scR q k h i j : ℝ) : EReal) := by
  rw [val_main_v2_apply, val_main_v0_apply, val_main_v1_apply, val_main_cst_apply]
  rw [show (fun d => x0 (lidx_main_v0 (ix3 h i j) d) * x1 (ridx_main_v0 (ix3 h i j) d))
      = fun d => ((q i h d * k j h d : ℝ) : EReal) from funext fun d => by
    rw [show lidx_main_v0 (ix3 h i j) d = ix3 i h d from by blk_ext, show ridx_main_v0 (ix3 h i j) d = ix3 j h d from by blk_ext,
      hq, hk, EReal.coe_mul]]
  rw [coe_sum, show FloatOps.ofBits (F := Ideal) .f32 0x3DD105EC#32 = ((scaleR : ℝ) : EReal) from ofBits_scale]
  exact (EReal.coe_mul _ _).symm

/-- A row's maximum is a real number. -/
theorem max_real (hq : ∀ i h d, x0 (ix3 i h d) = ((q i h d : ℝ) : EReal)) (hk : ∀ i h d, x1 (ix3 i h d) = ((k i h d : ℝ) : EReal))
    (h : Fin 8) (i : Fin 8192) : ∃ r : ℝ, val_main_v10 x0 x1 (ix2 h i) = (r : EReal) := by
  have hs : ∀ p : S8x8192x8192.Idx, val_main_v2 x0 x1 p = ((scR q k (p 0) (p 1) (p 2) : ℝ) : EReal) := fun p => by
    rw [show p = ix3 (p 0) (p 1) (p 2) from by blk_ext]; exact score_at hq hk _ _ _
  rw [val_main_v10_apply, val_main_v9_apply, val_main_cst_2_apply]
  unfold val_main_v3
  rw [Host.reduce_eq_fold_single (FloatOps.maximumf (F := Ideal) (φ := .f32)) _ _ _ (by decide : S8x8192x8192.Reduces [2] S8x8192),
    val_main_cst_0_apply]
  obtain ⟨r, hr⟩ := coe_fold_max (Finset.univ : Finset (Fin (S8x8192x8192.size 2))) ⟨⟨0, by decide⟩, Finset.mem_univ _⟩
    (fun l => (fun p : S8x8192x8192.Idx => scR q k (p 0) (p 1) (p 2))
      ((by decide : S8x8192x8192.Reduces [2] S8x8192).lift (ix2 h i) l))
  refine ⟨r, ?_⟩
  rw [show FloatOps.ofBits (F := Ideal) .f32 0xFF800000#32 = (⊥ : EReal) from ofBits_neg_inf,
    show val_main_v2 x0 x1 = fun p => ((scR q k (p 0) (p 1) (p 2) : ℝ) : EReal) from funext hs]
  exact (max_eq_right bot_le).trans hr

section
variable (hq : ∀ i h d, x0 (ix3 i h d) = ((q i h d : ℝ) : EReal)) (hk : ∀ i h d, x1 (ix3 i h d) = ((k i h d : ℝ) : EReal))
  (hv : ∀ i h e, x2 (ix3 i h e) = ((v i h e : ℝ) : EReal)) (hy : ∀ i h e, x3 (ix3 i h e) = ((y i h e : ℝ) : EReal))
  (hM : ∀ h i, val_main_v10 x0 x1 (ix2 h i) = ((M h i : ℝ) : EReal))
include hq hk hM

theorem exp_at (h : Fin 8) (i j : Fin 8192) : val_main_v23 x0 x1 (ix3 h i j) = ((exR q k M h i j : ℝ) : EReal) := by
  rw [val_main_v23_apply, val_main_v22_apply, score_at hq hk, val_main_v21_apply,
    show idx_main_v21 (ix3 h i j) = ix3 h i 0 from by blk_ext, val_main_v20_apply,
    show idx_main_v20 (ix3 h i 0) = ix2 h i from by blk_ext, hM]
  rfl

theorem row_at (h : Fin 8) (i : Fin 8192) : val_main_v24 x0 x1 (ix2 h i) = ((rowR q k M h i : ℝ) : EReal) := by
  rw [val_main_v24_apply, val_main_cst_8_apply]
  rw [show (fun j => val_main_v23 x0 x1 (idx_main_v24 (ix2 h i) j)) = fun j => ((exR q k M h i j : ℝ) : EReal) from funext fun j => by
    rw [show idx_main_v24 (ix2 h i) j = ix3 h i j from by blk_ext, exp_at hq hk hM]]
  rw [coe_sum]
  exact zero_first _

theorem row3_at (h : Fin 8) (i : Fin 8192) : val_main_v25 x0 x1 (ix3 h i 0) = ((rowR q k M h i : ℝ) : EReal) := by
  rw [val_main_v25_apply, show idx_main_v25 (ix3 h i 0) = ix2 h i from by blk_ext, row_at hq hk hM]

theorem prob_at (h : Fin 8) (i j : Fin 8192) :
    val_main_v27 x0 x1 (ix3 h i j) = ((exR q k M h i j / rowR q k M h i : ℝ) : EReal) := by
  rw [val_main_v27_apply, exp_at hq hk hM, val_main_v26_apply, show idx_main_v26 (ix3 h i j) = ix3 h i 0 from by blk_ext,
    row3_at hq hk hM]
  exact coe_div _ _ (rowR_pos q k M h i).ne'

theorem inv_sq_at (h : Fin 8) (i : Fin 8192) :
    val_main_v30 x0 x1 (ix3 h i 0) = ((1 / (rowR q k M h i * rowR q k M h i) : ℝ) : EReal) := by
  have hp := (rowR_pos q k M h i).ne'
  rw [val_main_v30_apply, val_main_v29_apply, val_main_cst_9_apply, val_main_v28_apply, row3_at hq hk hM]
  rw [show FloatOps.ofBits (F := Ideal) .f32 0x3F800000#32 = ((1 : ℝ) : EReal) from Ideal.ofBits_one_f32,
    show FloatOps.mulf (F := Ideal) (φ := .f32) ((rowR q k M h i : ℝ) : EReal) ((rowR q k M h i : ℝ) : EReal)
      = ((rowR q k M h i * rowR q k M h i : ℝ) : EReal) from (EReal.coe_mul _ _).symm]
  exact coe_div _ _ (mul_ne_zero hp hp)

omit hq hk hM in
theorem dp_at (hv : ∀ i h e, x2 (ix3 i h e) = ((v i h e : ℝ) : EReal)) (hy : ∀ i h e, x3 (ix3 i h e) = ((y i h e : ℝ) : EReal))
    (h : Fin 8) (i j : Fin 8192) : val_main_v34 x2 x3 (ix3 h i j) = ((dpR v y h i j : ℝ) : EReal) := by
  rw [val_main_v34_apply]
  rw [show (fun e => val_main_v33 x3 (lidx_main_v34 (ix3 h i j) e) * x2 (ridx_main_v34 (ix3 h i j) e))
      = fun e => ((y i h e * v j h e : ℝ) : EReal) from funext fun e => by
    rw [val_main_v33_apply, show idx_main_v33 (lidx_main_v34 (ix3 h i j) e) = ix3 i h e from by blk_ext,
      show ridx_main_v34 (ix3 h i j) e = ix3 j h e from by blk_ext, hy, hv, EReal.coe_mul]]
  rw [coe_sum]
  rfl

include hv hy

theorem neg_sum_at (h : Fin 8) (i : Fin 8192) : val_main_v45 x0 x1 x2 x3 (ix2 h i)
    = ((-∑ j', dpR v y h i j' * (1 / (rowR q k M h i * rowR q k M h i)) * exR q k M h i j' : ℝ) : EReal) := by
  rw [val_main_v45_apply, val_main_cst_11_apply, zero_first, Fin.sum_univ_one, val_main_v42_apply, val_main_v41_apply,
    show idx_main_v41 (idx_main_v45 (ix2 h i) 0) = ix2 h i from by blk_ext, val_main_v40_apply, val_main_cst_10_apply, zero_first]
  rw [show (fun j => val_main_v39 x0 x1 x2 x3 (idx_main_v40 (ix2 h i) j))
      = fun j => ((dpR v y h i j * (1 / (rowR q k M h i * rowR q k M h i)) * exR q k M h i j : ℝ) : EReal) from funext fun j => by
    rw [show idx_main_v40 (ix2 h i) j = ix3 h i j from by blk_ext, val_main_v39_apply, val_main_v38_apply, dp_at hv hy, exp_at hq hk hM,
      val_main_v37_apply, show idx_main_v37 (ix3 h i j) = ix3 h i 0 from by blk_ext, inv_sq_at hq hk hM]
    rw [EReal.coe_mul, EReal.coe_mul]
    rfl]
  rw [coe_sum]
  exact (EReal.coe_neg _).symm

theorem gs_at (h : Fin 8) (i j : Fin 8192) : val_main_v50 x0 x1 x2 x3 (ix3 h i j) = ((gsR q k v y M h i j : ℝ) : EReal) := by
  rw [val_main_v50_apply, val_main_v49_apply, val_main_cst_12_apply, val_main_v48_apply, exp_at hq hk hM, val_main_v47_apply,
    val_main_v46_apply, show idx_main_v46 (ix3 h i j) = ix2 h i from by blk_ext, neg_sum_at hq hk hv hy hM, val_main_v44_apply,
    dp_at hv hy, val_main_v43_apply, show idx_main_v43 (ix3 h i j) = ix3 h i 0 from by blk_ext, row3_at hq hk hM]
  rw [show FloatOps.ofBits (F := Ideal) .f32 0x3DD105EC#32 = ((scaleR : ℝ) : EReal) from ofBits_scale,
    show FloatOps.hostDivf (F := Ideal) (φ := .f32) ((dpR v y h i j : ℝ) : EReal) ((rowR q k M h i : ℝ) : EReal)
      = ((dpR v y h i j / rowR q k M h i : ℝ) : EReal) from coe_div _ _ (rowR_pos q k M h i).ne']
  unfold gsR
  rw [EReal.coe_mul, EReal.coe_mul, EReal.coe_add]
  rfl

/-- The reference's gradient of the queries. -/
theorem dq_ref (i : Fin 8192) (h : Fin 8) (d : Fin 96) :
    val_main_v54 x0 x1 x2 x3 (ix3 i h d) = ((∑ j, gsR q k v y M h i j * k j h d : ℝ) : EReal) := by
  rw [val_main_v54_apply, show idx_main_v54 (ix3 i h d) = ix3 h i d from by blk_ext, val_main_v53_apply]
  rw [show (fun j => val_main_v50 x0 x1 x2 x3 (lidx_main_v53 (ix3 h i d) j) * x1 (ridx_main_v53 (ix3 h i d) j))
      = fun j => ((gsR q k v y M h i j * k j h d : ℝ) : EReal) from funext fun j => by
    rw [show lidx_main_v53 (ix3 h i d) j = ix3 h i j from by blk_ext, show ridx_main_v53 (ix3 h i d) j = ix3 j h d from by blk_ext,
      gs_at hq hk hv hy hM, hk, EReal.coe_mul]]
  exact coe_sum _ _

/-- The reference's gradient of the keys. -/
theorem dk_ref (j : Fin 8192) (h : Fin 8) (d : Fin 96) :
    val_main_v52 x0 x1 x2 x3 (ix3 j h d) = ((∑ i, gsR q k v y M h i j * q i h d : ℝ) : EReal) := by
  rw [val_main_v52_apply, show idx_main_v52 (ix3 j h d) = ix3 h j d from by blk_ext, val_main_v51_apply]
  rw [show (fun i => val_main_v50 x0 x1 x2 x3 (lidx_main_v51 (ix3 h j d) i) * x0 (ridx_main_v51 (ix3 h j d) i))
      = fun i => ((gsR q k v y M h i j * q i h d : ℝ) : EReal) from funext fun i => by
    rw [show lidx_main_v51 (ix3 h j d) i = ix3 h i j from by blk_ext, show ridx_main_v51 (ix3 h j d) i = ix3 i h d from by blk_ext,
      gs_at hq hk hv hy hM, hq, EReal.coe_mul]]
  exact coe_sum _ _

omit hv in
/-- The reference's gradient of the values. -/
theorem dv_ref (j : Fin 8192) (h : Fin 8) (e : Fin 64) :
    val_main_v36 x0 x1 x3 (ix3 j h e) = ((∑ i, y i h e * (exR q k M h i j / rowR q k M h i) : ℝ) : EReal) := by
  rw [val_main_v36_apply, show idx_main_v36 (ix3 j h e) = ix3 h e j from by blk_ext, val_main_v35_apply]
  rw [show (fun i => val_main_v33 x3 (lidx_main_v35 (ix3 h e j) i) * val_main_v27 x0 x1 (ridx_main_v35 (ix3 h e j) i))
      = fun i => ((y i h e * (exR q k M h i j / rowR q k M h i) : ℝ) : EReal) from funext fun i => by
    rw [val_main_v33_apply, show idx_main_v33 (lidx_main_v35 (ix3 h e j) i) = ix3 i h e from by blk_ext,
      show ridx_main_v35 (ix3 h e j) i = ix3 h i j from by blk_ext, prob_at hq hk hM, hy, EReal.coe_mul]]
  exact coe_sum _ _

end
end

end Cert.ReferenceIdeal.Hand

end

end
-- ==== Proof.FwdArrays.lean ====
module

public import proofs.«01_k».proof.Proof.HostValue

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-! # What the forward call leaves in its arrays -/

/-- The forward call's index maps. -/
theorem idx0 : ∀ t : Fin cfg0.N, win0_0.index t = ![t.val % 16, t.val / 16] ∧ win0_1.index t = ![0, t.val / 16] ∧ win0_2.index t = ![0, t.val / 16]
    ∧ win0_3.index t = ![t.val % 16, t.val / 16] ∧ win0_4.index t = ![t.val / 16, t.val % 16, 0] :=
  (by decide +kernel : ∀ t : Fin grid0.N, _)

/-- The head of a point; -/
def head0 (t : Fin cfg0.N) : Fin 8 := ⟨t.val / 16, by have : t.val < 128 := t.isLt; omega⟩
/-- its query block. -/
def tile0 (t : Fin cfg0.N) : Fin 16 := ⟨t.val % 16, by omega⟩
/-- Row `r` of query block `b`. -/
def row512 (b : Fin 16) (r : Fin 512) : Fin 8192 := ⟨512 * b.val + r.val, by have := b.isLt; have := r.isLt; omega⟩

section
variable (V : (c : Dev nD) → Valuation τ sig (Elt Ideal)) (c : Dev nD) (t : Fin cfg0.N)

theorem blk0_0_at (r : Fin 512) (l : Fin 128) :
    blk0 V c 0 t (ix2 r l) = V c (Proc.devRef .tc main_v6) (ix2 (row512 (tile0 t) r) (lane (head0 t) l)) := by
  unfold blk0 row512 lane tile0 head0
  blk_ext [(idx0 t).1]

theorem blk0_1_at (r : Fin 8192) (l : Fin 128) :
    blk0 V c 1 t (ix2 r l) = V c (Proc.devRef .tc main_v9) (ix2 r (lane (head0 t) l)) := by
  unfold blk0 lane head0
  blk_ext [(idx0 t).2.1]

theorem blk0_2_at (r : Fin 8192) (l : Fin 128) :
    blk0 V c 2 t (ix2 r l) = V c (Proc.devRef .tc main_v12) (ix2 r (lane (head0 t) l)) := by
  unfold blk0 lane head0
  blk_ext [(idx0 t).2.2.1]

end

/-! ## The closed forms -/

section
variable (Q K W : Fin 8192 → Fin 8 → Fin 128 → ℝ)

/-- The weight of key `j` for query `i`; -/
def wgt (h : Fin 8) (i j : Fin 8192) : ℝ := (2 : ℝ) ^ (∑ d, Q i h d * K j h d)
/-- the weights' sum; -/
def tot (h : Fin 8) (i : Fin 8192) : ℝ := ∑ j, wgt Q K h i j
/-- the attention's output. -/
def outR (i : Fin 8192) (h : Fin 8) (e : Fin 128) : ℝ := (∑ j, wgt Q K h i j * W j h e) / tot Q K h i
/-- the sum's logarithm to base two. -/
def lseR (h : Fin 8) (i : Fin 8192) : ℝ := Real.log (tot Q K h i) / Real.log 2

/-- Head and lane of a column. -/
def colHead (l : Fin 1024) : Fin 8 := ⟨l.val / 128, by have := l.isLt; omega⟩
def colLane (l : Fin 1024) : Fin 128 := ⟨l.val % 128, by omega⟩

/-- The output as an array; -/
def outArr : FVec Ideal S8192x1024 .f32 := fun y => ((outR Q K W (y 0) (colHead (y 1)) (colLane (y 1)) : ℝ) : EReal)
/-- the logarithms as one. -/
def lseArr : FVec Ideal S8x8192x1 .f32 := fun y => ((lseR Q K (y 0) (y 1) : ℝ) : EReal)

end

theorem covers0_3 : win0_3.Covers := by decide +kernel
theorem covers0_4 : (cfg0.win 4).Covers := by decide +kernel

theorem row_lane (y : S8192x1024.Idx) : y = ix2 (y 0) (lane (colHead (y 1)) (colLane (y 1))) := by
  unfold lane colHead colLane
  blk_ext

theorem emb0_3 (t : Fin cfg0.N) (y : S512x128.Idx) : (win0_3.blk t).view.emb y = ix2 (row512 (tile0 t) (y 0)) (lane (head0 t) (y 1)) := by
  unfold row512 lane tile0 head0
  blk_ext [(idx0 t).2.2.2.1]

theorem emb0_4 (t : Fin cfg0.N) (r : Fin 512) : (win0_4.blk t).view.emb (ix3 0 r 0) = ix3 (head0 t) (row512 (tile0 t) r) 0 := by
  unfold row512 tile0 head0
  blk_ext [(idx0 t).2.2.2.2]

theorem colHead_lane (h : Fin 8) (l : Fin 128) : colHead (lane h l) = h := Fin.ext (by unfold colHead lane; have := l.isLt; show (128 * h.val + l.val) / 128 = h.val; omega)
theorem colLane_lane (h : Fin 8) (l : Fin 128) : colLane (lane h l) = l := Fin.ext (by unfold colLane lane; have := l.isLt; show (128 * h.val + l.val) % 128 = l.val; omega)

theorem outArr_at (Q K W : Fin 8192 → Fin 8 → Fin 128 → ℝ) (i : Fin 8192) (h : Fin 8) (l : Fin 128) :
    outArr Q K W (ix2 i (lane h l)) = ((outR Q K W i h l : ℝ) : EReal) := by
  show ((outR Q K W i (colHead (lane h l)) (colLane (lane h l)) : ℝ) : EReal) = _
  rw [colHead_lane, colLane_lane]

section
variable {V : (c : Dev nD) → Valuation τ sig (Elt Ideal)} {c : Dev nD} {Q K W : Fin 8192 → Fin 8 → Fin 128 → ℝ}
  (h6 : ∀ i h l, V c (Proc.devRef .tc main_v6) (ix2 i (lane h l)) = ((Q i h l : ℝ) : EReal))
  (h9 : ∀ i h l, V c (Proc.devRef .tc main_v9) (ix2 i (lane h l)) = ((K i h l : ℝ) : EReal))
  (h12 : ∀ i h l, V c (Proc.devRef .tc main_v12) (ix2 i (lane h l)) = ((W i h l : ℝ) : EReal))
include h6 h9

omit h6 h9 in
theorem pos_tot (h : Fin 8) (i : Fin 8192) : 0 < tot Q K h i := by
  unfold tot wgt
  exact Finset.sum_pos (fun _ _ => Real.rpow_pos_of_pos two_pos _) ⟨0, Finset.mem_univ _⟩

omit h6 h9 in
theorem placed0_4 (t : Fin cfg0.N) (f : FVec Ideal S1x512x1 .f32)
    (hf : ∀ r, f (ix3 0 r 0) = lseArr Q K (ix3 (head0 t) (row512 (tile0 t) r) 0)) (y : ((cfg0.win 4).xblock (cfg0.grid.coords t)).Idx) :
    _root_.cast (congrArg (Elt Ideal) ((cfg0.win 4).blk t).view.elt_eq.symm) (f ((cfg0.win 4).xinj (cfg0.grid.coords t) y))
      = lseArr Q K (((cfg0.win 4).blk t).view.emb y) := by
  have hy : y = ix3 0 (y 1) 0 := by blk_ext
  rw [hy]
  refine Eq.trans ?_ ((hf (y 1)).trans (congrArg (lseArr Q K) (emb0_4 t (y 1))).symm)
  rfl

theorem arr0_4 : (dat0 V c).arrAt 4 cfg0.N = lseArr Q K := by
  apply Pipeline.Dat.arrAt_eq_of_covers (dat0 V c) 4 (lseArr Q K) covers0_4
  intro t hf y
  rw [after0_4]
  exact placed0_4 t (fLse (blk0 V c 0 t) (blk0 V c 1 t)) (fun r => fLse_coe (qr := fun r l => Q (row512 (tile0 t) r) (head0 t) l) (kr := fun j l => K j (head0 t) l)
    (fun r d => (blk0_0_at V c t r d).trans (h6 ..)) (fun j d => (blk0_1_at V c t j d).trans (h9 ..)) r) y

include h12

theorem arr0_3 : (dat0 V c).arrAt 3 cfg0.N = outArr Q K W := by
  refine Pipeline.Dat.arrAt_eq_of_covers (dat0 V c) 3 (outArr Q K W) covers0_3 fun t hf y => ?_
  have hy : y = ix2 (y 0) (y 1) := by blk_ext
  refine (congrFun (after0_3 V c t) y).trans ?_
  rw [hy]
  refine ((fOut_coe (qr := fun r l => Q (row512 (tile0 t) r) (head0 t) l) (kr := fun j l => K j (head0 t) l) (vr := fun j l => W j (head0 t) l)
    (fun r d => (blk0_0_at V c t r d).trans (h6 ..)) (fun j d => (blk0_1_at V c t j d).trans (h9 ..))
    (fun j d => (blk0_2_at V c t j d).trans (h12 ..)) (y 0) (y 1)).trans ?_)
  refine (outArr_at Q K W _ _ _).symm.trans ?_
  exact (congrArg (outArr Q K W) (emb0_3 t (ix2 (y 0) (y 1)))).symm

end

end Cert.KernelIdeal.Hand
-- ==== Proof.BwdArrays.lean ====
module

public import proofs.«01_k».proof.Proof.FwdArrays

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-! # What the backward call leaves in its arrays -/

/-- The backward call's index maps. -/
theorem idx1 : ∀ t : Fin cfg1.N, win1_0.index t = ![t.val % 16, t.val / 32] ∧ win1_1.index t = ![t.val / 16 % 2, t.val / 32]
    ∧ win1_2.index t = ![t.val / 16 % 2, t.val / 32] ∧ win1_3.index t = ![t.val % 16, t.val / 32] ∧ win1_4.index t = ![t.val / 32, t.val % 16, 0]
    ∧ win1_5.index t = ![t.val % 16, t.val / 32] ∧ win1_6.index t = ![0, t.val / 32] ∧ win1_7.index t = ![t.val / 16 % 2, t.val / 32]
    ∧ win1_8.index t = ![t.val / 16 % 2, t.val / 32] :=
  (by decide +kernel : ∀ t : Fin grid1.N, _)

/-- The head of a point; -/
def head1 (t : Fin cfg1.N) : Fin 8 := ⟨t.val / 32, by have : t.val < 256 := t.isLt; omega⟩
/-- its block of keys; -/
def keys1 (t : Fin cfg1.N) : Fin 2 := ⟨t.val / 16 % 2, by omega⟩
/-- its query block. -/
def tile1 (t : Fin cfg1.N) : Fin 16 := ⟨t.val % 16, by omega⟩
/-- Row `j` of key block `b`. -/
def row4096 (b : Fin 2) (j : Fin 4096) : Fin 8192 := ⟨4096 * b.val + j.val, by have := b.isLt; have := j.isLt; omega⟩

section
variable (V : (c : Dev nD) → Valuation τ sig (Elt Ideal)) (c : Dev nD) (t : Fin cfg1.N)

theorem blk1_0_at (r : Fin 512) (l : Fin 128) :
    blk1 V c 0 t (ix2 r l) = V c (Proc.devRef .tc main_v6) (ix2 (row512 (tile1 t) r) (lane (head1 t) l)) := by
  unfold blk1 row512 lane tile1 head1
  blk_ext [(idx1 t).1]

theorem blk1_1_at (r : Fin 4096) (l : Fin 128) :
    blk1 V c 1 t (ix2 r l) = V c (Proc.devRef .tc main_v9) (ix2 (row4096 (keys1 t) r) (lane (head1 t) l)) := by
  unfold blk1 row4096 lane keys1 head1
  blk_ext [(idx1 t).2.1]

theorem blk1_2_at (r : Fin 4096) (l : Fin 128) :
    blk1 V c 2 t (ix2 r l) = V c (Proc.devRef .tc main_v12) (ix2 (row4096 (keys1 t) r) (lane (head1 t) l)) := by
  unfold blk1 row4096 lane keys1 head1
  blk_ext [(idx1 t).2.2.1]

theorem blk1_3_at (r : Fin 512) (l : Fin 128) :
    blk1 V c 3 t (ix2 r l) = V c (Proc.devRef .tc main_v13_0) (ix2 (row512 (tile1 t) r) (lane (head1 t) l)) := by
  unfold blk1 row512 lane tile1 head1
  blk_ext [(idx1 t).2.2.2.1]

theorem blk1_4_at (r : Fin 512) :
    blk1 V c 4 t (ix3 0 r 0) = V c (Proc.devRef .tc main_v13_1) (ix3 (head1 t) (row512 (tile1 t) r) 0) := by
  unfold blk1 row512 tile1 head1
  blk_ext [(idx1 t).2.2.2.2.1]

theorem blk1_5_at (r : Fin 512) (l : Fin 128) :
    blk1 V c 5 t (ix2 r l) = V c (Proc.devRef .tc main_v15) (ix2 (row512 (tile1 t) r) (lane (head1 t) l)) := by
  unfold blk1 row512 lane tile1 head1
  blk_ext [(idx1 t).2.2.2.2.2.1]

end

theorem covers1_6 : (cfg1.win 6).Covers := by decide +kernel
theorem covers1_7 : (cfg1.win 7).Covers := by decide +kernel
theorem covers1_8 : (cfg1.win 8).Covers := by decide +kernel

theorem emb1_6 (t : Fin cfg1.N) (y : S8192x128.Idx) : (win1_6.blk t).view.emb y = ix2 (y 0) (lane (head1 t) (y 1)) := by
  unfold lane head1
  blk_ext [(idx1 t).2.2.2.2.2.2.1]

theorem emb1_7 (t : Fin cfg1.N) (y : S4096x128.Idx) : (win1_7.blk t).view.emb y = ix2 (row4096 (keys1 t) (y 0)) (lane (head1 t) (y 1)) := by
  unfold row4096 lane keys1 head1
  blk_ext [(idx1 t).2.2.2.2.2.2.2.1]

theorem emb1_8 (t : Fin cfg1.N) (y : S4096x128.Idx) : (win1_8.blk t).view.emb y = ix2 (row4096 (keys1 t) (y 0)) (lane (head1 t) (y 1)) := by
  unfold row4096 lane keys1 head1
  blk_ext [(idx1 t).2.2.2.2.2.2.2.2]

/-! ## Sums by blocks -/

theorem sum_row512 (f : Fin 8192 → ℝ) : ∑ s : Fin 16, ∑ r : Fin 512, f (row512 s r) = ∑ i, f i := by
  rw [← Fintype.sum_prod_type']
  refine Fintype.sum_equiv (finProdFinEquiv (m := 16) (n := 512)) _ _ fun x => congrArg f (Fin.ext ?_)
  show 512 * x.1.val + x.2.val = x.2.val + 512 * x.1.val
  omega

theorem sum_row4096 (f : Fin 8192 → ℝ) : ∑ s : Fin 2, ∑ r : Fin 4096, f (row4096 s r) = ∑ i, f i := by
  rw [← Fintype.sum_prod_type']
  refine Fintype.sum_equiv (finProdFinEquiv (m := 2) (n := 4096)) _ _ fun x => congrArg f (Fin.ext ?_)
  show 4096 * x.1.val + x.2.val = x.2.val + 4096 * x.1.val
  omega

/-- A fold begun anew at each multiple of 16 is the sum of its steps since. -/
theorem fold_coe {N : ℕ} (f : (n : ℕ) → n < N → EReal) (T : ℕ → ℝ) (h0 : ∀ n hn, n % 16 = 0 → f n hn = ((T n : ℝ) : EReal))
    (h1 : ∀ n hn hn', ¬ (n + 1) % 16 = 0 → f (n + 1) hn' = f n hn + ((T (n + 1) : ℝ) : EReal)) :
    ∀ n hn, f n hn = ((∑ s ∈ Finset.range (n % 16 + 1), T (n - n % 16 + s) : ℝ) : EReal)
  | 0, hn => by rw [h0 0 hn rfl]; simp
  | n + 1, hn => by
    by_cases h : (n + 1) % 16 = 0
    · rw [h0 _ hn h, h]; simp
    · rw [h1 n (by omega) hn h, fold_coe f T h0 h1 n, ← EReal.coe_add, show (n + 1) % 16 = n % 16 + 1 by omega, Finset.sum_range_succ _ (n % 16 + 1),
        show n + 1 - (n % 16 + 1) = n - n % 16 by omega, show n - n % 16 + (n % 16 + 1) = n + 1 by omega]

/-- One point's share of a sum over the queries. -/
def tileSum (G : Fin 8 → Fin 8192 → Fin 8192 → ℝ) (j : Fin 4096) (n : ℕ) : ℝ :=
  if h : n < cfg1.N then ∑ r : Fin 512, G (head1 ⟨n, h⟩) (row512 (tile1 ⟨n, h⟩) r) (row4096 (keys1 ⟨n, h⟩) j) else 0

theorem tileSum_at (G : Fin 8 → Fin 8192 → Fin 8192 → ℝ) (j : Fin 4096) (t : Fin cfg1.N) :
    tileSum G j t.val = ∑ r : Fin 512, G (head1 t) (row512 (tile1 t) r) (row4096 (keys1 t) j) := dif_pos t.isLt

theorem tileSum_all (G : Fin 8 → Fin 8192 → Fin 8192 → ℝ) (j : Fin 4096) (t : Fin cfg1.N) (ht : t.val % 16 = 15) :
    ∑ s ∈ Finset.range (t.val % 16 + 1), tileSum G j (t.val - t.val % 16 + s) = ∑ i, G (head1 t) i (row4096 (keys1 t) j) := by
  rw [ht, Finset.sum_range, ← sum_row512 fun i => G (head1 t) i (row4096 (keys1 t) j)]
  refine Finset.sum_congr rfl fun s _ => ?_
  have hN : t.val < 256 := t.isLt
  have hs : s.val < 16 := s.isLt
  have hlt : t.val - 15 + s.val < cfg1.N := by show t.val - 15 + s.val < 256; omega
  refine (tileSum_at G j ⟨t.val - 15 + s.val, hlt⟩).trans ?_
  have e1 : head1 ⟨t.val - 15 + s.val, hlt⟩ = head1 t := Fin.ext (by show (t.val - 15 + s.val) / 32 = t.val / 32; omega)
  have e2 : keys1 ⟨t.val - 15 + s.val, hlt⟩ = keys1 t := Fin.ext (by show (t.val - 15 + s.val) / 16 % 2 = t.val / 16 % 2; omega)
  have e3 : tile1 ⟨t.val - 15 + s.val, hlt⟩ = s := Fin.ext (by show (t.val - 15 + s.val) % 16 = s.val; omega)
  rw [e1, e2, e3]

end Cert.KernelIdeal.Hand
-- ==== Proof.BwdSums.lean ====
module

public import proofs.«01_k».proof.Proof.BwdArrays
public import proofs.«01_k».proof.Proof.DqFold

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-! # The three gradients the backward call leaves -/

section
variable (Q K W O D : Fin 8192 → Fin 8 → Fin 128 → ℝ) (L : Fin 8 → Fin 8192 → ℝ)

/-- The probability of key `j` for query `i`; -/
def prR (h : Fin 8) (i j : Fin 8192) : ℝ := (2 : ℝ) ^ ((∑ d, Q i h d * K j h d) - L h i)
/-- the gradient of their score; -/
def dsR (h : Fin 8) (i j : Fin 8192) : ℝ := prR Q K L h i j * ((∑ e, D i h e * W j h e) - ∑ e, D i h e * O i h e)
/-- of the queries; -/
def dqR (i : Fin 8192) (h : Fin 8) (d : Fin 128) : ℝ := ∑ j, dsR Q K W O D L h i j * K j h d
/-- of the keys; -/
def dkR (j : Fin 8192) (h : Fin 8) (d : Fin 128) : ℝ := ∑ i, dsR Q K W O D L h i j * Q i h d
/-- of the values. -/
def dvR (j : Fin 8192) (h : Fin 8) (e : Fin 128) : ℝ := ∑ i, prR Q K L h i j * D i h e

/-- Row, head and lane as an array of padded rows. -/
def rowsArr (X : Fin 8192 → Fin 8 → Fin 128 → ℝ) : FVec Ideal S8192x1024 .f32 := fun y => ((X (y 0) (colHead (y 1)) (colLane (y 1)) : ℝ) : EReal)

theorem rowsArr_at (X : Fin 8192 → Fin 8 → Fin 128 → ℝ) (i : Fin 8192) (h : Fin 8) (l : Fin 128) :
    rowsArr X (ix2 i (lane h l)) = ((X i h l : ℝ) : EReal) := by
  show ((X i (colHead (lane h l)) (colLane (lane h l)) : ℝ) : EReal) = _
  rw [colHead_lane, colLane_lane]

end

theorem rowsOf_at (x : Vec Ideal S8192x128 .f32) (j : ℕ) (hj : j < 16) (i : Fin 8192) (r : Fin 512) (l : Fin 128) (h : i.val = 512 * j + r.val) :
    x (ix2 i l) = rowsOf x j hj (ix2 r l) := by
  refine congrArg x (funext fun a => Fin.ext ?_)
  fin_cases a
  · show i.val = 512 * j + 1 * r.val
    omega
  · show l.val = 0 + 1 * l.val
    omega

theorem k1_pay4_at (i : S4096x128.Idx) : k1_pay4 (F := Ideal) i = 0 := Ideal.ofBits_zero_f32
theorem k1_pay5_at (i : S4096x128.Idx) : k1_pay5 (F := Ideal) i = 0 := Ideal.ofBits_zero_f32

section
variable {V : (c : Dev nD) → Valuation τ sig (Elt Ideal)} {c : Dev nD} {Q K W O D : Fin 8192 → Fin 8 → Fin 128 → ℝ} {L : Fin 8 → Fin 8192 → ℝ}

/-- What the backward call is given, as real numbers. -/
structure Given (V : (c : Dev nD) → Valuation τ sig (Elt Ideal)) (c : Dev nD) (Q K W O D : Fin 8192 → Fin 8 → Fin 128 → ℝ)
    (L : Fin 8 → Fin 8192 → ℝ) : Prop where
  q : ∀ i h l, V c (Proc.devRef .tc main_v6) (ix2 i (lane h l)) = ((Q i h l : ℝ) : EReal)
  k : ∀ i h l, V c (Proc.devRef .tc main_v9) (ix2 i (lane h l)) = ((K i h l : ℝ) : EReal)
  v : ∀ i h l, V c (Proc.devRef .tc main_v12) (ix2 i (lane h l)) = ((W i h l : ℝ) : EReal)
  o : ∀ i h l, V c (Proc.devRef .tc main_v13_0) (ix2 i (lane h l)) = ((O i h l : ℝ) : EReal)
  lse : ∀ h i, V c (Proc.devRef .tc main_v13_1) (ix3 h i 0) = ((L h i : ℝ) : EReal)
  dy : ∀ i h l, V c (Proc.devRef .tc main_v15) (ix2 i (lane h l)) = ((D i h l : ℝ) : EReal)

theorem after1_6 (t : Fin cfg1.N) : (dat1 V c).after 6 t = dqAt V c (fun _ => Scalar.ofBits (F := Ideal) .f32 0#32) t.val t.isLt := by dsimp only [dat1]

variable (g : Given V c Q K W O D L)
include g

theorem ds_coe (t : Fin cfg1.N) (r : Fin 512) (j : Fin 4096) :
    bDs (blk1 V c 0 t) (blk1 V c 1 t) (blk1 V c 2 t) (blk1 V c 3 t) (blk1 V c 4 t) (blk1 V c 5 t) (ix2 r j)
      = ((dsR Q K W O D L (head1 t) (row512 (tile1 t) r) (row4096 (keys1 t) j) : ℝ) : EReal) :=
  bDs_coe (qr := fun r l => Q (row512 (tile1 t) r) (head1 t) l) (kr := fun j l => K (row4096 (keys1 t) j) (head1 t) l)
    (vr := fun j l => W (row4096 (keys1 t) j) (head1 t) l) (or := fun r l => O (row512 (tile1 t) r) (head1 t) l)
    (dr := fun r l => D (row512 (tile1 t) r) (head1 t) l) (lr := fun r => L (head1 t) (row512 (tile1 t) r))
    (fun r d => (blk1_0_at V c t r d).trans (g.q ..)) (fun j d => (blk1_1_at V c t j d).trans (g.k ..))
    (fun j d => (blk1_2_at V c t j d).trans (g.v ..)) (fun r d => (blk1_3_at V c t r d).trans (g.o ..))
    (fun r d => (blk1_5_at V c t r d).trans (g.dy ..)) (fun r => (blk1_4_at V c t r).trans (g.lse ..)) r j

theorem pr_coe (t : Fin cfg1.N) (r : Fin 512) (j : Fin 4096) :
    k1_pay9 (blk1 V c 0 t) (blk1 V c 1 t) (blk1 V c 4 t) (ix2 r j)
      = ((prR Q K L (head1 t) (row512 (tile1 t) r) (row4096 (keys1 t) j) : ℝ) : EReal) :=
  prob_coe (qr := fun r l => Q (row512 (tile1 t) r) (head1 t) l) (kr := fun j l => K (row4096 (keys1 t) j) (head1 t) l)
    (lr := fun r => L (head1 t) (row512 (tile1 t) r))
    (fun r d => (blk1_0_at V c t r d).trans (g.q ..)) (fun j d => (blk1_1_at V c t j d).trans (g.k ..))
    (fun r => (blk1_4_at V c t r).trans (g.lse ..)) r j

/-! ## Keys and values -/

theorem dkOne_coe (t : Fin cfg1.N) (a : Vec Ideal S4096x128 .f32) (j : Fin 4096) (d : Fin 128) :
    dkOne V c t a (ix2 j d) = a (ix2 j d) + ((tileSum (fun h i j => dsR Q K W O D L h i j * Q i h d) j t.val : ℝ) : EReal) := by
  unfold dkOne
  rw [bDk_at, tileSum_at, ← coe_sum]
  refine congrArg (fun z : EReal => (a (ix2 j d) : EReal) + z) (Finset.sum_congr rfl fun r _ => ?_)
  rw [ds_coe g, EReal.coe_mul, blk1_0_at, g.q]

theorem dvOne_coe (t : Fin cfg1.N) (a : Vec Ideal S4096x128 .f32) (j : Fin 4096) (e : Fin 128) :
    dvOne V c t a (ix2 j e) = a (ix2 j e) + ((tileSum (fun h i j => prR Q K L h i j * D i h e) j t.val : ℝ) : EReal) := by
  unfold dvOne
  rw [bDv_at, tileSum_at, ← coe_sum]
  refine congrArg (fun z : EReal => (a (ix2 j e) : EReal) + z) (Finset.sum_congr rfl fun r _ => ?_)
  rw [pr_coe g, EReal.coe_mul, blk1_5_at, g.dy]

theorem dkAt_coe (t : Fin cfg1.N) (ht : t.val % 16 = 15) (j : Fin 4096) (d : Fin 128) :
    dkAt V c t.val t.isLt (ix2 j d) = ((dkR Q K W O D L (row4096 (keys1 t) j) (head1 t) d : ℝ) : EReal) := by
  have h := fold_coe (fun n hn => (dkAt V c n hn (ix2 j d) : EReal)) (tileSum (fun h i j => dsR Q K W O D L h i j * Q i h d) j)
    (fun n hn h => by
      cases n with
      | zero => unfold dkAt; rw [dkOne_coe g, k1_pay4_at, zero_add]
      | succ n => unfold dkAt; rw [if_pos h, dkOne_coe g, k1_pay4_at, zero_add])
    (fun n hn hn' h => by conv_lhs => unfold dkAt
                          rw [if_neg h, dkOne_coe g]) t.val t.isLt
  rw [h, tileSum_all _ _ t ht]
  rfl

theorem dvAt_coe (t : Fin cfg1.N) (ht : t.val % 16 = 15) (j : Fin 4096) (e : Fin 128) :
    dvAt V c t.val t.isLt (ix2 j e) = ((dvR Q K D L (row4096 (keys1 t) j) (head1 t) e : ℝ) : EReal) := by
  have h := fold_coe (fun n hn => (dvAt V c n hn (ix2 j e) : EReal)) (tileSum (fun h i j => prR Q K L h i j * D i h e) j)
    (fun n hn h => by
      cases n with
      | zero => unfold dvAt; rw [dvOne_coe g, k1_pay5_at, zero_add]
      | succ n => unfold dvAt; rw [if_pos h, dvOne_coe g, k1_pay5_at, zero_add])
    (fun n hn hn' h => by conv_lhs => unfold dvAt
                          rw [if_neg h, dvOne_coe g]) t.val t.isLt
  rw [h, tileSum_all _ _ t ht]
  rfl

/-! ## Queries -/

theorem dqPart_coe (t : Fin cfg1.N) (r : Fin 512) (d : Fin 128) :
    (∑ j : Fin 4096, bDs (blk1 V c 0 t) (blk1 V c 1 t) (blk1 V c 2 t) (blk1 V c 3 t) (blk1 V c 4 t) (blk1 V c 5 t) (ix2 r j) * blk1 V c 1 t (ix2 j d) : EReal)
      = ((∑ j, dsR Q K W O D L (head1 t) (row512 (tile1 t) r) (row4096 (keys1 t) j) * K (row4096 (keys1 t) j) (head1 t) d : ℝ) : EReal) := by
  rw [← coe_sum]
  refine Finset.sum_congr rfl fun j _ => ?_
  rw [ds_coe g, EReal.coe_mul, blk1_1_at, g.k]

theorem dqAt_coe (t : Fin cfg1.N) (ht : t.val % 32 = 31) (x : Vec Ideal S8192x128 .f32) (i : Fin 8192) (d : Fin 128) :
    dqAt V c x t.val t.isLt (ix2 i d) = ((dqR Q K W O D L i (head1 t) d : ℝ) : EReal) := by
  have hN : t.val < 256 := t.isLt
  have hi : i.val < 8192 := i.isLt
  have hu : t.val - 31 + i.val / 512 < cfg1.N := by show t.val - 31 + i.val / 512 < 256; omega
  have hv : t.val - 15 + i.val / 512 < cfg1.N := by show t.val - 15 + i.val / 512 < 256; omega
  let u : Fin cfg1.N := ⟨t.val - 31 + i.val / 512, hu⟩
  let v : Fin cfg1.N := ⟨t.val - 15 + i.val / 512, hv⟩
  have hr : i.val % 512 < 512 := Nat.mod_lt _ (by decide)
  have e := dqAt_last V c x t ht u v (by show (t.val - 15 + i.val / 512) / 16 = t.val / 16; omega)
    (by show t.val - 31 + i.val / 512 + 16 = t.val - 15 + i.val / 512; omega)
  have hm : v.val % 16 = i.val / 512 := by show (t.val - 15 + i.val / 512) % 16 = i.val / 512; omega
  have e' : dqAt V c x t.val t.isLt (ix2 i d) = dqNext V c v (dqFirst V c u) (ix2 ⟨i.val % 512, hr⟩ d) := by
    rw [← e]
    exact rowsOf_at _ _ _ i ⟨i.val % 512, hr⟩ d (by show i.val = 512 * (v.val % 16) + i.val % 512; omega)
  have hu1 : head1 u = head1 t := Fin.ext (by show (t.val - 31 + i.val / 512) / 32 = t.val / 32; omega)
  have hv1 : head1 v = head1 t := Fin.ext (by show (t.val - 15 + i.val / 512) / 32 = t.val / 32; omega)
  have hu2 : keys1 u = 0 := Fin.ext (by show (t.val - 31 + i.val / 512) / 16 % 2 = 0; omega)
  have hv2 : keys1 v = 1 := Fin.ext (by show (t.val - 15 + i.val / 512) / 16 % 2 = 1; omega)
  have hu3 : row512 (tile1 u) ⟨i.val % 512, hr⟩ = i := Fin.ext (by show 512 * ((t.val - 31 + i.val / 512) % 16) + i.val % 512 = i.val; omega)
  have hv3 : row512 (tile1 v) ⟨i.val % 512, hr⟩ = i := Fin.ext (by show 512 * ((t.val - 15 + i.val / 512) % 16) + i.val % 512 = i.val; omega)
  rw [e']
  unfold dqNext dqFirst
  rw [bDqAdd_at, bDq_at, dqPart_coe g, dqPart_coe g, hu1, hv1, hu2, hv2, hu3, hv3, ← EReal.coe_add]
  unfold dqR
  rw [← sum_row4096, Fin.sum_univ_two]

/-! ## The arrays -/

omit g in
theorem placed1_6 (t : Fin cfg1.N) (X : Fin 8192 → Fin 8 → Fin 128 → ℝ) (f : FVec Ideal S8192x128 .f32)
    (hf : ∀ i l, f (ix2 i l) = ((X i (head1 t) l : ℝ) : EReal)) (y : ((cfg1.win 6).xblock (cfg1.grid.coords t)).Idx) :
    _root_.cast (congrArg (Elt Ideal) ((cfg1.win 6).blk t).view.elt_eq.symm) (f ((cfg1.win 6).xinj (cfg1.grid.coords t) y))
      = rowsArr X (((cfg1.win 6).blk t).view.emb y) := by
  have hy : y = ix2 (y 0) (y 1) := by blk_ext
  rw [hy]
  refine Eq.trans ?_ ((hf (y 0) (y 1)).trans ((rowsArr_at X _ _ _).symm.trans (congrArg (rowsArr X) (emb1_6 t (ix2 (y 0) (y 1)))).symm))
  rfl

omit g in
theorem placed1_7 (t : Fin cfg1.N) (X : Fin 8192 → Fin 8 → Fin 128 → ℝ) (f : FVec Ideal S4096x128 .f32)
    (hf : ∀ j l, f (ix2 j l) = ((X (row4096 (keys1 t) j) (head1 t) l : ℝ) : EReal)) (y : ((cfg1.win 7).xblock (cfg1.grid.coords t)).Idx) :
    _root_.cast (congrArg (Elt Ideal) ((cfg1.win 7).blk t).view.elt_eq.symm) (f ((cfg1.win 7).xinj (cfg1.grid.coords t) y))
      = rowsArr X (((cfg1.win 7).blk t).view.emb y) := by
  have hy : y = ix2 (y 0) (y 1) := by blk_ext
  rw [hy]
  refine Eq.trans ?_ ((hf (y 0) (y 1)).trans ((rowsArr_at X _ _ _).symm.trans (congrArg (rowsArr X) (emb1_7 t (ix2 (y 0) (y 1)))).symm))
  rfl

omit g in
theorem placed1_8 (t : Fin cfg1.N) (X : Fin 8192 → Fin 8 → Fin 128 → ℝ) (f : FVec Ideal S4096x128 .f32)
    (hf : ∀ j l, f (ix2 j l) = ((X (row4096 (keys1 t) j) (head1 t) l : ℝ) : EReal)) (y : ((cfg1.win 8).xblock (cfg1.grid.coords t)).Idx) :
    _root_.cast (congrArg (Elt Ideal) ((cfg1.win 8).blk t).view.elt_eq.symm) (f ((cfg1.win 8).xinj (cfg1.grid.coords t) y))
      = rowsArr X (((cfg1.win 8).blk t).view.emb y) := by
  have hy : y = ix2 (y 0) (y 1) := by blk_ext
  rw [hy]
  refine Eq.trans ?_ ((hf (y 0) (y 1)).trans ((rowsArr_at X _ _ _).symm.trans (congrArg (rowsArr X) (emb1_8 t (ix2 (y 0) (y 1)))).symm))
  rfl

theorem arr1_6 : (dat1 V c).arrAt 6 cfg1.N = rowsArr (dqR Q K W O D L) := by
  apply Pipeline.Dat.arrAt_eq_of_covers (dat1 V c) 6 (rowsArr (dqR Q K W O D L)) covers1_6
  intro t hf y
  rw [after1_6]
  exact placed1_6 t _ _ (fun i l => dqAt_coe g t ((flush1_6 t).mp hf) _ i l) y

theorem arr1_7 : (dat1 V c).arrAt 7 cfg1.N = rowsArr (dkR Q K W O D L) := by
  apply Pipeline.Dat.arrAt_eq_of_covers (dat1 V c) 7 (rowsArr (dkR Q K W O D L)) covers1_7
  intro t hf y
  rw [after1_7]
  exact placed1_7 t _ _ (fun j l => dkAt_coe g t ((flush1_7 t).mp hf) j l) y

theorem arr1_8 : (dat1 V c).arrAt 8 cfg1.N = rowsArr (dvR Q K D L) := by
  apply Pipeline.Dat.arrAt_eq_of_covers (dat1 V c) 8 (rowsArr (dvR Q K D L)) covers1_8
  intro t hf y
  rw [after1_8]
  exact placed1_8 t _ _ (fun j l => dvAt_coe g t ((flush1_8 t).mp hf) j l) y

end

end Cert.KernelIdeal.Hand
-- ==== Proof.KernelValue.lean ====
module

public import proofs.«01_k».proof.Proof.BwdSums
public import proofs.«01_k».proof.Proof.Run

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-! # The program's results at real arguments -/

section
variable {F : FTy → Type} [FloatOps F] (m : (ℓ : Loc nD τ sig) → Buf (Elt F) ℓ) (c : Dev nD)

/-! ## The buffers at the backward call -/

theorem W11_of (r : Ref sig .tc) (h0 : r ∉ hostOps1_W) (h1 : r ∉ hostOps1_1_W) (h2 : r ∉ hostOps1_2_W) :
    W11 m c (Proc.devRef .tc r) = W8 m c (Proc.devRef .tc r) := by
  unfold W11
  exact (StableHlo.after_of_writes_sub hostOps1_2 _ hostOps1_2_writes h2).trans
    ((StableHlo.after_of_writes_sub hostOps1_1 _ hostOps1_1_writes h1).trans (StableHlo.after_of_writes_sub hostOps1 _ hostOps1_writes h0))

theorem W8_in (w : Fin cfg0.W) (hw : (cfg0.win w).isOut = false) :
    W8 m c (Proc.devRef .tc (Pipeline.arrRef spec0 w)) = V7 m c (Proc.devRef .tc (Pipeline.arrRef spec0 w)) :=
  (Pipeline.afterRegion_arr (dat0 (V7 m) c) (V7 m c) launch0.win.arr_inj w).trans (((dat0 (V7 m) c).arrAt_in w hw _).trans (dat0_A (V7 m) c w))

theorem W8_out (w : Fin cfg0.W) : W8 m c (Proc.devRef .tc (Pipeline.arrRef spec0 w)) = (dat0 (V7 m) c).arrAt w cfg0.N :=
  Pipeline.afterRegion_arr (dat0 (V7 m) c) (V7 m c) launch0.win.arr_inj w

theorem W11_v6 : W11 m c (Proc.devRef .tc main_v6) = V7 m c (Proc.devRef .tc main_v6) :=
  (W11_of m c main_v6 (by decide) (by decide) (by decide)).trans (W8_in m c 0 rfl)
theorem W11_v9 : W11 m c (Proc.devRef .tc main_v9) = V7 m c (Proc.devRef .tc main_v9) :=
  (W11_of m c main_v9 (by decide) (by decide) (by decide)).trans (W8_in m c 1 rfl)
theorem W11_v12 : W11 m c (Proc.devRef .tc main_v12) = V7 m c (Proc.devRef .tc main_v12) :=
  (W11_of m c main_v12 (by decide) (by decide) (by decide)).trans (W8_in m c 2 rfl)
theorem W11_v13_0 : W11 m c (Proc.devRef .tc main_v13_0) = (dat0 (V7 m) c).arrAt 3 cfg0.N :=
  (W11_of m c main_v13_0 (by decide) (by decide) (by decide)).trans (W8_out m c 3)
theorem W11_v13_1 : W11 m c (Proc.devRef .tc main_v13_1) = (dat0 (V7 m) c).arrAt 4 cfg0.N :=
  (W11_of m c main_v13_1 (by decide) (by decide) (by decide)).trans (W8_out m c 4)

theorem W8_arg3 : W8 m c (Proc.devRef .tc main_arg3) = m ((c : Thread nD τ).loc main_arg3) := by
  unfold W8
  rw [Pipeline.afterRegion_of_not_arr _ _ (by decide), V7_of m c main_arg3 (by decide), V6_of m c main_arg3 (by decide), V5_of m c main_arg3 (by decide),
    V4_of m c main_arg3 (by decide), V3_of m c main_arg3 (by decide), V2_of m c main_arg3 (by decide), V1_of m c main_arg3 (by decide)]

theorem W11_v15 : W11 m c (Proc.devRef .tc main_v15) = pad64 (m ((c : Thread nD τ).loc main_arg3)) := by
  unfold W11
  after_results_simp
  rw [W8_arg3]
  rfl

/-! ## The buffers at the end -/

theorem W12_v0 : W12 m c (Proc.devRef .tc main_v0) = logTwo := by
  unfold W12
  rw [Pipeline.afterRegion_of_not_arr _ _ (by decide), W11_of m c main_v0 (by decide) (by decide) (by decide)]
  unfold W8
  rw [Pipeline.afterRegion_of_not_arr _ _ (by decide)]
  exact v0_eq m c

theorem W12_out (w : Fin cfg1.W) : W12 m c (Proc.devRef .tc (Pipeline.arrRef spec1 w)) = (dat1 (W11 m) c).arrAt w cfg1.N :=
  Pipeline.afterRegion_arr (dat1 (W11 m) c) (W11 m c) launch1.win.arr_inj w

/-- A padded array cut to the first 96 lanes; -/
def cut96 (x : FVec F S8192x1024 .f32) : FVec F S8192x8x96 .f32 :=
  extractStridedSlice S8192x8x96 ![0, 0, 0] (shapeCast S8192x8x128 x shapeCasts_S8192x1024_S8192x8x128) slices_S8192x8x128_S8192x8x96_0_0_0
/-- to the first 64. -/
def cut64 (x : FVec F S8192x1024 .f32) : FVec F S8192x8x64 .f32 :=
  extractStridedSlice S8192x8x64 ![0, 0, 0] (shapeCast S8192x8x128 x shapeCasts_S8192x1024_S8192x8x128) slices_S8192x8x128_S8192x8x64_0_0_0

theorem W13_v20 : W13 m c (Proc.devRef .tc main_v20)
    = cut96 (mulf ((dat1 (W11 m) c).arrAt 6 cfg1.N) (spread (constant S_ .f32 0x3DD105EC#32))) := by
  unfold W13
  after_results_simp
  rw [show W12 m c (Proc.devRef .tc main_v16_0) = _ from W12_out m c 6]
  rfl

theorem W13_v24 : W13 m c (Proc.devRef .tc main_v24) = cut96 (mulf ((dat1 (W11 m) c).arrAt 7 cfg1.N) (spread logTwo)) := by
  unfold W13
  after_results_simp
  rw [show W12 m c (Proc.devRef .tc main_v16_1) = _ from W12_out m c 7, W12_v0]
  rfl

theorem W13_v26 : W13 m c (Proc.devRef .tc main_v26) = cut64 ((dat1 (W11 m) c).arrAt 8 cfg1.N) := by
  unfold W13
  after_results_simp
  rw [show W12 m c (Proc.devRef .tc main_v16_2) = _ from W12_out m c 8]
  rfl

end

/-! ## At real arguments -/

theorem cast3_at (X : FVec Ideal S8192x1024 .f32) (i : Fin 8192) (h : Fin 8) (l : Fin 128) :
    shapeCast S8192x8x128 X shapeCasts_S8192x1024_S8192x8x128 (ix3 i h l) = X (ix2 i (lane h l)) := by
  unfold lane
  pointwise
  blk_ext

/-- Lane `d` of the first `n`. -/
def wide96 (d : Fin 96) : Fin 128 := ⟨d.val, by have := d.isLt; omega⟩
def wide64 (e : Fin 64) : Fin 128 := ⟨e.val, by have := e.isLt; omega⟩

theorem cut96_at (X : FVec Ideal S8192x1024 .f32) (i : Fin 8192) (h : Fin 8) (d : Fin 96) : cut96 X (ix3 i h d) = X (ix2 i (lane h (wide96 d))) := by
  unfold cut96
  refine Eq.trans ?_ (cast3_at X i h (wide96 d))
  generalize shapeCast S8192x8x128 X shapeCasts_S8192x1024_S8192x8x128 = Y
  unfold wide96
  pointwise

theorem cut64_at (X : FVec Ideal S8192x1024 .f32) (i : Fin 8192) (h : Fin 8) (d : Fin 64) : cut64 X (ix3 i h d) = X (ix2 i (lane h (wide64 d))) := by
  unfold cut64
  refine Eq.trans ?_ (cast3_at X i h (wide64 d))
  generalize shapeCast S8192x8x128 X shapeCasts_S8192x1024_S8192x8x128 = Y
  unfold wide64
  pointwise

section
variable {m : (ℓ : Loc nD τ sig) → Buf (Elt Ideal) ℓ} {c : Dev nD} {q k : Fin 8192 → Fin 8 → Fin 96 → ℝ} {v y : Fin 8192 → Fin 8 → Fin 64 → ℝ}

/-- The queries as the calls are given them. -/
def scaledR (q : Fin 8192 → Fin 8 → Fin 96 → ℝ) (i : Fin 8192) (h : Fin 8) (l : Fin 128) : ℝ := padR q i h l * (scaleR / Real.log 2)

variable (hq : ∀ i h d, m ((c : Thread nD τ).loc main_arg0) (ix3 i h d) = ((q i h d : ℝ) : EReal))
  (hk : ∀ i h d, m ((c : Thread nD τ).loc main_arg1) (ix3 i h d) = ((k i h d : ℝ) : EReal))
  (hv : ∀ i h d, m ((c : Thread nD τ).loc main_arg2) (ix3 i h d) = ((v i h d : ℝ) : EReal))
  (hy : ∀ i h d, m ((c : Thread nD τ).loc main_arg3) (ix3 i h d) = ((y i h d : ℝ) : EReal))
include hq hk hv hy

theorem given : Given (W11 m) c (scaledR q) (padR k) (padR v) (outR (scaledR q) (padR k) (padR v)) (padR y) (lseR (scaledR q) (padR k)) := by
  have h6 : ∀ i h l, V7 m c (Proc.devRef .tc main_v6) (ix2 i (lane h l)) = ((scaledR q i h l : ℝ) : EReal) := fun i h l =>
    (congrFun (v6_eq m c) (ix2 i (lane h l))).trans (scaled_coe hq i h l)
  have h9 : ∀ i h l, V7 m c (Proc.devRef .tc main_v9) (ix2 i (lane h l)) = ((padR k i h l : ℝ) : EReal) := fun i h l =>
    (congrFun (v9_eq m c) (ix2 i (lane h l))).trans (pad96_coe hk i h l)
  have h12 : ∀ i h l, V7 m c (Proc.devRef .tc main_v12) (ix2 i (lane h l)) = ((padR v i h l : ℝ) : EReal) := fun i h l =>
    (congrFun (v12_eq m c) (ix2 i (lane h l))).trans (pad64_coe hv i h l)
  exact {
    q := fun i h l => (congrFun (W11_v6 m c) _).trans (h6 i h l)
    k := fun i h l => (congrFun (W11_v9 m c) _).trans (h9 i h l)
    v := fun i h l => (congrFun (W11_v12 m c) _).trans (h12 i h l)
    o := fun i h l => (congrFun ((W11_v13_0 m c).trans (arr0_3 h6 h9 h12)) _).trans (outArr_at _ _ _ i h l)
    lse := fun h i => congrFun ((W11_v13_1 m c).trans (arr0_4 h6 h9)) (ix3 h i 0)
    dy := fun i h l => (congrFun (W11_v15 m c) _).trans (pad64_coe hy i h l) }

theorem dq_at (i : Fin 8192) (h : Fin 8) (d : Fin 96) : W13 m c (Proc.devRef .tc main_v20) (ix3 i h d)
    = ((dqR (scaledR q) (padR k) (padR v) (outR (scaledR q) (padR k) (padR v)) (padR y) (lseR (scaledR q) (padR k)) i h (wide96 d) * scaleR : ℝ) : EReal) := by
  rw [W13_v20, cut96_at, arr1_6 (given hq hk hv hy), mulf_at, spread_at, rowsArr_at, EReal.coe_mul, ← ofBits_scale]
  rfl

theorem dk_at (i : Fin 8192) (h : Fin 8) (d : Fin 96) : W13 m c (Proc.devRef .tc main_v24) (ix3 i h d)
    = ((dkR (scaledR q) (padR k) (padR v) (outR (scaledR q) (padR k) (padR v)) (padR y) (lseR (scaledR q) (padR k)) i h (wide96 d) * Real.log 2 : ℝ) : EReal) := by
  rw [W13_v24, cut96_at, arr1_7 (given hq hk hv hy), mulf_at, spread_at, rowsArr_at, EReal.coe_mul, logTwo_at]

theorem dv_at (i : Fin 8192) (h : Fin 8) (e : Fin 64) : W13 m c (Proc.devRef .tc main_v26) (ix3 i h e)
    = ((dvR (scaledR q) (padR k) (padR y) (lseR (scaledR q) (padR k)) i h (wide64 e) : ℝ) : EReal) := by
  rw [W13_v26, cut64_at, arr1_8 (given hq hk hv hy), rowsArr_at]

end

end Cert.KernelIdeal.Hand
-- ==== Proof.Agree.lean ====
module

public import proofs.«01_k».proof.Proof.RefValue
public import proofs.«01_k».proof.Proof.KernelValue

@[expose] public section

set_option maxRecDepth 16384

noncomputable section

namespace Cert.Proof

open Idealize.ShloMosaic
open Cert.KernelIdeal.Hand Cert.ReferenceIdeal.Hand

/-! # The two programs' formulas agree over the reals -/

theorem sum_wide96 (f : Fin 128 → ℝ) (hf : ∀ l : Fin 128, 96 ≤ l.val → f l = 0) : ∑ l, f l = ∑ d, f (wide96 d) := by
  refine (Fin.sum_univ_add (a := 96) (b := 32) f).trans ?_
  rw [Finset.sum_eq_zero (s := (Finset.univ : Finset (Fin 32))) fun l _ => hf _ (Nat.le_add_right 96 l.val), add_zero]
  rfl

theorem sum_wide64 (f : Fin 128 → ℝ) (hf : ∀ l : Fin 128, 64 ≤ l.val → f l = 0) : ∑ l, f l = ∑ e, f (wide64 e) := by
  refine (Fin.sum_univ_add (a := 64) (b := 64) f).trans ?_
  rw [show ∑ l : Fin 64, f (Fin.natAdd 64 l) = 0 from
    Finset.sum_eq_zero fun l _ => hf (Fin.natAdd 64 l) (Nat.le_add_right 64 l.val), add_zero]
  rfl

theorem padR_out {n : ℕ} (x : Fin 8192 → Fin 8 → Fin n → ℝ) (i : Fin 8192) (h : Fin 8) (l : Fin 128) (hl : n ≤ l.val) :
    padR x i h l = 0 := by
  unfold padR
  rw [dif_neg (by omega)]

theorem padR_wide96 (x : Fin 8192 → Fin 8 → Fin 96 → ℝ) (i : Fin 8192) (h : Fin 8) (d : Fin 96) :
    padR x i h (wide96 d) = x i h d := by
  unfold padR wide96
  rw [dif_pos d.isLt]

theorem padR_wide64 (x : Fin 8192 → Fin 8 → Fin 64 → ℝ) (i : Fin 8192) (h : Fin 8) (e : Fin 64) :
    padR x i h (wide64 e) = x i h e := by
  unfold padR wide64
  rw [dif_pos e.isLt]

theorem two_rpow_div_log (x : ℝ) : (2 : ℝ) ^ (x / Real.log 2) = Real.exp x := by
  have h2 : Real.log 2 ≠ 0 := (Real.log_pos one_lt_two).ne'
  rw [Real.rpow_def_of_pos two_pos]
  congr 1
  field_simp

section
variable (q k : Fin 8192 → Fin 8 → Fin 96 → ℝ) (v y : Fin 8192 → Fin 8 → Fin 64 → ℝ) (M : Fin 8 → Fin 8192 → ℝ)

theorem log_two_ne : Real.log 2 ≠ 0 := (Real.log_pos one_lt_two).ne'

theorem exponent_eq (h : Fin 8) (i j : Fin 8192) :
    ∑ l, scaledR q i h l * padR k j h l = scR q k h i j / Real.log 2 := by
  rw [sum_wide96 _ fun l hl => by rw [padR_out k j h l hl, mul_zero]]
  unfold scR
  rw [Finset.sum_mul, Finset.sum_div]
  refine Finset.sum_congr rfl fun d _ => ?_
  unfold scaledR
  rw [padR_wide96, padR_wide96]
  ring

theorem wgt_eq (h : Fin 8) (i j : Fin 8192) : wgt (scaledR q) (padR k) h i j = exR q k M h i j * Real.exp (M h i) := by
  unfold wgt exR
  rw [exponent_eq, two_rpow_div_log, ← Real.exp_add, sub_add_cancel]

theorem tot_eq (h : Fin 8) (i : Fin 8192) : tot (scaledR q) (padR k) h i = rowR q k M h i * Real.exp (M h i) := by
  unfold tot rowR
  rw [Finset.sum_mul]
  exact Finset.sum_congr rfl fun j _ => wgt_eq q k M h i j

theorem ratio_eq (h : Fin 8) (i j : Fin 8192) :
    wgt (scaledR q) (padR k) h i j / tot (scaledR q) (padR k) h i = exR q k M h i j / rowR q k M h i := by
  rw [wgt_eq q k M, tot_eq q k M]
  exact mul_div_mul_right _ _ (Real.exp_pos _).ne'

/-- The kernel's weight, from the stored logarithm, is the reference's. -/
theorem prR_eq (h : Fin 8) (i j : Fin 8192) :
    prR (scaledR q) (padR k) (lseR (scaledR q) (padR k)) h i j = exR q k M h i j / rowR q k M h i := by
  rw [← ratio_eq q k M]
  unfold prR lseR
  rw [Real.rpow_sub two_pos, two_rpow_div_log, Real.exp_log (pos_tot h i)]
  rfl

theorem dp_eq (h : Fin 8) (i j : Fin 8192) : ∑ e, padR y i h e * padR v j h e = dpR v y h i j := by
  rw [sum_wide64 _ fun l hl => by rw [padR_out v j h l hl, mul_zero]]
  unfold dpR
  exact Finset.sum_congr rfl fun e _ => by rw [padR_wide64, padR_wide64]

/-- The kernel's row sum over the output's lanes is the reference's sum over the keys. -/
theorem delta_eq (h : Fin 8) (i : Fin 8192) :
    ∑ e, padR y i h e * outR (scaledR q) (padR k) (padR v) i h e = ∑ j, dpR v y h i j * (exR q k M h i j / rowR q k M h i) := by
  have e1 : ∀ e, padR y i h e * outR (scaledR q) (padR k) (padR v) i h e
      = ∑ j, (padR y i h e * padR v j h e) * (exR q k M h i j / rowR q k M h i) := fun e => by
    unfold outR
    rw [Finset.sum_div, Finset.mul_sum]
    refine Finset.sum_congr rfl fun j _ => ?_
    rw [← ratio_eq q k M]
    ring
  rw [Finset.sum_congr rfl fun e _ => e1 e, Finset.sum_comm]
  refine Finset.sum_congr rfl fun j _ => ?_
  rw [← Finset.sum_mul, dp_eq]

/-- The gradient of the score agrees, the scale apart. -/
theorem dsR_eq (h : Fin 8) (i j : Fin 8192) :
    dsR (scaledR q) (padR k) (padR v) (outR (scaledR q) (padR k) (padR v)) (padR y) (lseR (scaledR q) (padR k)) h i j * scaleR
      = gsR q k v y M h i j := by
  have hS := (rowR_pos q k M h i).ne'
  unfold dsR gsR
  rw [prR_eq q k M, dp_eq, delta_eq q k v y M]
  have e1 : ∑ j, dpR v y h i j * (exR q k M h i j / rowR q k M h i)
      = (∑ j, dpR v y h i j * exR q k M h i j) / rowR q k M h i := by
    rw [Finset.sum_div]; exact Finset.sum_congr rfl fun j _ => by ring
  have e2 : ∑ j, dpR v y h i j * (1 / (rowR q k M h i * rowR q k M h i)) * exR q k M h i j
      = (∑ j, dpR v y h i j * exR q k M h i j) / (rowR q k M h i * rowR q k M h i) := by
    rw [Finset.sum_div]; exact Finset.sum_congr rfl fun j _ => by ring
  rw [e1, e2]
  field_simp
  ring

theorem dq_eq (i : Fin 8192) (h : Fin 8) (d : Fin 96) :
    dqR (scaledR q) (padR k) (padR v) (outR (scaledR q) (padR k) (padR v)) (padR y) (lseR (scaledR q) (padR k)) i h (wide96 d) * scaleR
      = ∑ j, gsR q k v y M h i j * k j h d := by
  unfold dqR
  rw [Finset.sum_mul]
  refine Finset.sum_congr rfl fun j _ => ?_
  rw [padR_wide96, ← dsR_eq]
  ring

theorem dk_eq (j : Fin 8192) (h : Fin 8) (d : Fin 96) :
    dkR (scaledR q) (padR k) (padR v) (outR (scaledR q) (padR k) (padR v)) (padR y) (lseR (scaledR q) (padR k)) j h (wide96 d)
        * Real.log 2
      = ∑ i, gsR q k v y M h i j * q i h d := by
  have h2 := log_two_ne
  unfold dkR
  rw [Finset.sum_mul]
  refine Finset.sum_congr rfl fun i _ => ?_
  rw [← dsR_eq, show scaledR q i h (wide96 d) = q i h d * (scaleR / Real.log 2) from by unfold scaledR; rw [padR_wide96]]
  field_simp

theorem dv_eq (j : Fin 8192) (h : Fin 8) (e : Fin 64) :
    dvR (scaledR q) (padR k) (padR y) (lseR (scaledR q) (padR k)) j h (wide64 e)
      = ∑ i, y i h e * (exR q k M h i j / rowR q k M h i) := by
  unfold dvR
  refine Finset.sum_congr rfl fun i _ => ?_
  rw [padR_wide64, prR_eq q k M, mul_comm]

end

end Cert.Proof

end

end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Run
public import Idealize.ShloMosaic.Adequacy
public import Idealize.ShloMosaic.Init

@[expose] public section

noncomputable section

namespace Cert.Proof

open Idealize.ShloMosaic Idealize.SL.Sem

/-! # The frames of the three programs -/

section
set_option maxRecDepth 65536
set_option maxHeartbeats 2000000

/-- The two printings call the same kernels. -/
theorem calls_eq : Cert.Kernel.defs₀ (F := Bits) = Cert.KernelIdeal.defs₀ := by
  unfold Cert.Kernel.defs₀ Cert.KernelIdeal.defs₀
  refine congrArg (Defs.onTc (nD := Cert.KernelIdeal.nD) (τ := Cert.KernelIdeal.τ) (sig := Cert.KernelIdeal.sig) (Val := Elt Bits)
    (Λ := Cert.KernelIdeal.Λ₀)) (funext fun l => ?_)
  match l with
  | ⟨0, _⟩ => exact funext fun x => rfl
  | ⟨1, _⟩ => exact funext fun x => rfl

theorem defs_eq : Cert.Kernel.defs (F := Bits) = Cert.KernelIdeal.defs := by
  unfold Cert.Kernel.defs Cert.KernelIdeal.defs
  exact congrArg (Pipeline.defs Cert.KernelIdeal.pcfgs) calls_eq

theorem main_eq : Cert.Kernel.main (F := Bits) = Cert.KernelIdeal.main := rfl

theorem frame_kernel : Cert.quiescent_Kernel := by
  intro m ρ _
  have h := (θ_run Cert.KernelIdeal.defs _ _).mono
    (fun r h => And.intro (fun c => (h.1 c).2.2.2) h.2) (Cert.KernelIdeal.Hand.run (F := Bits) m ρ)
  have e : θ_run (Cert.Kernel.defs (F := Bits)) (onTc Cert.Kernel.main) ⟨m, fun _ => 0, ρ⟩
      = θ_run Cert.KernelIdeal.defs (onTc Cert.KernelIdeal.main) ⟨m, fun _ => 0, ρ⟩ :=
    (congrArg (fun D => θ_run D (onTc Cert.Kernel.main) ⟨m, fun _ => 0, ρ⟩) defs_eq).trans
      (congrArg (fun P => θ_run Cert.KernelIdeal.defs (onTc P) ⟨m, fun _ => 0, ρ⟩) main_eq)
  rw [← e] at h
  exact h

end

theorem frame_ideal : Cert.quiescent_KernelIdeal := by
  intro m ρ _
  exact (θ_run Cert.KernelIdeal.defs _ _).mono
    (fun r h => And.intro (fun c => (h.1 c).2.2.2) h.2) (Cert.KernelIdeal.Hand.run (F := Ideal) m ρ)

theorem frame_reference : Cert.quiescent_ReferenceIdeal := by
  intro m ρ _
  exact (θ_run Cert.ReferenceIdeal.defs _ _).mono
    (fun r h => And.intro (fun c => (h c).2.2.2) (sem_eq_zero_of_no_sems (by decide) r.2)) (Cert.ReferenceIdeal.Value.run (F := Ideal) m ρ)

end Cert.Proof

end
-- ==== Proof.Finite.lean ====
module

public import proofs.«01_k».proof.Proof.Agree
public import proofs.«01_k».proof.Proof.Frames
public import Idealize.ShloMosaic.Lib.ReduceAll

@[expose] public section

set_option maxRecDepth 16384

noncomputable section

namespace Cert.Proof

open Idealize.ShloMosaic Idealize.ShloMosaic.TcCoe Idealize.ShloMosaic.Tactic Idealize.SL.Sem
open Cert.KernelIdeal.Hand Cert.ReferenceIdeal.Hand Cert.Pre_finite

/-! # Finite arguments are real, and the two programs agree on them -/

/-- A value whose magnitude is below the infinity is a real number. -/
theorem real_of_abs_lt (x : Ideal .f32)
    (hx : FloatOps.cmpf (F := Ideal) (φ := .f32) .olt (FloatOps.hostAbsf x) (FloatOps.ofBits .f32 0x7F800000#32) = 1#1) :
    ∃ r : ℝ, x = (r : EReal) := by
  have htop : Ideal.ofBits .f32 0x7F800000#32 = ⊤ := by simp [Ideal.ofBits, Ideal.ieee]
  have h1 : max (x : EReal) (-(x : EReal)) < ⊤ := by
    rw [← htop]
    exact (Ideal.cmp_olt_eq_one _ _).1 hx
  have ht : (x : EReal) ≠ ⊤ := (lt_of_le_of_lt (le_max_left _ _) h1).ne
  have hb : (x : EReal) ≠ ⊥ := fun h => by
    have h2 : -(x : EReal) < ⊤ := lt_of_le_of_lt (le_max_right _ _) h1
    rw [h] at h2
    exact absurd h2 (by simp)
  exact ⟨(x : EReal).toReal, (EReal.coe_toReal ht hb).symm⟩

theorem fn_real [Cert.Pre_finite.Facts] (a0 a1 : FVec Ideal S8192x8x96 .f32) (a2 a3 : FVec Ideal S8192x8x64 .f32)
    (h : Cert.Pre_finite.fn (F := Ideal) a0 a1 a2 a3 = fun _ => 1#1) :
    (∀ p, ∃ r : ℝ, a0 p = (r : EReal)) ∧ (∀ p, ∃ r : ℝ, a1 p = (r : EReal)) ∧ (∀ p, ∃ r : ℝ, a2 p = (r : EReal))
      ∧ ∀ p, ∃ r : ℝ, a3 p = (r : EReal) := by
  haveI : Subsingleton S_.Idx := ⟨fun x y => funext fun a => a.elim0⟩
  have h0 := congrFun h (fun a => a.elim0)
  unfold Cert.Pre_finite.fn Cert.Pre_finite.fn_part1 at h0
  obtain ⟨h012, h3⟩ := IntOp.andi_eq_one.1 h0
  obtain ⟨h01, h2⟩ := IntOp.andi_eq_one.1 h012
  obtain ⟨h0, h1⟩ := IntOp.andi_eq_one.1 h01
  exact ⟨fun p => real_of_abs_lt _ (Host.reduce_andi_all _ _ _ _ _ h0 p), fun p => real_of_abs_lt _ (Host.reduce_andi_all _ _ _ _ _ h1 p),
    fun p => real_of_abs_lt _ (Host.reduce_andi_all _ _ _ _ _ h2 p), fun p => real_of_abs_lt _ (Host.reduce_andi_all _ _ _ _ _ h3 p)⟩

theorem algebraic [hP : Cert.Pre_finite.Facts] : Cert.algebraic_KernelIdeal_ReferenceIdeal_pre_finite := by
  intro m g m' g' hpre hargs
  refine ⟨fun c => W13 m c (Proc.devRef .tc Cert.KernelIdeal.main_v20), fun c => W13 m c (Proc.devRef .tc Cert.KernelIdeal.main_v24),
    fun c => W13 m c (Proc.devRef .tc Cert.KernelIdeal.main_v26), ?_, ?_⟩
  · exact (θ_run Cert.KernelIdeal.defs _ _).mono (fun r h => h.1) (Cert.KernelIdeal.Hand.run (F := Ideal) m g)
  refine (θ_run Cert.ReferenceIdeal.defs _ _).mono (fun r h c => ?_) (Cert.ReferenceIdeal.Value.run (F := Ideal) m' g')
  obtain ⟨h54, h52, h36, hkeep⟩ := h c
  obtain ⟨e0, e1, e2, e3⟩ := hargs c
  obtain ⟨r0, r1, r2, r3⟩ := fn_real _ _ _ _ (hpre c)
  choose q hq using fun i h d => r0 (ix3 i h d)
  choose k hk using fun i h d => r1 (ix3 i h d)
  choose v hv using fun i h e => r2 (ix3 i h e)
  choose y hy using fun i h e => r3 (ix3 i h e)
  choose M hM using fun h i => max_real hq hk h i
  refine ⟨h54.trans ?_, h52.trans ?_, h36.trans ?_, hkeep⟩
  · rw [Cert.ReferenceIdeal.Read.val_main_v54_eq, e0, e1, e2, e3]
    funext p
    rw [show p = ix3 (p 0) (p 1) (p 2) from by blk_ext]
    exact (dq_ref hq hk hv hy hM _ _ _).trans
      ((congrArg ((↑) : ℝ → EReal) (dq_eq q k v y M _ _ _).symm).trans (dq_at hq hk hv hy _ _ _).symm)
  · rw [Cert.ReferenceIdeal.Read.val_main_v52_eq, e0, e1, e2, e3]
    funext p
    rw [show p = ix3 (p 0) (p 1) (p 2) from by blk_ext]
    exact (dk_ref hq hk hv hy hM _ _ _).trans
      ((congrArg ((↑) : ℝ → EReal) (dk_eq q k v y M _ _ _).symm).trans (dk_at hq hk hv hy _ _ _).symm)
  · rw [Cert.ReferenceIdeal.Read.val_main_v36_eq, e0, e1, e3]
    funext p
    rw [show p = ix3 (p 0) (p 1) (p 2) from by blk_ext]
    exact (dv_ref hq hk hy hM _ _ _).trans
      ((congrArg ((↑) : ℝ → EReal) (dv_eq q k y M _ _ _).symm).trans (dv_at hq hk hv hy _ _ _).symm)

end Cert.Proof

end

end
-- ==== Proof.FfnReal.lean ====
module

public import proofs.«01_k».proof.Proof.FwdValue
public import Idealize.ShloMosaic.Lib.Pointwise

@[expose] public section

set_option maxRecDepth 16384

noncomputable section

namespace Cert.Ffn

open Idealize.ShloMosaic Idealize.ShloMosaic.TcCoe Idealize.ShloMosaic.Tactic
open Cert.KernelIdeal.Hand (coe_sum coe_div)

/-! # The feed-forward layer and its gradients over the real numbers

Both programs are compared through these: one definition for each of the layer's intermediate arrays and for
each gradient, as functions of row and column. -/

/-- A matrix of real numbers. -/
abbrev Mat (a b : ℕ) : Type := Fin a → Fin b → ℝ

/-- The array `X` holds the real numbers `f`. -/
def Holds {a b : ℕ} (X : (⟨2, ![a, b]⟩ : Shape).Idx → EReal) (f : Mat a b) : Prop := ∀ i j, X (ix2 i j) = ((f i j : ℝ) : EReal)

/-- The small number added under the root. -/
def eps : ℝ := 8796093 / 2 ^ 43

theorem eps_pos : 0 < eps := by unfold eps; positivity

/-- The two halves of the columns: the gate's -/
def lo (j : Fin 2816) : Fin 5632 := ⟨j.val, by have := j.isLt; omega⟩
/-- and the value's. -/
def hi (j : Fin 2816) : Fin 5632 := ⟨j.val + 2816, by have := j.isLt; omega⟩

/-- The mean of a row's squares, with the small number. -/
def meanSq (x : Mat 8192 1024) (i : Fin 8192) : ℝ := (∑ d, x i d * x i d) / 1024 + eps
/-- The inverse root of it. -/
def rinv (x : Mat 8192 1024) (i : Fin 8192) : ℝ := 1 / √(meanSq x i)
/-- The normed rows. -/
def normR (x : Mat 8192 1024) (g : Fin 1024 → ℝ) : Mat 8192 1024 := fun i d => x i d * rinv x i * g d
/-- A product of matrices. -/
def mulR {a b c : ℕ} (x : Mat a b) (y : Mat b c) : Mat a c := fun i j => ∑ k, x i k * y k j
/-- A matrix transposed. -/
def trR {a b : ℕ} (x : Mat a b) : Mat b a := fun i j => x j i
/-- The row above, zero at the first; -/
def before (f : Mat 8192 2816) : Mat 8192 2816 := fun i j => if i.val = 0 then 0 else f ⟨i.val - 1, by omega⟩ j
/-- the row below, zero at the last. -/
def after (f : Mat 8192 2816) : Mat 8192 2816 := fun i j => if h : i.val = 8191 then 0 else f ⟨i.val + 1, by omega⟩ j
/-- The gate's columns; -/
def gateR (up : Mat 8192 5632) : Mat 8192 2816 := fun i j => up i (lo j)
/-- the value's columns. -/
def valR (up : Mat 8192 5632) : Mat 8192 2816 := fun i j => up i (hi j)
/-- The convolution of three rows. -/
def convR (f : Mat 8192 2816) (w : Mat 3 2816) (b : Fin 2816 → ℝ) : Mat 8192 2816 :=
  fun i j => w 0 j * before f i j + w 1 j * f i j + w 2 j * after f i j + b j
/-- The logistic function. -/
def sgR (c : ℝ) : ℝ := 1 / (1 + Real.exp (-c))
/-- The gated activation. -/
def actR (c v : Mat 8192 2816) : Mat 8192 2816 := fun i j => c i j * sgR (c i j) * v i j
/-- The gradient of the value's columns; -/
def dvalR (c da : Mat 8192 2816) : Mat 8192 2816 := fun i j => da i j * (c i j * sgR (c i j))
/-- of the convolution's result; -/
def dconvR (c v da : Mat 8192 2816) : Mat 8192 2816 :=
  fun i j => da i j * v i j * (sgR (c i j) * (1 + c i j * (1 - sgR (c i j))))
/-- of the gate's columns; -/
def dgateR (dc : Mat 8192 2816) (w : Mat 3 2816) : Mat 8192 2816 :=
  fun i j => w 0 j * after dc i j + w 1 j * dc i j + w 2 j * before dc i j
/-- of both halves together. -/
def joinR (f v : Mat 8192 2816) : Mat 8192 5632 := fun i n => if h : n.val < 2816 then f i ⟨n.val, h⟩ else v i ⟨n.val - 2816, by have := n.isLt; omega⟩
/-- The sum down a column. -/
def colSum {b : ℕ} (f : Mat 8192 b) (j : Fin b) : ℝ := ∑ i, f i j
/-- The gradient of the convolution's weights. -/
def dwR (f dc : Mat 8192 2816) : Mat 3 2816 := fun k j =>
  colSum (fun i j => dc i j * (match k with | 0 => before f i j | 1 => f i j | 2 => after f i j)) j
/-- The gradient of the norm's scale. -/
def dnormR (x dh : Mat 8192 1024) (d : Fin 1024) : ℝ := colSum (fun i d => dh i d * (x i d * rinv x i)) d
/-- The gradient of the layer's input. -/
def dxR (x : Mat 8192 1024) (g : Fin 1024 → ℝ) (dh ct : Mat 8192 1024) : Mat 8192 1024 := fun i d =>
  ct i d + rinv x i * (dh i d * g d - x i d * rinv x i * ((∑ e, dh i e * g e * (x i e * rinv x i)) / 1024))

theorem meanSq_pos (x : Mat 8192 1024) (i : Fin 8192) : 0 < meanSq x i := by
  have : 0 ≤ ∑ d, x i d * x i d := Finset.sum_nonneg fun d _ => mul_self_nonneg _
  have := eps_pos
  unfold meanSq
  positivity

theorem sg_den_pos (c : ℝ) : 0 < 1 + Real.exp (-c) := by positivity

/-! ## The constants and functions the programs use -/

theorem bits_zero : Ideal.ofBits .f32 0x00000000#32 = ((0 : ℝ) : EReal) := by simp [Ideal.ofBits, Ideal.ieee, -EReal.coe_mul]
theorem bits_one : Ideal.ofBits .f32 0x3F800000#32 = ((1 : ℝ) : EReal) := by simp [Ideal.ofBits, Ideal.ieee, -EReal.coe_mul]; norm_num
theorem bits_1024 : Ideal.ofBits .f32 0x44800000#32 = ((1024 : ℝ) : EReal) := by simp [Ideal.ofBits, Ideal.ieee, -EReal.coe_mul]; norm_num
theorem bits_eps : Ideal.ofBits .f32 0x358637BD#32 = ((eps : ℝ) : EReal) := by simp [Ideal.ofBits, Ideal.ieee, -EReal.coe_mul, eps]; norm_num
theorem bits_neg_half : Ideal.ofBits .f32 0xBF000000#32 = ((-(1 / 2) : ℝ) : EReal) := by simp [Ideal.ofBits, Ideal.ieee, -EReal.coe_mul]; norm_num

theorem coe_rsqrt (x : ℝ) (h : 0 < x) : Ideal.rsqrt (x : EReal) = ((1 / √x : ℝ) : EReal) := by
  rw [Ideal.rsqrt_coe, if_neg (not_lt.mpr h.le), if_neg h.ne', one_div]

end Cert.Ffn

end
-- ==== Proof.FfnArgs.lean ====
module

public import proofs.«01_k».proof.Proof.FfnReal

@[expose] public section

set_option maxRecDepth 16384

noncomputable section

namespace Cert.Ffn

open Idealize.ShloMosaic Idealize.ShloMosaic.TcCoe Idealize.ShloMosaic.Tactic

/-- The real numbers the arguments hold. -/
structure Args where
  x : Mat 8192 1024
  g : Fin 1024 → ℝ
  wu : Mat 1024 5632
  cw : Mat 3 2816
  cb : Fin 2816 → ℝ
  wd : Mat 2816 1024
  ct : Mat 8192 1024

namespace Args
variable (A : Args)
/-- The normed rows, their product with the first weights, the convolution, the activation. -/
def h : Mat 8192 1024 := normR A.x A.g
def up : Mat 8192 5632 := mulR A.h A.wu
def cv : Mat 8192 2816 := convR (gateR A.up) A.cw A.cb
def act : Mat 8192 2816 := actR A.cv (valR A.up)
/-- The layer's result. -/
def y : Mat 8192 1024 := fun i j => mulR A.act A.wd i j + A.x i j
/-- The gradients of the activation, of the convolution's result, of the value's columns, of both halves, of the normed rows; -/
def da : Mat 8192 2816 := mulR A.ct (trR A.wd)
def dc : Mat 8192 2816 := dconvR A.cv (valR A.up) A.da
def dv : Mat 8192 2816 := dvalR A.cv A.da
def dup : Mat 8192 5632 := joinR (dgateR A.dc A.cw) A.dv
def dh : Mat 8192 1024 := mulR A.dup (trR A.wu)
/-- of the layer's input, of the norm's scale, of the convolution's weights and bias. -/
def dx : Mat 8192 1024 := dxR A.x A.g A.dh A.ct
def dg : Fin 1024 → ℝ := dnormR A.x A.dh
def dw : Mat 3 2816 := dwR (gateR A.up) A.dc
def db : Fin 2816 → ℝ := colSum A.dc
end Args

end Cert.Ffn

end
-- ==== Proof.FfnPad.lean ====
module

public import proofs.«01_k».proof.Proof.FfnReal

@[expose] public section

set_option maxRecDepth 16384

noncomputable section

namespace Cert.Ffn

open Idealize.ShloMosaic Idealize.ShloMosaic.TcCoe Idealize.ShloMosaic.Tactic

/-! # Rows of padding above and below a matrix -/

variable {n N d p q : ℕ} (X : (⟨2, ![n, d]⟩ : Shape).Idx → EReal) {u : Shape} (z : u.Idx → EReal)
  (h : (⟨2, ![n, d]⟩ : Shape).Pads ![p, 0] ![q, 0] ![0, 0] (⟨2, ![N, d]⟩ : Shape)) (hu : 0 < u.numel)

/-- A row of the matrix is found below the padding; -/
theorem pad_inside (i : Fin N) (k : Fin n) (j : Fin d) (e : i.val = p + k.val) :
    pad (⟨2, ![N, d]⟩ : Shape) ![p, 0] ![q, 0] ![0, 0] X z h hu (ix2 i j) = X (ix2 k j) := by
  have hk := k.isLt
  have hj := j.isLt
  have hin : ∀ a : Fin (⟨2, ![n, d]⟩ : Shape).rank, (![p, 0] : Fin 2 → ℕ) a ≤ ((ix2 i j : (⟨2, ![N, d]⟩ : Shape).Idx) (a.cast h.1)).val
      ∧ (((ix2 i j : (⟨2, ![N, d]⟩ : Shape).Idx) (a.cast h.1)).val - (![p, 0] : Fin 2 → ℕ) a) % ((![0, 0] : Fin 2 → ℕ) a + 1) = 0
      ∧ (((ix2 i j : (⟨2, ![N, d]⟩ : Shape).Idx) (a.cast h.1)).val - (![p, 0] : Fin 2 → ℕ) a) / ((![0, 0] : Fin 2 → ℕ) a + 1) < (⟨2, ![n, d]⟩ : Shape).size a := by
    intro a
    match a with
    | 0 =>
      show p ≤ i.val ∧ (i.val - p) % (0 + 1) = 0 ∧ (i.val - p) / (0 + 1) < n
      rw [zero_add, Nat.div_one, Nat.mod_one]
      omega
    | 1 =>
      show 0 ≤ j.val ∧ (j.val - 0) % (0 + 1) = 0 ∧ (j.val - 0) / (0 + 1) < d
      rw [zero_add, Nat.div_one, Nat.mod_one]
      omega
  unfold pad
  refine (dif_pos hin).trans (congrArg X (funext fun a => Fin.ext ?_))
  match a with
  | 0 =>
    show (i.val - p) / (0 + 1) = k.val
    rw [zero_add, Nat.div_one]
    omega
  | 1 =>
    show (j.val - 0) / (0 + 1) = j.val
    rw [zero_add, Nat.div_one]
    omega

/-- the padding, elsewhere. -/
theorem pad_outside (i : Fin N) (j : Fin d) (e : i.val < p ∨ p + n ≤ i.val) :
    pad (⟨2, ![N, d]⟩ : Shape) ![p, 0] ![q, 0] ![0, 0] X z h hu (ix2 i j) = z (Shape.Idx.first hu) := by
  unfold pad
  refine dif_neg fun hin => ?_
  have h0 : p ≤ i.val ∧ (i.val - p) % (0 + 1) = 0 ∧ (i.val - p) / (0 + 1) < n := hin 0
  rw [zero_add, Nat.div_one] at h0
  omega

end Cert.Ffn

end
-- ==== Proof.FfnRun.lean ====
module

public import proofs.«01_k».proof.Proof.Gen.FfnKernelIdeal.Frame

@[expose] public section

set_option maxRecDepth 16384

noncomputable section

namespace Cert.FfnKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnKernelIdeal Cert.FfnKernelIdeal.Gen

/-! # The feed-forward program's run, with every buffer's last contents

The nine calls and the host lines between them run to the end, and every buffer of the machine's
memory ends with what the fold through them says, `W15`. -/

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r =>
    ∀ c : Dev nD, ∀ b ∈ Pipeline.ucRefs τ sig, r.2.mem (((c : Thread nD τ)).1, b) = W15 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h _ => h)

end Cert.FfnKernelIdeal.Hand

end
-- ==== Proof.FfnProducts.lean ====
module

public import proofs.«01_k».proof.Proof.FfnReal
public import proofs.«01_k».proof.Proof.FfnRun
public import Idealize.ShloMosaic.Lib.Pipeline.ValueKit

@[expose] public section

set_option maxRecDepth 16384

noncomputable section

namespace Cert.FfnKernelIdeal.Hand

open Idealize.ShloMosaic Idealize.ShloMosaic.TcCoe Idealize.ShloMosaic.Tactic
open Cert.FfnKernelIdeal Cert.FfnKernelIdeal.Gen Cert.Ffn
open Cert.KernelIdeal.Hand (coe_sum coe_div)

/-! # The calls that multiply, and the norm, over whole arrays

Each call leaves in its result array the product (the normed rows) of what its operands hold, where these
hold real numbers. -/

/-- Row `r` of block `b` of 1024 rows; -/
def row1024 (b : Fin 8) (r : Fin 1024) : Fin 8192 := ⟨1024 * b.val + r.val, by have := b.isLt; have := r.isLt; omega⟩
/-- of 512 rows. -/
def row512 (b : Fin 16) (r : Fin 512) : Fin 8192 := ⟨512 * b.val + r.val, by have := b.isLt; have := r.isLt; omega⟩
/-- The real numbers as an array. -/
def arr {a b : ℕ} (f : Mat a b) : (⟨2, ![a, b]⟩ : Shape).Idx → EReal := fun y => ((f (y 0) (y 1) : ℝ) : EReal)

theorem sum_coe {n : ℕ} {f : Fin n → EReal} (g : Fin n → ℝ) (h : ∀ k, f k = ((g k : ℝ) : EReal)) :
    (∑ k, f k) = ((∑ k, g k : ℝ) : EReal) := by
  rw [← coe_sum]; exact Finset.sum_congr rfl fun k _ => h k

variable (V : (c : Dev nD) → (b : Ref sig .tc) → Buf (Elt Ideal) ((c : Thread nD τ).loc b)) (c : Dev nD)

/-! ## The norm -/

theorem idx0 : ∀ t : Fin cfg0.N, win0_0.index t = ![t.val, 0] ∧ win0_1.index t = ![0, 0] ∧ win0_2.index t = ![t.val, 0] :=
  (by decide +kernel : ∀ t : Fin grid0.N, _)
def tile0 (t : Fin cfg0.N) : Fin 16 := ⟨t.val, t.isLt⟩

theorem blk0_0_at (t : Fin cfg0.N) (r : Fin 512) (l : Fin 1024) :
    iblk0 V c 0 t (ix2 r l) = V c main_arg0 (ix2 (row512 (tile0 t) r) l) := by
  unfold iblk0 row512 tile0
  blk_ext [(idx0 t).1]
theorem blk0_1_at (t : Fin cfg0.N) (l : Fin 1024) : iblk0 V c 1 t (ix2 0 l) = V c main_v7 (ix2 0 l) := by
  unfold iblk0
  blk_ext [(idx0 t).2.1]
theorem emb0_2 (t : Fin cfg0.N) (y : S512x1024.Idx) : (win0_2.blk t).view.emb y = ix2 (row512 (tile0 t) (y 0)) (y 1) := by
  unfold row512 tile0
  blk_ext [(idx0 t).2.2]
theorem covers0_2 : (cfg0.win 2).Covers := by decide +kernel

theorem norm_at (X : Vec Ideal S512x1024 .f32) (g : Vec Ideal S1x1024 .f32) (r : Fin 512) (d : Fin 1024) :
    k0_pay1 X g (ix2 r d) = X (ix2 r d) * Ideal.rsqrt (Ideal.div (∑ e, X (ix2 r e) * X (ix2 r e)) (Ideal.ofBits .f32 0x44800000#32)
      + Ideal.ofBits .f32 0x358637BD#32) * g (ix2 0 d) := by
  pointwise [k0_pay1]

theorem out0_at {x : Mat 8192 1024} {g : Fin 1024 → ℝ} (hx : Holds (V c main_arg0) x) (hg : ∀ d, V c main_v7 (ix2 0 d) = ((g d : ℝ) : EReal))
    (t : Fin cfg0.N) (r : Fin 512) (d : Fin 1024) :
    k0_pay1 (iblk0 V c 0 t) (iblk0 V c 1 t) (ix2 r d) = ((normR x g (row512 (tile0 t) r) d : ℝ) : EReal) := by
  refine (norm_at _ _ _ _).trans ?_
  rw [bits_1024, bits_eps, sum_coe (fun e => x (row512 (tile0 t) r) e * x (row512 (tile0 t) r) e) fun e => by
    rw [blk0_0_at]; exact (congrArg₂ (· * ·) (hx _ _) (hx _ _)).trans (EReal.coe_mul _ _).symm]
  rw [coe_div _ _ (by norm_num), ← EReal.coe_add]
  have hp := meanSq_pos x (row512 (tile0 t) r)
  unfold meanSq at hp
  rw [coe_rsqrt _ hp, blk0_0_at, blk0_1_at]
  refine (congrArg₂ (fun a b => a * _ * b) (hx _ _) (hg _)).trans ?_
  rw [← EReal.coe_mul, ← EReal.coe_mul]
  rfl

theorem arr0 {x : Mat 8192 1024} {g : Fin 1024 → ℝ} (hx : Holds (V c main_arg0) x) (hg : ∀ d, V c main_v7 (ix2 0 d) = ((g d : ℝ) : EReal)) :
    (dat0 V c).arrAt 2 cfg0.N = arr (normR x g) := by
  refine Pipeline.Dat.arrAt_eq_of_covers (dat0 V c) 2 _ covers0_2 fun t hf y => ?_
  have hy : y = ix2 (y 0) (y 1) := by blk_ext
  refine Eq.trans ?_ (congrArg (arr (normR x g)) (emb0_2 t y)).symm
  blk_simp
  rw [after0_2]
  frame_out
  rw [hy]
  exact out0_at V c hx hg t (y 0) (y 1)

/-! ## The product `main_v9` -/

theorem idx1 : ∀ t : Fin cfg1.N, win1_0.index t = ![t.val % 8, 0] ∧ win1_1.index t = ![0, t.val / 8] ∧ win1_2.index t = ![t.val % 8, t.val / 8] :=
  (by decide +kernel : ∀ t : Fin grid1.N, _)
def tile1 (t : Fin cfg1.N) : Fin 8 := ⟨t.val % 8, by omega⟩
def col1 (t : Fin cfg1.N) (l : Fin 2816) : Fin 5632 := ⟨2816 * (t.val / 8) + l.val, by have : t.val < 16 := t.isLt; have := l.isLt; omega⟩

theorem blk1_0_at (t : Fin cfg1.N) (r : Fin 1024) (l : Fin 1024) :
    iblk1 V c 0 t (ix2 r l) = V c main_v8 (ix2 (row1024 (tile1 t) r) l) := by
  unfold iblk1 row1024 tile1
  blk_ext [(idx1 t).1]
theorem blk1_1_at (t : Fin cfg1.N) (k : Fin 1024) (l : Fin 2816) : iblk1 V c 1 t (ix2 k l) = V c main_v4 (ix2 k (col1 t l)) := by
  unfold iblk1 col1
  blk_ext [(idx1 t).2.1]
theorem emb1_2 (t : Fin cfg1.N) (y : S1024x2816.Idx) : (win1_2.blk t).view.emb y = ix2 (row1024 (tile1 t) (y 0)) (col1 t (y 1)) := by
  unfold row1024 tile1 col1
  blk_ext [(idx1 t).2.2]
theorem covers1_2 : (cfg1.win 2).Covers := by decide +kernel

theorem prod1_at (X : Vec Ideal S1024x1024 .bf16) (Y : Vec Ideal S1024x2816 .bf16) (r : Fin 1024) (l : Fin 2816) :
    k1_pay1 X Y (ix2 r l) = (∑ k : Fin 1024, X (ix2 r k) * Y (ix2 k l)) := by
  pointwise [k1_pay1]

theorem out1_at {x : Mat 8192 1024} {y : Mat 1024 5632} (hx : Holds (V c main_v8) x) (hy : Holds (V c main_v4) y) (t : Fin cfg1.N) (r : Fin 1024) (l : Fin 2816) :
    k1_pay1 (iblk1 V c 0 t) (iblk1 V c 1 t) (ix2 r l) = arr (mulR x y) (ix2 (row1024 (tile1 t) r) (col1 t l)) := by
  refine (prod1_at _ _ _ _).trans ?_
  rw [sum_coe (fun k => x (row1024 (tile1 t) r) k * y k (col1 t l)) fun k => by
    rw [blk1_0_at, blk1_1_at]; exact (congrArg₂ (· * ·) (hx _ _) (hy _ _)).trans (EReal.coe_mul _ _).symm]
  rfl

theorem arr1 {x : Mat 8192 1024} {y : Mat 1024 5632} (hx : Holds (V c main_v8) x) (hy : Holds (V c main_v4) y) :
    (dat1 V c).arrAt 2 cfg1.N = arr (mulR x y) := by
  refine Pipeline.Dat.arrAt_eq_of_covers (dat1 V c) 2 _ covers1_2 fun t hf p => ?_
  have hp : p = ix2 (p 0) (p 1) := by blk_ext
  refine Eq.trans ?_ (congrArg (arr (mulR x y)) (emb1_2 t p)).symm
  blk_simp
  rw [after1_2]
  frame_out
  rw [hp]
  exact out1_at V c hx hy t (p 0) (p 1)

/-! ## The product `main_v11` -/

theorem idx3 : ∀ t : Fin cfg3.N, win3_0.index t = ![t.val % 8, 0] ∧ win3_1.index t = ![0, t.val / 8] ∧ win3_3.index t = ![t.val % 8, t.val / 8] ∧ win3_2.index t = ![t.val % 8, t.val / 8] :=
  (by decide +kernel : ∀ t : Fin grid3.N, _)
def tile3 (t : Fin cfg3.N) : Fin 8 := ⟨t.val % 8, by omega⟩
def col3 (t : Fin cfg3.N) (l : Fin 1024) : Fin 1024 := ⟨1024 * (t.val / 8) + l.val, by have : t.val < 8 := t.isLt; have := l.isLt; omega⟩

theorem blk3_0_at (t : Fin cfg3.N) (r : Fin 1024) (l : Fin 2816) :
    iblk3 V c 0 t (ix2 r l) = V c main_v10 (ix2 (row1024 (tile3 t) r) l) := by
  unfold iblk3 row1024 tile3
  blk_ext [(idx3 t).1]
theorem blk3_1_at (t : Fin cfg3.N) (k : Fin 2816) (l : Fin 1024) : iblk3 V c 1 t (ix2 k l) = V c main_v2 (ix2 k (col3 t l)) := by
  unfold iblk3 col3
  blk_ext [(idx3 t).2.1]
theorem blk3_2_at (t : Fin cfg3.N) (r : Fin 1024) (l : Fin 1024) :
    iblk3 V c 2 t (ix2 r l) = V c main_arg0 (ix2 (row1024 (tile3 t) r) (col3 t l)) := by
  unfold iblk3 row1024 tile3 col3
  blk_ext [(idx3 t).2.2.2]
theorem emb3_3 (t : Fin cfg3.N) (y : S1024x1024.Idx) : (win3_3.blk t).view.emb y = ix2 (row1024 (tile3 t) (y 0)) (col3 t (y 1)) := by
  unfold row1024 tile3 col3
  blk_ext [(idx3 t).2.2.1]
theorem covers3_3 : (cfg3.win 3).Covers := by decide +kernel

theorem prod3_at (X : Vec Ideal S1024x2816 .bf16) (Y : Vec Ideal S2816x1024 .bf16) (Z : Vec Ideal S1024x1024 .f32) (r : Fin 1024) (l : Fin 1024) :
    k3_pay1 X Y Z (ix2 r l) = (∑ k : Fin 2816, X (ix2 r k) * Y (ix2 k l)) + Z (ix2 r l) := by
  pointwise [k3_pay1]

theorem out3_at {x : Mat 8192 2816} {y : Mat 2816 1024} {z : Mat 8192 1024} (hx : Holds (V c main_v10) x) (hy : Holds (V c main_v2) y) (hz : Holds (V c main_arg0) z) (t : Fin cfg3.N) (r : Fin 1024) (l : Fin 1024) :
    k3_pay1 (iblk3 V c 0 t) (iblk3 V c 1 t) (iblk3 V c 2 t) (ix2 r l) = arr (fun i j => mulR x y i j + z i j) (ix2 (row1024 (tile3 t) r) (col3 t l)) := by
  refine (prod3_at _ _ _ _ _).trans ?_
  rw [sum_coe (fun k => x (row1024 (tile3 t) r) k * y k (col3 t l)) fun k => by
    rw [blk3_0_at, blk3_1_at]; exact (congrArg₂ (· * ·) (hx _ _) (hy _ _)).trans (EReal.coe_mul _ _).symm]
  rw [blk3_2_at]
  exact (congrArg (_ + ·) (hz _ _)).trans (EReal.coe_add _ _).symm

theorem arr3 {x : Mat 8192 2816} {y : Mat 2816 1024} {z : Mat 8192 1024} (hx : Holds (V c main_v10) x) (hy : Holds (V c main_v2) y) (hz : Holds (V c main_arg0) z) :
    (dat3 V c).arrAt 3 cfg3.N = arr (fun i j => mulR x y i j + z i j) := by
  refine Pipeline.Dat.arrAt_eq_of_covers (dat3 V c) 3 _ covers3_3 fun t hf p => ?_
  have hp : p = ix2 (p 0) (p 1) := by blk_ext
  refine Eq.trans ?_ (congrArg (arr (fun i j => mulR x y i j + z i j)) (emb3_3 t p)).symm
  blk_simp
  rw [after3_3]
  frame_out
  rw [hp]
  exact out3_at V c hx hy hz t (p 0) (p 1)

/-! ## The product `main_v12` -/

theorem idx4 : ∀ t : Fin cfg4.N, win4_0.index t = ![t.val % 8, 0] ∧ win4_1.index t = ![0, t.val / 8] ∧ win4_2.index t = ![t.val % 8, t.val / 8] :=
  (by decide +kernel : ∀ t : Fin grid4.N, _)
def tile4 (t : Fin cfg4.N) : Fin 8 := ⟨t.val % 8, by omega⟩
def col4 (t : Fin cfg4.N) (l : Fin 2816) : Fin 2816 := ⟨2816 * (t.val / 8) + l.val, by have : t.val < 8 := t.isLt; have := l.isLt; omega⟩

theorem blk4_0_at (t : Fin cfg4.N) (r : Fin 1024) (l : Fin 1024) :
    iblk4 V c 0 t (ix2 r l) = V c main_arg6 (ix2 (row1024 (tile4 t) r) l) := by
  unfold iblk4 row1024 tile4
  blk_ext [(idx4 t).1]
theorem blk4_1_at (t : Fin cfg4.N) (k : Fin 1024) (l : Fin 2816) : iblk4 V c 1 t (ix2 k l) = V c main_v5 (ix2 k (col4 t l)) := by
  unfold iblk4 col4
  blk_ext [(idx4 t).2.1]
theorem emb4_2 (t : Fin cfg4.N) (y : S1024x2816.Idx) : (win4_2.blk t).view.emb y = ix2 (row1024 (tile4 t) (y 0)) (col4 t (y 1)) := by
  unfold row1024 tile4 col4
  blk_ext [(idx4 t).2.2]
theorem covers4_2 : (cfg4.win 2).Covers := by decide +kernel

theorem prod4_at (X : Vec Ideal S1024x1024 .f32) (Y : Vec Ideal S1024x2816 .bf16) (r : Fin 1024) (l : Fin 2816) :
    k4_pay1 X Y (ix2 r l) = (∑ k : Fin 1024, X (ix2 r k) * Y (ix2 k l)) := by
  pointwise [k4_pay1]

theorem out4_at {x : Mat 8192 1024} {y : Mat 1024 2816} (hx : Holds (V c main_arg6) x) (hy : Holds (V c main_v5) y) (t : Fin cfg4.N) (r : Fin 1024) (l : Fin 2816) :
    k4_pay1 (iblk4 V c 0 t) (iblk4 V c 1 t) (ix2 r l) = arr (mulR x y) (ix2 (row1024 (tile4 t) r) (col4 t l)) := by
  refine (prod4_at _ _ _ _).trans ?_
  rw [sum_coe (fun k => x (row1024 (tile4 t) r) k * y k (col4 t l)) fun k => by
    rw [blk4_0_at, blk4_1_at]; exact (congrArg₂ (· * ·) (hx _ _) (hy _ _)).trans (EReal.coe_mul _ _).symm]
  rfl

theorem arr4 {x : Mat 8192 1024} {y : Mat 1024 2816} (hx : Holds (V c main_arg6) x) (hy : Holds (V c main_v5) y) :
    (dat4 V c).arrAt 2 cfg4.N = arr (mulR x y) := by
  refine Pipeline.Dat.arrAt_eq_of_covers (dat4 V c) 2 _ covers4_2 fun t hf p => ?_
  have hp : p = ix2 (p 0) (p 1) := by blk_ext
  refine Eq.trans ?_ (congrArg (arr (mulR x y)) (emb4_2 t p)).symm
  blk_simp
  rw [after4_2]
  frame_out
  rw [hp]
  exact out4_at V c hx hy t (p 0) (p 1)

/-! ## The product `main_v15` -/

theorem idx7 : ∀ t : Fin cfg7.N, win7_0.index t = ![t.val % 8, 0] ∧ win7_1.index t = ![0, t.val / 8] ∧ win7_2.index t = ![t.val % 8, t.val / 8] :=
  (by decide +kernel : ∀ t : Fin grid7.N, _)
def tile7 (t : Fin cfg7.N) : Fin 8 := ⟨t.val % 8, by omega⟩
def col7 (t : Fin cfg7.N) (l : Fin 512) : Fin 1024 := ⟨512 * (t.val / 8) + l.val, by have : t.val < 16 := t.isLt; have := l.isLt; omega⟩

theorem blk7_0_at (t : Fin cfg7.N) (r : Fin 1024) (l : Fin 5632) :
    iblk7 V c 0 t (ix2 r l) = V c main_v14 (ix2 (row1024 (tile7 t) r) l) := by
  unfold iblk7 row1024 tile7
  blk_ext [(idx7 t).1]
theorem blk7_1_at (t : Fin cfg7.N) (k : Fin 5632) (l : Fin 512) : iblk7 V c 1 t (ix2 k l) = V c main_v1 (ix2 k (col7 t l)) := by
  unfold iblk7 col7
  blk_ext [(idx7 t).2.1]
theorem emb7_2 (t : Fin cfg7.N) (y : S1024x512.Idx) : (win7_2.blk t).view.emb y = ix2 (row1024 (tile7 t) (y 0)) (col7 t (y 1)) := by
  unfold row1024 tile7 col7
  blk_ext [(idx7 t).2.2]
theorem covers7_2 : (cfg7.win 2).Covers := by decide +kernel

theorem prod7_at (X : Vec Ideal S1024x5632 .bf16) (Y : Vec Ideal S5632x512 .bf16) (r : Fin 1024) (l : Fin 512) :
    k7_pay1 X Y (ix2 r l) = (∑ k : Fin 5632, X (ix2 r k) * Y (ix2 k l)) := by
  pointwise [k7_pay1]

theorem out7_at {x : Mat 8192 5632} {y : Mat 5632 1024} (hx : Holds (V c main_v14) x) (hy : Holds (V c main_v1) y) (t : Fin cfg7.N) (r : Fin 1024) (l : Fin 512) :
    k7_pay1 (iblk7 V c 0 t) (iblk7 V c 1 t) (ix2 r l) = arr (mulR x y) (ix2 (row1024 (tile7 t) r) (col7 t l)) := by
  refine (prod7_at _ _ _ _).trans ?_
  rw [sum_coe (fun k => x (row1024 (tile7 t) r) k * y k (col7 t l)) fun k => by
    rw [blk7_0_at, blk7_1_at]; exact (congrArg₂ (· * ·) (hx _ _) (hy _ _)).trans (EReal.coe_mul _ _).symm]
  rfl

theorem arr7 {x : Mat 8192 5632} {y : Mat 5632 1024} (hx : Holds (V c main_v14) x) (hy : Holds (V c main_v1) y) :
    (dat7 V c).arrAt 2 cfg7.N = arr (mulR x y) := by
  refine Pipeline.Dat.arrAt_eq_of_covers (dat7 V c) 2 _ covers7_2 fun t hf p => ?_
  have hp : p = ix2 (p 0) (p 1) := by blk_ext
  refine Eq.trans ?_ (congrArg (arr (mulR x y)) (emb7_2 t p)).symm
  blk_simp
  rw [after7_2]
  frame_out
  rw [hp]
  exact out7_at V c hx hy t (p 0) (p 1)

end Cert.FfnKernelIdeal.Hand

end
-- ==== Proof.FfnRefValue.lean ====
module

public import proofs.«01_k».proof.Proof.Gen.FfnReferenceIdeal.Read
public import proofs.«01_k».proof.Proof.FfnArgs
public import proofs.«01_k».proof.Proof.FfnPad
public import proofs.«01_k».proof.Proof.FfnProducts
public import proofs.«01_k».proof.Proof.RefValue

@[expose] public section

set_option maxRecDepth 16384

noncomputable section

namespace Cert.FfnReferenceIdeal.Hand

open Idealize.ShloMosaic Idealize.ShloMosaic.TcCoe Idealize.ShloMosaic.Tactic
open Cert.FfnReferenceIdeal Cert.FfnReferenceIdeal.Gen Cert.FfnReferenceIdeal.Read Cert.Ffn
open Cert.KernelIdeal.Hand (coe_sum coe_div)
open Cert.FfnKernelIdeal.Hand (sum_coe)
open Cert.ReferenceIdeal.Hand (zero_first)

/-! # The reference's results at real arguments -/

/-- The arguments hold the real numbers `A`. -/
structure Given (x0 : (⟨S8192x1024, .f32⟩ : BufTy).Contents (Elt Ideal)) (x1 : (⟨S1024, .f32⟩ : BufTy).Contents (Elt Ideal)) (x2 : (⟨S1024x5632, .f32⟩ : BufTy).Contents (Elt Ideal)) (x3 : (⟨S3x2816, .f32⟩ : BufTy).Contents (Elt Ideal)) (x4 : (⟨S2816, .f32⟩ : BufTy).Contents (Elt Ideal)) (x5 : (⟨S2816x1024, .f32⟩ : BufTy).Contents (Elt Ideal)) (x6 : (⟨S8192x1024, .f32⟩ : BufTy).Contents (Elt Ideal)) (A : Args) : Prop where
  x : Holds x0 A.x
  g : ∀ d, x1 (ix1 d) = ((A.g d : ℝ) : EReal)
  wu : Holds x2 A.wu
  cw : Holds x3 A.cw
  cb : ∀ j, x4 (ix1 j) = ((A.cb j : ℝ) : EReal)
  wd : Holds x5 A.wd
  ct : Holds x6 A.ct

section
variable {a b : Ideal .f32} {p q : ℝ}
theorem mulC (ha : a = ((p : ℝ) : EReal)) (hb : b = ((q : ℝ) : EReal)) : FloatOps.mulf a b = ((p * q : ℝ) : EReal) := by
  rw [ha, hb]; exact (EReal.coe_mul _ _).symm
theorem timesC (ha : a = ((p : ℝ) : EReal)) (hb : b = ((q : ℝ) : EReal)) : a * b = ((p * q : ℝ) : EReal) := by
  rw [ha, hb]; exact (EReal.coe_mul _ _).symm
theorem addC (ha : a = ((p : ℝ) : EReal)) (hb : b = ((q : ℝ) : EReal)) : FloatOps.addf a b = ((p + q : ℝ) : EReal) := by
  rw [ha, hb]; exact (EReal.coe_add _ _).symm
theorem subC (ha : a = ((p : ℝ) : EReal)) (hb : b = ((q : ℝ) : EReal)) : FloatOps.subf a b = ((p - q : ℝ) : EReal) := by
  rw [ha, hb]; exact (EReal.coe_sub _ _).symm
theorem divC (ha : a = ((p : ℝ) : EReal)) (hb : b = ((q : ℝ) : EReal)) (h : q ≠ 0) : FloatOps.hostDivf a b = ((p / q : ℝ) : EReal) := by
  rw [ha, hb]; exact coe_div _ _ h
theorem expC (ha : a = ((p : ℝ) : EReal)) : FloatOps.hostUnary .exp a = ((Real.exp p : ℝ) : EReal) := by rw [ha]; rfl
theorem negC (ha : a = ((p : ℝ) : EReal)) : FloatOps.hostNegf a = ((-p : ℝ) : EReal) := by rw [ha]; exact (EReal.coe_neg _).symm
end

theorem sumC {n : ℕ} {f : Fin n → Ideal .f32} (g : Fin n → ℝ) (h : ∀ k, f k = ((g k : ℝ) : EReal)) :
    FloatOps.ofBits (F := Ideal) .f32 0x00000000#32 + ∑ k, f k = ((∑ k, g k : ℝ) : EReal) := by
  rw [show (∑ k, f k) = ((∑ k, g k : ℝ) : EReal) from sum_coe g h]
  exact zero_first _

theorem real_eq {a : EReal} {p q : ℝ} (h : a = ((p : ℝ) : EReal)) (e : p = q) : a = ((q : ℝ) : EReal) := e ▸ h

section
variable (z : S1x2816.Idx → EReal) (f : S8191x2816.Idx → EReal) (i : Fin 8192) (j : Fin 2816)
theorem cat_above : concatenate S8192x2816 0 [⟨S1x2816, z⟩, ⟨S8191x2816, f⟩] concatenates_S1x2816_S8191x2816_S8192x2816_d0 (ix2 i j)
    = if h : i.val < 1 then z (ix2 ⟨i.val, h⟩ j) else f (ix2 ⟨i.val - 1, by have := i.isLt; omega⟩ j) := by pointwise
theorem cat_below : concatenate S8192x2816 0 [⟨S8191x2816, f⟩, ⟨S1x2816, z⟩] concatenates_S8191x2816_S1x2816_S8192x2816_d0 (ix2 i j)
    = if h : i.val < 8191 then f (ix2 ⟨i.val, h⟩ j) else z (ix2 ⟨i.val - 8191, by have := i.isLt; omega⟩ j) := by pointwise
theorem cat_beside (f v : S8192x2816.Idx → EReal) (n : Fin 5632) :
    concatenate S8192x5632 1 [⟨S8192x2816, f⟩, ⟨S8192x2816, v⟩] concatenates_S8192x2816_S8192x2816_S8192x5632_d1 (ix2 i n)
    = if h : n.val < 2816 then f (ix2 i ⟨n.val, h⟩) else v (ix2 i ⟨n.val - 2816, by have := n.isLt; omega⟩) := by pointwise
end

section
variable {x0 : (⟨S8192x1024, .f32⟩ : BufTy).Contents (Elt Ideal)} {x1 : (⟨S1024, .f32⟩ : BufTy).Contents (Elt Ideal)} {x2 : (⟨S1024x5632, .f32⟩ : BufTy).Contents (Elt Ideal)} {x3 : (⟨S3x2816, .f32⟩ : BufTy).Contents (Elt Ideal)} {x4 : (⟨S2816, .f32⟩ : BufTy).Contents (Elt Ideal)} {x5 : (⟨S2816x1024, .f32⟩ : BufTy).Contents (Elt Ideal)} {x6 : (⟨S8192x1024, .f32⟩ : BufTy).Contents (Elt Ideal)} {A : Args} (H : Given x0 x1 x2 x3 x4 x5 x6 A)
include H

/-- The mean of a row's squares; the inverse root; the normed rows. -/
theorem ms_at (i : Fin 8192) : val_main_v6 x0 (ix2 i 0) = ((meanSq A.x i : ℝ) : EReal) := by
  rw [val_main_v6_apply, val_main_v4_apply, val_main_v2_apply, show idx_main_v2 (ix2 i 0) = ix1 i from by blk_ext, val_main_v1_apply, val_main_cst_apply]
  refine addC (divC (sumC (fun d => A.x i d * A.x i d) fun d => ?_) bits_1024 (by norm_num)) bits_eps
  rw [show idx_main_v1 (ix1 i) d = ix2 i d from by blk_ext, val_main_v0_apply]
  exact mulC (H.x i d) (H.x i d)
theorem r_at (i : Fin 8192) : val_main_v7 x0 (ix2 i 0) = ((rinv A.x i : ℝ) : EReal) := by
  rw [val_main_v7_apply, ms_at H]
  exact coe_rsqrt _ (meanSq_pos _ _)
theorem n_at (i : Fin 8192) (d : Fin 1024) : val_main_v12 x0 (ix2 i d) = ((A.x i d * rinv A.x i : ℝ) : EReal) := by
  rw [val_main_v12_apply, val_main_v11_apply, show idx_main_v11 (ix2 i d) = ix2 i 0 from by blk_ext]
  exact mulC (H.x i d) (r_at H i)
theorem h_at (i : Fin 8192) (d : Fin 1024) : val_main_v15 x0 x1 (ix2 i d) = ((A.h i d : ℝ) : EReal) := by
  rw [val_main_v15_apply, val_main_v14_apply, show idx_main_v14 (ix2 i d) = ix2 0 d from by blk_ext, val_main_v13_apply, show idx_main_v13 (ix2 0 d) = ix1 d from by blk_ext]
  exact mulC (n_at H i d) (H.g d)
/-- The product with the first weights, its halves, the rows above and below. -/
theorem up_at (i : Fin 8192) (n : Fin 5632) : val_main_v16 x0 x1 x2 (ix2 i n) = ((A.up i n : ℝ) : EReal) := by
  rw [val_main_v16_apply]
  refine sum_coe (fun k => A.h i k * A.wu k n) fun k => ?_
  rw [show lidx_main_v16 (ix2 i n) k = ix2 i k from by blk_ext, show ridx_main_v16 (ix2 i n) k = ix2 k n from by blk_ext]
  exact timesC (h_at H i k) (H.wu k n)
theorem gate_at (i : Fin 8192) (j : Fin 2816) : val_main_v17 x0 x1 x2 (ix2 i j) = ((gateR A.up i j : ℝ) : EReal) := by
  rw [val_main_v17_apply, show idx_main_v17 (ix2 i j) = ix2 i (lo j) from by blk_ext; rfl]
  exact up_at H i _
theorem val_at (i : Fin 8192) (j : Fin 2816) : val_main_v18 x0 x1 x2 (ix2 i j) = ((valR A.up i j : ℝ) : EReal) := by
  rw [val_main_v18_apply, show idx_main_v18 (ix2 i j) = ix2 i (hi j) from by blk_ext; exact Nat.add_comm _ _]
  exact up_at H i _
theorem before_at (i : Fin 8192) (j : Fin 2816) : val_main_v21 x0 x1 x2 (ix2 i j) = ((before (gateR A.up) i j : ℝ) : EReal) := by
  unfold val_main_v21
  refine (cat_above _ _ i j).trans ?_
  unfold before
  split <;> rename_i h
  · rw [if_pos (by omega)]
    exact bits_zero
  · rw [if_neg (by omega), val_main_v20_apply]
    rw [show idx_main_v20 (ix2 ⟨i.val - 1, by have := i.isLt; omega⟩ j) = ix2 ⟨i.val - 1, by have := i.isLt; omega⟩ j from by blk_ext]
    exact gate_at H _ j
theorem after_at (i : Fin 8192) (j : Fin 2816) : val_main_v24 x0 x1 x2 (ix2 i j) = ((after (gateR A.up) i j : ℝ) : EReal) := by
  have hi := i.isLt
  unfold val_main_v24
  refine (cat_below _ _ i j).trans ?_
  unfold after
  split <;> rename_i h
  · rw [dif_neg (by omega), val_main_v23_apply]
    rw [show idx_main_v23 (ix2 ⟨i.val, h⟩ j) = ix2 ⟨i.val + 1, by omega⟩ j from by blk_ext]
    exact gate_at H _ j
  · rw [dif_pos (by omega)]
    exact bits_zero
theorem w0_at (i : Fin 8192) (j : Fin 2816) : val_main_v29 x3 (ix2 i j) = ((A.cw 0 j : ℝ) : EReal) := by
  rw [val_main_v29_apply, show idx_main_v29 (ix2 i j) = ix2 0 j from by blk_ext, val_main_v28_apply, show idx_main_v28 (ix2 0 j) = ix1 j from by blk_ext, val_main_v27_apply, show idx_main_v27 (ix1 j) = ix2 0 j from by blk_ext, val_main_v26_apply, show idx_main_v26 (ix2 0 j) = ix2 0 j from by blk_ext]
  exact H.cw 0 j
theorem w1_at (i : Fin 8192) (j : Fin 2816) : val_main_v34 x3 (ix2 i j) = ((A.cw 1 j : ℝ) : EReal) := by
  rw [val_main_v34_apply, show idx_main_v34 (ix2 i j) = ix2 0 j from by blk_ext, val_main_v33_apply, show idx_main_v33 (ix2 0 j) = ix1 j from by blk_ext, val_main_v32_apply, show idx_main_v32 (ix1 j) = ix2 0 j from by blk_ext, val_main_v31_apply, show idx_main_v31 (ix2 0 j) = ix2 1 j from by blk_ext]
  exact H.cw 1 j
theorem w2_at (i : Fin 8192) (j : Fin 2816) : val_main_v40 x3 (ix2 i j) = ((A.cw 2 j : ℝ) : EReal) := by
  rw [val_main_v40_apply, show idx_main_v40 (ix2 i j) = ix2 0 j from by blk_ext, val_main_v39_apply, show idx_main_v39 (ix2 0 j) = ix1 j from by blk_ext, val_main_v38_apply, show idx_main_v38 (ix1 j) = ix2 0 j from by blk_ext, val_main_v37_apply, show idx_main_v37 (ix2 0 j) = ix2 2 j from by blk_ext]
  exact H.cw 2 j
theorem w0_back (i : Fin 8192) (j : Fin 2816) : val_main_v80 x3 (ix2 i j) = ((A.cw 0 j : ℝ) : EReal) := by
  rw [val_main_v80_apply, show idx_main_v80 (ix2 i j) = ix2 0 j from by blk_ext, val_main_v28_apply, show idx_main_v28 (ix2 0 j) = ix1 j from by blk_ext, val_main_v27_apply, show idx_main_v27 (ix1 j) = ix2 0 j from by blk_ext, val_main_v26_apply, show idx_main_v26 (ix2 0 j) = ix2 0 j from by blk_ext]
  exact H.cw 0 j
theorem w1_back (i : Fin 8192) (j : Fin 2816) : val_main_v71 x3 (ix2 i j) = ((A.cw 1 j : ℝ) : EReal) := by
  rw [val_main_v71_apply, show idx_main_v71 (ix2 i j) = ix2 0 j from by blk_ext, val_main_v33_apply, show idx_main_v33 (ix2 0 j) = ix1 j from by blk_ext, val_main_v32_apply, show idx_main_v32 (ix1 j) = ix2 0 j from by blk_ext, val_main_v31_apply, show idx_main_v31 (ix2 0 j) = ix2 1 j from by blk_ext]
  exact H.cw 1 j
theorem w2_back (i : Fin 8192) (j : Fin 2816) : val_main_v63 x3 (ix2 i j) = ((A.cw 2 j : ℝ) : EReal) := by
  rw [val_main_v63_apply, show idx_main_v63 (ix2 i j) = ix2 0 j from by blk_ext, val_main_v39_apply, show idx_main_v39 (ix2 0 j) = ix1 j from by blk_ext, val_main_v38_apply, show idx_main_v38 (ix1 j) = ix2 0 j from by blk_ext, val_main_v37_apply, show idx_main_v37 (ix2 0 j) = ix2 2 j from by blk_ext]
  exact H.cw 2 j
/-- The convolution and the activation. -/
theorem cv_at (i : Fin 8192) (j : Fin 2816) : val_main_v45 x0 x1 x2 x3 x4 (ix2 i j) = ((A.cv i j : ℝ) : EReal) := by
  rw [val_main_v45_apply, val_main_v42_apply, val_main_v36_apply, val_main_v30_apply, val_main_v35_apply, val_main_v41_apply,
    val_main_v44_apply, show idx_main_v44 (ix2 i j) = ix2 0 j from by blk_ext, val_main_v43_apply, show idx_main_v43 (ix2 0 j) = ix1 j from by blk_ext]
  refine real_eq (addC (addC (addC (mulC (before_at H i j) (w0_at H i j)) (mulC (gate_at H i j) (w1_at H i j)))
    (mulC (after_at H i j) (w2_at H i j))) (H.cb j)) ?_
  unfold Args.cv convR
  ring
theorem sg_at (i : Fin 8192) (j : Fin 2816) : val_main_v46_2 x0 x1 x2 x3 x4 (ix2 i j) = ((sgR (A.cv i j) : ℝ) : EReal) := by
  rw [val_main_v46_2_apply, val_main_call0_v3_apply, val_main_call0_v1_apply, val_main_call0_v0_apply]
  exact divC bits_one (addC bits_one (expC (negC (cv_at H i j)))) (sg_den_pos _).ne'
theorem dsg_at (i : Fin 8192) (j : Fin 2816) : val_main_v46_1 x0 x1 x2 x3 x4 (ix2 i j) = ((sgR (A.cv i j) * (1 - sgR (A.cv i j)) : ℝ) : EReal) := by
  rw [val_main_v46_1_apply, val_main_call0_v7_apply]
  exact mulC (sg_at H i j) (subC bits_one (sg_at H i j))
theorem sl_at (i : Fin 8192) (j : Fin 2816) : val_main_v46_0 x0 x1 x2 x3 x4 (ix2 i j) = ((A.cv i j * sgR (A.cv i j) : ℝ) : EReal) := by
  rw [val_main_v46_0_apply]
  exact mulC (cv_at H i j) (sg_at H i j)
theorem act_at (i : Fin 8192) (j : Fin 2816) : val_main_v47 x0 x1 x2 x3 x4 (ix2 i j) = ((A.act i j : ℝ) : EReal) := by
  rw [val_main_v47_apply]
  exact mulC (sl_at H i j) (val_at H i j)
/-- The reference's result. -/
theorem y_ref (i : Fin 8192) (d : Fin 1024) : val_main_v49 x0 x1 x2 x3 x4 x5 (ix2 i d) = ((A.y i d : ℝ) : EReal) := by
  rw [val_main_v49_apply, val_main_v48_apply]
  refine real_eq (addC (H.x i d) (sum_coe (fun k => A.act i k * A.wd k d) fun k => ?_)) (add_comm _ _)
  rw [show lidx_main_v48 (ix2 i d) k = ix2 i k from by blk_ext, show ridx_main_v48 (ix2 i d) k = ix2 k d from by blk_ext]
  exact timesC (act_at H i k) (H.wd k d)
/-- The gradients of the activation, of the value's columns, of the convolution's result. -/
theorem da_at (i : Fin 8192) (j : Fin 2816) : val_main_v53 x5 x6 (ix2 i j) = ((A.da i j : ℝ) : EReal) := by
  rw [val_main_v53_apply]
  refine sum_coe (fun k => A.ct i k * A.wd j k) fun k => ?_
  rw [show lidx_main_v53 (ix2 i j) k = ix2 i k from by blk_ext, show ridx_main_v53 (ix2 i j) k = ix2 j k from by blk_ext,
    val_main_v50_apply, show idx_main_v50 (ix2 i k) = ix2 i k from by blk_ext]
  exact timesC (H.ct i k) (H.wd j k)
theorem dv_at (i : Fin 8192) (j : Fin 2816) : val_main_v54 x0 x1 x2 x3 x4 x5 x6 (ix2 i j) = ((A.dv i j : ℝ) : EReal) := by
  rw [val_main_v54_apply]
  exact real_eq (mulC (sl_at H i j) (da_at H i j)) (mul_comm _ _)
theorem dc_at (i : Fin 8192) (j : Fin 2816) : val_main_v56 x0 x1 x2 x3 x4 x5 x6 (ix2 i j) = ((A.dc i j : ℝ) : EReal) := by
  rw [val_main_v56_apply, val_main_call1_v1_apply, val_main_call1_v2_apply, val_main_call1_v0_apply, val_main_v55_apply]
  refine real_eq (addC (mulC (mulC (da_at H i j) (val_at H i j)) (sg_at H i j))
    (mulC (mulC (cv_at H i j) (mulC (da_at H i j) (val_at H i j))) (dsg_at H i j))) ?_
  unfold Args.dc dconvR
  ring
/-- The reference's gradient of the convolution's bias. -/
theorem db_ref (j : Fin 2816) : val_main_v59 x0 x1 x2 x3 x4 x5 x6 (ix1 j) = ((A.db j : ℝ) : EReal) := by
  rw [val_main_v59_apply, val_main_cst_7_apply, zero_first, Fin.sum_univ_one, val_main_v58_apply,
    show idx_main_v58 (idx_main_v59 (ix1 j) 0) = ix1 j from by blk_ext, val_main_v57_apply, val_main_cst_6_apply]
  refine sumC (fun i => A.dc i j) fun i => ?_
  rw [show idx_main_v57 (ix1 j) i = ix2 i j from by blk_ext]
  exact dc_at H i j
theorem row2_at (j : Fin 2816) : val_main_v66 x0 x1 x2 x3 x4 x5 x6 (ix2 0 j) = ((A.dw 2 j : ℝ) : EReal) := by
  rw [val_main_v66_apply, show idx_main_v66 (ix2 0 j) = ix1 j from by blk_ext, val_main_v65_apply, val_main_cst_9_apply, zero_first, Fin.sum_univ_one, val_main_v62_apply,
    show idx_main_v62 (idx_main_v65 (ix1 j) 0) = ix1 j from by blk_ext, val_main_v61_apply, val_main_cst_8_apply]
  refine real_eq (sumC (fun i => after (gateR A.up) i j * A.dc i j) fun i => ?_) (Finset.sum_congr rfl fun i _ => mul_comm _ _)
  rw [show idx_main_v61 (ix1 j) i = ix2 i j from by blk_ext, val_main_v60_apply]
  exact mulC (after_at H i j) (dc_at H i j)
theorem row1_at (j : Fin 2816) : val_main_v74 x0 x1 x2 x3 x4 x5 x6 (ix2 0 j) = ((A.dw 1 j : ℝ) : EReal) := by
  rw [val_main_v74_apply, show idx_main_v74 (ix2 0 j) = ix1 j from by blk_ext, val_main_v73_apply, val_main_cst_12_apply, zero_first, Fin.sum_univ_one, val_main_v70_apply,
    show idx_main_v70 (idx_main_v73 (ix1 j) 0) = ix1 j from by blk_ext, val_main_v69_apply, val_main_cst_11_apply]
  refine real_eq (sumC (fun i => gateR A.up i j * A.dc i j) fun i => ?_) (Finset.sum_congr rfl fun i _ => mul_comm _ _)
  rw [show idx_main_v69 (ix1 j) i = ix2 i j from by blk_ext, val_main_v68_apply]
  exact mulC (gate_at H i j) (dc_at H i j)
theorem row0_at (j : Fin 2816) : val_main_v83 x0 x1 x2 x3 x4 x5 x6 (ix2 0 j) = ((A.dw 0 j : ℝ) : EReal) := by
  rw [val_main_v83_apply, show idx_main_v83 (ix2 0 j) = ix1 j from by blk_ext, val_main_v82_apply, val_main_cst_15_apply, zero_first, Fin.sum_univ_one, val_main_v79_apply,
    show idx_main_v79 (idx_main_v82 (ix1 j) 0) = ix1 j from by blk_ext, val_main_v78_apply, val_main_cst_14_apply]
  refine real_eq (sumC (fun i => before (gateR A.up) i j * A.dc i j) fun i => ?_) (Finset.sum_congr rfl fun i _ => mul_comm _ _)
  rw [show idx_main_v78 (ix1 j) i = ix2 i j from by blk_ext, val_main_v77_apply]
  exact mulC (before_at H i j) (dc_at H i j)
/-- The reference's gradient of the convolution's weights. -/
theorem dw_ref (k : Fin 3) (j : Fin 2816) : val_main_v85 x0 x1 x2 x3 x4 x5 x6 (ix2 k j) = ((A.dw k j : ℝ) : EReal) := by
  rw [val_main_v85_apply, val_main_v76_apply]
  unfold val_main_v67 val_main_v75 val_main_v84
  match k with
  | 0 =>
    exact real_eq (addC (addC ((pad_outside _ _ _ _ _ j (by decide)).trans bits_zero) ((pad_outside _ _ _ _ _ j (by decide)).trans bits_zero))
      ((pad_inside _ _ _ _ _ 0 j rfl).trans (row0_at H j))) (by ring)
  | 1 =>
    exact real_eq (addC (addC ((pad_outside _ _ _ _ _ j (by decide)).trans bits_zero) ((pad_inside _ _ _ _ _ 0 j rfl).trans (row1_at H j)))
      ((pad_outside _ _ _ _ _ j (by decide)).trans bits_zero)) (by ring)
  | 2 =>
    exact real_eq (addC (addC ((pad_inside _ _ _ _ _ 0 j rfl).trans (row2_at H j)) ((pad_outside _ _ _ _ _ j (by decide)).trans bits_zero))
      ((pad_outside _ _ _ _ _ j (by decide)).trans bits_zero)) (by ring)
/-- The gradients of the gate's columns, of both halves, of the normed rows. -/
theorem up_row (i : Fin 8192) (j : Fin 2816) : val_main_v88 x0 x1 x2 x3 x4 x5 x6 (ix2 i j) = ((A.cw 2 j * before A.dc i j : ℝ) : EReal) := by
  have hi := i.isLt
  unfold val_main_v88
  by_cases h : i.val = 0
  · refine (pad_outside _ _ _ _ i j (Or.inl (by omega))).trans ((bits_zero).trans ?_)
    unfold before
    rw [if_pos h, mul_zero]
  · refine (pad_inside _ _ _ _ i ⟨i.val - 1, by omega⟩ j (by show i.val = 1 + (i.val - 1); omega)).trans ?_
    rw [val_main_v86_apply, show idx_main_v86 (ix2 ⟨i.val - 1, by omega⟩ j) = ix2 ⟨i.val - 1, by omega⟩ j from by blk_ext, val_main_v64_apply]
    refine real_eq (mulC (dc_at H _ j) (w2_back H _ j)) ?_
    unfold before
    rw [if_neg h, mul_comm]
theorem down_row (i : Fin 8192) (j : Fin 2816) : val_main_v92 x0 x1 x2 x3 x4 x5 x6 (ix2 i j) = ((A.cw 0 j * after A.dc i j : ℝ) : EReal) := by
  have hi := i.isLt
  unfold val_main_v92
  by_cases h : i.val = 8191
  · refine (pad_outside _ _ _ _ i j (Or.inr (by omega))).trans ((bits_zero).trans ?_)
    unfold after
    rw [dif_pos h, mul_zero]
  · refine (pad_inside _ _ _ _ i ⟨i.val, by omega⟩ j (by show i.val = 0 + i.val; omega)).trans ?_
    rw [val_main_v91_apply, show idx_main_v91 (ix2 ⟨i.val, by omega⟩ j) = ix2 ⟨i.val + 1, by omega⟩ j from by blk_ext, val_main_v81_apply]
    refine real_eq (mulC (dc_at H _ j) (w0_back H _ j)) ?_
    unfold after
    rw [dif_neg h, mul_comm]
theorem dgate_at (i : Fin 8192) (j : Fin 2816) : val_main_v93 x0 x1 x2 x3 x4 x5 x6 (ix2 i j) = ((dgateR A.dc A.cw i j : ℝ) : EReal) := by
  rw [val_main_v93_apply, val_main_v89_apply, val_main_v72_apply]
  refine real_eq (addC (addC (mulC (dc_at H i j) (w1_back H i j)) (up_row H i j)) (down_row H i j)) ?_
  unfold dgateR
  ring
theorem dup_at (i : Fin 8192) (n : Fin 5632) : val_main_v94 x0 x1 x2 x3 x4 x5 x6 (ix2 i n) = ((A.dup i n : ℝ) : EReal) := by
  unfold val_main_v94
  refine (cat_beside i _ _ n).trans ?_
  unfold Args.dup joinR
  split <;> rename_i h
  · exact dgate_at H i _
  · exact dv_at H i _
theorem dh_at (i : Fin 8192) (d : Fin 1024) : val_main_v97 x0 x1 x2 x3 x4 x5 x6 (ix2 i d) = ((A.dh i d : ℝ) : EReal) := by
  rw [val_main_v97_apply]
  refine sum_coe (fun k => A.dup i k * A.wu d k) fun k => ?_
  rw [show lidx_main_v97 (ix2 i d) k = ix2 i k from by blk_ext, show ridx_main_v97 (ix2 i d) k = ix2 d k from by blk_ext]
  exact timesC (dup_at H i k) (H.wu d k)
/-- The reference's gradient of the norm's scale. -/
theorem dg_ref (d : Fin 1024) : val_main_v103 x0 x1 x2 x3 x4 x5 x6 (ix1 d) = ((A.dg d : ℝ) : EReal) := by
  rw [val_main_v103_apply, val_main_cst_20_apply, zero_first, Fin.sum_univ_one, val_main_v100_apply,
    show idx_main_v100 (idx_main_v103 (ix1 d) 0) = ix1 d from by blk_ext, val_main_v99_apply, val_main_cst_19_apply]
  refine real_eq (sumC (fun i => A.x i d * rinv A.x i * A.dh i d) fun i => ?_) (Finset.sum_congr rfl fun i _ => mul_comm _ _)
  rw [show idx_main_v99 (ix1 d) i = ix2 i d from by blk_ext, val_main_v98_apply]
  exact mulC (n_at H i d) (dh_at H i d)
theorem dn_at (i : Fin 8192) (d : Fin 1024) : val_main_v102 x0 x1 x2 x3 x4 x5 x6 (ix2 i d) = ((A.dh i d * A.g d : ℝ) : EReal) := by
  rw [val_main_v102_apply, val_main_v101_apply, show idx_main_v101 (ix2 i d) = ix2 0 d from by blk_ext, val_main_v13_apply, show idx_main_v13 (ix2 0 d) = ix1 d from by blk_ext]
  exact mulC (dh_at H i d) (H.g d)
theorem t_at (i : Fin 8192) : val_main_v113 x0 x1 x2 x3 x4 x5 x6 (ix1 i) = (((∑ e, A.x i e * (A.dh i e * A.g e)) * (-(1 / 2) * (rinv A.x i / meanSq A.x i)) / 1024 : ℝ) : EReal) := by
  rw [val_main_v113_apply, val_main_cst_23_apply, zero_first, Fin.sum_univ_one, show idx_main_v113 (ix1 i) 0 = ix2 i 0 from by blk_ext, val_main_v112_apply,
    val_main_v110_apply, val_main_v106_apply, show idx_main_v106 (ix2 i 0) = ix1 i from by blk_ext, val_main_v105_apply, val_main_cst_21_apply, val_main_v10_apply, val_main_v8_apply]
  refine divC (mulC (sumC (fun e => A.x i e * (A.dh i e * A.g e)) fun e => ?_)
    (mulC bits_neg_half (divC (r_at H i) (ms_at H i) (meanSq_pos _ _).ne'))) bits_1024 (by norm_num)
  rw [show idx_main_v105 (ix1 i) e = ix2 i e from by blk_ext, val_main_v104_apply]
  exact mulC (H.x i e) (dn_at H i e)
omit H in
/-- The two forms of the input's gradient agree: the inverse root's square is the inverse of the mean. -/
theorem dx_eq (A : Args) (i : Fin 8192) (d : Fin 1024) :
    A.ct i d + A.dh i d * A.g d * rinv A.x i
      + A.x i d * ((∑ e, A.x i e * (A.dh i e * A.g e)) * (-(1 / 2) * (rinv A.x i / meanSq A.x i)) / 1024)
      + (∑ e, A.x i e * (A.dh i e * A.g e)) * (-(1 / 2) * (rinv A.x i / meanSq A.x i)) / 1024 * A.x i d = A.dx i d := by
  have hs : (∑ e, A.dh i e * A.g e * (A.x i e * rinv A.x i)) = (∑ e, A.x i e * (A.dh i e * A.g e)) * rinv A.x i := by
    rw [Finset.sum_mul]
    exact Finset.sum_congr rfl fun e _ => by ring
  have hm := meanSq_pos A.x i
  have hr : rinv A.x i / meanSq A.x i = rinv A.x i * (rinv A.x i * rinv A.x i) := by
    have h2 : rinv A.x i * rinv A.x i = 1 / meanSq A.x i := by
      unfold rinv
      rw [div_mul_div_comm, one_mul, Real.mul_self_sqrt hm.le]
    rw [h2, mul_one_div]
  unfold Args.dx dxR
  rw [hs, hr]
  ring
/-- The reference's gradient of the layer's input. -/
theorem dx_ref (i : Fin 8192) (d : Fin 1024) : val_main_v118 x0 x1 x2 x3 x4 x5 x6 (ix2 i d) = ((A.dx i d : ℝ) : EReal) := by
  rw [val_main_v118_apply, val_main_v116_apply, val_main_v115_apply, val_main_v117_apply, val_main_v109_apply, val_main_v108_apply,
    val_main_v107_apply, show idx_main_v107 (ix2 i d) = ix2 i 0 from by blk_ext, val_main_v114_apply, show idx_main_v114 (ix2 i d) = ix1 i from by blk_ext]
  exact real_eq (addC (addC (addC (H.ct i d) (mulC (dn_at H i d) (r_at H i))) (mulC (H.x i d) (t_at H i))) (mulC (t_at H i) (H.x i d))) (dx_eq A i d)
end

end Cert.FfnReferenceIdeal.Hand

end
-- ==== Proof.FfnAct.lean ====
module

public import proofs.«01_k».proof.Proof.FfnProducts

@[expose] public section

set_option maxRecDepth 16384

noncomputable section

namespace Cert.FfnKernelIdeal.Hand

open Idealize.ShloMosaic Idealize.ShloMosaic.TcCoe Idealize.ShloMosaic.Tactic
open Cert.FfnKernelIdeal Cert.FfnKernelIdeal.Gen Cert.Ffn
open Cert.KernelIdeal.Hand (coe_sum coe_div)

/-! # The gated activation and the convolution, forward

The call reads a block of rows with one row on either side, and leaves the activation. -/

/-- Column `l` of block `b` of 1408 columns. -/
def col1408 (b : Fin 2) (l : Fin 1408) : Fin 2816 := ⟨1408 * b.val + l.val, by have := b.isLt; have := l.isLt; omega⟩

theorem sel_eq {n k : ℕ} (hn : n < 2 ^ 32) (hk : k < 2 ^ 32) (x y : EReal) :
    Scalar.select (IntOp.cmpi .eq (BitVec.ofNat 32 n) (BitVec.ofNat 32 k)) x y = if n = k then x else y := by
  have h : (BitVec.ofNat 32 n == BitVec.ofNat 32 k) = decide (n = k) := by
    rw [Bool.eq_iff_iff, beq_iff_eq, decide_eq_true_eq, ← BitVec.toNat_inj, BitVec.toNat_ofNat, BitVec.toNat_ofNat, Nat.mod_eq_of_lt hn, Nat.mod_eq_of_lt hk]
  unfold Scalar.select IntOp.cmpi
  by_cases e : n = k <;> simp [h, e]

theorem cmpi_scalar (a b : BitVec 32) : Scalar.cmpi .eq a b = IntOp.cmpi .eq a b := rfl

theorem row_at {n : ℕ} (k : ℕ) (hk : k < n) (inb : ∀ a, (![k, 0] : Fin 2 → ℕ) a + (![1, 1408] : Fin 2 → ℕ) a ≤ (⟨2, ![n, 1408]⟩ : Shape).size a) (l : Fin 1408) :
    (Rect.unit (s := ⟨2, ![n, 1408]⟩) ![k, 0] ![1, 1408] inb).idx (ix2 0 l) = ix2 ⟨k, hk⟩ l := by
  funext a
  refine Fin.ext ?_
  fin_cases a
  · show k + 1 * 0 = k
    omega
  · show 0 + 1 * l.val = l.val
    omega

/-- The row before, within a block: the last row of the block before, or zero, at the block's first row; -/
theorem before_block (f : Mat 8192 2816) (b : Fin 16) (r : Fin 512) (j : Fin 2816) :
    before f (row512 b r) j = if r.val = 0 then (if b.val = 0 then 0 else f ⟨512 * b.val - 1, by have := b.isLt; omega⟩ j)
      else f (row512 b ⟨(r.val + 512 - 1) % 512, Nat.mod_lt _ (by norm_num)⟩) j := by
  unfold before row512
  have hb := b.isLt
  have hr := r.isLt
  by_cases h0 : r.val = 0
  · rw [if_pos h0]
    by_cases h1 : b.val = 0
    · rw [if_pos h1, if_pos (by simp only []; omega)]
    · rw [if_neg h1, if_neg (by simp only []; omega)]
      congr 2; simp only []; omega
  · rw [if_neg h0, if_neg (by simp only []; omega)]
    congr 2; simp only []; omega

/-- the row after: the first row of the next block, or zero, at the block's last row. -/
theorem after_block (f : Mat 8192 2816) (b : Fin 16) (r : Fin 512) (j : Fin 2816) :
    after f (row512 b r) j = if r.val = 511 then (if h : b.val = 15 then 0 else f ⟨512 * (b.val + 1), by have := b.isLt; omega⟩ j)
      else f (row512 b ⟨(r.val + 512 - 511) % 512, Nat.mod_lt _ (by norm_num)⟩) j := by
  unfold after row512
  have hb := b.isLt
  have hr := r.isLt
  by_cases h0 : r.val = 511
  · rw [if_pos h0]
    by_cases h1 : b.val = 15
    · rw [dif_pos h1, dif_pos (by simp only []; omega)]
    · rw [dif_neg h1, dif_neg (by simp only []; omega)]
      congr 2; simp only []; omega
  · rw [if_neg h0, dif_neg (by simp only []; omega)]
    congr 2; simp only []; omega

/-- The same of arrays: the value before, read from the block `X` and the row `h` on its near side; -/
theorem before_read {f : Mat 8192 2816} {b : Fin 16} {j : Fin 2816} {X : Fin 512 → EReal} {h : EReal}
    (hX : ∀ r, X r = ((f (row512 b r) j : ℝ) : EReal)) (hh : ∀ hb : b.val ≠ 0, h = ((f ⟨512 * b.val - 1, by have := b.isLt; omega⟩ j : ℝ) : EReal)) (r : Fin 512) {n : ℕ} (hn : n = b.val) :
    Scalar.select (IntOp.cmpi .eq (BitVec.ofNat 32 r.val) 0#32)
        (Scalar.select (Scalar.cmpi .eq (BitVec.ofNat 32 n) 0#32) (0 : EReal) h)
        (X ⟨(r.val + 512 - 1) % 512, Nat.mod_lt _ (by norm_num)⟩) = ((before f (row512 b r) j : ℝ) : EReal) := by
  have hr := r.isLt
  have hb := b.isLt
  subst hn
  rw [cmpi_scalar, sel_eq (by omega) (by omega), sel_eq (by omega) (by omega), before_block, hX]
  split_ifs with h0 h1
  · exact EReal.coe_zero.symm
  · exact hh h1
  · rfl

/-- and the value after. -/
theorem after_read {f : Mat 8192 2816} {b : Fin 16} {j : Fin 2816} {X : Fin 512 → EReal} {h : EReal}
    (hX : ∀ r, X r = ((f (row512 b r) j : ℝ) : EReal)) (hh : ∀ hb : b.val ≠ 15, h = ((f ⟨512 * (b.val + 1), by have := b.isLt; omega⟩ j : ℝ) : EReal)) (r : Fin 512) {n : ℕ} (hn : n = b.val) :
    Scalar.select (IntOp.cmpi .eq (BitVec.ofNat 32 r.val) 511#32)
        (Scalar.select (Scalar.cmpi .eq (BitVec.ofNat 32 n) 15#32) (0 : EReal) h)
        (X ⟨(r.val + 512 - 511) % 512, Nat.mod_lt _ (by norm_num)⟩) = ((after f (row512 b r) j : ℝ) : EReal) := by
  have hr := r.isLt
  have hb := b.isLt
  subst hn
  rw [cmpi_scalar, sel_eq (by omega) (by omega), sel_eq (by omega) (by omega), after_block, hX]
  split_ifs with h0 h1
  · exact EReal.coe_zero.symm
  · exact hh h1
  · rfl

/-- The logistic function of a real number. -/
theorem sg_coe (c : ℝ) : Ideal.div 1 (1 + Ideal.exp (0 - (c : EReal))) = ((sgR c : ℝ) : EReal) := by
  rw [zero_sub, ← EReal.coe_neg]
  have h : Ideal.exp ((-c : ℝ) : EReal) = ((Real.exp (-c) : ℝ) : EReal) := rfl
  rw [h, ← EReal.coe_one, ← EReal.coe_add, coe_div _ _ (sg_den_pos c).ne']
  rfl

theorem next_at (i : grid2.Coords) (X : Vec Ideal S512x1408 .bf16) (h : Vec Ideal S1x1408 .bf16) (r : Fin 512) (l : Fin 1408) :
    k2_pay3 i X h (ix2 r l) = Scalar.select (IntOp.cmpi .eq (BitVec.ofNat 32 r.val) 511#32)
      (Scalar.select (Scalar.cmpi .eq (BitVec.ofNat 32 (i 0).val) 15#32) 0 (h (ix2 0 l)))
      (X (ix2 ⟨(r.val + 512 - 511) % 512, Nat.mod_lt _ (by norm_num)⟩ l)) := by
  pointwise [k2_pay3, k2_pay2]

theorem conv2_at (i : grid2.Coords) (X : Vec Ideal S512x1408 .bf16) (h : Vec Ideal S1x1408 .bf16) (w0 w1 : Vec Ideal S1x1408 .f32) (r : Fin 512) (l : Fin 1408) :
    k2_pay4 i X h w0 w1 (ix2 r l) = w0 (ix2 0 l) * Scalar.select (IntOp.cmpi .eq (BitVec.ofNat 32 r.val) 0#32)
      (Scalar.select (Scalar.cmpi .eq (BitVec.ofNat 32 (i 0).val) 0#32) 0 (h (ix2 0 l)))
      (X (ix2 ⟨(r.val + 512 - 1) % 512, Nat.mod_lt _ (by norm_num)⟩ l)) + w1 (ix2 0 l) * X (ix2 r l) := by
  pointwise [k2_pay4, k2_pay2]

theorem act_at (N : FVec Ideal S512x1408 .f32) (P : FVec Ideal S512x1408 .f32) (w2 b : Vec Ideal S1x1408 .f32) (X : Vec Ideal S512x1408 .bf16) (r : Fin 512) (l : Fin 1408) :
    k2_pay1 N P w2 b X (ix2 r l) = (P (ix2 r l) + w2 (ix2 0 l) * N (ix2 r l) + b (ix2 0 l)) *
        Ideal.div 1 (1 + Ideal.exp (0 - (P (ix2 r l) + w2 (ix2 0 l) * N (ix2 r l) + b (ix2 0 l)))) * X (ix2 r l) := by
  pointwise [k2_pay1]

variable (V : (c : Dev nD) → (b : Ref sig .tc) → Buf (Elt Ideal) ((c : Thread nD τ).loc b)) (c : Dev nD)

/-! ## The blocks of call 2 -/

theorem idx2 : ∀ t : Fin cfg2.N, (win2_0.index t = ![t.val / 2, t.val % 2] ∧ win2_1.index t = ![32 * (t.val / 2) - 1, t.val % 2]
    ∧ win2_2.index t = ![min (32 * (t.val / 2 + 1)) 511, t.val % 2]) ∧ (win2_3.index t = ![t.val / 2, t.val % 2 + 2] ∧ win2_4.index t = ![0, t.val % 2]
    ∧ win2_5.index t = ![0, t.val % 2]) ∧ win2_6.index t = ![t.val / 2, t.val % 2] ∧ ((grid2.coords t) 0).val = t.val / 2 :=
  (by decide +kernel : ∀ t : Fin grid2.N, _)
/-- The block of rows, -/
def tile2 (t : Fin cfg2.N) : Fin 16 := ⟨t.val / 2, by have : t.val < 32 := t.isLt; omega⟩
/-- the block of columns. -/
def colb2 (t : Fin cfg2.N) : Fin 2 := ⟨t.val % 2, by have : t.val < 32 := t.isLt; omega⟩

theorem blk2_0_at (t : Fin cfg2.N) (r : Fin 512) (l : Fin 1408) :
    iblk2 V c 0 t (ix2 r l) = V c main_v9 (ix2 (row512 (tile2 t) r) (lo (col1408 (colb2 t) l))) := by
  unfold iblk2 row512 tile2 col1408 colb2 lo
  blk_ext [(idx2 t).1.1]
theorem blk2_1_at (t : Fin cfg2.N) (l : Fin 1408) (h : (tile2 t).val ≠ 0) :
    iblk2 V c 1 t (ix2 15 l) = V c main_v9 (ix2 ⟨512 * (tile2 t).val - 1, by have := (tile2 t).isLt; omega⟩ (lo (col1408 (colb2 t) l))) := by
  unfold tile2 at h
  simp only [] at h
  unfold iblk2 tile2 col1408 colb2 lo
  blk_ext [(idx2 t).1.2.1]
theorem blk2_2_at (t : Fin cfg2.N) (l : Fin 1408) (h : (tile2 t).val ≠ 15) :
    iblk2 V c 2 t (ix2 0 l) = V c main_v9 (ix2 ⟨512 * ((tile2 t).val + 1), by have := (tile2 t).isLt; omega⟩ (lo (col1408 (colb2 t) l))) := by
  have ht : t.val < 32 := t.isLt
  unfold tile2 at h
  simp only [] at h
  unfold iblk2 tile2 col1408 colb2 lo
  blk_ext [(idx2 t).1.2.2]
theorem blk2_3_at (t : Fin cfg2.N) (r : Fin 512) (l : Fin 1408) :
    iblk2 V c 3 t (ix2 r l) = V c main_v9 (ix2 (row512 (tile2 t) r) (hi (col1408 (colb2 t) l))) := by
  unfold iblk2 row512 tile2 col1408 colb2 hi
  blk_ext [(idx2 t).2.1.1]
theorem blk2_4_at (t : Fin cfg2.N) (k : Fin 8) (l : Fin 1408) :
    iblk2 V c 4 t (ix2 k l) = V c main_v3 (ix2 k (col1408 (colb2 t) l)) := by
  unfold iblk2 col1408 colb2
  blk_ext [(idx2 t).2.1.2.1]
theorem blk2_5_at (t : Fin cfg2.N) (l : Fin 1408) :
    iblk2 V c 5 t (ix2 0 l) = V c main_v6 (ix2 0 (col1408 (colb2 t) l)) := by
  unfold iblk2 col1408 colb2
  blk_ext [(idx2 t).2.1.2.2]

theorem emb2_6 (t : Fin cfg2.N) (y : S512x1408.Idx) : (win2_6.blk t).view.emb y = ix2 (row512 (tile2 t) (y 0)) (col1408 (colb2 t) (y 1)) := by
  unfold row512 tile2 col1408 colb2
  blk_ext [(idx2 t).2.2.1]
theorem covers2_6 : (cfg2.win 6).Covers := by decide +kernel

theorem out2_at {up : Mat 8192 5632} {w : Mat 3 2816} {b : Fin 2816 → ℝ} (hu : Holds (V c main_v9) up)
    (hw : ∀ (k : Fin 3) (j : Fin 2816), V c main_v3 (ix2 ⟨k.val, by have := k.isLt; omega⟩ j) = ((w k j : ℝ) : EReal)) (hb : ∀ j, V c main_v6 (ix2 0 j) = ((b j : ℝ) : EReal)) (t : Fin cfg2.N) (r : Fin 512) (l : Fin 1408) :
    k2_pay1 (k2_pay3 (grid2.coords t) (iblk2 V c 0 t) (View.ld (iblk2 V c 2 t) r2_2)) (k2_pay4 (grid2.coords t) (iblk2 V c 0 t)
      (View.ld (iblk2 V c 1 t) r2_1) (View.ld (iblk2 V c 4 t) r2_3) (View.ld (iblk2 V c 4 t) r2_4)) (View.ld (iblk2 V c 4 t) r2_5) (iblk2 V c 5 t) (iblk2 V c 3 t) (ix2 r l)
      = ((actR (convR (gateR up) w b) (valR up) (row512 (tile2 t) r) (col1408 (colb2 t) l) : ℝ) : EReal) := by
  have hn := after_read (f := gateR up) (b := tile2 t) (j := col1408 (colb2 t) l) (X := fun r => iblk2 V c 0 t (ix2 r l))
    (h := View.ld (iblk2 V c 2 t) r2_2 (ix2 0 l)) (fun r => (blk2_0_at V c t r l).trans (hu _ _))
    (fun h => (congrArg (iblk2 V c 2 t) (row_at 0 (by norm_num) _ l)).trans ((blk2_2_at V c t l h).trans (hu _ _))) r (idx2 t).2.2.2
  have hp := before_read (f := gateR up) (b := tile2 t) (j := col1408 (colb2 t) l) (X := fun r => iblk2 V c 0 t (ix2 r l))
    (h := View.ld (iblk2 V c 1 t) r2_1 (ix2 0 l)) (fun r => (blk2_0_at V c t r l).trans (hu _ _))
    (fun h => (congrArg (iblk2 V c 1 t) (row_at 15 (by norm_num) _ l)).trans ((blk2_1_at V c t l h).trans (hu _ _))) r (idx2 t).2.2.2
  have h0 : View.ld (iblk2 V c 4 t) r2_3 (ix2 0 l) = ((w 0 (col1408 (colb2 t) l) : ℝ) : EReal) :=
    (congrArg (iblk2 V c 4 t) (row_at 0 (by norm_num) _ l)).trans ((blk2_4_at V c t 0 l).trans (hw 0 _))
  have h1 : View.ld (iblk2 V c 4 t) r2_4 (ix2 0 l) = ((w 1 (col1408 (colb2 t) l) : ℝ) : EReal) :=
    (congrArg (iblk2 V c 4 t) (row_at 1 (by norm_num) _ l)).trans ((blk2_4_at V c t 1 l).trans (hw 1 _))
  have h2 : View.ld (iblk2 V c 4 t) r2_5 (ix2 0 l) = ((w 2 (col1408 (colb2 t) l) : ℝ) : EReal) :=
    (congrArg (iblk2 V c 4 t) (row_at 2 (by norm_num) _ l)).trans ((blk2_4_at V c t 2 l).trans (hw 2 _))
  refine (act_at _ _ _ _ _ _ _).trans ?_
  rw [conv2_at, next_at, hn, hp, h0, h1, h2, (blk2_0_at V c t r l).trans (hu _ _), (blk2_5_at V c t l).trans (hb _), (blk2_3_at V c t r l).trans (hu _ _)]
  simp only [← EReal.coe_mul, ← EReal.coe_add]
  rw [sg_coe, ← EReal.coe_mul, ← EReal.coe_mul]
  rfl

theorem arr2 {up : Mat 8192 5632} {w : Mat 3 2816} {b : Fin 2816 → ℝ} (hu : Holds (V c main_v9) up)
    (hw : ∀ (k : Fin 3) (j : Fin 2816), V c main_v3 (ix2 ⟨k.val, by have := k.isLt; omega⟩ j) = ((w k j : ℝ) : EReal)) (hb : ∀ j, V c main_v6 (ix2 0 j) = ((b j : ℝ) : EReal)) :
    (dat2 V c).arrAt 6 cfg2.N = arr (actR (convR (gateR up) w b) (valR up)) := by
  refine Pipeline.Dat.arrAt_eq_of_covers (dat2 V c) 6 _ covers2_6 fun t hf y => ?_
  have hy : y = ix2 (y 0) (y 1) := by blk_ext
  refine Eq.trans ?_ (congrArg (arr (actR (convR (gateR up) w b) (valR up))) (emb2_6 t y)).symm
  blk_simp
  rw [after2_6]
  frame_out
  rw [hy]
  exact out2_at V c hu hw hb t (y 0) (y 1)

end Cert.FfnKernelIdeal.Hand

end
-- ==== Proof.FfnActBwd.lean ====
module

public import proofs.«01_k».proof.Proof.FfnAct
public import Idealize.ShloMosaic.Lib.Pipeline.ReadBack
public import Idealize.ShloMosaic.Lib.WritesUnit

@[expose] public section

set_option maxRecDepth 16384

noncomputable section

namespace Cert.FfnKernelIdeal.Hand

open Idealize.ShloMosaic Idealize.ShloMosaic.TcCoe Idealize.ShloMosaic.Tactic
open Cert.FfnKernelIdeal Cert.FfnKernelIdeal.Gen Cert.Ffn
open Cert.KernelIdeal.Hand (coe_sum coe_div)

/-! # The activation's gradients, and the gradients of the convolution's weights and bias -/

variable (V : (c : Dev nD) → (b : Ref sig .tc) → Buf (Elt Ideal) ((c : Thread nD τ).loc b)) (c : Dev nD)

/-! ## The blocks of call 5 -/

theorem idx5 : ∀ t : Fin cfg5.N, (win5_0.index t = ![t.val % 16, t.val / 16] ∧ win5_1.index t = ![32 * (t.val % 16) - 1, t.val / 16]
    ∧ win5_2.index t = ![min (32 * (t.val % 16 + 1)) 511, t.val / 16]) ∧ (win5_3.index t = ![t.val % 16, t.val / 16 + 2] ∧ win5_4.index t = ![0, t.val / 16]
    ∧ win5_5.index t = ![0, t.val / 16]) ∧ (win5_6.index t = ![t.val % 16, t.val / 16] ∧ win5_7.index t = ![t.val % 16, t.val / 16] ∧ win5_8.index t = ![t.val % 16, t.val / 16 + 2] ∧ win5_9.index t = ![0, t.val / 16]) ∧ ((grid5.coords t) 1).val = t.val % 16 :=
  (by decide +kernel : ∀ t : Fin grid5.N, _)
/-- The block of rows, -/
def tile5 (t : Fin cfg5.N) : Fin 16 := ⟨t.val % 16, by have : t.val < 32 := t.isLt; omega⟩
/-- the block of columns. -/
def colb5 (t : Fin cfg5.N) : Fin 2 := ⟨t.val / 16, by have : t.val < 32 := t.isLt; omega⟩

theorem blk5_0_at (t : Fin cfg5.N) (r : Fin 512) (l : Fin 1408) :
    iblk5 V c 0 t (ix2 r l) = V c main_v9 (ix2 (row512 (tile5 t) r) (lo (col1408 (colb5 t) l))) := by
  unfold iblk5 row512 tile5 col1408 colb5 lo
  blk_ext [(idx5 t).1.1]
theorem blk5_1_at (t : Fin cfg5.N) (l : Fin 1408) (h : (tile5 t).val ≠ 0) :
    iblk5 V c 1 t (ix2 15 l) = V c main_v9 (ix2 ⟨512 * (tile5 t).val - 1, by have := (tile5 t).isLt; omega⟩ (lo (col1408 (colb5 t) l))) := by
  unfold tile5 at h
  simp only [] at h
  unfold iblk5 tile5 col1408 colb5 lo
  blk_ext [(idx5 t).1.2.1]
theorem blk5_2_at (t : Fin cfg5.N) (l : Fin 1408) (h : (tile5 t).val ≠ 15) :
    iblk5 V c 2 t (ix2 0 l) = V c main_v9 (ix2 ⟨512 * ((tile5 t).val + 1), by have := (tile5 t).isLt; omega⟩ (lo (col1408 (colb5 t) l))) := by
  have ht : t.val < 32 := t.isLt
  unfold tile5 at h
  simp only [] at h
  unfold iblk5 tile5 col1408 colb5 lo
  blk_ext [(idx5 t).1.2.2]
theorem blk5_3_at (t : Fin cfg5.N) (r : Fin 512) (l : Fin 1408) :
    iblk5 V c 3 t (ix2 r l) = V c main_v9 (ix2 (row512 (tile5 t) r) (hi (col1408 (colb5 t) l))) := by
  unfold iblk5 row512 tile5 col1408 colb5 hi
  blk_ext [(idx5 t).2.1.1]
theorem blk5_4_at (t : Fin cfg5.N) (k : Fin 8) (l : Fin 1408) :
    iblk5 V c 4 t (ix2 k l) = V c main_v3 (ix2 k (col1408 (colb5 t) l)) := by
  unfold iblk5 col1408 colb5
  blk_ext [(idx5 t).2.1.2.1]
theorem blk5_5_at (t : Fin cfg5.N) (l : Fin 1408) :
    iblk5 V c 5 t (ix2 0 l) = V c main_v6 (ix2 0 (col1408 (colb5 t) l)) := by
  unfold iblk5 col1408 colb5
  blk_ext [(idx5 t).2.1.2.2]

theorem blk5_6_at (t : Fin cfg5.N) (r : Fin 512) (l : Fin 1408) :
    iblk5 V c 6 t (ix2 r l) = V c main_v12 (ix2 (row512 (tile5 t) r) (col1408 (colb5 t) l)) := by
  unfold iblk5 row512 tile5 col1408 colb5
  blk_ext [(idx5 t).2.2.1.1]
theorem emb5_7 (t : Fin cfg5.N) (y : S512x1408.Idx) : (win5_7.blk t).view.emb y = ix2 (row512 (tile5 t) (y 0)) (col1408 (colb5 t) (y 1)) := by
  unfold row512 tile5 col1408 colb5
  blk_ext [(idx5 t).2.2.1.2.1]
theorem emb5_8 (t : Fin cfg5.N) (y : S512x1408.Idx) : (win5_8.blk t).view.emb y = ix2 (row512 (tile5 t) (y 0)) (hi (col1408 (colb5 t) (y 1))) := by
  unfold row512 tile5 col1408 colb5 hi
  blk_ext [(idx5 t).2.2.1.2.2.1]
theorem emb5_9 (t : Fin cfg5.N) (y : S8x1408.Idx) : (win5_9.blk t).view.emb y = ix2 (y 0) (col1408 (colb5 t) (y 1)) := by
  unfold col1408 colb5
  blk_ext [(idx5 t).2.2.1.2.2.2]
theorem covers5_7 : (cfg5.win 7).Covers := by decide +kernel
theorem covers5_9 : (cfg5.win 9).Covers := by decide +kernel

theorem prev5_at (i : grid5.Coords) (X : Vec Ideal S512x1408 .bf16) (h : Vec Ideal S1x1408 .bf16) (r : Fin 512) (l : Fin 1408) :
    k5_pay7 i X h (ix2 r l) = Scalar.select (IntOp.cmpi .eq (BitVec.ofNat 32 r.val) 0#32)
      (Scalar.select (Scalar.cmpi .eq (BitVec.ofNat 32 (i 1).val) 0#32) 0 (h (ix2 0 l)))
      (X (ix2 ⟨(r.val + 512 - 1) % 512, Nat.mod_lt _ (by norm_num)⟩ l)) := by
  pointwise [k5_pay7, k5_pay6]
theorem next5_at (i : grid5.Coords) (X : Vec Ideal S512x1408 .bf16) (h : Vec Ideal S1x1408 .bf16) (r : Fin 512) (l : Fin 1408) :
    k5_pay8 i X h (ix2 r l) = Scalar.select (IntOp.cmpi .eq (BitVec.ofNat 32 r.val) 511#32)
      (Scalar.select (Scalar.cmpi .eq (BitVec.ofNat 32 (i 1).val) 15#32) 0 (h (ix2 0 l)))
      (X (ix2 ⟨(r.val + 512 - 511) % 512, Nat.mod_lt _ (by norm_num)⟩ l)) := by
  pointwise [k5_pay8, k5_pay6]
theorem conv5_at (i : grid5.Coords) (X : Vec Ideal S512x1408 .bf16) (p n : Vec Ideal S1x1408 .bf16) (w0 w1 w2 b : Vec Ideal S1x1408 .f32) (r : Fin 512) (l : Fin 1408) :
    k5_pay11 (k5_pay6 X) (k5_pay8 i X n) (k5_pay9 i X p w0) (k5_pay10 w1) w2 b (ix2 r l)
      = w0 (ix2 0 l) * k5_pay7 i X p (ix2 r l) + w1 (ix2 0 l) * X (ix2 r l) + w2 (ix2 0 l) * k5_pay8 i X n (ix2 r l) + b (ix2 0 l) := by
  pointwise [k5_pay11, k5_pay10, k5_pay9, k5_pay6]
theorem dval_at (v5 v30 v34 : FVec Ideal S512x1408 .f32) (v36 : FVec Ideal S1x1408 .f32) (w2 b : Vec Ideal S1x1408 .f32) (d : Vec Ideal S512x1408 .f32) (r : Fin 512) (l : Fin 1408) :
    k5_pay14 v5 v30 v34 v36 w2 b d (ix2 r l) = d (ix2 r l) * (k5_pay11 v5 v30 v34 v36 w2 b (ix2 r l)
      * Ideal.div 1 (1 + Ideal.exp (0 - k5_pay11 v5 v30 v34 v36 w2 b (ix2 r l)))) := by
  pointwise [k5_pay14, k5_pay12, k5_pay13]
theorem dconv_at (v5 v30 v34 : FVec Ideal S512x1408 .f32) (v36 : FVec Ideal S1x1408 .f32) (w2 b : Vec Ideal S1x1408 .f32) (d : Vec Ideal S512x1408 .f32) (v : Vec Ideal S512x1408 .bf16) (r : Fin 512) (l : Fin 1408) :
    k5_pay15 v5 v30 v34 v36 w2 b d v (ix2 r l) = d (ix2 r l) * v (ix2 r l) * (Ideal.div 1 (1 + Ideal.exp (0 - k5_pay11 v5 v30 v34 v36 w2 b (ix2 r l)))
      * (1 + k5_pay11 v5 v30 v34 v36 w2 b (ix2 r l) * (1 - Ideal.div 1 (1 + Ideal.exp (0 - k5_pay11 v5 v30 v34 v36 w2 b (ix2 r l)))))) := by
  pointwise [k5_pay15, k5_pay12, k5_pay13]
theorem acc0_at (X D : FVec Ideal S512x1408 .f32) (a : FVec Ideal S1x1408 .f32) (l : Fin 1408) :
    k5_pay1 X D a (ix2 0 l) = a (ix2 0 l) + ∑ r : Fin 512, D (ix2 r l) * X (ix2 r l) := by
  pointwise [k5_pay1]
theorem acc1_at (X : Vec Ideal S512x1408 .bf16) (D : FVec Ideal S512x1408 .f32) (a : Vec Ideal S1x1408 .f32) (l : Fin 1408) :
    k5_pay2 (k5_pay6 X) D a (ix2 0 l) = a (ix2 0 l) + ∑ r : Fin 512, D (ix2 r l) * X (ix2 r l) := by
  pointwise [k5_pay2, k5_pay6]
theorem acc2_at (X D : FVec Ideal S512x1408 .f32) (a : Vec Ideal S1x1408 .f32) (l : Fin 1408) :
    k5_pay3 X D a (ix2 0 l) = a (ix2 0 l) + ∑ r : Fin 512, D (ix2 r l) * X (ix2 r l) := by
  pointwise [k5_pay3]
theorem acc3_at (D : FVec Ideal S512x1408 .f32) (a : Vec Ideal S1x1408 .f32) (l : Fin 1408) :
    k5_pay4 D a (ix2 0 l) = a (ix2 0 l) + ∑ r : Fin 512, D (ix2 r l) := by
  pointwise [k5_pay4]

/-! ## A buffer written a row at a time -/

theorem row_not_mem {n : ℕ} {k q : ℕ} (hq : q < n) (hn : q ≠ k) (inb : ∀ a, (![k, 0] : Fin 2 → ℕ) a + (![1, 1408] : Fin 2 → ℕ) a ≤ (⟨2, ![n, 1408]⟩ : Shape).size a) (l : Fin 1408) :
    (ix2 ⟨q, hq⟩ l : (⟨2, ![n, 1408]⟩ : Shape).Idx) ∉ (Rect.unit (s := ⟨2, ![n, 1408]⟩) ![k, 0] ![1, 1408] inb).set := by
  intro h
  obtain ⟨x, hx⟩ := (Rect.unit (s := ⟨2, ![n, 1408]⟩) ![k, 0] ![1, 1408] inb).exists_idx_of_mem h
  have h0 : k + 1 * (x 0).val = q := congrArg Fin.val (congrFun hx 0)
  have h1 : (x 0).val < 1 := (x 0).isLt
  omega
theorem canon_hit {k : ℕ} (hk : k < 8) (inb : ∀ a, (![k, 0] : Fin 2 → ℕ) a + (![1, 1408] : Fin 2 → ℕ) a ≤ S8x1408.size a)
    (w : (Rect.unit (s := S8x1408) ![k, 0] ![1, 1408] inb).shape.Idx → Elt Ideal .f32) (L : List (View.Piece (Elt Ideal) S8x1408 .f32)) (l : Fin 1408) :
    View.canon (⟨Rect.unit (s := S8x1408) ![k, 0] ![1, 1408] inb, w⟩ :: L) (ix2 ⟨k, hk⟩ l) = w (ix2 0 l) := by
  refine (congrArg (View.canon _) (row_at k hk inb l).symm).trans ?_
  exact View.canon_cons_emb (Rect.unit (s := S8x1408) ![k, 0] ![1, 1408] inb) w L (ix2 0 l)
theorem canon_miss {k q : ℕ} (hq : q < 8) (hn : q ≠ k) (inb : ∀ a, (![k, 0] : Fin 2 → ℕ) a + (![1, 1408] : Fin 2 → ℕ) a ≤ S8x1408.size a)
    (w : (Rect.unit (s := S8x1408) ![k, 0] ![1, 1408] inb).shape.Idx → Elt Ideal .f32) (L : List (View.Piece (Elt Ideal) S8x1408 .f32)) (l : Fin 1408) :
    View.canon (⟨Rect.unit (s := S8x1408) ![k, 0] ![1, 1408] inb, w⟩ :: L) (ix2 ⟨q, hq⟩ l) = View.canon L (ix2 ⟨q, hq⟩ l) :=
  View.canon_cons_of_not_mem ⟨Rect.unit (s := S8x1408) ![k, 0] ![1, 1408] inb, w⟩ L (row_not_mem hq hn inb l)
theorem read_hit {m : View sig .tc .vmem S8x1408 .f32} {f : m.ty.Contents (Elt Ideal)} {k : ℕ} (hk : k < 8) (inb : ∀ a, (![k, 0] : Fin 2 → ℕ) a + (![1, 1408] : Fin 2 → ℕ) a ≤ S8x1408.size a)
    (w : (Rect.unit (s := S8x1408) ![k, 0] ![1, 1408] inb).shape.Idx → Elt Ideal .f32) (L : List (View.Piece (Elt Ideal) S8x1408 .f32)) (l : Fin 1408) :
    m.read (Elt Ideal) (m.writes (Elt Ideal) f (⟨Rect.unit (s := S8x1408) ![k, 0] ![1, 1408] inb, w⟩ :: L)) (ix2 ⟨k, hk⟩ l) = w (ix2 0 l) := by
  refine (congrArg _ (row_at k hk inb l).symm).trans ?_
  exact View.read_writes_cons_emb m f (Rect.unit (s := S8x1408) ![k, 0] ![1, 1408] inb) w L (ix2 0 l)
theorem read_miss {m : View sig .tc .vmem S8x1408 .f32} {f : m.ty.Contents (Elt Ideal)} {k q : ℕ} (hq : q < 8) (hn : q ≠ k) (inb : ∀ a, (![k, 0] : Fin 2 → ℕ) a + (![1, 1408] : Fin 2 → ℕ) a ≤ S8x1408.size a)
    (w : (Rect.unit (s := S8x1408) ![k, 0] ![1, 1408] inb).shape.Idx → Elt Ideal .f32) (L : List (View.Piece (Elt Ideal) S8x1408 .f32)) (l : Fin 1408) :
    m.read (Elt Ideal) (m.writes (Elt Ideal) f (⟨Rect.unit (s := S8x1408) ![k, 0] ![1, 1408] inb, w⟩ :: L)) (ix2 ⟨q, hq⟩ l)
      = m.read (Elt Ideal) (m.writes (Elt Ideal) f L) (ix2 ⟨q, hq⟩ l) := by
  refine View.read_writes_cons_unit_of_not_mem m f inb w L _ rfl 0 ?_
  show q < k ∨ k + 1 ≤ q
  omega
theorem cov_miss (m : View sig .tc .vmem S8x1408 .f32) {k q : ℕ} (hq : q < 8) (hn : q ≠ k) (inb : ∀ a, (![k, 0] : Fin 2 → ℕ) a + (![1, 1408] : Fin 2 → ℕ) a ≤ S8x1408.size a)
    (inb' : ∀ a, (![q, 0] : Fin 2 → ℕ) a + (![1, 1408] : Fin 2 → ℕ) a ≤ S8x1408.size a)
    (w : (Rect.unit (s := S8x1408) ![k, 0] ![1, 1408] inb).shape.Idx → Elt Ideal .f32) (L : List (View.Piece (Elt Ideal) S8x1408 .f32)) (l : Fin 1408) :
    m.readCov (⟨Rect.unit (s := S8x1408) ![k, 0] ![1, 1408] inb, w⟩ :: L) (Rect.unit (s := S8x1408) ![q, 0] ![1, 1408] inb').toLoadRect (ix2 0 l)
      = m.readCov L (Rect.unit (s := S8x1408) ![q, 0] ![1, 1408] inb').toLoadRect (ix2 0 l) := by
  rw [View.readCov_eq_canon', View.readCov_eq_canon']
  have h := row_at q hq inb' l
  refine (congrArg (View.canon _) h).trans ((canon_miss hq hn inb w L l).trans (congrArg (View.canon L) h).symm)
theorem cov_zero (m : View sig .tc .vmem S8x1408 .f32) {q : ℕ} (hq : q < 8) (inb : ∀ a, (![0, 0] : Fin 2 → ℕ) a + S8x1408.size a ≤ S8x1408.size a)
    (inb' : ∀ a, (![q, 0] : Fin 2 → ℕ) a + (![1, 1408] : Fin 2 → ℕ) a ≤ S8x1408.size a) (l : Fin 1408) :
    View.readCov (Val := Elt Ideal) m [⟨Rect.unit (s := S8x1408) ![0, 0] S8x1408.size inb, k5_pay5 (F := Ideal)⟩] (Rect.unit (s := S8x1408) ![q, 0] ![1, 1408] inb').toLoadRect (ix2 0 l) = (0 : EReal) := by
  rw [View.readCov_eq_canon', View.canon_cons_unit_lit inb _ _ (by decide)]
  refine (congrArg (k5_pay5 (F := Ideal)) (row_at q hq inb' l)).trans ?_
  pointwise [k5_pay5]

/-! ## What a block's rows add -/

/-- The rows before, of a block; -/
abbrev P5 (t : Fin cfg5.N) : FVec Ideal S512x1408 .f32 :=
  k5_pay7 (grid5.coords t) (iblk5 V c 0 t) (View.ld (iblk5 V c 1 t) (Rect.unit (s := S16x1408) ![15, 0] ![1, 1408] inb_S16x1408_S1x1408_15_0))
/-- the rows after; -/
abbrev N5 (t : Fin cfg5.N) : FVec Ideal S512x1408 .f32 :=
  k5_pay8 (grid5.coords t) (iblk5 V c 0 t) (View.ld (iblk5 V c 2 t) (Rect.unit (s := S16x1408) ![0, 0] ![1, 1408] inb_S16x1408_S1x1408_0_0))
/-- the gradient of the value's columns; -/
abbrev G5 (t : Fin cfg5.N) : FVec Ideal S512x1408 .bf16 :=
  k5_pay14 (k5_pay6 (iblk5 V c 0 t)) (N5 V c t)
    (k5_pay9 (grid5.coords t) (iblk5 V c 0 t) (View.ld (iblk5 V c 1 t) (Rect.unit (s := S16x1408) ![15, 0] ![1, 1408] inb_S16x1408_S1x1408_15_0))
      (View.ld (iblk5 V c 4 t) (Rect.unit (s := S8x1408) ![0, 0] ![1, 1408] inb_S8x1408_S1x1408_0_0)))
    (k5_pay10 (View.ld (iblk5 V c 4 t) (Rect.unit (s := S8x1408) ![1, 0] ![1, 1408] inb_S8x1408_S1x1408_1_0)))
    (View.ld (iblk5 V c 4 t) (Rect.unit (s := S8x1408) ![2, 0] ![1, 1408] inb_S8x1408_S1x1408_2_0)) (iblk5 V c 5 t) (iblk5 V c 6 t)
/-- the gradient of the convolution's result. -/
abbrev D5 (t : Fin cfg5.N) : FVec Ideal S512x1408 .f32 :=
  k5_pay15 (k5_pay6 (iblk5 V c 0 t)) (N5 V c t)
    (k5_pay9 (grid5.coords t) (iblk5 V c 0 t) (View.ld (iblk5 V c 1 t) (Rect.unit (s := S16x1408) ![15, 0] ![1, 1408] inb_S16x1408_S1x1408_15_0))
      (View.ld (iblk5 V c 4 t) (Rect.unit (s := S8x1408) ![0, 0] ![1, 1408] inb_S8x1408_S1x1408_0_0)))
    (k5_pay10 (View.ld (iblk5 V c 4 t) (Rect.unit (s := S8x1408) ![1, 0] ![1, 1408] inb_S8x1408_S1x1408_1_0)))
    (View.ld (iblk5 V c 4 t) (Rect.unit (s := S8x1408) ![2, 0] ![1, 1408] inb_S8x1408_S1x1408_2_0)) (iblk5 V c 5 t) (iblk5 V c 6 t) (iblk5 V c 3 t)

theorem pay6_at (X : Vec Ideal S512x1408 .bf16) (r : Fin 512) (l : Fin 1408) : k5_pay6 X (ix2 r l) = X (ix2 r l) := by pointwise [k5_pay6]
theorem pay16_at (a : Vec Ideal S1x1408 .f32) (l : Fin 1408) : k5_pay16 a (ix2 0 l) = a (ix2 0 l) := by pointwise [k5_pay16]

theorem outs_c (t : Fin cfg5.N) : (outsAt5 V c t.val t.isLt).1 = D5 V c t := by
  by_cases h : t.val % 16 = 0
  · rw [outsAt5_A V c t h]; frame_out; rfl
  · rw [outsAt5_B V c t h]; frame_out; rfl
theorem outs_v (t : Fin cfg5.N) : (outsAt5 V c t.val t.isLt).2.1 = G5 V c t := by
  by_cases h : t.val % 16 = 0
  · rw [outsAt5_A V c t h]; frame_out; rfl
  · rw [outsAt5_B V c t h]; frame_out; rfl

set_option maxHeartbeats 4000000 in
theorem first0 (t : Fin cfg5.N) (h : t.val % 16 = 0) (l : Fin 1408) :
    (outsAt5 V c t.val t.isLt).2.2 (ix2 0 l) = (0 : EReal) + ∑ r : Fin 512, ((D5 V c t (ix2 r l) : EReal) * (P5 V c t (ix2 r l) : EReal)) := by
  rw [outsAt5_A V c t h]
  frame_out
  refine (canon_miss (by norm_num) (by norm_num) _ _ _ _).trans ?_
  refine (canon_miss (by norm_num) (by norm_num) _ _ _ _).trans ?_
  refine (canon_miss (by norm_num) (by norm_num) _ _ _ _).trans ?_
  refine (canon_hit (by norm_num) _ _ _ _).trans ?_
  refine (acc0_at _ _ _ _).trans ?_
  exact congrArg (· + _) ((pay16_at _ _).trans (cov_zero _ (by norm_num) _ _ _))
set_option maxHeartbeats 4000000 in
theorem later0 (t : Fin cfg5.N) (h : ¬t.val % 16 = 0) (l : Fin 1408) :
    (outsAt5 V c t.val t.isLt).2.2 (ix2 0 l) = ((outsAt5 V c (t.val - 1) (Nat.lt_of_le_of_lt (Nat.sub_le _ _) t.isLt)).2.2 (ix2 0 l) : EReal) + ∑ r : Fin 512, ((D5 V c t (ix2 r l) : EReal) * (P5 V c t (ix2 r l) : EReal)) := by
  rw [outsAt5_B V c t h]
  frame_out
  refine (read_miss (by norm_num) (by norm_num) _ _ _ _).trans ?_
  refine (read_miss (by norm_num) (by norm_num) _ _ _ _).trans ?_
  refine (read_miss (by norm_num) (by norm_num) _ _ _ _).trans ?_
  refine (read_hit (by norm_num) _ _ _ _).trans ?_
  refine (acc0_at _ _ _ _).trans ?_
  exact congrArg (· + _) ((pay16_at _ _).trans (congrArg (outsAt5 V c (t.val - 1) (Nat.lt_of_le_of_lt (Nat.sub_le _ _) t.isLt)).2.2 (row_at 0 (by norm_num) _ l)))

set_option maxHeartbeats 4000000 in
theorem first1 (t : Fin cfg5.N) (h : t.val % 16 = 0) (l : Fin 1408) :
    (outsAt5 V c t.val t.isLt).2.2 (ix2 1 l) = (0 : EReal) + ∑ r : Fin 512, ((D5 V c t (ix2 r l) : EReal) * (iblk5 V c 0 t (ix2 r l) : EReal)) := by
  rw [outsAt5_A V c t h]
  frame_out
  refine (canon_miss (by norm_num) (by norm_num) _ _ _ _).trans ?_
  refine (canon_miss (by norm_num) (by norm_num) _ _ _ _).trans ?_
  refine (canon_hit (by norm_num) _ _ _ _).trans ?_
  refine (acc1_at _ _ _ _).trans ?_
  exact congrArg (· + _) ((cov_miss _ (by norm_num) (by norm_num) _ _ _ _ _).trans (cov_zero _ (by norm_num) _ _ _))
set_option maxHeartbeats 4000000 in
theorem later1 (t : Fin cfg5.N) (h : ¬t.val % 16 = 0) (l : Fin 1408) :
    (outsAt5 V c t.val t.isLt).2.2 (ix2 1 l) = ((outsAt5 V c (t.val - 1) (Nat.lt_of_le_of_lt (Nat.sub_le _ _) t.isLt)).2.2 (ix2 1 l) : EReal) + ∑ r : Fin 512, ((D5 V c t (ix2 r l) : EReal) * (iblk5 V c 0 t (ix2 r l) : EReal)) := by
  rw [outsAt5_B V c t h]
  frame_out
  refine (read_miss (by norm_num) (by norm_num) _ _ _ _).trans ?_
  refine (read_miss (by norm_num) (by norm_num) _ _ _ _).trans ?_
  refine (read_hit (by norm_num) _ _ _ _).trans ?_
  refine (acc1_at _ _ _ _).trans ?_
  exact congrArg (· + _) ((congrArg (outsAt5 V c (t.val - 1) (Nat.lt_of_le_of_lt (Nat.sub_le _ _) t.isLt)).2.2 (row_at 1 (by norm_num) _ l)))

set_option maxHeartbeats 4000000 in
theorem first2 (t : Fin cfg5.N) (h : t.val % 16 = 0) (l : Fin 1408) :
    (outsAt5 V c t.val t.isLt).2.2 (ix2 2 l) = (0 : EReal) + ∑ r : Fin 512, ((D5 V c t (ix2 r l) : EReal) * (N5 V c t (ix2 r l) : EReal)) := by
  rw [outsAt5_A V c t h]
  frame_out
  refine (canon_miss (by norm_num) (by norm_num) _ _ _ _).trans ?_
  refine (canon_hit (by norm_num) _ _ _ _).trans ?_
  refine (acc2_at _ _ _ _).trans ?_
  exact congrArg (· + _) ((cov_miss _ (by norm_num) (by norm_num) _ _ _ _ _).trans ((cov_miss _ (by norm_num) (by norm_num) _ _ _ _ _).trans (cov_zero _ (by norm_num) _ _ _)))
set_option maxHeartbeats 4000000 in
theorem later2 (t : Fin cfg5.N) (h : ¬t.val % 16 = 0) (l : Fin 1408) :
    (outsAt5 V c t.val t.isLt).2.2 (ix2 2 l) = ((outsAt5 V c (t.val - 1) (Nat.lt_of_le_of_lt (Nat.sub_le _ _) t.isLt)).2.2 (ix2 2 l) : EReal) + ∑ r : Fin 512, ((D5 V c t (ix2 r l) : EReal) * (N5 V c t (ix2 r l) : EReal)) := by
  rw [outsAt5_B V c t h]
  frame_out
  refine (read_miss (by norm_num) (by norm_num) _ _ _ _).trans ?_
  refine (read_hit (by norm_num) _ _ _ _).trans ?_
  refine (acc2_at _ _ _ _).trans ?_
  exact congrArg (· + _) ((congrArg (outsAt5 V c (t.val - 1) (Nat.lt_of_le_of_lt (Nat.sub_le _ _) t.isLt)).2.2 (row_at 2 (by norm_num) _ l)))

set_option maxHeartbeats 4000000 in
theorem first3 (t : Fin cfg5.N) (h : t.val % 16 = 0) (l : Fin 1408) :
    (outsAt5 V c t.val t.isLt).2.2 (ix2 3 l) = (0 : EReal) + ∑ r : Fin 512, ((D5 V c t (ix2 r l) : EReal)) := by
  rw [outsAt5_A V c t h]
  frame_out
  refine (canon_hit (by norm_num) _ _ _ _).trans ?_
  refine (acc3_at _ _ _).trans ?_
  exact congrArg (· + _) ((cov_miss _ (by norm_num) (by norm_num) _ _ _ _ _).trans ((cov_miss _ (by norm_num) (by norm_num) _ _ _ _ _).trans ((cov_miss _ (by norm_num) (by norm_num) _ _ _ _ _).trans (cov_zero _ (by norm_num) _ _ _))))
set_option maxHeartbeats 4000000 in
theorem later3 (t : Fin cfg5.N) (h : ¬t.val % 16 = 0) (l : Fin 1408) :
    (outsAt5 V c t.val t.isLt).2.2 (ix2 3 l) = ((outsAt5 V c (t.val - 1) (Nat.lt_of_le_of_lt (Nat.sub_le _ _) t.isLt)).2.2 (ix2 3 l) : EReal) + ∑ r : Fin 512, ((D5 V c t (ix2 r l) : EReal)) := by
  rw [outsAt5_B V c t h]
  frame_out
  refine (read_hit (by norm_num) _ _ _ _).trans ?_
  refine (acc3_at _ _ _).trans ?_
  exact congrArg (· + _) ((congrArg (outsAt5 V c (t.val - 1) (Nat.lt_of_le_of_lt (Nat.sub_le _ _) t.isLt)).2.2 (row_at 3 (by norm_num) _ l)))

end Cert.FfnKernelIdeal.Hand

end
-- ==== Proof.FfnActBwdValue.lean ====
module

public import proofs.«01_k».proof.Proof.FfnActBwd

@[expose] public section

set_option maxRecDepth 16384

noncomputable section

namespace Cert.FfnKernelIdeal.Hand

open Idealize.ShloMosaic Idealize.ShloMosaic.TcCoe Idealize.ShloMosaic.Tactic
open Cert.FfnKernelIdeal Cert.FfnKernelIdeal.Gen Cert.Ffn
open Cert.KernelIdeal.Hand (coe_sum coe_div)

/-! # The activation's gradients over whole arrays -/

variable (V : (c : Dev nD) → (b : Ref sig .tc) → Buf (Elt Ideal) ((c : Thread nD τ).loc b)) (c : Dev nD)

theorem P5_at {up : Mat 8192 5632} (hu : Holds (V c main_v9) up) (t : Fin cfg5.N) (r : Fin 512) (l : Fin 1408) :
    P5 V c t (ix2 r l) = ((before (gateR up) (row512 (tile5 t) r) (col1408 (colb5 t) l) : ℝ) : EReal) :=
  (prev5_at _ _ _ _ _).trans (before_read (f := gateR up) (b := tile5 t) (j := col1408 (colb5 t) l) (X := fun r => iblk5 V c 0 t (ix2 r l))
    (h := View.ld (iblk5 V c 1 t) (Rect.unit (s := S16x1408) ![15, 0] ![1, 1408] inb_S16x1408_S1x1408_15_0) (ix2 0 l)) (fun r => (blk5_0_at V c t r l).trans (hu _ _))
    (fun h => (congrArg (iblk5 V c 1 t) (row_at 15 (by norm_num) _ l)).trans ((blk5_1_at V c t l h).trans (hu _ _))) r (idx5 t).2.2.2)
theorem N5_at {up : Mat 8192 5632} (hu : Holds (V c main_v9) up) (t : Fin cfg5.N) (r : Fin 512) (l : Fin 1408) :
    N5 V c t (ix2 r l) = ((after (gateR up) (row512 (tile5 t) r) (col1408 (colb5 t) l) : ℝ) : EReal) :=
  (next5_at _ _ _ _ _).trans (after_read (f := gateR up) (b := tile5 t) (j := col1408 (colb5 t) l) (X := fun r => iblk5 V c 0 t (ix2 r l))
    (h := View.ld (iblk5 V c 2 t) (Rect.unit (s := S16x1408) ![0, 0] ![1, 1408] inb_S16x1408_S1x1408_0_0) (ix2 0 l)) (fun r => (blk5_0_at V c t r l).trans (hu _ _))
    (fun h => (congrArg (iblk5 V c 2 t) (row_at 0 (by norm_num) _ l)).trans ((blk5_2_at V c t l h).trans (hu _ _))) r (idx5 t).2.2.2)

theorem C5_at {up : Mat 8192 5632} {w : Mat 3 2816} {b : Fin 2816 → ℝ} (hu : Holds (V c main_v9) up)
    (hw : ∀ (k : Fin 3) (j : Fin 2816), V c main_v3 (ix2 ⟨k.val, by have := k.isLt; omega⟩ j) = ((w k j : ℝ) : EReal)) (hb : ∀ j, V c main_v6 (ix2 0 j) = ((b j : ℝ) : EReal)) (t : Fin cfg5.N) (r : Fin 512) (l : Fin 1408) :
    k5_pay11 (k5_pay6 (iblk5 V c 0 t)) (N5 V c t)
    (k5_pay9 (grid5.coords t) (iblk5 V c 0 t) (View.ld (iblk5 V c 1 t) (Rect.unit (s := S16x1408) ![15, 0] ![1, 1408] inb_S16x1408_S1x1408_15_0))
      (View.ld (iblk5 V c 4 t) (Rect.unit (s := S8x1408) ![0, 0] ![1, 1408] inb_S8x1408_S1x1408_0_0)))
    (k5_pay10 (View.ld (iblk5 V c 4 t) (Rect.unit (s := S8x1408) ![1, 0] ![1, 1408] inb_S8x1408_S1x1408_1_0)))
    (View.ld (iblk5 V c 4 t) (Rect.unit (s := S8x1408) ![2, 0] ![1, 1408] inb_S8x1408_S1x1408_2_0)) (iblk5 V c 5 t) (ix2 r l)
      = ((convR (gateR up) w b (row512 (tile5 t) r) (col1408 (colb5 t) l) : ℝ) : EReal) := by
  have h0 : View.ld (iblk5 V c 4 t) (Rect.unit (s := S8x1408) ![0, 0] ![1, 1408] inb_S8x1408_S1x1408_0_0) (ix2 0 l) = ((w 0 (col1408 (colb5 t) l) : ℝ) : EReal) :=
    (congrArg (iblk5 V c 4 t) (row_at 0 (by norm_num) _ l)).trans ((blk5_4_at V c t 0 l).trans (hw 0 _))
  have h1 : View.ld (iblk5 V c 4 t) (Rect.unit (s := S8x1408) ![1, 0] ![1, 1408] inb_S8x1408_S1x1408_1_0) (ix2 0 l) = ((w 1 (col1408 (colb5 t) l) : ℝ) : EReal) :=
    (congrArg (iblk5 V c 4 t) (row_at 1 (by norm_num) _ l)).trans ((blk5_4_at V c t 1 l).trans (hw 1 _))
  have h2 : View.ld (iblk5 V c 4 t) (Rect.unit (s := S8x1408) ![2, 0] ![1, 1408] inb_S8x1408_S1x1408_2_0) (ix2 0 l) = ((w 2 (col1408 (colb5 t) l) : ℝ) : EReal) :=
    (congrArg (iblk5 V c 4 t) (row_at 2 (by norm_num) _ l)).trans ((blk5_4_at V c t 2 l).trans (hw 2 _))
  refine (conv5_at _ _ _ _ _ _ _ _ _ _).trans ?_
  have hp := P5_at V c hu t r l
  have hn := N5_at V c hu t r l
  unfold P5 at hp
  unfold N5 at hn
  rw [hp, hn, h0, h1, h2, (blk5_0_at V c t r l).trans (hu _ _), (blk5_5_at V c t l).trans (hb _)]
  simp only [← EReal.coe_mul, ← EReal.coe_add]
  rfl

theorem G5_at {up : Mat 8192 5632} {w : Mat 3 2816} {b : Fin 2816 → ℝ} (hu : Holds (V c main_v9) up)
    (hw : ∀ (k : Fin 3) (j : Fin 2816), V c main_v3 (ix2 ⟨k.val, by have := k.isLt; omega⟩ j) = ((w k j : ℝ) : EReal)) (hb : ∀ j, V c main_v6 (ix2 0 j) = ((b j : ℝ) : EReal)) {da : Mat 8192 2816} (hd : Holds (V c main_v12) da) (t : Fin cfg5.N) (r : Fin 512) (l : Fin 1408) :
    G5 V c t (ix2 r l) = ((dvalR (convR (gateR up) w b) da (row512 (tile5 t) r) (col1408 (colb5 t) l) : ℝ) : EReal) := by
  refine (dval_at _ _ _ _ _ _ _ _ _).trans ?_
  rw [C5_at V c hu hw hb t r l, sg_coe, (blk5_6_at V c t r l).trans (hd _ _), ← EReal.coe_mul, ← EReal.coe_mul]
  rfl

theorem D5_at {up : Mat 8192 5632} {w : Mat 3 2816} {b : Fin 2816 → ℝ} (hu : Holds (V c main_v9) up)
    (hw : ∀ (k : Fin 3) (j : Fin 2816), V c main_v3 (ix2 ⟨k.val, by have := k.isLt; omega⟩ j) = ((w k j : ℝ) : EReal)) (hb : ∀ j, V c main_v6 (ix2 0 j) = ((b j : ℝ) : EReal)) {da : Mat 8192 2816} (hd : Holds (V c main_v12) da) (t : Fin cfg5.N) (r : Fin 512) (l : Fin 1408) :
    D5 V c t (ix2 r l) = ((dconvR (convR (gateR up) w b) (valR up) da (row512 (tile5 t) r) (col1408 (colb5 t) l) : ℝ) : EReal) := by
  refine (dconv_at _ _ _ _ _ _ _ _ _ _).trans ?_
  rw [C5_at V c hu hw hb t r l, sg_coe, (blk5_6_at V c t r l).trans (hd _ _), (blk5_3_at V c t r l).trans (hu _ _)]
  rw [← EReal.coe_one]
  simp only [← EReal.coe_mul, ← EReal.coe_add, ← EReal.coe_sub]
  rfl

theorem arr5_7 {up : Mat 8192 5632} {w : Mat 3 2816} {b : Fin 2816 → ℝ} (hu : Holds (V c main_v9) up)
    (hw : ∀ (k : Fin 3) (j : Fin 2816), V c main_v3 (ix2 ⟨k.val, by have := k.isLt; omega⟩ j) = ((w k j : ℝ) : EReal)) (hb : ∀ j, V c main_v6 (ix2 0 j) = ((b j : ℝ) : EReal)) {da : Mat 8192 2816} (hd : Holds (V c main_v12) da) :
    (dat5 V c).arrAt 7 cfg5.N = arr (dconvR (convR (gateR up) w b) (valR up) da) := by
  refine Pipeline.Dat.arrAt_eq_of_covers (dat5 V c) 7 _ covers5_7 fun t hf y => ?_
  have hy : y = ix2 (y 0) (y 1) := by blk_ext
  refine Eq.trans ?_ (congrArg (arr (dconvR (convR (gateR up) w b) (valR up) da)) (emb5_7 t y)).symm
  blk_simp
  rw [after5_7, outs_c, hy]
  exact D5_at V c hu hw hb hd t (y 0) (y 1)

theorem join_hi (f v : Mat 8192 2816) (i : Fin 8192) (j : Fin 2816) : joinR f v i (hi j) = v i j := by
  unfold joinR
  rw [dif_neg (by show ¬ j.val + 2816 < 2816; omega)]
  exact congrArg (v i) (Fin.ext (by show j.val + 2816 - 2816 = j.val; omega))
theorem join_lo (f v : Mat 8192 2816) (i : Fin 8192) (j : Fin 2816) : joinR f v i (lo j) = f i j := by
  unfold joinR
  exact dif_pos j.isLt

/-- The value's columns of the joint gradient; the gate's are left as they were. -/
theorem arr5_8 {up : Mat 8192 5632} {w : Mat 3 2816} {b : Fin 2816 → ℝ} (hu : Holds (V c main_v9) up)
    (hw : ∀ (k : Fin 3) (j : Fin 2816), V c main_v3 (ix2 ⟨k.val, by have := k.isLt; omega⟩ j) = ((w k j : ℝ) : EReal)) (hb : ∀ j, V c main_v6 (ix2 0 j) = ((b j : ℝ) : EReal)) {da : Mat 8192 2816} (hd : Holds (V c main_v12) da) (i : Fin 8192) (j : Fin 2816) :
    (dat5 V c).arrAt 8 cfg5.N (ix2 i (hi j)) = ((dvalR (convR (gateR up) w b) da i j : ℝ) : EReal) := by
  refine (Pipeline.Dat.arrAt_apply_of_coversWhere (dat5 V c) 8 (arr (joinR (fun _ _ => 0) (dvalR (convR (gateR up) w b) da))) (P := fun i => 2816 ≤ (i 1).val) (fun β => 2 ≤ β 1)
    (by decide +kernel) (fun t hf y => ?_) (fun j => by blk_simp [Pipeline.Window.cell_apply]; omega) (ix2 i (hi j))).trans ?_
  · have hy : y = ix2 (y 0) (y 1) := by blk_ext
    refine Eq.trans ?_ (congrArg (arr (joinR (fun _ _ => 0) (dvalR (convR (gateR up) w b) da))) (emb5_8 t y)).symm
    blk_simp
    rw [after5_8, outs_v, hy]
    refine (G5_at V c hu hw hb hd t (y 0) (y 1)).trans (congrArg ((↑) : ℝ → EReal) (join_hi _ _ _ _).symm)
  · refine (if_pos (show 2816 ≤ j.val + 2816 by omega)).trans ?_
    exact congrArg ((↑) : ℝ → EReal) (join_hi _ _ _ _)

theorem last5 : ∀ t : Fin cfg5.N, (cfg5.win 9).flush t = true → t.val % 16 = 15 := by decide +kernel
/-- The row of grid point `t` that turn `s` of its run reads. -/
theorem rows_sum (F : Fin 8192 → ℝ) : ∑ s : Fin 16, ∑ r : Fin 512, F (row512 s r) = ∑ i, F i := by
  refine Fin.sum_mul_add_congr (f := F) fun s r hl => congrArg F (Fin.ext ?_)
  unfold row512
  show 512 * s.val + r.val = s.val * 512 + r.val
  omega

theorem add0 {up : Mat 8192 5632} {w : Mat 3 2816} {b : Fin 2816 → ℝ} (hu : Holds (V c main_v9) up)
    (hw : ∀ (k : Fin 3) (j : Fin 2816), V c main_v3 (ix2 ⟨k.val, by have := k.isLt; omega⟩ j) = ((w k j : ℝ) : EReal)) (hb : ∀ j, V c main_v6 (ix2 0 j) = ((b j : ℝ) : EReal)) {da : Mat 8192 2816} (hd : Holds (V c main_v12) da) (t : Fin cfg5.N) (l : Fin 1408) :
    ∑ r : Fin 512, ((D5 V c t (ix2 r l) : EReal) * (P5 V c t (ix2 r l) : EReal)) = ((∑ r : Fin 512, (dconvR (convR (gateR up) w b) (valR up) da) (row512 (tile5 t) r) (col1408 (colb5 t) l) * (before (gateR up)) (row512 (tile5 t) r) (col1408 (colb5 t) l) : ℝ) : EReal) :=
  sum_coe (fun r => (dconvR (convR (gateR up) w b) (valR up) da) (row512 (tile5 t) r) (col1408 (colb5 t) l) * (before (gateR up)) (row512 (tile5 t) r) (col1408 (colb5 t) l)) fun r => (congrArg₂ (· * ·) (D5_at V c hu hw hb hd t r l) (P5_at V c hu t r l)).trans (EReal.coe_mul _ _).symm
theorem sum0 {up : Mat 8192 5632} {w : Mat 3 2816} {b : Fin 2816 → ℝ} (hu : Holds (V c main_v9) up)
    (hw : ∀ (k : Fin 3) (j : Fin 2816), V c main_v3 (ix2 ⟨k.val, by have := k.isLt; omega⟩ j) = ((w k j : ℝ) : EReal)) (hb : ∀ j, V c main_v6 (ix2 0 j) = ((b j : ℝ) : EReal)) {da : Mat 8192 2816} (hd : Holds (V c main_v12) da) (t : Fin cfg5.N) (hf : t.val % 16 = 15) (l : Fin 1408) :
    (outsAt5 V c t.val t.isLt).2.2 (ix2 0 l) = ((colSum (fun i j => dconvR (convR (gateR up) w b) (valR up) da i j * before (gateR up) i j) (col1408 (colb5 t) l) : ℝ) : EReal) := by
  have h := Pipeline.eq_sum_fin_of_reset_step_apply_of_flush (fun n h l => (outsAt5 V c n h).2.2 (ix2 0 l)) 16 (fun _ => (0 : EReal)) (fun t l => ∑ r : Fin 512, ((D5 V c t (ix2 r l) : EReal) * (P5 V c t (ix2 r l) : EReal)))
    (fun t h l => first0 V c t h l) (fun t h l => later0 V c t h l) t hf l
  refine h.trans ?_
  rw [zero_add]
  refine (sum_coe (fun s => ∑ r : Fin 512, (fun i => (dconvR (convR (gateR up) w b) (valR up) da) i (col1408 (colb5 t) l) * (before (gateR up)) i (col1408 (colb5 t) l)) (row512 s r)) fun s => ?_).trans (congrArg ((↑) : ℝ → EReal) (rows_sum fun i => (dconvR (convR (gateR up) w b) (valR up) da) i (col1408 (colb5 t) l) * (before (gateR up)) i (col1408 (colb5 t) l)))
  refine (add0 V c hu hw hb hd _ l).trans ?_
  have e0 : tile5 ⟨16 * (t.val / 16) + s.val, Pipeline.run_point_lt_of_flush t hf s⟩ = s := Fin.ext (by show (16 * (t.val / 16) + s.val) % 16 = s.val; have := s.isLt; omega)
  have e1 : colb5 ⟨16 * (t.val / 16) + s.val, Pipeline.run_point_lt_of_flush t hf s⟩ = colb5 t := Fin.ext (by show (16 * (t.val / 16) + s.val) / 16 = t.val / 16; have := s.isLt; omega)
  rw [e0, e1]
theorem arr5_9_0 {up : Mat 8192 5632} {w : Mat 3 2816} {b : Fin 2816 → ℝ} (hu : Holds (V c main_v9) up)
    (hw : ∀ (k : Fin 3) (j : Fin 2816), V c main_v3 (ix2 ⟨k.val, by have := k.isLt; omega⟩ j) = ((w k j : ℝ) : EReal)) (hb : ∀ j, V c main_v6 (ix2 0 j) = ((b j : ℝ) : EReal)) {da : Mat 8192 2816} (hd : Holds (V c main_v12) da) (j : Fin 2816) :
    (dat5 V c).arrAt 9 cfg5.N (ix2 0 j) = ((colSum (fun i j => dconvR (convR (gateR up) w b) (valR up) da i j * before (gateR up) i j) j : ℝ) : EReal) := by
  refine (Pipeline.Dat.arrAt_forall_of_covers (dat5 V c) 9 (fun i v => (i 0).val = 0 → v = ((colSum (fun i j => dconvR (convR (gateR up) w b) (valR up) da i j * before (gateR up) i j) (i 1) : ℝ) : EReal)) covers5_9 (fun t hf y => ?_) (ix2 0 j)) rfl
  refine Eq.subst (motive := fun i => (i 0).val = 0 → _ = ((colSum (fun i j => dconvR (convR (gateR up) w b) (valR up) da i j * before (gateR up) i j) (i 1) : ℝ) : EReal)) (emb5_9 t y).symm fun hk => ?_
  have h0 : (show Fin 8 from y 0) = 0 := Fin.ext hk
  have hy : y = ix2 0 (y 1) := (show y = ix2 (y 0) (y 1) by blk_ext).trans (congrArg (fun q : Fin 8 => (ix2 q (y 1) : S8x1408.Idx)) h0)
  blk_simp
  rw [after5_9, hy]
  exact sum0 V c hu hw hb hd t (last5 t hf) (y 1)

theorem add1 {up : Mat 8192 5632} {w : Mat 3 2816} {b : Fin 2816 → ℝ} (hu : Holds (V c main_v9) up)
    (hw : ∀ (k : Fin 3) (j : Fin 2816), V c main_v3 (ix2 ⟨k.val, by have := k.isLt; omega⟩ j) = ((w k j : ℝ) : EReal)) (hb : ∀ j, V c main_v6 (ix2 0 j) = ((b j : ℝ) : EReal)) {da : Mat 8192 2816} (hd : Holds (V c main_v12) da) (t : Fin cfg5.N) (l : Fin 1408) :
    ∑ r : Fin 512, ((D5 V c t (ix2 r l) : EReal) * (iblk5 V c 0 t (ix2 r l) : EReal)) = ((∑ r : Fin 512, (dconvR (convR (gateR up) w b) (valR up) da) (row512 (tile5 t) r) (col1408 (colb5 t) l) * (gateR up) (row512 (tile5 t) r) (col1408 (colb5 t) l) : ℝ) : EReal) :=
  sum_coe (fun r => (dconvR (convR (gateR up) w b) (valR up) da) (row512 (tile5 t) r) (col1408 (colb5 t) l) * (gateR up) (row512 (tile5 t) r) (col1408 (colb5 t) l)) fun r => (congrArg₂ (· * ·) (D5_at V c hu hw hb hd t r l) ((fun t r l => (blk5_0_at V c t r l).trans (hu _ _)) t r l)).trans (EReal.coe_mul _ _).symm
theorem sum1 {up : Mat 8192 5632} {w : Mat 3 2816} {b : Fin 2816 → ℝ} (hu : Holds (V c main_v9) up)
    (hw : ∀ (k : Fin 3) (j : Fin 2816), V c main_v3 (ix2 ⟨k.val, by have := k.isLt; omega⟩ j) = ((w k j : ℝ) : EReal)) (hb : ∀ j, V c main_v6 (ix2 0 j) = ((b j : ℝ) : EReal)) {da : Mat 8192 2816} (hd : Holds (V c main_v12) da) (t : Fin cfg5.N) (hf : t.val % 16 = 15) (l : Fin 1408) :
    (outsAt5 V c t.val t.isLt).2.2 (ix2 1 l) = ((colSum (fun i j => dconvR (convR (gateR up) w b) (valR up) da i j * gateR up i j) (col1408 (colb5 t) l) : ℝ) : EReal) := by
  have h := Pipeline.eq_sum_fin_of_reset_step_apply_of_flush (fun n h l => (outsAt5 V c n h).2.2 (ix2 1 l)) 16 (fun _ => (0 : EReal)) (fun t l => ∑ r : Fin 512, ((D5 V c t (ix2 r l) : EReal) * (iblk5 V c 0 t (ix2 r l) : EReal)))
    (fun t h l => first1 V c t h l) (fun t h l => later1 V c t h l) t hf l
  refine h.trans ?_
  rw [zero_add]
  refine (sum_coe (fun s => ∑ r : Fin 512, (fun i => (dconvR (convR (gateR up) w b) (valR up) da) i (col1408 (colb5 t) l) * (gateR up) i (col1408 (colb5 t) l)) (row512 s r)) fun s => ?_).trans (congrArg ((↑) : ℝ → EReal) (rows_sum fun i => (dconvR (convR (gateR up) w b) (valR up) da) i (col1408 (colb5 t) l) * (gateR up) i (col1408 (colb5 t) l)))
  refine (add1 V c hu hw hb hd _ l).trans ?_
  have e0 : tile5 ⟨16 * (t.val / 16) + s.val, Pipeline.run_point_lt_of_flush t hf s⟩ = s := Fin.ext (by show (16 * (t.val / 16) + s.val) % 16 = s.val; have := s.isLt; omega)
  have e1 : colb5 ⟨16 * (t.val / 16) + s.val, Pipeline.run_point_lt_of_flush t hf s⟩ = colb5 t := Fin.ext (by show (16 * (t.val / 16) + s.val) / 16 = t.val / 16; have := s.isLt; omega)
  rw [e0, e1]
theorem arr5_9_1 {up : Mat 8192 5632} {w : Mat 3 2816} {b : Fin 2816 → ℝ} (hu : Holds (V c main_v9) up)
    (hw : ∀ (k : Fin 3) (j : Fin 2816), V c main_v3 (ix2 ⟨k.val, by have := k.isLt; omega⟩ j) = ((w k j : ℝ) : EReal)) (hb : ∀ j, V c main_v6 (ix2 0 j) = ((b j : ℝ) : EReal)) {da : Mat 8192 2816} (hd : Holds (V c main_v12) da) (j : Fin 2816) :
    (dat5 V c).arrAt 9 cfg5.N (ix2 1 j) = ((colSum (fun i j => dconvR (convR (gateR up) w b) (valR up) da i j * gateR up i j) j : ℝ) : EReal) := by
  refine (Pipeline.Dat.arrAt_forall_of_covers (dat5 V c) 9 (fun i v => (i 0).val = 1 → v = ((colSum (fun i j => dconvR (convR (gateR up) w b) (valR up) da i j * gateR up i j) (i 1) : ℝ) : EReal)) covers5_9 (fun t hf y => ?_) (ix2 1 j)) rfl
  refine Eq.subst (motive := fun i => (i 0).val = 1 → _ = ((colSum (fun i j => dconvR (convR (gateR up) w b) (valR up) da i j * gateR up i j) (i 1) : ℝ) : EReal)) (emb5_9 t y).symm fun hk => ?_
  have h0 : (show Fin 8 from y 0) = 1 := Fin.ext hk
  have hy : y = ix2 1 (y 1) := (show y = ix2 (y 0) (y 1) by blk_ext).trans (congrArg (fun q : Fin 8 => (ix2 q (y 1) : S8x1408.Idx)) h0)
  blk_simp
  rw [after5_9, hy]
  exact sum1 V c hu hw hb hd t (last5 t hf) (y 1)

theorem add2 {up : Mat 8192 5632} {w : Mat 3 2816} {b : Fin 2816 → ℝ} (hu : Holds (V c main_v9) up)
    (hw : ∀ (k : Fin 3) (j : Fin 2816), V c main_v3 (ix2 ⟨k.val, by have := k.isLt; omega⟩ j) = ((w k j : ℝ) : EReal)) (hb : ∀ j, V c main_v6 (ix2 0 j) = ((b j : ℝ) : EReal)) {da : Mat 8192 2816} (hd : Holds (V c main_v12) da) (t : Fin cfg5.N) (l : Fin 1408) :
    ∑ r : Fin 512, ((D5 V c t (ix2 r l) : EReal) * (N5 V c t (ix2 r l) : EReal)) = ((∑ r : Fin 512, (dconvR (convR (gateR up) w b) (valR up) da) (row512 (tile5 t) r) (col1408 (colb5 t) l) * (after (gateR up)) (row512 (tile5 t) r) (col1408 (colb5 t) l) : ℝ) : EReal) :=
  sum_coe (fun r => (dconvR (convR (gateR up) w b) (valR up) da) (row512 (tile5 t) r) (col1408 (colb5 t) l) * (after (gateR up)) (row512 (tile5 t) r) (col1408 (colb5 t) l)) fun r => (congrArg₂ (· * ·) (D5_at V c hu hw hb hd t r l) (N5_at V c hu t r l)).trans (EReal.coe_mul _ _).symm
theorem sum2 {up : Mat 8192 5632} {w : Mat 3 2816} {b : Fin 2816 → ℝ} (hu : Holds (V c main_v9) up)
    (hw : ∀ (k : Fin 3) (j : Fin 2816), V c main_v3 (ix2 ⟨k.val, by have := k.isLt; omega⟩ j) = ((w k j : ℝ) : EReal)) (hb : ∀ j, V c main_v6 (ix2 0 j) = ((b j : ℝ) : EReal)) {da : Mat 8192 2816} (hd : Holds (V c main_v12) da) (t : Fin cfg5.N) (hf : t.val % 16 = 15) (l : Fin 1408) :
    (outsAt5 V c t.val t.isLt).2.2 (ix2 2 l) = ((colSum (fun i j => dconvR (convR (gateR up) w b) (valR up) da i j * after (gateR up) i j) (col1408 (colb5 t) l) : ℝ) : EReal) := by
  have h := Pipeline.eq_sum_fin_of_reset_step_apply_of_flush (fun n h l => (outsAt5 V c n h).2.2 (ix2 2 l)) 16 (fun _ => (0 : EReal)) (fun t l => ∑ r : Fin 512, ((D5 V c t (ix2 r l) : EReal) * (N5 V c t (ix2 r l) : EReal)))
    (fun t h l => first2 V c t h l) (fun t h l => later2 V c t h l) t hf l
  refine h.trans ?_
  rw [zero_add]
  refine (sum_coe (fun s => ∑ r : Fin 512, (fun i => (dconvR (convR (gateR up) w b) (valR up) da) i (col1408 (colb5 t) l) * (after (gateR up)) i (col1408 (colb5 t) l)) (row512 s r)) fun s => ?_).trans (congrArg ((↑) : ℝ → EReal) (rows_sum fun i => (dconvR (convR (gateR up) w b) (valR up) da) i (col1408 (colb5 t) l) * (after (gateR up)) i (col1408 (colb5 t) l)))
  refine (add2 V c hu hw hb hd _ l).trans ?_
  have e0 : tile5 ⟨16 * (t.val / 16) + s.val, Pipeline.run_point_lt_of_flush t hf s⟩ = s := Fin.ext (by show (16 * (t.val / 16) + s.val) % 16 = s.val; have := s.isLt; omega)
  have e1 : colb5 ⟨16 * (t.val / 16) + s.val, Pipeline.run_point_lt_of_flush t hf s⟩ = colb5 t := Fin.ext (by show (16 * (t.val / 16) + s.val) / 16 = t.val / 16; have := s.isLt; omega)
  rw [e0, e1]
theorem arr5_9_2 {up : Mat 8192 5632} {w : Mat 3 2816} {b : Fin 2816 → ℝ} (hu : Holds (V c main_v9) up)
    (hw : ∀ (k : Fin 3) (j : Fin 2816), V c main_v3 (ix2 ⟨k.val, by have := k.isLt; omega⟩ j) = ((w k j : ℝ) : EReal)) (hb : ∀ j, V c main_v6 (ix2 0 j) = ((b j : ℝ) : EReal)) {da : Mat 8192 2816} (hd : Holds (V c main_v12) da) (j : Fin 2816) :
    (dat5 V c).arrAt 9 cfg5.N (ix2 2 j) = ((colSum (fun i j => dconvR (convR (gateR up) w b) (valR up) da i j * after (gateR up) i j) j : ℝ) : EReal) := by
  refine (Pipeline.Dat.arrAt_forall_of_covers (dat5 V c) 9 (fun i v => (i 0).val = 2 → v = ((colSum (fun i j => dconvR (convR (gateR up) w b) (valR up) da i j * after (gateR up) i j) (i 1) : ℝ) : EReal)) covers5_9 (fun t hf y => ?_) (ix2 2 j)) rfl
  refine Eq.subst (motive := fun i => (i 0).val = 2 → _ = ((colSum (fun i j => dconvR (convR (gateR up) w b) (valR up) da i j * after (gateR up) i j) (i 1) : ℝ) : EReal)) (emb5_9 t y).symm fun hk => ?_
  have h0 : (show Fin 8 from y 0) = 2 := Fin.ext hk
  have hy : y = ix2 2 (y 1) := (show y = ix2 (y 0) (y 1) by blk_ext).trans (congrArg (fun q : Fin 8 => (ix2 q (y 1) : S8x1408.Idx)) h0)
  blk_simp
  rw [after5_9, hy]
  exact sum2 V c hu hw hb hd t (last5 t hf) (y 1)

theorem add3 {up : Mat 8192 5632} {w : Mat 3 2816} {b : Fin 2816 → ℝ} (hu : Holds (V c main_v9) up)
    (hw : ∀ (k : Fin 3) (j : Fin 2816), V c main_v3 (ix2 ⟨k.val, by have := k.isLt; omega⟩ j) = ((w k j : ℝ) : EReal)) (hb : ∀ j, V c main_v6 (ix2 0 j) = ((b j : ℝ) : EReal)) {da : Mat 8192 2816} (hd : Holds (V c main_v12) da) (t : Fin cfg5.N) (l : Fin 1408) :
    ∑ r : Fin 512, ((D5 V c t (ix2 r l) : EReal)) = ((∑ r : Fin 512, (dconvR (convR (gateR up) w b) (valR up) da) (row512 (tile5 t) r) (col1408 (colb5 t) l) : ℝ) : EReal) :=
  sum_coe (fun r => (dconvR (convR (gateR up) w b) (valR up) da) (row512 (tile5 t) r) (col1408 (colb5 t) l)) fun r => D5_at V c hu hw hb hd t r l
theorem sum3 {up : Mat 8192 5632} {w : Mat 3 2816} {b : Fin 2816 → ℝ} (hu : Holds (V c main_v9) up)
    (hw : ∀ (k : Fin 3) (j : Fin 2816), V c main_v3 (ix2 ⟨k.val, by have := k.isLt; omega⟩ j) = ((w k j : ℝ) : EReal)) (hb : ∀ j, V c main_v6 (ix2 0 j) = ((b j : ℝ) : EReal)) {da : Mat 8192 2816} (hd : Holds (V c main_v12) da) (t : Fin cfg5.N) (hf : t.val % 16 = 15) (l : Fin 1408) :
    (outsAt5 V c t.val t.isLt).2.2 (ix2 3 l) = ((colSum (fun i j => dconvR (convR (gateR up) w b) (valR up) da i j) (col1408 (colb5 t) l) : ℝ) : EReal) := by
  have h := Pipeline.eq_sum_fin_of_reset_step_apply_of_flush (fun n h l => (outsAt5 V c n h).2.2 (ix2 3 l)) 16 (fun _ => (0 : EReal)) (fun t l => ∑ r : Fin 512, ((D5 V c t (ix2 r l) : EReal)))
    (fun t h l => first3 V c t h l) (fun t h l => later3 V c t h l) t hf l
  refine h.trans ?_
  rw [zero_add]
  refine (sum_coe (fun s => ∑ r : Fin 512, (fun i => (dconvR (convR (gateR up) w b) (valR up) da) i (col1408 (colb5 t) l)) (row512 s r)) fun s => ?_).trans (congrArg ((↑) : ℝ → EReal) (rows_sum fun i => (dconvR (convR (gateR up) w b) (valR up) da) i (col1408 (colb5 t) l)))
  refine (add3 V c hu hw hb hd _ l).trans ?_
  have e0 : tile5 ⟨16 * (t.val / 16) + s.val, Pipeline.run_point_lt_of_flush t hf s⟩ = s := Fin.ext (by show (16 * (t.val / 16) + s.val) % 16 = s.val; have := s.isLt; omega)
  have e1 : colb5 ⟨16 * (t.val / 16) + s.val, Pipeline.run_point_lt_of_flush t hf s⟩ = colb5 t := Fin.ext (by show (16 * (t.val / 16) + s.val) / 16 = t.val / 16; have := s.isLt; omega)
  rw [e0, e1]
theorem arr5_9_3 {up : Mat 8192 5632} {w : Mat 3 2816} {b : Fin 2816 → ℝ} (hu : Holds (V c main_v9) up)
    (hw : ∀ (k : Fin 3) (j : Fin 2816), V c main_v3 (ix2 ⟨k.val, by have := k.isLt; omega⟩ j) = ((w k j : ℝ) : EReal)) (hb : ∀ j, V c main_v6 (ix2 0 j) = ((b j : ℝ) : EReal)) {da : Mat 8192 2816} (hd : Holds (V c main_v12) da) (j : Fin 2816) :
    (dat5 V c).arrAt 9 cfg5.N (ix2 3 j) = ((colSum (fun i j => dconvR (convR (gateR up) w b) (valR up) da i j) j : ℝ) : EReal) := by
  refine (Pipeline.Dat.arrAt_forall_of_covers (dat5 V c) 9 (fun i v => (i 0).val = 3 → v = ((colSum (fun i j => dconvR (convR (gateR up) w b) (valR up) da i j) (i 1) : ℝ) : EReal)) covers5_9 (fun t hf y => ?_) (ix2 3 j)) rfl
  refine Eq.subst (motive := fun i => (i 0).val = 3 → _ = ((colSum (fun i j => dconvR (convR (gateR up) w b) (valR up) da i j) (i 1) : ℝ) : EReal)) (emb5_9 t y).symm fun hk => ?_
  have h0 : (show Fin 8 from y 0) = 3 := Fin.ext hk
  have hy : y = ix2 3 (y 1) := (show y = ix2 (y 0) (y 1) by blk_ext).trans (congrArg (fun q : Fin 8 => (ix2 q (y 1) : S8x1408.Idx)) h0)
  blk_simp
  rw [after5_9, hy]
  exact sum3 V c hu hw hb hd t (last5 t hf) (y 1)

end Cert.FfnKernelIdeal.Hand

end
-- ==== Proof.FfnGate.lean ====
module

public import proofs.«01_k».proof.Proof.FfnActBwdValue

@[expose] public section

set_option maxRecDepth 16384

noncomputable section

namespace Cert.FfnKernelIdeal.Hand

open Idealize.ShloMosaic Idealize.ShloMosaic.TcCoe Idealize.ShloMosaic.Tactic
open Cert.FfnKernelIdeal Cert.FfnKernelIdeal.Gen Cert.Ffn
open Cert.KernelIdeal.Hand (coe_sum coe_div)

/-! # The convolution run backward: the gradient of the gate's columns, put beside the value's -/

variable (V : (c : Dev nD) → (b : Ref sig .tc) → Buf (Elt Ideal) ((c : Thread nD τ).loc b)) (c : Dev nD)

theorem idx6 : ∀ t : Fin cfg6.N, (win6_0.index t = ![t.val / 2, t.val % 2] ∧ win6_1.index t = ![64 * (t.val / 2) - 1, t.val % 2]
    ∧ win6_2.index t = ![min (64 * (t.val / 2 + 1)) 1023, t.val % 2]) ∧ win6_3.index t = ![0, t.val % 2] ∧ win6_4.index t = ![t.val / 2, t.val % 2]
    ∧ ((grid6.coords t) 0).val = t.val / 2 :=
  (by decide +kernel : ∀ t : Fin grid6.N, _)
/-- The block of rows, -/
def tile6 (t : Fin cfg6.N) : Fin 16 := ⟨t.val / 2, by have : t.val < 32 := t.isLt; omega⟩
/-- the block of columns. -/
def colb6 (t : Fin cfg6.N) : Fin 2 := ⟨t.val % 2, by omega⟩

theorem blk6_0_at (t : Fin cfg6.N) (r : Fin 512) (l : Fin 1408) :
    iblk6 V c 0 t (ix2 r l) = V c main_v13_0 (ix2 (row512 (tile6 t) r) (col1408 (colb6 t) l)) := by
  unfold iblk6 row512 tile6 col1408 colb6
  blk_ext [(idx6 t).1.1]
theorem blk6_1_at (t : Fin cfg6.N) (l : Fin 1408) (h : (tile6 t).val ≠ 0) :
    iblk6 V c 1 t (ix2 7 l) = V c main_v13_0 (ix2 ⟨512 * (tile6 t).val - 1, by have := (tile6 t).isLt; omega⟩ (col1408 (colb6 t) l)) := by
  unfold tile6 at h
  simp only [] at h
  unfold iblk6 tile6 col1408 colb6
  blk_ext [(idx6 t).1.2.1]
theorem blk6_2_at (t : Fin cfg6.N) (l : Fin 1408) (h : (tile6 t).val ≠ 15) :
    iblk6 V c 2 t (ix2 0 l) = V c main_v13_0 (ix2 ⟨512 * ((tile6 t).val + 1), by have := (tile6 t).isLt; omega⟩ (col1408 (colb6 t) l)) := by
  have ht : t.val < 32 := t.isLt
  unfold tile6 at h
  simp only [] at h
  unfold iblk6 tile6 col1408 colb6
  blk_ext [(idx6 t).1.2.2]
theorem blk6_3_at (t : Fin cfg6.N) (k : Fin 8) (l : Fin 1408) :
    iblk6 V c 3 t (ix2 k l) = V c main_v3 (ix2 k (col1408 (colb6 t) l)) := by
  unfold iblk6 col1408 colb6
  blk_ext [(idx6 t).2.1]
theorem emb6_4 (t : Fin cfg6.N) (y : S512x1408.Idx) : (win6_4.blk t).view.emb y = ix2 (row512 (tile6 t) (y 0)) (lo (col1408 (colb6 t) (y 1))) := by
  unfold row512 tile6 col1408 colb6 lo
  blk_ext [(idx6 t).2.2.1]

theorem back_at (A B : FVec Ideal S512x1408 .f32) (r : Fin 512) (l : Fin 1408) : k6_pay1 A B (ix2 r l) = A (ix2 r l) + B (ix2 r l) := by
  pointwise [k6_pay1]
theorem later6_at (i : grid6.Coords) (X : Vec Ideal S512x1408 .f32) (h w0 w1 : Vec Ideal S1x1408 .f32) (r : Fin 512) (l : Fin 1408) :
    k6_pay3 i X h w0 w1 (ix2 r l) = w0 (ix2 0 l) * Scalar.select (IntOp.cmpi .eq (BitVec.ofNat 32 r.val) 511#32)
      (Scalar.select (Scalar.cmpi .eq (BitVec.ofNat 32 (i 0).val) 15#32) 0 (h (ix2 0 l)))
      (X (ix2 ⟨(r.val + 512 - 511) % 512, Nat.mod_lt _ (by norm_num)⟩ l)) + w1 (ix2 0 l) * X (ix2 r l) := by
  pointwise [k6_pay3, k6_pay2]
theorem earlier6_at (i : grid6.Coords) (X : Vec Ideal S512x1408 .f32) (h w2 : Vec Ideal S1x1408 .f32) (r : Fin 512) (l : Fin 1408) :
    k6_pay4 i X h w2 (ix2 r l) = w2 (ix2 0 l) * Scalar.select (IntOp.cmpi .eq (BitVec.ofNat 32 r.val) 0#32)
      (Scalar.select (Scalar.cmpi .eq (BitVec.ofNat 32 (i 0).val) 0#32) 0 (h (ix2 0 l)))
      (X (ix2 ⟨(r.val + 512 - 1) % 512, Nat.mod_lt _ (by norm_num)⟩ l)) := by
  pointwise [k6_pay4, k6_pay2]

theorem out6_at {dc : Mat 8192 2816} {w : Mat 3 2816} (hd : Holds (V c main_v13_0) dc)
    (hw : ∀ (k : Fin 3) (j : Fin 2816), V c main_v3 (ix2 ⟨k.val, by have := k.isLt; omega⟩ j) = ((w k j : ℝ) : EReal)) (t : Fin cfg6.N) (r : Fin 512) (l : Fin 1408) :
    k6_pay1 (k6_pay3 (grid6.coords t) (iblk6 V c 0 t) (View.ld (iblk6 V c 2 t) (Rect.unit (s := S8x1408) ![0, 0] ![1, 1408] inb_S8x1408_S1x1408_0_0)) (View.ld (iblk6 V c 3 t) (Rect.unit (s := S8x1408) ![0, 0] ![1, 1408] inb_S8x1408_S1x1408_0_0)) (View.ld (iblk6 V c 3 t) (Rect.unit (s := S8x1408) ![1, 0] ![1, 1408] inb_S8x1408_S1x1408_1_0)))
      (k6_pay4 (grid6.coords t) (iblk6 V c 0 t) (View.ld (iblk6 V c 1 t) (Rect.unit (s := S8x1408) ![7, 0] ![1, 1408] inb_S8x1408_S1x1408_7_0)) (View.ld (iblk6 V c 3 t) (Rect.unit (s := S8x1408) ![2, 0] ![1, 1408] inb_S8x1408_S1x1408_2_0))) (ix2 r l)
      = ((dgateR dc w (row512 (tile6 t) r) (col1408 (colb6 t) l) : ℝ) : EReal) := by
  have hn := after_read (f := dc) (b := tile6 t) (j := col1408 (colb6 t) l) (X := fun r => iblk6 V c 0 t (ix2 r l))
    (h := View.ld (iblk6 V c 2 t) (Rect.unit (s := S8x1408) ![0, 0] ![1, 1408] inb_S8x1408_S1x1408_0_0) (ix2 0 l)) (fun r => (blk6_0_at V c t r l).trans (hd _ _))
    (fun h => (congrArg (iblk6 V c 2 t) (row_at 0 (by norm_num) _ l)).trans ((blk6_2_at V c t l h).trans (hd _ _))) r (idx6 t).2.2.2
  have hp := before_read (f := dc) (b := tile6 t) (j := col1408 (colb6 t) l) (X := fun r => iblk6 V c 0 t (ix2 r l))
    (h := View.ld (iblk6 V c 1 t) (Rect.unit (s := S8x1408) ![7, 0] ![1, 1408] inb_S8x1408_S1x1408_7_0) (ix2 0 l)) (fun r => (blk6_0_at V c t r l).trans (hd _ _))
    (fun h => (congrArg (iblk6 V c 1 t) (row_at 7 (by norm_num) _ l)).trans ((blk6_1_at V c t l h).trans (hd _ _))) r (idx6 t).2.2.2
  have h0 : View.ld (iblk6 V c 3 t) (Rect.unit (s := S8x1408) ![0, 0] ![1, 1408] inb_S8x1408_S1x1408_0_0) (ix2 0 l) = ((w 0 (col1408 (colb6 t) l) : ℝ) : EReal) :=
    (congrArg (iblk6 V c 3 t) (row_at 0 (by norm_num) _ l)).trans ((blk6_3_at V c t 0 l).trans (hw 0 _))
  have h1 : View.ld (iblk6 V c 3 t) (Rect.unit (s := S8x1408) ![1, 0] ![1, 1408] inb_S8x1408_S1x1408_1_0) (ix2 0 l) = ((w 1 (col1408 (colb6 t) l) : ℝ) : EReal) :=
    (congrArg (iblk6 V c 3 t) (row_at 1 (by norm_num) _ l)).trans ((blk6_3_at V c t 1 l).trans (hw 1 _))
  have h2 : View.ld (iblk6 V c 3 t) (Rect.unit (s := S8x1408) ![2, 0] ![1, 1408] inb_S8x1408_S1x1408_2_0) (ix2 0 l) = ((w 2 (col1408 (colb6 t) l) : ℝ) : EReal) :=
    (congrArg (iblk6 V c 3 t) (row_at 2 (by norm_num) _ l)).trans ((blk6_3_at V c t 2 l).trans (hw 2 _))
  refine (back_at _ _ _ _).trans ?_
  rw [later6_at, earlier6_at, hn, hp, h0, h1, h2, (blk6_0_at V c t r l).trans (hd _ _)]
  simp only [← EReal.coe_mul, ← EReal.coe_add]
  rfl

theorem arr6 {dc : Mat 8192 2816} {w : Mat 3 2816} (hd : Holds (V c main_v13_0) dc)
    (hw : ∀ (k : Fin 3) (j : Fin 2816), V c main_v3 (ix2 ⟨k.val, by have := k.isLt; omega⟩ j) = ((w k j : ℝ) : EReal)) {dv : Mat 8192 2816} (hv : ∀ i j, V c main_v14 (ix2 i (hi j)) = ((dv i j : ℝ) : EReal)) :
    Holds ((dat6 V c).arrAt 4 cfg6.N) (joinR (dgateR dc w) dv) := by
  intro i n
  refine (Pipeline.Dat.arrAt_apply_of_coversWhere (dat6 V c) 4 (arr (joinR (dgateR dc w) dv)) (P := fun i => (i 1).val < 2816) (fun β => β 1 < 2)
    (by decide +kernel) (fun t hf y => ?_) (fun j => by blk_simp [Pipeline.Window.cell_apply]; omega) (ix2 i n)).trans ?_
  · have hy : y = ix2 (y 0) (y 1) := by blk_ext
    refine Eq.trans ?_ (congrArg (arr (joinR (dgateR dc w) dv)) (emb6_4 t y)).symm
    blk_simp
    rw [after6_4]
    unfold outsAt6
    frame_out
    rw [hy]
    exact (out6_at V c hd hw t (y 0) (y 1)).trans (congrArg ((↑) : ℝ → EReal) (join_lo _ _ _ _).symm)
  · by_cases h : n.val < 2816
    · exact if_pos h
    · refine (if_neg h).trans ?_
      have e : n = hi ⟨n.val - 2816, by have := n.isLt; omega⟩ := Fin.ext (by show n.val = n.val - 2816 + 2816; omega)
      rw [e, join_hi]
      exact hv _ _

end Cert.FfnKernelIdeal.Hand

end
-- ==== Proof.FfnNorm.lean ====
module

public import proofs.«01_k».proof.Proof.FfnActBwdValue

@[expose] public section

set_option maxRecDepth 16384

noncomputable section

namespace Cert.FfnKernelIdeal.Hand

open Idealize.ShloMosaic Idealize.ShloMosaic.TcCoe Idealize.ShloMosaic.Tactic
open Cert.FfnKernelIdeal Cert.FfnKernelIdeal.Gen Cert.Ffn
open Cert.KernelIdeal.Hand (coe_sum coe_div)

/-! # The norm's gradients -/

variable (V : (c : Dev nD) → (b : Ref sig .tc) → Buf (Elt Ideal) ((c : Thread nD τ).loc b)) (c : Dev nD)

theorem idx8 : ∀ t : Fin cfg8.N, win8_0.index t = ![t.val, 0] ∧ win8_1.index t = ![0, 0] ∧ win8_2.index t = ![t.val, 0] ∧ win8_3.index t = ![t.val, 0]
    ∧ win8_4.index t = ![t.val, 0] ∧ win8_5.index t = ![0, 0] :=
  (by decide +kernel : ∀ t : Fin grid8.N, _)
def tile8 (t : Fin cfg8.N) : Fin 16 := ⟨t.val, t.isLt⟩
theorem blk8_0_at (t : Fin cfg8.N) (r : Fin 512) (l : Fin 1024) :
    iblk8 V c 0 t (ix2 r l) = V c main_arg0 (ix2 (row512 (tile8 t) r) l) := by
  unfold iblk8 row512 tile8
  blk_ext [(idx8 t).1]
theorem blk8_2_at (t : Fin cfg8.N) (r : Fin 512) (l : Fin 1024) :
    iblk8 V c 2 t (ix2 r l) = V c main_v15 (ix2 (row512 (tile8 t) r) l) := by
  unfold iblk8 row512 tile8
  blk_ext [(idx8 t).2.2.1]
theorem blk8_3_at (t : Fin cfg8.N) (r : Fin 512) (l : Fin 1024) :
    iblk8 V c 3 t (ix2 r l) = V c main_arg6 (ix2 (row512 (tile8 t) r) l) := by
  unfold iblk8 row512 tile8
  blk_ext [(idx8 t).2.2.2.1]
theorem blk8_1_at (t : Fin cfg8.N) (l : Fin 1024) : iblk8 V c 1 t (ix2 0 l) = V c main_v16 (ix2 0 l) := by
  unfold iblk8
  blk_ext [(idx8 t).2.1]
theorem emb8_4 (t : Fin cfg8.N) (y : S512x1024.Idx) : (win8_4.blk t).view.emb y = ix2 (row512 (tile8 t) (y 0)) (y 1) := by
  unfold row512 tile8
  blk_ext [(idx8 t).2.2.2.2.1]
theorem emb8_5 (t : Fin cfg8.N) (y : S1x1024.Idx) : (win8_5.blk t).view.emb y = ix2 (y 0) (y 1) := by
  blk_ext [(idx8 t).2.2.2.2.2]
theorem covers8_4 : (cfg8.win 4).Covers := by decide +kernel
theorem covers8_5 : (cfg8.win 5).Covers := by decide +kernel
theorem last8 : ∀ t : Fin cfg8.N, (cfg8.win 5).flush t = true → t.val % 16 = 15 := by decide +kernel

theorem rinv8_at (X : Vec Ideal S512x1024 .f32) (r : Fin 512) :
    k8_pay3 X (ix2 r 0) = Ideal.rsqrt (Ideal.div (∑ e, X (ix2 r e) * X (ix2 r e)) (Ideal.ofBits .f32 0x44800000#32)
      + Ideal.ofBits .f32 0x358637BD#32) := by
  pointwise [k8_pay3]
theorem unit8_at (X : Vec Ideal S512x1024 .f32) (r : Fin 512) (d : Fin 1024) : k8_pay4 X (ix2 r d) = X (ix2 r d) * k8_pay3 X (ix2 r 0) := by
  pointwise [k8_pay4]
theorem wide8_at (X : Vec Ideal S512x1024 .f32) (r : Fin 512) (d : Fin 1024) : k8_pay8 X (ix2 r d) = k8_pay3 X (ix2 r 0) := by
  pointwise [k8_pay8]
theorem back8_at (X D : Vec Ideal S512x1024 .f32) (g : Vec Ideal S1x1024 .f32) (r : Fin 512) (d : Fin 1024) :
    k8_pay7 X D g (ix2 r d) = D (ix2 r d) * g (ix2 0 d) - k8_pay4 X (ix2 r d) *
      Ideal.div (∑ e, D (ix2 r e) * g (ix2 0 e) * k8_pay4 X (ix2 r e)) (Ideal.ofBits .f32 0x44800000#32) := by
  pointwise [k8_pay7, k8_pay5]
theorem acc8_at (X D : Vec Ideal S512x1024 .f32) (a : Vec Ideal S1x1024 .f32) (d : Fin 1024) :
    k8_pay6 X D a (ix2 0 d) = a (ix2 0 d) + ∑ r : Fin 512, D (ix2 r d) * k8_pay4 X (ix2 r d) := by
  pointwise [k8_pay6, k8_pay5]
theorem zero8_at (d : Fin 1024) : (k8_pay2 (F := Ideal)) (ix2 0 d) = (0 : EReal) := by
  pointwise [k8_pay2]
theorem dx8_at (C A B : FVec Ideal S512x1024 .f32) (r : Fin 512) (d : Fin 1024) : k8_pay1 C A B (ix2 r d) = C (ix2 r d) + B (ix2 r d) * A (ix2 r d) := by
  pointwise [k8_pay1]

theorem mul_coe {a b : EReal} {x y : ℝ} (ha : a = ((x : ℝ) : EReal)) (hb : b = ((y : ℝ) : EReal)) : a * b = ((x * y : ℝ) : EReal) := by
  rw [ha, hb]; exact (EReal.coe_mul _ _).symm
/-- The gradient read at a point, and the normed row there. -/
abbrev dh8 (t : Fin cfg8.N) (r : Fin 512) (d : Fin 1024) : EReal := iblk8 V c 2 t (ix2 r d)
abbrev u8 (t : Fin cfg8.N) (r : Fin 512) (d : Fin 1024) : EReal := k8_pay4 (iblk8 V c 0 t) (ix2 r d)

theorem R8_at {x : Mat 8192 1024} (hx : Holds (V c main_arg0) x) (t : Fin cfg8.N) (r : Fin 512) :
    k8_pay3 (iblk8 V c 0 t) (ix2 r 0) = ((rinv x (row512 (tile8 t) r) : ℝ) : EReal) := by
  refine (rinv8_at _ _).trans ?_
  rw [bits_1024, bits_eps, sum_coe (fun e => x (row512 (tile8 t) r) e * x (row512 (tile8 t) r) e) fun e => by
    rw [blk8_0_at]; exact (congrArg₂ (· * ·) (hx _ _) (hx _ _)).trans (EReal.coe_mul _ _).symm]
  rw [coe_div _ _ (by norm_num), ← EReal.coe_add]
  have hp := meanSq_pos x (row512 (tile8 t) r)
  unfold meanSq at hp
  rw [coe_rsqrt _ hp]
  rfl
theorem U8_at {x : Mat 8192 1024} (hx : Holds (V c main_arg0) x) (t : Fin cfg8.N) (r : Fin 512) (d : Fin 1024) :
    k8_pay4 (iblk8 V c 0 t) (ix2 r d) = ((x (row512 (tile8 t) r) d * rinv x (row512 (tile8 t) r) : ℝ) : EReal) := by
  exact (unit8_at _ _ _).trans (mul_coe ((blk8_0_at V c t r d).trans (hx _ _)) (R8_at V c hx t r))

theorem out8_at {x dh ct : Mat 8192 1024} {g : Fin 1024 → ℝ} (hx : Holds (V c main_arg0) x) (hg : ∀ d, V c main_v16 (ix2 0 d) = ((g d : ℝ) : EReal))
    (hh : Holds (V c main_v15) dh) (hc : Holds (V c main_arg6) ct) (t : Fin cfg8.N) (r : Fin 512) (d : Fin 1024) :
    k8_pay1 (iblk8 V c 3 t) (k8_pay7 (iblk8 V c 0 t) (iblk8 V c 2 t) (iblk8 V c 1 t)) (k8_pay8 (iblk8 V c 0 t)) (ix2 r d)
      = ((dxR x g dh ct (row512 (tile8 t) r) d : ℝ) : EReal) := by
  have hd : ∀ d, iblk8 V c 2 t (ix2 r d) = ((dh (row512 (tile8 t) r) d : ℝ) : EReal) := fun d => (blk8_2_at V c t r d).trans (hh _ _)
  have hgg : ∀ d, iblk8 V c 1 t (ix2 0 d) = ((g d : ℝ) : EReal) := fun d => (blk8_1_at V c t d).trans (hg _)
  have hct : iblk8 V c 3 t (ix2 r d) = ((ct (row512 (tile8 t) r) d : ℝ) : EReal) := (blk8_3_at V c t r d).trans (hc _ _)
  refine (dx8_at _ _ _ _ _).trans ?_
  rw [wide8_at, R8_at V c hx t r, back8_at, bits_1024, U8_at V c hx t r d]
  rw [sum_coe (fun e => dh (row512 (tile8 t) r) e * g e * (x (row512 (tile8 t) r) e * rinv x (row512 (tile8 t) r))) fun e =>
    mul_coe (mul_coe (hd e) (hgg e)) (U8_at V c hx t r e)]
  rw [coe_div _ _ (by norm_num), hd d, hgg d, hct]
  simp only [← EReal.coe_mul, ← EReal.coe_sub, ← EReal.coe_add]
  rfl

theorem outs8_4 (t : Fin cfg8.N) : (outsAt8 V c t.val t.isLt).1 =
    k8_pay1 (iblk8 V c 3 t) (k8_pay7 (iblk8 V c 0 t) (iblk8 V c 2 t) (iblk8 V c 1 t)) (k8_pay8 (iblk8 V c 0 t)) := by
  by_cases h : t.val % 16 = 0
  · rw [outsAt8_A V c t h]; frame_out
  · rw [outsAt8_B V c t h]; frame_out

theorem arr8_4 {x dh ct : Mat 8192 1024} {g : Fin 1024 → ℝ} (hx : Holds (V c main_arg0) x) (hg : ∀ d, V c main_v16 (ix2 0 d) = ((g d : ℝ) : EReal))
    (hh : Holds (V c main_v15) dh) (hc : Holds (V c main_arg6) ct) : (dat8 V c).arrAt 4 cfg8.N = arr (dxR x g dh ct) := by
  refine Pipeline.Dat.arrAt_eq_of_covers (dat8 V c) 4 _ covers8_4 fun t hf y => ?_
  have hy : y = ix2 (y 0) (y 1) := by blk_ext
  refine Eq.trans ?_ (congrArg (arr (dxR x g dh ct)) (emb8_4 t y)).symm
  blk_simp
  rw [after8_4, outs8_4, hy]
  exact out8_at V c hx hg hh hc t (y 0) (y 1)

theorem first8 (t : Fin cfg8.N) (h : t.val % 16 = 0) (d : Fin 1024) :
    (outsAt8 V c t.val t.isLt).2 (ix2 0 d) = (0 : EReal) + ∑ r : Fin 512, (dh8 V c t r d * u8 V c t r d) := by
  rw [outsAt8_A V c t h]
  frame_out
  refine (acc8_at _ _ _ _).trans ?_
  exact congrArg (· + _) (zero8_at d)
theorem later8 (t : Fin cfg8.N) (h : ¬t.val % 16 = 0) (d : Fin 1024) :
    (outsAt8 V c t.val t.isLt).2 (ix2 0 d) = ((outsAt8 V c (t.val - 1) (Nat.lt_of_le_of_lt (Nat.sub_le _ _) t.isLt)).2 (ix2 0 d) : EReal)
      + ∑ r : Fin 512, (dh8 V c t r d * u8 V c t r d) := by
  rw [outsAt8_B V c t h]
  frame_out
  exact acc8_at _ _ _ _

theorem sum8 {x dh : Mat 8192 1024} (hx : Holds (V c main_arg0) x) (hh : Holds (V c main_v15) dh) (t : Fin cfg8.N) (hf : t.val % 16 = 15) (d : Fin 1024) :
    (outsAt8 V c t.val t.isLt).2 (ix2 0 d) = ((dnormR x dh d : ℝ) : EReal) := by
  have h := Pipeline.eq_sum_fin_of_reset_step_apply_of_flush (fun n h d => (outsAt8 V c n h).2 (ix2 0 d)) 16 (fun _ => (0 : EReal))
    (fun t d => ∑ r : Fin 512, (dh8 V c t r d * u8 V c t r d))
    (fun t h d => first8 V c t h d) (fun t h d => later8 V c t h d) t hf d
  refine h.trans ?_
  rw [zero_add]
  refine (sum_coe (fun s => ∑ r : Fin 512, (fun i => dh i d * (x i d * rinv x i)) (row512 s r)) fun s => ?_).trans
    (congrArg ((↑) : ℝ → EReal) (rows_sum fun i => dh i d * (x i d * rinv x i)))
  have e0 : tile8 ⟨16 * (t.val / 16) + s.val, Pipeline.run_point_lt_of_flush t hf s⟩ = s :=
    Fin.ext (by show 16 * (t.val / 16) + s.val = s.val; have : t.val < 16 := t.isLt; omega)
  refine sum_coe (fun r => (fun i => dh i d * (x i d * rinv x i)) (row512 s r)) fun r => ?_
  refine (mul_coe ((blk8_2_at V c _ r d).trans (hh _ _)) (U8_at V c hx _ r d)).trans ?_
  rw [e0]

theorem arr8_5 {x dh : Mat 8192 1024} (hx : Holds (V c main_arg0) x) (hh : Holds (V c main_v15) dh) (d : Fin 1024) : (dat8 V c).arrAt 5 cfg8.N (ix2 0 d) = ((dnormR x dh d : ℝ) : EReal) := by
  refine (Pipeline.Dat.arrAt_forall_of_covers (dat8 V c) 5 (fun i v => v = ((dnormR x dh (i 1) : ℝ) : EReal)) covers8_5 (fun t hf y => ?_) (ix2 0 d))
  refine Eq.subst (motive := fun i => _ = ((dnormR x dh (i 1) : ℝ) : EReal)) (emb8_5 t y).symm ?_
  have h0 : (show Fin 1 from y 0) = 0 := Subsingleton.elim _ _
  have hy : y = ix2 0 (y 1) := (show y = ix2 (y 0) (y 1) by blk_ext).trans (congrArg (fun q : Fin 1 => (ix2 q (y 1) : S1x1024.Idx)) h0)
  blk_simp
  rw [after8_5, hy]
  exact sum8 V c hx hh t (last8 t hf) (y 1)

end Cert.FfnKernelIdeal.Hand

end
-- ==== Proof.FfnKernelValue.lean ====
module

public import proofs.«01_k».proof.Proof.FfnArgs
public import proofs.«01_k».proof.Proof.FfnPad
public import proofs.«01_k».proof.Proof.FfnGate
public import proofs.«01_k».proof.Proof.FfnNorm
public import proofs.«01_k».proof.Proof.FfnRun

@[expose] public section

set_option maxRecDepth 16384

noncomputable section

namespace Cert.FfnKernelIdeal.Hand

open Idealize.ShloMosaic Idealize.ShloMosaic.TcCoe Idealize.ShloMosaic.Tactic
open Cert.FfnKernelIdeal Cert.FfnKernelIdeal.Gen Cert.Ffn
open Cert.KernelIdeal.Hand (coe_sum coe_div)

/-! # What the program leaves in its result arrays -/

variable (m : (ℓ : Loc nD τ sig) → Buf (Elt Ideal) ℓ) (ρ : Dev nD → PrngReg) (c : Dev nD)

/-- The argument arrays hold the real numbers `A`. -/
structure Reads (A : Args) : Prop where
  x : Holds (m ((c : Thread nD τ).loc main_arg0)) A.x
  g : ∀ j, m ((c : Thread nD τ).loc main_arg1) (ix1 j) = ((A.g j : ℝ) : EReal)
  wu : Holds (m ((c : Thread nD τ).loc main_arg2)) A.wu
  cw : Holds (m ((c : Thread nD τ).loc main_arg3)) A.cw
  cb : ∀ j, m ((c : Thread nD τ).loc main_arg4) (ix1 j) = ((A.cb j : ℝ) : EReal)
  wd : Holds (m ((c : Thread nD τ).loc main_arg5)) A.wd
  ct : Holds (m ((c : Thread nD τ).loc main_arg6)) A.ct

/-! ## The arrays the calls are given -/

theorem cast_2816 (X : S2816.Idx → EReal) (j : Fin 2816) : shapeCast S1x2816 X shapeCasts_S2816_S1x2816 (ix2 0 j) = X (ix1 j) := by pointwise
theorem cast_1024 (X : S1024.Idx → EReal) (j : Fin 1024) : shapeCast S1x1024 X shapeCasts_S1024_S1x1024 (ix2 0 j) = X (ix1 j) := by pointwise
theorem v1_at (i : Fin 5632) (j : Fin 1024) : W1 m ρ c (Proc.devRef .tc main_v1) (ix2 i j) = m ((c : Thread nD τ).loc main_arg2) (ix2 j i) := by
  have e : W1 m ρ c (Proc.devRef .tc main_v1) = truncf (F := Ideal) .bf16 (transpose S5632x1024 [1, 0] (m ((c : Thread nD τ).loc main_arg2)) transposes_S1024x5632_S5632x1024_1_0) bitsLt_bf16_f32 := by
    unfold W1
    after_results_simp
  rw [e]
  pointwise
theorem v2_at (i : Fin 2816) (j : Fin 1024) : W1 m ρ c (Proc.devRef .tc main_v2) (ix2 i j) = m ((c : Thread nD τ).loc main_arg5) (ix2 i j) := by
  have e : W1 m ρ c (Proc.devRef .tc main_v2) = truncf (F := Ideal) .bf16 (m ((c : Thread nD τ).loc main_arg5)) bitsLt_bf16_f32 := by
    unfold W1
    after_results_simp
  rw [e]
  pointwise
theorem v3_at (k : Fin 3) (j : Fin 2816) : W2 m ρ c (Proc.devRef .tc main_v3) (ix2 ⟨k.val, by have := k.isLt; omega⟩ j) = m ((c : Thread nD τ).loc main_arg3) (ix2 k j) := by
  have e : W2 m ρ c (Proc.devRef .tc main_v3) = pad S8x2816 ![0, 0] ![5, 0] ![0, 0] (m ((c : Thread nD τ).loc main_arg3)) (sitofp (F := Ideal) .f32 (constantI S_ 32 0#32)) pads_S3x2816_S8x2816_050_000 h_S_ := by
    unfold W2
    after_results_simp
    rfl
  exact (congrFun e _).trans (pad_inside _ _ _ _ _ k j (zero_add _).symm)
theorem v4_at (i : Fin 1024) (j : Fin 5632) : W3 m ρ c (Proc.devRef .tc main_v4) (ix2 i j) = W1 m ρ c (Proc.devRef .tc main_v1) (ix2 j i) := by
  have e : W3 m ρ c (Proc.devRef .tc main_v4) = transpose S1024x5632 [1, 0] (W1 m ρ c (Proc.devRef .tc main_v1)) transposes_S5632x1024_S1024x5632_1_0 := by
    unfold W3
    after_results_simp
  rw [e]
  pointwise
theorem v5_at (i : Fin 1024) (j : Fin 2816) : W3 m ρ c (Proc.devRef .tc main_v5) (ix2 i j) = W1 m ρ c (Proc.devRef .tc main_v2) (ix2 j i) := by
  have e : W3 m ρ c (Proc.devRef .tc main_v5) = transpose S1024x2816 [1, 0] (W1 m ρ c (Proc.devRef .tc main_v2)) transposes_S2816x1024_S1024x2816_1_0 := by
    unfold W3
    after_results_simp
  rw [e]
  pointwise
theorem v6_at (j : Fin 2816) : W3 m ρ c (Proc.devRef .tc main_v6) (ix2 0 j) = m ((c : Thread nD τ).loc main_arg4) (ix1 j) := by
  have e : W3 m ρ c (Proc.devRef .tc main_v6) = shapeCast S1x2816 (m ((c : Thread nD τ).loc main_arg4)) shapeCasts_S2816_S1x2816 := by
    unfold W3
    after_results_simp
    rfl
  exact (congrFun e _).trans (cast_2816 _ j)
theorem v7_at (j : Fin 1024) : W3 m ρ c (Proc.devRef .tc main_v7) (ix2 0 j) = m ((c : Thread nD τ).loc main_arg1) (ix1 j) := by
  have e : W3 m ρ c (Proc.devRef .tc main_v7) = shapeCast S1x1024 (m ((c : Thread nD τ).loc main_arg1)) shapeCasts_S1024_S1x1024 := by
    unfold W3
    after_results_simp
    rfl
  exact (congrFun e _).trans (cast_1024 _ j)
theorem v14_at : W10 m ρ c (Proc.devRef .tc main_v14) = W9 m ρ c (Proc.devRef .tc main_v13_1) := by
  unfold W10
  after_results_simp
  rfl
theorem v16_at (j : Fin 1024) : W13 m ρ c (Proc.devRef .tc main_v16) (ix2 0 j) = m ((c : Thread nD τ).loc main_arg1) (ix1 j) := by
  have e : W13 m ρ c (Proc.devRef .tc main_v16) = shapeCast S1x1024 (m ((c : Thread nD τ).loc main_arg1)) shapeCasts_S1024_S1x1024 := by
    unfold W13
    after_results_simp
    rw [W12_args m ρ c main_arg1 (by decide)]
    rfl
  exact (congrFun e _).trans (cast_1024 _ j)
theorem v18_at (j : Fin 1024) : W15 m ρ c (Proc.devRef .tc main_v18) (ix1 j) = W14 m ρ c (Proc.devRef .tc main_v17_1) (ix2 0 j) := by
  have e : W15 m ρ c (Proc.devRef .tc main_v18) = shapeCast S1024 (W14 m ρ c (Proc.devRef .tc main_v17_1)) shapeCasts_S1x1024_S1024 := by
    unfold W15
    after_results_simp
    rfl
  rw [e]
  pointwise
theorem v19_at (k : Fin 3) (j : Fin 2816) : W15 m ρ c (Proc.devRef .tc main_v19) (ix2 k j) = W14 m ρ c (Proc.devRef .tc main_v13_2) (ix2 ⟨k.val, by have := k.isLt; omega⟩ j) := by
  have e : W15 m ρ c (Proc.devRef .tc main_v19) = extractStridedSlice S3x2816 ![0, 0] (W14 m ρ c (Proc.devRef .tc main_v13_2)) slices_S8x2816_S3x2816_0_0 := by
    unfold W15
    after_results_simp
  rw [e]
  pointwise
theorem v21_at (j : Fin 2816) : W15 m ρ c (Proc.devRef .tc main_v21) (ix1 j) = W14 m ρ c (Proc.devRef .tc main_v13_2) (ix2 3 j) := by
  have e : W15 m ρ c (Proc.devRef .tc main_v21) = shapeCast S2816 (extractStridedSlice S1x2816 ![3, 0] (W14 m ρ c (Proc.devRef .tc main_v13_2)) slices_S8x2816_S1x2816_3_0) shapeCasts_S1x2816_S2816 := by
    unfold W15
    after_results_simp
    rfl
  rw [e]
  pointwise

/-! ## Call by call -/

variable {A : Args} (H : Reads m c A)
include H

theorem r8 : W4 m ρ c (Proc.devRef .tc main_v8) = arr A.h :=
  (W4_arr m ρ c 2).trans (arr0 (V3 m ρ) c (fun i j => (congrFun (W3_args m ρ c main_arg0 (by decide)) (ix2 i j)).trans (H.x i j)) (fun d => (v7_at m ρ c d).trans (H.g d)))
theorem r9 : W5 m ρ c (Proc.devRef .tc main_v9) = arr A.up :=
  (W5_arr m ρ c 2).trans (arr1 (V4 m ρ) c (fun i j => congrFun ((r8 m ρ c H)) (ix2 i j)) (fun i j => (congrFun ((W4_of m ρ c main_v4 (by decide))) (ix2 i j)).trans ((v4_at m ρ c i j).trans ((v1_at m ρ c j i).trans (H.wu i j)))))
theorem r10 : W6 m ρ c (Proc.devRef .tc main_v10) = arr A.act :=
  (W6_arr m ρ c 6).trans (arr2 (V5 m ρ) c (fun i j => congrFun ((r9 m ρ c H)) (ix2 i j)) (fun k j => (congrFun ((((W5_of m ρ c main_v3 (by decide))).trans (W4_of m ρ c main_v3 (by decide))).trans (W3_of m ρ c main_v3 (by decide))) _).trans ((v3_at m ρ c k j).trans (H.cw k j))) (fun j => (congrFun (((W5_of m ρ c main_v6 (by decide))).trans (W4_of m ρ c main_v6 (by decide))) _).trans ((v6_at m ρ c j).trans (H.cb j))))
theorem r11 : W7 m ρ c (Proc.devRef .tc main_v11) = arr A.y :=
  (W7_arr m ρ c 3).trans (arr3 (V6 m ρ) c (fun i j => congrFun ((r10 m ρ c H)) (ix2 i j)) (fun i j => (congrFun ((((((W6_of m ρ c main_v2 (by decide))).trans (W5_of m ρ c main_v2 (by decide))).trans (W4_of m ρ c main_v2 (by decide))).trans (W3_of m ρ c main_v2 (by decide))).trans (W2_of m ρ c main_v2 (by decide))) (ix2 i j)).trans ((v2_at m ρ c i j).trans (H.wd i j))) (fun i j => (congrFun (W6_args m ρ c main_arg0 (by decide)) (ix2 i j)).trans (H.x i j)))
theorem r12 : W8 m ρ c (Proc.devRef .tc main_v12) = arr A.da :=
  (W8_arr m ρ c 2).trans (arr4 (V7 m ρ) c (fun i j => (congrFun (W7_args m ρ c main_arg6 (by decide)) (ix2 i j)).trans (H.ct i j)) (fun i j => (congrFun (((((W7_of m ρ c main_v5 (by decide))).trans (W6_of m ρ c main_v5 (by decide))).trans (W5_of m ρ c main_v5 (by decide))).trans (W4_of m ρ c main_v5 (by decide))) (ix2 i j)).trans ((v5_at m ρ c i j).trans ((v2_at m ρ c j i).trans (H.wd j i)))))
theorem r13_0 : W9 m ρ c (Proc.devRef .tc main_v13_0) = arr A.dc :=
  (W9_arr m ρ c 7).trans (arr5_7 (V8 m ρ) c (fun i j => congrFun (((((W8_of m ρ c main_v9 (by decide))).trans (W7_of m ρ c main_v9 (by decide))).trans (W6_of m ρ c main_v9 (by decide))).trans (r9 m ρ c H)) (ix2 i j)) (fun k j => (congrFun (((((((W8_of m ρ c main_v3 (by decide))).trans (W7_of m ρ c main_v3 (by decide))).trans (W6_of m ρ c main_v3 (by decide))).trans (W5_of m ρ c main_v3 (by decide))).trans (W4_of m ρ c main_v3 (by decide))).trans (W3_of m ρ c main_v3 (by decide))) _).trans ((v3_at m ρ c k j).trans (H.cw k j))) (fun j => (congrFun ((((((W8_of m ρ c main_v6 (by decide))).trans (W7_of m ρ c main_v6 (by decide))).trans (W6_of m ρ c main_v6 (by decide))).trans (W5_of m ρ c main_v6 (by decide))).trans (W4_of m ρ c main_v6 (by decide))) _).trans ((v6_at m ρ c j).trans (H.cb j))) (fun i j => congrFun ((r12 m ρ c H)) (ix2 i j)))
theorem r13_1 (i : Fin 8192) (j : Fin 2816) : W9 m ρ c (Proc.devRef .tc main_v13_1) (ix2 i (hi j)) = ((A.dv i j : ℝ) : EReal) :=
  (congrFun (W9_arr m ρ c 8) _).trans (arr5_8 (V8 m ρ) c (fun i j => congrFun (((((W8_of m ρ c main_v9 (by decide))).trans (W7_of m ρ c main_v9 (by decide))).trans (W6_of m ρ c main_v9 (by decide))).trans (r9 m ρ c H)) (ix2 i j)) (fun k j => (congrFun (((((((W8_of m ρ c main_v3 (by decide))).trans (W7_of m ρ c main_v3 (by decide))).trans (W6_of m ρ c main_v3 (by decide))).trans (W5_of m ρ c main_v3 (by decide))).trans (W4_of m ρ c main_v3 (by decide))).trans (W3_of m ρ c main_v3 (by decide))) _).trans ((v3_at m ρ c k j).trans (H.cw k j))) (fun j => (congrFun ((((((W8_of m ρ c main_v6 (by decide))).trans (W7_of m ρ c main_v6 (by decide))).trans (W6_of m ρ c main_v6 (by decide))).trans (W5_of m ρ c main_v6 (by decide))).trans (W4_of m ρ c main_v6 (by decide))) _).trans ((v6_at m ρ c j).trans (H.cb j))) (fun i j => congrFun ((r12 m ρ c H)) (ix2 i j)) i j)
theorem r13_2_0 (j : Fin 2816) : W9 m ρ c (Proc.devRef .tc main_v13_2) (ix2 0 j) = ((A.dw 0 j : ℝ) : EReal) :=
  (congrFun (W9_arr m ρ c 9) _).trans (arr5_9_0 (V8 m ρ) c (fun i j => congrFun (((((W8_of m ρ c main_v9 (by decide))).trans (W7_of m ρ c main_v9 (by decide))).trans (W6_of m ρ c main_v9 (by decide))).trans (r9 m ρ c H)) (ix2 i j)) (fun k j => (congrFun (((((((W8_of m ρ c main_v3 (by decide))).trans (W7_of m ρ c main_v3 (by decide))).trans (W6_of m ρ c main_v3 (by decide))).trans (W5_of m ρ c main_v3 (by decide))).trans (W4_of m ρ c main_v3 (by decide))).trans (W3_of m ρ c main_v3 (by decide))) _).trans ((v3_at m ρ c k j).trans (H.cw k j))) (fun j => (congrFun ((((((W8_of m ρ c main_v6 (by decide))).trans (W7_of m ρ c main_v6 (by decide))).trans (W6_of m ρ c main_v6 (by decide))).trans (W5_of m ρ c main_v6 (by decide))).trans (W4_of m ρ c main_v6 (by decide))) _).trans ((v6_at m ρ c j).trans (H.cb j))) (fun i j => congrFun ((r12 m ρ c H)) (ix2 i j)) j)
theorem r13_2_1 (j : Fin 2816) : W9 m ρ c (Proc.devRef .tc main_v13_2) (ix2 1 j) = ((A.dw 1 j : ℝ) : EReal) :=
  (congrFun (W9_arr m ρ c 9) _).trans (arr5_9_1 (V8 m ρ) c (fun i j => congrFun (((((W8_of m ρ c main_v9 (by decide))).trans (W7_of m ρ c main_v9 (by decide))).trans (W6_of m ρ c main_v9 (by decide))).trans (r9 m ρ c H)) (ix2 i j)) (fun k j => (congrFun (((((((W8_of m ρ c main_v3 (by decide))).trans (W7_of m ρ c main_v3 (by decide))).trans (W6_of m ρ c main_v3 (by decide))).trans (W5_of m ρ c main_v3 (by decide))).trans (W4_of m ρ c main_v3 (by decide))).trans (W3_of m ρ c main_v3 (by decide))) _).trans ((v3_at m ρ c k j).trans (H.cw k j))) (fun j => (congrFun ((((((W8_of m ρ c main_v6 (by decide))).trans (W7_of m ρ c main_v6 (by decide))).trans (W6_of m ρ c main_v6 (by decide))).trans (W5_of m ρ c main_v6 (by decide))).trans (W4_of m ρ c main_v6 (by decide))) _).trans ((v6_at m ρ c j).trans (H.cb j))) (fun i j => congrFun ((r12 m ρ c H)) (ix2 i j)) j)
theorem r13_2_2 (j : Fin 2816) : W9 m ρ c (Proc.devRef .tc main_v13_2) (ix2 2 j) = ((A.dw 2 j : ℝ) : EReal) :=
  (congrFun (W9_arr m ρ c 9) _).trans (arr5_9_2 (V8 m ρ) c (fun i j => congrFun (((((W8_of m ρ c main_v9 (by decide))).trans (W7_of m ρ c main_v9 (by decide))).trans (W6_of m ρ c main_v9 (by decide))).trans (r9 m ρ c H)) (ix2 i j)) (fun k j => (congrFun (((((((W8_of m ρ c main_v3 (by decide))).trans (W7_of m ρ c main_v3 (by decide))).trans (W6_of m ρ c main_v3 (by decide))).trans (W5_of m ρ c main_v3 (by decide))).trans (W4_of m ρ c main_v3 (by decide))).trans (W3_of m ρ c main_v3 (by decide))) _).trans ((v3_at m ρ c k j).trans (H.cw k j))) (fun j => (congrFun ((((((W8_of m ρ c main_v6 (by decide))).trans (W7_of m ρ c main_v6 (by decide))).trans (W6_of m ρ c main_v6 (by decide))).trans (W5_of m ρ c main_v6 (by decide))).trans (W4_of m ρ c main_v6 (by decide))) _).trans ((v6_at m ρ c j).trans (H.cb j))) (fun i j => congrFun ((r12 m ρ c H)) (ix2 i j)) j)
theorem r13_2_3 (j : Fin 2816) : W9 m ρ c (Proc.devRef .tc main_v13_2) (ix2 3 j) = ((A.db j : ℝ) : EReal) :=
  (congrFun (W9_arr m ρ c 9) _).trans (arr5_9_3 (V8 m ρ) c (fun i j => congrFun (((((W8_of m ρ c main_v9 (by decide))).trans (W7_of m ρ c main_v9 (by decide))).trans (W6_of m ρ c main_v9 (by decide))).trans (r9 m ρ c H)) (ix2 i j)) (fun k j => (congrFun (((((((W8_of m ρ c main_v3 (by decide))).trans (W7_of m ρ c main_v3 (by decide))).trans (W6_of m ρ c main_v3 (by decide))).trans (W5_of m ρ c main_v3 (by decide))).trans (W4_of m ρ c main_v3 (by decide))).trans (W3_of m ρ c main_v3 (by decide))) _).trans ((v3_at m ρ c k j).trans (H.cw k j))) (fun j => (congrFun ((((((W8_of m ρ c main_v6 (by decide))).trans (W7_of m ρ c main_v6 (by decide))).trans (W6_of m ρ c main_v6 (by decide))).trans (W5_of m ρ c main_v6 (by decide))).trans (W4_of m ρ c main_v6 (by decide))) _).trans ((v6_at m ρ c j).trans (H.cb j))) (fun i j => congrFun ((r12 m ρ c H)) (ix2 i j)) j)
theorem r14 : Holds (W11 m ρ c (Proc.devRef .tc main_v14)) A.dup := fun i j =>
  (congrFun (W11_arr m ρ c 4) _).trans (arr6 (V10 m ρ) c (fun i j => congrFun (((W10_of m ρ c main_v13_0 (by decide))).trans (r13_0 m ρ c H)) (ix2 i j)) (fun k j => (congrFun (((((((((W10_of m ρ c main_v3 (by decide))).trans (W9_of m ρ c main_v3 (by decide))).trans (W8_of m ρ c main_v3 (by decide))).trans (W7_of m ρ c main_v3 (by decide))).trans (W6_of m ρ c main_v3 (by decide))).trans (W5_of m ρ c main_v3 (by decide))).trans (W4_of m ρ c main_v3 (by decide))).trans (W3_of m ρ c main_v3 (by decide))) _).trans ((v3_at m ρ c k j).trans (H.cw k j)))
    (fun i j => (congrFun (v14_at m ρ c) _).trans (r13_1 m ρ c H i j)) i j)
theorem r15 : W12 m ρ c (Proc.devRef .tc main_v15) = arr A.dh :=
  (W12_arr m ρ c 2).trans (arr7 (V11 m ρ) c (r14 m ρ c H) (fun i j => (congrFun (((((((((((W11_of m ρ c main_v1 (by decide))).trans (W10_of m ρ c main_v1 (by decide))).trans (W9_of m ρ c main_v1 (by decide))).trans (W8_of m ρ c main_v1 (by decide))).trans (W7_of m ρ c main_v1 (by decide))).trans (W6_of m ρ c main_v1 (by decide))).trans (W5_of m ρ c main_v1 (by decide))).trans (W4_of m ρ c main_v1 (by decide))).trans (W3_of m ρ c main_v1 (by decide))).trans (W2_of m ρ c main_v1 (by decide))) (ix2 i j)).trans ((v1_at m ρ c i j).trans (H.wu j i))))
theorem r17_0 : W14 m ρ c (Proc.devRef .tc main_v17_0) = arr A.dx :=
  (W14_arr m ρ c 4).trans (arr8_4 (V13 m ρ) c (fun i j => (congrFun (W13_args m ρ c main_arg0 (by decide)) (ix2 i j)).trans (H.x i j)) (fun d => (v16_at m ρ c d).trans (H.g d)) (fun i j => congrFun (((W13_of m ρ c main_v15 (by decide))).trans (r15 m ρ c H)) (ix2 i j)) (fun i j => (congrFun (W13_args m ρ c main_arg6 (by decide)) (ix2 i j)).trans (H.ct i j)))
theorem r17_1 (d : Fin 1024) : W14 m ρ c (Proc.devRef .tc main_v17_1) (ix2 0 d) = ((A.dg d : ℝ) : EReal) :=
  (congrFun (W14_arr m ρ c 5) _).trans (arr8_5 (V13 m ρ) c (fun i j => (congrFun (W13_args m ρ c main_arg0 (by decide)) (ix2 i j)).trans (H.x i j)) (fun i j => congrFun (((W13_of m ρ c main_v15 (by decide))).trans (r15 m ρ c H)) (ix2 i j)) d)

/-! ## The results -/

theorem out_y (i : Fin 8192) (j : Fin 1024) : W15 m ρ c (Proc.devRef .tc main_v11) (ix2 i j) = ((A.y i j : ℝ) : EReal) :=
  congrFun ((((((((((W15_of m ρ c main_v11 (by decide))).trans (W14_of m ρ c main_v11 (by decide))).trans (W13_of m ρ c main_v11 (by decide))).trans (W12_of m ρ c main_v11 (by decide))).trans (W11_of m ρ c main_v11 (by decide))).trans (W10_of m ρ c main_v11 (by decide))).trans (W9_of m ρ c main_v11 (by decide))).trans (W8_of m ρ c main_v11 (by decide))).trans (r11 m ρ c H)) (ix2 i j)
theorem out_dx (i : Fin 8192) (j : Fin 1024) : W15 m ρ c (Proc.devRef .tc main_v17_0) (ix2 i j) = ((A.dx i j : ℝ) : EReal) :=
  congrFun (((W15_of m ρ c main_v17_0 (by decide))).trans (r17_0 m ρ c H)) (ix2 i j)
theorem out_dg (j : Fin 1024) : W15 m ρ c (Proc.devRef .tc main_v18) (ix1 j) = ((A.dg j : ℝ) : EReal) :=
  (v18_at m ρ c j).trans (r17_1 m ρ c H j)
theorem out_dw (k : Fin 3) (j : Fin 2816) : W15 m ρ c (Proc.devRef .tc main_v19) (ix2 k j) = ((A.dw k j : ℝ) : EReal) := by
  refine (v19_at m ρ c k j).trans ((congrFun ((((((W14_of m ρ c main_v13_2 (by decide))).trans (W13_of m ρ c main_v13_2 (by decide))).trans (W12_of m ρ c main_v13_2 (by decide))).trans (W11_of m ρ c main_v13_2 (by decide))).trans (W10_of m ρ c main_v13_2 (by decide))) _).trans ?_)
  match k with
  | 0 => exact r13_2_0 m ρ c H j
  | 1 => exact r13_2_1 m ρ c H j
  | 2 => exact r13_2_2 m ρ c H j
theorem out_db (j : Fin 2816) : W15 m ρ c (Proc.devRef .tc main_v21) (ix1 j) = ((A.db j : ℝ) : EReal) :=
  (v21_at m ρ c j).trans ((congrFun ((((((W14_of m ρ c main_v13_2 (by decide))).trans (W13_of m ρ c main_v13_2 (by decide))).trans (W12_of m ρ c main_v13_2 (by decide))).trans (W11_of m ρ c main_v13_2 (by decide))).trans (W10_of m ρ c main_v13_2 (by decide))) _).trans (r13_2_3 m ρ c H j))

end Cert.FfnKernelIdeal.Hand

end
-- ==== Proof.FfnFinite.lean ====
module

public import proofs.«01_k».proof.Proof.FfnRefValue
public import proofs.«01_k».proof.Proof.FfnKernelValue
public import proofs.«01_k».proof.Proof.Finite

@[expose] public section

set_option maxRecDepth 16384

noncomputable section

namespace Cert.Proof

open Idealize.ShloMosaic Idealize.ShloMosaic.TcCoe Idealize.ShloMosaic.Tactic
open Idealize.SL.Sem
open Cert.FfnKernelIdeal.Gen (mem_uc W15 W15_main_arg0 W15_main_arg1 W15_main_arg2 W15_main_arg3 W15_main_arg4 W15_main_arg5 W15_main_arg6)
open Cert.FfnKernelIdeal.Hand Cert.FfnReferenceIdeal.Hand Cert.Pre_all_finite Cert.Ffn

/-! # Finite arguments are real, and the layer's two programs agree on them -/

theorem ffn_real [Cert.Pre_all_finite.Facts] (a0 : FVec Ideal S8192x1024 .f32) (a1 : FVec Ideal S1024 .f32) (a2 : FVec Ideal S1024x5632 .f32) (a3 : FVec Ideal S3x2816 .f32) (a4 : FVec Ideal S2816 .f32) (a5 : FVec Ideal S2816x1024 .f32) (a6 : FVec Ideal S8192x1024 .f32)
    (h : Cert.Pre_all_finite.fn (F := Ideal) a0 a1 a2 a3 a4 a5 a6 = fun _ => 1#1) :
    (∀ p, ∃ r : ℝ, a0 p = (r : EReal)) ∧ (∀ p, ∃ r : ℝ, a1 p = (r : EReal)) ∧ (∀ p, ∃ r : ℝ, a2 p = (r : EReal)) ∧ (∀ p, ∃ r : ℝ, a3 p = (r : EReal)) ∧ (∀ p, ∃ r : ℝ, a4 p = (r : EReal)) ∧ (∀ p, ∃ r : ℝ, a5 p = (r : EReal)) ∧ (∀ p, ∃ r : ℝ, a6 p = (r : EReal)) := by
  haveI : Subsingleton S_.Idx := ⟨fun x y => funext fun a => a.elim0⟩
  have h0 := congrFun h (fun a => a.elim0)
  unfold Cert.Pre_all_finite.fn Cert.Pre_all_finite.fn_part1 at h0
  obtain ⟨g5, h6⟩ := IntOp.andi_eq_one.1 h0
  obtain ⟨g4, h5⟩ := IntOp.andi_eq_one.1 g5
  obtain ⟨g3, h4⟩ := IntOp.andi_eq_one.1 g4
  obtain ⟨g2, h3⟩ := IntOp.andi_eq_one.1 g3
  obtain ⟨g1, h2⟩ := IntOp.andi_eq_one.1 g2
  obtain ⟨h0, h1⟩ := IntOp.andi_eq_one.1 g1
  exact ⟨fun p => real_of_abs_lt _ (Host.reduce_andi_all _ _ _ _ _ h0 p), fun p => real_of_abs_lt _ (Host.reduce_andi_all _ _ _ _ _ h1 p), fun p => real_of_abs_lt _ (Host.reduce_andi_all _ _ _ _ _ h2 p), fun p => real_of_abs_lt _ (Host.reduce_andi_all _ _ _ _ _ h3 p), fun p => real_of_abs_lt _ (Host.reduce_andi_all _ _ _ _ _ h4 p), fun p => real_of_abs_lt _ (Host.reduce_andi_all _ _ _ _ _ h5 p), fun p => real_of_abs_lt _ (Host.reduce_andi_all _ _ _ _ _ h6 p)⟩

theorem ffn_algebraic [hP : Cert.Pre_all_finite.Facts] : Cert.algebraic_FfnKernelIdeal_FfnReferenceIdeal_pre_all_finite := by
  intro m g m' g' hpre hargs
  refine ⟨fun c => W15 m g c (Proc.devRef .tc Cert.FfnKernelIdeal.main_v11), fun c => W15 m g c (Proc.devRef .tc Cert.FfnKernelIdeal.main_v17_0),
    fun c => W15 m g c (Proc.devRef .tc Cert.FfnKernelIdeal.main_v18), fun c => W15 m g c (Proc.devRef .tc Cert.FfnKernelIdeal.main_v19),
    fun c => W15 m g c (Proc.devRef .tc Cert.FfnKernelIdeal.main_v21), ?_, ?_⟩
  · refine (θ_run Cert.FfnKernelIdeal.defs _ _).mono (fun r h c => ?_) (Cert.FfnKernelIdeal.Hand.run m g)
    exact ⟨h c _ (mem_uc Cert.FfnKernelIdeal.main_v11 (by decide)), h c _ (mem_uc Cert.FfnKernelIdeal.main_v17_0 (by decide)),
      h c _ (mem_uc Cert.FfnKernelIdeal.main_v18 (by decide)), h c _ (mem_uc Cert.FfnKernelIdeal.main_v19 (by decide)),
      h c _ (mem_uc Cert.FfnKernelIdeal.main_v21 (by decide)),
      (h c _ (mem_uc Cert.FfnKernelIdeal.main_arg0 (by decide))).trans (W15_main_arg0 m g c), (h c _ (mem_uc Cert.FfnKernelIdeal.main_arg1 (by decide))).trans (W15_main_arg1 m g c), (h c _ (mem_uc Cert.FfnKernelIdeal.main_arg2 (by decide))).trans (W15_main_arg2 m g c), (h c _ (mem_uc Cert.FfnKernelIdeal.main_arg3 (by decide))).trans (W15_main_arg3 m g c), (h c _ (mem_uc Cert.FfnKernelIdeal.main_arg4 (by decide))).trans (W15_main_arg4 m g c), (h c _ (mem_uc Cert.FfnKernelIdeal.main_arg5 (by decide))).trans (W15_main_arg5 m g c), (h c _ (mem_uc Cert.FfnKernelIdeal.main_arg6 (by decide))).trans (W15_main_arg6 m g c)⟩
  refine (θ_run Cert.FfnReferenceIdeal.defs _ _).mono (fun r h c => ?_) (Cert.FfnReferenceIdeal.Value.run (F := Ideal) m' g')
  obtain ⟨hy, hdx, hdg, hdw, hdb, hkeep⟩ := h c
  obtain ⟨e0, e1, e2, e3, e4, e5, e6⟩ := hargs c
  replace e0 : StableHlo.launchContents m' c (Proc.devRef .tc Cert.FfnReferenceIdeal.main_arg0) = m ((c.tc : Thread Cert.FfnKernelIdeal.nD Cert.FfnKernelIdeal.τ).loc Cert.FfnKernelIdeal.main_arg0) := e0
  replace e1 : StableHlo.launchContents m' c (Proc.devRef .tc Cert.FfnReferenceIdeal.main_arg1) = m ((c.tc : Thread Cert.FfnKernelIdeal.nD Cert.FfnKernelIdeal.τ).loc Cert.FfnKernelIdeal.main_arg1) := e1
  replace e2 : StableHlo.launchContents m' c (Proc.devRef .tc Cert.FfnReferenceIdeal.main_arg2) = m ((c.tc : Thread Cert.FfnKernelIdeal.nD Cert.FfnKernelIdeal.τ).loc Cert.FfnKernelIdeal.main_arg2) := e2
  replace e3 : StableHlo.launchContents m' c (Proc.devRef .tc Cert.FfnReferenceIdeal.main_arg3) = m ((c.tc : Thread Cert.FfnKernelIdeal.nD Cert.FfnKernelIdeal.τ).loc Cert.FfnKernelIdeal.main_arg3) := e3
  replace e4 : StableHlo.launchContents m' c (Proc.devRef .tc Cert.FfnReferenceIdeal.main_arg4) = m ((c.tc : Thread Cert.FfnKernelIdeal.nD Cert.FfnKernelIdeal.τ).loc Cert.FfnKernelIdeal.main_arg4) := e4
  replace e5 : StableHlo.launchContents m' c (Proc.devRef .tc Cert.FfnReferenceIdeal.main_arg5) = m ((c.tc : Thread Cert.FfnKernelIdeal.nD Cert.FfnKernelIdeal.τ).loc Cert.FfnKernelIdeal.main_arg5) := e5
  replace e6 : StableHlo.launchContents m' c (Proc.devRef .tc Cert.FfnReferenceIdeal.main_arg6) = m ((c.tc : Thread Cert.FfnKernelIdeal.nD Cert.FfnKernelIdeal.τ).loc Cert.FfnKernelIdeal.main_arg6) := e6
  obtain ⟨r0, r1, r2, r3, r4, r5, r6⟩ := ffn_real _ _ _ _ _ _ _ (hpre c)
  choose x hx using fun i j => r0 (ix2 i j)
  choose n hn using fun i => r1 (ix1 i)
  choose wu hwu using fun i j => r2 (ix2 i j)
  choose cw hcw using fun i j => r3 (ix2 i j)
  choose cb hcb using fun i => r4 (ix1 i)
  choose wd hwd using fun i j => r5 (ix2 i j)
  choose ct hct using fun i j => r6 (ix2 i j)
  have G : Given _ _ _ _ _ _ _ ⟨x, n, wu, cw, cb, wd, ct⟩ := ⟨hx, hn, hwu, hcw, hcb, hwd, hct⟩
  have R : Reads m c ⟨x, n, wu, cw, cb, wd, ct⟩ := ⟨hx, hn, hwu, hcw, hcb, hwd, hct⟩
  refine ⟨hy.trans ?_, hdx.trans ?_, hdg.trans ?_, hdw.trans ?_, hdb.trans ?_, hkeep⟩
  · rw [Cert.FfnReferenceIdeal.Read.val_main_v49_eq, e0, e1, e2, e3, e4, e5]
    funext p
    rw [show p = ix2 (p 0) (p 1) from by blk_ext]
    exact (y_ref G _ _).trans (out_y m g c R _ _).symm
  · rw [Cert.FfnReferenceIdeal.Read.val_main_v118_eq, e0, e1, e2, e3, e4, e5, e6]
    funext p
    rw [show p = ix2 (p 0) (p 1) from by blk_ext]
    exact (dx_ref G _ _).trans (out_dx m g c R _ _).symm
  · rw [Cert.FfnReferenceIdeal.Read.val_main_v103_eq, e0, e1, e2, e3, e4, e5, e6]
    funext p
    rw [show p = ix1 (p 0) from by blk_ext]
    exact (dg_ref G _).trans (out_dg m g c R _).symm
  · rw [Cert.FfnReferenceIdeal.Read.val_main_v85_eq, e0, e1, e2, e3, e4, e5, e6]
    funext p
    rw [show p = ix2 (p 0) (p 1) from by blk_ext]
    exact (dw_ref G _ _).trans (out_dw m g c R _ _).symm
  · rw [Cert.FfnReferenceIdeal.Read.val_main_v59_eq, e0, e1, e2, e3, e4, e5, e6]
    funext p
    rw [show p = ix1 (p 0) from by blk_ext]
    exact (db_ref G _).trans (out_db m g c R _).symm

end Cert.Proof

end
-- ==== Proof.FfnFrames.lean ====
module

public import proofs.«01_k».proof.Defs
public import proofs.«01_k».proof.Proof.Gen.FfnKernel
public import proofs.«01_k».proof.Proof.Gen.FfnKernelIdeal
public import proofs.«01_k».proof.Proof.Gen.FfnReferenceIdeal
public import proofs.«01_k».proof.Proof.Gen.FfnReferenceIdeal.Run
public import proofs.«01_k».proof.Proof.Gen.Pre_all_finite
public import proofs.«01_k».proof.Proof.FfnRun
public import Idealize.ShloMosaic.Adequacy
public import Idealize.ShloMosaic.Init

@[expose] public section

set_option maxRecDepth 16384

noncomputable section

namespace Cert.Proof

open Idealize.ShloMosaic Idealize.ShloMosaic.TcCoe Idealize.ShloMosaic.Tactic
open Idealize.SL.Sem

/-! # The frames of the feed-forward programs -/

section
set_option maxRecDepth 65536
set_option maxHeartbeats 4000000

/-- The two printings call the same kernels. -/
theorem ffn_calls_eq : Cert.FfnKernel.defs₀ (F := Bits) = Cert.FfnKernelIdeal.defs₀ := by
  unfold Cert.FfnKernel.defs₀ Cert.FfnKernelIdeal.defs₀
  refine congrArg (Defs.onTc (nD := Cert.FfnKernelIdeal.nD) (τ := Cert.FfnKernelIdeal.τ) (sig := Cert.FfnKernelIdeal.sig) (Val := Elt Bits)
    (Λ := Cert.FfnKernelIdeal.Λ₀)) (funext fun l => ?_)
  match l with
  | ⟨0, _⟩ => exact funext fun x => rfl
  | ⟨1, _⟩ => exact funext fun x => rfl
  | ⟨2, _⟩ => exact funext fun x => rfl
  | ⟨3, _⟩ => exact funext fun x => rfl
  | ⟨4, _⟩ => exact funext fun x => rfl
  | ⟨5, _⟩ => exact funext fun x => rfl
  | ⟨6, _⟩ => exact funext fun x => rfl
  | ⟨7, _⟩ => exact funext fun x => rfl
  | ⟨8, _⟩ => exact funext fun x => rfl

theorem ffn_defs_eq : Cert.FfnKernel.defs (F := Bits) = Cert.FfnKernelIdeal.defs := by
  unfold Cert.FfnKernel.defs Cert.FfnKernelIdeal.defs
  exact congrArg (Pipeline.defs Cert.FfnKernelIdeal.pcfgs) ffn_calls_eq

theorem ffn_main_eq : Cert.FfnKernel.main (F := Bits) = Cert.FfnKernelIdeal.main := rfl

theorem ffn_frame_kernel : Cert.quiescent_FfnKernel := by
  intro m ρ _
  have h := Cert.FfnKernelIdeal.Gen.frame (F := Bits) m ρ
  have e : θ_run (Cert.FfnKernel.defs (F := Bits)) (onTc Cert.FfnKernel.main) ⟨m, fun _ => 0, ρ⟩
      = θ_run Cert.FfnKernelIdeal.defs (onTc Cert.FfnKernelIdeal.main) ⟨m, fun _ => 0, ρ⟩ :=
    (congrArg (fun D => θ_run D (onTc Cert.FfnKernel.main) ⟨m, fun _ => 0, ρ⟩) ffn_defs_eq).trans
      (congrArg (fun P => θ_run Cert.FfnKernelIdeal.defs (onTc P) ⟨m, fun _ => 0, ρ⟩) ffn_main_eq)
  rw [← e] at h
  exact h

end

theorem ffn_frame_ideal : Cert.quiescent_FfnKernelIdeal := fun m ρ _ => Cert.FfnKernelIdeal.Gen.frame m ρ

theorem ffn_frame_reference : Cert.quiescent_FfnReferenceIdeal := by
  intro m ρ _
  exact (θ_run Cert.FfnReferenceIdeal.defs _ _).mono
    (fun r h => And.intro (fun c => (h c).2.2.2.2.2) (sem_eq_zero_of_no_sems (by decide) r.2)) (Cert.FfnReferenceIdeal.Value.run (F := Ideal) m ρ)

end Cert.Proof

end
-- ==== Proof.DownGrad.lean ====
/- The weight gradient of the second matrix of the feed-forward layer: the sum of products over the rows, by blocks of 1024 rows, is the whole sum. -/
module

public import proofs.«01_k».proof.Defs
public import proofs.«01_k».proof.Proof.Gen.DownGradKernel
public import proofs.«01_k».proof.Proof.Gen.DownGradKernelIdeal
public import proofs.«01_k».proof.Proof.Gen.DownGradKernelIdeal.Value
public import proofs.«01_k».proof.Proof.Gen.DownGradReferenceIdeal
public import proofs.«01_k».proof.Proof.Gen.DownGradReferenceIdeal.Run
public import proofs.«01_k».proof.Proof.Gen.DownGradReferenceIdeal.Read
public import Idealize.ShloMosaic.Lib.Pipeline.ValueKit
public import Idealize.ShloMosaic.Lib.Pipeline.ReadBack

@[expose] public section

set_option maxRecDepth 16384

noncomputable section

namespace Cert.DownGradKernelIdeal.Hand

open Idealize.ShloMosaic Idealize.ShloMosaic.TcCoe Idealize.ShloMosaic.Tactic Idealize.SL.Sem
open Cert.DownGradKernelIdeal Cert.DownGradKernelIdeal.Gen

variable (m : (ℓ : Loc nD τ sig) → Buf (Elt Ideal) ℓ) (ρ : Dev nD → PrngReg) (c : Dev nD)

/-- The two arguments, as arrays of extended reals. -/
abbrev left : Vec Ideal S8192x2816 .bf16 := m ((c.tc : Thread nD τ).loc main_arg0)
abbrev right : Vec Ideal S8192x1024 .f32 := m ((c.tc : Thread nD τ).loc main_arg1)
/-- Row `r` of the step's block of rows, column `l` of its block of columns. -/
def row (t : Fin cfg0.N) (r : Fin 1024) : Fin 8192 := ⟨t.val % 8 * 1024 + r.val, by have := r.isLt; omega⟩
def col (t : Fin cfg0.N) (l : Fin 1408) : Fin 2816 := ⟨1408 * (t.val / 8) + l.val, by have : t.val < 16 := t.isLt; have := l.isLt; omega⟩

theorem idx0 : ∀ t : Fin cfg0.N, win0_0.index t = ![t.val % 8, t.val / 8] ∧ win0_1.index t = ![t.val % 8, 0] ∧ win0_2.index t = ![t.val / 8, 0] :=
  (by decide +kernel : ∀ t : Fin grid0.N, _)

theorem blk0_at (t : Fin cfg0.N) (r : Fin 1024) (l : Fin 1408) : iblk m c 0 t (ix2 r l) = left m c (ix2 (row t r) (col t l)) := by
  unfold iblk row col
  refine Eq.trans ?_ (congrFun (V_main_arg0 m c) _)
  blk_ext [(idx0 t).1]

theorem blk1_at (t : Fin cfg0.N) (r : Fin 1024) (l : Fin 1024) : iblk m c 1 t (ix2 r l) = right m c (ix2 (row t r) l) := by
  unfold iblk row
  refine Eq.trans ?_ (congrFun (V_main_arg1 m c) _)
  blk_ext [(idx0 t).2.1]

theorem emb2 (t : Fin cfg0.N) (y : S1408x1024.Idx) : (win0_2.blk t).view.emb y = ix2 (col t (y 0)) (y 1) := by
  unfold col
  blk_ext [(idx0 t).2.2]

theorem covers2 : (cfg0.win 2).Covers := by decide +kernel

/-- What a step adds to the accumulator. -/
def term (t : Fin cfg0.N) (y : S1408x1024.Idx) : EReal :=
  ∑ k : Fin 1024, left m c (ix2 (row t k) (col t (y 0))) * right m c (ix2 (row t k) (y 1))

theorem zero_at (y : S1408x1024.Idx) : k0_pay1 (F := Ideal) y = 0 := by
  pointwise [k0_pay1]

theorem step_at (acc : Vec Ideal S1408x1024 .f32) (X : Vec Ideal S1024x1408 .bf16) (Y : Vec Ideal S1024x1024 .f32) (a : Fin 1408) (b : Fin 1024) :
    k0_pay2 acc X Y (ix2 a b) = acc (ix2 a b) + (∑ k : Fin 1024, X (ix2 k a) * Y (ix2 k b)) := by
  pointwise [k0_pay2]

theorem added (acc : Vec Ideal S1408x1024 .f32) (t : Fin cfg0.N) (y : S1408x1024.Idx) :
    k0_pay2 acc (iblk m c 0 t) (iblk m c 1 t) y = acc y + term m c t y := by
  obtain ⟨a, b, rfl⟩ : ∃ a b, y = ix2 a b := ⟨y 0, y 1, by blk_ext⟩
  refine (step_at _ _ _ _ _).trans (congrArg _ (Finset.sum_congr rfl fun k _ => ?_))
  rw [blk0_at, blk1_at]
  rfl

theorem start (t : Fin cfg0.N) (h : t.val % 8 = 0) (y : S1408x1024.Idx) :
    (outsAt0 m c t.val t.isLt).2 y = (0 : EReal) + term m c t y := by
  rw [outsAt0_A m c t h (by omega)]
  frame_out
  rw [added, zero_at]

theorem next (t : Fin cfg0.N) (h : ¬t.val % 8 = 0) (y : S1408x1024.Idx) :
    (outsAt0 m c t.val t.isLt).2 y = (outsAt0 m c (t.val - 1) (Nat.lt_of_le_of_lt (Nat.sub_le _ _) t.isLt)).2 y + term m c t y := by
  by_cases h1 : t.val % 8 = 7
  · rw [outsAt0_C m c t h h1]
    frame_out
    simp only [read_unread_whole]
    rw [added]
  · rw [outsAt0_B m c t h h1]
    frame_out
    simp only [read_unread_whole]
    rw [added]

/-- The accumulator after a block's last step. -/
theorem acc_at (t : Fin cfg0.N) (h : t.val % 8 = 7) (y : S1408x1024.Idx) :
    (outsAt0 m c t.val t.isLt).2 y = ∑ k : Fin 8192, left m c (ix2 k (col t (y 0))) * right m c (ix2 k (y 1)) := by
  rw [Pipeline.eq_sum_fin_of_reset_step_apply_of_flush (fun n hn => (outsAt0 m c n hn).2) 8 (fun _ => (0 : EReal)) (term m c)
    (fun t h y => start m c t h y) (fun t h y => next m c t h y) t h y, zero_add]
  unfold term
  refine Fin.sum_mul_add_congr (S := 8) (n := 1024) fun s k hl => ?_
  have hN : t.val < 16 := t.isLt
  have hs := s.isLt
  have e1 : row (⟨8 * (t.val / 8) + s.val, Pipeline.run_point_lt_of_flush t h s⟩ : Fin cfg0.N) k = ⟨s.val * 1024 + k.val, hl⟩ :=
    Fin.ext (by show (8 * (t.val / 8) + s.val) % 8 * 1024 + k.val = s.val * 1024 + k.val; omega)
  have e2 : col (⟨8 * (t.val / 8) + s.val, Pipeline.run_point_lt_of_flush t h s⟩ : Fin cfg0.N) (y 0) = col t (y 0) :=
    Fin.ext (by show 1408 * ((8 * (t.val / 8) + s.val) / 8) + (y 0).val = 1408 * (t.val / 8) + (y 0).val; omega)
  exact congrArg₂ (· * ·) (congrArg (left m c) (congrArg₂ ix2 e1 e2)) (congrArg (right m c) (congrArg₂ ix2 e1 rfl))

/-- The result: the product of the transposed first argument and the second. -/
def prod : Buf (Elt Ideal) ((c.tc : Thread nD τ).loc main_v0) := fun y =>
  ((∑ k : Fin 8192, left m c (ix2 k (y 0)) * right m c (ix2 k (y 1)) : EReal))

theorem array_eq : (dats m 0 c).arrAt 2 cfg0.N = prod m c := by
  refine Pipeline.Dat.arrAt_eq_of_covers (dats m 0 c) 2 _ covers2 fun t hf y => ?_
  have h7 : t.val % 8 = 7 := (flush0_2 t).mp hf
  refine Eq.trans ?_ (congrArg (prod m c) (emb2 t y)).symm
  have e : (outsAt0 m c t.val t.isLt).1 y = (outsAt0 m c t.val t.isLt).2 y := by
    rw [outsAt0_C m c t (by omega) h7]
    frame_out
    rfl
  blk_simp
  rw [after0_2]
  exact e.trans (acc_at m c t h7 y)

end Cert.DownGradKernelIdeal.Hand

namespace Cert.Proof

open Idealize.ShloMosaic Idealize.ShloMosaic.TcCoe Idealize.ShloMosaic.Tactic Idealize.SL.Sem
open Cert.DownGradKernelIdeal.Hand

theorem down_grad_reference (x0 : (⟨Cert.DownGradReferenceIdeal.S8192x2816, .bf16⟩ : BufTy).Contents (Elt Ideal)) (x1 : (⟨Cert.DownGradReferenceIdeal.S8192x1024, .f32⟩ : BufTy).Contents (Elt Ideal)) (i : Fin 2816) (j : Fin 1024) :
    Cert.DownGradReferenceIdeal.Read.val_main_v5 (F := Ideal) x0 x1 (ix2 i j) = ∑ k : Fin 8192, x0 (ix2 k i) * x1 (ix2 k j) := by
  rw [Cert.DownGradReferenceIdeal.Read.val_main_v5_apply, Cert.DownGradReferenceIdeal.Read.val_main_v4_apply]
  refine (Cert.DownGradReferenceIdeal.Read.val_main_v3_apply _ _ _).trans (Finset.sum_congr rfl fun k _ => ?_)
  rw [Cert.DownGradReferenceIdeal.Read.val_main_v1_apply, show Cert.DownGradReferenceIdeal.Read.lidx_main_v3 (Cert.DownGradReferenceIdeal.Read.idx_main_v4 (ix2 i j)) k = ix2 k j from by blk_ext,
    show Cert.DownGradReferenceIdeal.Read.ridx_main_v3 (Cert.DownGradReferenceIdeal.Read.idx_main_v4 (ix2 i j)) k = ix2 k i from by blk_ext]
  exact mul_comm _ _

theorem down_grad_algebraic : Cert.algebraic_DownGradKernelIdeal_DownGradReferenceIdeal := by
  intro m g m' g' _ hargs
  refine ⟨fun c => prod m c, ?_, ?_⟩
  · exact (θ_run Cert.DownGradKernelIdeal.defs _ _).mono (fun r h c => ⟨(h c).1.trans (array_eq m c), (h c).2⟩)
      (Cert.DownGradKernelIdeal.Value.run_blocks (F := Ideal) m g)
  · refine (θ_run Cert.DownGradReferenceIdeal.defs _ _).mono (fun r h c => ⟨(h c).1.trans ?_, (h c).2⟩)
      (Cert.DownGradReferenceIdeal.Value.run (F := Ideal) m' g')
    obtain ⟨e0, e1⟩ := hargs c
    rw [Cert.DownGradReferenceIdeal.Read.val_main_v5_eq, e0, e1]
    funext y
    rw [show y = ix2 (y 0) (y 1) from by blk_ext]
    exact down_grad_reference _ _ _ _

section
set_option maxRecDepth 65536

/-- The two printings call the same kernel. -/
theorem down_grad_calls_eq : Cert.DownGradKernel.defs₀ (F := Bits) = Cert.DownGradKernelIdeal.defs₀ := by
  unfold Cert.DownGradKernel.defs₀ Cert.DownGradKernelIdeal.defs₀
  refine congrArg (Defs.onTc (nD := Cert.DownGradKernelIdeal.nD) (τ := Cert.DownGradKernelIdeal.τ) (sig := Cert.DownGradKernelIdeal.sig) (Val := Elt Bits)
    (Λ := Cert.DownGradKernelIdeal.Λ₀)) (funext fun l => ?_)
  match l with
  | ⟨0, _⟩ => exact funext fun x => rfl

theorem down_grad_defs_eq : Cert.DownGradKernel.defs (F := Bits) = Cert.DownGradKernelIdeal.defs := by
  unfold Cert.DownGradKernel.defs Cert.DownGradKernelIdeal.defs
  exact congrArg (Pipeline.defs Cert.DownGradKernelIdeal.pcfgs) down_grad_calls_eq

theorem down_grad_main_eq : Cert.DownGradKernel.main (F := Bits) = Cert.DownGradKernelIdeal.main := rfl

theorem down_grad_frame_kernel : Cert.quiescent_DownGradKernel := by
  intro m ρ _
  have h := Cert.DownGradKernelIdeal.Gen.frame (F := Bits) m ρ
  have e : θ_run (Cert.DownGradKernel.defs (F := Bits)) (onTc Cert.DownGradKernel.main) ⟨m, fun _ => 0, ρ⟩
      = θ_run Cert.DownGradKernelIdeal.defs (onTc Cert.DownGradKernelIdeal.main) ⟨m, fun _ => 0, ρ⟩ :=
    (congrArg (fun D => θ_run D (onTc Cert.DownGradKernel.main) ⟨m, fun _ => 0, ρ⟩) down_grad_defs_eq).trans
      (congrArg (fun P => θ_run Cert.DownGradKernelIdeal.defs (onTc P) ⟨m, fun _ => 0, ρ⟩) down_grad_main_eq)
  rw [← e] at h
  exact h

end

theorem down_grad_frame_ideal : Cert.quiescent_DownGradKernelIdeal := fun m ρ _ => Cert.DownGradKernelIdeal.Gen.frame m ρ

theorem down_grad_frame_reference : Cert.quiescent_DownGradReferenceIdeal := by
  intro m ρ _
  exact (θ_run Cert.DownGradReferenceIdeal.defs _ _).mono
    (fun r h => And.intro (fun c => (h c).2) (sem_eq_zero_of_no_sems (by decide) r.2)) (Cert.DownGradReferenceIdeal.Value.run (F := Ideal) m ρ)

end Cert.Proof

end
-- ==== Proof.UpGrad.lean ====
/- The weight gradient of the first matrix of the feed-forward layer: the sum of products over the rows, by blocks of 1024 rows, is the whole sum. -/
module

public import proofs.«01_k».proof.Defs
public import proofs.«01_k».proof.Proof.Gen.UpGradKernel
public import proofs.«01_k».proof.Proof.Gen.UpGradKernelIdeal
public import proofs.«01_k».proof.Proof.Gen.UpGradKernelIdeal.Value
public import proofs.«01_k».proof.Proof.Gen.UpGradReferenceIdeal
public import proofs.«01_k».proof.Proof.Gen.UpGradReferenceIdeal.Run
public import proofs.«01_k».proof.Proof.Gen.UpGradReferenceIdeal.Read
public import Idealize.ShloMosaic.Lib.Pipeline.ValueKit
public import Idealize.ShloMosaic.Lib.Pipeline.ReadBack

@[expose] public section

set_option maxRecDepth 16384

noncomputable section

namespace Cert.UpGradKernelIdeal.Hand

open Idealize.ShloMosaic Idealize.ShloMosaic.TcCoe Idealize.ShloMosaic.Tactic Idealize.SL.Sem
open Cert.UpGradKernelIdeal Cert.UpGradKernelIdeal.Gen

variable (m : (ℓ : Loc nD τ sig) → Buf (Elt Ideal) ℓ) (ρ : Dev nD → PrngReg) (c : Dev nD)

/-- The two arguments, as arrays of extended reals. -/
abbrev left : Vec Ideal S8192x5632 .bf16 := m ((c.tc : Thread nD τ).loc main_arg0)
abbrev right : Vec Ideal S8192x1024 .bf16 := m ((c.tc : Thread nD τ).loc main_arg1)
/-- Row `r` of the step's block of rows, column `l` of its block of columns. -/
def row (t : Fin cfg0.N) (r : Fin 1024) : Fin 8192 := ⟨t.val % 8 * 1024 + r.val, by have := r.isLt; omega⟩
def col (t : Fin cfg0.N) (l : Fin 1408) : Fin 5632 := ⟨1408 * (t.val / 8) + l.val, by have : t.val < 32 := t.isLt; have := l.isLt; omega⟩

theorem idx0 : ∀ t : Fin cfg0.N, win0_0.index t = ![t.val % 8, t.val / 8] ∧ win0_1.index t = ![t.val % 8, 0] ∧ win0_2.index t = ![t.val / 8, 0] :=
  (by decide +kernel : ∀ t : Fin grid0.N, _)

theorem blk0_at (t : Fin cfg0.N) (r : Fin 1024) (l : Fin 1408) : iblk m c 0 t (ix2 r l) = left m c (ix2 (row t r) (col t l)) := by
  unfold iblk row col
  refine Eq.trans ?_ (congrFun (V_main_arg0 m c) _)
  blk_ext [(idx0 t).1]

theorem blk1_at (t : Fin cfg0.N) (r : Fin 1024) (l : Fin 1024) : iblk m c 1 t (ix2 r l) = right m c (ix2 (row t r) l) := by
  unfold iblk row
  refine Eq.trans ?_ (congrFun (V_main_arg1 m c) _)
  blk_ext [(idx0 t).2.1]

theorem emb2 (t : Fin cfg0.N) (y : S1408x1024.Idx) : (win0_2.blk t).view.emb y = ix2 (col t (y 0)) (y 1) := by
  unfold col
  blk_ext [(idx0 t).2.2]

theorem covers2 : (cfg0.win 2).Covers := by decide +kernel

/-- What a step adds to the accumulator. -/
def term (t : Fin cfg0.N) (y : S1408x1024.Idx) : EReal :=
  ∑ k : Fin 1024, left m c (ix2 (row t k) (col t (y 0))) * right m c (ix2 (row t k) (y 1))

theorem zero_at (y : S1408x1024.Idx) : k0_pay1 (F := Ideal) y = 0 := by
  pointwise [k0_pay1]

theorem step_at (acc : Vec Ideal S1408x1024 .f32) (X : Vec Ideal S1024x1408 .bf16) (Y : Vec Ideal S1024x1024 .bf16) (a : Fin 1408) (b : Fin 1024) :
    k0_pay2 acc X Y (ix2 a b) = acc (ix2 a b) + (∑ k : Fin 1024, X (ix2 k a) * Y (ix2 k b)) := by
  pointwise [k0_pay2]

theorem added (acc : Vec Ideal S1408x1024 .f32) (t : Fin cfg0.N) (y : S1408x1024.Idx) :
    k0_pay2 acc (iblk m c 0 t) (iblk m c 1 t) y = acc y + term m c t y := by
  obtain ⟨a, b, rfl⟩ : ∃ a b, y = ix2 a b := ⟨y 0, y 1, by blk_ext⟩
  refine (step_at _ _ _ _ _).trans (congrArg _ (Finset.sum_congr rfl fun k _ => ?_))
  rw [blk0_at, blk1_at]
  rfl

theorem start (t : Fin cfg0.N) (h : t.val % 8 = 0) (y : S1408x1024.Idx) :
    (outsAt0 m c t.val t.isLt).2 y = (0 : EReal) + term m c t y := by
  rw [outsAt0_A m c t h (by omega)]
  frame_out
  rw [added, zero_at]

theorem next (t : Fin cfg0.N) (h : ¬t.val % 8 = 0) (y : S1408x1024.Idx) :
    (outsAt0 m c t.val t.isLt).2 y = (outsAt0 m c (t.val - 1) (Nat.lt_of_le_of_lt (Nat.sub_le _ _) t.isLt)).2 y + term m c t y := by
  by_cases h1 : t.val % 8 = 7
  · rw [outsAt0_C m c t h h1]
    frame_out
    simp only [read_unread_whole]
    rw [added]
  · rw [outsAt0_B m c t h h1]
    frame_out
    simp only [read_unread_whole]
    rw [added]

/-- The accumulator after a block's last step. -/
theorem acc_at (t : Fin cfg0.N) (h : t.val % 8 = 7) (y : S1408x1024.Idx) :
    (outsAt0 m c t.val t.isLt).2 y = ∑ k : Fin 8192, left m c (ix2 k (col t (y 0))) * right m c (ix2 k (y 1)) := by
  rw [Pipeline.eq_sum_fin_of_reset_step_apply_of_flush (fun n hn => (outsAt0 m c n hn).2) 8 (fun _ => (0 : EReal)) (term m c)
    (fun t h y => start m c t h y) (fun t h y => next m c t h y) t h y, zero_add]
  unfold term
  refine Fin.sum_mul_add_congr (S := 8) (n := 1024) fun s k hl => ?_
  have hN : t.val < 32 := t.isLt
  have hs := s.isLt
  have e1 : row (⟨8 * (t.val / 8) + s.val, Pipeline.run_point_lt_of_flush t h s⟩ : Fin cfg0.N) k = ⟨s.val * 1024 + k.val, hl⟩ :=
    Fin.ext (by show (8 * (t.val / 8) + s.val) % 8 * 1024 + k.val = s.val * 1024 + k.val; omega)
  have e2 : col (⟨8 * (t.val / 8) + s.val, Pipeline.run_point_lt_of_flush t h s⟩ : Fin cfg0.N) (y 0) = col t (y 0) :=
    Fin.ext (by show 1408 * ((8 * (t.val / 8) + s.val) / 8) + (y 0).val = 1408 * (t.val / 8) + (y 0).val; omega)
  exact congrArg₂ (· * ·) (congrArg (left m c) (congrArg₂ ix2 e1 e2)) (congrArg (right m c) (congrArg₂ ix2 e1 rfl))

/-- The result: the product of the transposed first argument and the second. -/
def prod : Buf (Elt Ideal) ((c.tc : Thread nD τ).loc main_v0) := fun y =>
  ((∑ k : Fin 8192, left m c (ix2 k (y 0)) * right m c (ix2 k (y 1)) : EReal))

theorem array_eq : (dats m 0 c).arrAt 2 cfg0.N = prod m c := by
  refine Pipeline.Dat.arrAt_eq_of_covers (dats m 0 c) 2 _ covers2 fun t hf y => ?_
  have h7 : t.val % 8 = 7 := (flush0_2 t).mp hf
  refine Eq.trans ?_ (congrArg (prod m c) (emb2 t y)).symm
  have e : (outsAt0 m c t.val t.isLt).1 y = (outsAt0 m c t.val t.isLt).2 y := by
    rw [outsAt0_C m c t (by omega) h7]
    frame_out
    rfl
  blk_simp
  rw [after0_2]
  exact e.trans (acc_at m c t h7 y)

end Cert.UpGradKernelIdeal.Hand

namespace Cert.Proof

open Idealize.ShloMosaic Idealize.ShloMosaic.TcCoe Idealize.ShloMosaic.Tactic Idealize.SL.Sem
open Cert.UpGradKernelIdeal.Hand

theorem up_grad_reference (x0 : (⟨Cert.UpGradReferenceIdeal.S8192x5632, .bf16⟩ : BufTy).Contents (Elt Ideal)) (x1 : (⟨Cert.UpGradReferenceIdeal.S8192x1024, .bf16⟩ : BufTy).Contents (Elt Ideal)) (i : Fin 5632) (j : Fin 1024) :
    Cert.UpGradReferenceIdeal.Read.val_main_v8 (F := Ideal) x0 x1 (ix2 i j) = ∑ k : Fin 8192, x0 (ix2 k i) * x1 (ix2 k j) := by
  rw [Cert.UpGradReferenceIdeal.Read.val_main_v8_apply, Cert.UpGradReferenceIdeal.Read.val_main_v7_apply, Cert.UpGradReferenceIdeal.Read.val_main_v6_apply]
  refine (Cert.UpGradReferenceIdeal.Read.val_main_v5_apply _ _ _).trans (Finset.sum_congr rfl fun k _ => ?_)
  rw [Cert.UpGradReferenceIdeal.Read.val_main_v4_apply, Cert.UpGradReferenceIdeal.Read.val_main_v1_apply,
    show Cert.UpGradReferenceIdeal.Read.lidx_main_v5 (Cert.UpGradReferenceIdeal.Read.idx_main_v6 (Cert.UpGradReferenceIdeal.Read.idx_main_v7 (ix2 i j))) k = ix2 k i from by blk_ext,
    show Cert.UpGradReferenceIdeal.Read.ridx_main_v5 (Cert.UpGradReferenceIdeal.Read.idx_main_v6 (Cert.UpGradReferenceIdeal.Read.idx_main_v7 (ix2 i j))) k = ix2 k j from by blk_ext]
  rfl

theorem up_grad_algebraic : Cert.algebraic_UpGradKernelIdeal_UpGradReferenceIdeal := by
  intro m g m' g' _ hargs
  refine ⟨fun c => prod m c, ?_, ?_⟩
  · exact (θ_run Cert.UpGradKernelIdeal.defs _ _).mono (fun r h c => ⟨(h c).1.trans (array_eq m c), (h c).2⟩)
      (Cert.UpGradKernelIdeal.Value.run_blocks (F := Ideal) m g)
  · refine (θ_run Cert.UpGradReferenceIdeal.defs _ _).mono (fun r h c => ⟨(h c).1.trans ?_, (h c).2⟩)
      (Cert.UpGradReferenceIdeal.Value.run (F := Ideal) m' g')
    obtain ⟨e0, e1⟩ := hargs c
    rw [Cert.UpGradReferenceIdeal.Read.val_main_v8_eq, e0, e1]
    funext y
    rw [show y = ix2 (y 0) (y 1) from by blk_ext]
    exact up_grad_reference _ _ _ _

section
set_option maxRecDepth 65536

/-- The two printings call the same kernel. -/
theorem up_grad_calls_eq : Cert.UpGradKernel.defs₀ (F := Bits) = Cert.UpGradKernelIdeal.defs₀ := by
  unfold Cert.UpGradKernel.defs₀ Cert.UpGradKernelIdeal.defs₀
  refine congrArg (Defs.onTc (nD := Cert.UpGradKernelIdeal.nD) (τ := Cert.UpGradKernelIdeal.τ) (sig := Cert.UpGradKernelIdeal.sig) (Val := Elt Bits)
    (Λ := Cert.UpGradKernelIdeal.Λ₀)) (funext fun l => ?_)
  match l with
  | ⟨0, _⟩ => exact funext fun x => rfl

theorem up_grad_defs_eq : Cert.UpGradKernel.defs (F := Bits) = Cert.UpGradKernelIdeal.defs := by
  unfold Cert.UpGradKernel.defs Cert.UpGradKernelIdeal.defs
  exact congrArg (Pipeline.defs Cert.UpGradKernelIdeal.pcfgs) up_grad_calls_eq

theorem up_grad_main_eq : Cert.UpGradKernel.main (F := Bits) = Cert.UpGradKernelIdeal.main := rfl

theorem up_grad_frame_kernel : Cert.quiescent_UpGradKernel := by
  intro m ρ _
  have h := Cert.UpGradKernelIdeal.Gen.frame (F := Bits) m ρ
  have e : θ_run (Cert.UpGradKernel.defs (F := Bits)) (onTc Cert.UpGradKernel.main) ⟨m, fun _ => 0, ρ⟩
      = θ_run Cert.UpGradKernelIdeal.defs (onTc Cert.UpGradKernelIdeal.main) ⟨m, fun _ => 0, ρ⟩ :=
    (congrArg (fun D => θ_run D (onTc Cert.UpGradKernel.main) ⟨m, fun _ => 0, ρ⟩) up_grad_defs_eq).trans
      (congrArg (fun P => θ_run Cert.UpGradKernelIdeal.defs (onTc P) ⟨m, fun _ => 0, ρ⟩) up_grad_main_eq)
  rw [← e] at h
  exact h

end

theorem up_grad_frame_ideal : Cert.quiescent_UpGradKernelIdeal := fun m ρ _ => Cert.UpGradKernelIdeal.Gen.frame m ρ

theorem up_grad_frame_reference : Cert.quiescent_UpGradReferenceIdeal := by
  intro m ρ _
  exact (θ_run Cert.UpGradReferenceIdeal.defs _ _).mono
    (fun r h => And.intro (fun c => (h c).2) (sem_eq_zero_of_no_sems (by decide) r.2)) (Cert.UpGradReferenceIdeal.Value.run (F := Ideal) m ρ)

end Cert.Proof

end
-- ==== Proof.InGrad.lean ====
/- The weight gradient of the projection into an even layer: the sum of products over the rows, by blocks of 1024 rows, is the whole sum. -/
module

public import proofs.«01_k».proof.Defs
public import proofs.«01_k».proof.Proof.Gen.InGradKernel
public import proofs.«01_k».proof.Proof.Gen.InGradKernelIdeal
public import proofs.«01_k».proof.Proof.Gen.InGradKernelIdeal.Value
public import proofs.«01_k».proof.Proof.Gen.InGradReferenceIdeal
public import proofs.«01_k».proof.Proof.Gen.InGradReferenceIdeal.Run
public import proofs.«01_k».proof.Proof.Gen.InGradReferenceIdeal.Read
public import Idealize.ShloMosaic.Lib.Pipeline.ValueKit
public import Idealize.ShloMosaic.Lib.Pipeline.ReadBack

@[expose] public section

set_option maxRecDepth 16384

noncomputable section

namespace Cert.InGradKernelIdeal.Hand

open Idealize.ShloMosaic Idealize.ShloMosaic.TcCoe Idealize.ShloMosaic.Tactic Idealize.SL.Sem
open Cert.InGradKernelIdeal Cert.InGradKernelIdeal.Gen

variable (m : (ℓ : Loc nD τ sig) → Buf (Elt Ideal) ℓ) (ρ : Dev nD → PrngReg) (c : Dev nD)

/-- The two arguments, as arrays of extended reals. -/
abbrev left : Vec Ideal S8192x2816 .bf16 := m ((c.tc : Thread nD τ).loc main_arg0)
abbrev right : Vec Ideal S8192x1024 .bf16 := m ((c.tc : Thread nD τ).loc main_arg1)
/-- Row `r` of the step's block of rows, column `l` of its block of columns. -/
def row (t : Fin cfg0.N) (r : Fin 1024) : Fin 8192 := ⟨t.val % 8 * 1024 + r.val, by have := r.isLt; omega⟩
def col (t : Fin cfg0.N) (l : Fin 1408) : Fin 2816 := ⟨1408 * (t.val / 8) + l.val, by have : t.val < 16 := t.isLt; have := l.isLt; omega⟩

theorem idx0 : ∀ t : Fin cfg0.N, win0_0.index t = ![t.val % 8, t.val / 8] ∧ win0_1.index t = ![t.val % 8, 0] ∧ win0_2.index t = ![t.val / 8, 0] :=
  (by decide +kernel : ∀ t : Fin grid0.N, _)

theorem blk0_at (t : Fin cfg0.N) (r : Fin 1024) (l : Fin 1408) : iblk m c 0 t (ix2 r l) = left m c (ix2 (row t r) (col t l)) := by
  unfold iblk row col
  refine Eq.trans ?_ (congrFun (V_main_arg0 m c) _)
  blk_ext [(idx0 t).1]

theorem blk1_at (t : Fin cfg0.N) (r : Fin 1024) (l : Fin 1024) : iblk m c 1 t (ix2 r l) = right m c (ix2 (row t r) l) := by
  unfold iblk row
  refine Eq.trans ?_ (congrFun (V_main_arg1 m c) _)
  blk_ext [(idx0 t).2.1]

theorem emb2 (t : Fin cfg0.N) (y : S1408x1024.Idx) : (win0_2.blk t).view.emb y = ix2 (col t (y 0)) (y 1) := by
  unfold col
  blk_ext [(idx0 t).2.2]

theorem covers2 : (cfg0.win 2).Covers := by decide +kernel

/-- What a step adds to the accumulator. -/
def term (t : Fin cfg0.N) (y : S1408x1024.Idx) : EReal :=
  ∑ k : Fin 1024, left m c (ix2 (row t k) (col t (y 0))) * right m c (ix2 (row t k) (y 1))

theorem zero_at (y : S1408x1024.Idx) : k0_pay1 (F := Ideal) y = 0 := by
  pointwise [k0_pay1]

theorem step_at (acc : Vec Ideal S1408x1024 .f32) (X : Vec Ideal S1024x1408 .bf16) (Y : Vec Ideal S1024x1024 .bf16) (a : Fin 1408) (b : Fin 1024) :
    k0_pay2 acc X Y (ix2 a b) = acc (ix2 a b) + (∑ k : Fin 1024, X (ix2 k a) * Y (ix2 k b)) := by
  pointwise [k0_pay2]

theorem added (acc : Vec Ideal S1408x1024 .f32) (t : Fin cfg0.N) (y : S1408x1024.Idx) :
    k0_pay2 acc (iblk m c 0 t) (iblk m c 1 t) y = acc y + term m c t y := by
  obtain ⟨a, b, rfl⟩ : ∃ a b, y = ix2 a b := ⟨y 0, y 1, by blk_ext⟩
  refine (step_at _ _ _ _ _).trans (congrArg _ (Finset.sum_congr rfl fun k _ => ?_))
  rw [blk0_at, blk1_at]
  rfl

theorem start (t : Fin cfg0.N) (h : t.val % 8 = 0) (y : S1408x1024.Idx) :
    (outsAt0 m c t.val t.isLt).2 y = (0 : EReal) + term m c t y := by
  rw [outsAt0_A m c t h (by omega)]
  frame_out
  rw [added, zero_at]

theorem next (t : Fin cfg0.N) (h : ¬t.val % 8 = 0) (y : S1408x1024.Idx) :
    (outsAt0 m c t.val t.isLt).2 y = (outsAt0 m c (t.val - 1) (Nat.lt_of_le_of_lt (Nat.sub_le _ _) t.isLt)).2 y + term m c t y := by
  by_cases h1 : t.val % 8 = 7
  · rw [outsAt0_C m c t h h1]
    frame_out
    simp only [read_unread_whole]
    rw [added]
  · rw [outsAt0_B m c t h h1]
    frame_out
    simp only [read_unread_whole]
    rw [added]

/-- The accumulator after a block's last step. -/
theorem acc_at (t : Fin cfg0.N) (h : t.val % 8 = 7) (y : S1408x1024.Idx) :
    (outsAt0 m c t.val t.isLt).2 y = ∑ k : Fin 8192, left m c (ix2 k (col t (y 0))) * right m c (ix2 k (y 1)) := by
  rw [Pipeline.eq_sum_fin_of_reset_step_apply_of_flush (fun n hn => (outsAt0 m c n hn).2) 8 (fun _ => (0 : EReal)) (term m c)
    (fun t h y => start m c t h y) (fun t h y => next m c t h y) t h y, zero_add]
  unfold term
  refine Fin.sum_mul_add_congr (S := 8) (n := 1024) fun s k hl => ?_
  have hN : t.val < 16 := t.isLt
  have hs := s.isLt
  have e1 : row (⟨8 * (t.val / 8) + s.val, Pipeline.run_point_lt_of_flush t h s⟩ : Fin cfg0.N) k = ⟨s.val * 1024 + k.val, hl⟩ :=
    Fin.ext (by show (8 * (t.val / 8) + s.val) % 8 * 1024 + k.val = s.val * 1024 + k.val; omega)
  have e2 : col (⟨8 * (t.val / 8) + s.val, Pipeline.run_point_lt_of_flush t h s⟩ : Fin cfg0.N) (y 0) = col t (y 0) :=
    Fin.ext (by show 1408 * ((8 * (t.val / 8) + s.val) / 8) + (y 0).val = 1408 * (t.val / 8) + (y 0).val; omega)
  exact congrArg₂ (· * ·) (congrArg (left m c) (congrArg₂ ix2 e1 e2)) (congrArg (right m c) (congrArg₂ ix2 e1 rfl))

/-- The result: the product of the transposed first argument and the second. -/
def prod : Buf (Elt Ideal) ((c.tc : Thread nD τ).loc main_v0) := fun y =>
  ((∑ k : Fin 8192, left m c (ix2 k (y 0)) * right m c (ix2 k (y 1)) : EReal))

theorem array_eq : (dats m 0 c).arrAt 2 cfg0.N = prod m c := by
  refine Pipeline.Dat.arrAt_eq_of_covers (dats m 0 c) 2 _ covers2 fun t hf y => ?_
  have h7 : t.val % 8 = 7 := (flush0_2 t).mp hf
  refine Eq.trans ?_ (congrArg (prod m c) (emb2 t y)).symm
  have e : (outsAt0 m c t.val t.isLt).1 y = (outsAt0 m c t.val t.isLt).2 y := by
    rw [outsAt0_C m c t (by omega) h7]
    frame_out
    rfl
  blk_simp
  rw [after0_2]
  exact e.trans (acc_at m c t h7 y)

end Cert.InGradKernelIdeal.Hand

namespace Cert.Proof

open Idealize.ShloMosaic Idealize.ShloMosaic.TcCoe Idealize.ShloMosaic.Tactic Idealize.SL.Sem
open Cert.InGradKernelIdeal.Hand

theorem in_grad_reference (x0 : (⟨Cert.InGradReferenceIdeal.S8192x2816, .bf16⟩ : BufTy).Contents (Elt Ideal)) (x1 : (⟨Cert.InGradReferenceIdeal.S8192x1024, .bf16⟩ : BufTy).Contents (Elt Ideal)) (i : Fin 2816) (j : Fin 1024) :
    Cert.InGradReferenceIdeal.Read.val_main_v8 (F := Ideal) x0 x1 (ix2 i j) = ∑ k : Fin 8192, x0 (ix2 k i) * x1 (ix2 k j) := by
  rw [Cert.InGradReferenceIdeal.Read.val_main_v8_apply, Cert.InGradReferenceIdeal.Read.val_main_v7_apply, Cert.InGradReferenceIdeal.Read.val_main_v6_apply]
  refine (Cert.InGradReferenceIdeal.Read.val_main_v5_apply _ _ _).trans (Finset.sum_congr rfl fun k _ => ?_)
  rw [Cert.InGradReferenceIdeal.Read.val_main_v4_apply, Cert.InGradReferenceIdeal.Read.val_main_v1_apply,
    show Cert.InGradReferenceIdeal.Read.lidx_main_v5 (Cert.InGradReferenceIdeal.Read.idx_main_v6 (Cert.InGradReferenceIdeal.Read.idx_main_v7 (ix2 i j))) k = ix2 k i from by blk_ext,
    show Cert.InGradReferenceIdeal.Read.ridx_main_v5 (Cert.InGradReferenceIdeal.Read.idx_main_v6 (Cert.InGradReferenceIdeal.Read.idx_main_v7 (ix2 i j))) k = ix2 k j from by blk_ext]
  rfl

theorem in_grad_algebraic : Cert.algebraic_InGradKernelIdeal_InGradReferenceIdeal := by
  intro m g m' g' _ hargs
  refine ⟨fun c => prod m c, ?_, ?_⟩
  · exact (θ_run Cert.InGradKernelIdeal.defs _ _).mono (fun r h c => ⟨(h c).1.trans (array_eq m c), (h c).2⟩)
      (Cert.InGradKernelIdeal.Value.run_blocks (F := Ideal) m g)
  · refine (θ_run Cert.InGradReferenceIdeal.defs _ _).mono (fun r h c => ⟨(h c).1.trans ?_, (h c).2⟩)
      (Cert.InGradReferenceIdeal.Value.run (F := Ideal) m' g')
    obtain ⟨e0, e1⟩ := hargs c
    rw [Cert.InGradReferenceIdeal.Read.val_main_v8_eq, e0, e1]
    funext y
    rw [show y = ix2 (y 0) (y 1) from by blk_ext]
    exact in_grad_reference _ _ _ _

section
set_option maxRecDepth 65536

/-- The two printings call the same kernel. -/
theorem in_grad_calls_eq : Cert.InGradKernel.defs₀ (F := Bits) = Cert.InGradKernelIdeal.defs₀ := by
  unfold Cert.InGradKernel.defs₀ Cert.InGradKernelIdeal.defs₀
  refine congrArg (Defs.onTc (nD := Cert.InGradKernelIdeal.nD) (τ := Cert.InGradKernelIdeal.τ) (sig := Cert.InGradKernelIdeal.sig) (Val := Elt Bits)
    (Λ := Cert.InGradKernelIdeal.Λ₀)) (funext fun l => ?_)
  match l with
  | ⟨0, _⟩ => exact funext fun x => rfl

theorem in_grad_defs_eq : Cert.InGradKernel.defs (F := Bits) = Cert.InGradKernelIdeal.defs := by
  unfold Cert.InGradKernel.defs Cert.InGradKernelIdeal.defs
  exact congrArg (Pipeline.defs Cert.InGradKernelIdeal.pcfgs) in_grad_calls_eq

theorem in_grad_main_eq : Cert.InGradKernel.main (F := Bits) = Cert.InGradKernelIdeal.main := rfl

theorem in_grad_frame_kernel : Cert.quiescent_InGradKernel := by
  intro m ρ _
  have h := Cert.InGradKernelIdeal.Gen.frame (F := Bits) m ρ
  have e : θ_run (Cert.InGradKernel.defs (F := Bits)) (onTc Cert.InGradKernel.main) ⟨m, fun _ => 0, ρ⟩
      = θ_run Cert.InGradKernelIdeal.defs (onTc Cert.InGradKernelIdeal.main) ⟨m, fun _ => 0, ρ⟩ :=
    (congrArg (fun D => θ_run D (onTc Cert.InGradKernel.main) ⟨m, fun _ => 0, ρ⟩) in_grad_defs_eq).trans
      (congrArg (fun P => θ_run Cert.InGradKernelIdeal.defs (onTc P) ⟨m, fun _ => 0, ρ⟩) in_grad_main_eq)
  rw [← e] at h
  exact h

end

theorem in_grad_frame_ideal : Cert.quiescent_InGradKernelIdeal := fun m ρ _ => Cert.InGradKernelIdeal.Gen.frame m ρ

theorem in_grad_frame_reference : Cert.quiescent_InGradReferenceIdeal := by
  intro m ρ _
  exact (θ_run Cert.InGradReferenceIdeal.defs _ _).mono
    (fun r h => And.intro (fun c => (h c).2) (sem_eq_zero_of_no_sems (by decide) r.2)) (Cert.InGradReferenceIdeal.Value.run (F := Ideal) m ρ)

end Cert.Proof

end
-- ==== Proof.Adam.lean ====
/- One step of the optimiser on one entry of a weight: the new moments and the weight's change. -/
module

public import Idealize.ShloMosaic.Lib.Pipeline.ValueKit

@[expose] public section

noncomputable section

namespace Cert.Adam

open Idealize.ShloMosaic

/-- The number of a float word. -/
abbrev lit (b : BitVec 32) : Ideal .f32 := Scalar.ofBits .f32 b

def newM (g m : Ideal .f32) : Ideal .f32 :=
  FloatOps.addf (FloatOps.mulf (lit 0x3F666666#32) m) (FloatOps.mulf (lit 0x3DCCCCCD#32) g)
def newV (g v : Ideal .f32) : Ideal .f32 :=
  FloatOps.addf (FloatOps.mulf (lit 0x3F7FBE77#32) v) (FloatOps.mulf (lit 0x3A83126F#32) (FloatOps.mulf g g))
/-- The change of a weight `w` with gradient `g` and moments `m`, `v`. -/
def delta (w g m v : Ideal .f32) : Ideal .f32 :=
  FloatOps.mulf (lit 0xBA83126F#32) (FloatOps.addf (FloatOps.divf (FloatOps.divf (newM g m) (lit 0x3F26BD02#32))
    (FloatOps.addf (FloatOps.sqrt (FloatOps.divf (newV g v) (lit 0x3C231ACC#32))) (lit 0x322BCC77#32))) (FloatOps.mulf (lit 0x3C23D70A#32) w))

end Cert.Adam

end
-- ==== Proof.StepInEven.lean ====
/- The optimiser's step of the even layers' first projection: the blocks of rows of each result make up the whole array. -/
module

public import proofs.«01_k».proof.Defs
public import proofs.«01_k».proof.Proof.Adam
public import proofs.«01_k».proof.Proof.Gen.StepInEvenKernel
public import proofs.«01_k».proof.Proof.Gen.StepInEvenKernelIdeal
public import proofs.«01_k».proof.Proof.Gen.StepInEvenKernelIdeal.Value
public import proofs.«01_k».proof.Proof.Gen.StepInEvenReferenceIdeal
public import proofs.«01_k».proof.Proof.Gen.StepInEvenReferenceIdeal.Run
public import proofs.«01_k».proof.Proof.Gen.StepInEvenReferenceIdeal.Read
public import Idealize.ShloMosaic.Lib.Pipeline.ValueKit

@[expose] public section

set_option maxRecDepth 16384

noncomputable section

namespace Cert.StepInEvenKernelIdeal.Hand

open Idealize.ShloMosaic Idealize.ShloMosaic.TcCoe Idealize.ShloMosaic.Tactic Idealize.SL.Sem
open Cert.StepInEvenKernelIdeal Cert.StepInEvenKernelIdeal.Gen

variable (m : (ℓ : Loc nD τ sig) → Buf (Elt Ideal) ℓ) (ρ : Dev nD → PrngReg) (c : Dev nD)

/-- The weight, its gradient and its two moments, as matrices. -/
def wt : Vec Ideal S2048x340 .f32 := shapeCast S2048x340 (m ((c.tc : Thread nD τ).loc main_arg0)) shapeCasts_S2x1024x340_S2048x340
def gr : Vec Ideal S2048x340 .f32 := shapeCast S2048x340 (m ((c.tc : Thread nD τ).loc main_arg1)) shapeCasts_S2x1024x340_S2048x340
def m1 : Vec Ideal S2048x340 .f32 := shapeCast S2048x340 (m ((c.tc : Thread nD τ).loc main_arg2)) shapeCasts_S2x1024x340_S2048x340
def m2 : Vec Ideal S2048x340 .f32 := shapeCast S2048x340 (m ((c.tc : Thread nD τ).loc main_arg3)) shapeCasts_S2x1024x340_S2048x340

theorem V_wt : V m c main_v0 = wt m c := by
  unfold V wt hostOps0
  after_results
  rfl
theorem V_gr : V m c main_v1 = gr m c := by
  unfold V gr hostOps0
  after_results
  rfl
theorem V_m1 : V m c main_v2 = m1 m c := by
  unfold V m1 hostOps0
  after_results
  rfl
theorem V_m2 : V m c main_v3 = m2 m c := by
  unfold V m2 hostOps0
  after_results
  rfl

/-- Row `r` of the step's block of rows. -/
def row (t : Fin cfg0.N) (r : Fin 256) : Fin 2048 := ⟨256 * t.val + r.val, by have : t.val < 8 := t.isLt; have := r.isLt; omega⟩

theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem blk0_at (t : Fin cfg0.N) (r : Fin 256) (l : Fin 340) : iblk m c 0 t (ix2 r l) = wt m c (ix2 (row t r) l) := by
  unfold iblk row
  refine Eq.trans ?_ (congrFun (V_wt m c) _)
  blk_ext [(idx0 t).1]
theorem blk1_at (t : Fin cfg0.N) (r : Fin 256) (l : Fin 340) : iblk m c 1 t (ix2 r l) = gr m c (ix2 (row t r) l) := by
  unfold iblk row
  refine Eq.trans ?_ (congrFun (V_gr m c) _)
  blk_ext [(idx0 t).2.1]
theorem blk2_at (t : Fin cfg0.N) (r : Fin 256) (l : Fin 340) : iblk m c 2 t (ix2 r l) = m1 m c (ix2 (row t r) l) := by
  unfold iblk row
  refine Eq.trans ?_ (congrFun (V_m1 m c) _)
  blk_ext [(idx0 t).2.2.1]
theorem blk3_at (t : Fin cfg0.N) (r : Fin 256) (l : Fin 340) : iblk m c 3 t (ix2 r l) = m2 m c (ix2 (row t r) l) := by
  unfold iblk row
  refine Eq.trans ?_ (congrFun (V_m2 m c) _)
  blk_ext [(idx0 t).2.2.2.1]

theorem emb4 (t : Fin cfg0.N) (y : S256x340.Idx) : (win0_4.blk t).view.emb y = ix2 (row t (y 0)) (y 1) := by
  unfold row
  blk_ext [(idx0 t).2.2.2.2.1]
theorem emb5 (t : Fin cfg0.N) (y : S256x340.Idx) : (win0_5.blk t).view.emb y = ix2 (row t (y 0)) (y 1) := by
  unfold row
  blk_ext [(idx0 t).2.2.2.2.2.1]
theorem emb6 (t : Fin cfg0.N) (y : S256x340.Idx) : (win0_6.blk t).view.emb y = ix2 (row t (y 0)) (y 1) := by
  unfold row
  blk_ext [(idx0 t).2.2.2.2.2.2]

theorem covers4 : (cfg0.win 4).Covers := by decide +kernel
theorem covers5 : (cfg0.win 5).Covers := by decide +kernel
theorem covers6 : (cfg0.win 6).Covers := by decide +kernel

/-- The three results. -/
def change : Buf (Elt Ideal) ((c.tc : Thread nD τ).loc main_v4_0) := fun y => Cert.Adam.delta (wt m c y) (gr m c y) (m1 m c y) (m2 m c y)
def first : Buf (Elt Ideal) ((c.tc : Thread nD τ).loc main_v4_1) := fun y => Cert.Adam.newM (gr m c y) (m1 m c y)
def second : Buf (Elt Ideal) ((c.tc : Thread nD τ).loc main_v4_2) := fun y => Cert.Adam.newV (gr m c y) (m2 m c y)

theorem first_step (G M : Vec Ideal S256x340 .f32) (a : Fin 256) (b : Fin 340) :
    k0_pay2 G M (ix2 a b) = Cert.Adam.newM (G (ix2 a b)) (M (ix2 a b)) := by
  pointwise [k0_pay2, k0_pay1, Cert.Adam.newM]
theorem second_step (G M : Vec Ideal S256x340 .f32) (a : Fin 256) (b : Fin 340) :
    k0_pay3 G M (ix2 a b) = Cert.Adam.newV (G (ix2 a b)) (M (ix2 a b)) := by
  pointwise [k0_pay3, k0_pay1, Cert.Adam.newV]
theorem change_step (W G M U : Vec Ideal S256x340 .f32) (a : Fin 256) (b : Fin 340) :
    k0_pay4 G M U W (ix2 a b) = Cert.Adam.delta (W (ix2 a b)) (G (ix2 a b)) (M (ix2 a b)) (U (ix2 a b)) := by
  unfold Cert.Adam.delta
  rw [← first_step G M a b, ← second_step G U a b]
  pointwise [k0_pay4]

theorem change_eq : (dats m 0 c).arrAt 4 cfg0.N = change m c := by
  refine Pipeline.Dat.arrAt_eq_of_covers (dats m 0 c) 4 _ covers4 fun t hf y => ?_
  refine Eq.trans ?_ (congrArg (change m c) (emb4 t y)).symm
  obtain ⟨a, b, rfl⟩ : ∃ a b, y = (ix2 a b : S256x340.Idx) := ⟨y 0, y 1, by blk_ext⟩
  blk_simp
  rw [after0_4]
  frame_out
  refine (change_step _ _ _ _ a b).trans ?_
  rw [blk0_at, blk1_at, blk2_at, blk3_at]
  rfl

theorem first_eq : (dats m 0 c).arrAt 5 cfg0.N = first m c := by
  refine Pipeline.Dat.arrAt_eq_of_covers (dats m 0 c) 5 _ covers5 fun t hf y => ?_
  refine Eq.trans ?_ (congrArg (first m c) (emb5 t y)).symm
  obtain ⟨a, b, rfl⟩ : ∃ a b, y = (ix2 a b : S256x340.Idx) := ⟨y 0, y 1, by blk_ext⟩
  blk_simp
  rw [after0_5]
  frame_out
  refine (first_step _ _ a b).trans ?_
  rw [blk1_at, blk2_at]
  rfl

theorem second_eq : (dats m 0 c).arrAt 6 cfg0.N = second m c := by
  refine Pipeline.Dat.arrAt_eq_of_covers (dats m 0 c) 6 _ covers6 fun t hf y => ?_
  refine Eq.trans ?_ (congrArg (second m c) (emb6 t y)).symm
  obtain ⟨a, b, rfl⟩ : ∃ a b, y = (ix2 a b : S256x340.Idx) := ⟨y 0, y 1, by blk_ext⟩
  blk_simp
  rw [after0_6]
  frame_out
  refine (second_step _ _ a b).trans ?_
  rw [blk1_at, blk3_at]
  rfl

end Cert.StepInEvenKernelIdeal.Hand

namespace Cert.Proof

open Idealize.ShloMosaic Idealize.ShloMosaic.TcCoe Idealize.ShloMosaic.Tactic Idealize.SL.Sem
open Cert.StepInEvenKernelIdeal.Hand

theorem step_in_even_algebraic : Cert.algebraic_StepInEvenKernelIdeal_StepInEvenReferenceIdeal := by
  intro m g m' g' _ hargs
  refine ⟨fun c => change m c, fun c => first m c, fun c => second m c, ?_, ?_⟩
  · exact (θ_run Cert.StepInEvenKernelIdeal.defs _ _).mono (fun r h c => ⟨(h c).1.trans (change_eq m c), (h c).2.1.trans (first_eq m c),
      (h c).2.2.1.trans (second_eq m c), (h c).2.2.2⟩) (Cert.StepInEvenKernelIdeal.Value.run_blocks (F := Ideal) m g)
  · refine (θ_run Cert.StepInEvenReferenceIdeal.defs _ _).mono (fun r h c => ⟨(h c).1.trans ?_, (h c).2.1.trans ?_, (h c).2.2.1.trans ?_, (h c).2.2.2⟩)
      (Cert.StepInEvenReferenceIdeal.Value.run (F := Ideal) m' g')
    all_goals obtain ⟨e0, e1, e2, e3⟩ := hargs c
    · rw [Cert.StepInEvenReferenceIdeal.Read.val_main_v24_eq, e0, e1, e2, e3]
      rfl
    · rw [Cert.StepInEvenReferenceIdeal.Read.val_main_v25_eq, e1, e2]
      rfl
    · rw [Cert.StepInEvenReferenceIdeal.Read.val_main_v26_eq, e1, e3]
      rfl

section
set_option maxRecDepth 65536

/-- The two printings call the same kernel. -/
theorem step_in_even_calls_eq : Cert.StepInEvenKernel.defs₀ (F := Bits) = Cert.StepInEvenKernelIdeal.defs₀ := by
  unfold Cert.StepInEvenKernel.defs₀ Cert.StepInEvenKernelIdeal.defs₀
  refine congrArg (Defs.onTc (nD := Cert.StepInEvenKernelIdeal.nD) (τ := Cert.StepInEvenKernelIdeal.τ) (sig := Cert.StepInEvenKernelIdeal.sig) (Val := Elt Bits)
    (Λ := Cert.StepInEvenKernelIdeal.Λ₀)) (funext fun l => ?_)
  match l with
  | ⟨0, _⟩ => exact funext fun x => rfl

theorem step_in_even_defs_eq : Cert.StepInEvenKernel.defs (F := Bits) = Cert.StepInEvenKernelIdeal.defs := by
  unfold Cert.StepInEvenKernel.defs Cert.StepInEvenKernelIdeal.defs
  exact congrArg (Pipeline.defs Cert.StepInEvenKernelIdeal.pcfgs) step_in_even_calls_eq

theorem step_in_even_main_eq : Cert.StepInEvenKernel.main (F := Bits) = Cert.StepInEvenKernelIdeal.main := rfl

theorem step_in_even_frame_kernel : Cert.quiescent_StepInEvenKernel := by
  intro m ρ _
  have h := Cert.StepInEvenKernelIdeal.Gen.frame (F := Bits) m ρ
  have e : θ_run (Cert.StepInEvenKernel.defs (F := Bits)) (onTc Cert.StepInEvenKernel.main) ⟨m, fun _ => 0, ρ⟩
      = θ_run Cert.StepInEvenKernelIdeal.defs (onTc Cert.StepInEvenKernelIdeal.main) ⟨m, fun _ => 0, ρ⟩ :=
    (congrArg (fun D => θ_run D (onTc Cert.StepInEvenKernel.main) ⟨m, fun _ => 0, ρ⟩) step_in_even_defs_eq).trans
      (congrArg (fun P => θ_run Cert.StepInEvenKernelIdeal.defs (onTc P) ⟨m, fun _ => 0, ρ⟩) step_in_even_main_eq)
  rw [← e] at h
  exact h

end

theorem step_in_even_frame_ideal : Cert.quiescent_StepInEvenKernelIdeal := fun m ρ _ => Cert.StepInEvenKernelIdeal.Gen.frame m ρ

theorem step_in_even_frame_reference : Cert.quiescent_StepInEvenReferenceIdeal := by
  intro m ρ _
  exact (θ_run Cert.StepInEvenReferenceIdeal.defs _ _).mono
    (fun r h => And.intro (fun c => (h c).2.2.2) (sem_eq_zero_of_no_sems (by decide) r.2)) (Cert.StepInEvenReferenceIdeal.Value.run (F := Ideal) m ρ)

end Cert.Proof

end
-- ==== Proof.StepOut.lean ====
/- The optimiser's step of a mixer's last projection: the blocks of rows of each result make up the whole array. -/
module

public import proofs.«01_k».proof.Defs
public import proofs.«01_k».proof.Proof.Adam
public import proofs.«01_k».proof.Proof.Gen.StepOutKernel
public import proofs.«01_k».proof.Proof.Gen.StepOutKernelIdeal
public import proofs.«01_k».proof.Proof.Gen.StepOutKernelIdeal.Value
public import proofs.«01_k».proof.Proof.Gen.StepOutReferenceIdeal
public import proofs.«01_k».proof.Proof.Gen.StepOutReferenceIdeal.Run
public import proofs.«01_k».proof.Proof.Gen.StepOutReferenceIdeal.Read
public import Idealize.ShloMosaic.Lib.Pipeline.ValueKit

@[expose] public section

set_option maxRecDepth 16384

noncomputable section

namespace Cert.StepOutKernelIdeal.Hand

open Idealize.ShloMosaic Idealize.ShloMosaic.TcCoe Idealize.ShloMosaic.Tactic Idealize.SL.Sem
open Cert.StepOutKernelIdeal Cert.StepOutKernelIdeal.Gen

variable (m : (ℓ : Loc nD τ sig) → Buf (Elt Ideal) ℓ) (ρ : Dev nD → PrngReg) (c : Dev nD)

/-- The weight, its gradient and its two moments, as matrices. -/
def wt : Vec Ideal S256x1024 .f32 := shapeCast S256x1024 (m ((c.tc : Thread nD τ).loc main_arg0)) shapeCasts_S2x128x1024_S256x1024
def gr : Vec Ideal S256x1024 .f32 := shapeCast S256x1024 (m ((c.tc : Thread nD τ).loc main_arg1)) shapeCasts_S2x128x1024_S256x1024
def m1 : Vec Ideal S256x1024 .f32 := shapeCast S256x1024 (m ((c.tc : Thread nD τ).loc main_arg2)) shapeCasts_S2x128x1024_S256x1024
def m2 : Vec Ideal S256x1024 .f32 := shapeCast S256x1024 (m ((c.tc : Thread nD τ).loc main_arg3)) shapeCasts_S2x128x1024_S256x1024

theorem V_wt : V m c main_v0 = wt m c := by
  unfold V wt hostOps0
  after_results
  rfl
theorem V_gr : V m c main_v1 = gr m c := by
  unfold V gr hostOps0
  after_results
  rfl
theorem V_m1 : V m c main_v2 = m1 m c := by
  unfold V m1 hostOps0
  after_results
  rfl
theorem V_m2 : V m c main_v3 = m2 m c := by
  unfold V m2 hostOps0
  after_results
  rfl

/-- Row `r` of the step's block of rows. -/
def row (t : Fin cfg0.N) (r : Fin 256) : Fin 256 := ⟨256 * t.val + r.val, by have : t.val < 1 := t.isLt; have := r.isLt; omega⟩

theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem blk0_at (t : Fin cfg0.N) (r : Fin 256) (l : Fin 1024) : iblk m c 0 t (ix2 r l) = wt m c (ix2 (row t r) l) := by
  unfold iblk row
  refine Eq.trans ?_ (congrFun (V_wt m c) _)
  blk_ext [(idx0 t).1]
theorem blk1_at (t : Fin cfg0.N) (r : Fin 256) (l : Fin 1024) : iblk m c 1 t (ix2 r l) = gr m c (ix2 (row t r) l) := by
  unfold iblk row
  refine Eq.trans ?_ (congrFun (V_gr m c) _)
  blk_ext [(idx0 t).2.1]
theorem blk2_at (t : Fin cfg0.N) (r : Fin 256) (l : Fin 1024) : iblk m c 2 t (ix2 r l) = m1 m c (ix2 (row t r) l) := by
  unfold iblk row
  refine Eq.trans ?_ (congrFun (V_m1 m c) _)
  blk_ext [(idx0 t).2.2.1]
theorem blk3_at (t : Fin cfg0.N) (r : Fin 256) (l : Fin 1024) : iblk m c 3 t (ix2 r l) = m2 m c (ix2 (row t r) l) := by
  unfold iblk row
  refine Eq.trans ?_ (congrFun (V_m2 m c) _)
  blk_ext [(idx0 t).2.2.2.1]

theorem emb4 (t : Fin cfg0.N) (y : S256x1024.Idx) : (win0_4.blk t).view.emb y = ix2 (row t (y 0)) (y 1) := by
  unfold row
  blk_ext [(idx0 t).2.2.2.2.1]
theorem emb5 (t : Fin cfg0.N) (y : S256x1024.Idx) : (win0_5.blk t).view.emb y = ix2 (row t (y 0)) (y 1) := by
  unfold row
  blk_ext [(idx0 t).2.2.2.2.2.1]
theorem emb6 (t : Fin cfg0.N) (y : S256x1024.Idx) : (win0_6.blk t).view.emb y = ix2 (row t (y 0)) (y 1) := by
  unfold row
  blk_ext [(idx0 t).2.2.2.2.2.2]

theorem covers4 : (cfg0.win 4).Covers := by decide +kernel
theorem covers5 : (cfg0.win 5).Covers := by decide +kernel
theorem covers6 : (cfg0.win 6).Covers := by decide +kernel

/-- The three results. -/
def change : Buf (Elt Ideal) ((c.tc : Thread nD τ).loc main_v4_0) := fun y => Cert.Adam.delta (wt m c y) (gr m c y) (m1 m c y) (m2 m c y)
def first : Buf (Elt Ideal) ((c.tc : Thread nD τ).loc main_v4_1) := fun y => Cert.Adam.newM (gr m c y) (m1 m c y)
def second : Buf (Elt Ideal) ((c.tc : Thread nD τ).loc main_v4_2) := fun y => Cert.Adam.newV (gr m c y) (m2 m c y)

theorem first_step (G M : Vec Ideal S256x1024 .f32) (a : Fin 256) (b : Fin 1024) :
    k0_pay2 G M (ix2 a b) = Cert.Adam.newM (G (ix2 a b)) (M (ix2 a b)) := by
  pointwise [k0_pay2, k0_pay1, Cert.Adam.newM]
theorem second_step (G M : Vec Ideal S256x1024 .f32) (a : Fin 256) (b : Fin 1024) :
    k0_pay3 G M (ix2 a b) = Cert.Adam.newV (G (ix2 a b)) (M (ix2 a b)) := by
  pointwise [k0_pay3, k0_pay1, Cert.Adam.newV]
theorem change_step (W G M U : Vec Ideal S256x1024 .f32) (a : Fin 256) (b : Fin 1024) :
    k0_pay4 G M U W (ix2 a b) = Cert.Adam.delta (W (ix2 a b)) (G (ix2 a b)) (M (ix2 a b)) (U (ix2 a b)) := by
  unfold Cert.Adam.delta
  rw [← first_step G M a b, ← second_step G U a b]
  pointwise [k0_pay4]

theorem change_eq : (dats m 0 c).arrAt 4 cfg0.N = change m c := by
  refine Pipeline.Dat.arrAt_eq_of_covers (dats m 0 c) 4 _ covers4 fun t hf y => ?_
  refine Eq.trans ?_ (congrArg (change m c) (emb4 t y)).symm
  obtain ⟨a, b, rfl⟩ : ∃ a b, y = (ix2 a b : S256x1024.Idx) := ⟨y 0, y 1, by blk_ext⟩
  blk_simp
  rw [after0_4]
  frame_out
  refine (change_step _ _ _ _ a b).trans ?_
  rw [blk0_at, blk1_at, blk2_at, blk3_at]
  rfl

theorem first_eq : (dats m 0 c).arrAt 5 cfg0.N = first m c := by
  refine Pipeline.Dat.arrAt_eq_of_covers (dats m 0 c) 5 _ covers5 fun t hf y => ?_
  refine Eq.trans ?_ (congrArg (first m c) (emb5 t y)).symm
  obtain ⟨a, b, rfl⟩ : ∃ a b, y = (ix2 a b : S256x1024.Idx) := ⟨y 0, y 1, by blk_ext⟩
  blk_simp
  rw [after0_5]
  frame_out
  refine (first_step _ _ a b).trans ?_
  rw [blk1_at, blk2_at]
  rfl

theorem second_eq : (dats m 0 c).arrAt 6 cfg0.N = second m c := by
  refine Pipeline.Dat.arrAt_eq_of_covers (dats m 0 c) 6 _ covers6 fun t hf y => ?_
  refine Eq.trans ?_ (congrArg (second m c) (emb6 t y)).symm
  obtain ⟨a, b, rfl⟩ : ∃ a b, y = (ix2 a b : S256x1024.Idx) := ⟨y 0, y 1, by blk_ext⟩
  blk_simp
  rw [after0_6]
  frame_out
  refine (second_step _ _ a b).trans ?_
  rw [blk1_at, blk3_at]
  rfl

end Cert.StepOutKernelIdeal.Hand

namespace Cert.Proof

open Idealize.ShloMosaic Idealize.ShloMosaic.TcCoe Idealize.ShloMosaic.Tactic Idealize.SL.Sem
open Cert.StepOutKernelIdeal.Hand

theorem step_out_algebraic : Cert.algebraic_StepOutKernelIdeal_StepOutReferenceIdeal := by
  intro m g m' g' _ hargs
  refine ⟨fun c => change m c, fun c => first m c, fun c => second m c, ?_, ?_⟩
  · exact (θ_run Cert.StepOutKernelIdeal.defs _ _).mono (fun r h c => ⟨(h c).1.trans (change_eq m c), (h c).2.1.trans (first_eq m c),
      (h c).2.2.1.trans (second_eq m c), (h c).2.2.2⟩) (Cert.StepOutKernelIdeal.Value.run_blocks (F := Ideal) m g)
  · refine (θ_run Cert.StepOutReferenceIdeal.defs _ _).mono (fun r h c => ⟨(h c).1.trans ?_, (h c).2.1.trans ?_, (h c).2.2.1.trans ?_, (h c).2.2.2⟩)
      (Cert.StepOutReferenceIdeal.Value.run (F := Ideal) m' g')
    all_goals obtain ⟨e0, e1, e2, e3⟩ := hargs c
    · rw [Cert.StepOutReferenceIdeal.Read.val_main_v24_eq, e0, e1, e2, e3]
      rfl
    · rw [Cert.StepOutReferenceIdeal.Read.val_main_v25_eq, e1, e2]
      rfl
    · rw [Cert.StepOutReferenceIdeal.Read.val_main_v26_eq, e1, e3]
      rfl

section
set_option maxRecDepth 65536

/-- The two printings call the same kernel. -/
theorem step_out_calls_eq : Cert.StepOutKernel.defs₀ (F := Bits) = Cert.StepOutKernelIdeal.defs₀ := by
  unfold Cert.StepOutKernel.defs₀ Cert.StepOutKernelIdeal.defs₀
  refine congrArg (Defs.onTc (nD := Cert.StepOutKernelIdeal.nD) (τ := Cert.StepOutKernelIdeal.τ) (sig := Cert.StepOutKernelIdeal.sig) (Val := Elt Bits)
    (Λ := Cert.StepOutKernelIdeal.Λ₀)) (funext fun l => ?_)
  match l with
  | ⟨0, _⟩ => exact funext fun x => rfl

theorem step_out_defs_eq : Cert.StepOutKernel.defs (F := Bits) = Cert.StepOutKernelIdeal.defs := by
  unfold Cert.StepOutKernel.defs Cert.StepOutKernelIdeal.defs
  exact congrArg (Pipeline.defs Cert.StepOutKernelIdeal.pcfgs) step_out_calls_eq

theorem step_out_main_eq : Cert.StepOutKernel.main (F := Bits) = Cert.StepOutKernelIdeal.main := rfl

theorem step_out_frame_kernel : Cert.quiescent_StepOutKernel := by
  intro m ρ _
  have h := Cert.StepOutKernelIdeal.Gen.frame (F := Bits) m ρ
  have e : θ_run (Cert.StepOutKernel.defs (F := Bits)) (onTc Cert.StepOutKernel.main) ⟨m, fun _ => 0, ρ⟩
      = θ_run Cert.StepOutKernelIdeal.defs (onTc Cert.StepOutKernelIdeal.main) ⟨m, fun _ => 0, ρ⟩ :=
    (congrArg (fun D => θ_run D (onTc Cert.StepOutKernel.main) ⟨m, fun _ => 0, ρ⟩) step_out_defs_eq).trans
      (congrArg (fun P => θ_run Cert.StepOutKernelIdeal.defs (onTc P) ⟨m, fun _ => 0, ρ⟩) step_out_main_eq)
  rw [← e] at h
  exact h

end

theorem step_out_frame_ideal : Cert.quiescent_StepOutKernelIdeal := fun m ρ _ => Cert.StepOutKernelIdeal.Gen.frame m ρ

theorem step_out_frame_reference : Cert.quiescent_StepOutReferenceIdeal := by
  intro m ρ _
  exact (θ_run Cert.StepOutReferenceIdeal.defs _ _).mono
    (fun r h => And.intro (fun c => (h c).2.2.2) (sem_eq_zero_of_no_sems (by decide) r.2)) (Cert.StepOutReferenceIdeal.Value.run (F := Ideal) m ρ)

end Cert.Proof

end
-- ==== Proof.StepInOdd.lean ====
/- The optimiser's step of the odd layers' first projection: the blocks of rows of each result make up the whole array. -/
module

public import proofs.«01_k».proof.Defs
public import proofs.«01_k».proof.Proof.Adam
public import proofs.«01_k».proof.Proof.Gen.StepInOddKernel
public import proofs.«01_k».proof.Proof.Gen.StepInOddKernelIdeal
public import proofs.«01_k».proof.Proof.Gen.StepInOddKernelIdeal.Value
public import proofs.«01_k».proof.Proof.Gen.StepInOddReferenceIdeal
public import proofs.«01_k».proof.Proof.Gen.StepInOddReferenceIdeal.Run
public import proofs.«01_k».proof.Proof.Gen.StepInOddReferenceIdeal.Read
public import Idealize.ShloMosaic.Lib.Pipeline.ValueKit

@[expose] public section

set_option maxRecDepth 16384

noncomputable section

namespace Cert.StepInOddKernelIdeal.Hand

open Idealize.ShloMosaic Idealize.ShloMosaic.TcCoe Idealize.ShloMosaic.Tactic Idealize.SL.Sem
open Cert.StepInOddKernelIdeal Cert.StepInOddKernelIdeal.Gen

variable (m : (ℓ : Loc nD τ sig) → Buf (Elt Ideal) ℓ) (ρ : Dev nD → PrngReg) (c : Dev nD)

/-- The weight, its gradient and its two moments, as matrices. -/
def wt : Vec Ideal S2048x388 .f32 := shapeCast S2048x388 (m ((c.tc : Thread nD τ).loc main_arg0)) shapeCasts_S2x1024x388_S2048x388
def gr : Vec Ideal S2048x388 .f32 := shapeCast S2048x388 (m ((c.tc : Thread nD τ).loc main_arg1)) shapeCasts_S2x1024x388_S2048x388
def m1 : Vec Ideal S2048x388 .f32 := shapeCast S2048x388 (m ((c.tc : Thread nD τ).loc main_arg2)) shapeCasts_S2x1024x388_S2048x388
def m2 : Vec Ideal S2048x388 .f32 := shapeCast S2048x388 (m ((c.tc : Thread nD τ).loc main_arg3)) shapeCasts_S2x1024x388_S2048x388

theorem V_wt : V m c main_v0 = wt m c := by
  unfold V wt hostOps0
  after_results
  rfl
theorem V_gr : V m c main_v1 = gr m c := by
  unfold V gr hostOps0
  after_results
  rfl
theorem V_m1 : V m c main_v2 = m1 m c := by
  unfold V m1 hostOps0
  after_results
  rfl
theorem V_m2 : V m c main_v3 = m2 m c := by
  unfold V m2 hostOps0
  after_results
  rfl

/-- Row `r` of the step's block of rows. -/
def row (t : Fin cfg0.N) (r : Fin 256) : Fin 2048 := ⟨256 * t.val + r.val, by have : t.val < 8 := t.isLt; have := r.isLt; omega⟩

theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem blk0_at (t : Fin cfg0.N) (r : Fin 256) (l : Fin 388) : iblk m c 0 t (ix2 r l) = wt m c (ix2 (row t r) l) := by
  unfold iblk row
  refine Eq.trans ?_ (congrFun (V_wt m c) _)
  blk_ext [(idx0 t).1]
theorem blk1_at (t : Fin cfg0.N) (r : Fin 256) (l : Fin 388) : iblk m c 1 t (ix2 r l) = gr m c (ix2 (row t r) l) := by
  unfold iblk row
  refine Eq.trans ?_ (congrFun (V_gr m c) _)
  blk_ext [(idx0 t).2.1]
theorem blk2_at (t : Fin cfg0.N) (r : Fin 256) (l : Fin 388) : iblk m c 2 t (ix2 r l) = m1 m c (ix2 (row t r) l) := by
  unfold iblk row
  refine Eq.trans ?_ (congrFun (V_m1 m c) _)
  blk_ext [(idx0 t).2.2.1]
theorem blk3_at (t : Fin cfg0.N) (r : Fin 256) (l : Fin 388) : iblk m c 3 t (ix2 r l) = m2 m c (ix2 (row t r) l) := by
  unfold iblk row
  refine Eq.trans ?_ (congrFun (V_m2 m c) _)
  blk_ext [(idx0 t).2.2.2.1]

theorem emb4 (t : Fin cfg0.N) (y : S256x388.Idx) : (win0_4.blk t).view.emb y = ix2 (row t (y 0)) (y 1) := by
  unfold row
  blk_ext [(idx0 t).2.2.2.2.1]
theorem emb5 (t : Fin cfg0.N) (y : S256x388.Idx) : (win0_5.blk t).view.emb y = ix2 (row t (y 0)) (y 1) := by
  unfold row
  blk_ext [(idx0 t).2.2.2.2.2.1]
theorem emb6 (t : Fin cfg0.N) (y : S256x388.Idx) : (win0_6.blk t).view.emb y = ix2 (row t (y 0)) (y 1) := by
  unfold row
  blk_ext [(idx0 t).2.2.2.2.2.2]

theorem covers4 : (cfg0.win 4).Covers := by decide +kernel
theorem covers5 : (cfg0.win 5).Covers := by decide +kernel
theorem covers6 : (cfg0.win 6).Covers := by decide +kernel

/-- The three results. -/
def change : Buf (Elt Ideal) ((c.tc : Thread nD τ).loc main_v4_0) := fun y => Cert.Adam.delta (wt m c y) (gr m c y) (m1 m c y) (m2 m c y)
def first : Buf (Elt Ideal) ((c.tc : Thread nD τ).loc main_v4_1) := fun y => Cert.Adam.newM (gr m c y) (m1 m c y)
def second : Buf (Elt Ideal) ((c.tc : Thread nD τ).loc main_v4_2) := fun y => Cert.Adam.newV (gr m c y) (m2 m c y)

theorem first_step (G M : Vec Ideal S256x388 .f32) (a : Fin 256) (b : Fin 388) :
    k0_pay2 G M (ix2 a b) = Cert.Adam.newM (G (ix2 a b)) (M (ix2 a b)) := by
  pointwise [k0_pay2, k0_pay1, Cert.Adam.newM]
theorem second_step (G M : Vec Ideal S256x388 .f32) (a : Fin 256) (b : Fin 388) :
    k0_pay3 G M (ix2 a b) = Cert.Adam.newV (G (ix2 a b)) (M (ix2 a b)) := by
  pointwise [k0_pay3, k0_pay1, Cert.Adam.newV]
theorem change_step (W G M U : Vec Ideal S256x388 .f32) (a : Fin 256) (b : Fin 388) :
    k0_pay4 G M U W (ix2 a b) = Cert.Adam.delta (W (ix2 a b)) (G (ix2 a b)) (M (ix2 a b)) (U (ix2 a b)) := by
  unfold Cert.Adam.delta
  rw [← first_step G M a b, ← second_step G U a b]
  pointwise [k0_pay4]

theorem change_eq : (dats m 0 c).arrAt 4 cfg0.N = change m c := by
  refine Pipeline.Dat.arrAt_eq_of_covers (dats m 0 c) 4 _ covers4 fun t hf y => ?_
  refine Eq.trans ?_ (congrArg (change m c) (emb4 t y)).symm
  obtain ⟨a, b, rfl⟩ : ∃ a b, y = (ix2 a b : S256x388.Idx) := ⟨y 0, y 1, by blk_ext⟩
  blk_simp
  rw [after0_4]
  frame_out
  refine (change_step _ _ _ _ a b).trans ?_
  rw [blk0_at, blk1_at, blk2_at, blk3_at]
  rfl

theorem first_eq : (dats m 0 c).arrAt 5 cfg0.N = first m c := by
  refine Pipeline.Dat.arrAt_eq_of_covers (dats m 0 c) 5 _ covers5 fun t hf y => ?_
  refine Eq.trans ?_ (congrArg (first m c) (emb5 t y)).symm
  obtain ⟨a, b, rfl⟩ : ∃ a b, y = (ix2 a b : S256x388.Idx) := ⟨y 0, y 1, by blk_ext⟩
  blk_simp
  rw [after0_5]
  frame_out
  refine (first_step _ _ a b).trans ?_
  rw [blk1_at, blk2_at]
  rfl

theorem second_eq : (dats m 0 c).arrAt 6 cfg0.N = second m c := by
  refine Pipeline.Dat.arrAt_eq_of_covers (dats m 0 c) 6 _ covers6 fun t hf y => ?_
  refine Eq.trans ?_ (congrArg (second m c) (emb6 t y)).symm
  obtain ⟨a, b, rfl⟩ : ∃ a b, y = (ix2 a b : S256x388.Idx) := ⟨y 0, y 1, by blk_ext⟩
  blk_simp
  rw [after0_6]
  frame_out
  refine (second_step _ _ a b).trans ?_
  rw [blk1_at, blk3_at]
  rfl

end Cert.StepInOddKernelIdeal.Hand

namespace Cert.Proof

open Idealize.ShloMosaic Idealize.ShloMosaic.TcCoe Idealize.ShloMosaic.Tactic Idealize.SL.Sem
open Cert.StepInOddKernelIdeal.Hand

theorem step_in_odd_algebraic : Cert.algebraic_StepInOddKernelIdeal_StepInOddReferenceIdeal := by
  intro m g m' g' _ hargs
  refine ⟨fun c => change m c, fun c => first m c, fun c => second m c, ?_, ?_⟩
  · exact (θ_run Cert.StepInOddKernelIdeal.defs _ _).mono (fun r h c => ⟨(h c).1.trans (change_eq m c), (h c).2.1.trans (first_eq m c),
      (h c).2.2.1.trans (second_eq m c), (h c).2.2.2⟩) (Cert.StepInOddKernelIdeal.Value.run_blocks (F := Ideal) m g)
  · refine (θ_run Cert.StepInOddReferenceIdeal.defs _ _).mono (fun r h c => ⟨(h c).1.trans ?_, (h c).2.1.trans ?_, (h c).2.2.1.trans ?_, (h c).2.2.2⟩)
      (Cert.StepInOddReferenceIdeal.Value.run (F := Ideal) m' g')
    all_goals obtain ⟨e0, e1, e2, e3⟩ := hargs c
    · rw [Cert.StepInOddReferenceIdeal.Read.val_main_v24_eq, e0, e1, e2, e3]
      rfl
    · rw [Cert.StepInOddReferenceIdeal.Read.val_main_v25_eq, e1, e2]
      rfl
    · rw [Cert.StepInOddReferenceIdeal.Read.val_main_v26_eq, e1, e3]
      rfl

section
set_option maxRecDepth 65536

/-- The two printings call the same kernel. -/
theorem step_in_odd_calls_eq : Cert.StepInOddKernel.defs₀ (F := Bits) = Cert.StepInOddKernelIdeal.defs₀ := by
  unfold Cert.StepInOddKernel.defs₀ Cert.StepInOddKernelIdeal.defs₀
  refine congrArg (Defs.onTc (nD := Cert.StepInOddKernelIdeal.nD) (τ := Cert.StepInOddKernelIdeal.τ) (sig := Cert.StepInOddKernelIdeal.sig) (Val := Elt Bits)
    (Λ := Cert.StepInOddKernelIdeal.Λ₀)) (funext fun l => ?_)
  match l with
  | ⟨0, _⟩ => exact funext fun x => rfl

theorem step_in_odd_defs_eq : Cert.StepInOddKernel.defs (F := Bits) = Cert.StepInOddKernelIdeal.defs := by
  unfold Cert.StepInOddKernel.defs Cert.StepInOddKernelIdeal.defs
  exact congrArg (Pipeline.defs Cert.StepInOddKernelIdeal.pcfgs) step_in_odd_calls_eq

theorem step_in_odd_main_eq : Cert.StepInOddKernel.main (F := Bits) = Cert.StepInOddKernelIdeal.main := rfl

theorem step_in_odd_frame_kernel : Cert.quiescent_StepInOddKernel := by
  intro m ρ _
  have h := Cert.StepInOddKernelIdeal.Gen.frame (F := Bits) m ρ
  have e : θ_run (Cert.StepInOddKernel.defs (F := Bits)) (onTc Cert.StepInOddKernel.main) ⟨m, fun _ => 0, ρ⟩
      = θ_run Cert.StepInOddKernelIdeal.defs (onTc Cert.StepInOddKernelIdeal.main) ⟨m, fun _ => 0, ρ⟩ :=
    (congrArg (fun D => θ_run D (onTc Cert.StepInOddKernel.main) ⟨m, fun _ => 0, ρ⟩) step_in_odd_defs_eq).trans
      (congrArg (fun P => θ_run Cert.StepInOddKernelIdeal.defs (onTc P) ⟨m, fun _ => 0, ρ⟩) step_in_odd_main_eq)
  rw [← e] at h
  exact h

end

theorem step_in_odd_frame_ideal : Cert.quiescent_StepInOddKernelIdeal := fun m ρ _ => Cert.StepInOddKernelIdeal.Gen.frame m ρ

theorem step_in_odd_frame_reference : Cert.quiescent_StepInOddReferenceIdeal := by
  intro m ρ _
  exact (θ_run Cert.StepInOddReferenceIdeal.defs _ _).mono
    (fun r h => And.intro (fun c => (h c).2.2.2) (sem_eq_zero_of_no_sems (by decide) r.2)) (Cert.StepInOddReferenceIdeal.Value.run (F := Ideal) m ρ)

end Cert.Proof

end
-- ==== Proof.StepUp.lean ====
/- The optimiser's step of the feed-forward layers' first matrix: the blocks of rows of each result make up the whole array. -/
module

public import proofs.«01_k».proof.Defs
public import proofs.«01_k».proof.Proof.Adam
public import proofs.«01_k».proof.Proof.Gen.StepUpKernel
public import proofs.«01_k».proof.Proof.Gen.StepUpKernelIdeal
public import proofs.«01_k».proof.Proof.Gen.StepUpKernelIdeal.Value
public import proofs.«01_k».proof.Proof.Gen.StepUpReferenceIdeal
public import proofs.«01_k».proof.Proof.Gen.StepUpReferenceIdeal.Run
public import proofs.«01_k».proof.Proof.Gen.StepUpReferenceIdeal.Read
public import Idealize.ShloMosaic.Lib.Pipeline.ValueKit

@[expose] public section

set_option maxRecDepth 16384

noncomputable section

namespace Cert.StepUpKernelIdeal.Hand

open Idealize.ShloMosaic Idealize.ShloMosaic.TcCoe Idealize.ShloMosaic.Tactic Idealize.SL.Sem
open Cert.StepUpKernelIdeal Cert.StepUpKernelIdeal.Gen

variable (m : (ℓ : Loc nD τ sig) → Buf (Elt Ideal) ℓ) (ρ : Dev nD → PrngReg) (c : Dev nD)

/-- The weight, its gradient and its two moments, as matrices. -/
def wt : Vec Ideal S4096x704 .f32 := shapeCast S4096x704 (m ((c.tc : Thread nD τ).loc main_arg0)) shapeCasts_S4x1024x704_S4096x704
def gr : Vec Ideal S4096x704 .f32 := shapeCast S4096x704 (m ((c.tc : Thread nD τ).loc main_arg1)) shapeCasts_S4x1024x704_S4096x704
def m1 : Vec Ideal S4096x704 .f32 := shapeCast S4096x704 (m ((c.tc : Thread nD τ).loc main_arg2)) shapeCasts_S4x1024x704_S4096x704
def m2 : Vec Ideal S4096x704 .f32 := shapeCast S4096x704 (m ((c.tc : Thread nD τ).loc main_arg3)) shapeCasts_S4x1024x704_S4096x704

theorem V_wt : V m c main_v0 = wt m c := by
  unfold V wt hostOps0
  after_results
  rfl
theorem V_gr : V m c main_v1 = gr m c := by
  unfold V gr hostOps0
  after_results
  rfl
theorem V_m1 : V m c main_v2 = m1 m c := by
  unfold V m1 hostOps0
  after_results
  rfl
theorem V_m2 : V m c main_v3 = m2 m c := by
  unfold V m2 hostOps0
  after_results
  rfl

/-- Row `r` of the step's block of rows. -/
def row (t : Fin cfg0.N) (r : Fin 256) : Fin 4096 := ⟨256 * t.val + r.val, by have : t.val < 16 := t.isLt; have := r.isLt; omega⟩

theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem blk0_at (t : Fin cfg0.N) (r : Fin 256) (l : Fin 704) : iblk m c 0 t (ix2 r l) = wt m c (ix2 (row t r) l) := by
  unfold iblk row
  refine Eq.trans ?_ (congrFun (V_wt m c) _)
  blk_ext [(idx0 t).1]
theorem blk1_at (t : Fin cfg0.N) (r : Fin 256) (l : Fin 704) : iblk m c 1 t (ix2 r l) = gr m c (ix2 (row t r) l) := by
  unfold iblk row
  refine Eq.trans ?_ (congrFun (V_gr m c) _)
  blk_ext [(idx0 t).2.1]
theorem blk2_at (t : Fin cfg0.N) (r : Fin 256) (l : Fin 704) : iblk m c 2 t (ix2 r l) = m1 m c (ix2 (row t r) l) := by
  unfold iblk row
  refine Eq.trans ?_ (congrFun (V_m1 m c) _)
  blk_ext [(idx0 t).2.2.1]
theorem blk3_at (t : Fin cfg0.N) (r : Fin 256) (l : Fin 704) : iblk m c 3 t (ix2 r l) = m2 m c (ix2 (row t r) l) := by
  unfold iblk row
  refine Eq.trans ?_ (congrFun (V_m2 m c) _)
  blk_ext [(idx0 t).2.2.2.1]

theorem emb4 (t : Fin cfg0.N) (y : S256x704.Idx) : (win0_4.blk t).view.emb y = ix2 (row t (y 0)) (y 1) := by
  unfold row
  blk_ext [(idx0 t).2.2.2.2.1]
theorem emb5 (t : Fin cfg0.N) (y : S256x704.Idx) : (win0_5.blk t).view.emb y = ix2 (row t (y 0)) (y 1) := by
  unfold row
  blk_ext [(idx0 t).2.2.2.2.2.1]
theorem emb6 (t : Fin cfg0.N) (y : S256x704.Idx) : (win0_6.blk t).view.emb y = ix2 (row t (y 0)) (y 1) := by
  unfold row
  blk_ext [(idx0 t).2.2.2.2.2.2]

theorem covers4 : (cfg0.win 4).Covers := by decide +kernel
theorem covers5 : (cfg0.win 5).Covers := by decide +kernel
theorem covers6 : (cfg0.win 6).Covers := by decide +kernel

/-- The three results. -/
def change : Buf (Elt Ideal) ((c.tc : Thread nD τ).loc main_v4_0) := fun y => Cert.Adam.delta (wt m c y) (gr m c y) (m1 m c y) (m2 m c y)
def first : Buf (Elt Ideal) ((c.tc : Thread nD τ).loc main_v4_1) := fun y => Cert.Adam.newM (gr m c y) (m1 m c y)
def second : Buf (Elt Ideal) ((c.tc : Thread nD τ).loc main_v4_2) := fun y => Cert.Adam.newV (gr m c y) (m2 m c y)

theorem first_step (G M : Vec Ideal S256x704 .f32) (a : Fin 256) (b : Fin 704) :
    k0_pay2 G M (ix2 a b) = Cert.Adam.newM (G (ix2 a b)) (M (ix2 a b)) := by
  pointwise [k0_pay2, k0_pay1, Cert.Adam.newM]
theorem second_step (G M : Vec Ideal S256x704 .f32) (a : Fin 256) (b : Fin 704) :
    k0_pay3 G M (ix2 a b) = Cert.Adam.newV (G (ix2 a b)) (M (ix2 a b)) := by
  pointwise [k0_pay3, k0_pay1, Cert.Adam.newV]
theorem change_step (W G M U : Vec Ideal S256x704 .f32) (a : Fin 256) (b : Fin 704) :
    k0_pay4 G M U W (ix2 a b) = Cert.Adam.delta (W (ix2 a b)) (G (ix2 a b)) (M (ix2 a b)) (U (ix2 a b)) := by
  unfold Cert.Adam.delta
  rw [← first_step G M a b, ← second_step G U a b]
  pointwise [k0_pay4]

theorem change_eq : (dats m 0 c).arrAt 4 cfg0.N = change m c := by
  refine Pipeline.Dat.arrAt_eq_of_covers (dats m 0 c) 4 _ covers4 fun t hf y => ?_
  refine Eq.trans ?_ (congrArg (change m c) (emb4 t y)).symm
  obtain ⟨a, b, rfl⟩ : ∃ a b, y = (ix2 a b : S256x704.Idx) := ⟨y 0, y 1, by blk_ext⟩
  blk_simp
  rw [after0_4]
  frame_out
  refine (change_step _ _ _ _ a b).trans ?_
  rw [blk0_at, blk1_at, blk2_at, blk3_at]
  rfl

theorem first_eq : (dats m 0 c).arrAt 5 cfg0.N = first m c := by
  refine Pipeline.Dat.arrAt_eq_of_covers (dats m 0 c) 5 _ covers5 fun t hf y => ?_
  refine Eq.trans ?_ (congrArg (first m c) (emb5 t y)).symm
  obtain ⟨a, b, rfl⟩ : ∃ a b, y = (ix2 a b : S256x704.Idx) := ⟨y 0, y 1, by blk_ext⟩
  blk_simp
  rw [after0_5]
  frame_out
  refine (first_step _ _ a b).trans ?_
  rw [blk1_at, blk2_at]
  rfl

theorem second_eq : (dats m 0 c).arrAt 6 cfg0.N = second m c := by
  refine Pipeline.Dat.arrAt_eq_of_covers (dats m 0 c) 6 _ covers6 fun t hf y => ?_
  refine Eq.trans ?_ (congrArg (second m c) (emb6 t y)).symm
  obtain ⟨a, b, rfl⟩ : ∃ a b, y = (ix2 a b : S256x704.Idx) := ⟨y 0, y 1, by blk_ext⟩
  blk_simp
  rw [after0_6]
  frame_out
  refine (second_step _ _ a b).trans ?_
  rw [blk1_at, blk3_at]
  rfl

end Cert.StepUpKernelIdeal.Hand

namespace Cert.Proof

open Idealize.ShloMosaic Idealize.ShloMosaic.TcCoe Idealize.ShloMosaic.Tactic Idealize.SL.Sem
open Cert.StepUpKernelIdeal.Hand

theorem step_up_algebraic : Cert.algebraic_StepUpKernelIdeal_StepUpReferenceIdeal := by
  intro m g m' g' _ hargs
  refine ⟨fun c => change m c, fun c => first m c, fun c => second m c, ?_, ?_⟩
  · exact (θ_run Cert.StepUpKernelIdeal.defs _ _).mono (fun r h c => ⟨(h c).1.trans (change_eq m c), (h c).2.1.trans (first_eq m c),
      (h c).2.2.1.trans (second_eq m c), (h c).2.2.2⟩) (Cert.StepUpKernelIdeal.Value.run_blocks (F := Ideal) m g)
  · refine (θ_run Cert.StepUpReferenceIdeal.defs _ _).mono (fun r h c => ⟨(h c).1.trans ?_, (h c).2.1.trans ?_, (h c).2.2.1.trans ?_, (h c).2.2.2⟩)
      (Cert.StepUpReferenceIdeal.Value.run (F := Ideal) m' g')
    all_goals obtain ⟨e0, e1, e2, e3⟩ := hargs c
    · rw [Cert.StepUpReferenceIdeal.Read.val_main_v24_eq, e0, e1, e2, e3]
      rfl
    · rw [Cert.StepUpReferenceIdeal.Read.val_main_v25_eq, e1, e2]
      rfl
    · rw [Cert.StepUpReferenceIdeal.Read.val_main_v26_eq, e1, e3]
      rfl

section
set_option maxRecDepth 65536

/-- The two printings call the same kernel. -/
theorem step_up_calls_eq : Cert.StepUpKernel.defs₀ (F := Bits) = Cert.StepUpKernelIdeal.defs₀ := by
  unfold Cert.StepUpKernel.defs₀ Cert.StepUpKernelIdeal.defs₀
  refine congrArg (Defs.onTc (nD := Cert.StepUpKernelIdeal.nD) (τ := Cert.StepUpKernelIdeal.τ) (sig := Cert.StepUpKernelIdeal.sig) (Val := Elt Bits)
    (Λ := Cert.StepUpKernelIdeal.Λ₀)) (funext fun l => ?_)
  match l with
  | ⟨0, _⟩ => exact funext fun x => rfl

theorem step_up_defs_eq : Cert.StepUpKernel.defs (F := Bits) = Cert.StepUpKernelIdeal.defs := by
  unfold Cert.StepUpKernel.defs Cert.StepUpKernelIdeal.defs
  exact congrArg (Pipeline.defs Cert.StepUpKernelIdeal.pcfgs) step_up_calls_eq

theorem step_up_main_eq : Cert.StepUpKernel.main (F := Bits) = Cert.StepUpKernelIdeal.main := rfl

theorem step_up_frame_kernel : Cert.quiescent_StepUpKernel := by
  intro m ρ _
  have h := Cert.StepUpKernelIdeal.Gen.frame (F := Bits) m ρ
  have e : θ_run (Cert.StepUpKernel.defs (F := Bits)) (onTc Cert.StepUpKernel.main) ⟨m, fun _ => 0, ρ⟩
      = θ_run Cert.StepUpKernelIdeal.defs (onTc Cert.StepUpKernelIdeal.main) ⟨m, fun _ => 0, ρ⟩ :=
    (congrArg (fun D => θ_run D (onTc Cert.StepUpKernel.main) ⟨m, fun _ => 0, ρ⟩) step_up_defs_eq).trans
      (congrArg (fun P => θ_run Cert.StepUpKernelIdeal.defs (onTc P) ⟨m, fun _ => 0, ρ⟩) step_up_main_eq)
  rw [← e] at h
  exact h

end

theorem step_up_frame_ideal : Cert.quiescent_StepUpKernelIdeal := fun m ρ _ => Cert.StepUpKernelIdeal.Gen.frame m ρ

theorem step_up_frame_reference : Cert.quiescent_StepUpReferenceIdeal := by
  intro m ρ _
  exact (θ_run Cert.StepUpReferenceIdeal.defs _ _).mono
    (fun r h => And.intro (fun c => (h c).2.2.2) (sem_eq_zero_of_no_sems (by decide) r.2)) (Cert.StepUpReferenceIdeal.Value.run (F := Ideal) m ρ)

end Cert.Proof

end
-- ==== Proof.StepDown.lean ====
/- The optimiser's step of the feed-forward layers' second matrix: the blocks of rows of each result make up the whole array. -/
module

public import proofs.«01_k».proof.Defs
public import proofs.«01_k».proof.Proof.Adam
public import proofs.«01_k».proof.Proof.Gen.StepDownKernel
public import proofs.«01_k».proof.Proof.Gen.StepDownKernelIdeal
public import proofs.«01_k».proof.Proof.Gen.StepDownKernelIdeal.Value
public import proofs.«01_k».proof.Proof.Gen.StepDownReferenceIdeal
public import proofs.«01_k».proof.Proof.Gen.StepDownReferenceIdeal.Run
public import proofs.«01_k».proof.Proof.Gen.StepDownReferenceIdeal.Read
public import Idealize.ShloMosaic.Lib.Pipeline.ValueKit

@[expose] public section

set_option maxRecDepth 16384

noncomputable section

namespace Cert.StepDownKernelIdeal.Hand

open Idealize.ShloMosaic Idealize.ShloMosaic.TcCoe Idealize.ShloMosaic.Tactic Idealize.SL.Sem
open Cert.StepDownKernelIdeal Cert.StepDownKernelIdeal.Gen

variable (m : (ℓ : Loc nD τ sig) → Buf (Elt Ideal) ℓ) (ρ : Dev nD → PrngReg) (c : Dev nD)

/-- The weight, its gradient and its two moments, as matrices. -/
def wt : Vec Ideal S1408x1024 .f32 := shapeCast S1408x1024 (m ((c.tc : Thread nD τ).loc main_arg0)) shapeCasts_S4x352x1024_S1408x1024
def gr : Vec Ideal S1408x1024 .f32 := shapeCast S1408x1024 (m ((c.tc : Thread nD τ).loc main_arg1)) shapeCasts_S4x352x1024_S1408x1024
def m1 : Vec Ideal S1408x1024 .f32 := shapeCast S1408x1024 (m ((c.tc : Thread nD τ).loc main_arg2)) shapeCasts_S4x352x1024_S1408x1024
def m2 : Vec Ideal S1408x1024 .f32 := shapeCast S1408x1024 (m ((c.tc : Thread nD τ).loc main_arg3)) shapeCasts_S4x352x1024_S1408x1024

theorem V_wt : V m c main_v0 = wt m c := by
  unfold V wt hostOps0
  after_results
  rfl
theorem V_gr : V m c main_v1 = gr m c := by
  unfold V gr hostOps0
  after_results
  rfl
theorem V_m1 : V m c main_v2 = m1 m c := by
  unfold V m1 hostOps0
  after_results
  rfl
theorem V_m2 : V m c main_v3 = m2 m c := by
  unfold V m2 hostOps0
  after_results
  rfl

/-- Row `r` of the step's block of rows. -/
def row (t : Fin cfg0.N) (r : Fin 176) : Fin 1408 := ⟨176 * t.val + r.val, by have : t.val < 8 := t.isLt; have := r.isLt; omega⟩

theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem blk0_at (t : Fin cfg0.N) (r : Fin 176) (l : Fin 1024) : iblk m c 0 t (ix2 r l) = wt m c (ix2 (row t r) l) := by
  unfold iblk row
  refine Eq.trans ?_ (congrFun (V_wt m c) _)
  blk_ext [(idx0 t).1]
theorem blk1_at (t : Fin cfg0.N) (r : Fin 176) (l : Fin 1024) : iblk m c 1 t (ix2 r l) = gr m c (ix2 (row t r) l) := by
  unfold iblk row
  refine Eq.trans ?_ (congrFun (V_gr m c) _)
  blk_ext [(idx0 t).2.1]
theorem blk2_at (t : Fin cfg0.N) (r : Fin 176) (l : Fin 1024) : iblk m c 2 t (ix2 r l) = m1 m c (ix2 (row t r) l) := by
  unfold iblk row
  refine Eq.trans ?_ (congrFun (V_m1 m c) _)
  blk_ext [(idx0 t).2.2.1]
theorem blk3_at (t : Fin cfg0.N) (r : Fin 176) (l : Fin 1024) : iblk m c 3 t (ix2 r l) = m2 m c (ix2 (row t r) l) := by
  unfold iblk row
  refine Eq.trans ?_ (congrFun (V_m2 m c) _)
  blk_ext [(idx0 t).2.2.2.1]

theorem emb4 (t : Fin cfg0.N) (y : S176x1024.Idx) : (win0_4.blk t).view.emb y = ix2 (row t (y 0)) (y 1) := by
  unfold row
  blk_ext [(idx0 t).2.2.2.2.1]
theorem emb5 (t : Fin cfg0.N) (y : S176x1024.Idx) : (win0_5.blk t).view.emb y = ix2 (row t (y 0)) (y 1) := by
  unfold row
  blk_ext [(idx0 t).2.2.2.2.2.1]
theorem emb6 (t : Fin cfg0.N) (y : S176x1024.Idx) : (win0_6.blk t).view.emb y = ix2 (row t (y 0)) (y 1) := by
  unfold row
  blk_ext [(idx0 t).2.2.2.2.2.2]

theorem covers4 : (cfg0.win 4).Covers := by decide +kernel
theorem covers5 : (cfg0.win 5).Covers := by decide +kernel
theorem covers6 : (cfg0.win 6).Covers := by decide +kernel

/-- The three results. -/
def change : Buf (Elt Ideal) ((c.tc : Thread nD τ).loc main_v4_0) := fun y => Cert.Adam.delta (wt m c y) (gr m c y) (m1 m c y) (m2 m c y)
def first : Buf (Elt Ideal) ((c.tc : Thread nD τ).loc main_v4_1) := fun y => Cert.Adam.newM (gr m c y) (m1 m c y)
def second : Buf (Elt Ideal) ((c.tc : Thread nD τ).loc main_v4_2) := fun y => Cert.Adam.newV (gr m c y) (m2 m c y)

theorem first_step (G M : Vec Ideal S176x1024 .f32) (a : Fin 176) (b : Fin 1024) :
    k0_pay2 G M (ix2 a b) = Cert.Adam.newM (G (ix2 a b)) (M (ix2 a b)) := by
  pointwise [k0_pay2, k0_pay1, Cert.Adam.newM]
theorem second_step (G M : Vec Ideal S176x1024 .f32) (a : Fin 176) (b : Fin 1024) :
    k0_pay3 G M (ix2 a b) = Cert.Adam.newV (G (ix2 a b)) (M (ix2 a b)) := by
  pointwise [k0_pay3, k0_pay1, Cert.Adam.newV]
theorem change_step (W G M U : Vec Ideal S176x1024 .f32) (a : Fin 176) (b : Fin 1024) :
    k0_pay4 G M U W (ix2 a b) = Cert.Adam.delta (W (ix2 a b)) (G (ix2 a b)) (M (ix2 a b)) (U (ix2 a b)) := by
  unfold Cert.Adam.delta
  rw [← first_step G M a b, ← second_step G U a b]
  pointwise [k0_pay4]

theorem change_eq : (dats m 0 c).arrAt 4 cfg0.N = change m c := by
  refine Pipeline.Dat.arrAt_eq_of_covers (dats m 0 c) 4 _ covers4 fun t hf y => ?_
  refine Eq.trans ?_ (congrArg (change m c) (emb4 t y)).symm
  obtain ⟨a, b, rfl⟩ : ∃ a b, y = (ix2 a b : S176x1024.Idx) := ⟨y 0, y 1, by blk_ext⟩
  blk_simp
  rw [after0_4]
  frame_out
  refine (change_step _ _ _ _ a b).trans ?_
  rw [blk0_at, blk1_at, blk2_at, blk3_at]
  rfl

theorem first_eq : (dats m 0 c).arrAt 5 cfg0.N = first m c := by
  refine Pipeline.Dat.arrAt_eq_of_covers (dats m 0 c) 5 _ covers5 fun t hf y => ?_
  refine Eq.trans ?_ (congrArg (first m c) (emb5 t y)).symm
  obtain ⟨a, b, rfl⟩ : ∃ a b, y = (ix2 a b : S176x1024.Idx) := ⟨y 0, y 1, by blk_ext⟩
  blk_simp
  rw [after0_5]
  frame_out
  refine (first_step _ _ a b).trans ?_
  rw [blk1_at, blk2_at]
  rfl

theorem second_eq : (dats m 0 c).arrAt 6 cfg0.N = second m c := by
  refine Pipeline.Dat.arrAt_eq_of_covers (dats m 0 c) 6 _ covers6 fun t hf y => ?_
  refine Eq.trans ?_ (congrArg (second m c) (emb6 t y)).symm
  obtain ⟨a, b, rfl⟩ : ∃ a b, y = (ix2 a b : S176x1024.Idx) := ⟨y 0, y 1, by blk_ext⟩
  blk_simp
  rw [after0_6]
  frame_out
  refine (second_step _ _ a b).trans ?_
  rw [blk1_at, blk3_at]
  rfl

end Cert.StepDownKernelIdeal.Hand

namespace Cert.Proof

open Idealize.ShloMosaic Idealize.ShloMosaic.TcCoe Idealize.ShloMosaic.Tactic Idealize.SL.Sem
open Cert.StepDownKernelIdeal.Hand

theorem step_down_algebraic : Cert.algebraic_StepDownKernelIdeal_StepDownReferenceIdeal := by
  intro m g m' g' _ hargs
  refine ⟨fun c => change m c, fun c => first m c, fun c => second m c, ?_, ?_⟩
  · exact (θ_run Cert.StepDownKernelIdeal.defs _ _).mono (fun r h c => ⟨(h c).1.trans (change_eq m c), (h c).2.1.trans (first_eq m c),
      (h c).2.2.1.trans (second_eq m c), (h c).2.2.2⟩) (Cert.StepDownKernelIdeal.Value.run_blocks (F := Ideal) m g)
  · refine (θ_run Cert.StepDownReferenceIdeal.defs _ _).mono (fun r h c => ⟨(h c).1.trans ?_, (h c).2.1.trans ?_, (h c).2.2.1.trans ?_, (h c).2.2.2⟩)
      (Cert.StepDownReferenceIdeal.Value.run (F := Ideal) m' g')
    all_goals obtain ⟨e0, e1, e2, e3⟩ := hargs c
    · rw [Cert.StepDownReferenceIdeal.Read.val_main_v24_eq, e0, e1, e2, e3]
      rfl
    · rw [Cert.StepDownReferenceIdeal.Read.val_main_v25_eq, e1, e2]
      rfl
    · rw [Cert.StepDownReferenceIdeal.Read.val_main_v26_eq, e1, e3]
      rfl

section
set_option maxRecDepth 65536

/-- The two printings call the same kernel. -/
theorem step_down_calls_eq : Cert.StepDownKernel.defs₀ (F := Bits) = Cert.StepDownKernelIdeal.defs₀ := by
  unfold Cert.StepDownKernel.defs₀ Cert.StepDownKernelIdeal.defs₀
  refine congrArg (Defs.onTc (nD := Cert.StepDownKernelIdeal.nD) (τ := Cert.StepDownKernelIdeal.τ) (sig := Cert.StepDownKernelIdeal.sig) (Val := Elt Bits)
    (Λ := Cert.StepDownKernelIdeal.Λ₀)) (funext fun l => ?_)
  match l with
  | ⟨0, _⟩ => exact funext fun x => rfl

theorem step_down_defs_eq : Cert.StepDownKernel.defs (F := Bits) = Cert.StepDownKernelIdeal.defs := by
  unfold Cert.StepDownKernel.defs Cert.StepDownKernelIdeal.defs
  exact congrArg (Pipeline.defs Cert.StepDownKernelIdeal.pcfgs) step_down_calls_eq

theorem step_down_main_eq : Cert.StepDownKernel.main (F := Bits) = Cert.StepDownKernelIdeal.main := rfl

theorem step_down_frame_kernel : Cert.quiescent_StepDownKernel := by
  intro m ρ _
  have h := Cert.StepDownKernelIdeal.Gen.frame (F := Bits) m ρ
  have e : θ_run (Cert.StepDownKernel.defs (F := Bits)) (onTc Cert.StepDownKernel.main) ⟨m, fun _ => 0, ρ⟩
      = θ_run Cert.StepDownKernelIdeal.defs (onTc Cert.StepDownKernelIdeal.main) ⟨m, fun _ => 0, ρ⟩ :=
    (congrArg (fun D => θ_run D (onTc Cert.StepDownKernel.main) ⟨m, fun _ => 0, ρ⟩) step_down_defs_eq).trans
      (congrArg (fun P => θ_run Cert.StepDownKernelIdeal.defs (onTc P) ⟨m, fun _ => 0, ρ⟩) step_down_main_eq)
  rw [← e] at h
  exact h

end

theorem step_down_frame_ideal : Cert.quiescent_StepDownKernelIdeal := fun m ρ _ => Cert.StepDownKernelIdeal.Gen.frame m ρ

theorem step_down_frame_reference : Cert.quiescent_StepDownReferenceIdeal := by
  intro m ρ _
  exact (θ_run Cert.StepDownReferenceIdeal.defs _ _).mono
    (fun r h => And.intro (fun c => (h c).2.2.2) (sem_eq_zero_of_no_sems (by decide) r.2)) (Cert.StepDownReferenceIdeal.Value.run (F := Ideal) m ρ)

end Cert.Proof

end
-- ==== Proof.SmallLayout.lean ====
/- The packing of the nineteen small weights into one matrix, and that cutting the matrix apart gives the weights back. -/
module

public import proofs.«01_k».proof.Proof.Gen.StepSmallKernelIdeal
public import Idealize.ShloMosaic.Lib.Pipeline.Value
public import Idealize.ShloMosaic.Lib.KernelVsHost
public import Idealize.ShloMosaic.Lib.Pipeline.ValueKit

@[expose] public section

set_option maxRecDepth 16384

noncomputable section

namespace Cert.SmallLayout

open Idealize.ShloMosaic Idealize.ShloMosaic.TcCoe Idealize.ShloMosaic.Tactic
open Cert.StepSmallKernelIdeal Cert.StepSmallKernelIdeal.Gen

/-- Nineteen arrays, one for each small weight. -/
structure Small where
  x0 : Vec Ideal S2x384x96 .f32
  x1 : Vec Ideal S2x256x128 .f32
  x2 : Vec Ideal S2x128 .f32
  x3 : Vec Ideal S2x16x64 .f32
  x4 : Vec Ideal S2x64 .f32
  x5 : Vec Ideal S2x16x64 .f32
  x6 : Vec Ideal S2x64 .f32
  x7 : Vec Ideal S2x4x32 .f32
  x8 : Vec Ideal S4x3x352 .f32
  x9 : Vec Ideal S2x1024 .f32
  x10 : Vec Ideal S2x384 .f32
  x11 : Vec Ideal S2x256 .f32
  x12 : Vec Ideal S2x96 .f32
  x13 : Vec Ideal S2x96 .f32
  x14 : Vec Ideal S2x8 .f32
  x15 : Vec Ideal S2x8 .f32
  x16 : Vec Ideal S2x8x64 .f32
  x17 : Vec Ideal S4x1024 .f32
  x18 : Vec Ideal S4x2816 .f32

/-- What fills the end of each part, and the rows after both. -/
def fill : Vec Ideal S_ .f32 := sitofp (F := Ideal) .f32 (constantI S_ 32 0#32)
def zeros : Vec Ideal S80x1024 .f32 := broadcastInDim S80x1024 ![] bcast_S_S80x1024 (constant (F := Ideal) S_ .f32 0x00000000#32)

/-- The first nine arrays one after another, and the other ten. -/
def flatA (a : Small) : Vec Ideal S148352 .f32 :=
  concatenate S148352 0 [⟨S73728, shapeCast S73728 a.x0 shapeCasts_S2x384x96_S73728⟩, ⟨S65536, shapeCast S65536 a.x1 shapeCasts_S2x256x128_S65536⟩, ⟨S256, shapeCast S256 a.x2 shapeCasts_S2x128_S256⟩, ⟨S2048, shapeCast S2048 a.x3 shapeCasts_S2x16x64_S2048⟩, ⟨S128, shapeCast S128 a.x4 shapeCasts_S2x64_S128⟩, ⟨S2048, shapeCast S2048 a.x5 shapeCasts_S2x16x64_S2048⟩, ⟨S128, shapeCast S128 a.x6 shapeCasts_S2x64_S128⟩, ⟨S256, shapeCast S256 a.x7 shapeCasts_S2x4x32_S256⟩, ⟨S4224, shapeCast S4224 a.x8 shapeCasts_S4x3x352_S4224⟩] concatenates_S73728_S65536_S256_S2048_S128_S2048_S128_S256_S4224_S148352_d0
def flatB (a : Small) : Vec Ideal S20128 .f32 :=
  concatenate S20128 0 [⟨S2048, shapeCast S2048 a.x9 shapeCasts_S2x1024_S2048⟩, ⟨S768, shapeCast S768 a.x10 shapeCasts_S2x384_S768⟩, ⟨S512, shapeCast S512 a.x11 shapeCasts_S2x256_S512⟩, ⟨S192, shapeCast S192 a.x12 shapeCasts_S2x96_S192⟩, ⟨S192, shapeCast S192 a.x13 shapeCasts_S2x96_S192⟩, ⟨S16, shapeCast S16 a.x14 shapeCasts_S2x8_S16⟩, ⟨S16, shapeCast S16 a.x15 shapeCasts_S2x8_S16⟩, ⟨S1024, shapeCast S1024 a.x16 shapeCasts_S2x8x64_S1024⟩, ⟨S4096, shapeCast S4096 a.x17 shapeCasts_S4x1024_S4096⟩, ⟨S11264, shapeCast S11264 a.x18 shapeCasts_S4x2816_S11264⟩] concatenates_S2048_S768_S512_S192_S192_S16_S16_S1024_S4096_S11264_S20128_d0

/-- Each part filled up, in rows of 1024. -/
def rowsA (a : Small) : Vec Ideal S152x1024 .f32 :=
  shapeCast S152x1024 (pad S155648 ![0] ![7296] ![0] (flatA a) fill pads_S148352_S155648_072960 h_S_) shapeCasts_S155648_S152x1024
def rowsB (a : Small) : Vec Ideal S24x1024 .f32 :=
  shapeCast S24x1024 (pad S24576 ![0] ![4448] ![0] (flatB a) fill pads_S20128_S24576_044480 h_S_) shapeCasts_S24576_S24x1024

/-- The matrix of all nineteen. -/
def pack (a : Small) : Vec Ideal S256x1024 .f32 :=
  concatenate S256x1024 0 [⟨S152x1024, rowsA a⟩, ⟨S24x1024, rowsB a⟩, ⟨S80x1024, zeros⟩] concatenates_S152x1024_S24x1024_S80x1024_S256x1024_d0

/-- The two parts cut out of a matrix, flat. -/
def partA (q : Vec Ideal S256x1024 .f32) : Vec Ideal S155648 .f32 :=
  shapeCast S155648 (extractStridedSlice S152x1024 ![0, 0] q slices_S256x1024_S152x1024_0_0) shapeCasts_S152x1024_S155648
def partB (q : Vec Ideal S256x1024 .f32) : Vec Ideal S24576 .f32 :=
  shapeCast S24576 (extractStridedSlice S24x1024 ![152, 0] q slices_S256x1024_S24x1024_152_0) shapeCasts_S24x1024_S24576

/-- Weight 0 cut out of a matrix. -/
def get0 (q : Vec Ideal S256x1024 .f32) : Vec Ideal S2x384x96 .f32 :=
  shapeCast S2x384x96 (extractStridedSlice S73728 ![0] (partA q) slices_S155648_S73728_0) shapeCasts_S73728_S2x384x96
/-- Weight 1 cut out of a matrix. -/
def get1 (q : Vec Ideal S256x1024 .f32) : Vec Ideal S2x256x128 .f32 :=
  shapeCast S2x256x128 (extractStridedSlice S65536 ![73728] (partA q) slices_S155648_S65536_73728) shapeCasts_S65536_S2x256x128
/-- Weight 2 cut out of a matrix. -/
def get2 (q : Vec Ideal S256x1024 .f32) : Vec Ideal S2x128 .f32 :=
  shapeCast S2x128 (extractStridedSlice S256 ![139264] (partA q) slices_S155648_S256_139264) shapeCasts_S256_S2x128
/-- Weight 3 cut out of a matrix. -/
def get3 (q : Vec Ideal S256x1024 .f32) : Vec Ideal S2x16x64 .f32 :=
  shapeCast S2x16x64 (extractStridedSlice S2048 ![139520] (partA q) slices_S155648_S2048_139520) shapeCasts_S2048_S2x16x64
/-- Weight 4 cut out of a matrix. -/
def get4 (q : Vec Ideal S256x1024 .f32) : Vec Ideal S2x64 .f32 :=
  shapeCast S2x64 (extractStridedSlice S128 ![141568] (partA q) slices_S155648_S128_141568) shapeCasts_S128_S2x64
/-- Weight 5 cut out of a matrix. -/
def get5 (q : Vec Ideal S256x1024 .f32) : Vec Ideal S2x16x64 .f32 :=
  shapeCast S2x16x64 (extractStridedSlice S2048 ![141696] (partA q) slices_S155648_S2048_141696) shapeCasts_S2048_S2x16x64
/-- Weight 6 cut out of a matrix. -/
def get6 (q : Vec Ideal S256x1024 .f32) : Vec Ideal S2x64 .f32 :=
  shapeCast S2x64 (extractStridedSlice S128 ![143744] (partA q) slices_S155648_S128_143744) shapeCasts_S128_S2x64
/-- Weight 7 cut out of a matrix. -/
def get7 (q : Vec Ideal S256x1024 .f32) : Vec Ideal S2x4x32 .f32 :=
  shapeCast S2x4x32 (extractStridedSlice S256 ![143872] (partA q) slices_S155648_S256_143872) shapeCasts_S256_S2x4x32
/-- Weight 8 cut out of a matrix. -/
def get8 (q : Vec Ideal S256x1024 .f32) : Vec Ideal S4x3x352 .f32 :=
  shapeCast S4x3x352 (extractStridedSlice S4224 ![144128] (partA q) slices_S155648_S4224_144128) shapeCasts_S4224_S4x3x352
/-- Weight 9 cut out of a matrix. -/
def get9 (q : Vec Ideal S256x1024 .f32) : Vec Ideal S2x1024 .f32 :=
  shapeCast S2x1024 (extractStridedSlice S2048 ![0] (partB q) slices_S24576_S2048_0) shapeCasts_S2048_S2x1024
/-- Weight 10 cut out of a matrix. -/
def get10 (q : Vec Ideal S256x1024 .f32) : Vec Ideal S2x384 .f32 :=
  shapeCast S2x384 (extractStridedSlice S768 ![2048] (partB q) slices_S24576_S768_2048) shapeCasts_S768_S2x384
/-- Weight 11 cut out of a matrix. -/
def get11 (q : Vec Ideal S256x1024 .f32) : Vec Ideal S2x256 .f32 :=
  shapeCast S2x256 (extractStridedSlice S512 ![2816] (partB q) slices_S24576_S512_2816) shapeCasts_S512_S2x256
/-- Weight 12 cut out of a matrix. -/
def get12 (q : Vec Ideal S256x1024 .f32) : Vec Ideal S2x96 .f32 :=
  shapeCast S2x96 (extractStridedSlice S192 ![3328] (partB q) slices_S24576_S192_3328) shapeCasts_S192_S2x96
/-- Weight 13 cut out of a matrix. -/
def get13 (q : Vec Ideal S256x1024 .f32) : Vec Ideal S2x96 .f32 :=
  shapeCast S2x96 (extractStridedSlice S192 ![3520] (partB q) slices_S24576_S192_3520) shapeCasts_S192_S2x96
/-- Weight 14 cut out of a matrix. -/
def get14 (q : Vec Ideal S256x1024 .f32) : Vec Ideal S2x8 .f32 :=
  shapeCast S2x8 (extractStridedSlice S16 ![3712] (partB q) slices_S24576_S16_3712) shapeCasts_S16_S2x8
/-- Weight 15 cut out of a matrix. -/
def get15 (q : Vec Ideal S256x1024 .f32) : Vec Ideal S2x8 .f32 :=
  shapeCast S2x8 (extractStridedSlice S16 ![3728] (partB q) slices_S24576_S16_3728) shapeCasts_S16_S2x8
/-- Weight 16 cut out of a matrix. -/
def get16 (q : Vec Ideal S256x1024 .f32) : Vec Ideal S2x8x64 .f32 :=
  shapeCast S2x8x64 (extractStridedSlice S1024 ![3744] (partB q) slices_S24576_S1024_3744) shapeCasts_S1024_S2x8x64
/-- Weight 17 cut out of a matrix. -/
def get17 (q : Vec Ideal S256x1024 .f32) : Vec Ideal S4x1024 .f32 :=
  shapeCast S4x1024 (extractStridedSlice S4096 ![4768] (partB q) slices_S24576_S4096_4768) shapeCasts_S4096_S4x1024
/-- Weight 18 cut out of a matrix. -/
def get18 (q : Vec Ideal S256x1024 .f32) : Vec Ideal S4x2816 .f32 :=
  shapeCast S4x2816 (extractStridedSlice S11264 ![8864] (partB q) slices_S24576_S11264_8864) shapeCasts_S11264_S4x2816

theorem partA_pack (a : Small) :
    partA (pack a) = pad S155648 ![0] ![7296] ![0] (flatA a) fill pads_S148352_S155648_072960 h_S_ := by
  have e : extractStridedSlice S152x1024 ![0, 0] (pack a) slices_S256x1024_S152x1024_0_0 = rowsA a := by
    funext j
    unfold pack extractStridedSlice
    refine concatenate_apply_piece (0 : Fin S256x1024.rank) _ _ _ 0 (by simp)
      S152x1024 (rowsA a) rfl rfl 0 rfl j ?_ ?_
    · intro b hb
      match b with
      | ⟨0, _⟩ => exact absurd rfl hb
      | ⟨1, _⟩ => exact (Nat.zero_add _).symm
    · rfl
  unfold partA
  rw [e]
  exact shapeCast_shapeCast _ _ _

theorem partB_pack (a : Small) :
    partB (pack a) = pad S24576 ![0] ![4448] ![0] (flatB a) fill pads_S20128_S24576_044480 h_S_ := by
  have e : extractStridedSlice S24x1024 ![152, 0] (pack a) slices_S256x1024_S24x1024_152_0 = rowsB a := by
    funext j
    unfold pack extractStridedSlice
    refine concatenate_apply_piece (0 : Fin S256x1024.rank) _ _ _ 1 (by simp)
      S24x1024 (rowsB a) rfl rfl 152 rfl j ?_ ?_
    · intro b hb
      match b with
      | ⟨0, _⟩ => exact absurd rfl hb
      | ⟨1, _⟩ => exact (Nat.zero_add _).symm
    · rfl
  unfold partB
  rw [e]
  exact shapeCast_shapeCast _ _ _

theorem get0_pack (a : Small) : get0 (pack a) = a.x0 := by
  have e : extractStridedSlice S73728 ![0] (pad S155648 ![0] ![7296] ![0] (flatA a) fill pads_S148352_S155648_072960 h_S_) slices_S155648_S73728_0
      = shapeCast S73728 a.x0 shapeCasts_S2x384x96_S73728 := by
    funext j
    have hj : (j 0).val < 73728 := (j 0).isLt
    unfold extractStridedSlice
    refine (pad_apply_of_inside _ _ _ (flatA a) fill pads_S148352_S155648_072960 h_S_ _ (ix1 (⟨0 + (j 0).val, by omega⟩ : Fin 148352)) ?_).trans ?_
    · intro b
      match b with
      | ⟨0, _⟩ => show 0 + (j 0).val = 0 + (0 + (j 0).val) * 1; omega
    · unfold flatA
      refine concatenate_apply_piece (0 : Fin S148352.rank) _ _ _ 0 (by simp) S73728
        (shapeCast S73728 a.x0 shapeCasts_S2x384x96_S73728) rfl rfl 0 rfl j ?_ rfl
      intro b hb
      match b with
      | ⟨0, _⟩ => exact absurd rfl hb
  unfold get0
  rw [partA_pack, e]
  exact shapeCast_shapeCast _ _ _

theorem get1_pack (a : Small) : get1 (pack a) = a.x1 := by
  have e : extractStridedSlice S65536 ![73728] (pad S155648 ![0] ![7296] ![0] (flatA a) fill pads_S148352_S155648_072960 h_S_) slices_S155648_S65536_73728
      = shapeCast S65536 a.x1 shapeCasts_S2x256x128_S65536 := by
    funext j
    have hj : (j 0).val < 65536 := (j 0).isLt
    unfold extractStridedSlice
    refine (pad_apply_of_inside _ _ _ (flatA a) fill pads_S148352_S155648_072960 h_S_ _ (ix1 (⟨73728 + (j 0).val, by omega⟩ : Fin 148352)) ?_).trans ?_
    · intro b
      match b with
      | ⟨0, _⟩ => show 73728 + (j 0).val = 0 + (73728 + (j 0).val) * 1; omega
    · unfold flatA
      refine concatenate_apply_piece (0 : Fin S148352.rank) _ _ _ 1 (by simp) S65536
        (shapeCast S65536 a.x1 shapeCasts_S2x256x128_S65536) rfl rfl 73728 rfl j ?_ rfl
      intro b hb
      match b with
      | ⟨0, _⟩ => exact absurd rfl hb
  unfold get1
  rw [partA_pack, e]
  exact shapeCast_shapeCast _ _ _

theorem get2_pack (a : Small) : get2 (pack a) = a.x2 := by
  have e : extractStridedSlice S256 ![139264] (pad S155648 ![0] ![7296] ![0] (flatA a) fill pads_S148352_S155648_072960 h_S_) slices_S155648_S256_139264
      = shapeCast S256 a.x2 shapeCasts_S2x128_S256 := by
    funext j
    have hj : (j 0).val < 256 := (j 0).isLt
    unfold extractStridedSlice
    refine (pad_apply_of_inside _ _ _ (flatA a) fill pads_S148352_S155648_072960 h_S_ _ (ix1 (⟨139264 + (j 0).val, by omega⟩ : Fin 148352)) ?_).trans ?_
    · intro b
      match b with
      | ⟨0, _⟩ => show 139264 + (j 0).val = 0 + (139264 + (j 0).val) * 1; omega
    · unfold flatA
      refine concatenate_apply_piece (0 : Fin S148352.rank) _ _ _ 2 (by simp) S256
        (shapeCast S256 a.x2 shapeCasts_S2x128_S256) rfl rfl 139264 rfl j ?_ rfl
      intro b hb
      match b with
      | ⟨0, _⟩ => exact absurd rfl hb
  unfold get2
  rw [partA_pack, e]
  exact shapeCast_shapeCast _ _ _

theorem get3_pack (a : Small) : get3 (pack a) = a.x3 := by
  have e : extractStridedSlice S2048 ![139520] (pad S155648 ![0] ![7296] ![0] (flatA a) fill pads_S148352_S155648_072960 h_S_) slices_S155648_S2048_139520
      = shapeCast S2048 a.x3 shapeCasts_S2x16x64_S2048 := by
    funext j
    have hj : (j 0).val < 2048 := (j 0).isLt
    unfold extractStridedSlice
    refine (pad_apply_of_inside _ _ _ (flatA a) fill pads_S148352_S155648_072960 h_S_ _ (ix1 (⟨139520 + (j 0).val, by omega⟩ : Fin 148352)) ?_).trans ?_
    · intro b
      match b with
      | ⟨0, _⟩ => show 139520 + (j 0).val = 0 + (139520 + (j 0).val) * 1; omega
    · unfold flatA
      refine concatenate_apply_piece (0 : Fin S148352.rank) _ _ _ 3 (by simp) S2048
        (shapeCast S2048 a.x3 shapeCasts_S2x16x64_S2048) rfl rfl 139520 rfl j ?_ rfl
      intro b hb
      match b with
      | ⟨0, _⟩ => exact absurd rfl hb
  unfold get3
  rw [partA_pack, e]
  exact shapeCast_shapeCast _ _ _

theorem get4_pack (a : Small) : get4 (pack a) = a.x4 := by
  have e : extractStridedSlice S128 ![141568] (pad S155648 ![0] ![7296] ![0] (flatA a) fill pads_S148352_S155648_072960 h_S_) slices_S155648_S128_141568
      = shapeCast S128 a.x4 shapeCasts_S2x64_S128 := by
    funext j
    have hj : (j 0).val < 128 := (j 0).isLt
    unfold extractStridedSlice
    refine (pad_apply_of_inside _ _ _ (flatA a) fill pads_S148352_S155648_072960 h_S_ _ (ix1 (⟨141568 + (j 0).val, by omega⟩ : Fin 148352)) ?_).trans ?_
    · intro b
      match b with
      | ⟨0, _⟩ => show 141568 + (j 0).val = 0 + (141568 + (j 0).val) * 1; omega
    · unfold flatA
      refine concatenate_apply_piece (0 : Fin S148352.rank) _ _ _ 4 (by simp) S128
        (shapeCast S128 a.x4 shapeCasts_S2x64_S128) rfl rfl 141568 rfl j ?_ rfl
      intro b hb
      match b with
      | ⟨0, _⟩ => exact absurd rfl hb
  unfold get4
  rw [partA_pack, e]
  exact shapeCast_shapeCast _ _ _

theorem get5_pack (a : Small) : get5 (pack a) = a.x5 := by
  have e : extractStridedSlice S2048 ![141696] (pad S155648 ![0] ![7296] ![0] (flatA a) fill pads_S148352_S155648_072960 h_S_) slices_S155648_S2048_141696
      = shapeCast S2048 a.x5 shapeCasts_S2x16x64_S2048 := by
    funext j
    have hj : (j 0).val < 2048 := (j 0).isLt
    unfold extractStridedSlice
    refine (pad_apply_of_inside _ _ _ (flatA a) fill pads_S148352_S155648_072960 h_S_ _ (ix1 (⟨141696 + (j 0).val, by omega⟩ : Fin 148352)) ?_).trans ?_
    · intro b
      match b with
      | ⟨0, _⟩ => show 141696 + (j 0).val = 0 + (141696 + (j 0).val) * 1; omega
    · unfold flatA
      refine concatenate_apply_piece (0 : Fin S148352.rank) _ _ _ 5 (by simp) S2048
        (shapeCast S2048 a.x5 shapeCasts_S2x16x64_S2048) rfl rfl 141696 rfl j ?_ rfl
      intro b hb
      match b with
      | ⟨0, _⟩ => exact absurd rfl hb
  unfold get5
  rw [partA_pack, e]
  exact shapeCast_shapeCast _ _ _

theorem get6_pack (a : Small) : get6 (pack a) = a.x6 := by
  have e : extractStridedSlice S128 ![143744] (pad S155648 ![0] ![7296] ![0] (flatA a) fill pads_S148352_S155648_072960 h_S_) slices_S155648_S128_143744
      = shapeCast S128 a.x6 shapeCasts_S2x64_S128 := by
    funext j
    have hj : (j 0).val < 128 := (j 0).isLt
    unfold extractStridedSlice
    refine (pad_apply_of_inside _ _ _ (flatA a) fill pads_S148352_S155648_072960 h_S_ _ (ix1 (⟨143744 + (j 0).val, by omega⟩ : Fin 148352)) ?_).trans ?_
    · intro b
      match b with
      | ⟨0, _⟩ => show 143744 + (j 0).val = 0 + (143744 + (j 0).val) * 1; omega
    · unfold flatA
      refine concatenate_apply_piece (0 : Fin S148352.rank) _ _ _ 6 (by simp) S128
        (shapeCast S128 a.x6 shapeCasts_S2x64_S128) rfl rfl 143744 rfl j ?_ rfl
      intro b hb
      match b with
      | ⟨0, _⟩ => exact absurd rfl hb
  unfold get6
  rw [partA_pack, e]
  exact shapeCast_shapeCast _ _ _

theorem get7_pack (a : Small) : get7 (pack a) = a.x7 := by
  have e : extractStridedSlice S256 ![143872] (pad S155648 ![0] ![7296] ![0] (flatA a) fill pads_S148352_S155648_072960 h_S_) slices_S155648_S256_143872
      = shapeCast S256 a.x7 shapeCasts_S2x4x32_S256 := by
    funext j
    have hj : (j 0).val < 256 := (j 0).isLt
    unfold extractStridedSlice
    refine (pad_apply_of_inside _ _ _ (flatA a) fill pads_S148352_S155648_072960 h_S_ _ (ix1 (⟨143872 + (j 0).val, by omega⟩ : Fin 148352)) ?_).trans ?_
    · intro b
      match b with
      | ⟨0, _⟩ => show 143872 + (j 0).val = 0 + (143872 + (j 0).val) * 1; omega
    · unfold flatA
      refine concatenate_apply_piece (0 : Fin S148352.rank) _ _ _ 7 (by simp) S256
        (shapeCast S256 a.x7 shapeCasts_S2x4x32_S256) rfl rfl 143872 rfl j ?_ rfl
      intro b hb
      match b with
      | ⟨0, _⟩ => exact absurd rfl hb
  unfold get7
  rw [partA_pack, e]
  exact shapeCast_shapeCast _ _ _

theorem get8_pack (a : Small) : get8 (pack a) = a.x8 := by
  have e : extractStridedSlice S4224 ![144128] (pad S155648 ![0] ![7296] ![0] (flatA a) fill pads_S148352_S155648_072960 h_S_) slices_S155648_S4224_144128
      = shapeCast S4224 a.x8 shapeCasts_S4x3x352_S4224 := by
    funext j
    have hj : (j 0).val < 4224 := (j 0).isLt
    unfold extractStridedSlice
    refine (pad_apply_of_inside _ _ _ (flatA a) fill pads_S148352_S155648_072960 h_S_ _ (ix1 (⟨144128 + (j 0).val, by omega⟩ : Fin 148352)) ?_).trans ?_
    · intro b
      match b with
      | ⟨0, _⟩ => show 144128 + (j 0).val = 0 + (144128 + (j 0).val) * 1; omega
    · unfold flatA
      refine concatenate_apply_piece (0 : Fin S148352.rank) _ _ _ 8 (by simp) S4224
        (shapeCast S4224 a.x8 shapeCasts_S4x3x352_S4224) rfl rfl 144128 rfl j ?_ rfl
      intro b hb
      match b with
      | ⟨0, _⟩ => exact absurd rfl hb
  unfold get8
  rw [partA_pack, e]
  exact shapeCast_shapeCast _ _ _

theorem get9_pack (a : Small) : get9 (pack a) = a.x9 := by
  have e : extractStridedSlice S2048 ![0] (pad S24576 ![0] ![4448] ![0] (flatB a) fill pads_S20128_S24576_044480 h_S_) slices_S24576_S2048_0
      = shapeCast S2048 a.x9 shapeCasts_S2x1024_S2048 := by
    funext j
    have hj : (j 0).val < 2048 := (j 0).isLt
    unfold extractStridedSlice
    refine (pad_apply_of_inside _ _ _ (flatB a) fill pads_S20128_S24576_044480 h_S_ _ (ix1 (⟨0 + (j 0).val, by omega⟩ : Fin 20128)) ?_).trans ?_
    · intro b
      match b with
      | ⟨0, _⟩ => show 0 + (j 0).val = 0 + (0 + (j 0).val) * 1; omega
    · unfold flatB
      refine concatenate_apply_piece (0 : Fin S20128.rank) _ _ _ 0 (by simp) S2048
        (shapeCast S2048 a.x9 shapeCasts_S2x1024_S2048) rfl rfl 0 rfl j ?_ rfl
      intro b hb
      match b with
      | ⟨0, _⟩ => exact absurd rfl hb
  unfold get9
  rw [partB_pack, e]
  exact shapeCast_shapeCast _ _ _

theorem get10_pack (a : Small) : get10 (pack a) = a.x10 := by
  have e : extractStridedSlice S768 ![2048] (pad S24576 ![0] ![4448] ![0] (flatB a) fill pads_S20128_S24576_044480 h_S_) slices_S24576_S768_2048
      = shapeCast S768 a.x10 shapeCasts_S2x384_S768 := by
    funext j
    have hj : (j 0).val < 768 := (j 0).isLt
    unfold extractStridedSlice
    refine (pad_apply_of_inside _ _ _ (flatB a) fill pads_S20128_S24576_044480 h_S_ _ (ix1 (⟨2048 + (j 0).val, by omega⟩ : Fin 20128)) ?_).trans ?_
    · intro b
      match b with
      | ⟨0, _⟩ => show 2048 + (j 0).val = 0 + (2048 + (j 0).val) * 1; omega
    · unfold flatB
      refine concatenate_apply_piece (0 : Fin S20128.rank) _ _ _ 1 (by simp) S768
        (shapeCast S768 a.x10 shapeCasts_S2x384_S768) rfl rfl 2048 rfl j ?_ rfl
      intro b hb
      match b with
      | ⟨0, _⟩ => exact absurd rfl hb
  unfold get10
  rw [partB_pack, e]
  exact shapeCast_shapeCast _ _ _

theorem get11_pack (a : Small) : get11 (pack a) = a.x11 := by
  have e : extractStridedSlice S512 ![2816] (pad S24576 ![0] ![4448] ![0] (flatB a) fill pads_S20128_S24576_044480 h_S_) slices_S24576_S512_2816
      = shapeCast S512 a.x11 shapeCasts_S2x256_S512 := by
    funext j
    have hj : (j 0).val < 512 := (j 0).isLt
    unfold extractStridedSlice
    refine (pad_apply_of_inside _ _ _ (flatB a) fill pads_S20128_S24576_044480 h_S_ _ (ix1 (⟨2816 + (j 0).val, by omega⟩ : Fin 20128)) ?_).trans ?_
    · intro b
      match b with
      | ⟨0, _⟩ => show 2816 + (j 0).val = 0 + (2816 + (j 0).val) * 1; omega
    · unfold flatB
      refine concatenate_apply_piece (0 : Fin S20128.rank) _ _ _ 2 (by simp) S512
        (shapeCast S512 a.x11 shapeCasts_S2x256_S512) rfl rfl 2816 rfl j ?_ rfl
      intro b hb
      match b with
      | ⟨0, _⟩ => exact absurd rfl hb
  unfold get11
  rw [partB_pack, e]
  exact shapeCast_shapeCast _ _ _

theorem get12_pack (a : Small) : get12 (pack a) = a.x12 := by
  have e : extractStridedSlice S192 ![3328] (pad S24576 ![0] ![4448] ![0] (flatB a) fill pads_S20128_S24576_044480 h_S_) slices_S24576_S192_3328
      = shapeCast S192 a.x12 shapeCasts_S2x96_S192 := by
    funext j
    have hj : (j 0).val < 192 := (j 0).isLt
    unfold extractStridedSlice
    refine (pad_apply_of_inside _ _ _ (flatB a) fill pads_S20128_S24576_044480 h_S_ _ (ix1 (⟨3328 + (j 0).val, by omega⟩ : Fin 20128)) ?_).trans ?_
    · intro b
      match b with
      | ⟨0, _⟩ => show 3328 + (j 0).val = 0 + (3328 + (j 0).val) * 1; omega
    · unfold flatB
      refine concatenate_apply_piece (0 : Fin S20128.rank) _ _ _ 3 (by simp) S192
        (shapeCast S192 a.x12 shapeCasts_S2x96_S192) rfl rfl 3328 rfl j ?_ rfl
      intro b hb
      match b with
      | ⟨0, _⟩ => exact absurd rfl hb
  unfold get12
  rw [partB_pack, e]
  exact shapeCast_shapeCast _ _ _

theorem get13_pack (a : Small) : get13 (pack a) = a.x13 := by
  have e : extractStridedSlice S192 ![3520] (pad S24576 ![0] ![4448] ![0] (flatB a) fill pads_S20128_S24576_044480 h_S_) slices_S24576_S192_3520
      = shapeCast S192 a.x13 shapeCasts_S2x96_S192 := by
    funext j
    have hj : (j 0).val < 192 := (j 0).isLt
    unfold extractStridedSlice
    refine (pad_apply_of_inside _ _ _ (flatB a) fill pads_S20128_S24576_044480 h_S_ _ (ix1 (⟨3520 + (j 0).val, by omega⟩ : Fin 20128)) ?_).trans ?_
    · intro b
      match b with
      | ⟨0, _⟩ => show 3520 + (j 0).val = 0 + (3520 + (j 0).val) * 1; omega
    · unfold flatB
      refine concatenate_apply_piece (0 : Fin S20128.rank) _ _ _ 4 (by simp) S192
        (shapeCast S192 a.x13 shapeCasts_S2x96_S192) rfl rfl 3520 rfl j ?_ rfl
      intro b hb
      match b with
      | ⟨0, _⟩ => exact absurd rfl hb
  unfold get13
  rw [partB_pack, e]
  exact shapeCast_shapeCast _ _ _

theorem get14_pack (a : Small) : get14 (pack a) = a.x14 := by
  have e : extractStridedSlice S16 ![3712] (pad S24576 ![0] ![4448] ![0] (flatB a) fill pads_S20128_S24576_044480 h_S_) slices_S24576_S16_3712
      = shapeCast S16 a.x14 shapeCasts_S2x8_S16 := by
    funext j
    have hj : (j 0).val < 16 := (j 0).isLt
    unfold extractStridedSlice
    refine (pad_apply_of_inside _ _ _ (flatB a) fill pads_S20128_S24576_044480 h_S_ _ (ix1 (⟨3712 + (j 0).val, by omega⟩ : Fin 20128)) ?_).trans ?_
    · intro b
      match b with
      | ⟨0, _⟩ => show 3712 + (j 0).val = 0 + (3712 + (j 0).val) * 1; omega
    · unfold flatB
      refine concatenate_apply_piece (0 : Fin S20128.rank) _ _ _ 5 (by simp) S16
        (shapeCast S16 a.x14 shapeCasts_S2x8_S16) rfl rfl 3712 rfl j ?_ rfl
      intro b hb
      match b with
      | ⟨0, _⟩ => exact absurd rfl hb
  unfold get14
  rw [partB_pack, e]
  exact shapeCast_shapeCast _ _ _

theorem get15_pack (a : Small) : get15 (pack a) = a.x15 := by
  have e : extractStridedSlice S16 ![3728] (pad S24576 ![0] ![4448] ![0] (flatB a) fill pads_S20128_S24576_044480 h_S_) slices_S24576_S16_3728
      = shapeCast S16 a.x15 shapeCasts_S2x8_S16 := by
    funext j
    have hj : (j 0).val < 16 := (j 0).isLt
    unfold extractStridedSlice
    refine (pad_apply_of_inside _ _ _ (flatB a) fill pads_S20128_S24576_044480 h_S_ _ (ix1 (⟨3728 + (j 0).val, by omega⟩ : Fin 20128)) ?_).trans ?_
    · intro b
      match b with
      | ⟨0, _⟩ => show 3728 + (j 0).val = 0 + (3728 + (j 0).val) * 1; omega
    · unfold flatB
      refine concatenate_apply_piece (0 : Fin S20128.rank) _ _ _ 6 (by simp) S16
        (shapeCast S16 a.x15 shapeCasts_S2x8_S16) rfl rfl 3728 rfl j ?_ rfl
      intro b hb
      match b with
      | ⟨0, _⟩ => exact absurd rfl hb
  unfold get15
  rw [partB_pack, e]
  exact shapeCast_shapeCast _ _ _

set_option maxHeartbeats 2000000 in
theorem get16_pack (a : Small) : get16 (pack a) = a.x16 := by
  have e : extractStridedSlice S1024 ![3744] (pad S24576 ![0] ![4448] ![0] (flatB a) fill pads_S20128_S24576_044480 h_S_) slices_S24576_S1024_3744
      = shapeCast S1024 a.x16 shapeCasts_S2x8x64_S1024 := by
    funext j
    have hj : (j 0).val < 1024 := (j 0).isLt
    unfold extractStridedSlice
    refine (pad_apply_of_inside _ _ _ (flatB a) fill pads_S20128_S24576_044480 h_S_ _ (ix1 (⟨3744 + (j 0).val, by omega⟩ : Fin 20128)) ?_).trans ?_
    · intro b
      match b with
      | ⟨0, _⟩ => show 3744 + (j 0).val = 0 + (3744 + (j 0).val) * 1; omega
    · unfold flatB
      refine concatenate_apply_piece (0 : Fin S20128.rank) _ _ _ 7 (by simp) S1024
        (shapeCast S1024 a.x16 shapeCasts_S2x8x64_S1024) rfl rfl 3744 rfl j ?_ rfl
      intro b hb
      match b with
      | ⟨0, _⟩ => exact absurd rfl hb
  unfold get16
  rw [partB_pack, e]
  exact shapeCast_shapeCast _ _ _

set_option maxHeartbeats 2000000 in
theorem get17_pack (a : Small) : get17 (pack a) = a.x17 := by
  have e : extractStridedSlice S4096 ![4768] (pad S24576 ![0] ![4448] ![0] (flatB a) fill pads_S20128_S24576_044480 h_S_) slices_S24576_S4096_4768
      = shapeCast S4096 a.x17 shapeCasts_S4x1024_S4096 := by
    funext j
    have hj : (j 0).val < 4096 := (j 0).isLt
    unfold extractStridedSlice
    refine (pad_apply_of_inside _ _ _ (flatB a) fill pads_S20128_S24576_044480 h_S_ _ (ix1 (⟨4768 + (j 0).val, by omega⟩ : Fin 20128)) ?_).trans ?_
    · intro b
      match b with
      | ⟨0, _⟩ => show 4768 + (j 0).val = 0 + (4768 + (j 0).val) * 1; omega
    · unfold flatB
      refine concatenate_apply_piece (0 : Fin S20128.rank) _ _ _ 8 (by simp) S4096
        (shapeCast S4096 a.x17 shapeCasts_S4x1024_S4096) rfl rfl 4768 rfl j ?_ rfl
      intro b hb
      match b with
      | ⟨0, _⟩ => exact absurd rfl hb
  unfold get17
  rw [partB_pack, e]
  exact shapeCast_shapeCast _ _ _

set_option maxHeartbeats 2000000 in
theorem get18_pack (a : Small) : get18 (pack a) = a.x18 := by
  have e : extractStridedSlice S11264 ![8864] (pad S24576 ![0] ![4448] ![0] (flatB a) fill pads_S20128_S24576_044480 h_S_) slices_S24576_S11264_8864
      = shapeCast S11264 a.x18 shapeCasts_S4x2816_S11264 := by
    funext j
    have hj : (j 0).val < 11264 := (j 0).isLt
    unfold extractStridedSlice
    refine (pad_apply_of_inside _ _ _ (flatB a) fill pads_S20128_S24576_044480 h_S_ _ (ix1 (⟨8864 + (j 0).val, by omega⟩ : Fin 20128)) ?_).trans ?_
    · intro b
      match b with
      | ⟨0, _⟩ => show 8864 + (j 0).val = 0 + (8864 + (j 0).val) * 1; omega
    · unfold flatB
      refine concatenate_apply_piece (0 : Fin S20128.rank) _ _ _ 9 (by simp) S11264
        (shapeCast S11264 a.x18 shapeCasts_S4x2816_S11264) rfl rfl 8864 rfl j ?_ rfl
      intro b hb
      match b with
      | ⟨0, _⟩ => exact absurd rfl hb
  unfold get18
  rw [partB_pack, e]
  exact shapeCast_shapeCast _ _ _

end Cert.SmallLayout

end
-- ==== Proof.SmallHost.lean ====
/- The optimiser's step of the small weights: what the operations before the call hand to it, and what those after it make of its results. -/
module

public import proofs.«01_k».proof.Proof.SmallLayout
public import proofs.«01_k».proof.Proof.Gen.StepSmallKernelIdeal.Frame
public import Idealize.ShloMosaic.Lib.StableHlo.RunRead

@[expose] public section

set_option maxRecDepth 16384

noncomputable section

namespace Cert.StepSmallKernelIdeal.Hand

open Idealize.ShloMosaic Idealize.ShloMosaic.TcCoe Idealize.ShloMosaic.Tactic Idealize.SL.Sem
open Cert.StepSmallKernelIdeal Cert.StepSmallKernelIdeal.Gen Cert.SmallLayout

variable (m : (ℓ : Loc nD τ sig) → Buf (Elt Ideal) ℓ) (c : Dev nD)

/-- The nineteen weights. -/
def wt : Small :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16),
   m ((c.tc : Thread nD τ).loc main_arg17),
   m ((c.tc : Thread nD τ).loc main_arg18)⟩

theorem V_wt : V m c main_v26 = pack (wt m c) := by
  unfold V V0
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil,
    List.cons_append, List.nil_append]
  after_reads_simp
  rfl

/-- The nineteen gradients. -/
def gr : Small :=
  ⟨m ((c.tc : Thread nD τ).loc main_arg19),
   m ((c.tc : Thread nD τ).loc main_arg20),
   m ((c.tc : Thread nD τ).loc main_arg21),
   m ((c.tc : Thread nD τ).loc main_arg22),
   m ((c.tc : Thread nD τ).loc main_arg23),
   m ((c.tc : Thread nD τ).loc main_arg24),
   m ((c.tc : Thread nD τ).loc main_arg25),
   m ((c.tc : Thread nD τ).loc main_arg26),
   m ((c.tc : Thread nD τ).loc main_arg27),
   m ((c.tc : Thread nD τ).loc main_arg28),
   m ((c.tc : Thread nD τ).loc main_arg29),
   m ((c.tc : Thread nD τ).loc main_arg30),
   m ((c.tc : Thread nD τ).loc main_arg31),
   m ((c.tc : Thread nD τ).loc main_arg32),
   m ((c.tc : Thread nD τ).loc main_arg33),
   m ((c.tc : Thread nD τ).loc main_arg34),
   m ((c.tc : Thread nD τ).loc main_arg35),
   m ((c.tc : Thread nD τ).loc main_arg36),
   m ((c.tc : Thread nD τ).loc main_arg37)⟩

theorem V_gr : V m c main_v53 = pack (gr m c) := by
  unfold V V0
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil,
    List.cons_append, List.nil_append]
  after_reads_simp
  rfl

/-- The nineteen first moments. -/
def m1 : Small :=
  ⟨m ((c.tc : Thread nD τ).loc main_arg38),
   m ((c.tc : Thread nD τ).loc main_arg39),
   m ((c.tc : Thread nD τ).loc main_arg40),
   m ((c.tc : Thread nD τ).loc main_arg41),
   m ((c.tc : Thread nD τ).loc main_arg42),
   m ((c.tc : Thread nD τ).loc main_arg43),
   m ((c.tc : Thread nD τ).loc main_arg44),
   m ((c.tc : Thread nD τ).loc main_arg45),
   m ((c.tc : Thread nD τ).loc main_arg46),
   m ((c.tc : Thread nD τ).loc main_arg47),
   m ((c.tc : Thread nD τ).loc main_arg48),
   m ((c.tc : Thread nD τ).loc main_arg49),
   m ((c.tc : Thread nD τ).loc main_arg50),
   m ((c.tc : Thread nD τ).loc main_arg51),
   m ((c.tc : Thread nD τ).loc main_arg52),
   m ((c.tc : Thread nD τ).loc main_arg53),
   m ((c.tc : Thread nD τ).loc main_arg54),
   m ((c.tc : Thread nD τ).loc main_arg55),
   m ((c.tc : Thread nD τ).loc main_arg56)⟩

theorem V_m1 : V m c main_v80 = pack (m1 m c) := by
  unfold V V0
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil,
    List.cons_append, List.nil_append]
  after_reads_simp
  rfl

/-- The nineteen second moments. -/
def m2 : Small :=
  ⟨m ((c.tc : Thread nD τ).loc main_arg57),
   m ((c.tc : Thread nD τ).loc main_arg58),
   m ((c.tc : Thread nD τ).loc main_arg59),
   m ((c.tc : Thread nD τ).loc main_arg60),
   m ((c.tc : Thread nD τ).loc main_arg61),
   m ((c.tc : Thread nD τ).loc main_arg62),
   m ((c.tc : Thread nD τ).loc main_arg63),
   m ((c.tc : Thread nD τ).loc main_arg64),
   m ((c.tc : Thread nD τ).loc main_arg65),
   m ((c.tc : Thread nD τ).loc main_arg66),
   m ((c.tc : Thread nD τ).loc main_arg67),
   m ((c.tc : Thread nD τ).loc main_arg68),
   m ((c.tc : Thread nD τ).loc main_arg69),
   m ((c.tc : Thread nD τ).loc main_arg70),
   m ((c.tc : Thread nD τ).loc main_arg71),
   m ((c.tc : Thread nD τ).loc main_arg72),
   m ((c.tc : Thread nD τ).loc main_arg73),
   m ((c.tc : Thread nD τ).loc main_arg74),
   m ((c.tc : Thread nD τ).loc main_arg75)⟩

theorem V_m2 : V m c main_v107 = pack (m2 m c) := by
  unfold V V0
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil,
    List.cons_append, List.nil_append]
  after_reads_simp
  rfl

theorem tail0_0 (X : Valuation τ sig (Elt Ideal)) :
    StableHlo.after hostOps1 X (Proc.devRef .tc main_v114) = get0 (X (Proc.devRef .tc main_v108_0)) := by
  after_reads_simp
  rfl
theorem tail0_1 (X : Valuation τ sig (Elt Ideal)) :
    StableHlo.after hostOps1 X (Proc.devRef .tc main_v116) = get1 (X (Proc.devRef .tc main_v108_0)) := by
  after_reads_simp
  rfl
theorem tail0_2 (X : Valuation τ sig (Elt Ideal)) :
    StableHlo.after hostOps1 X (Proc.devRef .tc main_v118) = get2 (X (Proc.devRef .tc main_v108_0)) := by
  after_reads_simp
  rfl
theorem tail0_3 (X : Valuation τ sig (Elt Ideal)) :
    StableHlo.after hostOps1 X (Proc.devRef .tc main_v120) = get3 (X (Proc.devRef .tc main_v108_0)) := by
  after_reads_simp
  rfl
theorem tail0_4 (X : Valuation τ sig (Elt Ideal)) :
    StableHlo.after hostOps1 X (Proc.devRef .tc main_v122) = get4 (X (Proc.devRef .tc main_v108_0)) := by
  after_reads_simp
  rfl
theorem tail0_5 (X : Valuation τ sig (Elt Ideal)) :
    StableHlo.after hostOps1 X (Proc.devRef .tc main_v124) = get5 (X (Proc.devRef .tc main_v108_0)) := by
  after_reads_simp
  rfl
theorem tail0_6 (X : Valuation τ sig (Elt Ideal)) :
    StableHlo.after hostOps1 X (Proc.devRef .tc main_v126) = get6 (X (Proc.devRef .tc main_v108_0)) := by
  after_reads_simp
  rfl
theorem tail0_7 (X : Valuation τ sig (Elt Ideal)) :
    StableHlo.after hostOps1 X (Proc.devRef .tc main_v128) = get7 (X (Proc.devRef .tc main_v108_0)) := by
  after_reads_simp
  rfl
theorem tail0_8 (X : Valuation τ sig (Elt Ideal)) :
    StableHlo.after hostOps1 X (Proc.devRef .tc main_v130) = get8 (X (Proc.devRef .tc main_v108_0)) := by
  after_reads_simp
  rfl
theorem tail0_9 (X : Valuation τ sig (Elt Ideal)) :
    StableHlo.after hostOps1 X (Proc.devRef .tc main_v132) = get9 (X (Proc.devRef .tc main_v108_0)) := by
  after_reads_simp
  rfl
theorem tail0_10 (X : Valuation τ sig (Elt Ideal)) :
    StableHlo.after hostOps1 X (Proc.devRef .tc main_v134) = get10 (X (Proc.devRef .tc main_v108_0)) := by
  after_reads_simp
  rfl
theorem tail0_11 (X : Valuation τ sig (Elt Ideal)) :
    StableHlo.after hostOps1 X (Proc.devRef .tc main_v136) = get11 (X (Proc.devRef .tc main_v108_0)) := by
  after_reads_simp
  rfl
theorem tail0_12 (X : Valuation τ sig (Elt Ideal)) :
    StableHlo.after hostOps1 X (Proc.devRef .tc main_v138) = get12 (X (Proc.devRef .tc main_v108_0)) := by
  after_reads_simp
  rfl
theorem tail0_13 (X : Valuation τ sig (Elt Ideal)) :
    StableHlo.after hostOps1 X (Proc.devRef .tc main_v140) = get13 (X (Proc.devRef .tc main_v108_0)) := by
  after_reads_simp
  rfl
theorem tail0_14 (X : Valuation τ sig (Elt Ideal)) :
    StableHlo.after hostOps1 X (Proc.devRef .tc main_v142) = get14 (X (Proc.devRef .tc main_v108_0)) := by
  after_reads_simp
  rfl
theorem tail0_15 (X : Valuation τ sig (Elt Ideal)) :
    StableHlo.after hostOps1 X (Proc.devRef .tc main_v144) = get15 (X (Proc.devRef .tc main_v108_0)) := by
  after_reads_simp
  rfl
theorem tail0_16 (X : Valuation τ sig (Elt Ideal)) :
    StableHlo.after hostOps1 X (Proc.devRef .tc main_v146) = get16 (X (Proc.devRef .tc main_v108_0)) := by
  after_reads_simp
  rfl
theorem tail0_17 (X : Valuation τ sig (Elt Ideal)) :
    StableHlo.after hostOps1 X (Proc.devRef .tc main_v148) = get17 (X (Proc.devRef .tc main_v108_0)) := by
  after_reads_simp
  rfl
theorem tail0_18 (X : Valuation τ sig (Elt Ideal)) :
    StableHlo.after hostOps1 X (Proc.devRef .tc main_v150) = get18 (X (Proc.devRef .tc main_v108_0)) := by
  after_reads_simp
  rfl
theorem tail1_0 (X : Valuation τ sig (Elt Ideal)) :
    StableHlo.after hostOps1 X (Proc.devRef .tc main_v156) = get0 (X (Proc.devRef .tc main_v108_1)) := by
  after_reads_simp
  rfl
theorem tail1_1 (X : Valuation τ sig (Elt Ideal)) :
    StableHlo.after hostOps1 X (Proc.devRef .tc main_v158) = get1 (X (Proc.devRef .tc main_v108_1)) := by
  after_reads_simp
  rfl
theorem tail1_2 (X : Valuation τ sig (Elt Ideal)) :
    StableHlo.after hostOps1 X (Proc.devRef .tc main_v160) = get2 (X (Proc.devRef .tc main_v108_1)) := by
  after_reads_simp
  rfl
theorem tail1_3 (X : Valuation τ sig (Elt Ideal)) :
    StableHlo.after hostOps1 X (Proc.devRef .tc main_v162) = get3 (X (Proc.devRef .tc main_v108_1)) := by
  after_reads_simp
  rfl
theorem tail1_4 (X : Valuation τ sig (Elt Ideal)) :
    StableHlo.after hostOps1 X (Proc.devRef .tc main_v164) = get4 (X (Proc.devRef .tc main_v108_1)) := by
  after_reads_simp
  rfl
theorem tail1_5 (X : Valuation τ sig (Elt Ideal)) :
    StableHlo.after hostOps1 X (Proc.devRef .tc main_v166) = get5 (X (Proc.devRef .tc main_v108_1)) := by
  after_reads_simp
  rfl
theorem tail1_6 (X : Valuation τ sig (Elt Ideal)) :
    StableHlo.after hostOps1 X (Proc.devRef .tc main_v168) = get6 (X (Proc.devRef .tc main_v108_1)) := by
  after_reads_simp
  rfl
theorem tail1_7 (X : Valuation τ sig (Elt Ideal)) :
    StableHlo.after hostOps1 X (Proc.devRef .tc main_v170) = get7 (X (Proc.devRef .tc main_v108_1)) := by
  after_reads_simp
  rfl
theorem tail1_8 (X : Valuation τ sig (Elt Ideal)) :
    StableHlo.after hostOps1 X (Proc.devRef .tc main_v172) = get8 (X (Proc.devRef .tc main_v108_1)) := by
  after_reads_simp
  rfl
theorem tail1_9 (X : Valuation τ sig (Elt Ideal)) :
    StableHlo.after hostOps1 X (Proc.devRef .tc main_v174) = get9 (X (Proc.devRef .tc main_v108_1)) := by
  after_reads_simp
  rfl
theorem tail1_10 (X : Valuation τ sig (Elt Ideal)) :
    StableHlo.after hostOps1 X (Proc.devRef .tc main_v176) = get10 (X (Proc.devRef .tc main_v108_1)) := by
  after_reads_simp
  rfl
theorem tail1_11 (X : Valuation τ sig (Elt Ideal)) :
    StableHlo.after hostOps1 X (Proc.devRef .tc main_v178) = get11 (X (Proc.devRef .tc main_v108_1)) := by
  after_reads_simp
  rfl
theorem tail1_12 (X : Valuation τ sig (Elt Ideal)) :
    StableHlo.after hostOps1 X (Proc.devRef .tc main_v180) = get12 (X (Proc.devRef .tc main_v108_1)) := by
  after_reads_simp
  rfl
theorem tail1_13 (X : Valuation τ sig (Elt Ideal)) :
    StableHlo.after hostOps1 X (Proc.devRef .tc main_v182) = get13 (X (Proc.devRef .tc main_v108_1)) := by
  after_reads_simp
  rfl
theorem tail1_14 (X : Valuation τ sig (Elt Ideal)) :
    StableHlo.after hostOps1 X (Proc.devRef .tc main_v184) = get14 (X (Proc.devRef .tc main_v108_1)) := by
  after_reads_simp
  rfl
theorem tail1_15 (X : Valuation τ sig (Elt Ideal)) :
    StableHlo.after hostOps1 X (Proc.devRef .tc main_v186) = get15 (X (Proc.devRef .tc main_v108_1)) := by
  after_reads_simp
  rfl
theorem tail1_16 (X : Valuation τ sig (Elt Ideal)) :
    StableHlo.after hostOps1 X (Proc.devRef .tc main_v188) = get16 (X (Proc.devRef .tc main_v108_1)) := by
  after_reads_simp
  rfl
theorem tail1_17 (X : Valuation τ sig (Elt Ideal)) :
    StableHlo.after hostOps1 X (Proc.devRef .tc main_v190) = get17 (X (Proc.devRef .tc main_v108_1)) := by
  after_reads_simp
  rfl
theorem tail1_18 (X : Valuation τ sig (Elt Ideal)) :
    StableHlo.after hostOps1 X (Proc.devRef .tc main_v192) = get18 (X (Proc.devRef .tc main_v108_1)) := by
  after_reads_simp
  rfl
theorem tail2_0 (X : Valuation τ sig (Elt Ideal)) :
    StableHlo.after hostOps1 X (Proc.devRef .tc main_v198) = get0 (X (Proc.devRef .tc main_v108_2)) := by
  after_reads_simp
  rfl
theorem tail2_1 (X : Valuation τ sig (Elt Ideal)) :
    StableHlo.after hostOps1 X (Proc.devRef .tc main_v200) = get1 (X (Proc.devRef .tc main_v108_2)) := by
  after_reads_simp
  rfl
theorem tail2_2 (X : Valuation τ sig (Elt Ideal)) :
    StableHlo.after hostOps1 X (Proc.devRef .tc main_v202) = get2 (X (Proc.devRef .tc main_v108_2)) := by
  after_reads_simp
  rfl
theorem tail2_3 (X : Valuation τ sig (Elt Ideal)) :
    StableHlo.after hostOps1 X (Proc.devRef .tc main_v204) = get3 (X (Proc.devRef .tc main_v108_2)) := by
  after_reads_simp
  rfl
theorem tail2_4 (X : Valuation τ sig (Elt Ideal)) :
    StableHlo.after hostOps1 X (Proc.devRef .tc main_v206) = get4 (X (Proc.devRef .tc main_v108_2)) := by
  after_reads_simp
  rfl
theorem tail2_5 (X : Valuation τ sig (Elt Ideal)) :
    StableHlo.after hostOps1 X (Proc.devRef .tc main_v208) = get5 (X (Proc.devRef .tc main_v108_2)) := by
  after_reads_simp
  rfl
theorem tail2_6 (X : Valuation τ sig (Elt Ideal)) :
    StableHlo.after hostOps1 X (Proc.devRef .tc main_v210) = get6 (X (Proc.devRef .tc main_v108_2)) := by
  after_reads_simp
  rfl
theorem tail2_7 (X : Valuation τ sig (Elt Ideal)) :
    StableHlo.after hostOps1 X (Proc.devRef .tc main_v212) = get7 (X (Proc.devRef .tc main_v108_2)) := by
  after_reads_simp
  rfl
theorem tail2_8 (X : Valuation τ sig (Elt Ideal)) :
    StableHlo.after hostOps1 X (Proc.devRef .tc main_v214) = get8 (X (Proc.devRef .tc main_v108_2)) := by
  after_reads_simp
  rfl
theorem tail2_9 (X : Valuation τ sig (Elt Ideal)) :
    StableHlo.after hostOps1 X (Proc.devRef .tc main_v216) = get9 (X (Proc.devRef .tc main_v108_2)) := by
  after_reads_simp
  rfl
theorem tail2_10 (X : Valuation τ sig (Elt Ideal)) :
    StableHlo.after hostOps1 X (Proc.devRef .tc main_v218) = get10 (X (Proc.devRef .tc main_v108_2)) := by
  after_reads_simp
  rfl
theorem tail2_11 (X : Valuation τ sig (Elt Ideal)) :
    StableHlo.after hostOps1 X (Proc.devRef .tc main_v220) = get11 (X (Proc.devRef .tc main_v108_2)) := by
  after_reads_simp
  rfl
theorem tail2_12 (X : Valuation τ sig (Elt Ideal)) :
    StableHlo.after hostOps1 X (Proc.devRef .tc main_v222) = get12 (X (Proc.devRef .tc main_v108_2)) := by
  after_reads_simp
  rfl
theorem tail2_13 (X : Valuation τ sig (Elt Ideal)) :
    StableHlo.after hostOps1 X (Proc.devRef .tc main_v224) = get13 (X (Proc.devRef .tc main_v108_2)) := by
  after_reads_simp
  rfl
theorem tail2_14 (X : Valuation τ sig (Elt Ideal)) :
    StableHlo.after hostOps1 X (Proc.devRef .tc main_v226) = get14 (X (Proc.devRef .tc main_v108_2)) := by
  after_reads_simp
  rfl
theorem tail2_15 (X : Valuation τ sig (Elt Ideal)) :
    StableHlo.after hostOps1 X (Proc.devRef .tc main_v228) = get15 (X (Proc.devRef .tc main_v108_2)) := by
  after_reads_simp
  rfl
theorem tail2_16 (X : Valuation τ sig (Elt Ideal)) :
    StableHlo.after hostOps1 X (Proc.devRef .tc main_v230) = get16 (X (Proc.devRef .tc main_v108_2)) := by
  after_reads_simp
  rfl
theorem tail2_17 (X : Valuation τ sig (Elt Ideal)) :
    StableHlo.after hostOps1 X (Proc.devRef .tc main_v232) = get17 (X (Proc.devRef .tc main_v108_2)) := by
  after_reads_simp
  rfl
theorem tail2_18 (X : Valuation τ sig (Elt Ideal)) :
    StableHlo.after hostOps1 X (Proc.devRef .tc main_v234) = get18 (X (Proc.devRef .tc main_v108_2)) := by
  after_reads_simp
  rfl

end Cert.StepSmallKernelIdeal.Hand

end
-- ==== Proof.SmallValue.lean ====
/- The optimiser's step of the small weights: the call's results, and each weight's share of them. -/
module

public import proofs.«01_k».proof.Proof.SmallHost
public import proofs.«01_k».proof.Proof.Adam
public import Idealize.ShloMosaic.Lib.Pipeline.ValueKit

@[expose] public section

set_option maxRecDepth 16384

noncomputable section

namespace Cert.StepSmallKernelIdeal.Hand

open Idealize.ShloMosaic Idealize.ShloMosaic.TcCoe Idealize.ShloMosaic.Tactic Idealize.SL.Sem
open Cert.StepSmallKernelIdeal Cert.StepSmallKernelIdeal.Gen Cert.SmallLayout

variable (m : (ℓ : Loc nD τ sig) → Buf (Elt Ideal) ℓ) (ρ : Dev nD → PrngReg) (c : Dev nD)

/-- Row `r` of the step's block of rows. -/
def row (t : Fin cfg0.N) (r : Fin 256) : Fin 256 := ⟨256 * t.val + r.val, by have : t.val < 1 := t.isLt; have := r.isLt; omega⟩

theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem blk0_at (t : Fin cfg0.N) (r : Fin 256) (l : Fin 1024) : iblk m c 0 t (ix2 r l) = pack (wt m c) (ix2 (row t r) l) := by
  unfold iblk row
  refine Eq.trans ?_ (congrFun (V_wt m c) _)
  blk_ext [(idx0 t).1]
theorem blk1_at (t : Fin cfg0.N) (r : Fin 256) (l : Fin 1024) : iblk m c 1 t (ix2 r l) = pack (gr m c) (ix2 (row t r) l) := by
  unfold iblk row
  refine Eq.trans ?_ (congrFun (V_gr m c) _)
  blk_ext [(idx0 t).2.1]
theorem blk2_at (t : Fin cfg0.N) (r : Fin 256) (l : Fin 1024) : iblk m c 2 t (ix2 r l) = pack (m1 m c) (ix2 (row t r) l) := by
  unfold iblk row
  refine Eq.trans ?_ (congrFun (V_m1 m c) _)
  blk_ext [(idx0 t).2.2.1]
theorem blk3_at (t : Fin cfg0.N) (r : Fin 256) (l : Fin 1024) : iblk m c 3 t (ix2 r l) = pack (m2 m c) (ix2 (row t r) l) := by
  unfold iblk row
  refine Eq.trans ?_ (congrFun (V_m2 m c) _)
  blk_ext [(idx0 t).2.2.2.1]

theorem emb4 (t : Fin cfg0.N) (y : S256x1024.Idx) : (win0_4.blk t).view.emb y = ix2 (row t (y 0)) (y 1) := by
  unfold row
  blk_ext [(idx0 t).2.2.2.2.1]
theorem emb5 (t : Fin cfg0.N) (y : S256x1024.Idx) : (win0_5.blk t).view.emb y = ix2 (row t (y 0)) (y 1) := by
  unfold row
  blk_ext [(idx0 t).2.2.2.2.2.1]
theorem emb6 (t : Fin cfg0.N) (y : S256x1024.Idx) : (win0_6.blk t).view.emb y = ix2 (row t (y 0)) (y 1) := by
  unfold row
  blk_ext [(idx0 t).2.2.2.2.2.2]

theorem covers4 : (cfg0.win 4).Covers := by decide +kernel
theorem covers5 : (cfg0.win 5).Covers := by decide +kernel
theorem covers6 : (cfg0.win 6).Covers := by decide +kernel

/-- The three results of the call. -/
def change : Buf (Elt Ideal) ((c.tc : Thread nD τ).loc main_v108_0) := fun y => Cert.Adam.delta (pack (wt m c) y) (pack (gr m c) y) (pack (m1 m c) y) (pack (m2 m c) y)
def first : Buf (Elt Ideal) ((c.tc : Thread nD τ).loc main_v108_1) := fun y => Cert.Adam.newM (pack (gr m c) y) (pack (m1 m c) y)
def second : Buf (Elt Ideal) ((c.tc : Thread nD τ).loc main_v108_2) := fun y => Cert.Adam.newV (pack (gr m c) y) (pack (m2 m c) y)

theorem first_step (G M : Vec Ideal S256x1024 .f32) (a : Fin 256) (b : Fin 1024) :
    k0_pay2 G M (ix2 a b) = Cert.Adam.newM (G (ix2 a b)) (M (ix2 a b)) := by
  pointwise [k0_pay2, k0_pay1, Cert.Adam.newM]
theorem second_step (G M : Vec Ideal S256x1024 .f32) (a : Fin 256) (b : Fin 1024) :
    k0_pay3 G M (ix2 a b) = Cert.Adam.newV (G (ix2 a b)) (M (ix2 a b)) := by
  pointwise [k0_pay3, k0_pay1, Cert.Adam.newV]
theorem change_step (W G M U : Vec Ideal S256x1024 .f32) (a : Fin 256) (b : Fin 1024) :
    k0_pay4 G M U W (ix2 a b) = Cert.Adam.delta (W (ix2 a b)) (G (ix2 a b)) (M (ix2 a b)) (U (ix2 a b)) := by
  unfold Cert.Adam.delta
  rw [← first_step G M a b, ← second_step G U a b]
  pointwise [k0_pay4]

theorem change_eq : (dats m 0 c).arrAt 4 cfg0.N = change m c := by
  refine Pipeline.Dat.arrAt_eq_of_covers (dats m 0 c) 4 _ covers4 fun t hf y => ?_
  refine Eq.trans ?_ (congrArg (change m c) (emb4 t y)).symm
  obtain ⟨a, b, rfl⟩ : ∃ a b, y = (ix2 a b : S256x1024.Idx) := ⟨y 0, y 1, by blk_ext⟩
  blk_simp
  rw [after0_4]
  frame_out
  refine (change_step _ _ _ _ a b).trans ?_
  rw [blk0_at, blk1_at, blk2_at, blk3_at]
  rfl

theorem first_eq : (dats m 0 c).arrAt 5 cfg0.N = first m c := by
  refine Pipeline.Dat.arrAt_eq_of_covers (dats m 0 c) 5 _ covers5 fun t hf y => ?_
  refine Eq.trans ?_ (congrArg (first m c) (emb5 t y)).symm
  obtain ⟨a, b, rfl⟩ : ∃ a b, y = (ix2 a b : S256x1024.Idx) := ⟨y 0, y 1, by blk_ext⟩
  blk_simp
  rw [after0_5]
  frame_out
  refine (first_step _ _ a b).trans ?_
  rw [blk1_at, blk2_at]
  rfl

theorem second_eq : (dats m 0 c).arrAt 6 cfg0.N = second m c := by
  refine Pipeline.Dat.arrAt_eq_of_covers (dats m 0 c) 6 _ covers6 fun t hf y => ?_
  refine Eq.trans ?_ (congrArg (second m c) (emb6 t y)).symm
  obtain ⟨a, b, rfl⟩ : ∃ a b, y = (ix2 a b : S256x1024.Idx) := ⟨y 0, y 1, by blk_ext⟩
  blk_simp
  rw [after0_6]
  frame_out
  refine (second_step _ _ a b).trans ?_
  rw [blk1_at, blk3_at]
  rfl

/-- Weight 0's change. -/
def change0 : Buf (Elt Ideal) ((c.tc : Thread nD τ).loc main_v114) :=
  fun i => Cert.Adam.delta ((m ((c.tc : Thread nD τ).loc main_arg0) : Vec Ideal S2x384x96 .f32) i) ((m ((c.tc : Thread nD τ).loc main_arg19) : Vec Ideal S2x384x96 .f32) i) ((m ((c.tc : Thread nD τ).loc main_arg38) : Vec Ideal S2x384x96 .f32) i) ((m ((c.tc : Thread nD τ).loc main_arg57) : Vec Ideal S2x384x96 .f32) i)
theorem change0_eq : get0 (change m c) = change0 m c := by
  have h : get0 (change m c) = fun i => Cert.Adam.delta (get0 (pack (wt m c)) i) (get0 (pack (gr m c)) i) (get0 (pack (m1 m c)) i) (get0 (pack (m2 m c)) i) := rfl
  rw [h]
  simp only [get0_pack]
  rfl
theorem change0_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v114) = change0 m c := by
  refine ((h c).2 main_v114 (Pipeline.mem_restRefs_of main_v114 (by decide) (by decide))).trans ?_
  unfold Pipeline.afterTail₀
  rw [List.flatten_cons, List.flatten_nil, List.append_nil]
  refine (tail0_0 _).trans ?_
  refine (congrArg get0 ?_).trans (change0_eq m c)
  exact (Pipeline.withArrays_arr spec0 launch0.win.arr_inj c (V0 m c) (fun w => (dats m 0 c).arrAt w cfg0.N) 4).trans (change_eq m c)

/-- Weight 1's change. -/
def change1 : Buf (Elt Ideal) ((c.tc : Thread nD τ).loc main_v116) :=
  fun i => Cert.Adam.delta ((m ((c.tc : Thread nD τ).loc main_arg1) : Vec Ideal S2x256x128 .f32) i) ((m ((c.tc : Thread nD τ).loc main_arg20) : Vec Ideal S2x256x128 .f32) i) ((m ((c.tc : Thread nD τ).loc main_arg39) : Vec Ideal S2x256x128 .f32) i) ((m ((c.tc : Thread nD τ).loc main_arg58) : Vec Ideal S2x256x128 .f32) i)
theorem change1_eq : get1 (change m c) = change1 m c := by
  have h : get1 (change m c) = fun i => Cert.Adam.delta (get1 (pack (wt m c)) i) (get1 (pack (gr m c)) i) (get1 (pack (m1 m c)) i) (get1 (pack (m2 m c)) i) := rfl
  rw [h]
  simp only [get1_pack]
  rfl
theorem change1_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v116) = change1 m c := by
  refine ((h c).2 main_v116 (Pipeline.mem_restRefs_of main_v116 (by decide) (by decide))).trans ?_
  unfold Pipeline.afterTail₀
  rw [List.flatten_cons, List.flatten_nil, List.append_nil]
  refine (tail0_1 _).trans ?_
  refine (congrArg get1 ?_).trans (change1_eq m c)
  exact (Pipeline.withArrays_arr spec0 launch0.win.arr_inj c (V0 m c) (fun w => (dats m 0 c).arrAt w cfg0.N) 4).trans (change_eq m c)

/-- Weight 2's change. -/
def change2 : Buf (Elt Ideal) ((c.tc : Thread nD τ).loc main_v118) :=
  fun i => Cert.Adam.delta ((m ((c.tc : Thread nD τ).loc main_arg2) : Vec Ideal S2x128 .f32) i) ((m ((c.tc : Thread nD τ).loc main_arg21) : Vec Ideal S2x128 .f32) i) ((m ((c.tc : Thread nD τ).loc main_arg40) : Vec Ideal S2x128 .f32) i) ((m ((c.tc : Thread nD τ).loc main_arg59) : Vec Ideal S2x128 .f32) i)
theorem change2_eq : get2 (change m c) = change2 m c := by
  have h : get2 (change m c) = fun i => Cert.Adam.delta (get2 (pack (wt m c)) i) (get2 (pack (gr m c)) i) (get2 (pack (m1 m c)) i) (get2 (pack (m2 m c)) i) := rfl
  rw [h]
  simp only [get2_pack]
  rfl
theorem change2_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v118) = change2 m c := by
  refine ((h c).2 main_v118 (Pipeline.mem_restRefs_of main_v118 (by decide) (by decide))).trans ?_
  unfold Pipeline.afterTail₀
  rw [List.flatten_cons, List.flatten_nil, List.append_nil]
  refine (tail0_2 _).trans ?_
  refine (congrArg get2 ?_).trans (change2_eq m c)
  exact (Pipeline.withArrays_arr spec0 launch0.win.arr_inj c (V0 m c) (fun w => (dats m 0 c).arrAt w cfg0.N) 4).trans (change_eq m c)

/-- Weight 3's change. -/
def change3 : Buf (Elt Ideal) ((c.tc : Thread nD τ).loc main_v120) :=
  fun i => Cert.Adam.delta ((m ((c.tc : Thread nD τ).loc main_arg3) : Vec Ideal S2x16x64 .f32) i) ((m ((c.tc : Thread nD τ).loc main_arg22) : Vec Ideal S2x16x64 .f32) i) ((m ((c.tc : Thread nD τ).loc main_arg41) : Vec Ideal S2x16x64 .f32) i) ((m ((c.tc : Thread nD τ).loc main_arg60) : Vec Ideal S2x16x64 .f32) i)
theorem change3_eq : get3 (change m c) = change3 m c := by
  have h : get3 (change m c) = fun i => Cert.Adam.delta (get3 (pack (wt m c)) i) (get3 (pack (gr m c)) i) (get3 (pack (m1 m c)) i) (get3 (pack (m2 m c)) i) := rfl
  rw [h]
  simp only [get3_pack]
  rfl
theorem change3_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v120) = change3 m c := by
  refine ((h c).2 main_v120 (Pipeline.mem_restRefs_of main_v120 (by decide) (by decide))).trans ?_
  unfold Pipeline.afterTail₀
  rw [List.flatten_cons, List.flatten_nil, List.append_nil]
  refine (tail0_3 _).trans ?_
  refine (congrArg get3 ?_).trans (change3_eq m c)
  exact (Pipeline.withArrays_arr spec0 launch0.win.arr_inj c (V0 m c) (fun w => (dats m 0 c).arrAt w cfg0.N) 4).trans (change_eq m c)

/-- Weight 4's change. -/
def change4 : Buf (Elt Ideal) ((c.tc : Thread nD τ).loc main_v122) :=
  fun i => Cert.Adam.delta ((m ((c.tc : Thread nD τ).loc main_arg4) : Vec Ideal S2x64 .f32) i) ((m ((c.tc : Thread nD τ).loc main_arg23) : Vec Ideal S2x64 .f32) i) ((m ((c.tc : Thread nD τ).loc main_arg42) : Vec Ideal S2x64 .f32) i) ((m ((c.tc : Thread nD τ).loc main_arg61) : Vec Ideal S2x64 .f32) i)
theorem change4_eq : get4 (change m c) = change4 m c := by
  have h : get4 (change m c) = fun i => Cert.Adam.delta (get4 (pack (wt m c)) i) (get4 (pack (gr m c)) i) (get4 (pack (m1 m c)) i) (get4 (pack (m2 m c)) i) := rfl
  rw [h]
  simp only [get4_pack]
  rfl
theorem change4_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v122) = change4 m c := by
  refine ((h c).2 main_v122 (Pipeline.mem_restRefs_of main_v122 (by decide) (by decide))).trans ?_
  unfold Pipeline.afterTail₀
  rw [List.flatten_cons, List.flatten_nil, List.append_nil]
  refine (tail0_4 _).trans ?_
  refine (congrArg get4 ?_).trans (change4_eq m c)
  exact (Pipeline.withArrays_arr spec0 launch0.win.arr_inj c (V0 m c) (fun w => (dats m 0 c).arrAt w cfg0.N) 4).trans (change_eq m c)

/-- Weight 5's change. -/
def change5 : Buf (Elt Ideal) ((c.tc : Thread nD τ).loc main_v124) :=
  fun i => Cert.Adam.delta ((m ((c.tc : Thread nD τ).loc main_arg5) : Vec Ideal S2x16x64 .f32) i) ((m ((c.tc : Thread nD τ).loc main_arg24) : Vec Ideal S2x16x64 .f32) i) ((m ((c.tc : Thread nD τ).loc main_arg43) : Vec Ideal S2x16x64 .f32) i) ((m ((c.tc : Thread nD τ).loc main_arg62) : Vec Ideal S2x16x64 .f32) i)
theorem change5_eq : get5 (change m c) = change5 m c := by
  have h : get5 (change m c) = fun i => Cert.Adam.delta (get5 (pack (wt m c)) i) (get5 (pack (gr m c)) i) (get5 (pack (m1 m c)) i) (get5 (pack (m2 m c)) i) := rfl
  rw [h]
  simp only [get5_pack]
  rfl
theorem change5_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v124) = change5 m c := by
  refine ((h c).2 main_v124 (Pipeline.mem_restRefs_of main_v124 (by decide) (by decide))).trans ?_
  unfold Pipeline.afterTail₀
  rw [List.flatten_cons, List.flatten_nil, List.append_nil]
  refine (tail0_5 _).trans ?_
  refine (congrArg get5 ?_).trans (change5_eq m c)
  exact (Pipeline.withArrays_arr spec0 launch0.win.arr_inj c (V0 m c) (fun w => (dats m 0 c).arrAt w cfg0.N) 4).trans (change_eq m c)

/-- Weight 6's change. -/
def change6 : Buf (Elt Ideal) ((c.tc : Thread nD τ).loc main_v126) :=
  fun i => Cert.Adam.delta ((m ((c.tc : Thread nD τ).loc main_arg6) : Vec Ideal S2x64 .f32) i) ((m ((c.tc : Thread nD τ).loc main_arg25) : Vec Ideal S2x64 .f32) i) ((m ((c.tc : Thread nD τ).loc main_arg44) : Vec Ideal S2x64 .f32) i) ((m ((c.tc : Thread nD τ).loc main_arg63) : Vec Ideal S2x64 .f32) i)
theorem change6_eq : get6 (change m c) = change6 m c := by
  have h : get6 (change m c) = fun i => Cert.Adam.delta (get6 (pack (wt m c)) i) (get6 (pack (gr m c)) i) (get6 (pack (m1 m c)) i) (get6 (pack (m2 m c)) i) := rfl
  rw [h]
  simp only [get6_pack]
  rfl
theorem change6_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v126) = change6 m c := by
  refine ((h c).2 main_v126 (Pipeline.mem_restRefs_of main_v126 (by decide) (by decide))).trans ?_
  unfold Pipeline.afterTail₀
  rw [List.flatten_cons, List.flatten_nil, List.append_nil]
  refine (tail0_6 _).trans ?_
  refine (congrArg get6 ?_).trans (change6_eq m c)
  exact (Pipeline.withArrays_arr spec0 launch0.win.arr_inj c (V0 m c) (fun w => (dats m 0 c).arrAt w cfg0.N) 4).trans (change_eq m c)

/-- Weight 7's change. -/
def change7 : Buf (Elt Ideal) ((c.tc : Thread nD τ).loc main_v128) :=
  fun i => Cert.Adam.delta ((m ((c.tc : Thread nD τ).loc main_arg7) : Vec Ideal S2x4x32 .f32) i) ((m ((c.tc : Thread nD τ).loc main_arg26) : Vec Ideal S2x4x32 .f32) i) ((m ((c.tc : Thread nD τ).loc main_arg45) : Vec Ideal S2x4x32 .f32) i) ((m ((c.tc : Thread nD τ).loc main_arg64) : Vec Ideal S2x4x32 .f32) i)
theorem change7_eq : get7 (change m c) = change7 m c := by
  have h : get7 (change m c) = fun i => Cert.Adam.delta (get7 (pack (wt m c)) i) (get7 (pack (gr m c)) i) (get7 (pack (m1 m c)) i) (get7 (pack (m2 m c)) i) := rfl
  rw [h]
  simp only [get7_pack]
  rfl
theorem change7_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v128) = change7 m c := by
  refine ((h c).2 main_v128 (Pipeline.mem_restRefs_of main_v128 (by decide) (by decide))).trans ?_
  unfold Pipeline.afterTail₀
  rw [List.flatten_cons, List.flatten_nil, List.append_nil]
  refine (tail0_7 _).trans ?_
  refine (congrArg get7 ?_).trans (change7_eq m c)
  exact (Pipeline.withArrays_arr spec0 launch0.win.arr_inj c (V0 m c) (fun w => (dats m 0 c).arrAt w cfg0.N) 4).trans (change_eq m c)

/-- Weight 8's change. -/
def change8 : Buf (Elt Ideal) ((c.tc : Thread nD τ).loc main_v130) :=
  fun i => Cert.Adam.delta ((m ((c.tc : Thread nD τ).loc main_arg8) : Vec Ideal S4x3x352 .f32) i) ((m ((c.tc : Thread nD τ).loc main_arg27) : Vec Ideal S4x3x352 .f32) i) ((m ((c.tc : Thread nD τ).loc main_arg46) : Vec Ideal S4x3x352 .f32) i) ((m ((c.tc : Thread nD τ).loc main_arg65) : Vec Ideal S4x3x352 .f32) i)
theorem change8_eq : get8 (change m c) = change8 m c := by
  have h : get8 (change m c) = fun i => Cert.Adam.delta (get8 (pack (wt m c)) i) (get8 (pack (gr m c)) i) (get8 (pack (m1 m c)) i) (get8 (pack (m2 m c)) i) := rfl
  rw [h]
  simp only [get8_pack]
  rfl
theorem change8_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v130) = change8 m c := by
  refine ((h c).2 main_v130 (Pipeline.mem_restRefs_of main_v130 (by decide) (by decide))).trans ?_
  unfold Pipeline.afterTail₀
  rw [List.flatten_cons, List.flatten_nil, List.append_nil]
  refine (tail0_8 _).trans ?_
  refine (congrArg get8 ?_).trans (change8_eq m c)
  exact (Pipeline.withArrays_arr spec0 launch0.win.arr_inj c (V0 m c) (fun w => (dats m 0 c).arrAt w cfg0.N) 4).trans (change_eq m c)

/-- Weight 9's change. -/
def change9 : Buf (Elt Ideal) ((c.tc : Thread nD τ).loc main_v132) :=
  fun i => Cert.Adam.delta ((m ((c.tc : Thread nD τ).loc main_arg9) : Vec Ideal S2x1024 .f32) i) ((m ((c.tc : Thread nD τ).loc main_arg28) : Vec Ideal S2x1024 .f32) i) ((m ((c.tc : Thread nD τ).loc main_arg47) : Vec Ideal S2x1024 .f32) i) ((m ((c.tc : Thread nD τ).loc main_arg66) : Vec Ideal S2x1024 .f32) i)
theorem change9_eq : get9 (change m c) = change9 m c := by
  have h : get9 (change m c) = fun i => Cert.Adam.delta (get9 (pack (wt m c)) i) (get9 (pack (gr m c)) i) (get9 (pack (m1 m c)) i) (get9 (pack (m2 m c)) i) := rfl
  rw [h]
  simp only [get9_pack]
  rfl
theorem change9_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v132) = change9 m c := by
  refine ((h c).2 main_v132 (Pipeline.mem_restRefs_of main_v132 (by decide) (by decide))).trans ?_
  unfold Pipeline.afterTail₀
  rw [List.flatten_cons, List.flatten_nil, List.append_nil]
  refine (tail0_9 _).trans ?_
  refine (congrArg get9 ?_).trans (change9_eq m c)
  exact (Pipeline.withArrays_arr spec0 launch0.win.arr_inj c (V0 m c) (fun w => (dats m 0 c).arrAt w cfg0.N) 4).trans (change_eq m c)

/-- Weight 10's change. -/
def change10 : Buf (Elt Ideal) ((c.tc : Thread nD τ).loc main_v134) :=
  fun i => Cert.Adam.delta ((m ((c.tc : Thread nD τ).loc main_arg10) : Vec Ideal S2x384 .f32) i) ((m ((c.tc : Thread nD τ).loc main_arg29) : Vec Ideal S2x384 .f32) i) ((m ((c.tc : Thread nD τ).loc main_arg48) : Vec Ideal S2x384 .f32) i) ((m ((c.tc : Thread nD τ).loc main_arg67) : Vec Ideal S2x384 .f32) i)
theorem change10_eq : get10 (change m c) = change10 m c := by
  have h : get10 (change m c) = fun i => Cert.Adam.delta (get10 (pack (wt m c)) i) (get10 (pack (gr m c)) i) (get10 (pack (m1 m c)) i) (get10 (pack (m2 m c)) i) := rfl
  rw [h]
  simp only [get10_pack]
  rfl
theorem change10_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v134) = change10 m c := by
  refine ((h c).2 main_v134 (Pipeline.mem_restRefs_of main_v134 (by decide) (by decide))).trans ?_
  unfold Pipeline.afterTail₀
  rw [List.flatten_cons, List.flatten_nil, List.append_nil]
  refine (tail0_10 _).trans ?_
  refine (congrArg get10 ?_).trans (change10_eq m c)
  exact (Pipeline.withArrays_arr spec0 launch0.win.arr_inj c (V0 m c) (fun w => (dats m 0 c).arrAt w cfg0.N) 4).trans (change_eq m c)

/-- Weight 11's change. -/
def change11 : Buf (Elt Ideal) ((c.tc : Thread nD τ).loc main_v136) :=
  fun i => Cert.Adam.delta ((m ((c.tc : Thread nD τ).loc main_arg11) : Vec Ideal S2x256 .f32) i) ((m ((c.tc : Thread nD τ).loc main_arg30) : Vec Ideal S2x256 .f32) i) ((m ((c.tc : Thread nD τ).loc main_arg49) : Vec Ideal S2x256 .f32) i) ((m ((c.tc : Thread nD τ).loc main_arg68) : Vec Ideal S2x256 .f32) i)
theorem change11_eq : get11 (change m c) = change11 m c := by
  have h : get11 (change m c) = fun i => Cert.Adam.delta (get11 (pack (wt m c)) i) (get11 (pack (gr m c)) i) (get11 (pack (m1 m c)) i) (get11 (pack (m2 m c)) i) := rfl
  rw [h]
  simp only [get11_pack]
  rfl
theorem change11_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v136) = change11 m c := by
  refine ((h c).2 main_v136 (Pipeline.mem_restRefs_of main_v136 (by decide) (by decide))).trans ?_
  unfold Pipeline.afterTail₀
  rw [List.flatten_cons, List.flatten_nil, List.append_nil]
  refine (tail0_11 _).trans ?_
  refine (congrArg get11 ?_).trans (change11_eq m c)
  exact (Pipeline.withArrays_arr spec0 launch0.win.arr_inj c (V0 m c) (fun w => (dats m 0 c).arrAt w cfg0.N) 4).trans (change_eq m c)

/-- Weight 12's change. -/
def change12 : Buf (Elt Ideal) ((c.tc : Thread nD τ).loc main_v138) :=
  fun i => Cert.Adam.delta ((m ((c.tc : Thread nD τ).loc main_arg12) : Vec Ideal S2x96 .f32) i) ((m ((c.tc : Thread nD τ).loc main_arg31) : Vec Ideal S2x96 .f32) i) ((m ((c.tc : Thread nD τ).loc main_arg50) : Vec Ideal S2x96 .f32) i) ((m ((c.tc : Thread nD τ).loc main_arg69) : Vec Ideal S2x96 .f32) i)
theorem change12_eq : get12 (change m c) = change12 m c := by
  have h : get12 (change m c) = fun i => Cert.Adam.delta (get12 (pack (wt m c)) i) (get12 (pack (gr m c)) i) (get12 (pack (m1 m c)) i) (get12 (pack (m2 m c)) i) := rfl
  rw [h]
  simp only [get12_pack]
  rfl
theorem change12_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v138) = change12 m c := by
  refine ((h c).2 main_v138 (Pipeline.mem_restRefs_of main_v138 (by decide) (by decide))).trans ?_
  unfold Pipeline.afterTail₀
  rw [List.flatten_cons, List.flatten_nil, List.append_nil]
  refine (tail0_12 _).trans ?_
  refine (congrArg get12 ?_).trans (change12_eq m c)
  exact (Pipeline.withArrays_arr spec0 launch0.win.arr_inj c (V0 m c) (fun w => (dats m 0 c).arrAt w cfg0.N) 4).trans (change_eq m c)

/-- Weight 13's change. -/
def change13 : Buf (Elt Ideal) ((c.tc : Thread nD τ).loc main_v140) :=
  fun i => Cert.Adam.delta ((m ((c.tc : Thread nD τ).loc main_arg13) : Vec Ideal S2x96 .f32) i) ((m ((c.tc : Thread nD τ).loc main_arg32) : Vec Ideal S2x96 .f32) i) ((m ((c.tc : Thread nD τ).loc main_arg51) : Vec Ideal S2x96 .f32) i) ((m ((c.tc : Thread nD τ).loc main_arg70) : Vec Ideal S2x96 .f32) i)
theorem change13_eq : get13 (change m c) = change13 m c := by
  have h : get13 (change m c) = fun i => Cert.Adam.delta (get13 (pack (wt m c)) i) (get13 (pack (gr m c)) i) (get13 (pack (m1 m c)) i) (get13 (pack (m2 m c)) i) := rfl
  rw [h]
  simp only [get13_pack]
  rfl
theorem change13_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v140) = change13 m c := by
  refine ((h c).2 main_v140 (Pipeline.mem_restRefs_of main_v140 (by decide) (by decide))).trans ?_
  unfold Pipeline.afterTail₀
  rw [List.flatten_cons, List.flatten_nil, List.append_nil]
  refine (tail0_13 _).trans ?_
  refine (congrArg get13 ?_).trans (change13_eq m c)
  exact (Pipeline.withArrays_arr spec0 launch0.win.arr_inj c (V0 m c) (fun w => (dats m 0 c).arrAt w cfg0.N) 4).trans (change_eq m c)

/-- Weight 14's change. -/
def change14 : Buf (Elt Ideal) ((c.tc : Thread nD τ).loc main_v142) :=
  fun i => Cert.Adam.delta ((m ((c.tc : Thread nD τ).loc main_arg14) : Vec Ideal S2x8 .f32) i) ((m ((c.tc : Thread nD τ).loc main_arg33) : Vec Ideal S2x8 .f32) i) ((m ((c.tc : Thread nD τ).loc main_arg52) : Vec Ideal S2x8 .f32) i) ((m ((c.tc : Thread nD τ).loc main_arg71) : Vec Ideal S2x8 .f32) i)
theorem change14_eq : get14 (change m c) = change14 m c := by
  have h : get14 (change m c) = fun i => Cert.Adam.delta (get14 (pack (wt m c)) i) (get14 (pack (gr m c)) i) (get14 (pack (m1 m c)) i) (get14 (pack (m2 m c)) i) := rfl
  rw [h]
  simp only [get14_pack]
  rfl
theorem change14_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v142) = change14 m c := by
  refine ((h c).2 main_v142 (Pipeline.mem_restRefs_of main_v142 (by decide) (by decide))).trans ?_
  unfold Pipeline.afterTail₀
  rw [List.flatten_cons, List.flatten_nil, List.append_nil]
  refine (tail0_14 _).trans ?_
  refine (congrArg get14 ?_).trans (change14_eq m c)
  exact (Pipeline.withArrays_arr spec0 launch0.win.arr_inj c (V0 m c) (fun w => (dats m 0 c).arrAt w cfg0.N) 4).trans (change_eq m c)

/-- Weight 15's change. -/
def change15 : Buf (Elt Ideal) ((c.tc : Thread nD τ).loc main_v144) :=
  fun i => Cert.Adam.delta ((m ((c.tc : Thread nD τ).loc main_arg15) : Vec Ideal S2x8 .f32) i) ((m ((c.tc : Thread nD τ).loc main_arg34) : Vec Ideal S2x8 .f32) i) ((m ((c.tc : Thread nD τ).loc main_arg53) : Vec Ideal S2x8 .f32) i) ((m ((c.tc : Thread nD τ).loc main_arg72) : Vec Ideal S2x8 .f32) i)
theorem change15_eq : get15 (change m c) = change15 m c := by
  have h : get15 (change m c) = fun i => Cert.Adam.delta (get15 (pack (wt m c)) i) (get15 (pack (gr m c)) i) (get15 (pack (m1 m c)) i) (get15 (pack (m2 m c)) i) := rfl
  rw [h]
  simp only [get15_pack]
  rfl
theorem change15_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v144) = change15 m c := by
  refine ((h c).2 main_v144 (Pipeline.mem_restRefs_of main_v144 (by decide) (by decide))).trans ?_
  unfold Pipeline.afterTail₀
  rw [List.flatten_cons, List.flatten_nil, List.append_nil]
  refine (tail0_15 _).trans ?_
  refine (congrArg get15 ?_).trans (change15_eq m c)
  exact (Pipeline.withArrays_arr spec0 launch0.win.arr_inj c (V0 m c) (fun w => (dats m 0 c).arrAt w cfg0.N) 4).trans (change_eq m c)

/-- Weight 16's change. -/
def change16 : Buf (Elt Ideal) ((c.tc : Thread nD τ).loc main_v146) :=
  fun i => Cert.Adam.delta ((m ((c.tc : Thread nD τ).loc main_arg16) : Vec Ideal S2x8x64 .f32) i) ((m ((c.tc : Thread nD τ).loc main_arg35) : Vec Ideal S2x8x64 .f32) i) ((m ((c.tc : Thread nD τ).loc main_arg54) : Vec Ideal S2x8x64 .f32) i) ((m ((c.tc : Thread nD τ).loc main_arg73) : Vec Ideal S2x8x64 .f32) i)
theorem change16_eq : get16 (change m c) = change16 m c := by
  have h : get16 (change m c) = fun i => Cert.Adam.delta (get16 (pack (wt m c)) i) (get16 (pack (gr m c)) i) (get16 (pack (m1 m c)) i) (get16 (pack (m2 m c)) i) := rfl
  rw [h]
  simp only [get16_pack]
  rfl
theorem change16_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v146) = change16 m c := by
  refine ((h c).2 main_v146 (Pipeline.mem_restRefs_of main_v146 (by decide) (by decide))).trans ?_
  unfold Pipeline.afterTail₀
  rw [List.flatten_cons, List.flatten_nil, List.append_nil]
  refine (tail0_16 _).trans ?_
  refine (congrArg get16 ?_).trans (change16_eq m c)
  exact (Pipeline.withArrays_arr spec0 launch0.win.arr_inj c (V0 m c) (fun w => (dats m 0 c).arrAt w cfg0.N) 4).trans (change_eq m c)

/-- Weight 17's change. -/
def change17 : Buf (Elt Ideal) ((c.tc : Thread nD τ).loc main_v148) :=
  fun i => Cert.Adam.delta ((m ((c.tc : Thread nD τ).loc main_arg17) : Vec Ideal S4x1024 .f32) i) ((m ((c.tc : Thread nD τ).loc main_arg36) : Vec Ideal S4x1024 .f32) i) ((m ((c.tc : Thread nD τ).loc main_arg55) : Vec Ideal S4x1024 .f32) i) ((m ((c.tc : Thread nD τ).loc main_arg74) : Vec Ideal S4x1024 .f32) i)
theorem change17_eq : get17 (change m c) = change17 m c := by
  have h : get17 (change m c) = fun i => Cert.Adam.delta (get17 (pack (wt m c)) i) (get17 (pack (gr m c)) i) (get17 (pack (m1 m c)) i) (get17 (pack (m2 m c)) i) := rfl
  rw [h]
  simp only [get17_pack]
  rfl
theorem change17_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v148) = change17 m c := by
  refine ((h c).2 main_v148 (Pipeline.mem_restRefs_of main_v148 (by decide) (by decide))).trans ?_
  unfold Pipeline.afterTail₀
  rw [List.flatten_cons, List.flatten_nil, List.append_nil]
  refine (tail0_17 _).trans ?_
  refine (congrArg get17 ?_).trans (change17_eq m c)
  exact (Pipeline.withArrays_arr spec0 launch0.win.arr_inj c (V0 m c) (fun w => (dats m 0 c).arrAt w cfg0.N) 4).trans (change_eq m c)

/-- Weight 18's change. -/
def change18 : Buf (Elt Ideal) ((c.tc : Thread nD τ).loc main_v150) :=
  fun i => Cert.Adam.delta ((m ((c.tc : Thread nD τ).loc main_arg18) : Vec Ideal S4x2816 .f32) i) ((m ((c.tc : Thread nD τ).loc main_arg37) : Vec Ideal S4x2816 .f32) i) ((m ((c.tc : Thread nD τ).loc main_arg56) : Vec Ideal S4x2816 .f32) i) ((m ((c.tc : Thread nD τ).loc main_arg75) : Vec Ideal S4x2816 .f32) i)
theorem change18_eq : get18 (change m c) = change18 m c := by
  have h : get18 (change m c) = fun i => Cert.Adam.delta (get18 (pack (wt m c)) i) (get18 (pack (gr m c)) i) (get18 (pack (m1 m c)) i) (get18 (pack (m2 m c)) i) := rfl
  rw [h]
  simp only [get18_pack]
  rfl
theorem change18_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v150) = change18 m c := by
  refine ((h c).2 main_v150 (Pipeline.mem_restRefs_of main_v150 (by decide) (by decide))).trans ?_
  unfold Pipeline.afterTail₀
  rw [List.flatten_cons, List.flatten_nil, List.append_nil]
  refine (tail0_18 _).trans ?_
  refine (congrArg get18 ?_).trans (change18_eq m c)
  exact (Pipeline.withArrays_arr spec0 launch0.win.arr_inj c (V0 m c) (fun w => (dats m 0 c).arrAt w cfg0.N) 4).trans (change_eq m c)

/-- Weight 0's new first moment. -/
def first0 : Buf (Elt Ideal) ((c.tc : Thread nD τ).loc main_v156) :=
  fun i => Cert.Adam.newM ((m ((c.tc : Thread nD τ).loc main_arg19) : Vec Ideal S2x384x96 .f32) i) ((m ((c.tc : Thread nD τ).loc main_arg38) : Vec Ideal S2x384x96 .f32) i)
theorem first0_eq : get0 (first m c) = first0 m c := by
  have h : get0 (first m c) = fun i => Cert.Adam.newM (get0 (pack (gr m c)) i) (get0 (pack (m1 m c)) i) := rfl
  rw [h]
  simp only [get0_pack]
  rfl
theorem first0_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v156) = first0 m c := by
  refine ((h c).2 main_v156 (Pipeline.mem_restRefs_of main_v156 (by decide) (by decide))).trans ?_
  unfold Pipeline.afterTail₀
  rw [List.flatten_cons, List.flatten_nil, List.append_nil]
  refine (tail1_0 _).trans ?_
  refine (congrArg get0 ?_).trans (first0_eq m c)
  exact (Pipeline.withArrays_arr spec0 launch0.win.arr_inj c (V0 m c) (fun w => (dats m 0 c).arrAt w cfg0.N) 5).trans (first_eq m c)

/-- Weight 1's new first moment. -/
def first1 : Buf (Elt Ideal) ((c.tc : Thread nD τ).loc main_v158) :=
  fun i => Cert.Adam.newM ((m ((c.tc : Thread nD τ).loc main_arg20) : Vec Ideal S2x256x128 .f32) i) ((m ((c.tc : Thread nD τ).loc main_arg39) : Vec Ideal S2x256x128 .f32) i)
theorem first1_eq : get1 (first m c) = first1 m c := by
  have h : get1 (first m c) = fun i => Cert.Adam.newM (get1 (pack (gr m c)) i) (get1 (pack (m1 m c)) i) := rfl
  rw [h]
  simp only [get1_pack]
  rfl
theorem first1_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v158) = first1 m c := by
  refine ((h c).2 main_v158 (Pipeline.mem_restRefs_of main_v158 (by decide) (by decide))).trans ?_
  unfold Pipeline.afterTail₀
  rw [List.flatten_cons, List.flatten_nil, List.append_nil]
  refine (tail1_1 _).trans ?_
  refine (congrArg get1 ?_).trans (first1_eq m c)
  exact (Pipeline.withArrays_arr spec0 launch0.win.arr_inj c (V0 m c) (fun w => (dats m 0 c).arrAt w cfg0.N) 5).trans (first_eq m c)

/-- Weight 2's new first moment. -/
def first2 : Buf (Elt Ideal) ((c.tc : Thread nD τ).loc main_v160) :=
  fun i => Cert.Adam.newM ((m ((c.tc : Thread nD τ).loc main_arg21) : Vec Ideal S2x128 .f32) i) ((m ((c.tc : Thread nD τ).loc main_arg40) : Vec Ideal S2x128 .f32) i)
theorem first2_eq : get2 (first m c) = first2 m c := by
  have h : get2 (first m c) = fun i => Cert.Adam.newM (get2 (pack (gr m c)) i) (get2 (pack (m1 m c)) i) := rfl
  rw [h]
  simp only [get2_pack]
  rfl
theorem first2_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v160) = first2 m c := by
  refine ((h c).2 main_v160 (Pipeline.mem_restRefs_of main_v160 (by decide) (by decide))).trans ?_
  unfold Pipeline.afterTail₀
  rw [List.flatten_cons, List.flatten_nil, List.append_nil]
  refine (tail1_2 _).trans ?_
  refine (congrArg get2 ?_).trans (first2_eq m c)
  exact (Pipeline.withArrays_arr spec0 launch0.win.arr_inj c (V0 m c) (fun w => (dats m 0 c).arrAt w cfg0.N) 5).trans (first_eq m c)

/-- Weight 3's new first moment. -/
def first3 : Buf (Elt Ideal) ((c.tc : Thread nD τ).loc main_v162) :=
  fun i => Cert.Adam.newM ((m ((c.tc : Thread nD τ).loc main_arg22) : Vec Ideal S2x16x64 .f32) i) ((m ((c.tc : Thread nD τ).loc main_arg41) : Vec Ideal S2x16x64 .f32) i)
theorem first3_eq : get3 (first m c) = first3 m c := by
  have h : get3 (first m c) = fun i => Cert.Adam.newM (get3 (pack (gr m c)) i) (get3 (pack (m1 m c)) i) := rfl
  rw [h]
  simp only [get3_pack]
  rfl
theorem first3_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v162) = first3 m c := by
  refine ((h c).2 main_v162 (Pipeline.mem_restRefs_of main_v162 (by decide) (by decide))).trans ?_
  unfold Pipeline.afterTail₀
  rw [List.flatten_cons, List.flatten_nil, List.append_nil]
  refine (tail1_3 _).trans ?_
  refine (congrArg get3 ?_).trans (first3_eq m c)
  exact (Pipeline.withArrays_arr spec0 launch0.win.arr_inj c (V0 m c) (fun w => (dats m 0 c).arrAt w cfg0.N) 5).trans (first_eq m c)

/-- Weight 4's new first moment. -/
def first4 : Buf (Elt Ideal) ((c.tc : Thread nD τ).loc main_v164) :=
  fun i => Cert.Adam.newM ((m ((c.tc : Thread nD τ).loc main_arg23) : Vec Ideal S2x64 .f32) i) ((m ((c.tc : Thread nD τ).loc main_arg42) : Vec Ideal S2x64 .f32) i)
theorem first4_eq : get4 (first m c) = first4 m c := by
  have h : get4 (first m c) = fun i => Cert.Adam.newM (get4 (pack (gr m c)) i) (get4 (pack (m1 m c)) i) := rfl
  rw [h]
  simp only [get4_pack]
  rfl
theorem first4_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v164) = first4 m c := by
  refine ((h c).2 main_v164 (Pipeline.mem_restRefs_of main_v164 (by decide) (by decide))).trans ?_
  unfold Pipeline.afterTail₀
  rw [List.flatten_cons, List.flatten_nil, List.append_nil]
  refine (tail1_4 _).trans ?_
  refine (congrArg get4 ?_).trans (first4_eq m c)
  exact (Pipeline.withArrays_arr spec0 launch0.win.arr_inj c (V0 m c) (fun w => (dats m 0 c).arrAt w cfg0.N) 5).trans (first_eq m c)

/-- Weight 5's new first moment. -/
def first5 : Buf (Elt Ideal) ((c.tc : Thread nD τ).loc main_v166) :=
  fun i => Cert.Adam.newM ((m ((c.tc : Thread nD τ).loc main_arg24) : Vec Ideal S2x16x64 .f32) i) ((m ((c.tc : Thread nD τ).loc main_arg43) : Vec Ideal S2x16x64 .f32) i)
theorem first5_eq : get5 (first m c) = first5 m c := by
  have h : get5 (first m c) = fun i => Cert.Adam.newM (get5 (pack (gr m c)) i) (get5 (pack (m1 m c)) i) := rfl
  rw [h]
  simp only [get5_pack]
  rfl
theorem first5_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v166) = first5 m c := by
  refine ((h c).2 main_v166 (Pipeline.mem_restRefs_of main_v166 (by decide) (by decide))).trans ?_
  unfold Pipeline.afterTail₀
  rw [List.flatten_cons, List.flatten_nil, List.append_nil]
  refine (tail1_5 _).trans ?_
  refine (congrArg get5 ?_).trans (first5_eq m c)
  exact (Pipeline.withArrays_arr spec0 launch0.win.arr_inj c (V0 m c) (fun w => (dats m 0 c).arrAt w cfg0.N) 5).trans (first_eq m c)

/-- Weight 6's new first moment. -/
def first6 : Buf (Elt Ideal) ((c.tc : Thread nD τ).loc main_v168) :=
  fun i => Cert.Adam.newM ((m ((c.tc : Thread nD τ).loc main_arg25) : Vec Ideal S2x64 .f32) i) ((m ((c.tc : Thread nD τ).loc main_arg44) : Vec Ideal S2x64 .f32) i)
theorem first6_eq : get6 (first m c) = first6 m c := by
  have h : get6 (first m c) = fun i => Cert.Adam.newM (get6 (pack (gr m c)) i) (get6 (pack (m1 m c)) i) := rfl
  rw [h]
  simp only [get6_pack]
  rfl
theorem first6_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v168) = first6 m c := by
  refine ((h c).2 main_v168 (Pipeline.mem_restRefs_of main_v168 (by decide) (by decide))).trans ?_
  unfold Pipeline.afterTail₀
  rw [List.flatten_cons, List.flatten_nil, List.append_nil]
  refine (tail1_6 _).trans ?_
  refine (congrArg get6 ?_).trans (first6_eq m c)
  exact (Pipeline.withArrays_arr spec0 launch0.win.arr_inj c (V0 m c) (fun w => (dats m 0 c).arrAt w cfg0.N) 5).trans (first_eq m c)

/-- Weight 7's new first moment. -/
def first7 : Buf (Elt Ideal) ((c.tc : Thread nD τ).loc main_v170) :=
  fun i => Cert.Adam.newM ((m ((c.tc : Thread nD τ).loc main_arg26) : Vec Ideal S2x4x32 .f32) i) ((m ((c.tc : Thread nD τ).loc main_arg45) : Vec Ideal S2x4x32 .f32) i)
theorem first7_eq : get7 (first m c) = first7 m c := by
  have h : get7 (first m c) = fun i => Cert.Adam.newM (get7 (pack (gr m c)) i) (get7 (pack (m1 m c)) i) := rfl
  rw [h]
  simp only [get7_pack]
  rfl
theorem first7_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v170) = first7 m c := by
  refine ((h c).2 main_v170 (Pipeline.mem_restRefs_of main_v170 (by decide) (by decide))).trans ?_
  unfold Pipeline.afterTail₀
  rw [List.flatten_cons, List.flatten_nil, List.append_nil]
  refine (tail1_7 _).trans ?_
  refine (congrArg get7 ?_).trans (first7_eq m c)
  exact (Pipeline.withArrays_arr spec0 launch0.win.arr_inj c (V0 m c) (fun w => (dats m 0 c).arrAt w cfg0.N) 5).trans (first_eq m c)

/-- Weight 8's new first moment. -/
def first8 : Buf (Elt Ideal) ((c.tc : Thread nD τ).loc main_v172) :=
  fun i => Cert.Adam.newM ((m ((c.tc : Thread nD τ).loc main_arg27) : Vec Ideal S4x3x352 .f32) i) ((m ((c.tc : Thread nD τ).loc main_arg46) : Vec Ideal S4x3x352 .f32) i)
theorem first8_eq : get8 (first m c) = first8 m c := by
  have h : get8 (first m c) = fun i => Cert.Adam.newM (get8 (pack (gr m c)) i) (get8 (pack (m1 m c)) i) := rfl
  rw [h]
  simp only [get8_pack]
  rfl
theorem first8_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v172) = first8 m c := by
  refine ((h c).2 main_v172 (Pipeline.mem_restRefs_of main_v172 (by decide) (by decide))).trans ?_
  unfold Pipeline.afterTail₀
  rw [List.flatten_cons, List.flatten_nil, List.append_nil]
  refine (tail1_8 _).trans ?_
  refine (congrArg get8 ?_).trans (first8_eq m c)
  exact (Pipeline.withArrays_arr spec0 launch0.win.arr_inj c (V0 m c) (fun w => (dats m 0 c).arrAt w cfg0.N) 5).trans (first_eq m c)

/-- Weight 9's new first moment. -/
def first9 : Buf (Elt Ideal) ((c.tc : Thread nD τ).loc main_v174) :=
  fun i => Cert.Adam.newM ((m ((c.tc : Thread nD τ).loc main_arg28) : Vec Ideal S2x1024 .f32) i) ((m ((c.tc : Thread nD τ).loc main_arg47) : Vec Ideal S2x1024 .f32) i)
theorem first9_eq : get9 (first m c) = first9 m c := by
  have h : get9 (first m c) = fun i => Cert.Adam.newM (get9 (pack (gr m c)) i) (get9 (pack (m1 m c)) i) := rfl
  rw [h]
  simp only [get9_pack]
  rfl
theorem first9_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v174) = first9 m c := by
  refine ((h c).2 main_v174 (Pipeline.mem_restRefs_of main_v174 (by decide) (by decide))).trans ?_
  unfold Pipeline.afterTail₀
  rw [List.flatten_cons, List.flatten_nil, List.append_nil]
  refine (tail1_9 _).trans ?_
  refine (congrArg get9 ?_).trans (first9_eq m c)
  exact (Pipeline.withArrays_arr spec0 launch0.win.arr_inj c (V0 m c) (fun w => (dats m 0 c).arrAt w cfg0.N) 5).trans (first_eq m c)

/-- Weight 10's new first moment. -/
def first10 : Buf (Elt Ideal) ((c.tc : Thread nD τ).loc main_v176) :=
  fun i => Cert.Adam.newM ((m ((c.tc : Thread nD τ).loc main_arg29) : Vec Ideal S2x384 .f32) i) ((m ((c.tc : Thread nD τ).loc main_arg48) : Vec Ideal S2x384 .f32) i)
theorem first10_eq : get10 (first m c) = first10 m c := by
  have h : get10 (first m c) = fun i => Cert.Adam.newM (get10 (pack (gr m c)) i) (get10 (pack (m1 m c)) i) := rfl
  rw [h]
  simp only [get10_pack]
  rfl
theorem first10_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v176) = first10 m c := by
  refine ((h c).2 main_v176 (Pipeline.mem_restRefs_of main_v176 (by decide) (by decide))).trans ?_
  unfold Pipeline.afterTail₀
  rw [List.flatten_cons, List.flatten_nil, List.append_nil]
  refine (tail1_10 _).trans ?_
  refine (congrArg get10 ?_).trans (first10_eq m c)
  exact (Pipeline.withArrays_arr spec0 launch0.win.arr_inj c (V0 m c) (fun w => (dats m 0 c).arrAt w cfg0.N) 5).trans (first_eq m c)

/-- Weight 11's new first moment. -/
def first11 : Buf (Elt Ideal) ((c.tc : Thread nD τ).loc main_v178) :=
  fun i => Cert.Adam.newM ((m ((c.tc : Thread nD τ).loc main_arg30) : Vec Ideal S2x256 .f32) i) ((m ((c.tc : Thread nD τ).loc main_arg49) : Vec Ideal S2x256 .f32) i)
theorem first11_eq : get11 (first m c) = first11 m c := by
  have h : get11 (first m c) = fun i => Cert.Adam.newM (get11 (pack (gr m c)) i) (get11 (pack (m1 m c)) i) := rfl
  rw [h]
  simp only [get11_pack]
  rfl
theorem first11_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v178) = first11 m c := by
  refine ((h c).2 main_v178 (Pipeline.mem_restRefs_of main_v178 (by decide) (by decide))).trans ?_
  unfold Pipeline.afterTail₀
  rw [List.flatten_cons, List.flatten_nil, List.append_nil]
  refine (tail1_11 _).trans ?_
  refine (congrArg get11 ?_).trans (first11_eq m c)
  exact (Pipeline.withArrays_arr spec0 launch0.win.arr_inj c (V0 m c) (fun w => (dats m 0 c).arrAt w cfg0.N) 5).trans (first_eq m c)

/-- Weight 12's new first moment. -/
def first12 : Buf (Elt Ideal) ((c.tc : Thread nD τ).loc main_v180) :=
  fun i => Cert.Adam.newM ((m ((c.tc : Thread nD τ).loc main_arg31) : Vec Ideal S2x96 .f32) i) ((m ((c.tc : Thread nD τ).loc main_arg50) : Vec Ideal S2x96 .f32) i)
theorem first12_eq : get12 (first m c) = first12 m c := by
  have h : get12 (first m c) = fun i => Cert.Adam.newM (get12 (pack (gr m c)) i) (get12 (pack (m1 m c)) i) := rfl
  rw [h]
  simp only [get12_pack]
  rfl
theorem first12_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v180) = first12 m c := by
  refine ((h c).2 main_v180 (Pipeline.mem_restRefs_of main_v180 (by decide) (by decide))).trans ?_
  unfold Pipeline.afterTail₀
  rw [List.flatten_cons, List.flatten_nil, List.append_nil]
  refine (tail1_12 _).trans ?_
  refine (congrArg get12 ?_).trans (first12_eq m c)
  exact (Pipeline.withArrays_arr spec0 launch0.win.arr_inj c (V0 m c) (fun w => (dats m 0 c).arrAt w cfg0.N) 5).trans (first_eq m c)

/-- Weight 13's new first moment. -/
def first13 : Buf (Elt Ideal) ((c.tc : Thread nD τ).loc main_v182) :=
  fun i => Cert.Adam.newM ((m ((c.tc : Thread nD τ).loc main_arg32) : Vec Ideal S2x96 .f32) i) ((m ((c.tc : Thread nD τ).loc main_arg51) : Vec Ideal S2x96 .f32) i)
theorem first13_eq : get13 (first m c) = first13 m c := by
  have h : get13 (first m c) = fun i => Cert.Adam.newM (get13 (pack (gr m c)) i) (get13 (pack (m1 m c)) i) := rfl
  rw [h]
  simp only [get13_pack]
  rfl
theorem first13_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v182) = first13 m c := by
  refine ((h c).2 main_v182 (Pipeline.mem_restRefs_of main_v182 (by decide) (by decide))).trans ?_
  unfold Pipeline.afterTail₀
  rw [List.flatten_cons, List.flatten_nil, List.append_nil]
  refine (tail1_13 _).trans ?_
  refine (congrArg get13 ?_).trans (first13_eq m c)
  exact (Pipeline.withArrays_arr spec0 launch0.win.arr_inj c (V0 m c) (fun w => (dats m 0 c).arrAt w cfg0.N) 5).trans (first_eq m c)

/-- Weight 14's new first moment. -/
def first14 : Buf (Elt Ideal) ((c.tc : Thread nD τ).loc main_v184) :=
  fun i => Cert.Adam.newM ((m ((c.tc : Thread nD τ).loc main_arg33) : Vec Ideal S2x8 .f32) i) ((m ((c.tc : Thread nD τ).loc main_arg52) : Vec Ideal S2x8 .f32) i)
theorem first14_eq : get14 (first m c) = first14 m c := by
  have h : get14 (first m c) = fun i => Cert.Adam.newM (get14 (pack (gr m c)) i) (get14 (pack (m1 m c)) i) := rfl
  rw [h]
  simp only [get14_pack]
  rfl
theorem first14_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v184) = first14 m c := by
  refine ((h c).2 main_v184 (Pipeline.mem_restRefs_of main_v184 (by decide) (by decide))).trans ?_
  unfold Pipeline.afterTail₀
  rw [List.flatten_cons, List.flatten_nil, List.append_nil]
  refine (tail1_14 _).trans ?_
  refine (congrArg get14 ?_).trans (first14_eq m c)
  exact (Pipeline.withArrays_arr spec0 launch0.win.arr_inj c (V0 m c) (fun w => (dats m 0 c).arrAt w cfg0.N) 5).trans (first_eq m c)

/-- Weight 15's new first moment. -/
def first15 : Buf (Elt Ideal) ((c.tc : Thread nD τ).loc main_v186) :=
  fun i => Cert.Adam.newM ((m ((c.tc : Thread nD τ).loc main_arg34) : Vec Ideal S2x8 .f32) i) ((m ((c.tc : Thread nD τ).loc main_arg53) : Vec Ideal S2x8 .f32) i)
theorem first15_eq : get15 (first m c) = first15 m c := by
  have h : get15 (first m c) = fun i => Cert.Adam.newM (get15 (pack (gr m c)) i) (get15 (pack (m1 m c)) i) := rfl
  rw [h]
  simp only [get15_pack]
  rfl
theorem first15_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v186) = first15 m c := by
  refine ((h c).2 main_v186 (Pipeline.mem_restRefs_of main_v186 (by decide) (by decide))).trans ?_
  unfold Pipeline.afterTail₀
  rw [List.flatten_cons, List.flatten_nil, List.append_nil]
  refine (tail1_15 _).trans ?_
  refine (congrArg get15 ?_).trans (first15_eq m c)
  exact (Pipeline.withArrays_arr spec0 launch0.win.arr_inj c (V0 m c) (fun w => (dats m 0 c).arrAt w cfg0.N) 5).trans (first_eq m c)

/-- Weight 16's new first moment. -/
def first16 : Buf (Elt Ideal) ((c.tc : Thread nD τ).loc main_v188) :=
  fun i => Cert.Adam.newM ((m ((c.tc : Thread nD τ).loc main_arg35) : Vec Ideal S2x8x64 .f32) i) ((m ((c.tc : Thread nD τ).loc main_arg54) : Vec Ideal S2x8x64 .f32) i)
theorem first16_eq : get16 (first m c) = first16 m c := by
  have h : get16 (first m c) = fun i => Cert.Adam.newM (get16 (pack (gr m c)) i) (get16 (pack (m1 m c)) i) := rfl
  rw [h]
  simp only [get16_pack]
  rfl
theorem first16_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v188) = first16 m c := by
  refine ((h c).2 main_v188 (Pipeline.mem_restRefs_of main_v188 (by decide) (by decide))).trans ?_
  unfold Pipeline.afterTail₀
  rw [List.flatten_cons, List.flatten_nil, List.append_nil]
  refine (tail1_16 _).trans ?_
  refine (congrArg get16 ?_).trans (first16_eq m c)
  exact (Pipeline.withArrays_arr spec0 launch0.win.arr_inj c (V0 m c) (fun w => (dats m 0 c).arrAt w cfg0.N) 5).trans (first_eq m c)

/-- Weight 17's new first moment. -/
def first17 : Buf (Elt Ideal) ((c.tc : Thread nD τ).loc main_v190) :=
  fun i => Cert.Adam.newM ((m ((c.tc : Thread nD τ).loc main_arg36) : Vec Ideal S4x1024 .f32) i) ((m ((c.tc : Thread nD τ).loc main_arg55) : Vec Ideal S4x1024 .f32) i)
theorem first17_eq : get17 (first m c) = first17 m c := by
  have h : get17 (first m c) = fun i => Cert.Adam.newM (get17 (pack (gr m c)) i) (get17 (pack (m1 m c)) i) := rfl
  rw [h]
  simp only [get17_pack]
  rfl
theorem first17_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v190) = first17 m c := by
  refine ((h c).2 main_v190 (Pipeline.mem_restRefs_of main_v190 (by decide) (by decide))).trans ?_
  unfold Pipeline.afterTail₀
  rw [List.flatten_cons, List.flatten_nil, List.append_nil]
  refine (tail1_17 _).trans ?_
  refine (congrArg get17 ?_).trans (first17_eq m c)
  exact (Pipeline.withArrays_arr spec0 launch0.win.arr_inj c (V0 m c) (fun w => (dats m 0 c).arrAt w cfg0.N) 5).trans (first_eq m c)

/-- Weight 18's new first moment. -/
def first18 : Buf (Elt Ideal) ((c.tc : Thread nD τ).loc main_v192) :=
  fun i => Cert.Adam.newM ((m ((c.tc : Thread nD τ).loc main_arg37) : Vec Ideal S4x2816 .f32) i) ((m ((c.tc : Thread nD τ).loc main_arg56) : Vec Ideal S4x2816 .f32) i)
theorem first18_eq : get18 (first m c) = first18 m c := by
  have h : get18 (first m c) = fun i => Cert.Adam.newM (get18 (pack (gr m c)) i) (get18 (pack (m1 m c)) i) := rfl
  rw [h]
  simp only [get18_pack]
  rfl
theorem first18_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v192) = first18 m c := by
  refine ((h c).2 main_v192 (Pipeline.mem_restRefs_of main_v192 (by decide) (by decide))).trans ?_
  unfold Pipeline.afterTail₀
  rw [List.flatten_cons, List.flatten_nil, List.append_nil]
  refine (tail1_18 _).trans ?_
  refine (congrArg get18 ?_).trans (first18_eq m c)
  exact (Pipeline.withArrays_arr spec0 launch0.win.arr_inj c (V0 m c) (fun w => (dats m 0 c).arrAt w cfg0.N) 5).trans (first_eq m c)

/-- Weight 0's new second moment. -/
def second0 : Buf (Elt Ideal) ((c.tc : Thread nD τ).loc main_v198) :=
  fun i => Cert.Adam.newV ((m ((c.tc : Thread nD τ).loc main_arg19) : Vec Ideal S2x384x96 .f32) i) ((m ((c.tc : Thread nD τ).loc main_arg57) : Vec Ideal S2x384x96 .f32) i)
theorem second0_eq : get0 (second m c) = second0 m c := by
  have h : get0 (second m c) = fun i => Cert.Adam.newV (get0 (pack (gr m c)) i) (get0 (pack (m2 m c)) i) := rfl
  rw [h]
  simp only [get0_pack]
  rfl
theorem second0_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v198) = second0 m c := by
  refine ((h c).2 main_v198 (Pipeline.mem_restRefs_of main_v198 (by decide) (by decide))).trans ?_
  unfold Pipeline.afterTail₀
  rw [List.flatten_cons, List.flatten_nil, List.append_nil]
  refine (tail2_0 _).trans ?_
  refine (congrArg get0 ?_).trans (second0_eq m c)
  exact (Pipeline.withArrays_arr spec0 launch0.win.arr_inj c (V0 m c) (fun w => (dats m 0 c).arrAt w cfg0.N) 6).trans (second_eq m c)

/-- Weight 1's new second moment. -/
def second1 : Buf (Elt Ideal) ((c.tc : Thread nD τ).loc main_v200) :=
  fun i => Cert.Adam.newV ((m ((c.tc : Thread nD τ).loc main_arg20) : Vec Ideal S2x256x128 .f32) i) ((m ((c.tc : Thread nD τ).loc main_arg58) : Vec Ideal S2x256x128 .f32) i)
theorem second1_eq : get1 (second m c) = second1 m c := by
  have h : get1 (second m c) = fun i => Cert.Adam.newV (get1 (pack (gr m c)) i) (get1 (pack (m2 m c)) i) := rfl
  rw [h]
  simp only [get1_pack]
  rfl
theorem second1_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v200) = second1 m c := by
  refine ((h c).2 main_v200 (Pipeline.mem_restRefs_of main_v200 (by decide) (by decide))).trans ?_
  unfold Pipeline.afterTail₀
  rw [List.flatten_cons, List.flatten_nil, List.append_nil]
  refine (tail2_1 _).trans ?_
  refine (congrArg get1 ?_).trans (second1_eq m c)
  exact (Pipeline.withArrays_arr spec0 launch0.win.arr_inj c (V0 m c) (fun w => (dats m 0 c).arrAt w cfg0.N) 6).trans (second_eq m c)

/-- Weight 2's new second moment. -/
def second2 : Buf (Elt Ideal) ((c.tc : Thread nD τ).loc main_v202) :=
  fun i => Cert.Adam.newV ((m ((c.tc : Thread nD τ).loc main_arg21) : Vec Ideal S2x128 .f32) i) ((m ((c.tc : Thread nD τ).loc main_arg59) : Vec Ideal S2x128 .f32) i)
theorem second2_eq : get2 (second m c) = second2 m c := by
  have h : get2 (second m c) = fun i => Cert.Adam.newV (get2 (pack (gr m c)) i) (get2 (pack (m2 m c)) i) := rfl
  rw [h]
  simp only [get2_pack]
  rfl
theorem second2_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v202) = second2 m c := by
  refine ((h c).2 main_v202 (Pipeline.mem_restRefs_of main_v202 (by decide) (by decide))).trans ?_
  unfold Pipeline.afterTail₀
  rw [List.flatten_cons, List.flatten_nil, List.append_nil]
  refine (tail2_2 _).trans ?_
  refine (congrArg get2 ?_).trans (second2_eq m c)
  exact (Pipeline.withArrays_arr spec0 launch0.win.arr_inj c (V0 m c) (fun w => (dats m 0 c).arrAt w cfg0.N) 6).trans (second_eq m c)

/-- Weight 3's new second moment. -/
def second3 : Buf (Elt Ideal) ((c.tc : Thread nD τ).loc main_v204) :=
  fun i => Cert.Adam.newV ((m ((c.tc : Thread nD τ).loc main_arg22) : Vec Ideal S2x16x64 .f32) i) ((m ((c.tc : Thread nD τ).loc main_arg60) : Vec Ideal S2x16x64 .f32) i)
theorem second3_eq : get3 (second m c) = second3 m c := by
  have h : get3 (second m c) = fun i => Cert.Adam.newV (get3 (pack (gr m c)) i) (get3 (pack (m2 m c)) i) := rfl
  rw [h]
  simp only [get3_pack]
  rfl
theorem second3_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v204) = second3 m c := by
  refine ((h c).2 main_v204 (Pipeline.mem_restRefs_of main_v204 (by decide) (by decide))).trans ?_
  unfold Pipeline.afterTail₀
  rw [List.flatten_cons, List.flatten_nil, List.append_nil]
  refine (tail2_3 _).trans ?_
  refine (congrArg get3 ?_).trans (second3_eq m c)
  exact (Pipeline.withArrays_arr spec0 launch0.win.arr_inj c (V0 m c) (fun w => (dats m 0 c).arrAt w cfg0.N) 6).trans (second_eq m c)

/-- Weight 4's new second moment. -/
def second4 : Buf (Elt Ideal) ((c.tc : Thread nD τ).loc main_v206) :=
  fun i => Cert.Adam.newV ((m ((c.tc : Thread nD τ).loc main_arg23) : Vec Ideal S2x64 .f32) i) ((m ((c.tc : Thread nD τ).loc main_arg61) : Vec Ideal S2x64 .f32) i)
theorem second4_eq : get4 (second m c) = second4 m c := by
  have h : get4 (second m c) = fun i => Cert.Adam.newV (get4 (pack (gr m c)) i) (get4 (pack (m2 m c)) i) := rfl
  rw [h]
  simp only [get4_pack]
  rfl
theorem second4_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v206) = second4 m c := by
  refine ((h c).2 main_v206 (Pipeline.mem_restRefs_of main_v206 (by decide) (by decide))).trans ?_
  unfold Pipeline.afterTail₀
  rw [List.flatten_cons, List.flatten_nil, List.append_nil]
  refine (tail2_4 _).trans ?_
  refine (congrArg get4 ?_).trans (second4_eq m c)
  exact (Pipeline.withArrays_arr spec0 launch0.win.arr_inj c (V0 m c) (fun w => (dats m 0 c).arrAt w cfg0.N) 6).trans (second_eq m c)

/-- Weight 5's new second moment. -/
def second5 : Buf (Elt Ideal) ((c.tc : Thread nD τ).loc main_v208) :=
  fun i => Cert.Adam.newV ((m ((c.tc : Thread nD τ).loc main_arg24) : Vec Ideal S2x16x64 .f32) i) ((m ((c.tc : Thread nD τ).loc main_arg62) : Vec Ideal S2x16x64 .f32) i)
theorem second5_eq : get5 (second m c) = second5 m c := by
  have h : get5 (second m c) = fun i => Cert.Adam.newV (get5 (pack (gr m c)) i) (get5 (pack (m2 m c)) i) := rfl
  rw [h]
  simp only [get5_pack]
  rfl
theorem second5_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v208) = second5 m c := by
  refine ((h c).2 main_v208 (Pipeline.mem_restRefs_of main_v208 (by decide) (by decide))).trans ?_
  unfold Pipeline.afterTail₀
  rw [List.flatten_cons, List.flatten_nil, List.append_nil]
  refine (tail2_5 _).trans ?_
  refine (congrArg get5 ?_).trans (second5_eq m c)
  exact (Pipeline.withArrays_arr spec0 launch0.win.arr_inj c (V0 m c) (fun w => (dats m 0 c).arrAt w cfg0.N) 6).trans (second_eq m c)

/-- Weight 6's new second moment. -/
def second6 : Buf (Elt Ideal) ((c.tc : Thread nD τ).loc main_v210) :=
  fun i => Cert.Adam.newV ((m ((c.tc : Thread nD τ).loc main_arg25) : Vec Ideal S2x64 .f32) i) ((m ((c.tc : Thread nD τ).loc main_arg63) : Vec Ideal S2x64 .f32) i)
theorem second6_eq : get6 (second m c) = second6 m c := by
  have h : get6 (second m c) = fun i => Cert.Adam.newV (get6 (pack (gr m c)) i) (get6 (pack (m2 m c)) i) := rfl
  rw [h]
  simp only [get6_pack]
  rfl
theorem second6_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v210) = second6 m c := by
  refine ((h c).2 main_v210 (Pipeline.mem_restRefs_of main_v210 (by decide) (by decide))).trans ?_
  unfold Pipeline.afterTail₀
  rw [List.flatten_cons, List.flatten_nil, List.append_nil]
  refine (tail2_6 _).trans ?_
  refine (congrArg get6 ?_).trans (second6_eq m c)
  exact (Pipeline.withArrays_arr spec0 launch0.win.arr_inj c (V0 m c) (fun w => (dats m 0 c).arrAt w cfg0.N) 6).trans (second_eq m c)

/-- Weight 7's new second moment. -/
def second7 : Buf (Elt Ideal) ((c.tc : Thread nD τ).loc main_v212) :=
  fun i => Cert.Adam.newV ((m ((c.tc : Thread nD τ).loc main_arg26) : Vec Ideal S2x4x32 .f32) i) ((m ((c.tc : Thread nD τ).loc main_arg64) : Vec Ideal S2x4x32 .f32) i)
theorem second7_eq : get7 (second m c) = second7 m c := by
  have h : get7 (second m c) = fun i => Cert.Adam.newV (get7 (pack (gr m c)) i) (get7 (pack (m2 m c)) i) := rfl
  rw [h]
  simp only [get7_pack]
  rfl
theorem second7_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v212) = second7 m c := by
  refine ((h c).2 main_v212 (Pipeline.mem_restRefs_of main_v212 (by decide) (by decide))).trans ?_
  unfold Pipeline.afterTail₀
  rw [List.flatten_cons, List.flatten_nil, List.append_nil]
  refine (tail2_7 _).trans ?_
  refine (congrArg get7 ?_).trans (second7_eq m c)
  exact (Pipeline.withArrays_arr spec0 launch0.win.arr_inj c (V0 m c) (fun w => (dats m 0 c).arrAt w cfg0.N) 6).trans (second_eq m c)

/-- Weight 8's new second moment. -/
def second8 : Buf (Elt Ideal) ((c.tc : Thread nD τ).loc main_v214) :=
  fun i => Cert.Adam.newV ((m ((c.tc : Thread nD τ).loc main_arg27) : Vec Ideal S4x3x352 .f32) i) ((m ((c.tc : Thread nD τ).loc main_arg65) : Vec Ideal S4x3x352 .f32) i)
theorem second8_eq : get8 (second m c) = second8 m c := by
  have h : get8 (second m c) = fun i => Cert.Adam.newV (get8 (pack (gr m c)) i) (get8 (pack (m2 m c)) i) := rfl
  rw [h]
  simp only [get8_pack]
  rfl
theorem second8_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v214) = second8 m c := by
  refine ((h c).2 main_v214 (Pipeline.mem_restRefs_of main_v214 (by decide) (by decide))).trans ?_
  unfold Pipeline.afterTail₀
  rw [List.flatten_cons, List.flatten_nil, List.append_nil]
  refine (tail2_8 _).trans ?_
  refine (congrArg get8 ?_).trans (second8_eq m c)
  exact (Pipeline.withArrays_arr spec0 launch0.win.arr_inj c (V0 m c) (fun w => (dats m 0 c).arrAt w cfg0.N) 6).trans (second_eq m c)

/-- Weight 9's new second moment. -/
def second9 : Buf (Elt Ideal) ((c.tc : Thread nD τ).loc main_v216) :=
  fun i => Cert.Adam.newV ((m ((c.tc : Thread nD τ).loc main_arg28) : Vec Ideal S2x1024 .f32) i) ((m ((c.tc : Thread nD τ).loc main_arg66) : Vec Ideal S2x1024 .f32) i)
theorem second9_eq : get9 (second m c) = second9 m c := by
  have h : get9 (second m c) = fun i => Cert.Adam.newV (get9 (pack (gr m c)) i) (get9 (pack (m2 m c)) i) := rfl
  rw [h]
  simp only [get9_pack]
  rfl
theorem second9_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v216) = second9 m c := by
  refine ((h c).2 main_v216 (Pipeline.mem_restRefs_of main_v216 (by decide) (by decide))).trans ?_
  unfold Pipeline.afterTail₀
  rw [List.flatten_cons, List.flatten_nil, List.append_nil]
  refine (tail2_9 _).trans ?_
  refine (congrArg get9 ?_).trans (second9_eq m c)
  exact (Pipeline.withArrays_arr spec0 launch0.win.arr_inj c (V0 m c) (fun w => (dats m 0 c).arrAt w cfg0.N) 6).trans (second_eq m c)

/-- Weight 10's new second moment. -/
def second10 : Buf (Elt Ideal) ((c.tc : Thread nD τ).loc main_v218) :=
  fun i => Cert.Adam.newV ((m ((c.tc : Thread nD τ).loc main_arg29) : Vec Ideal S2x384 .f32) i) ((m ((c.tc : Thread nD τ).loc main_arg67) : Vec Ideal S2x384 .f32) i)
theorem second10_eq : get10 (second m c) = second10 m c := by
  have h : get10 (second m c) = fun i => Cert.Adam.newV (get10 (pack (gr m c)) i) (get10 (pack (m2 m c)) i) := rfl
  rw [h]
  simp only [get10_pack]
  rfl
theorem second10_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v218) = second10 m c := by
  refine ((h c).2 main_v218 (Pipeline.mem_restRefs_of main_v218 (by decide) (by decide))).trans ?_
  unfold Pipeline.afterTail₀
  rw [List.flatten_cons, List.flatten_nil, List.append_nil]
  refine (tail2_10 _).trans ?_
  refine (congrArg get10 ?_).trans (second10_eq m c)
  exact (Pipeline.withArrays_arr spec0 launch0.win.arr_inj c (V0 m c) (fun w => (dats m 0 c).arrAt w cfg0.N) 6).trans (second_eq m c)

/-- Weight 11's new second moment. -/
def second11 : Buf (Elt Ideal) ((c.tc : Thread nD τ).loc main_v220) :=
  fun i => Cert.Adam.newV ((m ((c.tc : Thread nD τ).loc main_arg30) : Vec Ideal S2x256 .f32) i) ((m ((c.tc : Thread nD τ).loc main_arg68) : Vec Ideal S2x256 .f32) i)
theorem second11_eq : get11 (second m c) = second11 m c := by
  have h : get11 (second m c) = fun i => Cert.Adam.newV (get11 (pack (gr m c)) i) (get11 (pack (m2 m c)) i) := rfl
  rw [h]
  simp only [get11_pack]
  rfl
theorem second11_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v220) = second11 m c := by
  refine ((h c).2 main_v220 (Pipeline.mem_restRefs_of main_v220 (by decide) (by decide))).trans ?_
  unfold Pipeline.afterTail₀
  rw [List.flatten_cons, List.flatten_nil, List.append_nil]
  refine (tail2_11 _).trans ?_
  refine (congrArg get11 ?_).trans (second11_eq m c)
  exact (Pipeline.withArrays_arr spec0 launch0.win.arr_inj c (V0 m c) (fun w => (dats m 0 c).arrAt w cfg0.N) 6).trans (second_eq m c)

/-- Weight 12's new second moment. -/
def second12 : Buf (Elt Ideal) ((c.tc : Thread nD τ).loc main_v222) :=
  fun i => Cert.Adam.newV ((m ((c.tc : Thread nD τ).loc main_arg31) : Vec Ideal S2x96 .f32) i) ((m ((c.tc : Thread nD τ).loc main_arg69) : Vec Ideal S2x96 .f32) i)
theorem second12_eq : get12 (second m c) = second12 m c := by
  have h : get12 (second m c) = fun i => Cert.Adam.newV (get12 (pack (gr m c)) i) (get12 (pack (m2 m c)) i) := rfl
  rw [h]
  simp only [get12_pack]
  rfl
theorem second12_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v222) = second12 m c := by
  refine ((h c).2 main_v222 (Pipeline.mem_restRefs_of main_v222 (by decide) (by decide))).trans ?_
  unfold Pipeline.afterTail₀
  rw [List.flatten_cons, List.flatten_nil, List.append_nil]
  refine (tail2_12 _).trans ?_
  refine (congrArg get12 ?_).trans (second12_eq m c)
  exact (Pipeline.withArrays_arr spec0 launch0.win.arr_inj c (V0 m c) (fun w => (dats m 0 c).arrAt w cfg0.N) 6).trans (second_eq m c)

/-- Weight 13's new second moment. -/
def second13 : Buf (Elt Ideal) ((c.tc : Thread nD τ).loc main_v224) :=
  fun i => Cert.Adam.newV ((m ((c.tc : Thread nD τ).loc main_arg32) : Vec Ideal S2x96 .f32) i) ((m ((c.tc : Thread nD τ).loc main_arg70) : Vec Ideal S2x96 .f32) i)
theorem second13_eq : get13 (second m c) = second13 m c := by
  have h : get13 (second m c) = fun i => Cert.Adam.newV (get13 (pack (gr m c)) i) (get13 (pack (m2 m c)) i) := rfl
  rw [h]
  simp only [get13_pack]
  rfl
theorem second13_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v224) = second13 m c := by
  refine ((h c).2 main_v224 (Pipeline.mem_restRefs_of main_v224 (by decide) (by decide))).trans ?_
  unfold Pipeline.afterTail₀
  rw [List.flatten_cons, List.flatten_nil, List.append_nil]
  refine (tail2_13 _).trans ?_
  refine (congrArg get13 ?_).trans (second13_eq m c)
  exact (Pipeline.withArrays_arr spec0 launch0.win.arr_inj c (V0 m c) (fun w => (dats m 0 c).arrAt w cfg0.N) 6).trans (second_eq m c)

/-- Weight 14's new second moment. -/
def second14 : Buf (Elt Ideal) ((c.tc : Thread nD τ).loc main_v226) :=
  fun i => Cert.Adam.newV ((m ((c.tc : Thread nD τ).loc main_arg33) : Vec Ideal S2x8 .f32) i) ((m ((c.tc : Thread nD τ).loc main_arg71) : Vec Ideal S2x8 .f32) i)
theorem second14_eq : get14 (second m c) = second14 m c := by
  have h : get14 (second m c) = fun i => Cert.Adam.newV (get14 (pack (gr m c)) i) (get14 (pack (m2 m c)) i) := rfl
  rw [h]
  simp only [get14_pack]
  rfl
theorem second14_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v226) = second14 m c := by
  refine ((h c).2 main_v226 (Pipeline.mem_restRefs_of main_v226 (by decide) (by decide))).trans ?_
  unfold Pipeline.afterTail₀
  rw [List.flatten_cons, List.flatten_nil, List.append_nil]
  refine (tail2_14 _).trans ?_
  refine (congrArg get14 ?_).trans (second14_eq m c)
  exact (Pipeline.withArrays_arr spec0 launch0.win.arr_inj c (V0 m c) (fun w => (dats m 0 c).arrAt w cfg0.N) 6).trans (second_eq m c)

/-- Weight 15's new second moment. -/
def second15 : Buf (Elt Ideal) ((c.tc : Thread nD τ).loc main_v228) :=
  fun i => Cert.Adam.newV ((m ((c.tc : Thread nD τ).loc main_arg34) : Vec Ideal S2x8 .f32) i) ((m ((c.tc : Thread nD τ).loc main_arg72) : Vec Ideal S2x8 .f32) i)
theorem second15_eq : get15 (second m c) = second15 m c := by
  have h : get15 (second m c) = fun i => Cert.Adam.newV (get15 (pack (gr m c)) i) (get15 (pack (m2 m c)) i) := rfl
  rw [h]
  simp only [get15_pack]
  rfl
theorem second15_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v228) = second15 m c := by
  refine ((h c).2 main_v228 (Pipeline.mem_restRefs_of main_v228 (by decide) (by decide))).trans ?_
  unfold Pipeline.afterTail₀
  rw [List.flatten_cons, List.flatten_nil, List.append_nil]
  refine (tail2_15 _).trans ?_
  refine (congrArg get15 ?_).trans (second15_eq m c)
  exact (Pipeline.withArrays_arr spec0 launch0.win.arr_inj c (V0 m c) (fun w => (dats m 0 c).arrAt w cfg0.N) 6).trans (second_eq m c)

/-- Weight 16's new second moment. -/
def second16 : Buf (Elt Ideal) ((c.tc : Thread nD τ).loc main_v230) :=
  fun i => Cert.Adam.newV ((m ((c.tc : Thread nD τ).loc main_arg35) : Vec Ideal S2x8x64 .f32) i) ((m ((c.tc : Thread nD τ).loc main_arg73) : Vec Ideal S2x8x64 .f32) i)
theorem second16_eq : get16 (second m c) = second16 m c := by
  have h : get16 (second m c) = fun i => Cert.Adam.newV (get16 (pack (gr m c)) i) (get16 (pack (m2 m c)) i) := rfl
  rw [h]
  simp only [get16_pack]
  rfl
theorem second16_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v230) = second16 m c := by
  refine ((h c).2 main_v230 (Pipeline.mem_restRefs_of main_v230 (by decide) (by decide))).trans ?_
  unfold Pipeline.afterTail₀
  rw [List.flatten_cons, List.flatten_nil, List.append_nil]
  refine (tail2_16 _).trans ?_
  refine (congrArg get16 ?_).trans (second16_eq m c)
  exact (Pipeline.withArrays_arr spec0 launch0.win.arr_inj c (V0 m c) (fun w => (dats m 0 c).arrAt w cfg0.N) 6).trans (second_eq m c)

/-- Weight 17's new second moment. -/
def second17 : Buf (Elt Ideal) ((c.tc : Thread nD τ).loc main_v232) :=
  fun i => Cert.Adam.newV ((m ((c.tc : Thread nD τ).loc main_arg36) : Vec Ideal S4x1024 .f32) i) ((m ((c.tc : Thread nD τ).loc main_arg74) : Vec Ideal S4x1024 .f32) i)
theorem second17_eq : get17 (second m c) = second17 m c := by
  have h : get17 (second m c) = fun i => Cert.Adam.newV (get17 (pack (gr m c)) i) (get17 (pack (m2 m c)) i) := rfl
  rw [h]
  simp only [get17_pack]
  rfl
theorem second17_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v232) = second17 m c := by
  refine ((h c).2 main_v232 (Pipeline.mem_restRefs_of main_v232 (by decide) (by decide))).trans ?_
  unfold Pipeline.afterTail₀
  rw [List.flatten_cons, List.flatten_nil, List.append_nil]
  refine (tail2_17 _).trans ?_
  refine (congrArg get17 ?_).trans (second17_eq m c)
  exact (Pipeline.withArrays_arr spec0 launch0.win.arr_inj c (V0 m c) (fun w => (dats m 0 c).arrAt w cfg0.N) 6).trans (second_eq m c)

/-- Weight 18's new second moment. -/
def second18 : Buf (Elt Ideal) ((c.tc : Thread nD τ).loc main_v234) :=
  fun i => Cert.Adam.newV ((m ((c.tc : Thread nD τ).loc main_arg37) : Vec Ideal S4x2816 .f32) i) ((m ((c.tc : Thread nD τ).loc main_arg75) : Vec Ideal S4x2816 .f32) i)
theorem second18_eq : get18 (second m c) = second18 m c := by
  have h : get18 (second m c) = fun i => Cert.Adam.newV (get18 (pack (gr m c)) i) (get18 (pack (m2 m c)) i) := rfl
  rw [h]
  simp only [get18_pack]
  rfl
theorem second18_end (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v234) = second18 m c := by
  refine ((h c).2 main_v234 (Pipeline.mem_restRefs_of main_v234 (by decide) (by decide))).trans ?_
  unfold Pipeline.afterTail₀
  rw [List.flatten_cons, List.flatten_nil, List.append_nil]
  refine (tail2_18 _).trans ?_
  refine (congrArg get18 ?_).trans (second18_eq m c)
  exact (Pipeline.withArrays_arr spec0 launch0.win.arr_inj c (V0 m c) (fun w => (dats m 0 c).arrAt w cfg0.N) 6).trans (second_eq m c)

end Cert.StepSmallKernelIdeal.Hand

end
-- ==== Proof.SmallRef.lean ====
/- The reference of the small weights' step: each result is AdamW's formula at every entry. -/
module

public import proofs.«01_k».proof.Proof.Adam
public import proofs.«01_k».proof.Proof.Gen.StepSmallReferenceIdeal
public import proofs.«01_k».proof.Proof.Gen.StepSmallReferenceIdeal.Read

@[expose] public section

set_option maxRecDepth 16384

noncomputable section

namespace Cert.StepSmallReferenceIdeal.Hand

open Idealize.ShloMosaic Idealize.ShloMosaic.TcCoe
open Cert.StepSmallReferenceIdeal Cert.StepSmallReferenceIdeal.Read

theorem change0 (wt gr m1 m2 wt' gr' m1' m2' : Vec Ideal S2x384x96 .f32) (hwt : wt' = wt) (hgr : gr' = gr) (hm1 : m1' = m1) (hm2 : m2' = m2) :
    val_main_v23 (F := Ideal) wt' gr' m1' m2' = fun i => Cert.Adam.delta (wt i) (gr i) (m1 i) (m2 i) := by
  subst hwt hgr hm1 hm2
  rfl
theorem change1 (wt gr m1 m2 wt' gr' m1' m2' : Vec Ideal S2x256x128 .f32) (hwt : wt' = wt) (hgr : gr' = gr) (hm1 : m1' = m1) (hm2 : m2' = m2) :
    val_main_v47 (F := Ideal) wt' gr' m1' m2' = fun i => Cert.Adam.delta (wt i) (gr i) (m1 i) (m2 i) := by
  subst hwt hgr hm1 hm2
  rfl
theorem change2 (wt gr m1 m2 wt' gr' m1' m2' : Vec Ideal S2x128 .f32) (hwt : wt' = wt) (hgr : gr' = gr) (hm1 : m1' = m1) (hm2 : m2' = m2) :
    val_main_v71 (F := Ideal) wt' gr' m1' m2' = fun i => Cert.Adam.delta (wt i) (gr i) (m1 i) (m2 i) := by
  subst hwt hgr hm1 hm2
  rfl
theorem change3 (wt gr m1 m2 wt' gr' m1' m2' : Vec Ideal S2x16x64 .f32) (hwt : wt' = wt) (hgr : gr' = gr) (hm1 : m1' = m1) (hm2 : m2' = m2) :
    val_main_v95 (F := Ideal) wt' gr' m1' m2' = fun i => Cert.Adam.delta (wt i) (gr i) (m1 i) (m2 i) := by
  subst hwt hgr hm1 hm2
  rfl
theorem change4 (wt gr m1 m2 wt' gr' m1' m2' : Vec Ideal S2x64 .f32) (hwt : wt' = wt) (hgr : gr' = gr) (hm1 : m1' = m1) (hm2 : m2' = m2) :
    val_main_v119 (F := Ideal) wt' gr' m1' m2' = fun i => Cert.Adam.delta (wt i) (gr i) (m1 i) (m2 i) := by
  subst hwt hgr hm1 hm2
  rfl
theorem change5 (wt gr m1 m2 wt' gr' m1' m2' : Vec Ideal S2x16x64 .f32) (hwt : wt' = wt) (hgr : gr' = gr) (hm1 : m1' = m1) (hm2 : m2' = m2) :
    val_main_v143 (F := Ideal) wt' gr' m1' m2' = fun i => Cert.Adam.delta (wt i) (gr i) (m1 i) (m2 i) := by
  subst hwt hgr hm1 hm2
  rfl
theorem change6 (wt gr m1 m2 wt' gr' m1' m2' : Vec Ideal S2x64 .f32) (hwt : wt' = wt) (hgr : gr' = gr) (hm1 : m1' = m1) (hm2 : m2' = m2) :
    val_main_v167 (F := Ideal) wt' gr' m1' m2' = fun i => Cert.Adam.delta (wt i) (gr i) (m1 i) (m2 i) := by
  subst hwt hgr hm1 hm2
  rfl
theorem change7 (wt gr m1 m2 wt' gr' m1' m2' : Vec Ideal S2x4x32 .f32) (hwt : wt' = wt) (hgr : gr' = gr) (hm1 : m1' = m1) (hm2 : m2' = m2) :
    val_main_v191 (F := Ideal) wt' gr' m1' m2' = fun i => Cert.Adam.delta (wt i) (gr i) (m1 i) (m2 i) := by
  subst hwt hgr hm1 hm2
  rfl
theorem change8 (wt gr m1 m2 wt' gr' m1' m2' : Vec Ideal S4x3x352 .f32) (hwt : wt' = wt) (hgr : gr' = gr) (hm1 : m1' = m1) (hm2 : m2' = m2) :
    val_main_v215 (F := Ideal) wt' gr' m1' m2' = fun i => Cert.Adam.delta (wt i) (gr i) (m1 i) (m2 i) := by
  subst hwt hgr hm1 hm2
  rfl
theorem change9 (wt gr m1 m2 wt' gr' m1' m2' : Vec Ideal S2x1024 .f32) (hwt : wt' = wt) (hgr : gr' = gr) (hm1 : m1' = m1) (hm2 : m2' = m2) :
    val_main_v239 (F := Ideal) wt' gr' m1' m2' = fun i => Cert.Adam.delta (wt i) (gr i) (m1 i) (m2 i) := by
  subst hwt hgr hm1 hm2
  rfl
theorem change10 (wt gr m1 m2 wt' gr' m1' m2' : Vec Ideal S2x384 .f32) (hwt : wt' = wt) (hgr : gr' = gr) (hm1 : m1' = m1) (hm2 : m2' = m2) :
    val_main_v263 (F := Ideal) wt' gr' m1' m2' = fun i => Cert.Adam.delta (wt i) (gr i) (m1 i) (m2 i) := by
  subst hwt hgr hm1 hm2
  rfl
theorem change11 (wt gr m1 m2 wt' gr' m1' m2' : Vec Ideal S2x256 .f32) (hwt : wt' = wt) (hgr : gr' = gr) (hm1 : m1' = m1) (hm2 : m2' = m2) :
    val_main_v287 (F := Ideal) wt' gr' m1' m2' = fun i => Cert.Adam.delta (wt i) (gr i) (m1 i) (m2 i) := by
  subst hwt hgr hm1 hm2
  rfl
theorem change12 (wt gr m1 m2 wt' gr' m1' m2' : Vec Ideal S2x96 .f32) (hwt : wt' = wt) (hgr : gr' = gr) (hm1 : m1' = m1) (hm2 : m2' = m2) :
    val_main_v311 (F := Ideal) wt' gr' m1' m2' = fun i => Cert.Adam.delta (wt i) (gr i) (m1 i) (m2 i) := by
  subst hwt hgr hm1 hm2
  rfl
theorem change13 (wt gr m1 m2 wt' gr' m1' m2' : Vec Ideal S2x96 .f32) (hwt : wt' = wt) (hgr : gr' = gr) (hm1 : m1' = m1) (hm2 : m2' = m2) :
    val_main_v335 (F := Ideal) wt' gr' m1' m2' = fun i => Cert.Adam.delta (wt i) (gr i) (m1 i) (m2 i) := by
  subst hwt hgr hm1 hm2
  rfl
theorem change14 (wt gr m1 m2 wt' gr' m1' m2' : Vec Ideal S2x8 .f32) (hwt : wt' = wt) (hgr : gr' = gr) (hm1 : m1' = m1) (hm2 : m2' = m2) :
    val_main_v359 (F := Ideal) wt' gr' m1' m2' = fun i => Cert.Adam.delta (wt i) (gr i) (m1 i) (m2 i) := by
  subst hwt hgr hm1 hm2
  rfl
theorem change15 (wt gr m1 m2 wt' gr' m1' m2' : Vec Ideal S2x8 .f32) (hwt : wt' = wt) (hgr : gr' = gr) (hm1 : m1' = m1) (hm2 : m2' = m2) :
    val_main_v383 (F := Ideal) wt' gr' m1' m2' = fun i => Cert.Adam.delta (wt i) (gr i) (m1 i) (m2 i) := by
  subst hwt hgr hm1 hm2
  rfl
theorem change16 (wt gr m1 m2 wt' gr' m1' m2' : Vec Ideal S2x8x64 .f32) (hwt : wt' = wt) (hgr : gr' = gr) (hm1 : m1' = m1) (hm2 : m2' = m2) :
    val_main_v407 (F := Ideal) wt' gr' m1' m2' = fun i => Cert.Adam.delta (wt i) (gr i) (m1 i) (m2 i) := by
  subst hwt hgr hm1 hm2
  rfl
theorem change17 (wt gr m1 m2 wt' gr' m1' m2' : Vec Ideal S4x1024 .f32) (hwt : wt' = wt) (hgr : gr' = gr) (hm1 : m1' = m1) (hm2 : m2' = m2) :
    val_main_v431 (F := Ideal) wt' gr' m1' m2' = fun i => Cert.Adam.delta (wt i) (gr i) (m1 i) (m2 i) := by
  subst hwt hgr hm1 hm2
  rfl
theorem change18 (wt gr m1 m2 wt' gr' m1' m2' : Vec Ideal S4x2816 .f32) (hwt : wt' = wt) (hgr : gr' = gr) (hm1 : m1' = m1) (hm2 : m2' = m2) :
    val_main_v455 (F := Ideal) wt' gr' m1' m2' = fun i => Cert.Adam.delta (wt i) (gr i) (m1 i) (m2 i) := by
  subst hwt hgr hm1 hm2
  rfl
theorem first0 (gr m1 gr' m1' : Vec Ideal S2x384x96 .f32) (hgr : gr' = gr) (hm1 : m1' = m1) :
    val_main_v4 (F := Ideal) gr' m1' = fun i => Cert.Adam.newM (gr i) (m1 i) := by
  subst hgr hm1
  rfl
theorem first1 (gr m1 gr' m1' : Vec Ideal S2x256x128 .f32) (hgr : gr' = gr) (hm1 : m1' = m1) :
    val_main_v28 (F := Ideal) gr' m1' = fun i => Cert.Adam.newM (gr i) (m1 i) := by
  subst hgr hm1
  rfl
theorem first2 (gr m1 gr' m1' : Vec Ideal S2x128 .f32) (hgr : gr' = gr) (hm1 : m1' = m1) :
    val_main_v52 (F := Ideal) gr' m1' = fun i => Cert.Adam.newM (gr i) (m1 i) := by
  subst hgr hm1
  rfl
theorem first3 (gr m1 gr' m1' : Vec Ideal S2x16x64 .f32) (hgr : gr' = gr) (hm1 : m1' = m1) :
    val_main_v76 (F := Ideal) gr' m1' = fun i => Cert.Adam.newM (gr i) (m1 i) := by
  subst hgr hm1
  rfl
theorem first4 (gr m1 gr' m1' : Vec Ideal S2x64 .f32) (hgr : gr' = gr) (hm1 : m1' = m1) :
    val_main_v100 (F := Ideal) gr' m1' = fun i => Cert.Adam.newM (gr i) (m1 i) := by
  subst hgr hm1
  rfl
theorem first5 (gr m1 gr' m1' : Vec Ideal S2x16x64 .f32) (hgr : gr' = gr) (hm1 : m1' = m1) :
    val_main_v124 (F := Ideal) gr' m1' = fun i => Cert.Adam.newM (gr i) (m1 i) := by
  subst hgr hm1
  rfl
theorem first6 (gr m1 gr' m1' : Vec Ideal S2x64 .f32) (hgr : gr' = gr) (hm1 : m1' = m1) :
    val_main_v148 (F := Ideal) gr' m1' = fun i => Cert.Adam.newM (gr i) (m1 i) := by
  subst hgr hm1
  rfl
theorem first7 (gr m1 gr' m1' : Vec Ideal S2x4x32 .f32) (hgr : gr' = gr) (hm1 : m1' = m1) :
    val_main_v172 (F := Ideal) gr' m1' = fun i => Cert.Adam.newM (gr i) (m1 i) := by
  subst hgr hm1
  rfl
theorem first8 (gr m1 gr' m1' : Vec Ideal S4x3x352 .f32) (hgr : gr' = gr) (hm1 : m1' = m1) :
    val_main_v196 (F := Ideal) gr' m1' = fun i => Cert.Adam.newM (gr i) (m1 i) := by
  subst hgr hm1
  rfl
theorem first9 (gr m1 gr' m1' : Vec Ideal S2x1024 .f32) (hgr : gr' = gr) (hm1 : m1' = m1) :
    val_main_v220 (F := Ideal) gr' m1' = fun i => Cert.Adam.newM (gr i) (m1 i) := by
  subst hgr hm1
  rfl
theorem first10 (gr m1 gr' m1' : Vec Ideal S2x384 .f32) (hgr : gr' = gr) (hm1 : m1' = m1) :
    val_main_v244 (F := Ideal) gr' m1' = fun i => Cert.Adam.newM (gr i) (m1 i) := by
  subst hgr hm1
  rfl
theorem first11 (gr m1 gr' m1' : Vec Ideal S2x256 .f32) (hgr : gr' = gr) (hm1 : m1' = m1) :
    val_main_v268 (F := Ideal) gr' m1' = fun i => Cert.Adam.newM (gr i) (m1 i) := by
  subst hgr hm1
  rfl
theorem first12 (gr m1 gr' m1' : Vec Ideal S2x96 .f32) (hgr : gr' = gr) (hm1 : m1' = m1) :
    val_main_v292 (F := Ideal) gr' m1' = fun i => Cert.Adam.newM (gr i) (m1 i) := by
  subst hgr hm1
  rfl
theorem first13 (gr m1 gr' m1' : Vec Ideal S2x96 .f32) (hgr : gr' = gr) (hm1 : m1' = m1) :
    val_main_v316 (F := Ideal) gr' m1' = fun i => Cert.Adam.newM (gr i) (m1 i) := by
  subst hgr hm1
  rfl
theorem first14 (gr m1 gr' m1' : Vec Ideal S2x8 .f32) (hgr : gr' = gr) (hm1 : m1' = m1) :
    val_main_v340 (F := Ideal) gr' m1' = fun i => Cert.Adam.newM (gr i) (m1 i) := by
  subst hgr hm1
  rfl
theorem first15 (gr m1 gr' m1' : Vec Ideal S2x8 .f32) (hgr : gr' = gr) (hm1 : m1' = m1) :
    val_main_v364 (F := Ideal) gr' m1' = fun i => Cert.Adam.newM (gr i) (m1 i) := by
  subst hgr hm1
  rfl
theorem first16 (gr m1 gr' m1' : Vec Ideal S2x8x64 .f32) (hgr : gr' = gr) (hm1 : m1' = m1) :
    val_main_v388 (F := Ideal) gr' m1' = fun i => Cert.Adam.newM (gr i) (m1 i) := by
  subst hgr hm1
  rfl
theorem first17 (gr m1 gr' m1' : Vec Ideal S4x1024 .f32) (hgr : gr' = gr) (hm1 : m1' = m1) :
    val_main_v412 (F := Ideal) gr' m1' = fun i => Cert.Adam.newM (gr i) (m1 i) := by
  subst hgr hm1
  rfl
theorem first18 (gr m1 gr' m1' : Vec Ideal S4x2816 .f32) (hgr : gr' = gr) (hm1 : m1' = m1) :
    val_main_v436 (F := Ideal) gr' m1' = fun i => Cert.Adam.newM (gr i) (m1 i) := by
  subst hgr hm1
  rfl
theorem second0 (gr m2 gr' m2' : Vec Ideal S2x384x96 .f32) (hgr : gr' = gr) (hm2 : m2' = m2) :
    val_main_v10 (F := Ideal) gr' m2' = fun i => Cert.Adam.newV (gr i) (m2 i) := by
  subst hgr hm2
  rfl
theorem second1 (gr m2 gr' m2' : Vec Ideal S2x256x128 .f32) (hgr : gr' = gr) (hm2 : m2' = m2) :
    val_main_v34 (F := Ideal) gr' m2' = fun i => Cert.Adam.newV (gr i) (m2 i) := by
  subst hgr hm2
  rfl
theorem second2 (gr m2 gr' m2' : Vec Ideal S2x128 .f32) (hgr : gr' = gr) (hm2 : m2' = m2) :
    val_main_v58 (F := Ideal) gr' m2' = fun i => Cert.Adam.newV (gr i) (m2 i) := by
  subst hgr hm2
  rfl
theorem second3 (gr m2 gr' m2' : Vec Ideal S2x16x64 .f32) (hgr : gr' = gr) (hm2 : m2' = m2) :
    val_main_v82 (F := Ideal) gr' m2' = fun i => Cert.Adam.newV (gr i) (m2 i) := by
  subst hgr hm2
  rfl
theorem second4 (gr m2 gr' m2' : Vec Ideal S2x64 .f32) (hgr : gr' = gr) (hm2 : m2' = m2) :
    val_main_v106 (F := Ideal) gr' m2' = fun i => Cert.Adam.newV (gr i) (m2 i) := by
  subst hgr hm2
  rfl
theorem second5 (gr m2 gr' m2' : Vec Ideal S2x16x64 .f32) (hgr : gr' = gr) (hm2 : m2' = m2) :
    val_main_v130 (F := Ideal) gr' m2' = fun i => Cert.Adam.newV (gr i) (m2 i) := by
  subst hgr hm2
  rfl
theorem second6 (gr m2 gr' m2' : Vec Ideal S2x64 .f32) (hgr : gr' = gr) (hm2 : m2' = m2) :
    val_main_v154 (F := Ideal) gr' m2' = fun i => Cert.Adam.newV (gr i) (m2 i) := by
  subst hgr hm2
  rfl
theorem second7 (gr m2 gr' m2' : Vec Ideal S2x4x32 .f32) (hgr : gr' = gr) (hm2 : m2' = m2) :
    val_main_v178 (F := Ideal) gr' m2' = fun i => Cert.Adam.newV (gr i) (m2 i) := by
  subst hgr hm2
  rfl
theorem second8 (gr m2 gr' m2' : Vec Ideal S4x3x352 .f32) (hgr : gr' = gr) (hm2 : m2' = m2) :
    val_main_v202 (F := Ideal) gr' m2' = fun i => Cert.Adam.newV (gr i) (m2 i) := by
  subst hgr hm2
  rfl
theorem second9 (gr m2 gr' m2' : Vec Ideal S2x1024 .f32) (hgr : gr' = gr) (hm2 : m2' = m2) :
    val_main_v226 (F := Ideal) gr' m2' = fun i => Cert.Adam.newV (gr i) (m2 i) := by
  subst hgr hm2
  rfl
theorem second10 (gr m2 gr' m2' : Vec Ideal S2x384 .f32) (hgr : gr' = gr) (hm2 : m2' = m2) :
    val_main_v250 (F := Ideal) gr' m2' = fun i => Cert.Adam.newV (gr i) (m2 i) := by
  subst hgr hm2
  rfl
theorem second11 (gr m2 gr' m2' : Vec Ideal S2x256 .f32) (hgr : gr' = gr) (hm2 : m2' = m2) :
    val_main_v274 (F := Ideal) gr' m2' = fun i => Cert.Adam.newV (gr i) (m2 i) := by
  subst hgr hm2
  rfl
theorem second12 (gr m2 gr' m2' : Vec Ideal S2x96 .f32) (hgr : gr' = gr) (hm2 : m2' = m2) :
    val_main_v298 (F := Ideal) gr' m2' = fun i => Cert.Adam.newV (gr i) (m2 i) := by
  subst hgr hm2
  rfl
theorem second13 (gr m2 gr' m2' : Vec Ideal S2x96 .f32) (hgr : gr' = gr) (hm2 : m2' = m2) :
    val_main_v322 (F := Ideal) gr' m2' = fun i => Cert.Adam.newV (gr i) (m2 i) := by
  subst hgr hm2
  rfl
theorem second14 (gr m2 gr' m2' : Vec Ideal S2x8 .f32) (hgr : gr' = gr) (hm2 : m2' = m2) :
    val_main_v346 (F := Ideal) gr' m2' = fun i => Cert.Adam.newV (gr i) (m2 i) := by
  subst hgr hm2
  rfl
theorem second15 (gr m2 gr' m2' : Vec Ideal S2x8 .f32) (hgr : gr' = gr) (hm2 : m2' = m2) :
    val_main_v370 (F := Ideal) gr' m2' = fun i => Cert.Adam.newV (gr i) (m2 i) := by
  subst hgr hm2
  rfl
theorem second16 (gr m2 gr' m2' : Vec Ideal S2x8x64 .f32) (hgr : gr' = gr) (hm2 : m2' = m2) :
    val_main_v394 (F := Ideal) gr' m2' = fun i => Cert.Adam.newV (gr i) (m2 i) := by
  subst hgr hm2
  rfl
theorem second17 (gr m2 gr' m2' : Vec Ideal S4x1024 .f32) (hgr : gr' = gr) (hm2 : m2' = m2) :
    val_main_v418 (F := Ideal) gr' m2' = fun i => Cert.Adam.newV (gr i) (m2 i) := by
  subst hgr hm2
  rfl
theorem second18 (gr m2 gr' m2' : Vec Ideal S4x2816 .f32) (hgr : gr' = gr) (hm2 : m2' = m2) :
    val_main_v442 (F := Ideal) gr' m2' = fun i => Cert.Adam.newV (gr i) (m2 i) := by
  subst hgr hm2
  rfl

end Cert.StepSmallReferenceIdeal.Hand

end
-- ==== Proof.StepSmall.lean ====
/- The optimiser's step of the nineteen small weights: the packed call gives every weight the plain formula. -/
module

public import proofs.«01_k».proof.Defs
public import proofs.«01_k».proof.Proof.SmallValue
public import proofs.«01_k».proof.Proof.SmallRef
public import proofs.«01_k».proof.Proof.Gen.StepSmallKernel
public import proofs.«01_k».proof.Proof.Gen.StepSmallReferenceIdeal.Run

@[expose] public section

set_option maxRecDepth 16384

noncomputable section

namespace Cert.Proof

open Idealize.ShloMosaic Idealize.ShloMosaic.TcCoe Idealize.ShloMosaic.Tactic Idealize.SL.Sem

section
open Cert.StepSmallKernelIdeal Cert.StepSmallKernelIdeal.Gen Cert.StepSmallKernelIdeal.Hand

set_option maxHeartbeats 4000000

theorem step_small_algebraic : Cert.algebraic_StepSmallKernelIdeal_StepSmallReferenceIdeal := by
  intro m g m' g' _ hargs
  refine ⟨fun c => change0 m c,
    fun c => change1 m c,
    fun c => change2 m c,
    fun c => change3 m c,
    fun c => change4 m c,
    fun c => change5 m c,
    fun c => change6 m c,
    fun c => change7 m c,
    fun c => change8 m c,
    fun c => change9 m c,
    fun c => change10 m c,
    fun c => change11 m c,
    fun c => change12 m c,
    fun c => change13 m c,
    fun c => change14 m c,
    fun c => change15 m c,
    fun c => change16 m c,
    fun c => change17 m c,
    fun c => change18 m c,
    fun c => first0 m c,
    fun c => first1 m c,
    fun c => first2 m c,
    fun c => first3 m c,
    fun c => first4 m c,
    fun c => first5 m c,
    fun c => first6 m c,
    fun c => first7 m c,
    fun c => first8 m c,
    fun c => first9 m c,
    fun c => first10 m c,
    fun c => first11 m c,
    fun c => first12 m c,
    fun c => first13 m c,
    fun c => first14 m c,
    fun c => first15 m c,
    fun c => first16 m c,
    fun c => first17 m c,
    fun c => first18 m c,
    fun c => second0 m c,
    fun c => second1 m c,
    fun c => second2 m c,
    fun c => second3 m c,
    fun c => second4 m c,
    fun c => second5 m c,
    fun c => second6 m c,
    fun c => second7 m c,
    fun c => second8 m c,
    fun c => second9 m c,
    fun c => second10 m c,
    fun c => second11 m c,
    fun c => second12 m c,
    fun c => second13 m c,
    fun c => second14 m c,
    fun c => second15 m c,
    fun c => second16 m c,
    fun c => second17 m c,
    fun c => second18 m c, ?_, ?_⟩
  · exact (θ_run Cert.StepSmallKernelIdeal.defs _ _).mono (fun r h c => ⟨
      change0_end m c r h,
      change1_end m c r h,
      change2_end m c r h,
      change3_end m c r h,
      change4_end m c r h,
      change5_end m c r h,
      change6_end m c r h,
      change7_end m c r h,
      change8_end m c r h,
      change9_end m c r h,
      change10_end m c r h,
      change11_end m c r h,
      change12_end m c r h,
      change13_end m c r h,
      change14_end m c r h,
      change15_end m c r h,
      change16_end m c r h,
      change17_end m c r h,
      change18_end m c r h,
      first0_end m c r h,
      first1_end m c r h,
      first2_end m c r h,
      first3_end m c r h,
      first4_end m c r h,
      first5_end m c r h,
      first6_end m c r h,
      first7_end m c r h,
      first8_end m c r h,
      first9_end m c r h,
      first10_end m c r h,
      first11_end m c r h,
      first12_end m c r h,
      first13_end m c r h,
      first14_end m c r h,
      first15_end m c r h,
      first16_end m c r h,
      first17_end m c r h,
      first18_end m c r h,
      second0_end m c r h,
      second1_end m c r h,
      second2_end m c r h,
      second3_end m c r h,
      second4_end m c r h,
      second5_end m c r h,
      second6_end m c r h,
      second7_end m c r h,
      second8_end m c r h,
      second9_end m c r h,
      second10_end m c r h,
      second11_end m c r h,
      second12_end m c r h,
      second13_end m c r h,
      second14_end m c r h,
      second15_end m c r h,
      second16_end m c r h,
      second17_end m c r h,
      second18_end m c r h,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c),
      ((h c).2 main_arg20 (Pipeline.mem_restRefs_of main_arg20 (by decide) (by decide))).trans (W_main_arg20 m (dats m) c),
      ((h c).2 main_arg21 (Pipeline.mem_restRefs_of main_arg21 (by decide) (by decide))).trans (W_main_arg21 m (dats m) c),
      ((h c).2 main_arg22 (Pipeline.mem_restRefs_of main_arg22 (by decide) (by decide))).trans (W_main_arg22 m (dats m) c),
      ((h c).2 main_arg23 (Pipeline.mem_restRefs_of main_arg23 (by decide) (by decide))).trans (W_main_arg23 m (dats m) c),
      ((h c).2 main_arg24 (Pipeline.mem_restRefs_of main_arg24 (by decide) (by decide))).trans (W_main_arg24 m (dats m) c),
      ((h c).2 main_arg25 (Pipeline.mem_restRefs_of main_arg25 (by decide) (by decide))).trans (W_main_arg25 m (dats m) c),
      ((h c).2 main_arg26 (Pipeline.mem_restRefs_of main_arg26 (by decide) (by decide))).trans (W_main_arg26 m (dats m) c),
      ((h c).2 main_arg27 (Pipeline.mem_restRefs_of main_arg27 (by decide) (by decide))).trans (W_main_arg27 m (dats m) c),
      ((h c).2 main_arg28 (Pipeline.mem_restRefs_of main_arg28 (by decide) (by decide))).trans (W_main_arg28 m (dats m) c),
      ((h c).2 main_arg29 (Pipeline.mem_restRefs_of main_arg29 (by decide) (by decide))).trans (W_main_arg29 m (dats m) c),
      ((h c).2 main_arg30 (Pipeline.mem_restRefs_of main_arg30 (by decide) (by decide))).trans (W_main_arg30 m (dats m) c),
      ((h c).2 main_arg31 (Pipeline.mem_restRefs_of main_arg31 (by decide) (by decide))).trans (W_main_arg31 m (dats m) c),
      ((h c).2 main_arg32 (Pipeline.mem_restRefs_of main_arg32 (by decide) (by decide))).trans (W_main_arg32 m (dats m) c),
      ((h c).2 main_arg33 (Pipeline.mem_restRefs_of main_arg33 (by decide) (by decide))).trans (W_main_arg33 m (dats m) c),
      ((h c).2 main_arg34 (Pipeline.mem_restRefs_of main_arg34 (by decide) (by decide))).trans (W_main_arg34 m (dats m) c),
      ((h c).2 main_arg35 (Pipeline.mem_restRefs_of main_arg35 (by decide) (by decide))).trans (W_main_arg35 m (dats m) c),
      ((h c).2 main_arg36 (Pipeline.mem_restRefs_of main_arg36 (by decide) (by decide))).trans (W_main_arg36 m (dats m) c),
      ((h c).2 main_arg37 (Pipeline.mem_restRefs_of main_arg37 (by decide) (by decide))).trans (W_main_arg37 m (dats m) c),
      ((h c).2 main_arg38 (Pipeline.mem_restRefs_of main_arg38 (by decide) (by decide))).trans (W_main_arg38 m (dats m) c),
      ((h c).2 main_arg39 (Pipeline.mem_restRefs_of main_arg39 (by decide) (by decide))).trans (W_main_arg39 m (dats m) c),
      ((h c).2 main_arg40 (Pipeline.mem_restRefs_of main_arg40 (by decide) (by decide))).trans (W_main_arg40 m (dats m) c),
      ((h c).2 main_arg41 (Pipeline.mem_restRefs_of main_arg41 (by decide) (by decide))).trans (W_main_arg41 m (dats m) c),
      ((h c).2 main_arg42 (Pipeline.mem_restRefs_of main_arg42 (by decide) (by decide))).trans (W_main_arg42 m (dats m) c),
      ((h c).2 main_arg43 (Pipeline.mem_restRefs_of main_arg43 (by decide) (by decide))).trans (W_main_arg43 m (dats m) c),
      ((h c).2 main_arg44 (Pipeline.mem_restRefs_of main_arg44 (by decide) (by decide))).trans (W_main_arg44 m (dats m) c),
      ((h c).2 main_arg45 (Pipeline.mem_restRefs_of main_arg45 (by decide) (by decide))).trans (W_main_arg45 m (dats m) c),
      ((h c).2 main_arg46 (Pipeline.mem_restRefs_of main_arg46 (by decide) (by decide))).trans (W_main_arg46 m (dats m) c),
      ((h c).2 main_arg47 (Pipeline.mem_restRefs_of main_arg47 (by decide) (by decide))).trans (W_main_arg47 m (dats m) c),
      ((h c).2 main_arg48 (Pipeline.mem_restRefs_of main_arg48 (by decide) (by decide))).trans (W_main_arg48 m (dats m) c),
      ((h c).2 main_arg49 (Pipeline.mem_restRefs_of main_arg49 (by decide) (by decide))).trans (W_main_arg49 m (dats m) c),
      ((h c).2 main_arg50 (Pipeline.mem_restRefs_of main_arg50 (by decide) (by decide))).trans (W_main_arg50 m (dats m) c),
      ((h c).2 main_arg51 (Pipeline.mem_restRefs_of main_arg51 (by decide) (by decide))).trans (W_main_arg51 m (dats m) c),
      ((h c).2 main_arg52 (Pipeline.mem_restRefs_of main_arg52 (by decide) (by decide))).trans (W_main_arg52 m (dats m) c),
      ((h c).2 main_arg53 (Pipeline.mem_restRefs_of main_arg53 (by decide) (by decide))).trans (W_main_arg53 m (dats m) c),
      ((h c).2 main_arg54 (Pipeline.mem_restRefs_of main_arg54 (by decide) (by decide))).trans (W_main_arg54 m (dats m) c),
      ((h c).2 main_arg55 (Pipeline.mem_restRefs_of main_arg55 (by decide) (by decide))).trans (W_main_arg55 m (dats m) c),
      ((h c).2 main_arg56 (Pipeline.mem_restRefs_of main_arg56 (by decide) (by decide))).trans (W_main_arg56 m (dats m) c),
      ((h c).2 main_arg57 (Pipeline.mem_restRefs_of main_arg57 (by decide) (by decide))).trans (W_main_arg57 m (dats m) c),
      ((h c).2 main_arg58 (Pipeline.mem_restRefs_of main_arg58 (by decide) (by decide))).trans (W_main_arg58 m (dats m) c),
      ((h c).2 main_arg59 (Pipeline.mem_restRefs_of main_arg59 (by decide) (by decide))).trans (W_main_arg59 m (dats m) c),
      ((h c).2 main_arg60 (Pipeline.mem_restRefs_of main_arg60 (by decide) (by decide))).trans (W_main_arg60 m (dats m) c),
      ((h c).2 main_arg61 (Pipeline.mem_restRefs_of main_arg61 (by decide) (by decide))).trans (W_main_arg61 m (dats m) c),
      ((h c).2 main_arg62 (Pipeline.mem_restRefs_of main_arg62 (by decide) (by decide))).trans (W_main_arg62 m (dats m) c),
      ((h c).2 main_arg63 (Pipeline.mem_restRefs_of main_arg63 (by decide) (by decide))).trans (W_main_arg63 m (dats m) c),
      ((h c).2 main_arg64 (Pipeline.mem_restRefs_of main_arg64 (by decide) (by decide))).trans (W_main_arg64 m (dats m) c),
      ((h c).2 main_arg65 (Pipeline.mem_restRefs_of main_arg65 (by decide) (by decide))).trans (W_main_arg65 m (dats m) c),
      ((h c).2 main_arg66 (Pipeline.mem_restRefs_of main_arg66 (by decide) (by decide))).trans (W_main_arg66 m (dats m) c),
      ((h c).2 main_arg67 (Pipeline.mem_restRefs_of main_arg67 (by decide) (by decide))).trans (W_main_arg67 m (dats m) c),
      ((h c).2 main_arg68 (Pipeline.mem_restRefs_of main_arg68 (by decide) (by decide))).trans (W_main_arg68 m (dats m) c),
      ((h c).2 main_arg69 (Pipeline.mem_restRefs_of main_arg69 (by decide) (by decide))).trans (W_main_arg69 m (dats m) c),
      ((h c).2 main_arg70 (Pipeline.mem_restRefs_of main_arg70 (by decide) (by decide))).trans (W_main_arg70 m (dats m) c),
      ((h c).2 main_arg71 (Pipeline.mem_restRefs_of main_arg71 (by decide) (by decide))).trans (W_main_arg71 m (dats m) c),
      ((h c).2 main_arg72 (Pipeline.mem_restRefs_of main_arg72 (by decide) (by decide))).trans (W_main_arg72 m (dats m) c),
      ((h c).2 main_arg73 (Pipeline.mem_restRefs_of main_arg73 (by decide) (by decide))).trans (W_main_arg73 m (dats m) c),
      ((h c).2 main_arg74 (Pipeline.mem_restRefs_of main_arg74 (by decide) (by decide))).trans (W_main_arg74 m (dats m) c),
      ((h c).2 main_arg75 (Pipeline.mem_restRefs_of main_arg75 (by decide) (by decide))).trans (W_main_arg75 m (dats m) c)⟩)
      (Cert.StepSmallKernelIdeal.Gen.run_main (F := Ideal) m g)
  · refine (θ_run Cert.StepSmallReferenceIdeal.defs _ _).mono (fun r h c => ?_) (Cert.StepSmallReferenceIdeal.Value.run (F := Ideal) m' g')
    obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55, e56, e57, e58, e59, e60, e61, e62, e63, e64, e65, e66, e67, e68, e69, e70, e71, e72, e73, e74, e75⟩ := hargs c
    obtain ⟨r0, r1, r2, r3, r4, r5, r6, r7, r8, r9, r10, r11, r12, r13, r14, r15, r16, r17, r18, r19, r20, r21, r22, r23, r24, r25, r26, r27, r28, r29, r30, r31, r32, r33, r34, r35, r36, r37, r38, r39, r40, r41, r42, r43, r44, r45, r46, r47, r48, r49, r50, r51, r52, r53, r54, r55, r56, rest⟩ := h c
    exact ⟨(r0.trans (Cert.StepSmallReferenceIdeal.Read.val_main_v23_eq _)).trans (Cert.StepSmallReferenceIdeal.Hand.change0 _ _ _ _ _ _ _ _ e0 e19 e38 e57),
      (r1.trans (Cert.StepSmallReferenceIdeal.Read.val_main_v47_eq _)).trans (Cert.StepSmallReferenceIdeal.Hand.change1 _ _ _ _ _ _ _ _ e1 e20 e39 e58),
      (r2.trans (Cert.StepSmallReferenceIdeal.Read.val_main_v71_eq _)).trans (Cert.StepSmallReferenceIdeal.Hand.change2 _ _ _ _ _ _ _ _ e2 e21 e40 e59),
      (r3.trans (Cert.StepSmallReferenceIdeal.Read.val_main_v95_eq _)).trans (Cert.StepSmallReferenceIdeal.Hand.change3 _ _ _ _ _ _ _ _ e3 e22 e41 e60),
      (r4.trans (Cert.StepSmallReferenceIdeal.Read.val_main_v119_eq _)).trans (Cert.StepSmallReferenceIdeal.Hand.change4 _ _ _ _ _ _ _ _ e4 e23 e42 e61),
      (r5.trans (Cert.StepSmallReferenceIdeal.Read.val_main_v143_eq _)).trans (Cert.StepSmallReferenceIdeal.Hand.change5 _ _ _ _ _ _ _ _ e5 e24 e43 e62),
      (r6.trans (Cert.StepSmallReferenceIdeal.Read.val_main_v167_eq _)).trans (Cert.StepSmallReferenceIdeal.Hand.change6 _ _ _ _ _ _ _ _ e6 e25 e44 e63),
      (r7.trans (Cert.StepSmallReferenceIdeal.Read.val_main_v191_eq _)).trans (Cert.StepSmallReferenceIdeal.Hand.change7 _ _ _ _ _ _ _ _ e7 e26 e45 e64),
      (r8.trans (Cert.StepSmallReferenceIdeal.Read.val_main_v215_eq _)).trans (Cert.StepSmallReferenceIdeal.Hand.change8 _ _ _ _ _ _ _ _ e8 e27 e46 e65),
      (r9.trans (Cert.StepSmallReferenceIdeal.Read.val_main_v239_eq _)).trans (Cert.StepSmallReferenceIdeal.Hand.change9 _ _ _ _ _ _ _ _ e9 e28 e47 e66),
      (r10.trans (Cert.StepSmallReferenceIdeal.Read.val_main_v263_eq _)).trans (Cert.StepSmallReferenceIdeal.Hand.change10 _ _ _ _ _ _ _ _ e10 e29 e48 e67),
      (r11.trans (Cert.StepSmallReferenceIdeal.Read.val_main_v287_eq _)).trans (Cert.StepSmallReferenceIdeal.Hand.change11 _ _ _ _ _ _ _ _ e11 e30 e49 e68),
      (r12.trans (Cert.StepSmallReferenceIdeal.Read.val_main_v311_eq _)).trans (Cert.StepSmallReferenceIdeal.Hand.change12 _ _ _ _ _ _ _ _ e12 e31 e50 e69),
      (r13.trans (Cert.StepSmallReferenceIdeal.Read.val_main_v335_eq _)).trans (Cert.StepSmallReferenceIdeal.Hand.change13 _ _ _ _ _ _ _ _ e13 e32 e51 e70),
      (r14.trans (Cert.StepSmallReferenceIdeal.Read.val_main_v359_eq _)).trans (Cert.StepSmallReferenceIdeal.Hand.change14 _ _ _ _ _ _ _ _ e14 e33 e52 e71),
      (r15.trans (Cert.StepSmallReferenceIdeal.Read.val_main_v383_eq _)).trans (Cert.StepSmallReferenceIdeal.Hand.change15 _ _ _ _ _ _ _ _ e15 e34 e53 e72),
      (r16.trans (Cert.StepSmallReferenceIdeal.Read.val_main_v407_eq _)).trans (Cert.StepSmallReferenceIdeal.Hand.change16 _ _ _ _ _ _ _ _ e16 e35 e54 e73),
      (r17.trans (Cert.StepSmallReferenceIdeal.Read.val_main_v431_eq _)).trans (Cert.StepSmallReferenceIdeal.Hand.change17 _ _ _ _ _ _ _ _ e17 e36 e55 e74),
      (r18.trans (Cert.StepSmallReferenceIdeal.Read.val_main_v455_eq _)).trans (Cert.StepSmallReferenceIdeal.Hand.change18 _ _ _ _ _ _ _ _ e18 e37 e56 e75),
      (r19.trans (Cert.StepSmallReferenceIdeal.Read.val_main_v4_eq _)).trans (Cert.StepSmallReferenceIdeal.Hand.first0 _ _ _ _ e19 e38),
      (r20.trans (Cert.StepSmallReferenceIdeal.Read.val_main_v28_eq _)).trans (Cert.StepSmallReferenceIdeal.Hand.first1 _ _ _ _ e20 e39),
      (r21.trans (Cert.StepSmallReferenceIdeal.Read.val_main_v52_eq _)).trans (Cert.StepSmallReferenceIdeal.Hand.first2 _ _ _ _ e21 e40),
      (r22.trans (Cert.StepSmallReferenceIdeal.Read.val_main_v76_eq _)).trans (Cert.StepSmallReferenceIdeal.Hand.first3 _ _ _ _ e22 e41),
      (r23.trans (Cert.StepSmallReferenceIdeal.Read.val_main_v100_eq _)).trans (Cert.StepSmallReferenceIdeal.Hand.first4 _ _ _ _ e23 e42),
      (r24.trans (Cert.StepSmallReferenceIdeal.Read.val_main_v124_eq _)).trans (Cert.StepSmallReferenceIdeal.Hand.first5 _ _ _ _ e24 e43),
      (r25.trans (Cert.StepSmallReferenceIdeal.Read.val_main_v148_eq _)).trans (Cert.StepSmallReferenceIdeal.Hand.first6 _ _ _ _ e25 e44),
      (r26.trans (Cert.StepSmallReferenceIdeal.Read.val_main_v172_eq _)).trans (Cert.StepSmallReferenceIdeal.Hand.first7 _ _ _ _ e26 e45),
      (r27.trans (Cert.StepSmallReferenceIdeal.Read.val_main_v196_eq _)).trans (Cert.StepSmallReferenceIdeal.Hand.first8 _ _ _ _ e27 e46),
      (r28.trans (Cert.StepSmallReferenceIdeal.Read.val_main_v220_eq _)).trans (Cert.StepSmallReferenceIdeal.Hand.first9 _ _ _ _ e28 e47),
      (r29.trans (Cert.StepSmallReferenceIdeal.Read.val_main_v244_eq _)).trans (Cert.StepSmallReferenceIdeal.Hand.first10 _ _ _ _ e29 e48),
      (r30.trans (Cert.StepSmallReferenceIdeal.Read.val_main_v268_eq _)).trans (Cert.StepSmallReferenceIdeal.Hand.first11 _ _ _ _ e30 e49),
      (r31.trans (Cert.StepSmallReferenceIdeal.Read.val_main_v292_eq _)).trans (Cert.StepSmallReferenceIdeal.Hand.first12 _ _ _ _ e31 e50),
      (r32.trans (Cert.StepSmallReferenceIdeal.Read.val_main_v316_eq _)).trans (Cert.StepSmallReferenceIdeal.Hand.first13 _ _ _ _ e32 e51),
      (r33.trans (Cert.StepSmallReferenceIdeal.Read.val_main_v340_eq _)).trans (Cert.StepSmallReferenceIdeal.Hand.first14 _ _ _ _ e33 e52),
      (r34.trans (Cert.StepSmallReferenceIdeal.Read.val_main_v364_eq _)).trans (Cert.StepSmallReferenceIdeal.Hand.first15 _ _ _ _ e34 e53),
      (r35.trans (Cert.StepSmallReferenceIdeal.Read.val_main_v388_eq _)).trans (Cert.StepSmallReferenceIdeal.Hand.first16 _ _ _ _ e35 e54),
      (r36.trans (Cert.StepSmallReferenceIdeal.Read.val_main_v412_eq _)).trans (Cert.StepSmallReferenceIdeal.Hand.first17 _ _ _ _ e36 e55),
      (r37.trans (Cert.StepSmallReferenceIdeal.Read.val_main_v436_eq _)).trans (Cert.StepSmallReferenceIdeal.Hand.first18 _ _ _ _ e37 e56),
      (r38.trans (Cert.StepSmallReferenceIdeal.Read.val_main_v10_eq _)).trans (Cert.StepSmallReferenceIdeal.Hand.second0 _ _ _ _ e19 e57),
      (r39.trans (Cert.StepSmallReferenceIdeal.Read.val_main_v34_eq _)).trans (Cert.StepSmallReferenceIdeal.Hand.second1 _ _ _ _ e20 e58),
      (r40.trans (Cert.StepSmallReferenceIdeal.Read.val_main_v58_eq _)).trans (Cert.StepSmallReferenceIdeal.Hand.second2 _ _ _ _ e21 e59),
      (r41.trans (Cert.StepSmallReferenceIdeal.Read.val_main_v82_eq _)).trans (Cert.StepSmallReferenceIdeal.Hand.second3 _ _ _ _ e22 e60),
      (r42.trans (Cert.StepSmallReferenceIdeal.Read.val_main_v106_eq _)).trans (Cert.StepSmallReferenceIdeal.Hand.second4 _ _ _ _ e23 e61),
      (r43.trans (Cert.StepSmallReferenceIdeal.Read.val_main_v130_eq _)).trans (Cert.StepSmallReferenceIdeal.Hand.second5 _ _ _ _ e24 e62),
      (r44.trans (Cert.StepSmallReferenceIdeal.Read.val_main_v154_eq _)).trans (Cert.StepSmallReferenceIdeal.Hand.second6 _ _ _ _ e25 e63),
      (r45.trans (Cert.StepSmallReferenceIdeal.Read.val_main_v178_eq _)).trans (Cert.StepSmallReferenceIdeal.Hand.second7 _ _ _ _ e26 e64),
      (r46.trans (Cert.StepSmallReferenceIdeal.Read.val_main_v202_eq _)).trans (Cert.StepSmallReferenceIdeal.Hand.second8 _ _ _ _ e27 e65),
      (r47.trans (Cert.StepSmallReferenceIdeal.Read.val_main_v226_eq _)).trans (Cert.StepSmallReferenceIdeal.Hand.second9 _ _ _ _ e28 e66),
      (r48.trans (Cert.StepSmallReferenceIdeal.Read.val_main_v250_eq _)).trans (Cert.StepSmallReferenceIdeal.Hand.second10 _ _ _ _ e29 e67),
      (r49.trans (Cert.StepSmallReferenceIdeal.Read.val_main_v274_eq _)).trans (Cert.StepSmallReferenceIdeal.Hand.second11 _ _ _ _ e30 e68),
      (r50.trans (Cert.StepSmallReferenceIdeal.Read.val_main_v298_eq _)).trans (Cert.StepSmallReferenceIdeal.Hand.second12 _ _ _ _ e31 e69),
      (r51.trans (Cert.StepSmallReferenceIdeal.Read.val_main_v322_eq _)).trans (Cert.StepSmallReferenceIdeal.Hand.second13 _ _ _ _ e32 e70),
      (r52.trans (Cert.StepSmallReferenceIdeal.Read.val_main_v346_eq _)).trans (Cert.StepSmallReferenceIdeal.Hand.second14 _ _ _ _ e33 e71),
      (r53.trans (Cert.StepSmallReferenceIdeal.Read.val_main_v370_eq _)).trans (Cert.StepSmallReferenceIdeal.Hand.second15 _ _ _ _ e34 e72),
      (r54.trans (Cert.StepSmallReferenceIdeal.Read.val_main_v394_eq _)).trans (Cert.StepSmallReferenceIdeal.Hand.second16 _ _ _ _ e35 e73),
      (r55.trans (Cert.StepSmallReferenceIdeal.Read.val_main_v418_eq _)).trans (Cert.StepSmallReferenceIdeal.Hand.second17 _ _ _ _ e36 e74),
      (r56.trans (Cert.StepSmallReferenceIdeal.Read.val_main_v442_eq _)).trans (Cert.StepSmallReferenceIdeal.Hand.second18 _ _ _ _ e37 e75), rest⟩

end

end Cert.Proof

end
-- ==== Proof.SmallFrames.lean ====
/- The optimiser's step of the nineteen small weights: the frames. -/
module

public import proofs.«01_k».proof.Defs
public import proofs.«01_k».proof.Proof.Gen.StepSmallKernel
public import proofs.«01_k».proof.Proof.Gen.StepSmallKernelIdeal.Frame
public import proofs.«01_k».proof.Proof.Gen.StepSmallReferenceIdeal
public import proofs.«01_k».proof.Proof.Gen.StepSmallReferenceIdeal.Run

@[expose] public section

set_option maxRecDepth 16384

noncomputable section

namespace Cert.Proof

open Idealize.ShloMosaic Idealize.ShloMosaic.TcCoe Idealize.ShloMosaic.Tactic Idealize.SL.Sem

section
set_option maxRecDepth 65536

/-- The two printings call the same kernel. -/
theorem step_small_calls_eq : Cert.StepSmallKernel.defs₀ (F := Bits) = Cert.StepSmallKernelIdeal.defs₀ := by
  unfold Cert.StepSmallKernel.defs₀ Cert.StepSmallKernelIdeal.defs₀
  refine congrArg (Defs.onTc (nD := Cert.StepSmallKernelIdeal.nD) (τ := Cert.StepSmallKernelIdeal.τ) (sig := Cert.StepSmallKernelIdeal.sig) (Val := Elt Bits)
    (Λ := Cert.StepSmallKernelIdeal.Λ₀)) (funext fun l => ?_)
  match l with
  | ⟨0, _⟩ => exact funext fun x => rfl

theorem step_small_defs_eq : Cert.StepSmallKernel.defs (F := Bits) = Cert.StepSmallKernelIdeal.defs := by
  unfold Cert.StepSmallKernel.defs Cert.StepSmallKernelIdeal.defs
  exact congrArg (Pipeline.defs Cert.StepSmallKernelIdeal.pcfgs) step_small_calls_eq

set_option maxHeartbeats 8000000 in
theorem step_small_part0_eq : Cert.StepSmallKernel.main_part0 (F := Bits) = Cert.StepSmallKernelIdeal.main_part0 := rfl
set_option maxHeartbeats 8000000 in
theorem step_small_part1_eq : Cert.StepSmallKernel.main_part1 (F := Bits) = Cert.StepSmallKernelIdeal.main_part1 := rfl
set_option maxHeartbeats 8000000 in
theorem step_small_part2_eq : Cert.StepSmallKernel.main_part2 (F := Bits) = Cert.StepSmallKernelIdeal.main_part2 := rfl
set_option maxHeartbeats 8000000 in
theorem step_small_part3_eq : Cert.StepSmallKernel.main_part3 (F := Bits) = Cert.StepSmallKernelIdeal.main_part3 := rfl
set_option maxHeartbeats 8000000 in
theorem step_small_part4_eq : Cert.StepSmallKernel.main_part4 (F := Bits) = Cert.StepSmallKernelIdeal.main_part4 := rfl

set_option maxHeartbeats 8000000 in
theorem step_small_main_eq : Cert.StepSmallKernel.main (F := Bits) = Cert.StepSmallKernelIdeal.main := by
  unfold Cert.StepSmallKernel.main Cert.StepSmallKernelIdeal.main
  rw [step_small_part0_eq, step_small_part1_eq, step_small_part2_eq, step_small_part3_eq, step_small_part4_eq]
  rfl

theorem step_small_frame_kernel : Cert.quiescent_StepSmallKernel := by
  intro m ρ _
  have h := Cert.StepSmallKernelIdeal.Gen.frame (F := Bits) m ρ
  have e : θ_run (Cert.StepSmallKernel.defs (F := Bits)) (onTc Cert.StepSmallKernel.main) ⟨m, fun _ => 0, ρ⟩
      = θ_run Cert.StepSmallKernelIdeal.defs (onTc Cert.StepSmallKernelIdeal.main) ⟨m, fun _ => 0, ρ⟩ :=
    (congrArg (fun D => θ_run D (onTc Cert.StepSmallKernel.main) ⟨m, fun _ => 0, ρ⟩) step_small_defs_eq).trans
      (congrArg (fun P => θ_run Cert.StepSmallKernelIdeal.defs (onTc P) ⟨m, fun _ => 0, ρ⟩) step_small_main_eq)
  rw [← e] at h
  exact h

end

theorem step_small_frame_ideal : Cert.quiescent_StepSmallKernelIdeal := fun m ρ _ => Cert.StepSmallKernelIdeal.Gen.frame m ρ

theorem step_small_frame_reference : Cert.quiescent_StepSmallReferenceIdeal := by
  intro m ρ _
  refine (θ_run Cert.StepSmallReferenceIdeal.defs _ _).mono (fun r h => And.intro (fun c => ?_) (sem_eq_zero_of_no_sems (by decide) r.2)) (Cert.StepSmallReferenceIdeal.Value.run (F := Ideal) m ρ)
  obtain ⟨r0, r1, r2, r3, r4, r5, r6, r7, r8, r9, r10, r11, r12, r13, r14, r15, r16, r17, r18, r19, r20, r21, r22, r23, r24, r25, r26, r27, r28, r29, r30, r31, r32, r33, r34, r35, r36, r37, r38, r39, r40, r41, r42, r43, r44, r45, r46, r47, r48, r49, r50, r51, r52, r53, r54, r55, r56, rest⟩ := h c
  exact rest

end Cert.Proof

end
-- ==== Proof.InOddGrad.lean ====
/- The weight gradient of the projection into an odd layer: the sum of products over the rows, by blocks of 1024 rows, is the whole sum. -/
module

public import proofs.«01_k».proof.Defs
public import proofs.«01_k».proof.Proof.Gen.InOddGradKernel
public import proofs.«01_k».proof.Proof.Gen.InOddGradKernelIdeal
public import proofs.«01_k».proof.Proof.Gen.InOddGradKernelIdeal.Value
public import proofs.«01_k».proof.Proof.Gen.InOddGradReferenceIdeal
public import proofs.«01_k».proof.Proof.Gen.InOddGradReferenceIdeal.Run
public import proofs.«01_k».proof.Proof.Gen.InOddGradReferenceIdeal.Read
public import Idealize.ShloMosaic.Lib.Pipeline.ValueKit
public import Idealize.ShloMosaic.Lib.Pipeline.ReadBack

@[expose] public section

set_option maxRecDepth 16384

noncomputable section

namespace Cert.InOddGradKernelIdeal.Hand

open Idealize.ShloMosaic Idealize.ShloMosaic.TcCoe Idealize.ShloMosaic.Tactic Idealize.SL.Sem
open Cert.InOddGradKernelIdeal Cert.InOddGradKernelIdeal.Gen

variable (m : (ℓ : Loc nD τ sig) → Buf (Elt Ideal) ℓ) (ρ : Dev nD → PrngReg) (c : Dev nD)

/-- The two arguments, as arrays of extended reals. -/
abbrev left : Vec Ideal S8192x3200 .bf16 := m ((c.tc : Thread nD τ).loc main_arg0)
abbrev right : Vec Ideal S8192x1024 .bf16 := m ((c.tc : Thread nD τ).loc main_arg1)
/-- Row `r` of the step's block of rows, column `l` of its block of columns. -/
def row (t : Fin cfg0.N) (r : Fin 1024) : Fin 8192 := ⟨t.val % 8 * 1024 + r.val, by have := r.isLt; omega⟩
def col (t : Fin cfg0.N) (l : Fin 640) : Fin 3200 := ⟨640 * (t.val / 8) + l.val, by have : t.val < 40 := t.isLt; have := l.isLt; omega⟩

theorem idx0 : ∀ t : Fin cfg0.N, win0_0.index t = ![t.val % 8, t.val / 8] ∧ win0_1.index t = ![t.val % 8, 0] ∧ win0_2.index t = ![t.val / 8, 0] :=
  (by decide +kernel : ∀ t : Fin grid0.N, _)

theorem blk0_at (t : Fin cfg0.N) (r : Fin 1024) (l : Fin 640) : iblk m c 0 t (ix2 r l) = left m c (ix2 (row t r) (col t l)) := by
  unfold iblk row col
  refine Eq.trans ?_ (congrFun (V_main_arg0 m c) _)
  blk_ext [(idx0 t).1]

theorem blk1_at (t : Fin cfg0.N) (r : Fin 1024) (l : Fin 1024) : iblk m c 1 t (ix2 r l) = right m c (ix2 (row t r) l) := by
  unfold iblk row
  refine Eq.trans ?_ (congrFun (V_main_arg1 m c) _)
  blk_ext [(idx0 t).2.1]

theorem emb2 (t : Fin cfg0.N) (y : S640x1024.Idx) : (win0_2.blk t).view.emb y = ix2 (col t (y 0)) (y 1) := by
  unfold col
  blk_ext [(idx0 t).2.2]

theorem covers2 : (cfg0.win 2).Covers := by decide +kernel

/-- What a step adds to the accumulator. -/
def term (t : Fin cfg0.N) (y : S640x1024.Idx) : EReal :=
  ∑ k : Fin 1024, left m c (ix2 (row t k) (col t (y 0))) * right m c (ix2 (row t k) (y 1))

theorem zero_at (y : S640x1024.Idx) : k0_pay1 (F := Ideal) y = 0 := by
  pointwise [k0_pay1]

theorem step_at (acc : Vec Ideal S640x1024 .f32) (X : Vec Ideal S1024x640 .bf16) (Y : Vec Ideal S1024x1024 .bf16) (a : Fin 640) (b : Fin 1024) :
    k0_pay2 acc X Y (ix2 a b) = acc (ix2 a b) + (∑ k : Fin 1024, X (ix2 k a) * Y (ix2 k b)) := by
  pointwise [k0_pay2]

theorem added (acc : Vec Ideal S640x1024 .f32) (t : Fin cfg0.N) (y : S640x1024.Idx) :
    k0_pay2 acc (iblk m c 0 t) (iblk m c 1 t) y = acc y + term m c t y := by
  obtain ⟨a, b, rfl⟩ : ∃ a b, y = ix2 a b := ⟨y 0, y 1, by blk_ext⟩
  refine (step_at _ _ _ _ _).trans (congrArg _ (Finset.sum_congr rfl fun k _ => ?_))
  rw [blk0_at, blk1_at]
  rfl

theorem start (t : Fin cfg0.N) (h : t.val % 8 = 0) (y : S640x1024.Idx) :
    (outsAt0 m c t.val t.isLt).2 y = (0 : EReal) + term m c t y := by
  rw [outsAt0_A m c t h (by omega)]
  frame_out
  rw [added, zero_at]

theorem next (t : Fin cfg0.N) (h : ¬t.val % 8 = 0) (y : S640x1024.Idx) :
    (outsAt0 m c t.val t.isLt).2 y = (outsAt0 m c (t.val - 1) (Nat.lt_of_le_of_lt (Nat.sub_le _ _) t.isLt)).2 y + term m c t y := by
  by_cases h1 : t.val % 8 = 7
  · rw [outsAt0_C m c t h h1]
    frame_out
    simp only [read_unread_whole]
    rw [added]
  · rw [outsAt0_B m c t h h1]
    frame_out
    simp only [read_unread_whole]
    rw [added]

/-- The accumulator after a block's last step. -/
theorem acc_at (t : Fin cfg0.N) (h : t.val % 8 = 7) (y : S640x1024.Idx) :
    (outsAt0 m c t.val t.isLt).2 y = ∑ k : Fin 8192, left m c (ix2 k (col t (y 0))) * right m c (ix2 k (y 1)) := by
  rw [Pipeline.eq_sum_fin_of_reset_step_apply_of_flush (fun n hn => (outsAt0 m c n hn).2) 8 (fun _ => (0 : EReal)) (term m c)
    (fun t h y => start m c t h y) (fun t h y => next m c t h y) t h y, zero_add]
  unfold term
  refine Fin.sum_mul_add_congr (S := 8) (n := 1024) fun s k hl => ?_
  have hN : t.val < 40 := t.isLt
  have hs := s.isLt
  have e1 : row (⟨8 * (t.val / 8) + s.val, Pipeline.run_point_lt_of_flush t h s⟩ : Fin cfg0.N) k = ⟨s.val * 1024 + k.val, hl⟩ :=
    Fin.ext (by show (8 * (t.val / 8) + s.val) % 8 * 1024 + k.val = s.val * 1024 + k.val; omega)
  have e2 : col (⟨8 * (t.val / 8) + s.val, Pipeline.run_point_lt_of_flush t h s⟩ : Fin cfg0.N) (y 0) = col t (y 0) :=
    Fin.ext (by show 640 * ((8 * (t.val / 8) + s.val) / 8) + (y 0).val = 640 * (t.val / 8) + (y 0).val; omega)
  exact congrArg₂ (· * ·) (congrArg (left m c) (congrArg₂ ix2 e1 e2)) (congrArg (right m c) (congrArg₂ ix2 e1 rfl))

/-- The result: the product of the transposed first argument and the second. -/
def prod : Buf (Elt Ideal) ((c.tc : Thread nD τ).loc main_v0) := fun y =>
  ((∑ k : Fin 8192, left m c (ix2 k (y 0)) * right m c (ix2 k (y 1)) : EReal))

theorem array_eq : (dats m 0 c).arrAt 2 cfg0.N = prod m c := by
  refine Pipeline.Dat.arrAt_eq_of_covers (dats m 0 c) 2 _ covers2 fun t hf y => ?_
  have h7 : t.val % 8 = 7 := (flush0_2 t).mp hf
  refine Eq.trans ?_ (congrArg (prod m c) (emb2 t y)).symm
  have e : (outsAt0 m c t.val t.isLt).1 y = (outsAt0 m c t.val t.isLt).2 y := by
    rw [outsAt0_C m c t (by omega) h7]
    frame_out
    rfl
  blk_simp
  rw [after0_2]
  exact e.trans (acc_at m c t h7 y)

end Cert.InOddGradKernelIdeal.Hand

namespace Cert.Proof

open Idealize.ShloMosaic Idealize.ShloMosaic.TcCoe Idealize.ShloMosaic.Tactic Idealize.SL.Sem
open Cert.InOddGradKernelIdeal.Hand

theorem in_odd_grad_reference (x0 : (⟨Cert.InOddGradReferenceIdeal.S8192x3200, .bf16⟩ : BufTy).Contents (Elt Ideal)) (x1 : (⟨Cert.InOddGradReferenceIdeal.S8192x1024, .bf16⟩ : BufTy).Contents (Elt Ideal)) (i : Fin 3200) (j : Fin 1024) :
    Cert.InOddGradReferenceIdeal.Read.val_main_v8 (F := Ideal) x0 x1 (ix2 i j) = ∑ k : Fin 8192, x0 (ix2 k i) * x1 (ix2 k j) := by
  rw [Cert.InOddGradReferenceIdeal.Read.val_main_v8_apply, Cert.InOddGradReferenceIdeal.Read.val_main_v7_apply, Cert.InOddGradReferenceIdeal.Read.val_main_v6_apply]
  refine (Cert.InOddGradReferenceIdeal.Read.val_main_v5_apply _ _ _).trans (Finset.sum_congr rfl fun k _ => ?_)
  rw [Cert.InOddGradReferenceIdeal.Read.val_main_v4_apply, Cert.InOddGradReferenceIdeal.Read.val_main_v1_apply,
    show Cert.InOddGradReferenceIdeal.Read.lidx_main_v5 (Cert.InOddGradReferenceIdeal.Read.idx_main_v6 (Cert.InOddGradReferenceIdeal.Read.idx_main_v7 (ix2 i j))) k = ix2 k i from by blk_ext,
    show Cert.InOddGradReferenceIdeal.Read.ridx_main_v5 (Cert.InOddGradReferenceIdeal.Read.idx_main_v6 (Cert.InOddGradReferenceIdeal.Read.idx_main_v7 (ix2 i j))) k = ix2 k j from by blk_ext]
  rfl

theorem in_odd_grad_algebraic : Cert.algebraic_InOddGradKernelIdeal_InOddGradReferenceIdeal := by
  intro m g m' g' _ hargs
  refine ⟨fun c => prod m c, ?_, ?_⟩
  · exact (θ_run Cert.InOddGradKernelIdeal.defs _ _).mono (fun r h c => ⟨(h c).1.trans (array_eq m c), (h c).2⟩)
      (Cert.InOddGradKernelIdeal.Value.run_blocks (F := Ideal) m g)
  · refine (θ_run Cert.InOddGradReferenceIdeal.defs _ _).mono (fun r h c => ⟨(h c).1.trans ?_, (h c).2⟩)
      (Cert.InOddGradReferenceIdeal.Value.run (F := Ideal) m' g')
    obtain ⟨e0, e1⟩ := hargs c
    rw [Cert.InOddGradReferenceIdeal.Read.val_main_v8_eq, e0, e1]
    funext y
    rw [show y = ix2 (y 0) (y 1) from by blk_ext]
    exact in_odd_grad_reference _ _ _ _

section
set_option maxRecDepth 65536

/-- The two printings call the same kernel. -/
theorem in_odd_grad_calls_eq : Cert.InOddGradKernel.defs₀ (F := Bits) = Cert.InOddGradKernelIdeal.defs₀ := by
  unfold Cert.InOddGradKernel.defs₀ Cert.InOddGradKernelIdeal.defs₀
  refine congrArg (Defs.onTc (nD := Cert.InOddGradKernelIdeal.nD) (τ := Cert.InOddGradKernelIdeal.τ) (sig := Cert.InOddGradKernelIdeal.sig) (Val := Elt Bits)
    (Λ := Cert.InOddGradKernelIdeal.Λ₀)) (funext fun l => ?_)
  match l with
  | ⟨0, _⟩ => exact funext fun x => rfl

theorem in_odd_grad_defs_eq : Cert.InOddGradKernel.defs (F := Bits) = Cert.InOddGradKernelIdeal.defs := by
  unfold Cert.InOddGradKernel.defs Cert.InOddGradKernelIdeal.defs
  exact congrArg (Pipeline.defs Cert.InOddGradKernelIdeal.pcfgs) in_odd_grad_calls_eq

theorem in_odd_grad_main_eq : Cert.InOddGradKernel.main (F := Bits) = Cert.InOddGradKernelIdeal.main := rfl

theorem in_odd_grad_frame_kernel : Cert.quiescent_InOddGradKernel := by
  intro m ρ _
  have h := Cert.InOddGradKernelIdeal.Gen.frame (F := Bits) m ρ
  have e : θ_run (Cert.InOddGradKernel.defs (F := Bits)) (onTc Cert.InOddGradKernel.main) ⟨m, fun _ => 0, ρ⟩
      = θ_run Cert.InOddGradKernelIdeal.defs (onTc Cert.InOddGradKernelIdeal.main) ⟨m, fun _ => 0, ρ⟩ :=
    (congrArg (fun D => θ_run D (onTc Cert.InOddGradKernel.main) ⟨m, fun _ => 0, ρ⟩) in_odd_grad_defs_eq).trans
      (congrArg (fun P => θ_run Cert.InOddGradKernelIdeal.defs (onTc P) ⟨m, fun _ => 0, ρ⟩) in_odd_grad_main_eq)
  rw [← e] at h
  exact h

end

theorem in_odd_grad_frame_ideal : Cert.quiescent_InOddGradKernelIdeal := fun m ρ _ => Cert.InOddGradKernelIdeal.Gen.frame m ρ

theorem in_odd_grad_frame_reference : Cert.quiescent_InOddGradReferenceIdeal := by
  intro m ρ _
  exact (θ_run Cert.InOddGradReferenceIdeal.defs _ _).mono
    (fun r h => And.intro (fun c => (h c).2) (sem_eq_zero_of_no_sems (by decide) r.2)) (Cert.InOddGradReferenceIdeal.Value.run (F := Ideal) m ρ)

end Cert.Proof

end
-- ==== Proof.OutOddGrad.lean ====
/- The weight gradient of the projection out of an odd layer: the sum of products over the rows, by blocks of 1024 rows, is the whole sum. -/
module

public import proofs.«01_k».proof.Defs
public import proofs.«01_k».proof.Proof.Gen.OutOddGradKernel
public import proofs.«01_k».proof.Proof.Gen.OutOddGradKernelIdeal
public import proofs.«01_k».proof.Proof.Gen.OutOddGradKernelIdeal.Value
public import proofs.«01_k».proof.Proof.Gen.OutOddGradReferenceIdeal
public import proofs.«01_k».proof.Proof.Gen.OutOddGradReferenceIdeal.Run
public import proofs.«01_k».proof.Proof.Gen.OutOddGradReferenceIdeal.Read
public import Idealize.ShloMosaic.Lib.Pipeline.ValueKit
public import Idealize.ShloMosaic.Lib.Pipeline.ReadBack

@[expose] public section

set_option maxRecDepth 16384

noncomputable section

namespace Cert.OutOddGradKernelIdeal.Hand

open Idealize.ShloMosaic Idealize.ShloMosaic.TcCoe Idealize.ShloMosaic.Tactic Idealize.SL.Sem
open Cert.OutOddGradKernelIdeal Cert.OutOddGradKernelIdeal.Gen

variable (m : (ℓ : Loc nD τ sig) → Buf (Elt Ideal) ℓ) (ρ : Dev nD → PrngReg) (c : Dev nD)

/-- The two arguments, as arrays of extended reals. -/
abbrev left : Vec Ideal S8192x1024 .bf16 := m ((c.tc : Thread nD τ).loc main_arg0)
abbrev right : Vec Ideal S8192x1024 .f32 := m ((c.tc : Thread nD τ).loc main_arg1)
/-- Row `r` of the step's block of rows, column `l` of its block of columns. -/
def row (t : Fin cfg0.N) (r : Fin 1024) : Fin 8192 := ⟨t.val % 8 * 1024 + r.val, by have := r.isLt; omega⟩
def col (t : Fin cfg0.N) (l : Fin 1024) : Fin 1024 := ⟨1024 * (t.val / 8) + l.val, by have : t.val < 8 := t.isLt; have := l.isLt; omega⟩

theorem idx0 : ∀ t : Fin cfg0.N, win0_0.index t = ![t.val % 8, t.val / 8] ∧ win0_1.index t = ![t.val % 8, 0] ∧ win0_2.index t = ![t.val / 8, 0] :=
  (by decide +kernel : ∀ t : Fin grid0.N, _)

theorem blk0_at (t : Fin cfg0.N) (r : Fin 1024) (l : Fin 1024) : iblk m c 0 t (ix2 r l) = left m c (ix2 (row t r) (col t l)) := by
  unfold iblk row col
  refine Eq.trans ?_ (congrFun (V_main_arg0 m c) _)
  blk_ext [(idx0 t).1]

theorem blk1_at (t : Fin cfg0.N) (r : Fin 1024) (l : Fin 1024) : iblk m c 1 t (ix2 r l) = right m c (ix2 (row t r) l) := by
  unfold iblk row
  refine Eq.trans ?_ (congrFun (V_main_arg1 m c) _)
  blk_ext [(idx0 t).2.1]

theorem emb2 (t : Fin cfg0.N) (y : S1024x1024.Idx) : (win0_2.blk t).view.emb y = ix2 (col t (y 0)) (y 1) := by
  unfold col
  blk_ext [(idx0 t).2.2]

theorem covers2 : (cfg0.win 2).Covers := by decide +kernel

/-- What a step adds to the accumulator. -/
def term (t : Fin cfg0.N) (y : S1024x1024.Idx) : EReal :=
  ∑ k : Fin 1024, left m c (ix2 (row t k) (col t (y 0))) * right m c (ix2 (row t k) (y 1))

theorem zero_at (y : S1024x1024.Idx) : k0_pay1 (F := Ideal) y = 0 := by
  pointwise [k0_pay1]

theorem step_at (acc : Vec Ideal S1024x1024 .f32) (X : Vec Ideal S1024x1024 .bf16) (Y : Vec Ideal S1024x1024 .f32) (a : Fin 1024) (b : Fin 1024) :
    k0_pay2 acc X Y (ix2 a b) = acc (ix2 a b) + (∑ k : Fin 1024, X (ix2 k a) * Y (ix2 k b)) := by
  pointwise [k0_pay2]

theorem added (acc : Vec Ideal S1024x1024 .f32) (t : Fin cfg0.N) (y : S1024x1024.Idx) :
    k0_pay2 acc (iblk m c 0 t) (iblk m c 1 t) y = acc y + term m c t y := by
  obtain ⟨a, b, rfl⟩ : ∃ a b, y = ix2 a b := ⟨y 0, y 1, by blk_ext⟩
  refine (step_at _ _ _ _ _).trans (congrArg _ (Finset.sum_congr rfl fun k _ => ?_))
  rw [blk0_at, blk1_at]
  rfl

theorem start (t : Fin cfg0.N) (h : t.val % 8 = 0) (y : S1024x1024.Idx) :
    (outsAt0 m c t.val t.isLt).2 y = (0 : EReal) + term m c t y := by
  rw [outsAt0_A m c t h (by omega)]
  frame_out
  rw [added, zero_at]

theorem next (t : Fin cfg0.N) (h : ¬t.val % 8 = 0) (y : S1024x1024.Idx) :
    (outsAt0 m c t.val t.isLt).2 y = (outsAt0 m c (t.val - 1) (Nat.lt_of_le_of_lt (Nat.sub_le _ _) t.isLt)).2 y + term m c t y := by
  by_cases h1 : t.val % 8 = 7
  · rw [outsAt0_C m c t h h1]
    frame_out
    simp only [read_unread_whole]
    rw [added]
  · rw [outsAt0_B m c t h h1]
    frame_out
    simp only [read_unread_whole]
    rw [added]

/-- The accumulator after a block's last step. -/
theorem acc_at (t : Fin cfg0.N) (h : t.val % 8 = 7) (y : S1024x1024.Idx) :
    (outsAt0 m c t.val t.isLt).2 y = ∑ k : Fin 8192, left m c (ix2 k (col t (y 0))) * right m c (ix2 k (y 1)) := by
  rw [Pipeline.eq_sum_fin_of_reset_step_apply_of_flush (fun n hn => (outsAt0 m c n hn).2) 8 (fun _ => (0 : EReal)) (term m c)
    (fun t h y => start m c t h y) (fun t h y => next m c t h y) t h y, zero_add]
  unfold term
  refine Fin.sum_mul_add_congr (S := 8) (n := 1024) fun s k hl => ?_
  have hN : t.val < 8 := t.isLt
  have hs := s.isLt
  have e1 : row (⟨8 * (t.val / 8) + s.val, Pipeline.run_point_lt_of_flush t h s⟩ : Fin cfg0.N) k = ⟨s.val * 1024 + k.val, hl⟩ :=
    Fin.ext (by show (8 * (t.val / 8) + s.val) % 8 * 1024 + k.val = s.val * 1024 + k.val; omega)
  have e2 : col (⟨8 * (t.val / 8) + s.val, Pipeline.run_point_lt_of_flush t h s⟩ : Fin cfg0.N) (y 0) = col t (y 0) :=
    Fin.ext (by show 1024 * ((8 * (t.val / 8) + s.val) / 8) + (y 0).val = 1024 * (t.val / 8) + (y 0).val; omega)
  exact congrArg₂ (· * ·) (congrArg (left m c) (congrArg₂ ix2 e1 e2)) (congrArg (right m c) (congrArg₂ ix2 e1 rfl))

/-- The result: the product of the transposed first argument and the second. -/
def prod : Buf (Elt Ideal) ((c.tc : Thread nD τ).loc main_v0) := fun y =>
  ((∑ k : Fin 8192, left m c (ix2 k (y 0)) * right m c (ix2 k (y 1)) : EReal))

theorem array_eq : (dats m 0 c).arrAt 2 cfg0.N = prod m c := by
  refine Pipeline.Dat.arrAt_eq_of_covers (dats m 0 c) 2 _ covers2 fun t hf y => ?_
  have h7 : t.val % 8 = 7 := (flush0_2 t).mp hf
  refine Eq.trans ?_ (congrArg (prod m c) (emb2 t y)).symm
  have e : (outsAt0 m c t.val t.isLt).1 y = (outsAt0 m c t.val t.isLt).2 y := by
    rw [outsAt0_C m c t (by omega) h7]
    frame_out
    rfl
  blk_simp
  rw [after0_2]
  exact e.trans (acc_at m c t h7 y)

end Cert.OutOddGradKernelIdeal.Hand

namespace Cert.Proof

open Idealize.ShloMosaic Idealize.ShloMosaic.TcCoe Idealize.ShloMosaic.Tactic Idealize.SL.Sem
open Cert.OutOddGradKernelIdeal.Hand

theorem out_odd_grad_reference (x0 : (⟨Cert.OutOddGradReferenceIdeal.S8192x1024, .bf16⟩ : BufTy).Contents (Elt Ideal)) (x1 : (⟨Cert.OutOddGradReferenceIdeal.S8192x1024, .f32⟩ : BufTy).Contents (Elt Ideal)) (i : Fin 1024) (j : Fin 1024) :
    Cert.OutOddGradReferenceIdeal.Read.val_main_v5 (F := Ideal) x0 x1 (ix2 i j) = ∑ k : Fin 8192, x0 (ix2 k i) * x1 (ix2 k j) := by
  rw [Cert.OutOddGradReferenceIdeal.Read.val_main_v5_apply, Cert.OutOddGradReferenceIdeal.Read.val_main_v4_apply]
  refine (Cert.OutOddGradReferenceIdeal.Read.val_main_v3_apply _ _ _).trans (Finset.sum_congr rfl fun k _ => ?_)
  rw [Cert.OutOddGradReferenceIdeal.Read.val_main_v1_apply, show Cert.OutOddGradReferenceIdeal.Read.lidx_main_v3 (Cert.OutOddGradReferenceIdeal.Read.idx_main_v4 (ix2 i j)) k = ix2 k j from by blk_ext,
    show Cert.OutOddGradReferenceIdeal.Read.ridx_main_v3 (Cert.OutOddGradReferenceIdeal.Read.idx_main_v4 (ix2 i j)) k = ix2 k i from by blk_ext]
  exact mul_comm _ _

theorem out_odd_grad_algebraic : Cert.algebraic_OutOddGradKernelIdeal_OutOddGradReferenceIdeal := by
  intro m g m' g' _ hargs
  refine ⟨fun c => prod m c, ?_, ?_⟩
  · exact (θ_run Cert.OutOddGradKernelIdeal.defs _ _).mono (fun r h c => ⟨(h c).1.trans (array_eq m c), (h c).2⟩)
      (Cert.OutOddGradKernelIdeal.Value.run_blocks (F := Ideal) m g)
  · refine (θ_run Cert.OutOddGradReferenceIdeal.defs _ _).mono (fun r h c => ⟨(h c).1.trans ?_, (h c).2⟩)
      (Cert.OutOddGradReferenceIdeal.Value.run (F := Ideal) m' g')
    obtain ⟨e0, e1⟩ := hargs c
    rw [Cert.OutOddGradReferenceIdeal.Read.val_main_v5_eq, e0, e1]
    funext y
    rw [show y = ix2 (y 0) (y 1) from by blk_ext]
    exact out_odd_grad_reference _ _ _ _

section
set_option maxRecDepth 65536

/-- The two printings call the same kernel. -/
theorem out_odd_grad_calls_eq : Cert.OutOddGradKernel.defs₀ (F := Bits) = Cert.OutOddGradKernelIdeal.defs₀ := by
  unfold Cert.OutOddGradKernel.defs₀ Cert.OutOddGradKernelIdeal.defs₀
  refine congrArg (Defs.onTc (nD := Cert.OutOddGradKernelIdeal.nD) (τ := Cert.OutOddGradKernelIdeal.τ) (sig := Cert.OutOddGradKernelIdeal.sig) (Val := Elt Bits)
    (Λ := Cert.OutOddGradKernelIdeal.Λ₀)) (funext fun l => ?_)
  match l with
  | ⟨0, _⟩ => exact funext fun x => rfl

theorem out_odd_grad_defs_eq : Cert.OutOddGradKernel.defs (F := Bits) = Cert.OutOddGradKernelIdeal.defs := by
  unfold Cert.OutOddGradKernel.defs Cert.OutOddGradKernelIdeal.defs
  exact congrArg (Pipeline.defs Cert.OutOddGradKernelIdeal.pcfgs) out_odd_grad_calls_eq

theorem out_odd_grad_main_eq : Cert.OutOddGradKernel.main (F := Bits) = Cert.OutOddGradKernelIdeal.main := rfl

theorem out_odd_grad_frame_kernel : Cert.quiescent_OutOddGradKernel := by
  intro m ρ _
  have h := Cert.OutOddGradKernelIdeal.Gen.frame (F := Bits) m ρ
  have e : θ_run (Cert.OutOddGradKernel.defs (F := Bits)) (onTc Cert.OutOddGradKernel.main) ⟨m, fun _ => 0, ρ⟩
      = θ_run Cert.OutOddGradKernelIdeal.defs (onTc Cert.OutOddGradKernelIdeal.main) ⟨m, fun _ => 0, ρ⟩ :=
    (congrArg (fun D => θ_run D (onTc Cert.OutOddGradKernel.main) ⟨m, fun _ => 0, ρ⟩) out_odd_grad_defs_eq).trans
      (congrArg (fun P => θ_run Cert.OutOddGradKernelIdeal.defs (onTc P) ⟨m, fun _ => 0, ρ⟩) out_odd_grad_main_eq)
  rw [← e] at h
  exact h

end

theorem out_odd_grad_frame_ideal : Cert.quiescent_OutOddGradKernelIdeal := fun m ρ _ => Cert.OutOddGradKernelIdeal.Gen.frame m ρ

theorem out_odd_grad_frame_reference : Cert.quiescent_OutOddGradReferenceIdeal := by
  intro m ρ _
  exact (θ_run Cert.OutOddGradReferenceIdeal.defs _ _).mono
    (fun r h => And.intro (fun c => (h c).2) (sem_eq_zero_of_no_sems (by decide) r.2)) (Cert.OutOddGradReferenceIdeal.Value.run (F := Ideal) m ρ)

end Cert.Proof

end
-- ==== Proof.InEven.lean ====
/- The projection into an even layer: the product by blocks of 1024 rows is the whole product. -/
module

public import proofs.«01_k».proof.Defs
public import proofs.«01_k».proof.Proof.Gen.InEvenKernel
public import proofs.«01_k».proof.Proof.Gen.InEvenKernelIdeal
public import proofs.«01_k».proof.Proof.Gen.InEvenKernelIdeal.Value
public import proofs.«01_k».proof.Proof.Gen.InEvenReferenceIdeal
public import proofs.«01_k».proof.Proof.Gen.InEvenReferenceIdeal.Run
public import proofs.«01_k».proof.Proof.Gen.InEvenReferenceIdeal.Read
public import Idealize.ShloMosaic.Lib.Pipeline.ValueKit
public import Idealize.ShloMosaic.Lib.Pipeline.ReadBack

@[expose] public section

set_option maxRecDepth 16384

noncomputable section

namespace Cert.InEvenKernelIdeal.Hand

open Idealize.ShloMosaic Idealize.ShloMosaic.TcCoe Idealize.ShloMosaic.Tactic Idealize.SL.Sem
open Cert.InEvenKernelIdeal Cert.InEvenKernelIdeal.Gen

variable (m : (ℓ : Loc nD τ sig) → Buf (Elt Ideal) ℓ) (ρ : Dev nD → PrngReg) (c : Dev nD)

/-- The two arguments, as arrays of extended reals. -/
abbrev left : Vec Ideal S8192x1024 .bf16 := m ((c.tc : Thread nD τ).loc main_arg0)
abbrev right : Vec Ideal S1024x2816 .bf16 := m ((c.tc : Thread nD τ).loc main_arg1)
/-- Row `r` of the step's block of rows. -/
def row (t : Fin cfg0.N) (r : Fin 1024) : Fin 8192 := ⟨1024 * t.val + r.val, by have : t.val < 8 := t.isLt; have := r.isLt; omega⟩

theorem idx0 : ∀ t : Fin cfg0.N, win0_0.index t = ![t.val, 0] ∧ win0_1.index t = ![0, 0] ∧ win0_2.index t = ![t.val, 0] :=
  (by decide +kernel : ∀ t : Fin grid0.N, _)

theorem blk0_at (t : Fin cfg0.N) (r : Fin 1024) (l : Fin 1024) : iblk m c 0 t (ix2 r l) = left m c (ix2 (row t r) l) := by
  unfold iblk row
  refine Eq.trans ?_ (congrFun (V_main_arg0 m c) _)
  blk_ext [(idx0 t).1]

theorem blk1_at (t : Fin cfg0.N) (r : Fin 1024) (l : Fin 2816) : iblk m c 1 t (ix2 r l) = right m c (ix2 r l) := by
  unfold iblk
  refine Eq.trans ?_ (congrFun (V_main_arg1 m c) _)
  blk_ext [(idx0 t).2.1]

theorem emb2 (t : Fin cfg0.N) (y : S1024x2816.Idx) : (win0_2.blk t).view.emb y = ix2 (row t (y 0)) (y 1) := by
  unfold row
  blk_ext [(idx0 t).2.2]

theorem covers2 : (cfg0.win 2).Covers := by decide +kernel

theorem step_at (X : Vec Ideal S1024x1024 .bf16) (Y : Vec Ideal S1024x2816 .bf16) (a : Fin 1024) (b : Fin 2816) :
    k0_pay1 X Y (ix2 a b) = (∑ k : Fin 1024, X (ix2 a k) * Y (ix2 k b)) := by
  pointwise [k0_pay1]

/-- The result: the product of the two arguments. -/
def prod : Buf (Elt Ideal) ((c.tc : Thread nD τ).loc main_v0) := fun y =>
  ((∑ k : Fin 1024, left m c (ix2 (y 0) k) * right m c (ix2 k (y 1)) : EReal))

theorem array_eq : (dats m 0 c).arrAt 2 cfg0.N = prod m c := by
  refine Pipeline.Dat.arrAt_eq_of_covers (dats m 0 c) 2 _ covers2 fun t hf y => ?_
  refine Eq.trans ?_ (congrArg (prod m c) (emb2 t y)).symm
  obtain ⟨a, b, rfl⟩ : ∃ a b, y = (ix2 a b : S1024x2816.Idx) := ⟨y 0, y 1, by blk_ext⟩
  blk_simp
  rw [after0_2]
  frame_out
  refine (step_at _ _ a b).trans (Finset.sum_congr rfl fun k _ => ?_)
  rw [blk0_at, blk1_at]
  rfl

end Cert.InEvenKernelIdeal.Hand

namespace Cert.Proof

open Idealize.ShloMosaic Idealize.ShloMosaic.TcCoe Idealize.ShloMosaic.Tactic Idealize.SL.Sem
open Cert.InEvenKernelIdeal.Hand

theorem in_even_reference (x0 : (⟨Cert.InEvenReferenceIdeal.S8192x1024, .bf16⟩ : BufTy).Contents (Elt Ideal)) (x1 : (⟨Cert.InEvenReferenceIdeal.S1024x2816, .bf16⟩ : BufTy).Contents (Elt Ideal)) (i : Fin 8192) (j : Fin 2816) :
    Cert.InEvenReferenceIdeal.Read.val_main_v2 (F := Ideal) x0 x1 (ix2 i j) = ∑ k : Fin 1024, x0 (ix2 i k) * x1 (ix2 k j) := by
  refine (Cert.InEvenReferenceIdeal.Read.val_main_v2_apply _ _ _).trans (Finset.sum_congr rfl fun k _ => ?_)
  rw [Cert.InEvenReferenceIdeal.Read.val_main_v0_apply, Cert.InEvenReferenceIdeal.Read.val_main_v1_apply,
    show Cert.InEvenReferenceIdeal.Read.lidx_main_v2 (ix2 i j) k = ix2 i k from by blk_ext,
    show Cert.InEvenReferenceIdeal.Read.ridx_main_v2 (ix2 i j) k = ix2 k j from by blk_ext]
  rfl

theorem in_even_algebraic : Cert.algebraic_InEvenKernelIdeal_InEvenReferenceIdeal := by
  intro m g m' g' _ hargs
  refine ⟨fun c => prod m c, ?_, ?_⟩
  · exact (θ_run Cert.InEvenKernelIdeal.defs _ _).mono (fun r h c => ⟨(h c).1.trans (array_eq m c), (h c).2⟩)
      (Cert.InEvenKernelIdeal.Value.run_blocks (F := Ideal) m g)
  · refine (θ_run Cert.InEvenReferenceIdeal.defs _ _).mono (fun r h c => ⟨(h c).1.trans ?_, (h c).2⟩)
      (Cert.InEvenReferenceIdeal.Value.run (F := Ideal) m' g')
    obtain ⟨e0, e1⟩ := hargs c
    rw [Cert.InEvenReferenceIdeal.Read.val_main_v2_eq, e0, e1]
    funext y
    rw [show y = ix2 (y 0) (y 1) from by blk_ext]
    exact in_even_reference _ _ _ _

section
set_option maxRecDepth 65536

/-- The two printings call the same kernel. -/
theorem in_even_calls_eq : Cert.InEvenKernel.defs₀ (F := Bits) = Cert.InEvenKernelIdeal.defs₀ := by
  unfold Cert.InEvenKernel.defs₀ Cert.InEvenKernelIdeal.defs₀
  refine congrArg (Defs.onTc (nD := Cert.InEvenKernelIdeal.nD) (τ := Cert.InEvenKernelIdeal.τ) (sig := Cert.InEvenKernelIdeal.sig) (Val := Elt Bits)
    (Λ := Cert.InEvenKernelIdeal.Λ₀)) (funext fun l => ?_)
  match l with
  | ⟨0, _⟩ => exact funext fun x => rfl

theorem in_even_defs_eq : Cert.InEvenKernel.defs (F := Bits) = Cert.InEvenKernelIdeal.defs := by
  unfold Cert.InEvenKernel.defs Cert.InEvenKernelIdeal.defs
  exact congrArg (Pipeline.defs Cert.InEvenKernelIdeal.pcfgs) in_even_calls_eq

theorem in_even_main_eq : Cert.InEvenKernel.main (F := Bits) = Cert.InEvenKernelIdeal.main := rfl

theorem in_even_frame_kernel : Cert.quiescent_InEvenKernel := by
  intro m ρ _
  have h := Cert.InEvenKernelIdeal.Gen.frame (F := Bits) m ρ
  have e : θ_run (Cert.InEvenKernel.defs (F := Bits)) (onTc Cert.InEvenKernel.main) ⟨m, fun _ => 0, ρ⟩
      = θ_run Cert.InEvenKernelIdeal.defs (onTc Cert.InEvenKernelIdeal.main) ⟨m, fun _ => 0, ρ⟩ :=
    (congrArg (fun D => θ_run D (onTc Cert.InEvenKernel.main) ⟨m, fun _ => 0, ρ⟩) in_even_defs_eq).trans
      (congrArg (fun P => θ_run Cert.InEvenKernelIdeal.defs (onTc P) ⟨m, fun _ => 0, ρ⟩) in_even_main_eq)
  rw [← e] at h
  exact h

end

theorem in_even_frame_ideal : Cert.quiescent_InEvenKernelIdeal := fun m ρ _ => Cert.InEvenKernelIdeal.Gen.frame m ρ

theorem in_even_frame_reference : Cert.quiescent_InEvenReferenceIdeal := by
  intro m ρ _
  exact (θ_run Cert.InEvenReferenceIdeal.defs _ _).mono
    (fun r h => And.intro (fun c => (h c).2) (sem_eq_zero_of_no_sems (by decide) r.2)) (Cert.InEvenReferenceIdeal.Value.run (F := Ideal) m ρ)

end Cert.Proof

end
-- ==== Proof.InEvenBack.lean ====
/- The gradient of an even layer's normed input: the product by blocks of 1024 rows is the whole product. -/
module

public import proofs.«01_k».proof.Defs
public import proofs.«01_k».proof.Proof.Gen.InEvenBackKernel
public import proofs.«01_k».proof.Proof.Gen.InEvenBackKernelIdeal
public import proofs.«01_k».proof.Proof.Gen.InEvenBackKernelIdeal.Value
public import proofs.«01_k».proof.Proof.Gen.InEvenBackReferenceIdeal
public import proofs.«01_k».proof.Proof.Gen.InEvenBackReferenceIdeal.Run
public import proofs.«01_k».proof.Proof.Gen.InEvenBackReferenceIdeal.Read
public import Idealize.ShloMosaic.Lib.Pipeline.ValueKit
public import Idealize.ShloMosaic.Lib.Pipeline.ReadBack

@[expose] public section

set_option maxRecDepth 16384

noncomputable section

namespace Cert.InEvenBackKernelIdeal.Hand

open Idealize.ShloMosaic Idealize.ShloMosaic.TcCoe Idealize.ShloMosaic.Tactic Idealize.SL.Sem
open Cert.InEvenBackKernelIdeal Cert.InEvenBackKernelIdeal.Gen

variable (m : (ℓ : Loc nD τ sig) → Buf (Elt Ideal) ℓ) (ρ : Dev nD → PrngReg) (c : Dev nD)

/-- The two arguments, as arrays of extended reals. -/
abbrev left : Vec Ideal S8192x2816 .bf16 := m ((c.tc : Thread nD τ).loc main_arg0)
abbrev right : Vec Ideal S2816x1024 .bf16 := m ((c.tc : Thread nD τ).loc main_arg1)
/-- Row `r` of the step's block of rows. -/
def row (t : Fin cfg0.N) (r : Fin 1024) : Fin 8192 := ⟨1024 * t.val + r.val, by have : t.val < 8 := t.isLt; have := r.isLt; omega⟩

theorem idx0 : ∀ t : Fin cfg0.N, win0_0.index t = ![t.val, 0] ∧ win0_1.index t = ![0, 0] ∧ win0_2.index t = ![t.val, 0] :=
  (by decide +kernel : ∀ t : Fin grid0.N, _)

theorem blk0_at (t : Fin cfg0.N) (r : Fin 1024) (l : Fin 2816) : iblk m c 0 t (ix2 r l) = left m c (ix2 (row t r) l) := by
  unfold iblk row
  refine Eq.trans ?_ (congrFun (V_main_arg0 m c) _)
  blk_ext [(idx0 t).1]

theorem blk1_at (t : Fin cfg0.N) (r : Fin 2816) (l : Fin 1024) : iblk m c 1 t (ix2 r l) = right m c (ix2 r l) := by
  unfold iblk
  refine Eq.trans ?_ (congrFun (V_main_arg1 m c) _)
  blk_ext [(idx0 t).2.1]

theorem emb2 (t : Fin cfg0.N) (y : S1024x1024.Idx) : (win0_2.blk t).view.emb y = ix2 (row t (y 0)) (y 1) := by
  unfold row
  blk_ext [(idx0 t).2.2]

theorem covers2 : (cfg0.win 2).Covers := by decide +kernel

theorem step_at (X : Vec Ideal S1024x2816 .bf16) (Y : Vec Ideal S2816x1024 .bf16) (a : Fin 1024) (b : Fin 1024) :
    k0_pay1 X Y (ix2 a b) = (∑ k : Fin 2816, X (ix2 a k) * Y (ix2 k b)) := by
  pointwise [k0_pay1]

/-- The result: the product of the two arguments. -/
def prod : Buf (Elt Ideal) ((c.tc : Thread nD τ).loc main_v0) := fun y =>
  ((∑ k : Fin 2816, left m c (ix2 (y 0) k) * right m c (ix2 k (y 1)) : EReal))

theorem array_eq : (dats m 0 c).arrAt 2 cfg0.N = prod m c := by
  refine Pipeline.Dat.arrAt_eq_of_covers (dats m 0 c) 2 _ covers2 fun t hf y => ?_
  refine Eq.trans ?_ (congrArg (prod m c) (emb2 t y)).symm
  obtain ⟨a, b, rfl⟩ : ∃ a b, y = (ix2 a b : S1024x1024.Idx) := ⟨y 0, y 1, by blk_ext⟩
  blk_simp
  rw [after0_2]
  frame_out
  refine (step_at _ _ a b).trans (Finset.sum_congr rfl fun k _ => ?_)
  rw [blk0_at, blk1_at]
  rfl

end Cert.InEvenBackKernelIdeal.Hand

namespace Cert.Proof

open Idealize.ShloMosaic Idealize.ShloMosaic.TcCoe Idealize.ShloMosaic.Tactic Idealize.SL.Sem
open Cert.InEvenBackKernelIdeal.Hand

theorem in_even_back_reference (x0 : (⟨Cert.InEvenBackReferenceIdeal.S8192x2816, .bf16⟩ : BufTy).Contents (Elt Ideal)) (x1 : (⟨Cert.InEvenBackReferenceIdeal.S2816x1024, .bf16⟩ : BufTy).Contents (Elt Ideal)) (i : Fin 8192) (j : Fin 1024) :
    Cert.InEvenBackReferenceIdeal.Read.val_main_v5 (F := Ideal) x0 x1 (ix2 i j) = ∑ k : Fin 2816, x0 (ix2 i k) * x1 (ix2 k j) := by
  refine (Cert.InEvenBackReferenceIdeal.Read.val_main_v5_apply _ _ _).trans (Finset.sum_congr rfl fun k _ => ?_)
  rw [Cert.InEvenBackReferenceIdeal.Read.val_main_v4_apply, Cert.InEvenBackReferenceIdeal.Read.val_main_v2_apply, Cert.InEvenBackReferenceIdeal.Read.val_main_v1_apply,
    show Cert.InEvenBackReferenceIdeal.Read.lidx_main_v5 (ix2 i j) k = ix2 i k from by blk_ext,
    show Cert.InEvenBackReferenceIdeal.Read.idx_main_v2 (Cert.InEvenBackReferenceIdeal.Read.ridx_main_v5 (ix2 i j) k) = ix2 k j from by blk_ext]
  rfl

theorem in_even_back_algebraic : Cert.algebraic_InEvenBackKernelIdeal_InEvenBackReferenceIdeal := by
  intro m g m' g' _ hargs
  refine ⟨fun c => prod m c, ?_, ?_⟩
  · exact (θ_run Cert.InEvenBackKernelIdeal.defs _ _).mono (fun r h c => ⟨(h c).1.trans (array_eq m c), (h c).2⟩)
      (Cert.InEvenBackKernelIdeal.Value.run_blocks (F := Ideal) m g)
  · refine (θ_run Cert.InEvenBackReferenceIdeal.defs _ _).mono (fun r h c => ⟨(h c).1.trans ?_, (h c).2⟩)
      (Cert.InEvenBackReferenceIdeal.Value.run (F := Ideal) m' g')
    obtain ⟨e0, e1⟩ := hargs c
    rw [Cert.InEvenBackReferenceIdeal.Read.val_main_v5_eq, e0, e1]
    funext y
    rw [show y = ix2 (y 0) (y 1) from by blk_ext]
    exact in_even_back_reference _ _ _ _

section
set_option maxRecDepth 65536

/-- The two printings call the same kernel. -/
theorem in_even_back_calls_eq : Cert.InEvenBackKernel.defs₀ (F := Bits) = Cert.InEvenBackKernelIdeal.defs₀ := by
  unfold Cert.InEvenBackKernel.defs₀ Cert.InEvenBackKernelIdeal.defs₀
  refine congrArg (Defs.onTc (nD := Cert.InEvenBackKernelIdeal.nD) (τ := Cert.InEvenBackKernelIdeal.τ) (sig := Cert.InEvenBackKernelIdeal.sig) (Val := Elt Bits)
    (Λ := Cert.InEvenBackKernelIdeal.Λ₀)) (funext fun l => ?_)
  match l with
  | ⟨0, _⟩ => exact funext fun x => rfl

theorem in_even_back_defs_eq : Cert.InEvenBackKernel.defs (F := Bits) = Cert.InEvenBackKernelIdeal.defs := by
  unfold Cert.InEvenBackKernel.defs Cert.InEvenBackKernelIdeal.defs
  exact congrArg (Pipeline.defs Cert.InEvenBackKernelIdeal.pcfgs) in_even_back_calls_eq

theorem in_even_back_main_eq : Cert.InEvenBackKernel.main (F := Bits) = Cert.InEvenBackKernelIdeal.main := rfl

theorem in_even_back_frame_kernel : Cert.quiescent_InEvenBackKernel := by
  intro m ρ _
  have h := Cert.InEvenBackKernelIdeal.Gen.frame (F := Bits) m ρ
  have e : θ_run (Cert.InEvenBackKernel.defs (F := Bits)) (onTc Cert.InEvenBackKernel.main) ⟨m, fun _ => 0, ρ⟩
      = θ_run Cert.InEvenBackKernelIdeal.defs (onTc Cert.InEvenBackKernelIdeal.main) ⟨m, fun _ => 0, ρ⟩ :=
    (congrArg (fun D => θ_run D (onTc Cert.InEvenBackKernel.main) ⟨m, fun _ => 0, ρ⟩) in_even_back_defs_eq).trans
      (congrArg (fun P => θ_run Cert.InEvenBackKernelIdeal.defs (onTc P) ⟨m, fun _ => 0, ρ⟩) in_even_back_main_eq)
  rw [← e] at h
  exact h

end

theorem in_even_back_frame_ideal : Cert.quiescent_InEvenBackKernelIdeal := fun m ρ _ => Cert.InEvenBackKernelIdeal.Gen.frame m ρ

theorem in_even_back_frame_reference : Cert.quiescent_InEvenBackReferenceIdeal := by
  intro m ρ _
  exact (θ_run Cert.InEvenBackReferenceIdeal.defs _ _).mono
    (fun r h => And.intro (fun c => (h c).2) (sem_eq_zero_of_no_sems (by decide) r.2)) (Cert.InEvenBackReferenceIdeal.Value.run (F := Ideal) m ρ)

end Cert.Proof

end
-- ==== Proof.InOdd.lean ====
/- The projection into an odd layer: the product by blocks of 1024 rows is the whole product. -/
module

public import proofs.«01_k».proof.Defs
public import proofs.«01_k».proof.Proof.Gen.InOddKernel
public import proofs.«01_k».proof.Proof.Gen.InOddKernelIdeal
public import proofs.«01_k».proof.Proof.Gen.InOddKernelIdeal.Value
public import proofs.«01_k».proof.Proof.Gen.InOddReferenceIdeal
public import proofs.«01_k».proof.Proof.Gen.InOddReferenceIdeal.Run
public import proofs.«01_k».proof.Proof.Gen.InOddReferenceIdeal.Read
public import Idealize.ShloMosaic.Lib.Pipeline.ValueKit
public import Idealize.ShloMosaic.Lib.Pipeline.ReadBack

@[expose] public section

set_option maxRecDepth 16384

noncomputable section

namespace Cert.InOddKernelIdeal.Hand

open Idealize.ShloMosaic Idealize.ShloMosaic.TcCoe Idealize.ShloMosaic.Tactic Idealize.SL.Sem
open Cert.InOddKernelIdeal Cert.InOddKernelIdeal.Gen

variable (m : (ℓ : Loc nD τ sig) → Buf (Elt Ideal) ℓ) (ρ : Dev nD → PrngReg) (c : Dev nD)

/-- The two arguments, as arrays of extended reals. -/
abbrev left : Vec Ideal S8192x1024 .bf16 := m ((c.tc : Thread nD τ).loc main_arg0)
abbrev right : Vec Ideal S1024x3200 .bf16 := m ((c.tc : Thread nD τ).loc main_arg1)
/-- Row `r` of the step's block of rows. -/
def row (t : Fin cfg0.N) (r : Fin 1024) : Fin 8192 := ⟨1024 * t.val + r.val, by have : t.val < 8 := t.isLt; have := r.isLt; omega⟩

theorem idx0 : ∀ t : Fin cfg0.N, win0_0.index t = ![t.val, 0] ∧ win0_1.index t = ![0, 0] ∧ win0_2.index t = ![t.val, 0] :=
  (by decide +kernel : ∀ t : Fin grid0.N, _)

theorem blk0_at (t : Fin cfg0.N) (r : Fin 1024) (l : Fin 1024) : iblk m c 0 t (ix2 r l) = left m c (ix2 (row t r) l) := by
  unfold iblk row
  refine Eq.trans ?_ (congrFun (V_main_arg0 m c) _)
  blk_ext [(idx0 t).1]

theorem blk1_at (t : Fin cfg0.N) (r : Fin 1024) (l : Fin 3200) : iblk m c 1 t (ix2 r l) = right m c (ix2 r l) := by
  unfold iblk
  refine Eq.trans ?_ (congrFun (V_main_arg1 m c) _)
  blk_ext [(idx0 t).2.1]

theorem emb2 (t : Fin cfg0.N) (y : S1024x3200.Idx) : (win0_2.blk t).view.emb y = ix2 (row t (y 0)) (y 1) := by
  unfold row
  blk_ext [(idx0 t).2.2]

theorem covers2 : (cfg0.win 2).Covers := by decide +kernel

theorem step_at (X : Vec Ideal S1024x1024 .bf16) (Y : Vec Ideal S1024x3200 .bf16) (a : Fin 1024) (b : Fin 3200) :
    k0_pay1 X Y (ix2 a b) = (∑ k : Fin 1024, X (ix2 a k) * Y (ix2 k b)) := by
  pointwise [k0_pay1]

/-- The result: the product of the two arguments. -/
def prod : Buf (Elt Ideal) ((c.tc : Thread nD τ).loc main_v0) := fun y =>
  ((∑ k : Fin 1024, left m c (ix2 (y 0) k) * right m c (ix2 k (y 1)) : EReal))

theorem array_eq : (dats m 0 c).arrAt 2 cfg0.N = prod m c := by
  refine Pipeline.Dat.arrAt_eq_of_covers (dats m 0 c) 2 _ covers2 fun t hf y => ?_
  refine Eq.trans ?_ (congrArg (prod m c) (emb2 t y)).symm
  obtain ⟨a, b, rfl⟩ : ∃ a b, y = (ix2 a b : S1024x3200.Idx) := ⟨y 0, y 1, by blk_ext⟩
  blk_simp
  rw [after0_2]
  frame_out
  refine (step_at _ _ a b).trans (Finset.sum_congr rfl fun k _ => ?_)
  rw [blk0_at, blk1_at]
  rfl

end Cert.InOddKernelIdeal.Hand

namespace Cert.Proof

open Idealize.ShloMosaic Idealize.ShloMosaic.TcCoe Idealize.ShloMosaic.Tactic Idealize.SL.Sem
open Cert.InOddKernelIdeal.Hand

theorem in_odd_reference (x0 : (⟨Cert.InOddReferenceIdeal.S8192x1024, .bf16⟩ : BufTy).Contents (Elt Ideal)) (x1 : (⟨Cert.InOddReferenceIdeal.S1024x3200, .bf16⟩ : BufTy).Contents (Elt Ideal)) (i : Fin 8192) (j : Fin 3200) :
    Cert.InOddReferenceIdeal.Read.val_main_v2 (F := Ideal) x0 x1 (ix2 i j) = ∑ k : Fin 1024, x0 (ix2 i k) * x1 (ix2 k j) := by
  refine (Cert.InOddReferenceIdeal.Read.val_main_v2_apply _ _ _).trans (Finset.sum_congr rfl fun k _ => ?_)
  rw [Cert.InOddReferenceIdeal.Read.val_main_v0_apply, Cert.InOddReferenceIdeal.Read.val_main_v1_apply,
    show Cert.InOddReferenceIdeal.Read.lidx_main_v2 (ix2 i j) k = ix2 i k from by blk_ext,
    show Cert.InOddReferenceIdeal.Read.ridx_main_v2 (ix2 i j) k = ix2 k j from by blk_ext]
  rfl

theorem in_odd_algebraic : Cert.algebraic_InOddKernelIdeal_InOddReferenceIdeal := by
  intro m g m' g' _ hargs
  refine ⟨fun c => prod m c, ?_, ?_⟩
  · exact (θ_run Cert.InOddKernelIdeal.defs _ _).mono (fun r h c => ⟨(h c).1.trans (array_eq m c), (h c).2⟩)
      (Cert.InOddKernelIdeal.Value.run_blocks (F := Ideal) m g)
  · refine (θ_run Cert.InOddReferenceIdeal.defs _ _).mono (fun r h c => ⟨(h c).1.trans ?_, (h c).2⟩)
      (Cert.InOddReferenceIdeal.Value.run (F := Ideal) m' g')
    obtain ⟨e0, e1⟩ := hargs c
    rw [Cert.InOddReferenceIdeal.Read.val_main_v2_eq, e0, e1]
    funext y
    rw [show y = ix2 (y 0) (y 1) from by blk_ext]
    exact in_odd_reference _ _ _ _

section
set_option maxRecDepth 65536

/-- The two printings call the same kernel. -/
theorem in_odd_calls_eq : Cert.InOddKernel.defs₀ (F := Bits) = Cert.InOddKernelIdeal.defs₀ := by
  unfold Cert.InOddKernel.defs₀ Cert.InOddKernelIdeal.defs₀
  refine congrArg (Defs.onTc (nD := Cert.InOddKernelIdeal.nD) (τ := Cert.InOddKernelIdeal.τ) (sig := Cert.InOddKernelIdeal.sig) (Val := Elt Bits)
    (Λ := Cert.InOddKernelIdeal.Λ₀)) (funext fun l => ?_)
  match l with
  | ⟨0, _⟩ => exact funext fun x => rfl

theorem in_odd_defs_eq : Cert.InOddKernel.defs (F := Bits) = Cert.InOddKernelIdeal.defs := by
  unfold Cert.InOddKernel.defs Cert.InOddKernelIdeal.defs
  exact congrArg (Pipeline.defs Cert.InOddKernelIdeal.pcfgs) in_odd_calls_eq

theorem in_odd_main_eq : Cert.InOddKernel.main (F := Bits) = Cert.InOddKernelIdeal.main := rfl

theorem in_odd_frame_kernel : Cert.quiescent_InOddKernel := by
  intro m ρ _
  have h := Cert.InOddKernelIdeal.Gen.frame (F := Bits) m ρ
  have e : θ_run (Cert.InOddKernel.defs (F := Bits)) (onTc Cert.InOddKernel.main) ⟨m, fun _ => 0, ρ⟩
      = θ_run Cert.InOddKernelIdeal.defs (onTc Cert.InOddKernelIdeal.main) ⟨m, fun _ => 0, ρ⟩ :=
    (congrArg (fun D => θ_run D (onTc Cert.InOddKernel.main) ⟨m, fun _ => 0, ρ⟩) in_odd_defs_eq).trans
      (congrArg (fun P => θ_run Cert.InOddKernelIdeal.defs (onTc P) ⟨m, fun _ => 0, ρ⟩) in_odd_main_eq)
  rw [← e] at h
  exact h

end

theorem in_odd_frame_ideal : Cert.quiescent_InOddKernelIdeal := fun m ρ _ => Cert.InOddKernelIdeal.Gen.frame m ρ

theorem in_odd_frame_reference : Cert.quiescent_InOddReferenceIdeal := by
  intro m ρ _
  exact (θ_run Cert.InOddReferenceIdeal.defs _ _).mono
    (fun r h => And.intro (fun c => (h c).2) (sem_eq_zero_of_no_sems (by decide) r.2)) (Cert.InOddReferenceIdeal.Value.run (F := Ideal) m ρ)

end Cert.Proof

end
-- ==== Proof.InOddBack.lean ====
/- The gradient of an odd layer's normed input: the product by blocks of 1024 rows is the whole product. -/
module

public import proofs.«01_k».proof.Defs
public import proofs.«01_k».proof.Proof.Gen.InOddBackKernel
public import proofs.«01_k».proof.Proof.Gen.InOddBackKernelIdeal
public import proofs.«01_k».proof.Proof.Gen.InOddBackKernelIdeal.Value
public import proofs.«01_k».proof.Proof.Gen.InOddBackReferenceIdeal
public import proofs.«01_k».proof.Proof.Gen.InOddBackReferenceIdeal.Run
public import proofs.«01_k».proof.Proof.Gen.InOddBackReferenceIdeal.Read
public import Idealize.ShloMosaic.Lib.Pipeline.ValueKit
public import Idealize.ShloMosaic.Lib.Pipeline.ReadBack

@[expose] public section

set_option maxRecDepth 16384

noncomputable section

namespace Cert.InOddBackKernelIdeal.Hand

open Idealize.ShloMosaic Idealize.ShloMosaic.TcCoe Idealize.ShloMosaic.Tactic Idealize.SL.Sem
open Cert.InOddBackKernelIdeal Cert.InOddBackKernelIdeal.Gen

variable (m : (ℓ : Loc nD τ sig) → Buf (Elt Ideal) ℓ) (ρ : Dev nD → PrngReg) (c : Dev nD)

/-- The two arguments, as arrays of extended reals. -/
abbrev left : Vec Ideal S8192x3200 .bf16 := m ((c.tc : Thread nD τ).loc main_arg0)
abbrev right : Vec Ideal S3200x1024 .bf16 := m ((c.tc : Thread nD τ).loc main_arg1)
/-- Row `r` of the step's block of rows. -/
def row (t : Fin cfg0.N) (r : Fin 1024) : Fin 8192 := ⟨1024 * t.val + r.val, by have : t.val < 8 := t.isLt; have := r.isLt; omega⟩

theorem idx0 : ∀ t : Fin cfg0.N, win0_0.index t = ![t.val, 0] ∧ win0_1.index t = ![0, 0] ∧ win0_2.index t = ![t.val, 0] :=
  (by decide +kernel : ∀ t : Fin grid0.N, _)

theorem blk0_at (t : Fin cfg0.N) (r : Fin 1024) (l : Fin 3200) : iblk m c 0 t (ix2 r l) = left m c (ix2 (row t r) l) := by
  unfold iblk row
  refine Eq.trans ?_ (congrFun (V_main_arg0 m c) _)
  blk_ext [(idx0 t).1]

theorem blk1_at (t : Fin cfg0.N) (r : Fin 3200) (l : Fin 1024) : iblk m c 1 t (ix2 r l) = right m c (ix2 r l) := by
  unfold iblk
  refine Eq.trans ?_ (congrFun (V_main_arg1 m c) _)
  blk_ext [(idx0 t).2.1]

theorem emb2 (t : Fin cfg0.N) (y : S1024x1024.Idx) : (win0_2.blk t).view.emb y = ix2 (row t (y 0)) (y 1) := by
  unfold row
  blk_ext [(idx0 t).2.2]

theorem covers2 : (cfg0.win 2).Covers := by decide +kernel

theorem step_at (X : Vec Ideal S1024x3200 .bf16) (Y : Vec Ideal S3200x1024 .bf16) (a : Fin 1024) (b : Fin 1024) :
    k0_pay1 X Y (ix2 a b) = (∑ k : Fin 3200, X (ix2 a k) * Y (ix2 k b)) := by
  pointwise [k0_pay1]

/-- The result: the product of the two arguments. -/
def prod : Buf (Elt Ideal) ((c.tc : Thread nD τ).loc main_v0) := fun y =>
  ((∑ k : Fin 3200, left m c (ix2 (y 0) k) * right m c (ix2 k (y 1)) : EReal))

theorem array_eq : (dats m 0 c).arrAt 2 cfg0.N = prod m c := by
  refine Pipeline.Dat.arrAt_eq_of_covers (dats m 0 c) 2 _ covers2 fun t hf y => ?_
  refine Eq.trans ?_ (congrArg (prod m c) (emb2 t y)).symm
  obtain ⟨a, b, rfl⟩ : ∃ a b, y = (ix2 a b : S1024x1024.Idx) := ⟨y 0, y 1, by blk_ext⟩
  blk_simp
  rw [after0_2]
  frame_out
  refine (step_at _ _ a b).trans (Finset.sum_congr rfl fun k _ => ?_)
  rw [blk0_at, blk1_at]
  rfl

end Cert.InOddBackKernelIdeal.Hand

namespace Cert.Proof

open Idealize.ShloMosaic Idealize.ShloMosaic.TcCoe Idealize.ShloMosaic.Tactic Idealize.SL.Sem
open Cert.InOddBackKernelIdeal.Hand

theorem in_odd_back_reference (x0 : (⟨Cert.InOddBackReferenceIdeal.S8192x3200, .bf16⟩ : BufTy).Contents (Elt Ideal)) (x1 : (⟨Cert.InOddBackReferenceIdeal.S3200x1024, .bf16⟩ : BufTy).Contents (Elt Ideal)) (i : Fin 8192) (j : Fin 1024) :
    Cert.InOddBackReferenceIdeal.Read.val_main_v5 (F := Ideal) x0 x1 (ix2 i j) = ∑ k : Fin 3200, x0 (ix2 i k) * x1 (ix2 k j) := by
  refine (Cert.InOddBackReferenceIdeal.Read.val_main_v5_apply _ _ _).trans (Finset.sum_congr rfl fun k _ => ?_)
  rw [Cert.InOddBackReferenceIdeal.Read.val_main_v4_apply, Cert.InOddBackReferenceIdeal.Read.val_main_v2_apply, Cert.InOddBackReferenceIdeal.Read.val_main_v1_apply,
    show Cert.InOddBackReferenceIdeal.Read.lidx_main_v5 (ix2 i j) k = ix2 i k from by blk_ext,
    show Cert.InOddBackReferenceIdeal.Read.idx_main_v2 (Cert.InOddBackReferenceIdeal.Read.ridx_main_v5 (ix2 i j) k) = ix2 k j from by blk_ext]
  rfl

theorem in_odd_back_algebraic : Cert.algebraic_InOddBackKernelIdeal_InOddBackReferenceIdeal := by
  intro m g m' g' _ hargs
  refine ⟨fun c => prod m c, ?_, ?_⟩
  · exact (θ_run Cert.InOddBackKernelIdeal.defs _ _).mono (fun r h c => ⟨(h c).1.trans (array_eq m c), (h c).2⟩)
      (Cert.InOddBackKernelIdeal.Value.run_blocks (F := Ideal) m g)
  · refine (θ_run Cert.InOddBackReferenceIdeal.defs _ _).mono (fun r h c => ⟨(h c).1.trans ?_, (h c).2⟩)
      (Cert.InOddBackReferenceIdeal.Value.run (F := Ideal) m' g')
    obtain ⟨e0, e1⟩ := hargs c
    rw [Cert.InOddBackReferenceIdeal.Read.val_main_v5_eq, e0, e1]
    funext y
    rw [show y = ix2 (y 0) (y 1) from by blk_ext]
    exact in_odd_back_reference _ _ _ _

section
set_option maxRecDepth 65536

/-- The two printings call the same kernel. -/
theorem in_odd_back_calls_eq : Cert.InOddBackKernel.defs₀ (F := Bits) = Cert.InOddBackKernelIdeal.defs₀ := by
  unfold Cert.InOddBackKernel.defs₀ Cert.InOddBackKernelIdeal.defs₀
  refine congrArg (Defs.onTc (nD := Cert.InOddBackKernelIdeal.nD) (τ := Cert.InOddBackKernelIdeal.τ) (sig := Cert.InOddBackKernelIdeal.sig) (Val := Elt Bits)
    (Λ := Cert.InOddBackKernelIdeal.Λ₀)) (funext fun l => ?_)
  match l with
  | ⟨0, _⟩ => exact funext fun x => rfl

theorem in_odd_back_defs_eq : Cert.InOddBackKernel.defs (F := Bits) = Cert.InOddBackKernelIdeal.defs := by
  unfold Cert.InOddBackKernel.defs Cert.InOddBackKernelIdeal.defs
  exact congrArg (Pipeline.defs Cert.InOddBackKernelIdeal.pcfgs) in_odd_back_calls_eq

theorem in_odd_back_main_eq : Cert.InOddBackKernel.main (F := Bits) = Cert.InOddBackKernelIdeal.main := rfl

theorem in_odd_back_frame_kernel : Cert.quiescent_InOddBackKernel := by
  intro m ρ _
  have h := Cert.InOddBackKernelIdeal.Gen.frame (F := Bits) m ρ
  have e : θ_run (Cert.InOddBackKernel.defs (F := Bits)) (onTc Cert.InOddBackKernel.main) ⟨m, fun _ => 0, ρ⟩
      = θ_run Cert.InOddBackKernelIdeal.defs (onTc Cert.InOddBackKernelIdeal.main) ⟨m, fun _ => 0, ρ⟩ :=
    (congrArg (fun D => θ_run D (onTc Cert.InOddBackKernel.main) ⟨m, fun _ => 0, ρ⟩) in_odd_back_defs_eq).trans
      (congrArg (fun P => θ_run Cert.InOddBackKernelIdeal.defs (onTc P) ⟨m, fun _ => 0, ρ⟩) in_odd_back_main_eq)
  rw [← e] at h
  exact h

end

theorem in_odd_back_frame_ideal : Cert.quiescent_InOddBackKernelIdeal := fun m ρ _ => Cert.InOddBackKernelIdeal.Gen.frame m ρ

theorem in_odd_back_frame_reference : Cert.quiescent_InOddBackReferenceIdeal := by
  intro m ρ _
  exact (θ_run Cert.InOddBackReferenceIdeal.defs _ _).mono
    (fun r h => And.intro (fun c => (h c).2) (sem_eq_zero_of_no_sems (by decide) r.2)) (Cert.InOddBackReferenceIdeal.Value.run (F := Ideal) m ρ)

end Cert.Proof

end
-- ==== Proof.lean ====
/- The proof of the claims: the frames of the programs and the agreement of their results. -/
module

public import proofs.«01_k».proof.Proof.Finite
public import proofs.«01_k».proof.Proof.FfnFinite
public import proofs.«01_k».proof.Proof.FfnFrames
public import proofs.«01_k».proof.Proof.DownGrad
public import proofs.«01_k».proof.Proof.UpGrad
public import proofs.«01_k».proof.Proof.InGrad
public import proofs.«01_k».proof.Proof.StepInEven
public import proofs.«01_k».proof.Proof.StepOut
public import proofs.«01_k».proof.Proof.StepInOdd
public import proofs.«01_k».proof.Proof.StepUp
public import proofs.«01_k».proof.Proof.StepDown
public import proofs.«01_k».proof.Proof.StepSmall
public import proofs.«01_k».proof.Proof.SmallFrames
public import proofs.«01_k».proof.Proof.InOddGrad
public import proofs.«01_k».proof.Proof.OutOddGrad
public import proofs.«01_k».proof.Proof.InEven
public import proofs.«01_k».proof.Proof.InEvenBack
public import proofs.«01_k».proof.Proof.InOdd
public import proofs.«01_k».proof.Proof.InOddBack

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.FfnKernel.Gen.facts, Cert.FfnKernelIdeal.Gen.facts, Cert.FfnReferenceIdeal.Gen.facts,
    Cert.DownGradKernel.Gen.facts, Cert.DownGradKernelIdeal.Gen.facts, Cert.DownGradReferenceIdeal.Gen.facts,
    Cert.UpGradKernel.Gen.facts, Cert.UpGradKernelIdeal.Gen.facts, Cert.UpGradReferenceIdeal.Gen.facts,
    Cert.InGradKernel.Gen.facts, Cert.InGradKernelIdeal.Gen.facts, Cert.InGradReferenceIdeal.Gen.facts,
    Cert.StepInEvenKernel.Gen.facts, Cert.StepInEvenKernelIdeal.Gen.facts, Cert.StepInEvenReferenceIdeal.Gen.facts,
    Cert.StepOutKernel.Gen.facts, Cert.StepOutKernelIdeal.Gen.facts, Cert.StepOutReferenceIdeal.Gen.facts,
    Cert.StepInOddKernel.Gen.facts, Cert.StepInOddKernelIdeal.Gen.facts, Cert.StepInOddReferenceIdeal.Gen.facts,
    Cert.StepUpKernel.Gen.facts, Cert.StepUpKernelIdeal.Gen.facts, Cert.StepUpReferenceIdeal.Gen.facts,
    Cert.StepDownKernel.Gen.facts, Cert.StepDownKernelIdeal.Gen.facts, Cert.StepDownReferenceIdeal.Gen.facts,
    Cert.StepSmallKernel.Gen.facts, Cert.StepSmallKernelIdeal.Gen.facts, Cert.StepSmallReferenceIdeal.Gen.facts,
    Cert.InOddGradKernel.Gen.facts, Cert.InOddGradKernelIdeal.Gen.facts, Cert.InOddGradReferenceIdeal.Gen.facts,
    Cert.OutOddGradKernel.Gen.facts, Cert.OutOddGradKernelIdeal.Gen.facts, Cert.OutOddGradReferenceIdeal.Gen.facts,
    Cert.InEvenKernel.Gen.facts, Cert.InEvenKernelIdeal.Gen.facts, Cert.InEvenReferenceIdeal.Gen.facts,
    Cert.InEvenBackKernel.Gen.facts, Cert.InEvenBackKernelIdeal.Gen.facts, Cert.InEvenBackReferenceIdeal.Gen.facts,
    Cert.InOddKernel.Gen.facts, Cert.InOddKernelIdeal.Gen.facts, Cert.InOddReferenceIdeal.Gen.facts,
    Cert.InOddBackKernel.Gen.facts, Cert.InOddBackKernelIdeal.Gen.facts, Cert.InOddBackReferenceIdeal.Gen.facts,
    Cert.Pre_finite.Gen.facts, Cert.Pre_all_finite.Gen.facts,
    frame_kernel, frame_ideal, fun m ρ _ => frame_ideal m ρ trivial,
    frame_reference, fun m ρ _ => frame_reference m ρ trivial,
    ffn_frame_kernel, ffn_frame_ideal, fun m ρ _ => ffn_frame_ideal m ρ trivial,
    ffn_frame_reference, fun m ρ _ => ffn_frame_reference m ρ trivial,
    down_grad_frame_kernel, down_grad_frame_ideal, down_grad_frame_reference,
    up_grad_frame_kernel, up_grad_frame_ideal, up_grad_frame_reference,
    in_grad_frame_kernel, in_grad_frame_ideal, in_grad_frame_reference,
    step_in_even_frame_kernel, step_in_even_frame_ideal, step_in_even_frame_reference,
    step_out_frame_kernel, step_out_frame_ideal, step_out_frame_reference,
    step_in_odd_frame_kernel, step_in_odd_frame_ideal, step_in_odd_frame_reference,
    step_up_frame_kernel, step_up_frame_ideal, step_up_frame_reference,
    step_down_frame_kernel, step_down_frame_ideal, step_down_frame_reference,
    step_small_frame_kernel, step_small_frame_ideal, step_small_frame_reference,
    in_odd_grad_frame_kernel, in_odd_grad_frame_ideal, in_odd_grad_frame_reference,
    out_odd_grad_frame_kernel, out_odd_grad_frame_ideal, out_odd_grad_frame_reference,
    in_even_frame_kernel, in_even_frame_ideal, in_even_frame_reference,
    in_even_back_frame_kernel, in_even_back_frame_ideal, in_even_back_frame_reference,
    in_odd_frame_kernel, in_odd_frame_ideal, in_odd_frame_reference,
    in_odd_back_frame_kernel, in_odd_back_frame_ideal, in_odd_back_frame_reference,
    trivial, algebraic, trivial, ffn_algebraic, trivial, down_grad_algebraic, trivial, up_grad_algebraic, trivial, in_grad_algebraic,
    trivial, step_in_even_algebraic, trivial, step_out_algebraic, trivial, step_in_odd_algebraic, trivial, step_up_algebraic, trivial, step_down_algebraic,
    trivial, step_small_algebraic,
    trivial, in_odd_grad_algebraic, trivial, out_odd_grad_algebraic, trivial, in_even_algebraic, trivial, in_even_back_algebraic, trivial, in_odd_algebraic, trivial, in_odd_back_algebraic⟩

end Cert.Proof

end
